-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite24 [hPre_finite24 : Cert.Pre_finite24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))).1 = (fun _ => 1#1)
    ∧ (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))).2.1 = (fun _ => 1#1)
    ∧ (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))).2.2.1 = (fun _ => 1#1)
    ∧ (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))).2.2.2 = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite24 [hPre_finite24 : Cert.Pre_finite24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3))).1 = (fun _ => 1#1)
    ∧ (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3))).2.1 = (fun _ => 1#1)
    ∧ (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3))).2.2.1 = (fun _ => 1#1)
    ∧ (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3))).2.2.2 = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_finite25 [hPre_finite25 : Cert.Pre_finite25.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5))).1 = (fun _ => 1#1)
    ∧ (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5))).2.1 = (fun _ => 1#1)
    ∧ (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5))).2.2.1 = (fun _ => 1#1)
    ∧ (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5))).2.2.2.1 = (fun _ => 1#1)
    ∧ (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5))).2.2.2.2.1 = (fun _ => 1#1)
    ∧ (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5))).2.2.2.2.2 = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_finite25 [hPre_finite25 : Cert.Pre_finite25.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5))).1 = (fun _ => 1#1)
    ∧ (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5))).2.1 = (fun _ => 1#1)
    ∧ (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5))).2.2.1 = (fun _ => 1#1)
    ∧ (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5))).2.2.2.1 = (fun _ => 1#1)
    ∧ (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5))).2.2.2.2.1 = (fun _ => 1#1)
    ∧ (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5))).2.2.2.2.2 = (fun _ => 1#1)

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Kernel24Ideal_pre_finite24 [hKernel24Ideal : Cert.Kernel24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite24 m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Reference24Ideal_pre_finite24 [hReference24Ideal : Cert.Reference24Ideal.Facts] [hPre_finite24 : Cert.Pre_finite24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite24 m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Kernel25Ideal_pre_finite25 [hKernel25Ideal : Cert.Kernel25Ideal.Facts] [hPre_finite25 : Cert.Pre_finite25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_finite25 m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Reference25Ideal_pre_finite25 [hReference25Ideal : Cert.Reference25Ideal.Facts] [hPre_finite25 : Cert.Pre_finite25.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_finite25 m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel_KernelIdeal : Prop :=
  IdealRules.named_const.Statement Cert.KernelIdeal.κ "rsqrt2" .f32 0x3F3504F3#32 (((Real.sqrt 2)⁻¹ : ℝ) : EReal)
  ∧ IdealRules.named_const.Statement Cert.KernelIdeal.κ "gauss" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)) (v2 : (c : Dev Cert.Kernel2Ideal.nD) → Buf (Elt Ideal) ((c.tc : Thread Cert.Kernel2Ideal.nD Cert.Kernel2Ideal.τ).loc Cert.Kernel2Ideal.main_v30_2)) (v3 : (c : Dev Cert.Kernel2Ideal.nD) → Buf (Elt Ideal) ((c.tc : Thread Cert.Kernel2Ideal.nD Cert.Kernel2Ideal.τ).loc Cert.Kernel2Ideal.main_v30_3)) (v4 : (c : Dev Cert.Kernel2Ideal.nD) → Buf (Elt Ideal) ((c.tc : Thread Cert.Kernel2Ideal.nD Cert.Kernel2Ideal.τ).loc Cert.Kernel2Ideal.main_v30_4)) (v5 : (c : Dev Cert.Kernel2Ideal.nD) → Buf (Elt Ideal) ((c.tc : Thread Cert.Kernel2Ideal.nD Cert.Kernel2Ideal.τ).loc Cert.Kernel2Ideal.main_v30_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_v30_2) = v2 c
          ∧ r.2.mem ((c.tc : Thread Cert.Kernel2Ideal.nD Cert.Kernel2Ideal.τ).loc Cert.Kernel2Ideal.main_v30_3) = v3 c
          ∧ r.2.mem ((c.tc : Thread Cert.Kernel2Ideal.nD Cert.Kernel2Ideal.τ).loc Cert.Kernel2Ideal.main_v30_4) = v4 c
          ∧ r.2.mem ((c.tc : Thread Cert.Kernel2Ideal.nD Cert.Kernel2Ideal.τ).loc Cert.Kernel2Ideal.main_v30_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_v85) = v1 c
          ∧ r.2.mem ((c.tc : Thread Cert.Reference2Ideal.nD Cert.Reference2Ideal.τ).loc Cert.Reference2Ideal.main_v63) = v2 c
          ∧ r.2.mem ((c.tc : Thread Cert.Reference2Ideal.nD Cert.Reference2Ideal.τ).loc Cert.Reference2Ideal.main_v86) = v3 c
          ∧ r.2.mem ((c.tc : Thread Cert.Reference2Ideal.nD Cert.Reference2Ideal.τ).loc Cert.Reference2Ideal.main_v46) = v4 c
          ∧ r.2.mem ((c.tc : Thread Cert.Reference2Ideal.nD Cert.Reference2Ideal.τ).loc Cert.Reference2Ideal.main_v67) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v13)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v13) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v13)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v13) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v17) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_v30) = v1 c
          ∧ r.2.mem ((c.tc : Thread Cert.Reference18Ideal.nD Cert.Reference18Ideal.τ).loc Cert.Reference18Ideal.main_v11) = v2 c
          ∧ r.2.mem ((c.tc : Thread Cert.Reference18Ideal.nD Cert.Reference18Ideal.τ).loc Cert.Reference18Ideal.main_v17) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_v30) = v1 c
          ∧ r.2.mem ((c.tc : Thread Cert.Reference19Ideal.nD Cert.Reference19Ideal.τ).loc Cert.Reference19Ideal.main_v11) = v2 c
          ∧ r.2.mem ((c.tc : Thread Cert.Reference19Ideal.nD Cert.Reference19Ideal.τ).loc Cert.Reference19Ideal.main_v17) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v8) = v0 c
          ∧ r.2.mem ((c.tc : Thread Cert.Reference20Ideal.nD Cert.Reference20Ideal.τ).loc Cert.Reference20Ideal.main_v32) = v1 c
          ∧ r.2.mem ((c.tc : Thread Cert.Reference20Ideal.nD Cert.Reference20Ideal.τ).loc Cert.Reference20Ideal.main_v13) = v2 c
          ∧ r.2.mem ((c.tc : Thread Cert.Reference20Ideal.nD Cert.Reference20Ideal.τ).loc Cert.Reference20Ideal.main_v19) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_v32) = v1 c
          ∧ r.2.mem ((c.tc : Thread Cert.Reference21Ideal.nD Cert.Reference21Ideal.τ).loc Cert.Reference21Ideal.main_v13) = v2 c
          ∧ r.2.mem ((c.tc : Thread Cert.Reference21Ideal.nD Cert.Reference21Ideal.τ).loc Cert.Reference21Ideal.main_v19) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_v30) = v1 c
          ∧ r.2.mem ((c.tc : Thread Cert.Reference22Ideal.nD Cert.Reference22Ideal.τ).loc Cert.Reference22Ideal.main_v11) = v2 c
          ∧ r.2.mem ((c.tc : Thread Cert.Reference22Ideal.nD Cert.Reference22Ideal.τ).loc Cert.Reference22Ideal.main_v17) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_v26) = v1 c
          ∧ r.2.mem ((c.tc : Thread Cert.Reference23Ideal.nD Cert.Reference23Ideal.τ).loc Cert.Reference23Ideal.main_v7) = v2 c
          ∧ r.2.mem ((c.tc : Thread Cert.Reference23Ideal.nD Cert.Reference23Ideal.τ).loc Cert.Reference23Ideal.main_v13) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal_pre_finite24 [hKernel24Ideal : Cert.Kernel24Ideal.Facts] [hReference24Ideal : Cert.Reference24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite24 m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v5_0)) (v1 : (c : Dev Cert.Kernel24Ideal.nD) → Buf (Elt Ideal) ((c.tc : Thread Cert.Kernel24Ideal.nD Cert.Kernel24Ideal.τ).loc Cert.Kernel24Ideal.main_v5_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v5_0) = v0 c
          ∧ r.2.mem ((c.tc : Thread Cert.Kernel24Ideal.nD Cert.Kernel24Ideal.τ).loc Cert.Kernel24Ideal.main_v5_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v50) = v0 c
          ∧ r.2.mem ((c.tc : Thread Cert.Reference24Ideal.nD Cert.Reference24Ideal.τ).loc Cert.Reference24Ideal.main_v101) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal_pre_finite25 [hKernel25Ideal : Cert.Kernel25Ideal.Facts] [hReference25Ideal : Cert.Reference25Ideal.Facts] [hPre_finite25 : Cert.Pre_finite25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_finite25 m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)) (v4 : (c : Dev Cert.Kernel25Ideal.nD) → Buf (Elt Ideal) ((c.tc : Thread Cert.Kernel25Ideal.nD Cert.Kernel25Ideal.τ).loc Cert.Kernel25Ideal.main_v0_4)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_v0_4) = v4 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v55) = v0 c
          ∧ r.2.mem ((c.tc : Thread Cert.Reference25Ideal.nD Cert.Reference25Ideal.τ).loc Cert.Reference25Ideal.main_v56) = v1 c
          ∧ r.2.mem ((c.tc : Thread Cert.Reference25Ideal.nD Cert.Reference25Ideal.τ).loc Cert.Reference25Ideal.main_v20) = v2 c
          ∧ r.2.mem ((c.tc : Thread Cert.Reference25Ideal.nD Cert.Reference25Ideal.τ).loc Cert.Reference25Ideal.main_v57) = v3 c
          ∧ r.2.mem ((c.tc : Thread Cert.Reference25Ideal.nD Cert.Reference25Ideal.τ).loc Cert.Reference25Ideal.main_v38) = v4 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v28) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v9) = v1 c
          ∧ r.2.mem ((c.tc : Thread Cert.Reference27Ideal.nD Cert.Reference27Ideal.τ).loc Cert.Reference27Ideal.main_v22) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v34) = v0 c
          ∧ r.2.mem ((c.tc : Thread Cert.Reference28Ideal.nD Cert.Reference28Ideal.τ).loc Cert.Reference28Ideal.main_v20) = v1 c
          ∧ r.2.mem ((c.tc : Thread Cert.Reference28Ideal.nD Cert.Reference28Ideal.τ).loc Cert.Reference28Ideal.main_v33) = v2 c
          ∧ r.2.mem ((c.tc : Thread Cert.Reference28Ideal.nD Cert.Reference28Ideal.τ).loc Cert.Reference28Ideal.main_v47) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v8) = v0 c
          ∧ r.2.mem ((c.tc : Thread Cert.Reference29Ideal.nD Cert.Reference29Ideal.τ).loc Cert.Reference29Ideal.main_v7) = v1 c
          ∧ r.2.mem ((c.tc : Thread Cert.Reference29Ideal.nD Cert.Reference29Ideal.τ).loc Cert.Reference29Ideal.main_v21) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts) (hPre_finite2 : Cert.Pre_finite2.Facts) (hPre_finite3 : Cert.Pre_finite3.Facts) (hPre_finite24 : Cert.Pre_finite24.Facts) (hPre_finite25 : Cert.Pre_finite25.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Kernel24Ideal_pre_finite24 (hKernel24Ideal := hKernel24Ideal) (hPre_finite24 := hPre_finite24)
    ∧ quiescent_Reference24Ideal (hReference24Ideal := hReference24Ideal)
    ∧ quiescent_Reference24Ideal_pre_finite24 (hReference24Ideal := hReference24Ideal) (hPre_finite24 := hPre_finite24)
    ∧ quiescent_Kernel25 (hKernel25 := hKernel25)
    ∧ quiescent_Kernel25Ideal (hKernel25Ideal := hKernel25Ideal)
    ∧ quiescent_Kernel25Ideal_pre_finite25 (hKernel25Ideal := hKernel25Ideal) (hPre_finite25 := hPre_finite25)
    ∧ quiescent_Reference25Ideal (hReference25Ideal := hReference25Ideal)
    ∧ quiescent_Reference25Ideal_pre_finite25 (hReference25Ideal := hReference25Ideal) (hPre_finite25 := hPre_finite25)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_pre_finite24 (hKernel24Ideal := hKernel24Ideal) (hReference24Ideal := hReference24Ideal) (hPre_finite24 := hPre_finite24)
    ∧ preserves_Kernel25_Kernel25Ideal
    ∧ algebraic_Kernel25Ideal_Reference25Ideal_pre_finite25 (hKernel25Ideal := hKernel25Ideal) (hReference25Ideal := hReference25Ideal) (hPre_finite25 := hPre_finite25)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite.lean ====
abbrev S16384x8192 : Shape := ⟨2, ![16384, 8192]⟩
abbrev S16384x512 : Shape := ⟨2, ![16384, 512]⟩
abbrev S8x128x128 : Shape := ⟨3, ![8, 128, 128]⟩
abbrev S8x128 : Shape := ⟨2, ![8, 128]⟩
abbrev S1x512 : Shape := ⟨2, ![1, 512]⟩
abbrev S_ : Shape := ⟨0, ![]⟩

class Facts : Prop where
  bcast_S_S16384x512 : S_.BroadcastsInDim S16384x512 (![] : Fin 0 → Fin S16384x512.rank)
  bcast_S_S16384x8192 : S_.BroadcastsInDim S16384x8192 (![] : Fin 0 → Fin S16384x8192.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1x512 : S_.BroadcastsInDim S1x512 (![] : Fin 0 → Fin S1x512.rank)

variable [Facts]

def fn {F : FTy → Type} [FloatOps F] (main_arg0 : FVec F S16384x8192 .bf16) (main_arg1 : FVec F S16384x512 .f32) (main_arg2 : FVec F S16384x8192 .f32) (main_arg3 : FVec F S8x128x128 .f32) (main_arg4 : FVec F S8x128 .f32) (main_arg5 : FVec F S1x512 .f32) (main_arg6 : FVec F S1x512 .f32) : IVec S16384x512 1 × IVec S16384x8192 1 × IVec S8x128x128 1 × IVec S8x128 1 × IVec S1x512 1 × IVec S1x512 1 :=
  let main_v0 : FVec F S16384x512 .f32 := Host.absf main_arg1
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x8192 .f32 := Host.absf main_arg2
  let main_cst_0 : FVec F S_ .f32 := constant S_ .f32 0x7F800000#32
  let main_v4 : FVec F S16384x8192 .f32 := broadcastInDim S16384x8192 ![] bcast_S_S16384x8192 main_cst_0
  let main_v5 : IVec S16384x8192 1 := cmpf .olt main_v3 main_v4
  let main_v6 : FVec F S8x128x128 .f32 := Host.absf main_arg3
  let main_cst_1 : FVec F S_ .f32 := constant S_ .f32 0x7F800000#32
  let main_v7 : FVec F S8x128x128 .f32 := broadcastInDim S8x128x128 ![] bcast_S_S8x128x128 main_cst_1
  let main_v8 : IVec S8x128x128 1 := cmpf .olt main_v6 main_v7
  let main_v9 : FVec F S8x128 .f32 := Host.absf main_arg4
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_v12 : FVec F S1x512 .f32 := Host.absf main_arg5
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S1x512 .f32 := Host.absf main_arg6
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  (main_v2, main_v5, main_v8, main_v11, main_v14, main_v17)
-- ==== Pre_finite2.lean ====
abbrev S16384x3072 : Shape := ⟨2, ![16384, 3072]⟩
abbrev S1024x3072 : Shape := ⟨2, ![1024, 3072]⟩
abbrev S16384x1024 : Shape := ⟨2, ![16384, 1024]⟩
abbrev S1x1024 : Shape := ⟨2, ![1, 1024]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  bcast_S_S1024x3072 : S_.BroadcastsInDim S1024x3072 (![] : Fin 0 → Fin S1024x3072.rank)
  bcast_S_S16384x1024 : S_.BroadcastsInDim S16384x1024 (![] : Fin 0 → Fin S16384x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S1x1024 .f32) (main_v3 : IVec S16384x3072 1) (main_v7 : IVec S1024x3072 1) (main_v11 : IVec S1024x3072 1) (main_v14 : IVec S16384x1024 1) (main_v17 : IVec S16384x1024 1) (main_v18 : FVec F S16384x1024 .f32) : IVec S16384x3072 1 × IVec S1024x3072 1 × IVec S1024x3072 1 × IVec S16384x1024 1 × IVec S16384x1024 1 × IVec S16384x1024 1 × IVec S1x1024 1 × IVec S1x1024 1 :=
  let main_cst_4 : FVec F S_ .f32 := constant S_ .f32 0x7F800000#32
  let main_v19 : FVec F S16384x1024 .f32 := broadcastInDim S16384x1024 ![] bcast_S_S16384x1024 main_cst_4
  let main_v20 : IVec S16384x1024 1 := cmpf .olt main_v18 main_v19
  let main_v21 : FVec F S1x1024 .f32 := Host.absf main_arg6
  let main_cst_5 : FVec F S_ .f32 := constant S_ .f32 0x7F800000#32
  let main_v22 : FVec F S1x1024 .f32 := broadcastInDim S1x1024 ![] bcast_S_S1x1024 main_cst_5
  let main_v23 : IVec S1x1024 1 := cmpf .olt main_v21 main_v22
  let main_v24 : FVec F S1x1024 .f32 := Host.absf main_arg7
  let main_cst_6 : FVec F S_ .f32 := constant S_ .f32 0x7F800000#32
  let main_v25 : FVec F S1x1024 .f32 := broadcastInDim S1x1024 ![] bcast_S_S1x1024 main_cst_6
  let main_v26 : IVec S1x1024 1 := cmpf .olt main_v24 main_v25
  (main_v3, main_v7, main_v11, main_v14, main_v17, main_v20, main_v23, main_v26)

def fn {F : FTy → Type} [FloatOps F] (main_arg0 : FVec F S16384x3072 .bf16) (main_arg1 : FVec F S1024x3072 .bf16) (main_arg2 : FVec F S1024x3072 .bf16) (main_arg3 : FVec F S16384x1024 .f32) (main_arg4 : FVec F S16384x1024 .f32) (main_arg5 : FVec F S16384x1024 .f32) (main_arg6 : FVec F S1x1024 .f32) (main_arg7 : FVec F S1x1024 .f32) : IVec S16384x3072 1 × IVec S1024x3072 1 × IVec S1024x3072 1 × IVec S16384x1024 1 × IVec S16384x1024 1 × IVec S16384x1024 1 × IVec S1x1024 1 × IVec S1x1024 1 :=
  let main_v0 : FVec F S16384x3072 .f32 := (extf .f32 · bitsLt_bf16_f32) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_v4 : FVec F S1024x3072 .f32 := (extf .f32 · bitsLt_bf16_f32) main_arg1
  let main_v5 : FVec F S1024x3072 .f32 := Host.absf main_v4
  let main_cst_0 : FVec F S_ .f32 := constant S_ .f32 0x7F800000#32
  let main_v6 : FVec F S1024x3072 .f32 := broadcastInDim S1024x3072 ![] bcast_S_S1024x3072 main_cst_0
  let main_v7 : IVec S1024x3072 1 := cmpf .olt main_v5 main_v6
  let main_v8 : FVec F S1024x3072 .f32 := (extf .f32 · bitsLt_bf16_f32) main_arg2
  let main_v9 : FVec F S1024x3072 .f32 := Host.absf main_v8
  let main_cst_1 : FVec F S_ .f32 := constant S_ .f32 0x7F800000#32
  let main_v10 : FVec F S1024x3072 .f32 := broadcastInDim S1024x3072 ![] bcast_S_S1024x3072 main_cst_1
  let main_v11 : IVec S1024x3072 1 := cmpf .olt main_v9 main_v10
  let main_v12 : FVec F S16384x1024 .f32 := Host.absf main_arg3
  let main_cst_2 : FVec F S_ .f32 := constant S_ .f32 0x7F800000#32
  let main_v13 : FVec F S16384x1024 .f32 := broadcastInDim S16384x1024 ![] bcast_S_S16384x1024 main_cst_2
  let main_v14 : IVec S16384x1024 1 := cmpf .olt main_v12 main_v13
  let main_v15 : FVec F S16384x1024 .f32 := Host.absf main_arg4
  let main_cst_3 : FVec F S_ .f32 := constant S_ .f32 0x7F800000#32
  let main_v16 : FVec F S16384x1024 .f32 := broadcastInDim S16384x1024 ![] bcast_S_S16384x1024 main_cst_3
  let main_v17 : IVec S16384x1024 1 := cmpf .olt main_v15 main_v16
  let main_v18 : FVec F S16384x1024 .f32 := Host.absf main_arg5
  fn_part1 (F := F) main_arg6 main_arg7 main_v3 main_v7 main_v11 main_v14 main_v17 main_v18
-- ==== Pre_finite24.lean ====
abbrev S2x1024 : Shape := ⟨2, ![2, 1024]⟩
abbrev S_ : Shape := ⟨0, ![]⟩

class Facts : Prop where
  bcast_S_S2x1024 : S_.BroadcastsInDim S2x1024 (![] : Fin 0 → Fin S2x1024.rank)

variable [Facts]

def fn {F : FTy → Type} [FloatOps F] (main_arg0 : FVec F S2x1024 .f32) (main_arg1 : FVec F S2x1024 .f32) (main_arg2 : FVec F S2x1024 .f32) (main_arg3 : FVec F S2x1024 .f32) : IVec S2x1024 1 × IVec S2x1024 1 × IVec S2x1024 1 × IVec S2x1024 1 :=
  let main_v0 : FVec F S2x1024 .f32 := Host.absf main_arg0
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  (main_v2, main_v5, main_v8, main_v11)
-- ==== Pre_finite25.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bitsLt_bf16_f32 : FTy.bits .bf16 < FTy.bits .f32
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_v2 : IVec S16384x1024 1) (main_v5 : IVec S16384x1024 1) (main_v8 : IVec S16384x1024 1) (main_v12 : IVec S1024x1024 1) (main_v15 : IVec S16384x1024 1) (main_v16 : FVec F S1x1024 .f32) (main_v17 : FVec F S1x1024 .f32) : IVec S16384x1024 1 × IVec S16384x1024 1 × IVec S16384x1024 1 × IVec S1024x1024 1 × IVec S16384x1024 1 × IVec S1x1024 1 :=
  let main_v18 : IVec S1x1024 1 := cmpf .olt main_v16 main_v17
  (main_v2, main_v5, main_v8, main_v12, main_v15, main_v18)

def fn {F : FTy → Type} [FloatOps F] (main_arg0 : FVec F S16384x1024 .f32) (main_arg1 : FVec F S16384x1024 .f32) (main_arg2 : FVec F S16384x1024 .f32) (main_arg3 : FVec F S1024x1024 .bf16) (main_arg4 : FVec F S16384x1024 .f32) (main_arg5 : FVec F S1x1024 .f32) : IVec S16384x1024 1 × IVec S16384x1024 1 × IVec S16384x1024 1 × IVec S1024x1024 1 × IVec S16384x1024 1 × IVec S1x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S1024x1024 .f32 := (extf .f32 · bitsLt_bf16_f32) main_arg3
  let main_v10 : FVec F S1024x1024 .f32 := Host.absf main_v9
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_v13 : FVec F S16384x1024 .f32 := Host.absf main_arg4
  let main_cst_3 : FVec F S_ .f32 := constant S_ .f32 0x7F800000#32
  let main_v14 : FVec F S16384x1024 .f32 := broadcastInDim S16384x1024 ![] bcast_S_S16384x1024 main_cst_3
  let main_v15 : IVec S16384x1024 1 := cmpf .olt main_v13 main_v14
  let main_v16 : FVec F S1x1024 .f32 := Host.absf main_arg5
  let main_cst_4 : FVec F S_ .f32 := constant S_ .f32 0x7F800000#32
  let main_v17 : FVec F S1x1024 .f32 := broadcastInDim S1x1024 ![] bcast_S_S1x1024 main_cst_4
  fn_part1 (F := F) main_v2 main_v5 main_v8 main_v12 main_v15 main_v16 main_v17
-- ==== Pre_finite3.lean ====
abbrev S16384x8192 : Shape := ⟨2, ![16384, 8192]⟩
abbrev S1024x8192 : Shape := ⟨2, ![1024, 8192]⟩
abbrev S16384x1024 : Shape := ⟨2, ![16384, 1024]⟩
abbrev S1x1024 : Shape := ⟨2, ![1, 1024]⟩
abbrev S_ : Shape := ⟨0, ![]⟩

class Facts : Prop where
  bitsLt_bf16_f32 : FTy.bits .bf16 < FTy.bits .f32
  bcast_S_S16384x8192 : S_.BroadcastsInDim S16384x8192 (![] : Fin 0 → Fin S16384x8192.rank)
  bcast_S_S1024x8192 : S_.BroadcastsInDim S1024x8192 (![] : Fin 0 → Fin S1024x8192.rank)
  bcast_S_S16384x1024 : S_.BroadcastsInDim S16384x1024 (![] : Fin 0 → Fin S16384x1024.rank)
  bcast_S_S1x1024 : S_.BroadcastsInDim S1x1024 (![] : Fin 0 → Fin S1x1024.rank)

variable [Facts]

def fn {F : FTy → Type} [FloatOps F] (main_arg0 : FVec F S16384x8192 .bf16) (main_arg1 : FVec F S1024x8192 .bf16) (main_arg2 : FVec F S16384x1024 .f32) (main_arg3 : FVec F S16384x1024 .f32) (main_arg4 : FVec F S1x1024 .f32) : IVec S16384x8192 1 × IVec S1024x8192 1 × IVec S16384x1024 1 × IVec S1x1024 1 :=
  let main_v0 : FVec F S16384x8192 .f32 := (extf .f32 · bitsLt_bf16_f32) main_arg0
  let main_v1 : FVec F S16384x8192 .f32 := Host.absf main_v0
  let main_cst : FVec F S_ .f32 := constant S_ .f32 0x7F800000#32
  let main_v2 : FVec F S16384x8192 .f32 := broadcastInDim S16384x8192 ![] bcast_S_S16384x8192 main_cst
  let main_v3 : IVec S16384x8192 1 := cmpf .olt main_v1 main_v2
  let main_v4 : FVec F S1024x8192 .f32 := (extf .f32 · bitsLt_bf16_f32) main_arg1
  let main_v5 : FVec F S1024x8192 .f32 := Host.absf main_v4
  let main_cst_0 : FVec F S_ .f32 := constant S_ .f32 0x7F800000#32
  let main_v6 : FVec F S1024x8192 .f32 := broadcastInDim S1024x8192 ![] bcast_S_S1024x8192 main_cst_0
  let main_v7 : IVec S1024x8192 1 := cmpf .olt main_v5 main_v6
  let main_v8 : FVec F S16384x1024 .f32 := Host.absf main_arg3
  let main_cst_1 : FVec F S_ .f32 := constant S_ .f32 0x7F800000#32
  let main_v9 : FVec F S16384x1024 .f32 := broadcastInDim S16384x1024 ![] bcast_S_S16384x1024 main_cst_1
  let main_v10 : IVec S16384x1024 1 := cmpf .olt main_v8 main_v9
  let main_v11 : FVec F S1x1024 .f32 := Host.absf main_arg4
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v7, main_v10, main_v13)
-- ==== Kernel.lean ====
abbrev S16384x8192 : Shape := ⟨2, ![16384, 8192]⟩
abbrev S16384x512 : Shape := ⟨2, ![16384, 512]⟩
abbrev S8x128x128 : Shape := ⟨3, ![8, 128, 128]⟩
abbrev S8x128 : Shape := ⟨2, ![8, 128]⟩
abbrev S1x512 : Shape := ⟨2, ![1, 512]⟩
abbrev S1024x128 : Shape := ⟨2, ![1024, 128]⟩
abbrev S128x8 : Shape := ⟨2, ![128, 8]⟩
abbrev S128x8x64 : Shape := ⟨3, ![128, 8, 64]⟩
abbrev S128x512 : Shape := ⟨2, ![128, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩

abbrev nBuf : Space → Nat
  | .hbm => 17
  | .vmem => 16
  | .smem => 0
  | _ => 0

abbrev bufTy : (tb : Table) → Fin (tcTables nBuf tb) → BufTy
  | .hbm, ⟨0, _⟩ => ⟨S16384x8192, .bf16⟩
  | .hbm, ⟨1, _⟩ => ⟨S16384x512, .f32⟩
  | .hbm, ⟨2, _⟩ => ⟨S16384x8192, .f32⟩
  | .hbm, ⟨3, _⟩ => ⟨S8x128x128, .f32⟩
  | .hbm, ⟨4, _⟩ => ⟨S8x128, .f32⟩
  | .hbm, ⟨5, _⟩ => ⟨S1x512, .f32⟩
  | .hbm, ⟨6, _⟩ => ⟨S1x512, .f32⟩
  | .hbm, ⟨7, _⟩ => ⟨S1024x128, .f32⟩
  | .hbm, ⟨8, _⟩ => ⟨S1024x128, .bf16⟩
  | .hbm, ⟨9, _⟩ => ⟨S128x8, .f32⟩
  | .hbm, ⟨10, _⟩ => ⟨S128x8x64, .f32⟩
  | .hbm, ⟨11, _⟩ => ⟨S128x512, .f32⟩
  | .hbm, ⟨12, _⟩ => ⟨S16384x8192, .bf16⟩
  | .hbm, ⟨13, _⟩ => ⟨S1024x128, .f32⟩
  | .hbm, ⟨14, _⟩ => ⟨S128x512, .f32⟩
  | .hbm, ⟨15, _⟩ => ⟨S1x512, .f32⟩
  | .hbm, ⟨16, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x128, .bf16⟩
  | .local _ .vmem, ⟨7, _⟩ => ⟨S128x512, .f32⟩
  | .local _ .vmem, ⟨8, _⟩ => ⟨S1x512, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S1024x128, .f32⟩
  | .local _ .vmem, ⟨13, _⟩ => ⟨S128x512, .f32⟩
  | .local _ .vmem, ⟨14, _⟩ => ⟨S1x512, .f32⟩
  | .local _ .vmem, ⟨15, _⟩ => ⟨S1x512, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "gauss" => some (((Real.sqrt (2 * Real.pi))⁻¹ : ℝ) : EReal)
  | "rsqrt2" => some (((Real.sqrt 2)⁻¹ : ℝ) : EReal)
  | _ => none
-- ==== ReferenceIdeal.lean ====
abbrev S16384x8192 : Shape := ⟨2, ![16384, 8192]⟩
abbrev S16384x512 : Shape := ⟨2, ![16384, 512]⟩
abbrev S8x128x128 : Shape := ⟨3, ![8, 128, 128]⟩
abbrev S8x128 : Shape := ⟨2, ![8, 128]⟩
abbrev S1x512 : Shape := ⟨2, ![1, 512]⟩
abbrev S128x8 : Shape := ⟨2, ![128, 8]⟩
abbrev S128x8x64 : Shape := ⟨3, ![128, 8, 64]⟩
abbrev S128x512 : Shape := ⟨2, ![128, 512]⟩
abbrev S_ : Shape := ⟨0, ![]⟩
abbrev S16384 : Shape := ⟨1, ![16384]⟩
abbrev S16384x1 : Shape := ⟨2, ![16384, 1]⟩
abbrev S128x128x8x64 : Shape := ⟨4, ![128, 128, 8, 64]⟩
abbrev S8x128x64x128 : Shape := ⟨4, ![8, 128, 64, 128]⟩
abbrev S128x128x512 : Shape := ⟨3, ![128, 128, 512]⟩
abbrev S1x128x512 : Shape := ⟨3, ![1, 128, 512]⟩
abbrev S512 : Shape := ⟨1, ![512]⟩
abbrev S16384x5120 : Shape := ⟨2, ![16384, 5120]⟩
abbrev S16384x2048 : Shape := ⟨2, ![16384, 2048]⟩
abbrev S1024x128 : Shape := ⟨2, ![1024, 128]⟩

abbrev nBuf : Space → Nat
  | .hbm => 167
  | .vmem => 0
  | .smem => 0
  | _ => 0

abbrev hbmTy0_0 (i : Nat) : BufTy := match i % 128 with
  | 0 => ⟨S16384x8192, .bf16⟩
  | 1 => ⟨S16384x512, .f32⟩
  | 2 => ⟨S16384x8192, .f32⟩
  | 3 => ⟨S8x128x128, .f32⟩
  | 4 => ⟨S8x128, .f32⟩
  | 5 => ⟨S1x512, .f32⟩
  | 6 => ⟨S1x512, .f32⟩
  | 7 => ⟨S16384x512, .f32⟩
  | 8 => ⟨S16384x512, .f32⟩
  | 9 => ⟨S128x8, .f32⟩
  | 10 => ⟨S128x8x64, .f32⟩
  | 11 => ⟨S128x512, .f32⟩
  | 12 => ⟨S_, .f32⟩
  | 13 => ⟨S16384x512, .f32⟩
  | 14 => ⟨S16384x512, .f32⟩
  | 15 => ⟨S16384x512, .f32⟩
  | 16 => ⟨S_, .f32⟩
  | 17 => ⟨S_, .f32⟩
  | 18 => ⟨S16384x512, .f32⟩
  | 19 => ⟨S16384x512, .f32⟩
  | 20 => ⟨S_, .f32⟩
  | 21 => ⟨S_, .f32⟩
  | 22 => ⟨S16384x512, .f32⟩
  | 23 => ⟨S_, .f32⟩
  | 24 => ⟨S_, .f32⟩
  | 25 => ⟨S_, .f32⟩
  | 26 => ⟨S16384x512, .f32⟩
  | 27 => ⟨S16384x512, .f32⟩
  | 28 => ⟨S16384x512, .f32⟩
  | 29 => ⟨S16384x512, .f32⟩
  | 30 => ⟨S16384x512, .f32⟩
  | 31 => ⟨S16384x512, .f32⟩
  | 32 => ⟨S_, .f32⟩
  | 33 => ⟨S16384x512, .f32⟩
  | 34 => ⟨S16384x512, .f32⟩
  | 35 => ⟨S16384x512, .f32⟩
  | 36 => ⟨S_, .f32⟩
  | 37 => ⟨S_, .f32⟩
  | 38 => ⟨S16384x512, .f32⟩
  | 39 => ⟨S16384x512, .f32⟩
  | 40 => ⟨S_, .f32⟩
  | 41 => ⟨S_, .f32⟩
  | 42 => ⟨S16384x512, .f32⟩
  | 43 => ⟨S_, .f32⟩
  | 44 => ⟨S_, .f32⟩
  | 45 => ⟨S_, .f32⟩
  | 46 => ⟨S16384x512, .f32⟩
  | 47 => ⟨S16384x512, .f32⟩
  | 48 => ⟨S16384x512, .f32⟩
  | 49 => ⟨S16384x512, .f32⟩
  | 50 => ⟨S16384x512, .f32⟩
  | 51 => ⟨S16384x512, .f32⟩
  | 52 => ⟨S_, .f32⟩
  | 53 => ⟨S16384, .f32⟩
  | 54 => ⟨S16384x1, .f32⟩
  | 55 => ⟨S_, .f32⟩
  | 56 => ⟨S16384x1, .f32⟩
  | 57 => ⟨S16384x1, .f32⟩
  | 58 => ⟨S16384x512, .f32⟩
  | 59 => ⟨S16384x512, .f32⟩
  | 60 => ⟨S16384x512, .f32⟩
  | 61 => ⟨S_, .f32⟩
  | 62 => ⟨S16384, .f32⟩
  | 63 => ⟨S16384x1, .f32⟩
  | 64 => ⟨S_, .f32⟩
  | 65 => ⟨S16384x1, .f32⟩
  | 66 => ⟨S16384x1, .f32⟩
  | 67 => ⟨S_, .f32⟩
  | 68 => ⟨S16384x1, .f32⟩
  | 69 => ⟨S16384x1, .f32⟩
  | 70 => ⟨S16384x1, .f32⟩
  | 71 => ⟨S16384x1, .f32⟩
  | 72 => ⟨S_, .f32⟩
  | 73 => ⟨S16384x1, .f32⟩
  | 74 => ⟨S16384x1, .f32⟩
  | 75 => ⟨S16384x512, .f32⟩
  | 76 => ⟨S16384x512, .f32⟩
  | 77 => ⟨S16384x512, .f32⟩
  | 78 => ⟨S16384x512, .f32⟩
  | 79 => ⟨S16384x512, .f32⟩
  | 80 => ⟨S16384x512, .f32⟩
  | 81 => ⟨S128x128x8x64, .f32⟩
  | 82 => ⟨S8x128x64x128, .f32⟩
  | 83 => ⟨S128x128x8x64, .f32⟩
  | 84 => ⟨S128x128x512, .f32⟩
  | 85 => ⟨S1x128x512, .f32⟩
  | 86 => ⟨S128x128x512, .f32⟩
  | 87 => ⟨S128x128x512, .f32⟩
  | 88 => ⟨S16384x512, .f32⟩
  | 89 => ⟨S16384x512, .f32⟩
  | 90 => ⟨S16384x512, .f32⟩
  | 91 => ⟨S16384x512, .f32⟩
  | 92 => ⟨S128x128x512, .f32⟩
  | 93 => ⟨S_, .f32⟩
  | 94 => ⟨S128x512, .f32⟩
  | 95 => ⟨S1x128x512, .f32⟩
  | 96 => ⟨S_, .f32⟩
  | 97 => ⟨S128x512, .f32⟩
  | 98 => ⟨S128x128x8x64, .f32⟩
  | 99 => ⟨S8x128x64x128, .f32⟩
  | 100 => ⟨S8x128x128, .f32⟩
  | 101 => ⟨S8x128x64x128, .f32⟩
  | 102 => ⟨S128x128x8x64, .f32⟩
  | 103 => ⟨S16384x512, .f32⟩
  | 104 => ⟨S_, .f32⟩
  | 105 => ⟨S512, .f32⟩
  | 106 => ⟨S1x512, .f32⟩
  | 107 => ⟨S16384x512, .f32⟩
  | 108 => ⟨S_, .f32⟩
  | 109 => ⟨S512, .f32⟩
  | 110 => ⟨S1x512, .f32⟩
  | 111 => ⟨S16384x512, .f32⟩
  | 112 => ⟨S16384x512, .f32⟩
  | 113 => ⟨S16384x512, .f32⟩
  | 114 => ⟨S_, .f32⟩
  | 115 => ⟨S16384, .f32⟩
  | 116 => ⟨S16384x1, .f32⟩
  | 117 => ⟨S16384x512, .f32⟩
  | 118 => ⟨S16384x512, .f32⟩
  | 119 => ⟨S16384x1, .f32⟩
  | 120 => ⟨S_, .f32⟩
  | 121 => ⟨S16384x1, .f32⟩
  | 122 => ⟨S16384x1, .f32⟩
  | 123 => ⟨S_, .f32⟩
  | 124 => ⟨S16384, .f32⟩
  | 125 => ⟨S16384x512, .f32⟩
  | 126 => ⟨S16384x512, .f32⟩
  | 127 => ⟨S16384x512, .f32⟩
  | _ => ⟨S16384x8192, .bf16⟩

abbrev hbmTy0_1 (i : Nat) : BufTy := match i % 128 with
  | 0 => ⟨S16384x512, .f32⟩
  | 1 => ⟨S16384x512, .f32⟩
  | 2 => ⟨S16384x512, .f32⟩
  | 3 => ⟨S_, .f32⟩
  | 4 => ⟨S16384, .f32⟩
  | 5 => ⟨S16384x1, .f32⟩
  | 6 => ⟨S_, .f32⟩
  | 7 => ⟨S16384x1, .f32⟩
  | 8 => ⟨S16384x1, .f32⟩
  | 9 => ⟨S_, .f32⟩
  | 10 => ⟨S16384, .f32⟩
  | 11 => ⟨S16384x512, .f32⟩
  | 12 => ⟨S16384x512, .f32⟩
  | 13 => ⟨S16384x512, .f32⟩
  | 14 => ⟨S16384x512, .f32⟩
  | 15 => ⟨S16384x512, .f32⟩
  | 16 => ⟨S16384x512, .f32⟩
  | 17 => ⟨S16384x512, .f32⟩
  | 18 => ⟨S16384x512, .f32⟩
  | 19 => ⟨S_, .f32⟩
  | 20 => ⟨S16384x512, .f32⟩
  | 21 => ⟨S16384x512, .f32⟩
  | 22 => ⟨S16384x512, .f32⟩
  | 23 => ⟨S16384x512, .f32⟩
  | 24 => ⟨S16384x512, .f32⟩
  | 25 => ⟨S16384x512, .f32⟩
  | 26 => ⟨S16384x512, .f32⟩
  | 27 => ⟨S16384x512, .f32⟩
  | 28 => ⟨S16384x512, .f32⟩
  | 29 => ⟨S_, .f32⟩
  | 30 => ⟨S16384x512, .f32⟩
  | 31 => ⟨S16384x512, .f32⟩
  | 32 => ⟨S16384x512, .f32⟩
  | 33 => ⟨S16384x5120, .bf16⟩
  | 34 => ⟨S16384x512, .bf16⟩
  | 35 => ⟨S16384x512, .bf16⟩
  | 36 => ⟨S16384x2048, .bf16⟩
  | 37 => ⟨S16384x8192, .bf16⟩
  | 38 => ⟨S1024x128, .f32⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_13 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_15 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_16 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_17 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_18 : Ref sig .tc := ⟨.hbm, 120, rfl⟩
abbrev main_v94 : Ref sig .tc := ⟨.hbm, 121, rfl⟩
abbrev main_v95 : Ref sig .tc := ⟨.hbm, 122, rfl⟩
abbrev main_cst_19 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_20 : Ref sig .tc := ⟨.hbm, 131, rfl⟩
abbrev main_v103 : Ref sig .tc := ⟨.hbm, 132, rfl⟩
abbrev main_v104 : Ref sig .tc := ⟨.hbm, 133, rfl⟩
abbrev main_cst_21 : Ref sig .tc := ⟨.hbm, 134, rfl⟩
abbrev main_v105 : Ref sig .tc := ⟨.hbm, 135, rfl⟩
abbrev main_v106 : Ref sig .tc := ⟨.hbm, 136, rfl⟩
abbrev main_cst_22 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_23 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_24 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩

abbrev nD : Nat := 1
abbrev τ : Topo := Topo.v7x

variable {F : FTy → Type} [FloatOps F]
-- ==== Kernel2.lean ====
abbrev S16384x3072 : Shape := ⟨2, ![16384, 3072]⟩
abbrev S1024x3072 : Shape := ⟨2, ![1024, 3072]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024x6144 : Shape := ⟨2, ![1024, 6144]⟩
abbrev S16384x6144 : Shape := ⟨2, ![16384, 6144]⟩
abbrev S6144x1024 : Shape := ⟨2, ![6144, 1024]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S1024 : Shape := ⟨1, ![1024]⟩

abbrev nBuf : Space → Nat
  | .hbm => 50
  | .vmem => 26
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .bf16⟩
  | .hbm, ⟨2, _⟩ => ⟨S1024x3072, .bf16⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S1024x6144, .bf16⟩
  | .hbm, ⟨40, _⟩ => ⟨S1024x6144, .f32⟩
  | .hbm, ⟨41, _⟩ => ⟨S16384x6144, .f32⟩
  | .hbm, ⟨42, _⟩ => ⟨S16384x6144, .bf16⟩
  | .hbm, ⟨43, _⟩ => ⟨S6144x1024, .bf16⟩
  | .hbm, ⟨44, _⟩ => ⟨S16384x3072, .bf16⟩
  | .hbm, ⟨45, _⟩ => ⟨S16384x3072, .bf16⟩
  | .hbm, ⟨46, _⟩ => ⟨S16384x1024, .f32⟩
  | .hbm, ⟨47, _⟩ => ⟨S16384x1024, .bf16⟩
  | .hbm, ⟨48, _⟩ => ⟨S1x1024, .f32⟩
  | .hbm, ⟨49, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S6144x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x1024, .f32⟩
  | .local _ .vmem, ⟨24, _⟩ => ⟨S1x1024, .f32⟩
  | .local _ .vmem, ⟨25, _⟩ => ⟨S512x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v30_3 : Ref sig .tc := ⟨.hbm, 47, rfl⟩
abbrev main_v30_4 : Ref sig .tc := ⟨.hbm, 48, rfl⟩
abbrev main_v30_5 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨2, ![32, 3], ![false, false]⟩

def k0_mult1 (i : grid0.Coords) : BitVec 32 :=
  let arg1 : BitVec 32 := BitVec.ofNat 32 (i 1).val
  let c0_i32 : BitVec 32 := 0#32
  let v23 : BitVec 32 := Scalar.addi arg1 c0_i32
  let c1024_i32 : BitVec 32 := 1024#32
  let v24 : BitVec 32 := Scalar.muli v23 c1024_i32
  let c0_i32_10 : BitVec 32 := 0#32
  let v25 : BitVec 32 := Scalar.addi v24 c0_i32_10
  v25
def k0_off1 (i : grid0.Coords) (c0_i32 : BitVec 32) (c0_i32_10 : BitVec 32) : Fin 2 → Nat :=
  let arg1 : BitVec 32 := BitVec.ofNat 32 (i 1).val
  let v23 : BitVec 32 := Scalar.addi arg1 c0_i32
  let c1024_i32 : BitVec 32 := 1024#32
  let v24 : BitVec 32 := Scalar.muli v23 c1024_i32
  let v25 : BitVec 32 := Scalar.addi v24 c0_i32_10
  let v26 : BitVec 32 := v25
  let v27 : Index := Scalar.indexCast v26
  let c0_11 : Index := 0#32
  ![v27.toNat, 0]
def k0_mult2 (i : grid0.Coords) : BitVec 32 :=
  let arg1 : BitVec 32 := BitVec.ofNat 32 (i 1).val
  let c3_i32 : BitVec 32 := 3#32
  let v31 : BitVec 32 := Scalar.addi arg1 c3_i32
  let c1024_i32_13 : BitVec 32 := 1024#32
  let v32 : BitVec 32 := Scalar.muli v31 c1024_i32_13
  let c0_i32_14 : BitVec 32 := 0#32
  let v33 : BitVec 32 := Scalar.addi v32 c0_i32_14
  v33
def k0_mult3 (i : grid0.Coords) : BitVec 32 :=
  let arg1 : BitVec 32 := BitVec.ofNat 32 (i 1).val
  let c0_i32_28 : BitVec 32 := 0#32
  let v63 : BitVec 32 := Scalar.addi arg1 c0_i32_28
  let c1024_i32_29 : BitVec 32 := 1024#32
  let v64 : BitVec 32 := Scalar.muli v63 c1024_i32_29
  let c256_i32 : BitVec 32 := 256#32
  let v65 : BitVec 32 := Scalar.addi v64 c256_i32
  v65
def k0_mult4 (i : grid0.Coords) : BitVec 32 :=
  let arg1 : BitVec 32 := BitVec.ofNat 32 (i 1).val
  let c3_i32_32 : BitVec 32 := 3#32
  let v72 : BitVec 32 := Scalar.addi arg1 c3_i32_32
  let c1024_i32_33 : BitVec 32 := 1024#32
  let v73 : BitVec 32 := Scalar.muli v72 c1024_i32_33
  let c256_i32_34 : BitVec 32 := 256#32
  let v74 : BitVec 32 := Scalar.addi v73 c256_i32_34
  v74
def k0_mult5 (i : grid0.Coords) : BitVec 32 :=
  let arg1 : BitVec 32 := BitVec.ofNat 32 (i 1).val
  let c0_i32_48 : BitVec 32 := 0#32
  let v104 : BitVec 32 := Scalar.addi arg1 c0_i32_48
  let c1024_i32_49 : BitVec 32 := 1024#32
  let v105 : BitVec 32 := Scalar.muli v104 c1024_i32_49
  let c512_i32 : BitVec 32 := 512#32
  let v106 : BitVec 32 := Scalar.addi v105 c512_i32
  v106
def k0_mult6 (i : grid0.Coords) : BitVec 32 :=
  let arg1 : BitVec 32 := BitVec.ofNat 32 (i 1).val
  let c3_i32_52 : BitVec 32 := 3#32
  let v113 : BitVec 32 := Scalar.addi arg1 c3_i32_52
  let c1024_i32_53 : BitVec 32 := 1024#32
  let v114 : BitVec 32 := Scalar.muli v113 c1024_i32_53
  let c512_i32_54 : BitVec 32 := 512#32
  let v115 : BitVec 32 := Scalar.addi v114 c512_i32_54
  v115
def k0_mult7 (i : grid0.Coords) : BitVec 32 :=
  let arg1 : BitVec 32 := BitVec.ofNat 32 (i 1).val
  let c0_i32_68 : BitVec 32 := 0#32
  let v145 : BitVec 32 := Scalar.addi arg1 c0_i32_68
  let c1024_i32_69 : BitVec 32 := 1024#32
  let v146 : BitVec 32 := Scalar.muli v145 c1024_i32_69
  let c768_i32 : BitVec 32 := 768#32
  let v147 : BitVec 32 := Scalar.addi v146 c768_i32
  v147
def k0_mult8 (i : grid0.Coords) : BitVec 32 :=
  let arg1 : BitVec 32 := BitVec.ofNat 32 (i 1).val
  let c3_i32_72 : BitVec 32 := 3#32
  let v154 : BitVec 32 := Scalar.addi arg1 c3_i32_72
  let c1024_i32_73 : BitVec 32 := 1024#32
  let v155 : BitVec 32 := Scalar.muli v154 c1024_i32_73
  let c768_i32_74 : BitVec 32 := 768#32
  let v156 : BitVec 32 := Scalar.addi v155 c768_i32_74
  v156
def k0_cond3 (i : grid0.Coords) : BitVec 1 :=
  let arg1 : BitVec 32 := BitVec.ofNat 32 (i 1).val
  let c2_i32 : BitVec 32 := 2#32
  let v169 : BitVec 1 := Scalar.cmpi .eq arg1 c2_i32
  let v170 : BitVec 32 := Scalar.extui v169
  let c0_i32_81 : BitVec 32 := 0#32
  let v171 : BitVec 1 := Scalar.cmpi .ne v170 c0_i32_81
  v171

def k0_cond4 (i : grid0.Coords) : BitVec 1 :=
  let arg0 : BitVec 32 := BitVec.ofNat 32 (i 0).val
  let c0_i32_110 : BitVec 32 := 0#32
  let v233 : BitVec 1 := Scalar.cmpi .eq arg0 c0_i32_110
  let v234 : BitVec 32 := Scalar.extui v233
  let c0_i32_111 : BitVec 32 := 0#32
  let v235 : BitVec 1 := Scalar.cmpi .ne v234 c0_i32_111
  v235

def k0_cond5 (i : grid0.Coords) : BitVec 1 :=
  let arg0 : BitVec 32 := BitVec.ofNat 32 (i 0).val
  let c0_i32_112 : BitVec 32 := 0#32
  let v236 : BitVec 1 := Scalar.cmpi .sgt arg0 c0_i32_112
  let v237 : BitVec 32 := Scalar.extui v236
  let c0_i32_113 : BitVec 32 := 0#32
  let v238 : BitVec 1 := Scalar.cmpi .ne v237 c0_i32_113
  v238

def k0_cond6 (i : grid0.Coords) : BitVec 1 :=
  let arg0 : BitVec 32 := BitVec.ofNat 32 (i 0).val
  let c0_i32_114 : BitVec 32 := 0#32
  let v239 : BitVec 1 := Scalar.cmpi .eq arg0 c0_i32_114
  let v240 : BitVec 32 := Scalar.extui v239
  let c0_i32_115 : BitVec 32 := 0#32
  let v241 : BitVec 1 := Scalar.cmpi .ne v240 c0_i32_115
  v241

def k0_cond7 (i : grid0.Coords) : BitVec 1 :=
  let arg0 : BitVec 32 := BitVec.ofNat 32 (i 0).val
  let c0_i32_116 : BitVec 32 := 0#32
  let v242 : BitVec 1 := Scalar.cmpi .sgt arg0 c0_i32_116
  let v243 : BitVec 32 := Scalar.extui v242
  let c0_i32_117 : BitVec 32 := 0#32
  let v244 : BitVec 1 := Scalar.cmpi .ne v243 c0_i32_117
  v244

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S6144x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference2Ideal.lean ====
abbrev S16384x3072 : Shape := ⟨2, ![16384, 3072]⟩
abbrev S1024x3072 : Shape := ⟨2, ![1024, 3072]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 126
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .bf16⟩
  | .hbm, ⟨2, _⟩ => ⟨S1024x3072, .bf16⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S1024x3072, .f32⟩
  | .hbm, ⟨48, _⟩ => ⟨S16384x3072, .f32⟩
  | .hbm, ⟨49, _⟩ => ⟨S1024x3072, .f32⟩
  | .hbm, ⟨50, _⟩ => ⟨S16384x3072, .f32⟩
  | .hbm, ⟨51, _⟩ => ⟨S16384x3072, .f32⟩
  | .hbm, ⟨52, _⟩ => ⟨S16384x3072, .f32⟩
  | .hbm, ⟨53, _⟩ => ⟨S_, .f32⟩
  | .hbm, ⟨54, _⟩ => ⟨S16384x3072, .f32⟩
  | .hbm, ⟨55, _⟩ => ⟨S16384x3072, .f32⟩
  | .hbm, ⟨56, _⟩ => ⟨S_, .f32⟩
  | .hbm, ⟨57, _⟩ => ⟨S16384x3072, .f32⟩
  | .hbm, ⟨58, _⟩ => ⟨S16384x3072, .f32⟩
  | .hbm, ⟨59, _⟩ => ⟨S_, .f32⟩
  | .hbm, ⟨60, _⟩ => ⟨S16384x3072, .f32⟩
  | .hbm, ⟨61, _⟩ => ⟨S16384x3072, .f32⟩
  | .hbm, ⟨62, _⟩ => ⟨S16384x3072, .f32⟩
  | .hbm, ⟨63, _⟩ => ⟨S16384x3072, .f32⟩
  | .hbm, ⟨64, _⟩ => ⟨S16384x3072, .f32⟩
  | .hbm, ⟨65, _⟩ => ⟨S16384x3072, .f32⟩
  | .hbm, ⟨66, _⟩ => ⟨S16384x3072, .f32⟩
  | .hbm, ⟨67, _⟩ => ⟨S16384x3072, .f32⟩
  | .hbm, ⟨68, _⟩ => ⟨S16384x3072, .f32⟩
  | .hbm, ⟨69, _⟩ => ⟨S16384x3072, .f32⟩
  | .hbm, ⟨70, _⟩ => ⟨S16384x3072, .f32⟩
  | .hbm, ⟨71, _⟩ => ⟨S16384x3072, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S16384, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S16384x1024, .f32⟩
  | .hbm, ⟨101, _⟩ => ⟨S_, .f32⟩
  | .hbm, ⟨102, _⟩ => ⟨S1024, .f32⟩
  | .hbm, ⟨103, _⟩ => ⟨S1x1024, .f32⟩
  | .hbm, ⟨104, _⟩ => ⟨S16384x1024, .f32⟩
  | .hbm, ⟨105, _⟩ => ⟨S16384x1024, .f32⟩
  | .hbm, ⟨106, _⟩ => ⟨S16384x1024, .f32⟩
  | .hbm, ⟨107, _⟩ => ⟨S_, .f32⟩
  | .hbm, ⟨108, _⟩ => ⟨S16384, .f32⟩
  | .hbm, ⟨109, _⟩ => ⟨S16384x1, .f32⟩
  | .hbm, ⟨110, _⟩ => ⟨S16384x1024, .f32⟩
  | .hbm, ⟨111, _⟩ => ⟨S16384x1024, .f32⟩
  | .hbm, ⟨112, _⟩ => ⟨S16384x1, .f32⟩
  | .hbm, ⟨113, _⟩ => ⟨S_, .f32⟩
  | .hbm, ⟨114, _⟩ => ⟨S16384x1, .f32⟩
  | .hbm, ⟨115, _⟩ => ⟨S16384x1, .f32⟩
  | .hbm, ⟨116, _⟩ => ⟨S_, .f32⟩
  | .hbm, ⟨117, _⟩ => ⟨S16384, .f32⟩
  | .hbm, ⟨118, _⟩ => ⟨S16384x1024, .f32⟩
  | .hbm, ⟨119, _⟩ => ⟨S16384x1024, .f32⟩
  | .hbm, ⟨120, _⟩ => ⟨S16384x1024, .f32⟩
  | .hbm, ⟨121, _⟩ => ⟨S16384x1024, .f32⟩
  | .hbm, ⟨122, _⟩ => ⟨S16384x1024, .f32⟩
  | .hbm, ⟨123, _⟩ => ⟨S16384x3072, .bf16⟩
  | .hbm, ⟨124, _⟩ => ⟨S16384x3072, .bf16⟩
  | .hbm, ⟨125, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v35_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v35_1 : Ref sig .tc := ⟨.hbm, 62, rfl⟩
abbrev main_v35_0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_8 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_9 : Ref sig .tc := ⟨.hbm, 89, rfl⟩
abbrev main_v56 : Ref sig .tc := ⟨.hbm, 90, rfl⟩
abbrev main_v57 : Ref sig .tc := ⟨.hbm, 91, rfl⟩
abbrev main_cst_10 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_11 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_13 : Ref sig .tc := ⟨.hbm, 113, rfl⟩
abbrev main_v76 : Ref sig .tc := ⟨.hbm, 114, rfl⟩
abbrev main_v77 : Ref sig .tc := ⟨.hbm, 115, rfl⟩
abbrev main_cst_14 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩

abbrev nD : Nat := 1
abbrev τ : Topo := Topo.v7x

variable {F : FTy → Type} [FloatOps F]
-- ==== Kernel3.lean ====
abbrev S16384x8192 : Shape := ⟨2, ![16384, 8192]⟩
abbrev S1024x8192 : Shape := ⟨2, ![1024, 8192]⟩
abbrev S16384x1024 : Shape := ⟨2, ![16384, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S16384x8192, .bf16⟩
  | .hbm, ⟨1, _⟩ => ⟨S1024x8192, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_23 : BitVec 32 := 0#32
  let v43 : BitVec 1 := Scalar.cmpi .eq arg0 c0_i32_23
  let v44 : BitVec 32 := Scalar.extui v43
  let c0_i32_24 : BitVec 32 := 0#32
  let v45 : BitVec 1 := Scalar.cmpi .ne v44 c0_i32_24
  v45

def k0_cond5 (i : grid0.Coords) : BitVec 1 :=
  let arg0 : BitVec 32 := BitVec.ofNat 32 (i 0).val
  let c0_i32_25 : BitVec 32 := 0#32
  let v46 : BitVec 1 := Scalar.cmpi .sgt arg0 c0_i32_25
  let v47 : BitVec 32 := Scalar.extui v46
  let c0_i32_26 : BitVec 32 := 0#32
  let v48 : BitVec 1 := Scalar.cmpi .ne v47 c0_i32_26
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference3Ideal.lean ====
abbrev S16384x8192 : Shape := ⟨2, ![16384, 8192]⟩
abbrev S1024x8192 : Shape := ⟨2, ![1024, 8192]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S1024x8192, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1024x8192, .f32⟩
  | .hbm, ⟨25, _⟩ => ⟨S16384x8192, .f32⟩
  | .hbm, ⟨26, _⟩ => ⟨S16384x8192, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S16384x8192 : Shape := ⟨2, ![16384, 8192]⟩
abbrev S_ : Shape := ⟨0, ![]⟩
abbrev S16384 : Shape := ⟨1, ![16384]⟩
abbrev S16384x1 : Shape := ⟨2, ![16384, 1]⟩
abbrev S1024x8192 : Shape := ⟨2, ![1024, 8192]⟩
abbrev S4096x1024 : Shape := ⟨2, ![4096, 1024]⟩
abbrev S1024x1024 : Shape := ⟨2, ![1024, 1024]⟩

abbrev nBuf : Space → Nat
  | .hbm => 20
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x8192, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S1024x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S1x1024 : Shape := ⟨2, ![1, 1024]⟩
abbrev S16384x8192 : Shape := ⟨2, ![16384, 8192]⟩
abbrev S_ : Shape := ⟨0, ![]⟩
abbrev S1024x8192 : Shape := ⟨2, ![1024, 8192]⟩
abbrev S16384 : Shape := ⟨1, ![16384]⟩
abbrev S16384x1 : Shape := ⟨2, ![16384, 1]⟩
abbrev S8192x1024 : Shape := ⟨2, ![8192, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x8192, .bf16⟩
  | .hbm, ⟨3, _⟩ => ⟨S_, .f32⟩
  | .hbm, ⟨4, _⟩ => ⟨S1024x8192, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x8192, .f32⟩
  | .hbm, ⟨21, _⟩ => ⟨S16384x8192, .f32⟩
  | .hbm, ⟨22, _⟩ => ⟨S8192x1024, .f32⟩
  | .hbm, ⟨23, _⟩ => ⟨S1024x8192, .f32⟩
  | .hbm, ⟨24, _⟩ => ⟨S1024x8192, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel5.lean ====
abbrev S16384x1024 : Shape := ⟨2, ![16384, 1024]⟩
abbrev S1x1024 : Shape := ⟨2, ![1, 1024]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1024x3072 : Shape := ⟨2, ![1024, 3072]⟩
abbrev S4096x1024 : Shape := ⟨2, ![4096, 1024]⟩
abbrev S1024x1024 : Shape := ⟨2, ![1024, 1024]⟩

abbrev nBuf : Space → Nat
  | .hbm => 20
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x3072, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S1024x3072, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x1024 : Shape := ⟨2, ![16384, 1024]⟩
abbrev S1x1024 : Shape := ⟨2, ![1, 1024]⟩
abbrev S16384x3072 : Shape := ⟨2, ![16384, 3072]⟩
abbrev S_ : Shape := ⟨0, ![]⟩
abbrev S1024x3072 : Shape := ⟨2, ![1024, 3072]⟩
abbrev S16384 : Shape := ⟨1, ![16384]⟩
abbrev S16384x1 : Shape := ⟨2, ![16384, 1]⟩
abbrev S3072x1024 : Shape := ⟨2, ![3072, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x3072, .bf16⟩
  | .hbm, ⟨3, _⟩ => ⟨S_, .f32⟩
  | .hbm, ⟨4, _⟩ => ⟨S1024x3072, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x3072, .f32⟩
  | .hbm, ⟨21, _⟩ => ⟨S16384x3072, .f32⟩
  | .hbm, ⟨22, _⟩ => ⟨S3072x1024, .f32⟩
  | .hbm, ⟨23, _⟩ => ⟨S1024x3072, .f32⟩
  | .hbm, ⟨24, _⟩ => ⟨S1024x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel6.lean ====
abbrev S16384x3072 : Shape := ⟨2, ![16384, 3072]⟩
abbrev S16384x1024 : Shape := ⟨2, ![16384, 1024]⟩
abbrev S_ : Shape := ⟨0, ![]⟩
abbrev S3072x1024 : Shape := ⟨2, ![3072, 1024]⟩
abbrev S4096x1024 : Shape := ⟨2, ![4096, 1024]⟩
abbrev S1024x1024 : Shape := ⟨2, ![1024, 1024]⟩

abbrev nBuf : Space → Nat
  | .hbm => 17
  | .vmem => 7
  | .smem => 0
  | _ => 0

abbrev bufTy : (tb : Table) → Fin (tcTables nBuf tb) → BufTy
  | .hbm, ⟨0, _⟩ => ⟨S16384x3072, .bf16⟩
  | .hbm, ⟨1, _⟩ => ⟨S16384x3072, .bf16⟩
  | .hbm, ⟨2, _⟩ => ⟨S16384x1024, .bf16⟩
  | .hbm, ⟨3, _⟩ => ⟨S16384x3072, .f32⟩
  | .hbm, ⟨4, _⟩ => ⟨S16384x3072, .f32⟩
  | .hbm, ⟨5, _⟩ => ⟨S16384x3072, .f32⟩
  | .hbm, ⟨6, _⟩ => ⟨S_, .f32⟩
  | .hbm, ⟨7, _⟩ => ⟨S16384x3072, .f32⟩
  | .hbm, ⟨8, _⟩ => ⟨S16384x3072, .f32⟩
  | .hbm, ⟨9, _⟩ => ⟨S_, .f32⟩
  | .hbm, ⟨10, _⟩ => ⟨S16384x3072, .f32⟩
  | .hbm, ⟨11, _⟩ => ⟨S16384x3072, .f32⟩
  | .hbm, ⟨12, _⟩ => ⟨S16384x3072, .f32⟩
  | .hbm, ⟨13, _⟩ => ⟨S16384x3072, .f32⟩
  | .hbm, ⟨14, _⟩ => ⟨S16384x3072, .f32⟩
  | .hbm, ⟨15, _⟩ => ⟨S16384x3072, .bf16⟩
  | .hbm, ⟨16, _⟩ => ⟨S3072x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x3072 : Shape := ⟨2, ![16384, 3072]⟩
abbrev S16384x1024 : Shape := ⟨2, ![16384, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 22
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x3072, .bf16⟩
  | .hbm, ⟨2, _⟩ => ⟨S16384x1024, .bf16⟩
  | .hbm, ⟨3, _⟩ => ⟨S_, .f32⟩
  | .hbm, ⟨4, _⟩ => ⟨S3072x1024, .f32⟩
  | .hbm, ⟨5, _⟩ => ⟨S16384x3072, .f32⟩
  | .hbm, ⟨6, _⟩ => ⟨S16384x3072, .f32⟩
  | .hbm, ⟨7, _⟩ => ⟨S16384x3072, .f32⟩
  | .hbm, ⟨8, _⟩ => ⟨S_, .f32⟩
  | .hbm, ⟨9, _⟩ => ⟨S16384x3072, .f32⟩
  | .hbm, ⟨10, _⟩ => ⟨S16384x3072, .f32⟩
  | .hbm, ⟨11, _⟩ => ⟨S_, .f32⟩
  | .hbm, ⟨12, _⟩ => ⟨S16384x3072, .f32⟩
  | .hbm, ⟨13, _⟩ => ⟨S16384x3072, .f32⟩
  | .hbm, ⟨14, _⟩ => ⟨S16384x3072, .f32⟩
  | .hbm, ⟨15, _⟩ => ⟨S16384x3072, .f32⟩
  | .hbm, ⟨16, _⟩ => ⟨S16384x3072, .f32⟩
  | .hbm, ⟨17, _⟩ => ⟨S16384x1024, .f32⟩
  | .hbm, ⟨18, _⟩ => ⟨S16384x1024, .f32⟩
  | .hbm, ⟨19, _⟩ => ⟨S1024x3072, .f32⟩
  | .hbm, ⟨20, _⟩ => ⟨S3072x1024, .f32⟩
  | .hbm, ⟨21, _⟩ => ⟨S3072x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Kernel7.lean ====
abbrev S16384x1024 : Shape := ⟨2, ![16384, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S2x16384x256 : Shape := ⟨3, ![2, 16384, 256]⟩
abbrev S16384x1024 : Shape := ⟨2, ![16384, 1024]⟩
abbrev S256x1024 : Shape := ⟨2, ![256, 1024]⟩
abbrev S1x2048x256 : Shape := ⟨3, ![1, 2048, 256]⟩
abbrev S2048x1024 : Shape := ⟨2, ![2048, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S2x16384x256, .f32⟩
  | .hbm, ⟨1, _⟩ => ⟨S16384x1024, .bf16⟩
  | .hbm, ⟨2, _⟩ => ⟨S256x1024, .bf16⟩
  | .local _ .vmem, ⟨0, _⟩ => ⟨S1x2048x256, .f32⟩
  | .local _ .vmem, ⟨1, _⟩ => ⟨S1x2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S2x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2x16384x256 : Shape := ⟨3, ![2, 16384, 256]⟩
abbrev S16384x1024 : Shape := ⟨2, ![16384, 1024]⟩
abbrev S_ : Shape := ⟨0, ![]⟩
abbrev S256x1024 : Shape := ⟨2, ![256, 1024]⟩
abbrev S1x16384x256 : Shape := ⟨3, ![1, 16384, 256]⟩
abbrev S16384x256 : Shape := ⟨2, ![16384, 256]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S2x16384x256, .f32⟩
  | .hbm, ⟨1, _⟩ => ⟨S16384x1024, .bf16⟩
  | .hbm, ⟨2, _⟩ => ⟨S_, .f32⟩
  | .hbm, ⟨3, _⟩ => ⟨S256x1024, .f32⟩
  | .hbm, ⟨4, _⟩ => ⟨S1x16384x256, .f32⟩
  | .hbm, ⟨5, _⟩ => ⟨S16384x256, .f32⟩
  | .hbm, ⟨6, _⟩ => ⟨S16384x1024, .f32⟩
  | .hbm, ⟨7, _⟩ => ⟨S16384x1024, .f32⟩
  | .hbm, ⟨8, _⟩ => ⟨S1024x256, .f32⟩
  | .hbm, ⟨9, _⟩ => ⟨S256x1024, .f32⟩
  | .hbm, ⟨10, _⟩ => ⟨S256x1024, .bf16⟩
  | _, _ => ⟨S2x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S16384x512 : Shape := ⟨2, ![16384, 512]⟩
abbrev S16384x1024 : Shape := ⟨2, ![16384, 1024]⟩
abbrev S512x1024 : Shape := ⟨2, ![512, 1024]⟩
abbrev S4096x512 : Shape := ⟨2, ![4096, 512]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S_, .f32⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S16384x1024 : Shape := ⟨2, ![16384, 1024]⟩
abbrev S1x1024 : Shape := ⟨2, ![1, 1024]⟩
abbrev S1024x8192 : Shape := ⟨2, ![1024, 8192]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩
abbrev S1024x1024 : Shape := ⟨2, ![1024, 1024]⟩
abbrev S1024x2048 : Shape := ⟨2, ![1024, 2048]⟩

abbrev nBuf : Space → Nat
  | .hbm => 20
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x8192, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S16384x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S1x1024 : Shape := ⟨2, ![1, 1024]⟩
abbrev S1024x8192 : Shape := ⟨2, ![1024, 8192]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x8192, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x8192, .f32⟩
  | .hbm, ⟨19, _⟩ => ⟨S16384x8192, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel12.lean ====
abbrev S16384x1024 : Shape := ⟨2, ![16384, 1024]⟩
abbrev S1x1024 : Shape := ⟨2, ![1, 1024]⟩
abbrev S1024x6144 : Shape := ⟨2, ![1024, 6144]⟩
abbrev S_ : Shape := ⟨0, ![]⟩
abbrev S16384 : Shape := ⟨1, ![16384]⟩
abbrev S16384x1 : Shape := ⟨2, ![16384, 1]⟩
abbrev S16384x6144 : Shape := ⟨2, ![16384, 6144]⟩
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 20
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x6144, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S16384x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1024x2048, .bf16⟩
  | .local _ .vmem, ⟨3, _⟩ => ⟨S1024x2048, .bf16⟩
  | .local _ .vmem, ⟨4, _⟩ => ⟨S2048x2048, .bf16⟩
  | .local _ .vmem, ⟨5, _⟩ => ⟨S2048x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16384x1024 : Shape := ⟨2, ![16384, 1024]⟩
abbrev S1x1024 : Shape := ⟨2, ![1, 1024]⟩
abbrev S1024x6144 : Shape := ⟨2, ![1024, 6144]⟩
abbrev S_ : Shape := ⟨0, ![]⟩
abbrev S16384 : Shape := ⟨1, ![16384]⟩
abbrev S16384x1 : Shape := ⟨2, ![16384, 1]⟩
abbrev S16384x6144 : Shape := ⟨2, ![16384, 6144]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x6144, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x6144, .f32⟩
  | .hbm, ⟨19, _⟩ => ⟨S16384x6144, .f32⟩
  | .hbm, ⟨20, _⟩ => ⟨S16384x6144, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel13.lean ====
abbrev S16384x1024 : Shape := ⟨2, ![16384, 1024]⟩
abbrev S3072x1024 : Shape := ⟨2, ![3072, 1024]⟩
abbrev S16384x3072 : Shape := ⟨2, ![16384, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S3072x1024, .bf16⟩
  | .hbm, ⟨2, _⟩ => ⟨S16384x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S16384x1024 : Shape := ⟨2, ![16384, 1024]⟩
abbrev S3072x1024 : Shape := ⟨2, ![3072, 1024]⟩
abbrev S_ : Shape := ⟨0, ![]⟩
abbrev S16384x3072 : Shape := ⟨2, ![16384, 3072]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S3072x1024, .bf16⟩
  | .hbm, ⟨2, _⟩ => ⟨S_, .f32⟩
  | .hbm, ⟨3, _⟩ => ⟨S16384x3072, .f32⟩
  | .hbm, ⟨4, _⟩ => ⟨S3072x1024, .f32⟩
  | .hbm, ⟨5, _⟩ => ⟨S16384x1024, .f32⟩
  | .hbm, ⟨6, _⟩ => ⟨S16384x1024, .f32⟩
  | .hbm, ⟨7, _⟩ => ⟨S16384x3072, .f32⟩
  | .hbm, ⟨8, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S16384x1024 : Shape := ⟨2, ![16384, 1024]⟩
abbrev S512x1024 : Shape := ⟨2, ![512, 1024]⟩
abbrev S16384x512 : Shape := ⟨2, ![16384, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S16384x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S16384x1024 : Shape := ⟨2, ![16384, 1024]⟩
abbrev S512x1024 : Shape := ⟨2, ![512, 1024]⟩
abbrev S_ : Shape := ⟨0, ![]⟩
abbrev S16384x512 : Shape := ⟨2, ![16384, 512]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S_, .f32⟩
  | .hbm, ⟨3, _⟩ => ⟨S16384x512, .f32⟩
  | .hbm, ⟨4, _⟩ => ⟨S512x1024, .f32⟩
  | .hbm, ⟨5, _⟩ => ⟨S16384x1024, .f32⟩
  | .hbm, ⟨6, _⟩ => ⟨S16384x1024, .f32⟩
  | .hbm, ⟨7, _⟩ => ⟨S16384x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x512, .f32⟩
  | .hbm, ⟨3, _⟩ => ⟨S512x1024, .f32⟩
  | .hbm, ⟨4, _⟩ => ⟨S16384x1024, .f32⟩
  | .hbm, ⟨5, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S2x16384x256 : Shape := ⟨3, ![2, 16384, 256]⟩
abbrev S256x1024 : Shape := ⟨2, ![256, 1024]⟩
abbrev S16384x1024 : Shape := ⟨2, ![16384, 1024]⟩
abbrev S1x1024x256 : Shape := ⟨3, ![1, 1024, 256]⟩
abbrev S1024x1024 : Shape := ⟨2, ![1024, 1024]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2x16384x256, .f32⟩
  | .hbm, ⟨1, _⟩ => ⟨S256x1024, .bf16⟩
  | .hbm, ⟨2, _⟩ => ⟨S16384x1024, .f32⟩
  | .local _ .vmem, ⟨0, _⟩ => ⟨S1x1024x256, .f32⟩
  | .local _ .vmem, ⟨1, _⟩ => ⟨S1x1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S2x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2x16384x256 : Shape := ⟨3, ![2, 16384, 256]⟩
abbrev S256x1024 : Shape := ⟨2, ![256, 1024]⟩
abbrev S1x16384x256 : Shape := ⟨3, ![1, 16384, 256]⟩
abbrev S16384x256 : Shape := ⟨2, ![16384, 256]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x16384x256, .f32⟩
  | .hbm, ⟨1, _⟩ => ⟨S256x1024, .bf16⟩
  | .hbm, ⟨2, _⟩ => ⟨S1x16384x256, .f32⟩
  | .hbm, ⟨3, _⟩ => ⟨S16384x256, .f32⟩
  | .hbm, ⟨4, _⟩ => ⟨S256x1024, .f32⟩
  | .hbm, ⟨5, _⟩ => ⟨S16384x1024, .f32⟩
  | _, _ => ⟨S2x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S8x1024x1024 : Shape := ⟨3, ![8, 1024, 1024]⟩
abbrev S2x1024x1024 : Shape := ⟨3, ![2, 1024, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c7_i32 : BitVec 32 := 7#32
  let v2 : BitVec 32 := Scalar.muli c7_i32 arg0
  let v3 : BitVec 32 := Scalar.addi v1 v2
  let c0_i32 : BitVec 32 := 0#32
  let c0_i32_0 : BitVec 32 := 0#32
  let c0_i32_1 : BitVec 32 := 0#32
  ![c0_i32.toNat, v3.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S8x1024x1024 : Shape := ⟨3, ![8, 1024, 1024]⟩
abbrev S2x1024x1024 : Shape := ⟨3, ![2, 1024, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S8x1024x1024, .f32⟩
  | .hbm, ⟨6, _⟩ => ⟨S_, .f32⟩
  | .hbm, ⟨7, _⟩ => ⟨S1024x1024, .f32⟩
  | .hbm, ⟨8, _⟩ => ⟨S8x1024x1024, .f32⟩
  | .hbm, ⟨9, _⟩ => ⟨S_, .f32⟩
  | .hbm, ⟨10, _⟩ => ⟨S1024x1024, .f32⟩
  | .hbm, ⟨11, _⟩ => ⟨S1x1024x1024, .f32⟩
  | .hbm, ⟨12, _⟩ => ⟨S1x1024x1024, .f32⟩
  | .hbm, ⟨13, _⟩ => ⟨S2x1024x1024, .f32⟩
  | .hbm, ⟨14, _⟩ => ⟨S_, .f32⟩
  | .hbm, ⟨15, _⟩ => ⟨S2x1024x1024, .f32⟩
  | .hbm, ⟨16, _⟩ => ⟨S2x1024x1024, .f32⟩
  | .hbm, ⟨17, _⟩ => ⟨S_, .f32⟩
  | .hbm, ⟨18, _⟩ => ⟨S2x1024x1024, .f32⟩
  | .hbm, ⟨19, _⟩ => ⟨S2x1024x1024, .f32⟩
  | .hbm, ⟨20, _⟩ => ⟨S2x1024x1024, .f32⟩
  | .hbm, ⟨21, _⟩ => ⟨S_, .f32⟩
  | .hbm, ⟨22, _⟩ => ⟨S2x1024x1024, .f32⟩
  | .hbm, ⟨23, _⟩ => ⟨S2x1024x1024, .f32⟩
  | .hbm, ⟨24, _⟩ => ⟨S2x1024x1024, .f32⟩
  | .hbm, ⟨25, _⟩ => ⟨S_, .f32⟩
  | .hbm, ⟨26, _⟩ => ⟨S2x1024x1024, .f32⟩
  | .hbm, ⟨27, _⟩ => ⟨S2x1024x1024, .f32⟩
  | .hbm, ⟨28, _⟩ => ⟨S2x1024x1024, .f32⟩
  | .hbm, ⟨29, _⟩ => ⟨S_, .f32⟩
  | .hbm, ⟨30, _⟩ => ⟨S2x1024x1024, .f32⟩
  | .hbm, ⟨31, _⟩ => ⟨S2x1024x1024, .f32⟩
  | .hbm, ⟨32, _⟩ => ⟨S_, .f32⟩
  | .hbm, ⟨33, _⟩ => ⟨S2x1024x1024, .f32⟩
  | .hbm, ⟨34, _⟩ => ⟨S2x1024x1024, .f32⟩
  | .hbm, ⟨35, _⟩ => ⟨S2x1024x1024, .f32⟩
  | .hbm, ⟨36, _⟩ => ⟨S_, .f32⟩
  | .hbm, ⟨37, _⟩ => ⟨S2x1024x1024, .f32⟩
  | .hbm, ⟨38, _⟩ => ⟨S2x1024x1024, .f32⟩
  | .hbm, ⟨39, _⟩ => ⟨S2x1024x1024, .f32⟩
  | .hbm, ⟨40, _⟩ => ⟨S_, .f32⟩
  | .hbm, ⟨41, _⟩ => ⟨S2x1024x1024, .f32⟩
  | .hbm, ⟨42, _⟩ => ⟨S2x1024x1024, .f32⟩
  | .hbm, ⟨43, _⟩ => ⟨S2x1024x1024, .f32⟩
  | .hbm, ⟨44, _⟩ => ⟨S_, .f32⟩
  | .hbm, ⟨45, _⟩ => ⟨S2x1024x1024, .f32⟩
  | .hbm, ⟨46, _⟩ => ⟨S2x1024x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel18.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let v2 : BitVec 32 := Scalar.muli c0_i32 arg0
  let v3 : BitVec 32 := Scalar.addi v1 v2
  let c0_i32_0 : BitVec 32 := 0#32
  let c0_i32_1 : BitVec 32 := 0#32
  let c0_i32_2 : BitVec 32 := 0#32
  ![c0_i32_0.toNat, v3.toNat, c0_i32_1.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel19.lean ====
abbrev S8x512x128 : Shape := ⟨3, ![8, 512, 128]⟩
abbrev S2x512x128 : Shape := ⟨3, ![2, 512, 128]⟩
abbrev S1x512x128 : Shape := ⟨3, ![1, 512, 128]⟩
abbrev S512x128 : Shape := ⟨2, ![512, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let v2 : BitVec 32 := Scalar.muli c0_i32 arg0
  let v3 : BitVec 32 := Scalar.addi v1 v2
  let c0_i32_0 : BitVec 32 := 0#32
  let c0_i32_1 : BitVec 32 := 0#32
  let c0_i32_2 : BitVec 32 := 0#32
  ![c0_i32_0.toNat, v3.toNat, c0_i32_1.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S8x512x128 : Shape := ⟨3, ![8, 512, 128]⟩
abbrev S2x512x128 : Shape := ⟨3, ![2, 512, 128]⟩
abbrev S_ : Shape := ⟨0, ![]⟩
abbrev S512x128 : Shape := ⟨2, ![512, 128]⟩
abbrev S1x512x128 : Shape := ⟨3, ![1, 512, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S8x512x128, .f32⟩
  | .hbm, ⟨6, _⟩ => ⟨S_, .f32⟩
  | .hbm, ⟨7, _⟩ => ⟨S512x128, .f32⟩
  | .hbm, ⟨8, _⟩ => ⟨S8x512x128, .f32⟩
  | .hbm, ⟨9, _⟩ => ⟨S_, .f32⟩
  | .hbm, ⟨10, _⟩ => ⟨S512x128, .f32⟩
  | .hbm, ⟨11, _⟩ => ⟨S1x512x128, .f32⟩
  | .hbm, ⟨12, _⟩ => ⟨S1x512x128, .f32⟩
  | .hbm, ⟨13, _⟩ => ⟨S2x512x128, .f32⟩
  | .hbm, ⟨14, _⟩ => ⟨S_, .f32⟩
  | .hbm, ⟨15, _⟩ => ⟨S2x512x128, .f32⟩
  | .hbm, ⟨16, _⟩ => ⟨S2x512x128, .f32⟩
  | .hbm, ⟨17, _⟩ => ⟨S_, .f32⟩
  | .hbm, ⟨18, _⟩ => ⟨S2x512x128, .f32⟩
  | .hbm, ⟨19, _⟩ => ⟨S2x512x128, .f32⟩
  | .hbm, ⟨20, _⟩ => ⟨S2x512x128, .f32⟩
  | .hbm, ⟨21, _⟩ => ⟨S_, .f32⟩
  | .hbm, ⟨22, _⟩ => ⟨S2x512x128, .f32⟩
  | .hbm, ⟨23, _⟩ => ⟨S2x512x128, .f32⟩
  | .hbm, ⟨24, _⟩ => ⟨S2x512x128, .f32⟩
  | .hbm, ⟨25, _⟩ => ⟨S_, .f32⟩
  | .hbm, ⟨26, _⟩ => ⟨S2x512x128, .f32⟩
  | .hbm, ⟨27, _⟩ => ⟨S2x512x128, .f32⟩
  | .hbm, ⟨28, _⟩ => ⟨S2x512x128, .f32⟩
  | .hbm, ⟨29, _⟩ => ⟨S_, .f32⟩
  | .hbm, ⟨30, _⟩ => ⟨S2x512x128, .f32⟩
  | .hbm, ⟨31, _⟩ => ⟨S2x512x128, .f32⟩
  | .hbm, ⟨32, _⟩ => ⟨S_, .f32⟩
  | .hbm, ⟨33, _⟩ => ⟨S2x512x128, .f32⟩
  | .hbm, ⟨34, _⟩ => ⟨S2x512x128, .f32⟩
  | .hbm, ⟨35, _⟩ => ⟨S2x512x128, .f32⟩
  | .hbm, ⟨36, _⟩ => ⟨S_, .f32⟩
  | .hbm, ⟨37, _⟩ => ⟨S2x512x128, .f32⟩
  | .hbm, ⟨38, _⟩ => ⟨S2x512x128, .f32⟩
  | .hbm, ⟨39, _⟩ => ⟨S2x512x128, .f32⟩
  | .hbm, ⟨40, _⟩ => ⟨S_, .f32⟩
  | .hbm, ⟨41, _⟩ => ⟨S2x512x128, .f32⟩
  | .hbm, ⟨42, _⟩ => ⟨S2x512x128, .f32⟩
  | .hbm, ⟨43, _⟩ => ⟨S2x512x128, .f32⟩
  | .hbm, ⟨44, _⟩ => ⟨S_, .f32⟩
  | .hbm, ⟨45, _⟩ => ⟨S2x512x128, .f32⟩
  | .hbm, ⟨46, _⟩ => ⟨S2x512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel20.lean ====
abbrev S8x1024x384 : Shape := ⟨3, ![8, 1024, 384]⟩
abbrev S2x1024x352 : Shape := ⟨3, ![2, 1024, 352]⟩
abbrev S8x128x384 : Shape := ⟨3, ![8, 128, 384]⟩
abbrev S1x128x352 : Shape := ⟨3, ![1, 128, 352]⟩
abbrev S1x128x384 : Shape := ⟨3, ![1, 128, 384]⟩
abbrev S128x384 : Shape := ⟨2, ![128, 384]⟩
abbrev S128x352 : Shape := ⟨2, ![128, 352]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x384, .bf16⟩
  | .hbm, ⟨1, _⟩ => ⟨S8x1024x384, .bf16⟩
  | .hbm, ⟨2, _⟩ => ⟨S2x1024x352, .f32⟩
  | .hbm, ⟨3, _⟩ => ⟨S2x1024x352, .f32⟩
  | .hbm, ⟨4, _⟩ => ⟨S2x1024x352, .f32⟩
  | .hbm, ⟨5, _⟩ => ⟨S2x1024x352, .f32⟩
  | .hbm, ⟨6, _⟩ => ⟨S2x1024x352, .f32⟩
  | .hbm, ⟨7, _⟩ => ⟨S2x1024x352, .f32⟩
  | .hbm, ⟨8, _⟩ => ⟨S2x1024x352, .f32⟩
  | .local _ .vmem, ⟨0, _⟩ => ⟨S8x128x384, .bf16⟩
  | .local _ .vmem, ⟨1, _⟩ => ⟨S8x128x384, .bf16⟩
  | .local _ .vmem, ⟨2, _⟩ => ⟨S8x128x384, .bf16⟩
  | .local _ .vmem, ⟨3, _⟩ => ⟨S8x128x384, .bf16⟩
  | .local _ .vmem, ⟨4, _⟩ => ⟨S1x128x352, .f32⟩
  | .local _ .vmem, ⟨5, _⟩ => ⟨S1x128x352, .f32⟩
  | .local _ .vmem, ⟨6, _⟩ => ⟨S1x128x352, .f32⟩
  | .local _ .vmem, ⟨7, _⟩ => ⟨S1x128x352, .f32⟩
  | .local _ .vmem, ⟨8, _⟩ => ⟨S1x128x352, .f32⟩
  | .local _ .vmem, ⟨9, _⟩ => ⟨S1x128x352, .f32⟩
  | .local _ .vmem, ⟨10, _⟩ => ⟨S1x128x352, .f32⟩
  | .local _ .vmem, ⟨11, _⟩ => ⟨S1x128x352, .f32⟩
  | .local _ .vmem, ⟨12, _⟩ => ⟨S1x128x352, .f32⟩
  | .local _ .vmem, ⟨13, _⟩ => ⟨S1x128x352, .f32⟩
  | .local _ .vmem, ⟨14, _⟩ => ⟨S1x128x352, .f32⟩
  | .local _ .vmem, ⟨15, _⟩ => ⟨S1x128x352, .f32⟩
  | .local _ .vmem, ⟨16, _⟩ => ⟨S1x128x352, .f32⟩
  | .local _ .vmem, ⟨17, _⟩ => ⟨S1x128x352, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c7_i32 : BitVec 32 := 7#32
  let v2 : BitVec 32 := Scalar.muli c7_i32 arg0
  let v3 : BitVec 32 := Scalar.addi v1 v2
  let c0_i32 : BitVec 32 := 0#32
  let c0_i32_0 : BitVec 32 := 0#32
  let c0_i32_1 : BitVec 32 := 0#32
  ![c0_i32.toNat, v3.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference20Ideal.lean ====
abbrev S8x1024x384 : Shape := ⟨3, ![8, 1024, 384]⟩
abbrev S2x1024x352 : Shape := ⟨3, ![2, 1024, 352]⟩
abbrev S_ : Shape := ⟨0, ![]⟩
abbrev S1024x384 : Shape := ⟨2, ![1024, 384]⟩
abbrev S1024x352 : Shape := ⟨2, ![1024, 352]⟩
abbrev S1x1024x352 : Shape := ⟨3, ![1, 1024, 352]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S8x1024x384, .bf16⟩
  | .hbm, ⟨2, _⟩ => ⟨S2x1024x352, .f32⟩
  | .hbm, ⟨3, _⟩ => ⟨S2x1024x352, .f32⟩
  | .hbm, ⟨4, _⟩ => ⟨S2x1024x352, .f32⟩
  | .hbm, ⟨5, _⟩ => ⟨S8x1024x384, .f32⟩
  | .hbm, ⟨6, _⟩ => ⟨S_, .f32⟩
  | .hbm, ⟨7, _⟩ => ⟨S1024x384, .f32⟩
  | .hbm, ⟨8, _⟩ => ⟨S1024x352, .f32⟩
  | .hbm, ⟨9, _⟩ => ⟨S8x1024x384, .f32⟩
  | .hbm, ⟨10, _⟩ => ⟨S_, .f32⟩
  | .hbm, ⟨11, _⟩ => ⟨S1024x384, .f32⟩
  | .hbm, ⟨12, _⟩ => ⟨S1024x352, .f32⟩
  | .hbm, ⟨13, _⟩ => ⟨S1x1024x352, .f32⟩
  | .hbm, ⟨14, _⟩ => ⟨S1x1024x352, .f32⟩
  | .hbm, ⟨15, _⟩ => ⟨S2x1024x352, .f32⟩
  | .hbm, ⟨16, _⟩ => ⟨S_, .f32⟩
  | .hbm, ⟨17, _⟩ => ⟨S2x1024x352, .f32⟩
  | .hbm, ⟨18, _⟩ => ⟨S2x1024x352, .f32⟩
  | .hbm, ⟨19, _⟩ => ⟨S_, .f32⟩
  | .hbm, ⟨20, _⟩ => ⟨S2x1024x352, .f32⟩
  | .hbm, ⟨21, _⟩ => ⟨S2x1024x352, .f32⟩
  | .hbm, ⟨22, _⟩ => ⟨S2x1024x352, .f32⟩
  | .hbm, ⟨23, _⟩ => ⟨S_, .f32⟩
  | .hbm, ⟨24, _⟩ => ⟨S2x1024x352, .f32⟩
  | .hbm, ⟨25, _⟩ => ⟨S2x1024x352, .f32⟩
  | .hbm, ⟨26, _⟩ => ⟨S2x1024x352, .f32⟩
  | .hbm, ⟨27, _⟩ => ⟨S_, .f32⟩
  | .hbm, ⟨28, _⟩ => ⟨S2x1024x352, .f32⟩
  | .hbm, ⟨29, _⟩ => ⟨S2x1024x352, .f32⟩
  | .hbm, ⟨30, _⟩ => ⟨S2x1024x352, .f32⟩
  | .hbm, ⟨31, _⟩ => ⟨S_, .f32⟩
  | .hbm, ⟨32, _⟩ => ⟨S2x1024x352, .f32⟩
  | .hbm, ⟨33, _⟩ => ⟨S2x1024x352, .f32⟩
  | .hbm, ⟨34, _⟩ => ⟨S_, .f32⟩
  | .hbm, ⟨35, _⟩ => ⟨S2x1024x352, .f32⟩
  | .hbm, ⟨36, _⟩ => ⟨S2x1024x352, .f32⟩
  | .hbm, ⟨37, _⟩ => ⟨S2x1024x352, .f32⟩
  | .hbm, ⟨38, _⟩ => ⟨S_, .f32⟩
  | .hbm, ⟨39, _⟩ => ⟨S2x1024x352, .f32⟩
  | .hbm, ⟨40, _⟩ => ⟨S2x1024x352, .f32⟩
  | .hbm, ⟨41, _⟩ => ⟨S2x1024x352, .f32⟩
  | .hbm, ⟨42, _⟩ => ⟨S_, .f32⟩
  | .hbm, ⟨43, _⟩ => ⟨S2x1024x352, .f32⟩
  | .hbm, ⟨44, _⟩ => ⟨S2x1024x352, .f32⟩
  | .hbm, ⟨45, _⟩ => ⟨S2x1024x352, .f32⟩
  | .hbm, ⟨46, _⟩ => ⟨S_, .f32⟩
  | .hbm, ⟨47, _⟩ => ⟨S2x1024x352, .f32⟩
  | .hbm, ⟨48, _⟩ => ⟨S2x1024x352, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel21.lean ====
abbrev S8x384x1024 : Shape := ⟨3, ![8, 384, 1024]⟩
abbrev S2x352x1024 : Shape := ⟨3, ![2, 352, 1024]⟩
abbrev S8x88x1024 : Shape := ⟨3, ![8, 88, 1024]⟩
abbrev S1x88x1024 : Shape := ⟨3, ![1, 88, 1024]⟩
abbrev S88x1024 : Shape := ⟨2, ![88, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x384x1024, .bf16⟩
  | .hbm, ⟨1, _⟩ => ⟨S8x384x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x88x1024, .bf16⟩
  | .local _ .vmem, ⟨1, _⟩ => ⟨S8x88x1024, .bf16⟩
  | .local _ .vmem, ⟨2, _⟩ => ⟨S8x88x1024, .bf16⟩
  | .local _ .vmem, ⟨3, _⟩ => ⟨S8x88x1024, .bf16⟩
  | .local _ .vmem, ⟨4, _⟩ => ⟨S1x88x1024, .f32⟩
  | .local _ .vmem, ⟨5, _⟩ => ⟨S1x88x1024, .f32⟩
  | .local _ .vmem, ⟨6, _⟩ => ⟨S1x88x1024, .f32⟩
  | .local _ .vmem, ⟨7, _⟩ => ⟨S1x88x1024, .f32⟩
  | .local _ .vmem, ⟨8, _⟩ => ⟨S1x88x1024, .f32⟩
  | .local _ .vmem, ⟨9, _⟩ => ⟨S1x88x1024, .f32⟩
  | .local _ .vmem, ⟨10, _⟩ => ⟨S1x88x1024, .f32⟩
  | .local _ .vmem, ⟨11, _⟩ => ⟨S1x88x1024, .f32⟩
  | .local _ .vmem, ⟨12, _⟩ => ⟨S1x88x1024, .f32⟩
  | .local _ .vmem, ⟨13, _⟩ => ⟨S1x88x1024, .f32⟩
  | .local _ .vmem, ⟨14, _⟩ => ⟨S1x88x1024, .f32⟩
  | .local _ .vmem, ⟨15, _⟩ => ⟨S1x88x1024, .f32⟩
  | .local _ .vmem, ⟨16, _⟩ => ⟨S1x88x1024, .f32⟩
  | .local _ .vmem, ⟨17, _⟩ => ⟨S1x88x1024, .f32⟩
  | _, _ => ⟨S8x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c3_i32 : BitVec 32 := 3#32
  let v2 : BitVec 32 := Scalar.muli c3_i32 arg0
  let v3 : BitVec 32 := Scalar.addi v1 v2
  let c0_i32 : BitVec 32 := 0#32
  let c0_i32_0 : BitVec 32 := 0#32
  let c0_i32_1 : BitVec 32 := 0#32
  ![c0_i32.toNat, v3.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x88x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x88x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x88x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference21Ideal.lean ====
abbrev S8x384x1024 : Shape := ⟨3, ![8, 384, 1024]⟩
abbrev S2x352x1024 : Shape := ⟨3, ![2, 352, 1024]⟩
abbrev S_ : Shape := ⟨0, ![]⟩
abbrev S384x1024 : Shape := ⟨2, ![384, 1024]⟩
abbrev S352x1024 : Shape := ⟨2, ![352, 1024]⟩
abbrev S1x352x1024 : Shape := ⟨3, ![1, 352, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x384x1024, .bf16⟩
  | .hbm, ⟨1, _⟩ => ⟨S8x384x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x384x1024, .f32⟩
  | .hbm, ⟨6, _⟩ => ⟨S_, .f32⟩
  | .hbm, ⟨7, _⟩ => ⟨S384x1024, .f32⟩
  | .hbm, ⟨8, _⟩ => ⟨S352x1024, .f32⟩
  | .hbm, ⟨9, _⟩ => ⟨S8x384x1024, .f32⟩
  | .hbm, ⟨10, _⟩ => ⟨S_, .f32⟩
  | .hbm, ⟨11, _⟩ => ⟨S384x1024, .f32⟩
  | .hbm, ⟨12, _⟩ => ⟨S352x1024, .f32⟩
  | .hbm, ⟨13, _⟩ => ⟨S1x352x1024, .f32⟩
  | .hbm, ⟨14, _⟩ => ⟨S1x352x1024, .f32⟩
  | .hbm, ⟨15, _⟩ => ⟨S2x352x1024, .f32⟩
  | .hbm, ⟨16, _⟩ => ⟨S_, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S2x352x1024, .f32⟩
  | .hbm, ⟨31, _⟩ => ⟨S_, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | .hbm, ⟨45, _⟩ => ⟨S2x352x1024, .f32⟩
  | .hbm, ⟨46, _⟩ => ⟨S_, .f32⟩
  | .hbm, ⟨47, _⟩ => ⟨S2x352x1024, .f32⟩
  | .hbm, ⟨48, _⟩ => ⟨S2x352x1024, .f32⟩
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel22.lean ====
abbrev S8x256x128 : Shape := ⟨3, ![8, 256, 128]⟩
abbrev S2x256x128 : Shape := ⟨3, ![2, 256, 128]⟩
abbrev S1x256x128 : Shape := ⟨3, ![1, 256, 128]⟩
abbrev S256x128 : Shape := ⟨2, ![256, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x256x128, .bf16⟩
  | .hbm, ⟨1, _⟩ => ⟨S8x256x128, .bf16⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S2x256x128, .f32⟩
  | .hbm, ⟨6, _⟩ => ⟨S2x256x128, .f32⟩
  | .hbm, ⟨7, _⟩ => ⟨S2x256x128, .f32⟩
  | .hbm, ⟨8, _⟩ => ⟨S2x256x128, .f32⟩
  | .local _ .vmem, ⟨0, _⟩ => ⟨S8x256x128, .bf16⟩
  | .local _ .vmem, ⟨1, _⟩ => ⟨S8x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let v2 : BitVec 32 := Scalar.muli c0_i32 arg0
  let v3 : BitVec 32 := Scalar.addi v1 v2
  let c0_i32_0 : BitVec 32 := 0#32
  let c0_i32_1 : BitVec 32 := 0#32
  let c0_i32_2 : BitVec 32 := 0#32
  ![c0_i32_0.toNat, v3.toNat, c0_i32_1.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference22Ideal.lean ====
abbrev S8x256x128 : Shape := ⟨3, ![8, 256, 128]⟩
abbrev S2x256x128 : Shape := ⟨3, ![2, 256, 128]⟩
abbrev S_ : Shape := ⟨0, ![]⟩
abbrev S256x128 : Shape := ⟨2, ![256, 128]⟩
abbrev S1x256x128 : Shape := ⟨3, ![1, 256, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S8x256x128, .bf16⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S8x256x128, .f32⟩
  | .hbm, ⟨6, _⟩ => ⟨S_, .f32⟩
  | .hbm, ⟨7, _⟩ => ⟨S256x128, .f32⟩
  | .hbm, ⟨8, _⟩ => ⟨S8x256x128, .f32⟩
  | .hbm, ⟨9, _⟩ => ⟨S_, .f32⟩
  | .hbm, ⟨10, _⟩ => ⟨S256x128, .f32⟩
  | .hbm, ⟨11, _⟩ => ⟨S1x256x128, .f32⟩
  | .hbm, ⟨12, _⟩ => ⟨S1x256x128, .f32⟩
  | .hbm, ⟨13, _⟩ => ⟨S2x256x128, .f32⟩
  | .hbm, ⟨14, _⟩ => ⟨S_, .f32⟩
  | .hbm, ⟨15, _⟩ => ⟨S2x256x128, .f32⟩
  | .hbm, ⟨16, _⟩ => ⟨S2x256x128, .f32⟩
  | .hbm, ⟨17, _⟩ => ⟨S_, .f32⟩
  | .hbm, ⟨18, _⟩ => ⟨S2x256x128, .f32⟩
  | .hbm, ⟨19, _⟩ => ⟨S2x256x128, .f32⟩
  | .hbm, ⟨20, _⟩ => ⟨S2x256x128, .f32⟩
  | .hbm, ⟨21, _⟩ => ⟨S_, .f32⟩
  | .hbm, ⟨22, _⟩ => ⟨S2x256x128, .f32⟩
  | .hbm, ⟨23, _⟩ => ⟨S2x256x128, .f32⟩
  | .hbm, ⟨24, _⟩ => ⟨S2x256x128, .f32⟩
  | .hbm, ⟨25, _⟩ => ⟨S_, .f32⟩
  | .hbm, ⟨26, _⟩ => ⟨S2x256x128, .f32⟩
  | .hbm, ⟨27, _⟩ => ⟨S2x256x128, .f32⟩
  | .hbm, ⟨28, _⟩ => ⟨S2x256x128, .f32⟩
  | .hbm, ⟨29, _⟩ => ⟨S_, .f32⟩
  | .hbm, ⟨30, _⟩ => ⟨S2x256x128, .f32⟩
  | .hbm, ⟨31, _⟩ => ⟨S2x256x128, .f32⟩
  | .hbm, ⟨32, _⟩ => ⟨S_, .f32⟩
  | .hbm, ⟨33, _⟩ => ⟨S2x256x128, .f32⟩
  | .hbm, ⟨34, _⟩ => ⟨S2x256x128, .f32⟩
  | .hbm, ⟨35, _⟩ => ⟨S2x256x128, .f32⟩
  | .hbm, ⟨36, _⟩ => ⟨S_, .f32⟩
  | .hbm, ⟨37, _⟩ => ⟨S2x256x128, .f32⟩
  | .hbm, ⟨38, _⟩ => ⟨S2x256x128, .f32⟩
  | .hbm, ⟨39, _⟩ => ⟨S2x256x128, .f32⟩
  | .hbm, ⟨40, _⟩ => ⟨S_, .f32⟩
  | .hbm, ⟨41, _⟩ => ⟨S2x256x128, .f32⟩
  | .hbm, ⟨42, _⟩ => ⟨S2x256x128, .f32⟩
  | .hbm, ⟨43, _⟩ => ⟨S2x256x128, .f32⟩
  | .hbm, ⟨44, _⟩ => ⟨S_, .f32⟩
  | .hbm, ⟨45, _⟩ => ⟨S2x256x128, .f32⟩
  | .hbm, ⟨46, _⟩ => ⟨S2x256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel23.lean ====
abbrev S8x336x1024 : Shape := ⟨3, ![8, 336, 1024]⟩
abbrev S1x336x1024 : Shape := ⟨3, ![1, 336, 1024]⟩
abbrev S8x168x1024 : Shape := ⟨3, ![8, 168, 1024]⟩
abbrev S1x168x1024 : Shape := ⟨3, ![1, 168, 1024]⟩
abbrev S168x1024 : Shape := ⟨2, ![168, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x336x1024, .f32⟩
  | .hbm, ⟨1, _⟩ => ⟨S1x336x1024, .f32⟩
  | .hbm, ⟨2, _⟩ => ⟨S1x336x1024, .f32⟩
  | .hbm, ⟨3, _⟩ => ⟨S1x336x1024, .f32⟩
  | .hbm, ⟨4, _⟩ => ⟨S1x336x1024, .f32⟩
  | .hbm, ⟨5, _⟩ => ⟨S1x336x1024, .f32⟩
  | .hbm, ⟨6, _⟩ => ⟨S1x336x1024, .f32⟩
  | .hbm, ⟨7, _⟩ => ⟨S1x336x1024, .f32⟩
  | .hbm, ⟨8, _⟩ => ⟨S1x336x1024, .f32⟩
  | .local _ .vmem, ⟨0, _⟩ => ⟨S8x168x1024, .f32⟩
  | .local _ .vmem, ⟨1, _⟩ => ⟨S8x168x1024, .f32⟩
  | .local _ .vmem, ⟨2, _⟩ => ⟨S1x168x1024, .f32⟩
  | .local _ .vmem, ⟨3, _⟩ => ⟨S1x168x1024, .f32⟩
  | .local _ .vmem, ⟨4, _⟩ => ⟨S1x168x1024, .f32⟩
  | .local _ .vmem, ⟨5, _⟩ => ⟨S1x168x1024, .f32⟩
  | .local _ .vmem, ⟨6, _⟩ => ⟨S1x168x1024, .f32⟩
  | .local _ .vmem, ⟨7, _⟩ => ⟨S1x168x1024, .f32⟩
  | .local _ .vmem, ⟨8, _⟩ => ⟨S1x168x1024, .f32⟩
  | .local _ .vmem, ⟨9, _⟩ => ⟨S1x168x1024, .f32⟩
  | .local _ .vmem, ⟨10, _⟩ => ⟨S1x168x1024, .f32⟩
  | .local _ .vmem, ⟨11, _⟩ => ⟨S1x168x1024, .f32⟩
  | .local _ .vmem, ⟨12, _⟩ => ⟨S1x168x1024, .f32⟩
  | .local _ .vmem, ⟨13, _⟩ => ⟨S1x168x1024, .f32⟩
  | .local _ .vmem, ⟨14, _⟩ => ⟨S1x168x1024, .f32⟩
  | .local _ .vmem, ⟨15, _⟩ => ⟨S1x168x1024, .f32⟩
  | .local _ .vmem, ⟨16, _⟩ => ⟨S1x168x1024, .f32⟩
  | .local _ .vmem, ⟨17, _⟩ => ⟨S1x168x1024, .f32⟩
  | _, _ => ⟨S8x336x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.muli c1_i32_0 arg0
  let v3 : BitVec 32 := Scalar.addi v1 v2
  let c0_i32 : BitVec 32 := 0#32
  let c0_i32_1 : BitVec 32 := 0#32
  let c0_i32_2 : BitVec 32 := 0#32
  ![c0_i32.toNat, v3.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x168x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x168x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x168x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x168x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x168x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x168x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x168x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x168x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x168x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference23Ideal.lean ====
abbrev S8x336x1024 : Shape := ⟨3, ![8, 336, 1024]⟩
abbrev S1x336x1024 : Shape := ⟨3, ![1, 336, 1024]⟩
abbrev S_ : Shape := ⟨0, ![]⟩
abbrev S336x1024 : Shape := ⟨2, ![336, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x336x1024, .f32⟩
  | .hbm, ⟨1, _⟩ => ⟨S1x336x1024, .f32⟩
  | .hbm, ⟨2, _⟩ => ⟨S1x336x1024, .f32⟩
  | .hbm, ⟨3, _⟩ => ⟨S1x336x1024, .f32⟩
  | .hbm, ⟨4, _⟩ => ⟨S1x336x1024, .f32⟩
  | .hbm, ⟨5, _⟩ => ⟨S_, .f32⟩
  | .hbm, ⟨6, _⟩ => ⟨S336x1024, .f32⟩
  | .hbm, ⟨7, _⟩ => ⟨S1x336x1024, .f32⟩
  | .hbm, ⟨8, _⟩ => ⟨S1x336x1024, .f32⟩
  | .hbm, ⟨9, _⟩ => ⟨S_, .f32⟩
  | .hbm, ⟨10, _⟩ => ⟨S1x336x1024, .f32⟩
  | .hbm, ⟨11, _⟩ => ⟨S1x336x1024, .f32⟩
  | .hbm, ⟨12, _⟩ => ⟨S_, .f32⟩
  | .hbm, ⟨13, _⟩ => ⟨S1x336x1024, .f32⟩
  | .hbm, ⟨14, _⟩ => ⟨S1x336x1024, .f32⟩
  | .hbm, ⟨15, _⟩ => ⟨S1x336x1024, .f32⟩
  | .hbm, ⟨16, _⟩ => ⟨S_, .f32⟩
  | .hbm, ⟨17, _⟩ => ⟨S1x336x1024, .f32⟩
  | .hbm, ⟨18, _⟩ => ⟨S1x336x1024, .f32⟩
  | .hbm, ⟨19, _⟩ => ⟨S1x336x1024, .f32⟩
  | .hbm, ⟨20, _⟩ => ⟨S_, .f32⟩
  | .hbm, ⟨21, _⟩ => ⟨S1x336x1024, .f32⟩
  | .hbm, ⟨22, _⟩ => ⟨S1x336x1024, .f32⟩
  | .hbm, ⟨23, _⟩ => ⟨S1x336x1024, .f32⟩
  | .hbm, ⟨24, _⟩ => ⟨S_, .f32⟩
  | .hbm, ⟨25, _⟩ => ⟨S1x336x1024, .f32⟩
  | .hbm, ⟨26, _⟩ => ⟨S1x336x1024, .f32⟩
  | .hbm, ⟨27, _⟩ => ⟨S_, .f32⟩
  | .hbm, ⟨28, _⟩ => ⟨S1x336x1024, .f32⟩
  | .hbm, ⟨29, _⟩ => ⟨S1x336x1024, .f32⟩
  | .hbm, ⟨30, _⟩ => ⟨S1x336x1024, .f32⟩
  | .hbm, ⟨31, _⟩ => ⟨S_, .f32⟩
  | .hbm, ⟨32, _⟩ => ⟨S1x336x1024, .f32⟩
  | .hbm, ⟨33, _⟩ => ⟨S1x336x1024, .f32⟩
  | .hbm, ⟨34, _⟩ => ⟨S1x336x1024, .f32⟩
  | .hbm, ⟨35, _⟩ => ⟨S_, .f32⟩
  | .hbm, ⟨36, _⟩ => ⟨S1x336x1024, .f32⟩
  | .hbm, ⟨37, _⟩ => ⟨S1x336x1024, .f32⟩
  | .hbm, ⟨38, _⟩ => ⟨S1x336x1024, .f32⟩
  | .hbm, ⟨39, _⟩ => ⟨S_, .f32⟩
  | .hbm, ⟨40, _⟩ => ⟨S1x336x1024, .f32⟩
  | .hbm, ⟨41, _⟩ => ⟨S1x336x1024, .f32⟩
  | _, _ => ⟨S8x336x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel24.lean ====
abbrev S2x1024 : Shape := ⟨2, ![2, 1024]⟩
abbrev S_ : Shape := ⟨0, ![]⟩
abbrev S1x1024 : Shape := ⟨2, ![1, 1024]⟩

abbrev nBuf : Space → Nat
  | .hbm => 12
  | .vmem => 6
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S2x1024, .f32⟩
  | .hbm, ⟨8, _⟩ => ⟨S1x1024, .f32⟩
  | .hbm, ⟨9, _⟩ => ⟨S2x1024, .f32⟩
  | .hbm, ⟨10, _⟩ => ⟨S2x1024, .f32⟩
  | .hbm, ⟨11, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference24Ideal.lean ====
abbrev S2x1024 : Shape := ⟨2, ![2, 1024]⟩
abbrev S_ : Shape := ⟨0, ![]⟩
abbrev S1024 : Shape := ⟨1, ![1024]⟩
abbrev S1x1024 : Shape := ⟨2, ![1, 1024]⟩

abbrev nBuf : Space → Nat
  | .hbm => 142
  | .vmem => 0
  | .smem => 0
  | _ => 0

abbrev hbmTy0_0 (i : Nat) : BufTy := match i % 128 with
  | 0 => ⟨S2x1024, .f32⟩
  | 1 => ⟨S2x1024, .f32⟩
  | 2 => ⟨S2x1024, .f32⟩
  | 3 => ⟨S2x1024, .f32⟩
  | 4 => ⟨S_, .f32⟩
  | 5 => ⟨S1024, .f32⟩
  | 6 => ⟨S1x1024, .f32⟩
  | 7 => ⟨S2x1024, .f32⟩
  | 8 => ⟨S2x1024, .i1⟩
  | 9 => ⟨S2x1024, .f32⟩
  | 10 => ⟨S_, .f32⟩
  | 11 => ⟨S1024, .f32⟩
  | 12 => ⟨S_, .f32⟩
  | 13 => ⟨S1024, .f32⟩
  | 14 => ⟨S1024, .f32⟩
  | 15 => ⟨S_, .f32⟩
  | 16 => ⟨S1024, .f32⟩
  | 17 => ⟨S1024, .i1⟩
  | 18 => ⟨S_, .f32⟩
  | 19 => ⟨S1024, .f32⟩
  | 20 => ⟨S1024, .i1⟩
  | 21 => ⟨S_, .f32⟩
  | 22 => ⟨S1024, .f32⟩
  | 23 => ⟨S_, .f32⟩
  | 24 => ⟨S1024, .f32⟩
  | 25 => ⟨S_, .f32⟩
  | 26 => ⟨S1024, .f32⟩
  | 27 => ⟨S1024, .f32⟩
  | 28 => ⟨S1024, .f32⟩
  | 29 => ⟨S1x1024, .f32⟩
  | 30 => ⟨S2x1024, .f32⟩
  | 31 => ⟨S2x1024, .f32⟩
  | 32 => ⟨S2x1024, .f32⟩
  | 33 => ⟨S_, .f32⟩
  | 34 => ⟨S1024, .f32⟩
  | 35 => ⟨S1x1024, .f32⟩
  | 36 => ⟨S2x1024, .f32⟩
  | 37 => ⟨S2x1024, .f32⟩
  | 38 => ⟨S1x1024, .f32⟩
  | 39 => ⟨S_, .f32⟩
  | 40 => ⟨S1x1024, .f32⟩
  | 41 => ⟨S1x1024, .f32⟩
  | 42 => ⟨S_, .f32⟩
  | 43 => ⟨S_, .f32⟩
  | 44 => ⟨S2x1024, .f32⟩
  | 45 => ⟨S1x1024, .f32⟩
  | 46 => ⟨S2x1024, .f32⟩
  | 47 => ⟨S2x1024, .f32⟩
  | 48 => ⟨S2x1024, .f32⟩
  | 49 => ⟨S2x1024, .f32⟩
  | 50 => ⟨S_, .f32⟩
  | 51 => ⟨S1024, .f32⟩
  | 52 => ⟨S1x1024, .f32⟩
  | 53 => ⟨S_, .f32⟩
  | 54 => ⟨S2x1024, .f32⟩
  | 55 => ⟨S_, .f32⟩
  | 56 => ⟨S_, .f32⟩
  | 57 => ⟨S2x1024, .f32⟩
  | 58 => ⟨S2x1024, .f32⟩
  | 59 => ⟨S2x1024, .f32⟩
  | 60 => ⟨S2x1024, .f32⟩
  | 61 => ⟨S2x1024, .f32⟩
  | 62 => ⟨S_, .f32⟩
  | 63 => ⟨S1024, .f32⟩
  | 64 => ⟨S1x1024, .f32⟩
  | 65 => ⟨S1x1024, .f32⟩
  | 66 => ⟨S2x1024, .f32⟩
  | 67 => ⟨S2x1024, .f32⟩
  | 68 => ⟨S_, .f32⟩
  | 69 => ⟨S1024, .f32⟩
  | 70 => ⟨S2x1024, .f32⟩
  | 71 => ⟨S2x1024, .f32⟩
  | 72 => ⟨S2x1024, .f32⟩
  | 73 => ⟨S_, .f32⟩
  | 74 => ⟨S1024, .f32⟩
  | 75 => ⟨S1x1024, .f32⟩
  | 76 => ⟨S2x1024, .f32⟩
  | 77 => ⟨S2x1024, .i1⟩
  | 78 => ⟨S2x1024, .f32⟩
  | 79 => ⟨S_, .f32⟩
  | 80 => ⟨S1024, .f32⟩
  | 81 => ⟨S_, .f32⟩
  | 82 => ⟨S1024, .f32⟩
  | 83 => ⟨S1024, .f32⟩
  | 84 => ⟨S_, .f32⟩
  | 85 => ⟨S1024, .f32⟩
  | 86 => ⟨S1024, .i1⟩
  | 87 => ⟨S_, .f32⟩
  | 88 => ⟨S1024, .f32⟩
  | 89 => ⟨S1024, .i1⟩
  | 90 => ⟨S_, .f32⟩
  | 91 => ⟨S1024, .f32⟩
  | 92 => ⟨S_, .f32⟩
  | 93 => ⟨S1024, .f32⟩
  | 94 => ⟨S_, .f32⟩
  | 95 => ⟨S1024, .f32⟩
  | 96 => ⟨S1024, .f32⟩
  | 97 => ⟨S1024, .f32⟩
  | 98 => ⟨S1x1024, .f32⟩
  | 99 => ⟨S2x1024, .f32⟩
  | 100 => ⟨S2x1024, .f32⟩
  | 101 => ⟨S2x1024, .f32⟩
  | 102 => ⟨S_, .f32⟩
  | 103 => ⟨S1024, .f32⟩
  | 104 => ⟨S1x1024, .f32⟩
  | 105 => ⟨S2x1024, .f32⟩
  | 106 => ⟨S2x1024, .f32⟩
  | 107 => ⟨S1x1024, .f32⟩
  | 108 => ⟨S_, .f32⟩
  | 109 => ⟨S1x1024, .f32⟩
  | 110 => ⟨S1x1024, .f32⟩
  | 111 => ⟨S_, .f32⟩
  | 112 => ⟨S_, .f32⟩
  | 113 => ⟨S2x1024, .f32⟩
  | 114 => ⟨S1x1024, .f32⟩
  | 115 => ⟨S2x1024, .f32⟩
  | 116 => ⟨S2x1024, .f32⟩
  | 117 => ⟨S2x1024, .f32⟩
  | 118 => ⟨S2x1024, .f32⟩
  | 119 => ⟨S_, .f32⟩
  | 120 => ⟨S1024, .f32⟩
  | 121 => ⟨S1x1024, .f32⟩
  | 122 => ⟨S_, .f32⟩
  | 123 => ⟨S2x1024, .f32⟩
  | 124 => ⟨S_, .f32⟩
  | 125 => ⟨S_, .f32⟩
  | 126 => ⟨S2x1024, .f32⟩
  | 127 => ⟨S2x1024, .f32⟩
  | _ => ⟨S2x1024, .f32⟩

abbrev hbmTy0_1 (i : Nat) : BufTy := match i % 128 with
  | 0 => ⟨S2x1024, .f32⟩
  | 1 => ⟨S2x1024, .f32⟩
  | 2 => ⟨S2x1024, .f32⟩
  | 3 => ⟨S_, .f32⟩
  | 4 => ⟨S1024, .f32⟩
  | 5 => ⟨S1x1024, .f32⟩
  | 6 => ⟨S1x1024, .f32⟩
  | 7 => ⟨S2x1024, .f32⟩
  | 8 => ⟨S2x1024, .f32⟩
  | 9 => ⟨S_, .f32⟩
  | 10 => ⟨S1024, .f32⟩
  | 11 => ⟨S2x1024, .f32⟩
  | 12 => ⟨S2x1024, .f32⟩
  | 13 => ⟨S2x1024, .f32⟩
  | _ => ⟨S2x1024, .f32⟩

abbrev hbmTy (i : Nat) : BufTy := match i / 128 with
  | 0 => hbmTy0_0 i
  | 1 => hbmTy0_1 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_call0_call0_cst : Ref sig .tc := ⟨.hbm, 42, rfl⟩
abbrev main_call0_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_call1_call0_cst : Ref sig .tc := ⟨.hbm, 55, rfl⟩
abbrev main_call1_call0_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩
abbrev main_v58 : Ref sig .tc := ⟨.hbm, 83, rfl⟩
abbrev main_cst_16 : Ref sig .tc := ⟨.hbm, 84, rfl⟩
abbrev main_v59 : Ref sig .tc := ⟨.hbm, 85, rfl⟩
abbrev main_v60 : Ref sig .tc := ⟨.hbm, 86, rfl⟩
abbrev main_cst_17 : Ref sig .tc := ⟨.hbm, 87, rfl⟩
abbrev main_v61 : Ref sig .tc := ⟨.hbm, 88, rfl⟩
abbrev main_v62 : Ref sig .tc := ⟨.hbm, 89, rfl⟩
abbrev main_cst_18 : Ref sig .tc := ⟨.hbm, 90, rfl⟩
abbrev main_v63 : Ref sig .tc := ⟨.hbm, 91, rfl⟩
abbrev main_cst_19 : Ref sig .tc := ⟨.hbm, 92, rfl⟩
abbrev main_v64 : Ref sig .tc := ⟨.hbm, 93, rfl⟩
abbrev main_cst_20 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_21 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_22 : Ref sig .tc := ⟨.hbm, 108, rfl⟩
abbrev main_v77 : Ref sig .tc := ⟨.hbm, 109, rfl⟩
abbrev main_v78 : Ref sig .tc := ⟨.hbm, 110, rfl⟩
abbrev main_call2_call0_cst : Ref sig .tc := ⟨.hbm, 111, rfl⟩
abbrev main_call2_call0_v0 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_23 : Ref sig .tc := ⟨.hbm, 119, rfl⟩
abbrev main_v85 : Ref sig .tc := ⟨.hbm, 120, rfl⟩
abbrev main_v86 : Ref sig .tc := ⟨.hbm, 121, rfl⟩
abbrev main_cst_24 : Ref sig .tc := ⟨.hbm, 122, rfl⟩
abbrev main_v87 : Ref sig .tc := ⟨.hbm, 123, rfl⟩
abbrev main_call3_call0_cst : Ref sig .tc := ⟨.hbm, 124, rfl⟩
abbrev main_call3_call0_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_25 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_26 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩

abbrev nD : Nat := 1
abbrev τ : Topo := Topo.v7x

variable {F : FTy → Type} [FloatOps F]
-- ==== Kernel25.lean ====
abbrev S16384x1024 : Shape := ⟨2, ![16384, 1024]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .hbm, ⟨5, _⟩ => ⟨S1x1024, .f32⟩
  | .hbm, ⟨6, _⟩ => ⟨S16384x1024, .bf16⟩
  | .hbm, ⟨7, _⟩ => ⟨S16384x1024, .bf16⟩
  | .hbm, ⟨8, _⟩ => ⟨S16384x1024, .f32⟩
  | .hbm, ⟨9, _⟩ => ⟨S16384x1024, .bf16⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg0 : BitVec 32 := BitVec.ofNat 32 (i 0).val
  let c0_i32 : BitVec 32 := 0#32
  let v99 : BitVec 1 := Scalar.cmpi .eq arg0 c0_i32
  let v100 : BitVec 32 := Scalar.extui v99
  let c0_i32_67 : BitVec 32 := 0#32
  let v101 : BitVec 1 := Scalar.cmpi .ne v100 c0_i32_67
  v101

def k0_cond2 (i : grid0.Coords) : BitVec 1 :=
  let arg0 : BitVec 32 := BitVec.ofNat 32 (i 0).val
  let c0_i32_68 : BitVec 32 := 0#32
  let v102 : BitVec 1 := Scalar.cmpi .sgt arg0 c0_i32_68
  let v103 : BitVec 32 := Scalar.extui v102
  let c0_i32_69 : BitVec 32 := 0#32
  let v104 : BitVec 1 := Scalar.cmpi .ne v103 c0_i32_69
  v104

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference25Ideal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .hbm, ⟨5, _⟩ => ⟨S1x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .bf16⟩
  | .hbm, ⟨74, _⟩ => ⟨S16384x1024, .bf16⟩
  | .hbm, ⟨75, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Kernel26.lean ====
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_15 : BitVec 32 := 0#32
  let v20 : BitVec 1 := Scalar.cmpi .ne v19 c0_i32_15
  v20

def k0_cond2 (i : grid0.Coords) : BitVec 1 :=
  let arg0 : BitVec 32 := BitVec.ofNat 32 (i 0).val
  let c0_i32_16 : BitVec 32 := 0#32
  let v21 : BitVec 1 := Scalar.cmpi .sgt arg0 c0_i32_16
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference26Ideal.lean ====
abbrev S16384x1024 : Shape := ⟨2, ![16384, 1024]⟩
abbrev S1024x1024 : Shape := ⟨2, ![1024, 1024]⟩
abbrev S_ : Shape := ⟨0, ![]⟩
abbrev S16384 : Shape := ⟨1, ![16384]⟩
abbrev S1024 : Shape := ⟨1, ![1024]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_cst_8 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel27.lean ====
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference27Ideal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel28.lean ====
abbrev S16384x1024 : Shape := ⟨2, ![16384, 1024]⟩
abbrev S16384x8192 : Shape := ⟨2, ![16384, 8192]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 11
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x8192, .f32⟩
  | .hbm, ⟨3, _⟩ => ⟨S1024x1024, .bf16⟩
  | .hbm, ⟨4, _⟩ => ⟨S16384x1024, .f32⟩
  | .hbm, ⟨5, _⟩ => ⟨S1x1024, .f32⟩
  | .hbm, ⟨6, _⟩ => ⟨S1x1024, .f32⟩
  | .hbm, ⟨7, _⟩ => ⟨S16384x1024, .bf16⟩
  | .hbm, ⟨8, _⟩ => ⟨S16384x1024, .f32⟩
  | .hbm, ⟨9, _⟩ => ⟨S16384x1024, .f32⟩
  | .hbm, ⟨10, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference28Ideal.lean ====
abbrev S16384x1024 : Shape := ⟨2, ![16384, 1024]⟩
abbrev S16384x8192 : Shape := ⟨2, ![16384, 8192]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x8192, .f32⟩
  | .hbm, ⟨3, _⟩ => ⟨S1024x1024, .bf16⟩
  | .hbm, ⟨4, _⟩ => ⟨S16384x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1024x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .bf16⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Kernel29.lean ====
abbrev S16384x6144 : Shape := ⟨2, ![16384, 6144]⟩
abbrev S3072x1024 : Shape := ⟨2, ![3072, 1024]⟩
abbrev S16384x1024 : Shape := ⟨2, ![16384, 1024]⟩
abbrev S1x1024 : Shape := ⟨2, ![1, 1024]⟩
abbrev S16384x3072 : Shape := ⟨2, ![16384, 3072]⟩
abbrev S1024x1024 : Shape := ⟨2, ![1024, 1024]⟩
abbrev S1024x256 : Shape := ⟨2, ![1024, 256]⟩
abbrev S256x1024 : Shape := ⟨2, ![256, 1024]⟩
abbrev S1024 : Shape := ⟨1, ![1024]⟩
abbrev S1024x1 : Shape := ⟨2, ![1024, 1]⟩

abbrev nBuf : Space → Nat
  | .hbm => 7
  | .vmem => 15
  | .smem => 0
  | _ => 0

abbrev bufTy : (tb : Table) → Fin (tcTables nBuf tb) → BufTy
  | .hbm, ⟨0, _⟩ => ⟨S16384x6144, .bf16⟩
  | .hbm, ⟨1, _⟩ => ⟨S3072x1024, .bf16⟩
  | .hbm, ⟨2, _⟩ => ⟨S16384x1024, .f32⟩
  | .hbm, ⟨3, _⟩ => ⟨S1x1024, .f32⟩
  | .hbm, ⟨4, _⟩ => ⟨S16384x3072, .bf16⟩
  | .hbm, ⟨5, _⟩ => ⟨S16384x1024, .f32⟩
  | .hbm, ⟨6, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S3072x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 3], ![false, false]⟩

def k0_mult1 (i : grid0.Coords) : BitVec 32 :=
  let arg1 : BitVec 32 := BitVec.ofNat 32 (i 1).val
  let c0_i32 : BitVec 32 := 0#32
  let v9 : BitVec 32 := Scalar.addi arg1 c0_i32
  let c1024_i32 : BitVec 32 := 1024#32
  let v10 : BitVec 32 := Scalar.muli v9 c1024_i32
  let c0_i32_5 : BitVec 32 := 0#32
  let v11 : BitVec 32 := Scalar.addi v10 c0_i32_5
  v11
def k0_off1 (i : grid0.Coords) (c0_i32_5 : BitVec 32) : Fin 2 → Nat :=
  let arg1 : BitVec 32 := BitVec.ofNat 32 (i 1).val
  let c0_i32 : BitVec 32 := 0#32
  let v9 : BitVec 32 := Scalar.addi arg1 c0_i32
  let c1024_i32 : BitVec 32 := 1024#32
  let v10 : BitVec 32 := Scalar.muli v9 c1024_i32
  let v11 : BitVec 32 := Scalar.addi v10 c0_i32_5
  let v12 : BitVec 32 := v11
  let v13 : Index := Scalar.indexCast v12
  let c0_6 : Index := 0#32
  ![v13.toNat, 0]
def k0_mult2 (i : grid0.Coords) : BitVec 32 :=
  let arg1 : BitVec 32 := BitVec.ofNat 32 (i 1).val
  let c0_i32_12 : BitVec 32 := 0#32
  let v25 : BitVec 32 := Scalar.addi arg1 c0_i32_12
  let c1024_i32_13 : BitVec 32 := 1024#32
  let v26 : BitVec 32 := Scalar.muli v25 c1024_i32_13
  let c256_i32 : BitVec 32 := 256#32
  let v27 : BitVec 32 := Scalar.addi v26 c256_i32
  v27
def k0_mult3 (i : grid0.Coords) : BitVec 32 :=
  let arg1 : BitVec 32 := BitVec.ofNat 32 (i 1).val
  let c0_i32_21 : BitVec 32 := 0#32
  let v42 : BitVec 32 := Scalar.addi arg1 c0_i32_21
  let c1024_i32_22 : BitVec 32 := 1024#32
  let v43 : BitVec 32 := Scalar.muli v42 c1024_i32_22
  let c512_i32 : BitVec 32 := 512#32
  let v44 : BitVec 32 := Scalar.addi v43 c512_i32
  v44
def k0_mult4 (i : grid0.Coords) : BitVec 32 :=
  let arg1 : BitVec 32 := BitVec.ofNat 32 (i 1).val
  let c0_i32_30 : BitVec 32 := 0#32
  let v59 : BitVec 32 := Scalar.addi arg1 c0_i32_30
  let c1024_i32_31 : BitVec 32 := 1024#32
  let v60 : BitVec 32 := Scalar.muli v59 c1024_i32_31
  let c768_i32 : BitVec 32 := 768#32
  let v61 : BitVec 32 := Scalar.addi v60 c768_i32
  v61
def k0_cond3 (i : grid0.Coords) : BitVec 1 :=
  let arg1 : BitVec 32 := BitVec.ofNat 32 (i 1).val
  let c2_i32 : BitVec 32 := 2#32
  let v73 : BitVec 1 := Scalar.cmpi .eq arg1 c2_i32
  let v74 : BitVec 32 := Scalar.extui v73
  let c0_i32_38 : BitVec 32 := 0#32
  let v75 : BitVec 1 := Scalar.cmpi .ne v74 c0_i32_38
  v75

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference29Ideal.lean ====
abbrev S16384x6144 : Shape := ⟨2, ![16384, 6144]⟩
abbrev S3072x1024 : Shape := ⟨2, ![3072, 1024]⟩
abbrev S16384x1024 : Shape := ⟨2, ![16384, 1024]⟩
abbrev S1x1024 : Shape := ⟨2, ![1, 1024]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S3072x1024, .bf16⟩
  | .hbm, ⟨2, _⟩ => ⟨S16384x1024, .f32⟩
  | .hbm, ⟨3, _⟩ => ⟨S1x1024, .f32⟩
  | .hbm, ⟨4, _⟩ => ⟨S16384x3072, .bf16⟩
  | .hbm, ⟨5, _⟩ => ⟨S16384x3072, .f32⟩
  | .hbm, ⟨6, _⟩ => ⟨S16384x3072, .bf16⟩
  | .hbm, ⟨7, _⟩ => ⟨S16384x3072, .f32⟩
  | .hbm, ⟨8, _⟩ => ⟨S16384x3072, .f32⟩
  | .hbm, ⟨9, _⟩ => ⟨S16384x3072, .f32⟩
  | .hbm, ⟨10, _⟩ => ⟨S_, .f32⟩
  | .hbm, ⟨11, _⟩ => ⟨S16384x3072, .f32⟩
  | .hbm, ⟨12, _⟩ => ⟨S16384x3072, .f32⟩
  | .hbm, ⟨13, _⟩ => ⟨S_, .f32⟩
  | .hbm, ⟨14, _⟩ => ⟨S16384x3072, .f32⟩
  | .hbm, ⟨15, _⟩ => ⟨S16384x3072, .f32⟩
  | .hbm, ⟨16, _⟩ => ⟨S16384x3072, .f32⟩
  | .hbm, ⟨17, _⟩ => ⟨S16384x3072, .f32⟩
  | .hbm, ⟨18, _⟩ => ⟨S3072x1024, .f32⟩
  | .hbm, ⟨19, _⟩ => ⟨S16384x1024, .f32⟩
  | .hbm, ⟨20, _⟩ => ⟨S16384x3072, .bf16⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Proof.SgMix.lean ====
/- The mixing of the rows of a chunk by the weights of a lane group, forward and transposed, and the gradient of those
   weights, as the kernel evaluates them on one block of 512 rows. -/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Sg
open Cert.KernelIdeal Cert.KernelIdeal.Gen

/-- Row `r` of the mixed values: the weights of the lane group of column `q` on the rows of `r`'s chunk. -/
def mix (w v : ℕ → ℕ → EReal) (r q : ℕ) : EReal := ∑ s : Fin 128, w (128 * (q / 64) + r % 128) s.val * v (128 * (r / 128) + s.val) q

/-- The transposed mixing. -/
def mixT (w v : ℕ → ℕ → EReal) (r q : ℕ) : EReal := ∑ t : Fin 128, w (128 * (q / 64) + t.val) (r % 128) * v (128 * (r / 128) + t.val) q

/-- What chunk `c` adds to the gradient of the weights of lane group `g`. -/
def dwc (d v : ℕ → ℕ → EReal) (g t s c : ℕ) : EReal := ∑ e : Fin 64, d (128 * c + t) (64 * g + e.val) * v (128 * c + s) (64 * g + e.val)

/-- The four chunks of a block. -/
def dw4 (d v : ℕ → ℕ → EReal) (g t s : ℕ) : EReal := dwc d v g t s 0 + dwc d v g t s 1 + dwc d v g t s 2 + dwc d v g t s 3

theorem mul_idx (w v : ℕ → ℕ → EReal) {a a' b b' c c' d d' : ℕ} (h1 : a = a') (h2 : b = b') (h3 : c = c') (h4 : d = d') :
    w a b * v c d = w a' b' * v c' d' := by rw [h1, h2, h3, h4]

/-- A selection on a lane number below 64. -/
theorem sel_lt {α : Type} (x y : α) (n : ℕ) (hn : n < 128) :
    Scalar.select (IntOp.cmpi CmpIPredicate.slt (BitVec.ofNat 32 n) 64#32) x y = if n < 64 then x else y := by
  have h : IntOp.cmpi CmpIPredicate.slt (BitVec.ofNat 32 n) 64#32 = BitVec.ofBool (decide (n < 64)) := by
    have h2 : ∀ k : Fin 128, IntOp.cmpi CmpIPredicate.slt (BitVec.ofNat 32 k.val) 64#32 = BitVec.ofBool (decide (k.val < 64)) := by decide +kernel
    exact h2 ⟨n, hn⟩
  rw [h]
  by_cases h3 : n < 64 <;> simp [h3, Scalar.select]

/-- A selection on a lane number not below 64. -/
theorem sel_ge {α : Type} (x y : α) (n : ℕ) (hn : n < 128) :
    Scalar.select (IntOp.xori (IntOp.cmpi CmpIPredicate.slt (BitVec.ofNat 32 n) 64#32) 1#1) x y = if n < 64 then y else x := by
  have h : IntOp.xori (IntOp.cmpi CmpIPredicate.slt (BitVec.ofNat 32 n) 64#32) 1#1 = BitVec.ofBool (decide (¬n < 64)) := by
    have h2 : ∀ k : Fin 128, IntOp.xori (IntOp.cmpi CmpIPredicate.slt (BitVec.ofNat 32 k.val) 64#32) 1#1 = BitVec.ofBool (decide (¬k.val < 64)) := by decide +kernel
    exact h2 ⟨n, hn⟩
  rw [h]
  by_cases h3 : n < 64 <;> simp [h3, Scalar.select]

/-- A sum over 128 lanes whose upper half is zero. -/
theorem grp_lo (d v : ℕ → ℕ → EReal) (g c t s : ℕ) (f : Fin 128 → EReal)
    (h : ∀ x : Fin 128, x.val < 64 → f x = d (128 * c + t) (64 * g + x.val) * v (128 * c + s) (64 * g + x.val)) (h0 : ∀ x : Fin 128, ¬x.val < 64 → f x = 0) :
    ∑ x, f x = dwc d v g t s c := by
  unfold dwc
  rw [Fin.sum_univ_two_halves 64 64 rfl f]
  refine (congrArg₂ HAdd.hAdd (Finset.sum_congr rfl fun e _ => h _ e.isLt)
    (Finset.sum_congr rfl fun (e : Fin 64) _ => h0 _ (by show ¬64 + e.val < 64; omega))).trans ?_
  simp

/-- A sum over 128 lanes whose lower half is zero. -/
theorem grp_hi (d v : ℕ → ℕ → EReal) (g c t s : ℕ) (f : Fin 128 → EReal)
    (h : ∀ x : Fin 128, ¬x.val < 64 → f x = d (128 * c + t) (64 * g + (x.val - 64)) * v (128 * c + s) (64 * g + (x.val - 64))) (h0 : ∀ x : Fin 128, x.val < 64 → f x = 0) :
    ∑ x, f x = dwc d v g t s c := by
  unfold dwc
  rw [Fin.sum_univ_two_halves 64 64 rfl f]
  refine (congrArg₂ HAdd.hAdd (Finset.sum_congr rfl fun e _ => h0 _ e.isLt)
    (Finset.sum_congr rfl fun (e : Fin 64) _ => h _ (by show ¬64 + e.val < 64; omega))).trans ?_
  simp

section
variable {v4 : FVec Ideal S1024x128 .bf16} {v36 x0 x1 : FVec Ideal S512x512 .f32} {w v d : ℕ → ℕ → EReal}
  (h4 : ∀ (a : Fin 1024) (b : Fin 128), v4 (ix2 a b) = w a.val b.val)
  (h36 : ∀ (a : Fin 512) (b : Fin 512), v36 (ix2 a b) = v a.val b.val)
  (hd : ∀ (a : Fin 512) (b : Fin 512), k0_pay36 (F := Ideal) x0 x1 (ix2 a b) = d a.val b.val)

include h36 in
theorem pay15_at (a b : Fin 512) : k0_pay15 (F := Ideal) v36 (ix2 a b) = v a.val b.val := h36 a b

include h4 h36 in
theorem fw0_at (p : Fin 128) (l : Fin 512) :
    (k0_pay16 v4 v36 : FVec Ideal S128x512 .f32) (ix2 p l) = mix w v (p.val) l.val := by
  pointwise [k0_pay16]
  simp only [h4, pay15_at h36]
  split_ifs with a1 a2 a3
  all_goals
    rw [sel_lt _ _ _ (by omega)]
    split_ifs
    all_goals
      unfold mix
      exact Finset.sum_congr rfl fun s _ => mul_idx w v (by omega) (by omega) (by omega) (by omega)

include h4 h36 in
theorem fw1_at (p : Fin 128) (l : Fin 512) :
    (k0_pay21 v4 (k0_pay15 v36) (k0_pay17 v36) (k0_pay18 v4) k0_pay19 (k0_pay20 v4 v36) (constant S128x128 .f32 0x00000000#32) : FVec Ideal S128x512 .f32) (ix2 p l) = mix w v (128 + p.val) l.val := by
  pointwise [k0_pay21, k0_pay17, k0_pay18, k0_pay19, k0_pay20]
  simp only [h4, pay15_at h36]
  split_ifs with a1 a2 a3
  all_goals
    rw [sel_lt _ _ _ (by omega)]
    split_ifs
    all_goals
      unfold mix
      exact Finset.sum_congr rfl fun s _ => mul_idx w v (by omega) (by omega) (by omega) (by omega)

include h4 h36 in
theorem fw2_at (p : Fin 128) (l : Fin 512) :
    (k0_pay27 v4 (k0_pay15 v36) (k0_pay22 v4 (k0_pay15 v36)) (k0_pay23 (k0_pay15 v36)) (k0_pay24 v4) k0_pay25 (k0_pay26 v4 (k0_pay15 v36)) : FVec Ideal S128x512 .f32) (ix2 p l) = mix w v (256 + p.val) l.val := by
  pointwise [k0_pay27, k0_pay22, k0_pay23, k0_pay24, k0_pay25, k0_pay26]
  simp only [h4, pay15_at h36]
  split_ifs with a1 a2 a3
  all_goals
    rw [sel_lt _ _ _ (by omega)]
    split_ifs
    all_goals
      unfold mix
      exact Finset.sum_congr rfl fun s _ => mul_idx w v (by omega) (by omega) (by omega) (by omega)

include h4 hd in
theorem bw0_at (p : Fin 128) (l : Fin 512) :
    (k0_pay40 v4 (k0_pay36 x0 x1) (k0_pay37 x0 x1) (k0_pay38 v4) (k0_pay39 v4) (iota .tc S128x128 32 [1] iota_S128x128_d1_w32) 64#32 : FVec Ideal S128x512 .f32) (ix2 p l) = mixT w d (p.val) l.val := by
  pointwise [k0_pay40, k0_pay37, k0_pay38, k0_pay39]
  simp only [h4, hd]
  split_ifs with a1 a2 a3
  all_goals
    rw [sel_lt _ _ _ (by omega)]
    split_ifs
    all_goals
      unfold mixT
      exact Finset.sum_congr rfl fun s _ => mul_idx w d (by omega) (by omega) (by omega) (by omega)

include h4 hd in
theorem bw1_at (p : Fin 128) (l : Fin 512) :
    (k0_pay45 v4 (k0_pay36 x0 x1) (k0_pay41 v4 (k0_pay36 x0 x1)) (k0_pay42 (k0_pay36 x0 x1)) (k0_pay43 v4) (k0_pay44 v4) (iota .tc S128x128 32 [1] iota_S128x128_d1_w32) : FVec Ideal S128x512 .f32) (ix2 p l) = mixT w d (128 + p.val) l.val := by
  pointwise [k0_pay45, k0_pay41, k0_pay42, k0_pay43, k0_pay44]
  simp only [h4, hd]
  split_ifs with a1 a2 a3
  all_goals
    rw [sel_lt _ _ _ (by omega)]
    split_ifs
    all_goals
      unfold mixT
      exact Finset.sum_congr rfl fun s _ => mul_idx w d (by omega) (by omega) (by omega) (by omega)

include h4 hd in
theorem bw2_at (p : Fin 128) (l : Fin 512) :
    (k0_pay51 v4 (k0_pay36 x0 x1) (k0_pay46 v4 (k0_pay36 x0 x1)) (k0_pay47 v4 (k0_pay36 x0 x1)) (k0_pay48 (k0_pay36 x0 x1)) (k0_pay49 v4) (k0_pay50 v4) : FVec Ideal S128x512 .f32) (ix2 p l) = mixT w d (256 + p.val) l.val := by
  pointwise [k0_pay51, k0_pay46, k0_pay47, k0_pay48, k0_pay49, k0_pay50]
  simp only [h4, hd]
  split_ifs with a1 a2 a3
  all_goals
    rw [sel_lt _ _ _ (by omega)]
    split_ifs
    all_goals
      unfold mixT
      exact Finset.sum_congr rfl fun s _ => mul_idx w d (by omega) (by omega) (by omega) (by omega)
end

section
variable {v37 v215 : FVec Ideal S512x512 .bf16} {v d : ℕ → ℕ → EReal}
  (hv : ∀ (a : Fin 512) (b : Fin 512), v37 (ix2 a b) = v a.val b.val)
  (hd : ∀ (a : Fin 512) (b : Fin 512), v215 (ix2 a b) = d a.val b.val)

include hv hd in
theorem dw0_at (t s : Fin 128) : (k0_pay59 v37 v215 : FVec Ideal S128x128 .f32) (ix2 t s) = dw4 d v 0 t.val s.val := by
  pointwise [k0_pay59, k0_pay58]
  simp only [hv, hd]
  unfold dw4
  refine congrArg₂ HAdd.hAdd (congrArg₂ HAdd.hAdd (congrArg₂ HAdd.hAdd ?_ ?_) ?_) ?_
  all_goals
    refine grp_lo d v _ _ _ _ _ (fun x hx => ?_) fun x hx => ?_
    · rw [sel_lt _ _ _ x.isLt, if_pos hx]
      try exact mul_idx d v (by omega) (by omega) (by omega) (by omega)
    · rw [sel_lt _ _ _ x.isLt, if_neg hx]

include hv hd in
theorem dw1_at (t s : Fin 128) : (k0_pay64 v37 v215 k0_pay60 k0_pay61 (k0_pay62 v215) (k0_pay63 v37) (constant S128x128 .f32 0x00000000#32) : FVec Ideal S128x128 .f32) (ix2 t s) = dw4 d v 1 t.val s.val := by
  pointwise [k0_pay64, k0_pay60, k0_pay61, k0_pay62, k0_pay63, k0_pay58]
  simp only [hv, hd]
  unfold dw4
  refine congrArg₂ HAdd.hAdd (congrArg₂ HAdd.hAdd (congrArg₂ HAdd.hAdd ?_ ?_) ?_) ?_
  all_goals
    refine grp_hi d v _ _ _ _ _ (fun x hx => ?_) fun x hx => ?_
    · rw [sel_ge _ _ _ x.isLt, if_neg hx]
      try exact mul_idx d v (by omega) (by omega) (by omega) (by omega)
    · rw [sel_ge _ _ _ x.isLt, if_pos hx]

include hv hd in
theorem dw2_at (t s : Fin 128) : (k0_pay65 v37 v215 k0_pay58 : FVec Ideal S128x128 .f32) (ix2 t s) = dw4 d v 2 t.val s.val := by
  pointwise [k0_pay65, k0_pay58]
  simp only [hv, hd]
  unfold dw4
  refine congrArg₂ HAdd.hAdd (congrArg₂ HAdd.hAdd (congrArg₂ HAdd.hAdd ?_ ?_) ?_) ?_
  all_goals
    refine grp_lo d v _ _ _ _ _ (fun x hx => ?_) fun x hx => ?_
    · rw [sel_lt _ _ _ x.isLt, if_pos hx]
      try exact mul_idx d v (by omega) (by omega) (by omega) (by omega)
    · rw [sel_lt _ _ _ x.isLt, if_neg hx]

include hv hd in
theorem dw3_at (t s : Fin 128) : (k0_pay66 v37 v215 k0_pay58 : FVec Ideal S128x128 .f32) (ix2 t s) = dw4 d v 3 t.val s.val := by
  pointwise [k0_pay66, k0_pay58]
  simp only [hv, hd]
  unfold dw4
  refine congrArg₂ HAdd.hAdd (congrArg₂ HAdd.hAdd (congrArg₂ HAdd.hAdd ?_ ?_) ?_) ?_
  all_goals
    refine grp_hi d v _ _ _ _ _ (fun x hx => ?_) fun x hx => ?_
    · rw [sel_ge _ _ _ x.isLt, if_neg hx]
      try exact mul_idx d v (by omega) (by omega) (by omega) (by omega)
    · rw [sel_ge _ _ _ x.isLt, if_pos hx]

include hv hd in
theorem dw4_at (t s : Fin 128) : (k0_pay70 v37 v215 k0_pay58 (k0_pay67 v37 v215 k0_pay58) (k0_pay68 v215 k0_pay58) (k0_pay69 v37) (constant S128x128 .f32 0x00000000#32) : FVec Ideal S128x128 .f32) (ix2 t s) = dw4 d v 4 t.val s.val := by
  pointwise [k0_pay70, k0_pay67, k0_pay68, k0_pay69, k0_pay58]
  simp only [hv, hd]
  unfold dw4
  refine congrArg₂ HAdd.hAdd (congrArg₂ HAdd.hAdd (congrArg₂ HAdd.hAdd ?_ ?_) ?_) ?_
  all_goals
    refine grp_lo d v _ _ _ _ _ (fun x hx => ?_) fun x hx => ?_
    · rw [sel_lt _ _ _ x.isLt, if_pos hx]
      try exact mul_idx d v (by omega) (by omega) (by omega) (by omega)
    · rw [sel_lt _ _ _ x.isLt, if_neg hx]

include hv hd in
theorem dw5_at (t s : Fin 128) : (k0_pay71 v37 v215 k0_pay58 : FVec Ideal S128x128 .f32) (ix2 t s) = dw4 d v 5 t.val s.val := by
  pointwise [k0_pay71, k0_pay58]
  simp only [hv, hd]
  unfold dw4
  refine congrArg₂ HAdd.hAdd (congrArg₂ HAdd.hAdd (congrArg₂ HAdd.hAdd ?_ ?_) ?_) ?_
  all_goals
    refine grp_hi d v _ _ _ _ _ (fun x hx => ?_) fun x hx => ?_
    · rw [sel_ge _ _ _ x.isLt, if_neg hx]
      try exact mul_idx d v (by omega) (by omega) (by omega) (by omega)
    · rw [sel_ge _ _ _ x.isLt, if_pos hx]

include hv hd in
theorem dw6_at (t s : Fin 128) : (k0_pay74 v37 v215 k0_pay58 (k0_pay72 v37 v215 k0_pay58) (k0_pay73 v215 k0_pay58) : FVec Ideal S128x128 .f32) (ix2 t s) = dw4 d v 6 t.val s.val := by
  pointwise [k0_pay74, k0_pay72, k0_pay73, k0_pay58]
  simp only [hv, hd]
  unfold dw4
  refine congrArg₂ HAdd.hAdd (congrArg₂ HAdd.hAdd (congrArg₂ HAdd.hAdd ?_ ?_) ?_) ?_
  all_goals
    refine grp_lo d v _ _ _ _ _ (fun x hx => ?_) fun x hx => ?_
    · rw [sel_lt _ _ _ x.isLt, if_pos hx]
      try exact mul_idx d v (by omega) (by omega) (by omega) (by omega)
    · rw [sel_lt _ _ _ x.isLt, if_neg hx]

include hv hd in
theorem dw7_at (t s : Fin 128) : (k0_pay75 v37 v215 k0_pay58 : FVec Ideal S128x128 .f32) (ix2 t s) = dw4 d v 7 t.val s.val := by
  pointwise [k0_pay75, k0_pay58]
  simp only [hv, hd]
  unfold dw4
  refine congrArg₂ HAdd.hAdd (congrArg₂ HAdd.hAdd (congrArg₂ HAdd.hAdd ?_ ?_) ?_) ?_
  all_goals
    refine grp_hi d v _ _ _ _ _ (fun x hx => ?_) fun x hx => ?_
    · rw [sel_ge _ _ _ x.isLt, if_neg hx]
      try exact mul_idx d v (by omega) (by omega) (by omega) (by omega)
    · rw [sel_ge _ _ _ x.isLt, if_pos hx]
end

end Cert.KernelIdeal.Sg

end
-- ==== Proof.Reals.lean ====
/- Finite extended reals: the operations the claims use, on values that are real numbers. -/
module

public import Idealize.ShloMosaic.PureOps
public import Idealize.ShloMosaic.Lib.IdealHost
public import Idealize.ShloMosaic.Lib.Pointwise

@[expose] public section

noncomputable section

namespace Cert.Reals

open Idealize.ShloMosaic

/-- The value is a real number. -/
def IsReal (x : EReal) : Prop := ∃ r : ℝ, x = (r : EReal)

theorem isReal_coe (r : ℝ) : IsReal (r : EReal) := ⟨r, rfl⟩

/-- A family of real values is a family of real numbers. -/
theorem IsReal.fam {ι : Type*} {f : ι → EReal} (h : ∀ i, IsReal (f i)) : ∃ g : ι → ℝ, f = fun i => (g i : EReal) :=
  ⟨fun i => (h i).choose, funext fun i => (h i).choose_spec⟩

theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem div_coe_coe (a b : ℝ) (hb : b ≠ 0) : Ideal.div (a : EReal) (b : EReal) = ((a / b : ℝ) : EReal) := by
  rw [Ideal.div_coe hb, ← EReal.coe_mul, mul_one_div]

theorem rsqrt_coe_pos (a : ℝ) (ha : 0 < a) : Ideal.rsqrt (a : EReal) = (((Real.sqrt a)⁻¹ : ℝ) : EReal) := by
  rw [Ideal.rsqrt_coe, if_neg (not_lt.2 ha.le), if_neg ha.ne']

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.neg {x : EReal} : IsReal x → IsReal (-x)
  | ⟨a, ha⟩ => ⟨-a, by rw [ha, EReal.coe_neg]⟩

theorem IsReal.mul {x y : EReal} : IsReal x → IsReal y → IsReal (x * y)
  | ⟨a, ha⟩, ⟨b, hb⟩ => ⟨a * b, by rw [ha, hb, EReal.coe_mul]⟩

theorem IsReal.sum {ι : Type*} {s : Finset ι} {f : ι → EReal} (h : ∀ i, IsReal (f i)) : IsReal (∑ i ∈ s, f i) := by
  obtain ⟨g, rfl⟩ := IsReal.fam h
  exact ⟨_, coe_sum s g⟩

/-- The absolute value below infinity: the value is real. -/
theorem isReal_of_mask {s : Shape} (a : FVec Ideal s .f32) (hb : (⟨0, ![]⟩ : Shape).BroadcastsInDim s (![] : Fin 0 → Fin s.rank))
    (h : cmpf .olt (Host.absf a) (broadcastInDim s ![] hb (constant (F := Ideal) ⟨0, ![]⟩ .f32 0x7F800000#32)) = fun _ => 1#1)
    (i : s.Idx) : IsReal (a i) := by
  have h1 := congrFun h i
  have h2 : BitVec.ofBool (decide (max (a i) (-(a i)) < Ideal.ofBits .f32 0x7F800000#32)) = 1#1 := h1
  have h3 : max (a i) (-(a i)) < Ideal.ofBits .f32 0x7F800000#32 := by
    by_contra hc
    rw [decide_eq_false hc] at h2
    exact absurd h2 (by decide)
  have ht : Ideal.ofBits .f32 0x7F800000#32 = (⊤ : EReal) := by simp [Ideal.ofBits, Ideal.ieee]
  rw [ht] at h3
  generalize a i = y at h3
  induction y using EReal.rec with
  | bot => simp at h3
  | top => simp at h3
  | coe r => exact ⟨r, rfl⟩

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_half : Ideal.ofBits .f32 0x3F000000#32 = ((1 / 2 : ℝ) : EReal) := by
  simp [Ideal.ofBits, Ideal.ieee, -EReal.coe_mul]; norm_num

/-- The constant added to a mean square. -/
def eps : ℝ := 8796093 * (2 : ℝ) ^ (-43 : ℤ)

theorem eps_pos : 0 < eps := by unfold eps; positivity

theorem ofBits_eps : Ideal.ofBits .f32 0x358637BD#32 = (eps : EReal) := by
  simp [Ideal.ofBits, Ideal.ieee, eps, -EReal.coe_mul]

end Cert.Reals

end
-- ==== Proof.SgReal.lean ====
/- The two functions the gating unit's gradient is built from, over the real numbers: the Gaussian error gate with its
   derivative, and the gradient of a layer norm of a row of 512 numbers. For each: the closed form a kernel evaluates
   and the chain of derivatives a differentiated program evaluates. -/
module

public import proofs.«01_k».proof.Proof.Reals

@[expose] public section

noncomputable section

namespace Cert.Sg

open Idealize.ShloMosaic Cert.Reals

abbrev one : EReal := 1
abbrev half : EReal := Ideal.ofBits .f32 0x3F000000#32
abbrev nhalf : EReal := Ideal.ofBits .f32 0xBF000000#32
abbrev c512 : EReal := Ideal.ofBits .f32 0x44000000#32
abbrev epsE : EReal := Ideal.ofBits .f32 0x358637BD#32
/-- One over the root of two, one over the root of two pi, and the slope of the complementary error function at zero. -/
def c2 : EReal := (((Real.sqrt 2)⁻¹ : ℝ) : EReal)
def gs : EReal := (((Real.sqrt (2 * Real.pi))⁻¹ : ℝ) : EReal)
def ed : EReal := ((-(2 * (Real.sqrt Real.pi)⁻¹) : ℝ) : EReal)

theorem one_coe : one = ((1 : ℝ) : EReal) := EReal.coe_one.symm

theorem c512_coe : c512 = ((512 : ℝ) : EReal) := by
  simp [Ideal.ofBits, Ideal.ieee, -EReal.coe_mul]; norm_num

/-- The gate, its derivative, and the derivative's chain applied to `y`. -/
def gelu (x : EReal) : EReal := half * x * (one + Ideal.erf (x * c2))
def geluG (x : EReal) : EReal := half * (one + Ideal.erf (x * c2)) + x * Ideal.exp (nhalf * x * x) * gs
def geluC (x y : EReal) : EReal :=
  -(ed * Ideal.exp (-(-x * c2) * (-x * c2)) * (half * x * y) * c2) + half * (y * Ideal.erfc (-x * c2))

/-- The two constants a program can compute: the root of a half, and the slope from the arc cosine of minus one. -/
theorem sqrt_half : Ideal.sqrt half = c2 := by
  unfold half c2
  rw [ofBits_half, Ideal.sqrt_coe, if_neg (by norm_num)]
  congr 1
  rw [Real.sqrt_div (by norm_num), Real.sqrt_one, one_div]

theorem slope : Ideal.div (Ideal.ofBits .f32 0xC0000000#32) (Ideal.sqrt (Ideal.acos (-1))) = ed := by
  have h2 : Ideal.ofBits .f32 0xC0000000#32 = ((-2 : ℝ) : EReal) := by
    simp [Ideal.ofBits, Ideal.ieee, -EReal.coe_mul]; norm_num
  have hp : Real.sqrt Real.pi ≠ 0 := (Real.sqrt_pos.mpr Real.pi_pos).ne'
  rw [h2, show (-1 : EReal) = ((-1 : ℝ) : EReal) by simp, Ideal.acos_coe, if_pos (by norm_num), Real.arccos_neg_one, Ideal.sqrt_coe, if_neg (not_lt.mpr Real.pi_pos.le),
    div_coe_coe _ _ hp]
  unfold ed
  congr 1
  ring

theorem gelu_erfc (x : EReal) : half * x * Ideal.erfc (-x * c2) = gelu x := by
  unfold gelu
  rw [EReal.neg_mul, Ideal.erfc_neg]

theorem isReal_erf {x : EReal} (h : IsReal x) : IsReal (Ideal.erf x) := by
  obtain ⟨x, rfl⟩ := h
  exact ⟨_, Ideal.erf_coe x⟩

theorem isReal_half : IsReal half := ⟨_, ofBits_half⟩
theorem isReal_nhalf : IsReal nhalf := ⟨_, ofBits_neg_half⟩
theorem isReal_one : IsReal one := ⟨_, one_coe⟩
theorem isReal_c2 : IsReal c2 := ⟨_, rfl⟩
theorem isReal_gs : IsReal gs := ⟨_, rfl⟩

theorem isReal_gelu {x : EReal} (h : IsReal x) : IsReal (gelu x) :=
  (isReal_half.mul h).mul (isReal_one.add (isReal_erf (h.mul isReal_c2)))

theorem geluC_eq {x y : EReal} (hx : IsReal x) (hy : IsReal y) : geluC x y = y * geluG x := by
  obtain ⟨E, hE⟩ := isReal_erf (hx.mul isReal_c2)
  have hc : Ideal.erfc (-x * c2) = one + Ideal.erf (x * c2) := by
    rw [EReal.neg_mul, Ideal.erfc_neg]
  unfold geluC geluG
  rw [hc, hE]
  obtain ⟨x, rfl⟩ := hx
  obtain ⟨y, rfl⟩ := hy
  unfold c2 gs ed
  unfold half nhalf
  rw [one_coe, ofBits_half, ofBits_neg_half]
  simp only [← EReal.coe_mul, ← EReal.coe_add, ← EReal.coe_neg, Ideal.exp_coe]
  congr 1
  have h2 : (Real.sqrt 2)⁻¹ * (Real.sqrt 2)⁻¹ = 1 / 2 := by
    rw [← mul_inv, Real.mul_self_sqrt (by norm_num)]; norm_num
  have hp : (Real.sqrt (2 * Real.pi))⁻¹ = (Real.sqrt 2)⁻¹ * (Real.sqrt Real.pi)⁻¹ := by
    rw [Real.sqrt_mul (by norm_num), mul_inv]
  have he : -(-x * (Real.sqrt 2)⁻¹) * (-x * (Real.sqrt 2)⁻¹) = -(1 / 2) * x * x := by
    rw [show -(-x * (Real.sqrt 2)⁻¹) * (-x * (Real.sqrt 2)⁻¹) = -(x * x * ((Real.sqrt 2)⁻¹ * (Real.sqrt 2)⁻¹)) by ring, h2]; ring
  rw [he, hp]
  ring

/-! The layer norm. -/

abbrev mean (x : Fin 512 → EReal) : EReal := Ideal.div (∑ l, x l) c512
abbrev xc (x : Fin 512 → EReal) (j : Fin 512) : EReal := x j - mean x
abbrev va (x : Fin 512 → EReal) : EReal := Ideal.div (∑ l, xc x l * xc x l) c512 + epsE
abbrev rs (x : Fin 512 → EReal) : EReal := Ideal.rsqrt (va x)
abbrev vh (x : Fin 512 → EReal) (j : Fin 512) : EReal := xc x j * rs x
/-- The closed form: `c` is the gradient at the normalized row times the gain. -/
abbrev bwd (c x : Fin 512 → EReal) (j : Fin 512) : EReal :=
  rs x * (c j - Ideal.div (∑ l, c l) c512 - vh x j * Ideal.div (∑ l, c l * vh x l) c512)
/-- The derivative that reaches the square of a centered entry, halved. -/
abbrev chS (c x : Fin 512 → EReal) : EReal :=
  ∑ _z : Fin 1, Ideal.div ((∑ l, xc x l * c l) * (nhalf * Ideal.div (rs x) (va x))) c512
/-- The derivative that reaches a centered entry. -/
abbrev chT (c x : Fin 512 → EReal) (j : Fin 512) : EReal := c j * rs x + xc x j * chS c x + chS c x * xc x j
/-- The derivative that reaches the mean, for one entry. -/
abbrev chM (c x : Fin 512 → EReal) : EReal := ∑ _z : Fin 1, Ideal.div (∑ l, -chT c x l) c512

def vaR (x : Fin 512 → ℝ) : ℝ := (∑ l, (x l - (∑ i, x i) / 512) * (x l - (∑ i, x i) / 512)) / 512 + eps

theorem vaR_pos (x : Fin 512 → ℝ) : 0 < vaR x :=
  add_pos_of_nonneg_of_pos (div_nonneg (Finset.sum_nonneg fun l _ => mul_self_nonneg _) (by norm_num)) eps_pos

theorem h512 : (512 : ℝ) ≠ 0 := by norm_num

theorem mean_coe (x : Fin 512 → ℝ) : mean (fun l => (x l : EReal)) = (((∑ i, x i) / 512 : ℝ) : EReal) := by
  unfold mean
  rw [coe_sum, c512_coe, div_coe_coe _ _ h512]

theorem xc_coe (x : Fin 512 → ℝ) (j : Fin 512) : xc (fun l => (x l : EReal)) j = ((x j - (∑ i, x i) / 512 : ℝ) : EReal) := by
  unfold xc
  rw [mean_coe, ← EReal.coe_sub]

theorem va_coe (x : Fin 512 → ℝ) : va (fun l => (x l : EReal)) = (vaR x : EReal) := by
  unfold va
  simp only [xc_coe, ← EReal.coe_mul, coe_sum, c512_coe, ofBits_eps, div_coe_coe _ _ h512, ← EReal.coe_add]
  rfl

theorem rs_coe (x : Fin 512 → ℝ) : rs (fun l => (x l : EReal)) = (((Real.sqrt (vaR x))⁻¹ : ℝ) : EReal) := by
  unfold rs
  rw [va_coe, rsqrt_coe_pos _ (vaR_pos x)]

theorem isReal_vh {x : Fin 512 → EReal} (h : ∀ l, IsReal (x l)) (j : Fin 512) : IsReal (vh x j) := by
  obtain ⟨x, rfl⟩ := IsReal.fam h
  unfold vh
  rw [xc_coe, rs_coe]
  exact (isReal_coe _).mul (isReal_coe _)

theorem bwd_real (c x : Fin 512 → ℝ) (j : Fin 512) : bwd (fun l => (c l : EReal)) (fun l => (x l : EReal)) j
    = (((Real.sqrt (vaR x))⁻¹ * (c j - (∑ l, c l) / 512 - (x j - (∑ i, x i) / 512) * (Real.sqrt (vaR x))⁻¹
      * ((∑ l, c l * ((x l - (∑ i, x i) / 512) * (Real.sqrt (vaR x))⁻¹)) / 512)) : ℝ) : EReal) := by
  unfold bwd vh
  simp only [xc_coe, rs_coe, ← EReal.coe_mul, coe_sum, c512_coe, div_coe_coe _ _ h512, ← EReal.coe_sub]

theorem isReal_bwd {c x : Fin 512 → EReal} (hc : ∀ l, IsReal (c l)) (hx : ∀ l, IsReal (x l)) (j : Fin 512) : IsReal (bwd c x j) := by
  obtain ⟨c, rfl⟩ := IsReal.fam hc
  obtain ⟨x, rfl⟩ := IsReal.fam hx
  exact ⟨_, bwd_real c x j⟩

/-- Over real rows the chain's sum is the closed form. -/
theorem bwd_eq {c x : Fin 512 → EReal} (hc : ∀ l, IsReal (c l)) (hx : ∀ l, IsReal (x l)) (j : Fin 512) :
    chT c x j + chM c x = bwd c x j := by
  obtain ⟨c, rfl⟩ := IsReal.fam hc
  obtain ⟨x, rfl⟩ := IsReal.fam hx
  have hq := vaR_pos x
  have hss : Real.sqrt (vaR x) * Real.sqrt (vaR x) = vaR x := Real.mul_self_sqrt hq.le
  rw [bwd_real]
  unfold chM chT chS
  simp only [xc_coe, rs_coe, va_coe, div_coe_coe _ _ hq.ne', ofBits_neg_half, ← EReal.coe_mul, coe_sum, c512_coe, div_coe_coe _ _ h512,
    ← EReal.coe_add, ← EReal.coe_neg]
  congr 1
  have hr : (Real.sqrt (vaR x))⁻¹ * (Real.sqrt (vaR x))⁻¹ = (vaR x)⁻¹ := by rw [← mul_inv, hss]
  generalize hρ : (Real.sqrt (vaR x))⁻¹ = ρ at hr
  have hz : ∑ l, (x l - (∑ i, x i) / 512) = 0 := by
    rw [Finset.sum_sub_distrib]; simp; ring
  generalize hm : (∑ i, x i) / 512 = μ at hz
  have e1 : ∑ l, c l * ((x l - μ) * ρ) = (∑ l, (x l - μ) * c l) * ρ := by
    rw [Finset.sum_mul]; exact Finset.sum_congr rfl fun l _ => by ring
  simp only [Finset.univ_unique, Finset.sum_const, Finset.card_singleton, one_smul]
  rw [e1, div_eq_mul_inv ρ, ← hr]
  generalize hS : ∑ l, (x l - μ) * c l = S
  have e2 : ∑ l, -(c l * ρ + (x l - μ) * (S * (-(1 / 2) * (ρ * (ρ * ρ))) / 512) + S * (-(1 / 2) * (ρ * (ρ * ρ))) / 512 * (x l - μ)) = -(ρ * ∑ l, c l) := by
    rw [Finset.sum_neg_distrib, Finset.sum_add_distrib, Finset.sum_add_distrib, ← Finset.sum_mul, ← Finset.sum_mul, ← Finset.mul_sum, hz]
    ring
  rw [e2]
  ring

end Cert.Sg

end
-- ==== Proof.SgPay.lean ====
/- The gating unit's backward pass on one block of 512 rows, entry by entry. -/
module

public import proofs.«01_k».proof.Proof.SgMix
public import proofs.«01_k».proof.Proof.SgReal

@[expose] public section

set_option maxRecDepth 16384

noncomputable section

open Idealize.ShloMosaic Idealize.ShloMosaic.TcCoe Idealize.SL.Sem

namespace Cert.KernelIdeal.Sg
open Cert.KernelIdeal Cert.KernelIdeal.Gen Cert.Sg

theorem named_c2 : Named.named (F := Ideal) κ "rsqrt2" (φ := .f32) 0x3F3504F3#32 = c2 := (IdealRules.named_const.statement κ "rsqrt2" .f32 0x3F3504F3#32 _ rfl).2.2
theorem named_gs : Named.named (F := Ideal) κ "gauss" (φ := .f32) 0x3ECC422A#32 = gs := (IdealRules.named_const.statement κ "gauss" .f32 0x3ECC422A#32 _ rfl).2.2

/-- Column `q` as an index. -/
def fin (q : ℕ) : Fin 512 := ⟨q % 512, Nat.mod_lt _ (by decide)⟩
theorem fin_val (l : Fin 512) : fin l.val = l := Fin.ext (Nat.mod_eq_of_lt l.isLt)

variable (db zu zv w bias : ℕ → ℕ → EReal) (lg lb : Fin 512 → EReal)

/-- A gated row of the normalized half, and that row normalized, scaled and shifted. -/
def grow (r : ℕ) (l : Fin 512) : EReal := gelu (zv r l.val)
def vF (r q : ℕ) : EReal := vh (grow zv r) (fin q) * lg (fin q) + lb (fin q)
/-- The mixed rows with their bias. -/
def sgF (r q : ℕ) : EReal := mix w (vF zv lg lb) r q + bias (r % 128) q
/-- The gradients: at the mixed rows, at the first half, at the normalized rows, at the second half. -/
def dsF (r q : ℕ) : EReal := db r q * gelu (zu r q)
def dzuF (r q : ℕ) : EReal := db r q * sgF zv w bias lg lb r q * geluG (zu r q)
def dvF (r q : ℕ) : EReal := mixT w (dsF db zu) r q
def dzvF (r : ℕ) (j : Fin 512) : EReal :=
  bwd (fun l => dvF db zu w r l.val * lg l) (grow zv r) j * geluG (zv r j.val)

variable {db zu zv w bias lg lb}
variable {x0 x1 x2 : FVec Ideal S512x512 .f32} {x3 : FVec Ideal S1024x128 .bf16} {x4 : FVec Ideal S128x512 .f32} {x5 x6 : FVec Ideal S1x512 .f32}
  (h0 : ∀ a b : Fin 512, x0 (ix2 a b) = db a.val b.val)
  (h1 : ∀ a b : Fin 512, x1 (ix2 a b) = zu a.val b.val)
  (h2 : ∀ a b : Fin 512, x2 (ix2 a b) = zv a.val b.val)
  (h3 : ∀ (a : Fin 1024) (b : Fin 128), x3 (ix2 a b) = w a.val b.val)
  (h4 : ∀ (a : Fin 128) (b : Fin 512), x4 (ix2 a b) = bias a.val b.val)
  (h5 : ∀ (z : Fin 1) (b : Fin 512), x5 (ix2 z b) = lg b)
  (h6 : ∀ (z : Fin 1) (b : Fin 512), x6 (ix2 z b) = lb b)

include h3 in
theorem p9 (a : Fin 1024) (b : Fin 128) : k0_pay9 (F := Ideal) x3 (ix2 a b) = w a.val b.val := by
  pointwise [k0_pay9]
  exact h3 a b

include h4 in
theorem p10 (a : Fin 128) (b : Fin 512) : k0_pay10 (F := Ideal) x4 (ix2 a b) = bias a.val b.val := by
  pointwise [k0_pay10]
  exact h4 a b

include h2 in
theorem p11 (r j : Fin 512) : k0_pay11 (F := Ideal) x2 (ix2 r j) = xc (grow zv r.val) j := by
  pointwise [k0_pay11]
  simp only [h2, named_c2, Ideal.erf_def]
  rfl

include h2 in
theorem p12 (r : Fin 512) (z : Fin 1) : k0_pay12 (F := Ideal) x2 (ix2 r z) = rs (grow zv r.val) := by
  pointwise [k0_pay12]
  simp only [p11 h2]

include h2 in
theorem p13 (r j : Fin 512) : k0_pay13 (F := Ideal) x2 (ix2 r j) = vh (grow zv r.val) j := by
  pointwise [k0_pay13]
  simp only [p11 h2, p12 h2]

include h2 h5 h6 in
theorem p14 (r j : Fin 512) : k0_pay14 (F := Ideal) x2 x5 x6 (ix2 r j) = vF zv lg lb r.val j.val := by
  pointwise [k0_pay14]
  simp only [p13 h2, h5, h6]
  unfold vF
  rw [fin_val]

include h0 h1 in
theorem p36 (r j : Fin 512) : k0_pay36 (F := Ideal) x0 x1 (ix2 r j) = dsF db zu r.val j.val := by
  pointwise [k0_pay36, k0_pay35]
  simp only [h0, h1, named_c2, Ideal.erf_def]
  rfl

include h0 h1 in
theorem p35 (r j : Fin 512) : k0_pay35 (F := Ideal) x0 x1 (ix2 r j) = dsF db zu r.val j.val := by
  pointwise [k0_pay35]
  simp only [h0, h1, named_c2, Ideal.erf_def]
  rfl

include h0 h1 in
/-- The gradient at the first half, from the three mixed chunks and the parts of the fourth. -/
theorem p34 {V4 : FVec Ideal S1024x128 .bf16} {V6 : FVec Ideal S128x512 .f32} {V36 : FVec Ideal S512x512 .f32} {v : ℕ → ℕ → EReal}
    {C0 C1 C2 : FVec Ideal S128x512 .f32}
    (e4 : ∀ (a : Fin 1024) (b : Fin 128), V4 (ix2 a b) = w a.val b.val)
    (e6 : ∀ (a : Fin 128) (b : Fin 512), V6 (ix2 a b) = bias a.val b.val)
    (e36 : ∀ a b : Fin 512, V36 (ix2 a b) = v a.val b.val)
    (e0 : ∀ (p : Fin 128) (l : Fin 512), C0 (ix2 p l) = mix w v p.val l.val)
    (e1 : ∀ (p : Fin 128) (l : Fin 512), C1 (ix2 p l) = mix w v (128 + p.val) l.val)
    (e2 : ∀ (p : Fin 128) (l : Fin 512), C2 (ix2 p l) = mix w v (256 + p.val) l.val) (r j : Fin 512) :
    k0_pay34 (F := Ideal) x0 x1 V4 V6 (k0_pay15 V36) C0 C1 C2 (k0_pay28 V4 (k0_pay15 V36)) (k0_pay29 V4 (k0_pay15 V36)) (k0_pay30 (k0_pay15 V36))
        (k0_pay31 V4) (k0_pay32 V4) k0_pay33 (constant S128x128 .f32 0x00000000#32) (ix2 r j)
      = db r.val j.val * (mix w v r.val j.val + bias (r.val % 128) j.val) * geluG (zu r.val j.val) := by
  pointwise [k0_pay34, k0_pay28, k0_pay29, k0_pay30, k0_pay31, k0_pay32, k0_pay33]
  simp only [h0, h1, named_c2, named_gs, e0, e1, e2, e4, e6, pay15_at e36]
  refine congrArg₂ HMul.hMul (congrArg₂ HMul.hMul rfl (congrArg₂ HAdd.hAdd ?_ ?_)) ?_
  · split_ifs with a1 a2 a3 b1 b2 b3
    · rfl
    · exact congrArg (fun r => mix w v r j.val) (by omega)
    · exact congrArg (fun r => mix w v r j.val) (by omega)
    all_goals
      rw [sel_lt _ _ _ (by omega)]
      split_ifs
      all_goals
        unfold mix
        exact Finset.sum_congr rfl fun s _ => mul_idx w v (by omega) (by omega) (by omega) (by omega)
  · split_ifs with a1 a2 a3
    all_goals exact congrArg (fun r => bias r j.val) (by omega)
  · simp only [Ideal.erf_def]
    rfl

/-- The gradient at the normalized rows, from three mixed chunks and the parts of the fourth. -/
theorem p57 {V4 : FVec Ideal S1024x128 .bf16} {D : FVec Ideal S512x512 .bf16} {d : ℕ → ℕ → EReal}
    {C0 C1 C2 : FVec Ideal S128x512 .f32}
    (e4 : ∀ (a : Fin 1024) (b : Fin 128), V4 (ix2 a b) = w a.val b.val)
    (eD : ∀ a b : Fin 512, D (ix2 a b) = d a.val b.val)
    (e0 : ∀ (p : Fin 128) (l : Fin 512), C0 (ix2 p l) = mixT w d p.val l.val)
    (e1 : ∀ (p : Fin 128) (l : Fin 512), C1 (ix2 p l) = mixT w d (128 + p.val) l.val)
    (e2 : ∀ (p : Fin 128) (l : Fin 512), C2 (ix2 p l) = mixT w d (256 + p.val) l.val) (r j : Fin 512) :
    k0_pay57 (F := Ideal) V4 C0 C1 C2 (k0_pay52 V4 D) (k0_pay53 V4 D) (k0_pay54 V4 D) (k0_pay55 D) (k0_pay56 V4) (ix2 r j)
      = mixT w d r.val j.val := by
  pointwise [k0_pay57, k0_pay52, k0_pay53, k0_pay54, k0_pay55, k0_pay56]
  simp only [e0, e1, e2, e4, eD]
  split_ifs with a1 a2 a3 b1 b2 b3
  · rfl
  · exact congrArg (fun r => mixT w d r j.val) (by omega)
  · exact congrArg (fun r => mixT w d r j.val) (by omega)
  all_goals
    rw [sel_lt _ _ _ (by omega)]
    split_ifs
    all_goals
      unfold mixT
      exact Finset.sum_congr rfl fun s _ => mul_idx w d (by omega) (by omega) (by omega) (by omega)

variable {U V : FVec Ideal S512x512 .f32} {dv du : ℕ → ℕ → EReal}
  (eV : ∀ a b : Fin 512, V (ix2 a b) = dv a.val b.val)
  (eU : ∀ a b : Fin 512, U (ix2 a b) = du a.val b.val)

include h2 h5 eU in
theorem p81_lo (r j : Fin 512) (J : Fin 1024) (hJ : J.val = j.val) :
    k0_pay81 (F := Ideal) x2 x5 (k0_pay12 x2) (k0_pay13 x2) U V (ix2 r J) = du r.val j.val := by
  obtain ⟨J, hJ'⟩ := J
  simp only at hJ
  subst hJ
  pointwise [k0_pay81]
  simp only [eU]

include h2 h5 eV in
theorem p81_hi (r j : Fin 512) (J : Fin 1024) (hJ : J.val = 512 + j.val) :
    k0_pay81 (F := Ideal) x2 x5 (k0_pay12 x2) (k0_pay13 x2) U V (ix2 r J)
      = bwd (fun l => dv r.val l.val * lg l) (grow zv r.val) j * geluG (zv r.val j.val) := by
  obtain ⟨J, hJ'⟩ := J
  simp only at hJ
  subst hJ
  pointwise [k0_pay81]
  simp only [eV, h2, h5, p12 h2, p13 h2, named_c2, named_gs, Ideal.erf_def]
  rfl

include h2 eV in
theorem p79 (z : Fin 1) (j : Fin 512) :
    k0_pay79 (F := Ideal) (k0_pay13 x2) V (ix2 z j) = ∑ r : Fin 512, dv r.val j.val * vh (grow zv r.val) j := by
  pointwise [k0_pay79]
  simp only [eV, p13 h2]

include eV in
theorem p80 (z : Fin 1) (j : Fin 512) : k0_pay80 (F := Ideal) V (ix2 z j) = ∑ r : Fin 512, dv r.val j.val := by
  pointwise [k0_pay80]
  simp only [eV]

include eV in
theorem p77 (p : Fin 128) (j : Fin 512) : k0_pay77 (F := Ideal) V (k0_pay76 V) (ix2 p j)
    = dv p.val j.val + dv (128 + p.val) j.val + dv (256 + p.val) j.val + dv (384 + p.val) j.val := by
  pointwise [k0_pay77, k0_pay76]
  simp only [eV]

theorem p78 {D0 D1 D2 D3 D4 D5 D6 D7 : FVec Ideal S128x128 .f32} {f : ℕ → ℕ → ℕ → EReal}
    (e0 : ∀ t s : Fin 128, D0 (ix2 t s) = f 0 t.val s.val) (e1 : ∀ t s : Fin 128, D1 (ix2 t s) = f 1 t.val s.val)
    (e2 : ∀ t s : Fin 128, D2 (ix2 t s) = f 2 t.val s.val) (e3 : ∀ t s : Fin 128, D3 (ix2 t s) = f 3 t.val s.val)
    (e4 : ∀ t s : Fin 128, D4 (ix2 t s) = f 4 t.val s.val) (e5 : ∀ t s : Fin 128, D5 (ix2 t s) = f 5 t.val s.val)
    (e6 : ∀ t s : Fin 128, D6 (ix2 t s) = f 6 t.val s.val) (e7 : ∀ t s : Fin 128, D7 (ix2 t s) = f 7 t.val s.val)
    (a : Fin 1024) (s : Fin 128) :
    k0_pay78 (F := Ideal) D0 D1 D2 D3 D4 D5 D6 D7 (ix2 a s) = f (a.val / 128) (a.val % 128) s.val := by
  pointwise [k0_pay78]
  simp only [e0, e1, e2, e3, e4, e5, e6, e7]
  split_ifs
  all_goals exact congrArg₂ (fun g t => f g t s.val) (by omega) (by omega)

theorem p5 (A B : FVec Ideal S1024x128 .f32) (a : Fin 1024) (s : Fin 128) :
    k0_pay5 (F := Ideal) A B (ix2 a s) = B (ix2 a s) + A (ix2 a s) := by pointwise [k0_pay5]
theorem p6 (A B : FVec Ideal S128x512 .f32) (a : Fin 128) (s : Fin 512) :
    k0_pay6 (F := Ideal) A B (ix2 a s) = B (ix2 a s) + A (ix2 a s) := by pointwise [k0_pay6]
theorem p7 (A B : FVec Ideal S1x512 .f32) (a : Fin 1) (s : Fin 512) :
    k0_pay7 (F := Ideal) A B (ix2 a s) = B (ix2 a s) + A (ix2 a s) := by pointwise [k0_pay7]
theorem p8 (A B : FVec Ideal S1x512 .f32) (a : Fin 1) (s : Fin 512) :
    k0_pay8 (F := Ideal) A B (ix2 a s) = B (ix2 a s) + A (ix2 a s) := by pointwise [k0_pay8]
theorem p1 (a : Fin 1024) (s : Fin 128) : k0_pay1 (F := Ideal) (ix2 a s) = (0 : EReal) := by pointwise [k0_pay1]
theorem p2 (a : Fin 128) (s : Fin 512) : k0_pay2 (F := Ideal) (ix2 a s) = (0 : EReal) := by pointwise [k0_pay2]
theorem p3 (a : Fin 1) (s : Fin 512) : k0_pay3 (F := Ideal) (ix2 a s) = (0 : EReal) := by pointwise [k0_pay3]
theorem p4 (a : Fin 1) (s : Fin 512) : k0_pay4 (F := Ideal) (ix2 a s) = (0 : EReal) := by pointwise [k0_pay4]

end Cert.KernelIdeal.Sg

end
-- ==== Proof.SgForm.lean ====
/- The gating unit's arrays as functions of row and column numbers, and how the block forms read at an array's rows. -/
module

public import proofs.«01_k».proof.Proof.SgPay

@[expose] public section

noncomputable section

open Idealize.ShloMosaic Idealize.ShloMosaic.TcCoe Idealize.SL.Sem

namespace Cert.KernelIdeal.Sg
open Cert.Sg

/-- A matrix at a row and a column number, zero outside. -/
def at2 {R Q : ℕ} {φ : FTy} (A : FVec Ideal ⟨2, ![R, Q]⟩ φ) (r q : ℕ) : EReal :=
  if h : r < R ∧ q < Q then A (ix2 ⟨r, h.1⟩ ⟨q, h.2⟩) else 0

theorem at2_of {R Q : ℕ} {φ : FTy} (A : FVec Ideal ⟨2, ![R, Q]⟩ φ) (i : Fin R) (j : Fin Q) {r q : ℕ} (hr : i.val = r) (hq : j.val = q) :
    at2 A r q = A (ix2 i j) := by
  subst hr; subst hq
  exact dif_pos ⟨i.isLt, j.isLt⟩

/-- The weights of the eight lane groups, one below the other. -/
def wN (A : FVec Ideal ⟨3, ![8, 128, 128]⟩ .f32) (a b : ℕ) : EReal :=
  if h : a < 1024 ∧ b < 128 then A (ix3 ⟨a / 128, by omega⟩ ⟨a % 128, Nat.mod_lt _ (by decide)⟩ ⟨b, h.2⟩) else 0

theorem wN_of (A : FVec Ideal ⟨3, ![8, 128, 128]⟩ .f32) (g : Fin 8) (t s : Fin 128) {a b : ℕ} (ha : 128 * g.val + t.val = a) (hb : s.val = b) :
    wN A a b = A (ix3 g t s) := by
  subst ha; subst hb
  unfold wN
  rw [dif_pos ⟨by omega, s.isLt⟩]
  congr 2 <;> apply Fin.ext <;> show _ = _ <;> dsimp only <;> omega

/-- The bias of a row of a chunk at a column, from the lane groups' biases. -/
def biasN (A : FVec Ideal ⟨2, ![8, 128]⟩ .f32) (p q : ℕ) : EReal := at2 A (q / 64) p
/-- The two halves the unit reads. -/
def zuN (z : FVec Ideal ⟨2, ![16384, 8192]⟩ .f32) (r q : ℕ) : EReal := at2 z r (5120 + q)
def zvN (z : FVec Ideal ⟨2, ![16384, 8192]⟩ .f32) (r q : ℕ) : EReal := at2 z r (5632 + q)
/-- A row of parameters. -/
def rowN (g : FVec Ideal ⟨2, ![1, 512]⟩ .f32) (l : Fin 512) : EReal := g (ix2 0 l)

/-- The rows from row `512 T`. -/
abbrev sh (T : ℕ) (f : ℕ → ℕ → EReal) (r q : ℕ) : EReal := f (512 * T + r) q

theorem mix_sh (w v : ℕ → ℕ → EReal) (T r q : ℕ) : mix w (sh T v) r q = mix w v (512 * T + r) q := by
  unfold mix sh
  exact Finset.sum_congr rfl fun s _ => mul_idx w v (by omega) rfl (by omega) rfl

theorem mixT_sh (w v : ℕ → ℕ → EReal) (T r q : ℕ) : mixT w (sh T v) r q = mixT w v (512 * T + r) q := by
  unfold mixT sh
  exact Finset.sum_congr rfl fun s _ => mul_idx w v rfl (by omega) (by omega) rfl

theorem dwc_sh (d v : ℕ → ℕ → EReal) (T g t s k : ℕ) : dwc (sh T d) (sh T v) g t s k = dwc d v g t s (4 * T + k) := by
  unfold dwc sh
  exact Finset.sum_congr rfl fun e _ => mul_idx d v (by omega) rfl (by omega) rfl

variable (db zu zv w bias : ℕ → ℕ → EReal) (lg lb : Fin 512 → EReal)

theorem vF_sh (T r q : ℕ) : vF (sh T zv) lg lb r q = vF zv lg lb (512 * T + r) q := by
  unfold vF grow sh
  rfl

theorem sgF_sh (T r q : ℕ) : sgF (sh T zv) w bias lg lb r q = sgF zv w bias lg lb (512 * T + r) q := by
  unfold sgF
  refine congrArg₂ HAdd.hAdd (mix_sh w (vF zv lg lb) T r q) ?_
  exact congrArg (fun r => bias r q) (by omega)

theorem dzuF_sh (T r q : ℕ) : dzuF (sh T db) (sh T zu) (sh T zv) w bias lg lb r q = dzuF db zu zv w bias lg lb (512 * T + r) q := by
  unfold dzuF
  rw [sgF_sh]

theorem dvF_sh (T r q : ℕ) : dvF (sh T db) (sh T zu) w r q = dvF db zu w (512 * T + r) q := mixT_sh w (dsF db zu) T r q

theorem dzvF_sh (T r : ℕ) (j : Fin 512) : dzvF (sh T db) (sh T zu) (sh T zv) w lg r j = dzvF db zu zv w lg (512 * T + r) j := by
  unfold dzvF
  simp only [dvF_sh]
  rfl

/-- Thirty-two groups of four chunks are all the chunks. -/
theorem chunks (f : ℕ → EReal) : ∑ T : Fin 32, (f (4 * T.val + 0) + f (4 * T.val + 1) + f (4 * T.val + 2) + f (4 * T.val + 3)) = ∑ C : Fin 128, f C.val := by
  rw [Fin.sum_univ_tiles 32 4 rfl fun C : Fin 128 => f C.val]
  refine Finset.sum_congr rfl fun T _ => ?_
  rw [Fin.sum_univ_four]
  show _ = f (T.val * 4 + 0) + f (T.val * 4 + 1) + f (T.val * 4 + 2) + f (T.val * 4 + 3)
  rw [mul_comm]

/-- Thirty-two blocks of 512 rows are all the rows. -/
theorem rows (f : ℕ → EReal) : ∑ T : Fin 32, ∑ r : Fin 512, f (512 * T.val + r.val) = ∑ r : Fin 16384, f r.val := by
  rw [Fin.sum_univ_tiles 32 512 rfl fun C : Fin 16384 => f C.val]
  refine Finset.sum_congr rfl fun T _ => Finset.sum_congr rfl fun r _ => ?_
  show _ = f (T.val * 512 + r.val)
  rw [mul_comm]

end Cert.KernelIdeal.Sg

end
-- ==== Proof.SgArr.lean ====
/- The gating unit's backward pass: the blocks in use at each grid point, entry by entry. -/
module

public import proofs.«01_k».proof.Proof.Gen.KernelIdeal.Value
public import proofs.«01_k».proof.Proof.SgForm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.KernelIdeal.Sg

variable (m : (ℓ : Loc nD τ sig) → Buf (Elt Ideal) ℓ) (c : Dev nD)

/-- The block indices of the windows at each grid point. -/
theorem idx_val : ∀ t : Fin cfg0.N, win0_0.index t = ![t.val, 0]
    ∧ win0_1.index t = ![t.val, 10]
    ∧ win0_2.index t = ![t.val, 11]
    ∧ win0_3.index t = ![0, 0]
    ∧ win0_4.index t = ![0, 0]
    ∧ win0_5.index t = ![0, 0]
    ∧ win0_6.index t = ![0, 0]
    ∧ win0_7.index t = ![t.val, 5]
    ∧ win0_8.index t = ![0, 0]
    ∧ win0_9.index t = ![0, 0]
    ∧ win0_10.index t = ![0, 0]
    ∧ win0_11.index t = ![0, 0] :=
  (by decide +kernel : ∀ t : Fin grid0.N, _)

/-- The arrays of the arguments. -/
abbrev dzA : FVec Ideal S16384x8192 .bf16 := m ((c.tc : Thread nD τ).loc main_arg0)
abbrev dbA : FVec Ideal S16384x512 .f32 := m ((c.tc : Thread nD τ).loc main_arg1)
abbrev zA : FVec Ideal S16384x8192 .f32 := m ((c.tc : Thread nD τ).loc main_arg2)
abbrev wA : FVec Ideal S8x128x128 .f32 := m ((c.tc : Thread nD τ).loc main_arg3)
abbrev bA : FVec Ideal S8x128 .f32 := m ((c.tc : Thread nD τ).loc main_arg4)
abbrev lgA : FVec Ideal S1x512 .f32 := m ((c.tc : Thread nD τ).loc main_arg5)
abbrev lbA : FVec Ideal S1x512 .f32 := m ((c.tc : Thread nD τ).loc main_arg6)

/-- The arrays the host prepares. -/
theorem v1_at (a : Fin 1024) (b : Fin 128) : (V m c main_v1 : FVec Ideal S1024x128 .bf16) (ix2 a b) = wN (wA m c) a.val b.val := by
  have e : (V m c main_v1 : FVec Ideal S1024x128 .bf16) (ix2 a b) = (show EReal from wA m c (ix3 ⟨a.val / 128, by omega⟩ ⟨a.val % 128, Nat.mod_lt _ (by decide)⟩ b)) := by
    unfold V
    simp only [hostOps0, List.flatten_cons, List.flatten_nil, List.append_nil, List.cons_append, List.nil_append]
    after_results_simp
    pointwise
  rw [e, wN_of (wA m c) ⟨a.val / 128, by omega⟩ ⟨a.val % 128, Nat.mod_lt _ (by decide)⟩ b (by dsimp only; omega) rfl]

theorem v4_at (p : Fin 128) (q : Fin 512) : (V m c main_v4 : FVec Ideal S128x512 .f32) (ix2 p q) = biasN (bA m c) p.val q.val := by
  have e : (V m c main_v4 : FVec Ideal S128x512 .f32) (ix2 p q) = (show EReal from bA m c (ix2 ⟨q.val / 64, by omega⟩ p)) := by
    unfold V
    simp only [hostOps0, List.flatten_cons, List.flatten_nil, List.append_nil, List.cons_append, List.nil_append]
    after_results_simp
    pointwise
  rw [e]
  exact (at2_of (bA m c) ⟨q.val / 64, by omega⟩ p rfl rfl).symm

/-- The blocks in use at a point. -/
def B0 (t : Fin cfg0.N) : FVec Ideal S512x512 .f32 := iblk m c 0 t
def B1 (t : Fin cfg0.N) : FVec Ideal S512x512 .f32 := iblk m c 1 t
def B2 (t : Fin cfg0.N) : FVec Ideal S512x512 .f32 := iblk m c 2 t
def B3 (t : Fin cfg0.N) : FVec Ideal S1024x128 .bf16 := iblk m c 3 t
def B4 (t : Fin cfg0.N) : FVec Ideal S128x512 .f32 := iblk m c 4 t
def B5 (t : Fin cfg0.N) : FVec Ideal S1x512 .f32 := iblk m c 5 t
def B6 (t : Fin cfg0.N) : FVec Ideal S1x512 .f32 := iblk m c 6 t

theorem tlt (t : Fin cfg0.N) : t.val < 32 := lt_of_lt_of_eq t.isLt (show cfg0.N = 32 from N_0)

theorem blk0' (t : Fin cfg0.N) (r j : Fin 512) (R : Fin 16384) (hR : R.val = 512 * t.val + r.val) : B0 m c t (ix2 r j) = dbA m c (ix2 R j) := by
  have e : V m c main_arg1 = dbA m c := V_main_arg1 m c
  unfold B0
  rw [← e]
  simp only [iblk]
  generalize V m c = X
  blk_ext [idx_val t]

theorem blk1' (t : Fin cfg0.N) (r j : Fin 512) (R : Fin 16384) (J : Fin 8192) (hR : R.val = 512 * t.val + r.val) (hJ : J.val = 5120 + j.val) :
    B1 m c t (ix2 r j) = zA m c (ix2 R J) := by
  have e : V m c main_arg2 = zA m c := V_main_arg2 m c
  unfold B1
  rw [← e]
  simp only [iblk]
  generalize V m c = X
  blk_ext [idx_val t]

theorem blk2' (t : Fin cfg0.N) (r j : Fin 512) (R : Fin 16384) (J : Fin 8192) (hR : R.val = 512 * t.val + r.val) (hJ : J.val = 5632 + j.val) :
    B2 m c t (ix2 r j) = zA m c (ix2 R J) := by
  have e : V m c main_arg2 = zA m c := V_main_arg2 m c
  unfold B2
  rw [← e]
  simp only [iblk]
  generalize V m c = X
  blk_ext [idx_val t]

theorem blk0 (t : Fin cfg0.N) (r j : Fin 512) : B0 m c t (ix2 r j) = sh t.val (at2 (dbA m c)) r.val j.val := by
  have h := tlt t
  rw [blk0' m c t r j ⟨512 * t.val + r.val, by omega⟩ rfl]
  exact (at2_of (dbA m c) ⟨512 * t.val + r.val, by omega⟩ j rfl rfl).symm

theorem blk1 (t : Fin cfg0.N) (r j : Fin 512) : B1 m c t (ix2 r j) = sh t.val (zuN (zA m c)) r.val j.val := by
  have h := tlt t
  rw [blk1' m c t r j ⟨512 * t.val + r.val, by omega⟩ ⟨5120 + j.val, by omega⟩ rfl rfl]
  exact (at2_of (zA m c) ⟨512 * t.val + r.val, by omega⟩ ⟨5120 + j.val, by omega⟩ rfl rfl).symm

theorem blk2 (t : Fin cfg0.N) (r j : Fin 512) : B2 m c t (ix2 r j) = sh t.val (zvN (zA m c)) r.val j.val := by
  have h := tlt t
  rw [blk2' m c t r j ⟨512 * t.val + r.val, by omega⟩ ⟨5632 + j.val, by omega⟩ rfl rfl]
  exact (at2_of (zA m c) ⟨512 * t.val + r.val, by omega⟩ ⟨5632 + j.val, by omega⟩ rfl rfl).symm

theorem blk3 (t : Fin cfg0.N) (a : Fin 1024) (b : Fin 128) : B3 m c t (ix2 a b) = wN (wA m c) a.val b.val := by
  rw [← v1_at]
  unfold B3
  simp only [iblk]
  generalize V m c = X
  blk_ext [idx_val t]

theorem blk4 (t : Fin cfg0.N) (p : Fin 128) (q : Fin 512) : B4 m c t (ix2 p q) = biasN (bA m c) p.val q.val := by
  rw [← v4_at]
  unfold B4
  simp only [iblk]
  generalize V m c = X
  blk_ext [idx_val t]

theorem blk5 (t : Fin cfg0.N) (z : Fin 1) (j : Fin 512) : B5 m c t (ix2 z j) = rowN (lgA m c) j := by
  have e : V m c main_arg5 = lgA m c := V_main_arg5 m c
  obtain rfl : z = 0 := Subsingleton.elim _ _
  unfold B5 rowN
  rw [← e]
  simp only [iblk]
  generalize V m c = X
  blk_ext [idx_val t]

theorem blk6 (t : Fin cfg0.N) (z : Fin 1) (j : Fin 512) : B6 m c t (ix2 z j) = rowN (lbA m c) j := by
  have e : V m c main_arg6 = lbA m c := V_main_arg6 m c
  obtain rfl : z = 0 := Subsingleton.elim _ _
  unfold B6 rowN
  rw [← e]
  simp only [iblk]
  generalize V m c = X
  blk_ext [idx_val t]

end Cert.KernelIdeal.Value

end
-- ==== Proof.SgVal.lean ====
/- The gating unit's backward pass: what each grid point leaves in the five outputs. -/
module

public import proofs.«01_k».proof.Proof.SgArr

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.KernelIdeal.Sg Cert.Sg

variable (m : (ℓ : Loc nD τ sig) → Buf (Elt Ideal) ℓ) (c : Dev nD)

/-- The arguments by row and column number. -/
abbrev DB : ℕ → ℕ → EReal := at2 (dbA m c)
abbrev ZU : ℕ → ℕ → EReal := zuN (zA m c)
abbrev ZV : ℕ → ℕ → EReal := zvN (zA m c)
abbrev WW : ℕ → ℕ → EReal := wN (wA m c)
abbrev BI : ℕ → ℕ → EReal := biasN (bA m c)
abbrev LG : Fin 512 → EReal := rowN (lgA m c)
abbrev LB : Fin 512 → EReal := rowN (lbA m c)
/-- The closed forms of the arguments: the normalized rows, and the gradients at the mixed rows, at the first half, at
    the normalized rows and at the second half. -/
abbrev fV : ℕ → ℕ → EReal := vF (ZV m c) (LG m c) (LB m c)
abbrev fdS : ℕ → ℕ → EReal := dsF (DB m c) (ZU m c)
abbrev fdU : ℕ → ℕ → EReal := dzuF (DB m c) (ZU m c) (ZV m c) (WW m c) (BI m c) (LG m c) (LB m c)
abbrev fdV : ℕ → ℕ → EReal := dvF (DB m c) (ZU m c) (WW m c)
abbrev fdZ : ℕ → Fin 512 → EReal := dzvF (DB m c) (ZU m c) (ZV m c) (WW m c) (LG m c)

abbrev W4 (t : Fin cfg0.N) : FVec Ideal S1024x128 .bf16 := k0_pay9 (B3 m c t)
abbrev PP (t : Fin cfg0.N) : FVec Ideal S512x512 .f32 := k0_pay14 (B2 m c t) (B5 m c t) (B6 m c t)
abbrev DD (t : Fin cfg0.N) : FVec Ideal S512x512 .bf16 := k0_pay36 (B0 m c t) (B1 m c t)
/-- The gradient at the first half, as a point computes it. -/
abbrev UU (t : Fin cfg0.N) : FVec Ideal S512x512 .f32 :=
  k0_pay34 (B0 m c t) (B1 m c t) (W4 m c t) (k0_pay10 (B4 m c t)) (k0_pay15 (PP m c t))
    (k0_pay16 (W4 m c t) (PP m c t))
    (k0_pay21 (W4 m c t) (k0_pay15 (PP m c t)) (k0_pay17 (PP m c t)) (k0_pay18 (W4 m c t)) k0_pay19 (k0_pay20 (W4 m c t) (PP m c t))
      (constant S128x128 .f32 0x00000000#32))
    (k0_pay27 (W4 m c t) (k0_pay15 (PP m c t)) (k0_pay22 (W4 m c t) (k0_pay15 (PP m c t))) (k0_pay23 (k0_pay15 (PP m c t))) (k0_pay24 (W4 m c t))
      k0_pay25 (k0_pay26 (W4 m c t) (k0_pay15 (PP m c t))))
    (k0_pay28 (W4 m c t) (k0_pay15 (PP m c t))) (k0_pay29 (W4 m c t) (k0_pay15 (PP m c t))) (k0_pay30 (k0_pay15 (PP m c t)))
    (k0_pay31 (W4 m c t)) (k0_pay32 (W4 m c t)) k0_pay33 (constant S128x128 .f32 0x00000000#32)
/-- The gradient at the normalized rows, as a point computes it. -/
abbrev VV (t : Fin cfg0.N) : FVec Ideal S512x512 .f32 :=
  k0_pay57 (W4 m c t)
    (k0_pay40 (W4 m c t) (DD m c t) (k0_pay37 (B0 m c t) (B1 m c t)) (k0_pay38 (W4 m c t)) (k0_pay39 (W4 m c t))
      (iota .tc S128x128 32 [1] iota_S128x128_d1_w32) 64#32)
    (k0_pay45 (W4 m c t) (DD m c t) (k0_pay41 (W4 m c t) (DD m c t)) (k0_pay42 (DD m c t)) (k0_pay43 (W4 m c t)) (k0_pay44 (W4 m c t))
      (iota .tc S128x128 32 [1] iota_S128x128_d1_w32))
    (k0_pay51 (W4 m c t) (DD m c t) (k0_pay46 (W4 m c t) (DD m c t)) (k0_pay47 (W4 m c t) (DD m c t)) (k0_pay48 (DD m c t)) (k0_pay49 (W4 m c t))
      (k0_pay50 (W4 m c t)))
    (k0_pay52 (W4 m c t) (DD m c t)) (k0_pay53 (W4 m c t) (DD m c t)) (k0_pay54 (W4 m c t) (DD m c t)) (k0_pay55 (DD m c t)) (k0_pay56 (W4 m c t))

theorem W4_at (t : Fin cfg0.N) : ∀ (a : Fin 1024) (b : Fin 128), W4 m c t (ix2 a b) = WW m c a.val b.val := p9 (blk3 m c t)
theorem PP_at (t : Fin cfg0.N) : ∀ a b : Fin 512, PP m c t (ix2 a b) = sh t.val (fV m c) a.val b.val := fun a b =>
  (p14 (zv := sh t.val (ZV m c)) (lg := LG m c) (lb := LB m c) (blk2 m c t) (blk5 m c t) (blk6 m c t) a b).trans
    (vF_sh (ZV m c) (LG m c) (LB m c) t.val a.val b.val)
theorem DD_at (t : Fin cfg0.N) : ∀ a b : Fin 512, DD m c t (ix2 a b) = sh t.val (fdS m c) a.val b.val := p36 (blk0 m c t) (blk1 m c t)

theorem UU_at (t : Fin cfg0.N) (a b : Fin 512) : UU m c t (ix2 a b) = sh t.val (fdU m c) a.val b.val :=
  (p34 (blk0 m c t) (blk1 m c t) (W4_at m c t) (p10 (blk4 m c t)) (PP_at m c t) (fw0_at (W4_at m c t) (PP_at m c t)) (fw1_at (W4_at m c t) (PP_at m c t))
    (fw2_at (W4_at m c t) (PP_at m c t)) a b).trans (dzuF_sh (DB m c) (ZU m c) (ZV m c) (WW m c) (BI m c) (LG m c) (LB m c) t.val a.val b.val)

theorem VV_at (t : Fin cfg0.N) (a b : Fin 512) : VV m c t (ix2 a b) = sh t.val (fdV m c) a.val b.val :=
  (p57 (W4_at m c t) (DD_at m c t) (bw0_at (W4_at m c t) (DD_at m c t)) (bw1_at (W4_at m c t) (DD_at m c t)) (bw2_at (W4_at m c t) (DD_at m c t)) a b).trans
    (mixT_sh (WW m c) (fdS m c) t.val a.val b.val)

/-- What a point writes into its block of the gradient at `z`. -/
theorem out7 (t : Fin cfg0.N) (r : Fin 512) (J : Fin 1024) : (outsAt0 m c t.val t.isLt).1 (ix2 r J)
    = k0_pay81 (F := Ideal) (B2 m c t) (B5 m c t) (k0_pay12 (B2 m c t)) (k0_pay13 (B2 m c t)) (UU m c t) (VV m c t) (ix2 r J) := by
  by_cases h0 : t.val % 32 = 0
  · rw [outsAt0_A m c t h0]
    frame_out
    rfl
  · rw [outsAt0_B m c t h0]
    frame_out
    rfl

theorem out7_lo (t : Fin cfg0.N) (r j : Fin 512) (J : Fin 1024) (hJ : J.val = j.val) :
    (outsAt0 m c t.val t.isLt).1 (ix2 r J) = fdU m c (512 * t.val + r.val) j.val :=
  (out7 m c t r J).trans (p81_lo (blk2 m c t) (blk5 m c t) (UU_at m c t) r j J hJ)

theorem out7_hi (t : Fin cfg0.N) (r j : Fin 512) (J : Fin 1024) (hJ : J.val = 512 + j.val) :
    (outsAt0 m c t.val t.isLt).1 (ix2 r J) = fdZ m c (512 * t.val + r.val) j :=
  (out7 m c t r J).trans (p81_hi (blk2 m c t) (blk5 m c t) (VV_at m c t) r j J hJ)

/-! The four accumulators: what a point adds, at the first point to zero. -/

abbrev new8 (t : Fin cfg0.N) (a : Fin 1024) (s : Fin 128) : EReal :=
  dw4 (sh t.val (fdS m c)) (sh t.val (fV m c)) (a.val / 128) (a.val % 128) s.val
abbrev new9 (t : Fin cfg0.N) (p : Fin 128) (q : Fin 512) : EReal :=
  sh t.val (fdS m c) p.val q.val + sh t.val (fdS m c) (128 + p.val) q.val + sh t.val (fdS m c) (256 + p.val) q.val + sh t.val (fdS m c) (384 + p.val) q.val
abbrev new10 (t : Fin cfg0.N) (j : Fin 512) : EReal :=
  ∑ r : Fin 512, sh t.val (fdV m c) r.val j.val * vh (grow (ZV m c) (512 * t.val + r.val)) j
abbrev new11 (t : Fin cfg0.N) (j : Fin 512) : EReal := ∑ r : Fin 512, sh t.val (fdV m c) r.val j.val

/-- The gradient of the weights of the eight lane groups, from one block. -/
abbrev G8 (t : Fin cfg0.N) : FVec Ideal S1024x128 .f32 :=
  k0_pay78 (k0_pay59 (k0_pay15 (PP m c t)) (DD m c t))
    (k0_pay64 (k0_pay15 (PP m c t)) (DD m c t) k0_pay60 k0_pay61 (k0_pay62 (DD m c t)) (k0_pay63 (k0_pay15 (PP m c t))) (constant S128x128 .f32 0x00000000#32))
    (k0_pay65 (k0_pay15 (PP m c t)) (DD m c t) k0_pay58)
    (k0_pay66 (k0_pay15 (PP m c t)) (DD m c t) k0_pay58)
    (k0_pay70 (k0_pay15 (PP m c t)) (DD m c t) k0_pay58 (k0_pay67 (k0_pay15 (PP m c t)) (DD m c t) k0_pay58) (k0_pay68 (DD m c t) k0_pay58)
      (k0_pay69 (k0_pay15 (PP m c t))) (constant S128x128 .f32 0x00000000#32))
    (k0_pay71 (k0_pay15 (PP m c t)) (DD m c t) k0_pay58)
    (k0_pay74 (k0_pay15 (PP m c t)) (DD m c t) k0_pay58 (k0_pay72 (k0_pay15 (PP m c t)) (DD m c t) k0_pay58) (k0_pay73 (DD m c t) k0_pay58))
    (k0_pay75 (k0_pay15 (PP m c t)) (DD m c t) k0_pay58)

theorem G8_at (t : Fin cfg0.N) (a : Fin 1024) (s : Fin 128) : G8 m c t (ix2 a s) = new8 m c t a s := by
  have hp := pay15_at (PP_at m c t)
  have hd := DD_at m c t
  exact p78 (f := fun g t' s' => dw4 (sh t.val (fdS m c)) (sh t.val (fV m c)) g t' s') (dw0_at hp hd) (dw1_at hp hd) (dw2_at hp hd) (dw3_at hp hd)
    (dw4_at hp hd) (dw5_at hp hd) (dw6_at hp hd) (dw7_at hp hd) a s

theorem acc8_first (t : Fin cfg0.N) (h0 : t.val % 32 = 0) (a : Fin 1024) (s : Fin 128) :
    (outsAt0 m c t.val t.isLt).2.1 (ix2 a s) = 0 + new8 m c t a s := by
  rw [outsAt0_A m c t h0]
  frame_out
  exact (p5 (G8 m c t) _ a s).trans (congrArg₂ HAdd.hAdd (p1 a s) (G8_at m c t a s))

theorem acc8_step (t : Fin cfg0.N) (h0 : ¬t.val % 32 = 0) (a : Fin 1024) (s : Fin 128) :
    (outsAt0 m c t.val t.isLt).2.1 (ix2 a s)
      = (outsAt0 m c (t.val - 1) (Nat.lt_of_le_of_lt (Nat.sub_le _ _) t.isLt)).2.1 (ix2 a s) + new8 m c t a s := by
  rw [outsAt0_B m c t h0]
  frame_out
  exact (p5 (G8 m c t) _ a s).trans (congrArg₂ HAdd.hAdd rfl (G8_at m c t a s))

theorem acc9_first (t : Fin cfg0.N) (h0 : t.val % 32 = 0) (a : Fin 128) (s : Fin 512) :
    (outsAt0 m c t.val t.isLt).2.2.1 (ix2 a s) = 0 + new9 m c t a s := by
  rw [outsAt0_A m c t h0]
  frame_out
  exact (p6 _ _ a s).trans (congrArg₂ HAdd.hAdd (p2 a s) (p77 (dv := sh t.val (fdS m c)) (p35 (blk0 m c t) (blk1 m c t)) a s))

theorem acc9_step (t : Fin cfg0.N) (h0 : ¬t.val % 32 = 0) (a : Fin 128) (s : Fin 512) :
    (outsAt0 m c t.val t.isLt).2.2.1 (ix2 a s)
      = (outsAt0 m c (t.val - 1) (Nat.lt_of_le_of_lt (Nat.sub_le _ _) t.isLt)).2.2.1 (ix2 a s) + new9 m c t a s := by
  rw [outsAt0_B m c t h0]
  frame_out
  exact (p6 _ _ a s).trans (congrArg₂ HAdd.hAdd rfl (p77 (dv := sh t.val (fdS m c)) (p35 (blk0 m c t) (blk1 m c t)) a s))

theorem acc10_first (t : Fin cfg0.N) (h0 : t.val % 32 = 0) (z : Fin 1) (j : Fin 512) :
    (outsAt0 m c t.val t.isLt).2.2.2.1 (ix2 z j) = 0 + new10 m c t j := by
  rw [outsAt0_A m c t h0]
  frame_out
  exact (p7 _ _ z j).trans (congrArg₂ HAdd.hAdd (p3 z j) (p79 (V := VV m c t) (blk2 m c t) (VV_at m c t) z j))

theorem acc10_step (t : Fin cfg0.N) (h0 : ¬t.val % 32 = 0) (z : Fin 1) (j : Fin 512) :
    (outsAt0 m c t.val t.isLt).2.2.2.1 (ix2 z j)
      = (outsAt0 m c (t.val - 1) (Nat.lt_of_le_of_lt (Nat.sub_le _ _) t.isLt)).2.2.2.1 (ix2 z j) + new10 m c t j := by
  rw [outsAt0_B m c t h0]
  frame_out
  exact (p7 _ _ z j).trans (congrArg₂ HAdd.hAdd rfl (p79 (V := VV m c t) (blk2 m c t) (VV_at m c t) z j))

theorem acc11_first (t : Fin cfg0.N) (h0 : t.val % 32 = 0) (z : Fin 1) (j : Fin 512) :
    (outsAt0 m c t.val t.isLt).2.2.2.2 (ix2 z j) = 0 + new11 m c t j := by
  rw [outsAt0_A m c t h0]
  frame_out
  exact (p8 _ _ z j).trans (congrArg₂ HAdd.hAdd (p4 z j) (p80 (V := VV m c t) (VV_at m c t) z j))

theorem acc11_step (t : Fin cfg0.N) (h0 : ¬t.val % 32 = 0) (z : Fin 1) (j : Fin 512) :
    (outsAt0 m c t.val t.isLt).2.2.2.2 (ix2 z j)
      = (outsAt0 m c (t.val - 1) (Nat.lt_of_le_of_lt (Nat.sub_le _ _) t.isLt)).2.2.2.2 (ix2 z j) + new11 m c t j := by
  rw [outsAt0_B m c t h0]
  frame_out
  exact (p8 _ _ z j).trans (congrArg₂ HAdd.hAdd rfl (p80 (V := VV m c t) (VV_at m c t) z j))

/-! At the last point the accumulators hold the sums over all chunks and all rows. -/

theorem s_idx (t : Fin cfg0.N) (h : t.val % 32 = 31) (s : Fin 32) : 32 * (t.val / 32) + s.val = s.val := by
  have := tlt t
  omega

theorem acc8_last (t : Fin cfg0.N) (h : t.val % 32 = 31) (a : Fin 1024) (s : Fin 128) : (outsAt0 m c t.val t.isLt).2.1 (ix2 a s)
    = ∑ C : Fin 128, dwc (fdS m c) (fV m c) (a.val / 128) (a.val % 128) s.val C.val := by
  rw [Pipeline.eq_sum_fin_of_reset_step_of_flush (fun n h => ((outsAt0 m c n h).2.1 (ix2 a s) : EReal)) 32 0
    (fun t => new8 m c t a s) (fun t h => acc8_first m c t h a s) (fun t h => acc8_step m c t h a s) t h, zero_add,
    ← chunks fun C => dwc (fdS m c) (fV m c) (a.val / 128) (a.val % 128) s.val C]
  refine Finset.sum_congr rfl fun T _ => ?_
  have e := s_idx t h T
  unfold new8 dw4
  simp only [dwc_sh, e]

theorem acc9_last (t : Fin cfg0.N) (h : t.val % 32 = 31) (p : Fin 128) (q : Fin 512) : (outsAt0 m c t.val t.isLt).2.2.1 (ix2 p q)
    = ∑ C : Fin 128, fdS m c (128 * C.val + p.val) q.val := by
  rw [Pipeline.eq_sum_fin_of_reset_step_of_flush (fun n h => ((outsAt0 m c n h).2.2.1 (ix2 p q) : EReal)) 32 0
    (fun t => new9 m c t p q) (fun t h => acc9_first m c t h p q) (fun t h => acc9_step m c t h p q) t h, zero_add,
    ← chunks fun C => fdS m c (128 * C + p.val) q.val]
  refine Finset.sum_congr rfl fun T _ => ?_
  have e := s_idx t h T
  unfold new9 sh
  refine congrArg₂ HAdd.hAdd (congrArg₂ HAdd.hAdd (congrArg₂ HAdd.hAdd ?_ ?_) ?_) ?_
  all_goals exact congrArg (fun r => fdS m c r q.val) (by dsimp only; omega)

theorem acc10_last (t : Fin cfg0.N) (h : t.val % 32 = 31) (z : Fin 1) (j : Fin 512) : (outsAt0 m c t.val t.isLt).2.2.2.1 (ix2 z j)
    = ∑ r : Fin 16384, fdV m c r.val j.val * vh (grow (ZV m c) r.val) j := by
  rw [Pipeline.eq_sum_fin_of_reset_step_of_flush (fun n h => ((outsAt0 m c n h).2.2.2.1 (ix2 z j) : EReal)) 32 0
    (fun t => new10 m c t j) (fun t h => acc10_first m c t h z j) (fun t h => acc10_step m c t h z j) t h, zero_add,
    ← rows fun r => fdV m c r j.val * vh (grow (ZV m c) r) j]
  refine Finset.sum_congr rfl fun T _ => Finset.sum_congr rfl fun r _ => ?_
  have e := s_idx t h T
  exact congrArg (fun r => fdV m c r j.val * vh (grow (ZV m c) r) j) (by dsimp only; omega)

theorem acc11_last (t : Fin cfg0.N) (h : t.val % 32 = 31) (z : Fin 1) (j : Fin 512) : (outsAt0 m c t.val t.isLt).2.2.2.2 (ix2 z j)
    = ∑ r : Fin 16384, fdV m c r.val j.val := by
  rw [Pipeline.eq_sum_fin_of_reset_step_of_flush (fun n h => ((outsAt0 m c n h).2.2.2.2 (ix2 z j) : EReal)) 32 0
    (fun t => new11 m c t j) (fun t h => acc11_first m c t h z j) (fun t h => acc11_step m c t h z j) t h, zero_add,
    ← rows fun r => fdV m c r j.val]
  refine Finset.sum_congr rfl fun T _ => Finset.sum_congr rfl fun r _ => ?_
  have e := s_idx t h T
  exact congrArg (fun r => fdV m c r j.val) (by dsimp only; omega)

end Cert.KernelIdeal.Value

end
-- ==== Proof.SgOut.lean ====
/- The gating unit's backward pass: the arrays the kernel leaves. -/
module

public import proofs.«01_k».proof.Proof.SgVal

@[expose] public section

set_option maxRecDepth 16384

noncomputable section

open Idealize.ShloMosaic Idealize.ShloMosaic.TcCoe Idealize.SL.Sem Cert.Sg
open Idealize.ShloMosaic.Pipeline (Dat)

namespace Cert.KernelIdeal.Value
open Cert.KernelIdeal Cert.KernelIdeal.Gen Cert.KernelIdeal.Sg

variable (m : (ℓ : Loc nD τ sig) → Buf (Elt Ideal) ℓ) (c : Dev nD)

/-- What the kernel writes into the columns of the two halves. -/
def H7 : FVec Ideal S16384x8192 .bf16 := fun i =>
  (if (i 1).val < 5632 then fdU m c (i 0).val (((i 1).val - 5120) % 512)
    else fdZ m c (i 0).val ⟨((i 1).val - 5632) % 512, Nat.mod_lt _ (by decide)⟩ : EReal)

/-- The first result: those columns, and the given gradient elsewhere. -/
def R7 : FVec Ideal S16384x8192 .bf16 := fun i => if (i 1 : ℕ) / 1024 = 5 then H7 m c i else dzA m c i

def R8 : FVec Ideal S1024x128 .f32 := fun i =>
  (∑ C : Fin 128, dwc (fdS m c) (fV m c) ((i 0).val / 128) ((i 0).val % 128) (i 1).val C.val : EReal)
def R9 : FVec Ideal S128x512 .f32 := fun i => (∑ C : Fin 128, fdS m c (128 * C.val + (i 0).val) (i 1).val : EReal)
def R10 : FVec Ideal S1x512 .f32 := fun i => (∑ r : Fin 16384, fdV m c r.val (i 1).val * vh (grow (ZV m c) r.val) (i 1) : EReal)
def R11 : FVec Ideal S1x512 .f32 := fun i => (∑ r : Fin 16384, fdV m c r.val (i 1).val : EReal)

theorem final8 : (dats m 0 c).arrAt 8 cfg0.N = R8 m c := by
  refine (dats m 0 c).arrAt_eq_of_covers 8 _ (by decide +kernel) fun t hf y => ?_
  have ht : t.val % 32 = 31 := (by decide +kernel : ∀ t : Fin grid0.N, win0_8.flush t = true → t.val % 32 = 31) t hf
  blk_simp
  rw [after0_8]
  idx_vars y
  refine (acc8_last m c t ht y0 y1).trans ?_
  have e : ((View.whole main_v5_1).slice (win0_8.rect t)).emb (ix2 y0 y1) = ix2 y0 y1 := by
    funext a; apply Fin.ext
    match a with
    | ⟨0, _⟩ => blk_simp [idx_val t]
    | ⟨1, _⟩ => blk_simp [idx_val t]
  rw [e]
  rfl

theorem final9 : (dats m 0 c).arrAt 9 cfg0.N = R9 m c := by
  refine (dats m 0 c).arrAt_eq_of_covers 9 _ (by decide +kernel) fun t hf y => ?_
  have ht : t.val % 32 = 31 := (by decide +kernel : ∀ t : Fin grid0.N, win0_9.flush t = true → t.val % 32 = 31) t hf
  blk_simp
  rw [after0_9]
  idx_vars y
  refine (acc9_last m c t ht y0 y1).trans ?_
  have e : ((View.whole main_v5_2).slice (win0_9.rect t)).emb (ix2 y0 y1) = ix2 y0 y1 := by
    funext a; apply Fin.ext
    match a with
    | ⟨0, _⟩ => blk_simp [idx_val t]
    | ⟨1, _⟩ => blk_simp [idx_val t]
  rw [e]
  rfl

theorem final10 : (dats m 0 c).arrAt 10 cfg0.N = R10 m c := by
  refine (dats m 0 c).arrAt_eq_of_covers 10 _ (by decide +kernel) fun t hf y => ?_
  have ht : t.val % 32 = 31 := (by decide +kernel : ∀ t : Fin grid0.N, win0_10.flush t = true → t.val % 32 = 31) t hf
  blk_simp
  rw [after0_10]
  idx_vars y
  refine (acc10_last m c t ht y0 y1).trans ?_
  have e : ((View.whole main_v5_3).slice (win0_10.rect t)).emb (ix2 y0 y1) = ix2 y0 y1 := by
    funext a; apply Fin.ext
    match a with
    | ⟨0, _⟩ => blk_simp [idx_val t]
    | ⟨1, _⟩ => blk_simp [idx_val t]
  rw [e]
  rfl

theorem final11 : (dats m 0 c).arrAt 11 cfg0.N = R11 m c := by
  refine (dats m 0 c).arrAt_eq_of_covers 11 _ (by decide +kernel) fun t hf y => ?_
  have ht : t.val % 32 = 31 := (by decide +kernel : ∀ t : Fin grid0.N, win0_11.flush t = true → t.val % 32 = 31) t hf
  blk_simp
  rw [after0_11]
  idx_vars y
  refine (acc11_last m c t ht y0 y1).trans ?_
  have e : ((View.whole main_v5_4).slice (win0_11.rect t)).emb (ix2 y0 y1) = ix2 y0 y1 := by
    funext a; apply Fin.ext
    match a with
    | ⟨0, _⟩ => blk_simp [idx_val t]
    | ⟨1, _⟩ => blk_simp [idx_val t]
  rw [e]
  rfl

theorem entry_v5_0 : V m c main_v5_0 = dzA m c := by
  unfold V
  simp only [hostOps0, List.flatten_cons, List.flatten_nil, List.append_nil, List.cons_append, List.nil_append]
  after_results_simp
  rfl

theorem final7 : (dats m 0 c).arrAt 7 cfg0.N = R7 m c := by
  have e : (dats m 0 c).arrAt 7 cfg0.N = fun i : S16384x8192.Idx => if (i 1 : ℕ) / 1024 = 5 then H7 m c i else V m c main_v5_0 i := by
    refine (dats m 0 c).arrAt_eq_of_coversWhere 7 _ (fun β => β (1 : Fin _) = 5) (by decide +kernel) (fun t hf y => ?_) (fun j => Iff.rfl)
    blk_simp
    rw [after0_7]
    idx_vars y
    have hN := tlt t
    have e : ((View.whole main_v5_0).slice (win0_7.rect t)).emb (ix2 y0 y1)
        = ix2 (⟨512 * t.val + y0.val, by omega⟩ : Fin 16384) (⟨5120 + y1.val, by omega⟩ : Fin 8192) := by
      funext a; apply Fin.ext
      match a with
      | ⟨0, _⟩ =>
        blk_simp [idx_val t]
        show _ = 512 * t.val + y0.val
        omega
      | ⟨1, _⟩ => blk_simp [idx_val t]
    rw [e]
    show _ = (if 5120 + y1.val < 5632 then fdU m c (512 * t.val + y0.val) ((5120 + y1.val - 5120) % 512)
      else fdZ m c (512 * t.val + y0.val) ⟨(5120 + y1.val - 5632) % 512, Nat.mod_lt _ (by decide)⟩ : EReal)
    by_cases hy : y1.val < 512
    · rw [if_pos (by omega), Nat.add_sub_cancel_left, Nat.mod_eq_of_lt hy]
      exact out7_lo m c t y0 ⟨y1.val, hy⟩ y1 rfl
    · rw [if_neg (by omega)]
      refine (out7_hi m c t y0 ⟨y1.val - 512, by omega⟩ y1 (by dsimp only; omega)).trans ?_
      exact congrArg (fdZ m c (512 * t.val + y0.val)) (Fin.ext (show y1.val - 512 = (5120 + y1.val - 5632) % 512 by omega))
  rw [e, entry_v5_0]
  rfl

end Cert.KernelIdeal.Value

end
-- ==== Proof.SgRef.lean ====
/- The reference of the gating unit's backward pass, entry by entry, and its agreement with the closed forms. -/
module

public import proofs.«01_k».proof.Proof.Gen.ReferenceIdeal.Run
public import proofs.«01_k».proof.Proof.SgForm
public import Idealize.ShloMosaic.Lib.Pointwise

@[expose] public section

set_option maxRecDepth 16384

noncomputable section

open Idealize.ShloMosaic Idealize.ShloMosaic.TcCoe Idealize.SL.Sem Cert.Reals Cert.Sg
open Cert.KernelIdeal.Sg (at2 at2_of wN wN_of biasN zuN zvN rowN fin fin_val grow vF sgF dsF dzuF dvF dzvF mix mixT dwc)

namespace Cert.ReferenceIdeal.Value
open Cert.ReferenceIdeal Cert.ReferenceIdeal.Gen

variable (dz : FVec Ideal S16384x8192 .bf16) (db : FVec Ideal S16384x512 .f32) (z : FVec Ideal S16384x8192 .f32) (w : FVec Ideal S8x128x128 .f32)
  (b : FVec Ideal S8x128 .f32) (lg lb : FVec Ideal S1x512 .f32)

/-- The contents at the launch: the seven arguments, all but the first with real entries. -/
structure Args (V0 : Valuation τ sig (Elt Ideal)) : Prop where
  a0 : V0 (Proc.devRef .tc main_arg0) = dz
  a1 : V0 (Proc.devRef .tc main_arg1) = db
  a2 : V0 (Proc.devRef .tc main_arg2) = z
  a3 : V0 (Proc.devRef .tc main_arg3) = w
  a4 : V0 (Proc.devRef .tc main_arg4) = b
  a5 : V0 (Proc.devRef .tc main_arg5) = lg
  a6 : V0 (Proc.devRef .tc main_arg6) = lb
  k1 : ∀ i, IsReal (db i)
  k2 : ∀ i, IsReal (z i)
  k3 : ∀ i, IsReal (w i)
  k4 : ∀ i, IsReal (b i)
  k5 : ∀ i, IsReal (lg i)
  k6 : ∀ i, IsReal (lb i)

/-- The gradient at the normalized row times the gain. -/
abbrev cF (r : ℕ) (l : Fin 512) : EReal := dvF (at2 db) (zuN z) (wN w) r l.val * rowN lg l

variable {dz db z w b lg lb} {V0 : Valuation τ sig (Elt Ideal)} (h : Args dz db z w b lg lb V0)
include h

theorem v0_at (r : Fin 16384) (j : Fin 512) : res_main_v0 V0 (ix2 r j) = zuN z r.val j.val := by
  unfold res_main_v0
  rw [h.a2]
  refine Eq.trans ?_ (at2_of z r ⟨5120 + j.val, by omega⟩ rfl rfl).symm
  pointwise

theorem v1_at (r : Fin 16384) (j : Fin 512) : res_main_v1 V0 (ix2 r j) = zvN z r.val j.val := by
  unfold res_main_v1
  rw [h.a2]
  refine Eq.trans ?_ (at2_of z r ⟨5632 + j.val, by omega⟩ rfl rfl).symm
  pointwise

theorem v6_at (r : Fin 16384) (j : Fin 512) : res_main_v6 V0 (ix2 r j) = half * zuN z r.val j.val := by
  unfold res_main_v6
  pointwise
  simp only [v0_at h]

theorem v22_at (r : Fin 16384) (j : Fin 512) : res_main_v22 V0 (ix2 r j) = half * zvN z r.val j.val := by
  unfold res_main_v22
  pointwise
  simp only [v1_at h]

theorem v10_at (r : Fin 16384) (j : Fin 512) : res_main_v10 V0 (ix2 r j) = -zuN z r.val j.val * c2 := by
  unfold res_main_v10 res_main_v8
  pointwise
  simp only [v0_at h, sqrt_half]

theorem v26_at (r : Fin 16384) (j : Fin 512) : res_main_v26 V0 (ix2 r j) = -zvN z r.val j.val * c2 := by
  unfold res_main_v26 res_main_v24
  pointwise
  simp only [v1_at h, sqrt_half]

theorem v12_at (r : Fin 16384) (j : Fin 512) : res_main_v12 V0 (ix2 r j) = Ideal.erfc (-zuN z r.val j.val * c2) := by
  unfold res_main_v12
  pointwise
  simp only [v10_at h]
  try rfl

theorem v28_at (r : Fin 16384) (j : Fin 512) : res_main_v28 V0 (ix2 r j) = Ideal.erfc (-zvN z r.val j.val * c2) := by
  unfold res_main_v28
  pointwise
  simp only [v26_at h]
  try rfl

theorem v20_at (r : Fin 16384) (j : Fin 512) : res_main_v20 V0 (ix2 r j) = gelu (zuN z r.val j.val) := by
  rw [← gelu_erfc]
  unfold res_main_v20
  pointwise
  simp only [v6_at h, v12_at h]

theorem v36_at (r : Fin 16384) (j : Fin 512) : res_main_v36 V0 (ix2 r j) = grow (zvN z) r.val j := by
  unfold grow
  rw [← gelu_erfc]
  unfold res_main_v36
  pointwise
  simp only [v22_at h, v28_at h]

theorem v42_at (r : Fin 16384) (j : Fin 512) : res_main_v42 V0 (ix2 r j) = xc (grow (zvN z) r.val) j := by
  unfold res_main_v42
  pointwise
  simp only [v36_at h]

theorem v49_at (r : Fin 16384) (o : Fin 1) : res_main_v49 V0 (ix2 r o) = va (grow (zvN z) r.val) := by
  unfold res_main_v49
  pointwise
  simp only [v42_at h]

theorem v50_at (r : Fin 16384) (o : Fin 1) : res_main_v50 V0 (ix2 r o) = rs (grow (zvN z) r.val) := by
  unfold res_main_v50
  pointwise
  simp only [v49_at h]

theorem v55_at (r : Fin 16384) (j : Fin 512) : res_main_v55 V0 (ix2 r j) = vh (grow (zvN z) r.val) j := by
  unfold res_main_v55
  pointwise
  simp only [v42_at h, v50_at h]

theorem v60_at (k s : Fin 128) (g : Fin 8) (e : Fin 64) :
    res_main_v60 V0 (ix4 k s g e) = vF (zvN z) (rowN lg) (rowN lb) (128 * k.val + s.val) (64 * g.val + e.val) := by
  have hf : fin (64 * g.val + e.val) = ⟨64 * g.val + e.val, by omega⟩ := Fin.ext (Nat.mod_eq_of_lt (by omega))
  have e1 : res_main_v60 V0 (ix4 k s g e) = (show EReal from vh (grow (zvN z) (128 * k.val + s.val)) ⟨64 * g.val + e.val, by omega⟩
      * lg (ix2 0 ⟨64 * g.val + e.val, by omega⟩) + lb (ix2 0 ⟨64 * g.val + e.val, by omega⟩)) := by
    unfold res_main_v60
    rw [h.a5, h.a6]
    refine Eq.trans ?_ (congrArg (fun x => x * lg (ix2 0 ⟨64 * g.val + e.val, by omega⟩) + lb (ix2 0 ⟨64 * g.val + e.val, by omega⟩)) (v55_at h ⟨128 * k.val + s.val, by omega⟩ ⟨64 * g.val + e.val, by omega⟩))
    pointwise
    simp only [Nat.mul_comm _ 128, Nat.mul_comm _ 64]
  rw [e1]
  unfold vF
  rw [hf]
  rfl

theorem v67_at (r : Fin 16384) (j : Fin 512) :
    res_main_v67 V0 (ix2 r j) = sgF (zvN z) (wN w) (biasN b) (rowN lg) (rowN lb) r.val j.val := by
  have e1 : res_main_v67 V0 (ix2 r j) = (show EReal from (∑ s : Fin 128, @HMul.hMul EReal EReal EReal _ (res_main_v60 V0 (ix4 ⟨r.val / 128, by omega⟩ s ⟨j.val / 64, by omega⟩ ⟨j.val % 64, by omega⟩))
      (w (ix3 ⟨j.val / 64, by omega⟩ ⟨r.val % 128, by omega⟩ s))) + b (ix2 ⟨j.val / 64, by omega⟩ ⟨r.val % 128, by omega⟩)) := by
    unfold res_main_v67
    rw [h.a3, h.a4]
    pointwise
  rw [e1]
  unfold sgF mix
  refine congrArg₂ HAdd.hAdd (Finset.sum_congr rfl fun s _ => ?_) ?_
  · rw [v60_at h, @mul_comm EReal _ _ _, ← wN_of w ⟨j.val / 64, by omega⟩ ⟨r.val % 128, by omega⟩ s rfl rfl]
    exact congrArg₂ HMul.hMul rfl (congrArg₂ (vF (zvN z) (rowN lg) (rowN lb)) rfl (by dsimp only; omega))
  · exact (at2_of b ⟨j.val / 64, by omega⟩ ⟨r.val % 128, by omega⟩ rfl rfl).symm

theorem v70_at (r : Fin 16384) (j : Fin 512) :
    res_main_v70 V0 (ix2 r j) = at2 db r.val j.val * sgF (zvN z) (wN w) (biasN b) (rowN lg) (rowN lb) r.val j.val := by
  unfold res_main_v70
  rw [h.a1, at2_of db r j rfl rfl]
  pointwise
  simp only [v67_at h]

theorem v71_at (k p : Fin 128) (q : Fin 512) : res_main_v71 V0 (ix3 k p q) = dsF (at2 db) (zuN z) (128 * k.val + p.val) q.val := by
  unfold dsF
  rw [at2_of db ⟨128 * k.val + p.val, by omega⟩ q rfl rfl, ← v20_at h ⟨128 * k.val + p.val, by omega⟩ q, @mul_comm EReal _ _ _]
  unfold res_main_v71
  rw [h.a1]
  pointwise
  simp only [Nat.mul_comm _ 128, Nat.mul_comm _ 64]

theorem v76_at (g : Fin 8) (k : Fin 128) (e : Fin 64) (t : Fin 128) :
    res_main_v76 V0 (ix4 g k e t) = dsF (at2 db) (zuN z) (128 * k.val + t.val) (64 * g.val + e.val) := by
  rw [← v71_at h k t ⟨64 * g.val + e.val, by omega⟩]
  unfold res_main_v76
  pointwise
  simp only [Nat.mul_comm _ 128, Nat.mul_comm _ 64]

theorem v80_at (r : Fin 16384) (j : Fin 512) : res_main_v80 V0 (ix2 r j) = dvF (at2 db) (zuN z) (wN w) r.val j.val := by
  have e1 : res_main_v80 V0 (ix2 r j) = (show EReal from ∑ t : Fin 128, @HMul.hMul EReal EReal EReal _ (res_main_v76 V0 (ix4 ⟨j.val / 64, by omega⟩ ⟨r.val / 128, by omega⟩ ⟨j.val % 64, by omega⟩ t))
      (w (ix3 ⟨j.val / 64, by omega⟩ t ⟨r.val % 128, by omega⟩))) := by
    unfold res_main_v80
    rw [h.a3]
    pointwise
  rw [e1]
  unfold dvF mixT
  show @Eq EReal _ _
  refine Finset.sum_congr rfl fun t _ => ?_
  rw [v76_at h, @mul_comm EReal _ _ _, ← wN_of w ⟨j.val / 64, by omega⟩ t ⟨r.val % 128, by omega⟩ rfl rfl]
  exact congrArg₂ HMul.hMul rfl (congrArg₂ (dsF (at2 db) (zuN z)) rfl (by dsimp only; omega))

theorem v87_at (r : Fin 16384) (j : Fin 512) : res_main_v87 V0 (ix2 r j) = cF db z w lg r.val j := by
  unfold res_main_v87
  rw [h.a5]
  pointwise
  simp only [v80_at h]
  try rfl

theorem v97_at (r : Fin 16384) (j : Fin 512) : res_main_v97 V0 (ix2 r j) = chS (cF db z w lg r.val) (grow (zvN z) r.val) := by
  unfold res_main_v97
  pointwise
  simp only [v42_at h, v87_at h, v49_at h, v50_at h]

theorem v101_at (r : Fin 16384) (j : Fin 512) : res_main_v101 V0 (ix2 r j) = chT (cF db z w lg r.val) (grow (zvN z) r.val) j := by
  unfold res_main_v101
  pointwise
  simp only [v42_at h, v87_at h, v97_at h, v50_at h]

/-! The intermediate values that are real numbers. -/

omit h in
theorem r_at2 {R Q : ℕ} {φ : FTy} {A : FVec Ideal ⟨2, ![R, Q]⟩ φ} (hA : ∀ i, IsReal (A i)) (r q : ℕ) : IsReal (at2 A r q) := by
  unfold at2
  split_ifs
  · exact hA _
  · exact ⟨0, EReal.coe_zero.symm⟩

omit h in
theorem r_wN {A : FVec Ideal ⟨3, ![8, 128, 128]⟩ .f32} (hA : ∀ i, IsReal (A i)) (r q : ℕ) : IsReal (wN A r q) := by
  unfold wN
  split_ifs
  · exact hA _
  · exact ⟨0, EReal.coe_zero.symm⟩

theorem r_grow (r : ℕ) (l : Fin 512) : IsReal (grow (zvN z) r l) := isReal_gelu (r_at2 h.k2 _ _)

theorem r_dsF (r q : ℕ) : IsReal (dsF (at2 db) (zuN z) r q) := (r_at2 h.k1 _ _).mul (isReal_gelu (r_at2 h.k2 _ _))

theorem r_dvF (r q : ℕ) : IsReal (dvF (at2 db) (zuN z) (wN w) r q) := by
  unfold dvF mixT
  exact IsReal.sum fun _ => (r_wN h.k3 _ _).mul (r_dsF h _ _)

theorem r_cF (r : ℕ) (l : Fin 512) : IsReal (cF db z w lg r l) := (r_dvF h r l.val).mul (h.k5 _)

theorem r_vF (r q : ℕ) : IsReal (vF (zvN z) (rowN lg) (rowN lb) r q) :=
  ((isReal_vh (r_grow h _) _).mul (h.k5 _)).add (h.k6 _)

theorem r_sgF (r q : ℕ) : IsReal (sgF (zvN z) (wN w) (biasN b) (rowN lg) (rowN lb) r q) := by
  unfold sgF mix
  exact (IsReal.sum fun _ => (r_wN h.k3 _ _).mul (r_vF h _ _)).add (r_at2 h.k4 _ _)

theorem v109_at (r : Fin 16384) (j : Fin 512) : res_main_v109 V0 (ix2 r j) = bwd (cF db z w lg r.val) (grow (zvN z) r.val) j := by
  rw [← bwd_eq (r_cF h r.val) (r_grow h r.val) j]
  unfold res_main_v109
  pointwise
  simp only [v101_at h]

/-! The results. -/

/-- The slope of the complementary error function at zero, as the reference computes it. -/
abbrev slopeT : FVec Ideal S_ .f32 := Host.divf (constant S_ .f32 0xC0000000#32) (Host.sqrt (Host.acos (constant S_ .f32 0xBF800000#32)))

theorem slope_bits : Ideal.div (Ideal.ofBits .f32 0xC0000000#32) (Ideal.sqrt (Ideal.acos (Ideal.ofBits .f32 0xBF800000#32))) = ed := by
  have h1 : Ideal.ofBits .f32 0xBF800000#32 = (-1 : EReal) := by
    have : Ideal.ofBits .f32 0xBF800000#32 = ((-1 : ℝ) : EReal) := by
      simp [Ideal.ofBits, Ideal.ieee, -EReal.coe_mul]; norm_num
    rw [this]; simp
  rw [h1, slope]

/-- The gradient through the gate at the first half, and at the second. -/
abbrev loT (V0 : Valuation τ sig (Elt Ideal)) : FVec Ideal S16384x512 .f32 :=
  addf (Host.negf (mulf (mulf (mulf (broadcastInDim S16384x512 ![] bcast_S_S16384x512 slopeT) (Host.exp (mulf (Host.negf (res_main_v10 V0)) (res_main_v10 V0)))) (mulf (res_main_v6 V0) (res_main_v70 V0))) (broadcastInDim S16384x512 ![] bcast_S_S16384x512 (res_main_v8 V0)))) (mulf (broadcastInDim S16384x512 ![] bcast_S_S16384x512 (constant S_ .f32 0x3F000000#32)) (mulf (res_main_v70 V0) (res_main_v12 V0)))
abbrev hiT (V0 : Valuation τ sig (Elt Ideal)) : FVec Ideal S16384x512 .f32 :=
  addf (Host.negf (mulf (mulf (mulf (broadcastInDim S16384x512 ![] bcast_S_S16384x512 slopeT) (Host.exp (mulf (Host.negf (res_main_v26 V0)) (res_main_v26 V0)))) (mulf (res_main_v22 V0) (res_main_v109 V0))) (broadcastInDim S16384x512 ![] bcast_S_S16384x512 (res_main_v24 V0)))) (mulf (broadcastInDim S16384x512 ![] bcast_S_S16384x512 (constant S_ .f32 0x3F000000#32)) (mulf (res_main_v109 V0) (res_main_v28 V0)))

theorem lo_at (r : Fin 16384) (j : Fin 512) : loT V0 (ix2 r j)
    = dzuF (at2 db) (zuN z) (zvN z) (wN w) (biasN b) (rowN lg) (rowN lb) r.val j.val := by
  unfold dzuF
  refine Eq.trans ?_ (geluC_eq (x := zuN z r.val j.val) (r_at2 h.k2 _ _) ((r_at2 h.k1 r.val j.val).mul (r_sgF h r.val j.val)))
  unfold loT slopeT res_main_v8
  pointwise
  simp only [v10_at h, v6_at h, v70_at h, v12_at h, sqrt_half]
  unfold geluC
  rw [← slope_bits h]

theorem hi_at (r : Fin 16384) (j : Fin 512) : hiT V0 (ix2 r j) = dzvF (at2 db) (zuN z) (zvN z) (wN w) (rowN lg) r.val j := by
  unfold dzvF
  refine Eq.trans ?_ (geluC_eq (x := zvN z r.val j.val) (r_at2 h.k2 _ _) (isReal_bwd (r_cF h r.val) (r_grow h r.val) j))
  unfold hiT slopeT res_main_v24
  pointwise
  simp only [v26_at h, v22_at h, v109_at h, v28_at h, sqrt_half]
  unfold geluC
  rw [← slope_bits h]

/-- The first result: the gradient at `z` with the unit's two halves written into the columns that were theirs. -/
abbrev res0T (V0 : Valuation τ sig (Elt Ideal)) : FVec Ideal S16384x8192 .bf16 :=
  concatenate S16384x8192 1 [⟨S16384x5120, ((extractStridedSlice S16384x5120 ![0, 0] (V0 (Proc.devRef .tc main_arg0)) slices_S16384x8192_S16384x5120_0_0) : FVec Ideal S16384x5120 .bf16)⟩, ⟨S16384x512, (truncf .bf16 (loT V0) bitsLt_bf16_f32 : FVec Ideal S16384x512 .bf16)⟩, ⟨S16384x512, (truncf .bf16 (hiT V0) bitsLt_bf16_f32 : FVec Ideal S16384x512 .bf16)⟩, ⟨S16384x2048, ((extractStridedSlice S16384x2048 ![0, 6144] (V0 (Proc.devRef .tc main_arg0)) slices_S16384x8192_S16384x2048_0_6144) : FVec Ideal S16384x2048 .bf16)⟩] concatenates_S16384x5120_S16384x512_S16384x512_S16384x2048_S16384x8192_d1

theorem cat_at (d0 : FVec Ideal S16384x8192 .bf16) (a b : FVec Ideal S16384x512 .f32) (r : Fin 16384) (J : Fin 8192) :
    (concatenate S16384x8192 1 [⟨S16384x5120, ((extractStridedSlice S16384x5120 ![0, 0] d0 slices_S16384x8192_S16384x5120_0_0) : FVec Ideal S16384x5120 .bf16)⟩, ⟨S16384x512, (truncf .bf16 a bitsLt_bf16_f32 : FVec Ideal S16384x512 .bf16)⟩, ⟨S16384x512, (truncf .bf16 b bitsLt_bf16_f32 : FVec Ideal S16384x512 .bf16)⟩, ⟨S16384x2048, ((extractStridedSlice S16384x2048 ![0, 6144] d0 slices_S16384x8192_S16384x2048_0_6144) : FVec Ideal S16384x2048 .bf16)⟩] concatenates_S16384x5120_S16384x512_S16384x512_S16384x2048_S16384x8192_d1 : FVec Ideal S16384x8192 .bf16) (ix2 r J)
    = (show EReal from if J.val / 1024 = 5 then (if J.val < 5632 then a (ix2 r ⟨(J.val - 5120) % 512, Nat.mod_lt _ (by decide)⟩) else b (ix2 r ⟨(J.val - 5632) % 512, Nat.mod_lt _ (by decide)⟩)) else d0 (ix2 r J)) := by
  pointwise
  have hJ := J.isLt
  by_cases h1 : J.val < 5120
  · rw [dif_pos h1, if_neg (show ¬ J.val / 1024 = 5 by omega)]
  by_cases h2 : J.val < 5632
  · rw [dif_neg h1, dif_pos (show J.val - 5120 < 512 by omega), if_pos (show J.val / 1024 = 5 by omega), if_pos h2]
    exact congrArg (fun q => a (ix2 r q)) (Fin.ext (show J.val - 5120 = (J.val - 5120) % 512 by omega))
  by_cases h3 : J.val < 6144
  · rw [dif_neg h1, dif_neg (show ¬ J.val - 5120 < 512 by omega), dif_pos (show J.val - 5120 - 512 < 512 by omega), if_pos (show J.val / 1024 = 5 by omega), if_neg h2]
    exact congrArg (fun q => b (ix2 r q)) (Fin.ext (show J.val - 5120 - 512 = (J.val - 5632) % 512 by omega))
  · rw [dif_neg h1, dif_neg (show ¬ J.val - 5120 < 512 by omega), dif_neg (show ¬ J.val - 5120 - 512 < 512 by omega), if_neg (show ¬ J.val / 1024 = 5 by omega)]
    exact congrArg (fun q => d0 (ix2 r q)) (Fin.ext (show 6144 + (J.val - 5120 - 512 - 512) = J.val by omega))

/-- The second result: the gradient of the mixing weights. -/
abbrev res1T (V0 : Valuation τ sig (Elt Ideal)) : FVec Ideal S1024x128 .f32 :=
  shapeCast S1024x128 (Host.dotGeneral (φ₁ := .f32) (φ₂ := .f32) dot_S8x128x64x128_S128x128x8x64_S8x128x128_12_03_3_1_0_2 none (res_main_v76 V0 : FVec Ideal S8x128x64x128 .f32) (res_main_v60 V0 : FVec Ideal S128x128x8x64 .f32) : FVec Ideal S8x128x128 .f32) shapeCasts_S8x128x128_S1024x128

theorem res1_at (a : Fin 1024) (s : Fin 128) : res1T V0 (ix2 a s)
    = ∑ C : Fin 128, dwc (dsF (at2 db) (zuN z)) (vF (zvN z) (rowN lg) (rowN lb)) (a.val / 128) (a.val % 128) s.val C.val := by
  unfold res1T
  pointwise
  unfold dwc
  show @Eq EReal _ _
  refine Finset.sum_congr rfl fun C _ => Finset.sum_congr rfl fun e _ => ?_
  exact congrArg₂ HMul.hMul (v76_at h _ _ _ _) (v60_at h _ _ _ _)

abbrev res2T (V0 : Valuation τ sig (Elt Ideal)) : FVec Ideal S128x512 .f32 :=
  Host.reduceAdd (shapeCast S1x128x512 (Host.reduceAdd (res_main_v71 V0) (constant S_ .f32 0#32) reducesTo_S128x128x512_S128x512_d0 h_S_) shapeCasts_S128x512_S1x128x512) (constant S_ .f32 0#32) reducesTo_S1x128x512_S128x512_d0 h_S_

theorem res2_at (p : Fin 128) (q : Fin 512) : res2T V0 (ix2 p q) = ∑ C : Fin 128, dsF (at2 db) (zuN z) (128 * C.val + p.val) q.val := by
  unfold res2T
  pointwise
  show @Eq EReal _ _
  rw [Fin.sum_univ_one]
  exact Finset.sum_congr rfl fun C _ => v71_at h C p q

abbrev res3T (V0 : Valuation τ sig (Elt Ideal)) : FVec Ideal S1x512 .f32 :=
  shapeCast S1x512 (Host.reduceAdd (mulf (res_main_v55 V0) (res_main_v80 V0)) (constant S_ .f32 0#32) reducesTo_S16384x512_S512_d0 h_S_) shapeCasts_S512_S1x512

theorem res3_at (i : Fin 1) (j : Fin 512) : res3T V0 (ix2 i j) = ∑ r : Fin 16384, dvF (at2 db) (zuN z) (wN w) r.val j.val * vh (grow (zvN z) r.val) j := by
  unfold res3T
  pointwise
  show @Eq EReal _ _
  refine Finset.sum_congr rfl fun r _ => ?_
  rw [@mul_comm EReal _ _ _]
  exact congrArg₂ HMul.hMul (v80_at h r j) (v55_at h r j)

abbrev res4T (V0 : Valuation τ sig (Elt Ideal)) : FVec Ideal S1x512 .f32 :=
  shapeCast S1x512 (Host.reduceAdd (res_main_v80 V0) (constant S_ .f32 0#32) reducesTo_S16384x512_S512_d0 h_S_) shapeCasts_S512_S1x512

theorem res4_at (i : Fin 1) (j : Fin 512) : res4T V0 (ix2 i j) = ∑ r : Fin 16384, dvF (at2 db) (zuN z) (wN w) r.val j.val := by
  unfold res4T
  pointwise
  show @Eq EReal _ _
  exact Finset.sum_congr rfl fun r _ => v80_at h r j

theorem res0_at (r : Fin 16384) (J : Fin 8192) : res0T V0 (ix2 r J)
    = (show EReal from if J.val / 1024 = 5 then (if J.val < 5632
        then dzuF (at2 db) (zuN z) (zvN z) (wN w) (biasN b) (rowN lg) (rowN lb) r.val ((J.val - 5120) % 512)
        else dzvF (at2 db) (zuN z) (zvN z) (wN w) (rowN lg) r.val ⟨(J.val - 5632) % 512, Nat.mod_lt _ (by decide)⟩) else dz (ix2 r J)) := by
  unfold res0T
  refine (cat_at h _ _ _ r J).trans ?_
  rw [lo_at h, hi_at h, h.a0]

end Cert.ReferenceIdeal.Value

end
-- ==== Proof.SgPre.lean ====
/- What the condition on the arguments of the gating unit's backward pass says: the entries it names are real numbers. -/
module

public import proofs.«01_k».proof.Defs
public import proofs.«01_k».proof.Proof.Reals

@[expose] public section

set_option maxRecDepth 16384

noncomputable section

open Idealize.ShloMosaic Idealize.ShloMosaic.TcCoe Idealize.SL.Sem Cert.Reals

namespace Cert.Pre_finite
variable [Facts]

theorem reals (dz : FVec Ideal S16384x8192 .bf16) (db : FVec Ideal S16384x512 .f32) (z : FVec Ideal S16384x8192 .f32)
    (w : FVec Ideal S8x128x128 .f32) (b : FVec Ideal S8x128 .f32) (lg lb : FVec Ideal S1x512 .f32)
    (h : (fn (F := Ideal) dz db z w b lg lb).1 = (fun _ => 1#1)
      ∧ (fn (F := Ideal) dz db z w b lg lb).2.1 = (fun _ => 1#1)
      ∧ (fn (F := Ideal) dz db z w b lg lb).2.2.1 = (fun _ => 1#1)
      ∧ (fn (F := Ideal) dz db z w b lg lb).2.2.2.1 = (fun _ => 1#1)
      ∧ (fn (F := Ideal) dz db z w b lg lb).2.2.2.2.1 = (fun _ => 1#1)
      ∧ (fn (F := Ideal) dz db z w b lg lb).2.2.2.2.2 = (fun _ => 1#1)) :
    (∀ i, IsReal (db i)) ∧ (∀ i, IsReal (z i)) ∧ (∀ i, IsReal (w i)) ∧ (∀ i, IsReal (b i)) ∧ (∀ i, IsReal (lg i))
      ∧ ∀ i, IsReal (lb i) :=
  ⟨isReal_of_mask db Facts.bcast_S_S16384x512 h.1,
    isReal_of_mask z Facts.bcast_S_S16384x8192 h.2.1,
    isReal_of_mask w Facts.bcast_S_S8x128x128 h.2.2.1,
    isReal_of_mask b Facts.bcast_S_S8x128 h.2.2.2.1,
    isReal_of_mask lg Facts.bcast_S_S1x512 h.2.2.2.2.1,
    isReal_of_mask lb Facts.bcast_S_S1x512 h.2.2.2.2.2⟩

end Cert.Pre_finite

end
-- ==== Proof.SgClaim.lean ====
/- The gating unit's backward pass: the claims, from the kernel's and the reference's entries. -/
module

public import proofs.«01_k».proof.Defs
public import proofs.«01_k».proof.Proof.SgOut
public import proofs.«01_k».proof.Proof.SgRef
public import proofs.«01_k».proof.Proof.SgPre
public import proofs.«01_k».proof.Proof.Gen.Kernel.Frame
public import proofs.«01_k».proof.Proof.Gen.Pre_finite
public import Idealize.ShloMosaic.Lib.Quiescent

@[expose] public section

set_option maxRecDepth 16384

noncomputable section

open Idealize.ShloMosaic Idealize.ShloMosaic.TcCoe Idealize.SL.Sem Cert.Reals

namespace Cert.Sgu

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Cert.Pre_finite.Gen.facts

/-- The reference leaves its arguments and all counters as it found them. -/
theorem ref_quiet : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem ref_quiet_pre : Cert.quiescent_ReferenceIdeal_pre_finite := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The results are equal over real arguments. -/
theorem algebraic : Cert.algebraic_KernelIdeal_ReferenceIdeal_pre_finite := by
  intro m ρ m' ρ' hp ha
  refine ⟨fun c => Cert.KernelIdeal.Value.R7 m c, fun c => Cert.KernelIdeal.Value.R8 m c, fun c => Cert.KernelIdeal.Value.R9 m c,
    fun c => Cert.KernelIdeal.Value.R10 m c, fun c => Cert.KernelIdeal.Value.R11 m c, ?_, ?_⟩
  · refine (θ_run Cert.KernelIdeal.defs _ _).mono (fun _ h c => ?_) (Cert.KernelIdeal.Value.run_blocks (F := Ideal) m ρ)
    obtain ⟨h7, h8, h9, h10, h11, hk⟩ := h c
    exact ⟨h7.trans (Cert.KernelIdeal.Value.final7 m c), h8.trans (Cert.KernelIdeal.Value.final8 m c), h9.trans (Cert.KernelIdeal.Value.final9 m c),
      h10.trans (Cert.KernelIdeal.Value.final10 m c), h11.trans (Cert.KernelIdeal.Value.final11 m c), hk⟩
  have args : ∀ c, Cert.ReferenceIdeal.Value.Args (Cert.KernelIdeal.Value.dzA m c) (Cert.KernelIdeal.Value.dbA m c) (Cert.KernelIdeal.Value.zA m c)
      (Cert.KernelIdeal.Value.wA m c) (Cert.KernelIdeal.Value.bA m c) (Cert.KernelIdeal.Value.lgA m c) (Cert.KernelIdeal.Value.lbA m c)
      (StableHlo.launchContents m' c) := by
    intro c
    obtain ⟨h0, h1, h2, h3, h4, h5, h6⟩ := ha c
    obtain ⟨k1, k2, k3, k4, k5, k6⟩ := Cert.Pre_finite.reals _ _ _ _ _ _ _ (hp c)
    exact ⟨h0, h1, h2, h3, h4, h5, h6, k1, k2, k3, k4, k5, k6⟩
  refine (θ_run Cert.ReferenceIdeal.defs _ _).mono (fun _ h c => ⟨(h c).1.trans ?_, (h c).2.1.trans ?_, (h c).2.2.1.trans ?_,
    (h c).2.2.2.1.trans ?_, (h c).2.2.2.2.1.trans ?_, (h c).2.2.2.2.2⟩)
    (Cert.ReferenceIdeal.Value.run (F := Ideal) m' ρ')
  · funext i
    idx_vars i
    exact Cert.ReferenceIdeal.Value.res0_at (args c) i0 i1
  · funext i
    idx_vars i
    exact Cert.ReferenceIdeal.Value.res1_at (args c) i0 i1
  · funext i
    idx_vars i
    exact Cert.ReferenceIdeal.Value.res2_at (args c) i0 i1
  · funext i
    idx_vars i
    exact Cert.ReferenceIdeal.Value.res3_at (args c) i0 i1
  · funext i
    idx_vars i
    exact Cert.ReferenceIdeal.Value.res4_at (args c) i0 i1

end Cert.Sgu

end
-- ==== Proof.Rms.lean ====
/- The gradient of a root-mean-square norm of a row of 1024 numbers: the closed form a kernel evaluates, and the chain
   of derivatives through square, mean, reciprocal root and product. -/
module

public import proofs.«01_k».proof.Proof.Reals

@[expose] public section

noncomputable section

namespace Cert.Rms

open Idealize.ShloMosaic Cert.Reals

/-- Mean square plus the constant. -/
abbrev ms (x : Fin 1024 → EReal) : EReal :=
  Ideal.div (∑ l, x l * x l) (Ideal.ofBits .f32 0x44800000#32) + Ideal.ofBits .f32 0x358637BD#32

/-- The reciprocal root mean square. -/
abbrev rs (x : Fin 1024 → EReal) : EReal := Ideal.rsqrt (ms x)

/-- The closed form: `c` is the gradient at the normalized row times the gain. -/
abbrev bwd (c x : Fin 1024 → EReal) (j : Fin 1024) : EReal :=
  rs x * (c j - x j * rs x * Ideal.div (∑ l, c l * (x l * rs x)) (Ideal.ofBits .f32 0x44800000#32))

/-- The derivative that reaches the square of an entry, halved. -/
abbrev chain (c x : Fin 1024 → EReal) : EReal :=
  ∑ _z : Fin 1, Ideal.div ((∑ l, x l * c l) * (Ideal.ofBits .f32 0xBF000000#32 * Ideal.div (rs x) (ms x)))
    (Ideal.ofBits .f32 0x44800000#32)

/-- The mean square of real numbers. -/
def msR (x : Fin 1024 → ℝ) : ℝ := (∑ l, x l * x l) / 1024 + eps

theorem msR_pos (x : Fin 1024 → ℝ) : 0 < msR x :=
  add_pos_of_nonneg_of_pos (div_nonneg (Finset.sum_nonneg fun l _ => mul_self_nonneg _) (by norm_num)) eps_pos

theorem ms_coe (x : Fin 1024 → ℝ) : ms (fun l => (x l : EReal)) = (msR x : EReal) := by
  unfold ms msR
  simp only [← EReal.coe_mul, coe_sum, ofBits_1024, ofBits_eps, div_coe_coe _ _ (by norm_num : (1024 : ℝ) ≠ 0), ← EReal.coe_add]

theorem rs_coe (x : Fin 1024 → ℝ) : rs (fun l => (x l : EReal)) = (((Real.sqrt (msR x))⁻¹ : ℝ) : EReal) := by
  unfold rs
  rw [ms_coe, rsqrt_coe_pos _ (msR_pos x)]

theorem isReal_rs {x : Fin 1024 → EReal} (h : ∀ l, IsReal (x l)) : IsReal (rs x) := by
  obtain ⟨x, rfl⟩ := IsReal.fam h
  exact ⟨_, rs_coe x⟩

/-- Over real rows the closed form is the sum of the chain's three terms. -/
theorem bwd_eq {c x : Fin 1024 → EReal} (hc : ∀ l, IsReal (c l)) (hx : ∀ l, IsReal (x l)) (j : Fin 1024) :
    bwd c x j = c j * rs x + x j * chain c x + chain c x * x j := by
  obtain ⟨c, rfl⟩ := IsReal.fam hc
  obtain ⟨x, rfl⟩ := IsReal.fam hx
  have hq := msR_pos x
  have hs : Real.sqrt (msR x) ≠ 0 := (Real.sqrt_pos.2 hq).ne'
  have hss : Real.sqrt (msR x) * Real.sqrt (msR x) = msR x := Real.mul_self_sqrt hq.le
  unfold bwd chain
  rw [rs_coe, ms_coe, div_coe_coe _ _ hq.ne']
  simp only [← EReal.coe_mul, coe_sum, ofBits_1024, ofBits_neg_half, div_coe_coe _ _ (by norm_num : (1024 : ℝ) ≠ 0),
    ← EReal.coe_add, ← EReal.coe_sub]
  congr 1
  have e : ∑ l, c l * (x l * (Real.sqrt (msR x))⁻¹) = (∑ l, x l * c l) * (Real.sqrt (msR x))⁻¹ := by
    rw [Finset.sum_mul]; exact Finset.sum_congr rfl fun l _ => by ring
  rw [e]
  generalize ∑ l, x l * c l = S
  simp only [Finset.univ_unique, Finset.sum_const, Finset.card_singleton, one_smul]
  have hr : (Real.sqrt (msR x))⁻¹ * (Real.sqrt (msR x))⁻¹ = (msR x)⁻¹ := by rw [← mul_inv, hss]
  generalize (Real.sqrt (msR x))⁻¹ = ρ at hr
  rw [div_eq_mul_inv ρ, ← hr]
  ring

theorem isReal_bwd {c x : Fin 1024 → EReal} (hc : ∀ l, IsReal (c l)) (hx : ∀ l, IsReal (x l)) (j : Fin 1024) :
    IsReal (bwd c x j) := by
  obtain ⟨r, hr⟩ := isReal_rs hx
  have hS : IsReal (∑ l, c l * (x l * rs x)) := IsReal.sum fun l => (hc l).mul ((hx l).mul ⟨r, hr⟩)
  obtain ⟨S, hS⟩ := hS
  unfold bwd
  rw [hS, hr, ofBits_1024, div_coe_coe _ _ (by norm_num)]
  exact (isReal_coe _).mul ((hc j).sub (((hx j).mul (isReal_coe _)).mul (isReal_coe _)))

end Cert.Rms

end
-- ==== Proof.K2Arr.lean ====
module

public import proofs.«01_k».proof.Proof.Gen.Kernel2Ideal.Value
public import proofs.«01_k».proof.Proof.Rms
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen

variable (m : (ℓ : Loc nD τ sig) → Buf (Elt Ideal) ℓ) (c : Dev nD)

abbrev dhid : FVec Ideal S16384x3072 .bf16 := m ((c.tc : Thread nD τ).loc main_arg0)
abbrev wg : FVec Ideal S1024x3072 .bf16 := m ((c.tc : Thread nD τ).loc main_arg1)
abbrev wu : FVec Ideal S1024x3072 .bf16 := m ((c.tc : Thread nD τ).loc main_arg2)
abbrev dx2 : FVec Ideal S16384x1024 .f32 := m ((c.tc : Thread nD τ).loc main_arg3)
abbrev xin : FVec Ideal S16384x1024 .f32 := m ((c.tc : Thread nD τ).loc main_arg4)
abbrev mix : FVec Ideal S16384x1024 .f32 := m ((c.tc : Thread nD τ).loc main_arg5)
abbrev gf : FVec Ideal S1x1024 .f32 := m ((c.tc : Thread nD τ).loc main_arg6)
abbrev gp : FVec Ideal S1x1024 .f32 := m ((c.tc : Thread nD τ).loc main_arg7)

/-- The row of the stream after the mixer. -/
def x1 (r : Fin 16384) (j : Fin 1024) : EReal :=
  xin m c (ix2 r j) + mix m c (ix2 r j) * Rms.rs (fun l => mix m c (ix2 r l)) * gp m c (ix2 0 j)

theorem v12_at (r : Fin 16384) (j : Fin 1024) : (V m c main_v12 : FVec Ideal S16384x1024 .f32) (ix2 r j) = x1 m c r j := by
  unfold V
  simp only [hostOps0, List.flatten_cons, List.flatten_nil, List.append_nil, List.cons_append, List.nil_append]
  after_results_simp
  unfold x1
  pointwise

/-- The two weights side by side. -/
def wcat (l : Fin 1024) (k : Fin 6144) : EReal :=
  if h : k.val < 3072 then wg m c (ix2 l ⟨k.val, h⟩) else wu m c (ix2 l ⟨k.val - 3072, by omega⟩)

/-- The normalized row times the two weights. -/
def gu (r : Fin 16384) (k : Fin 6144) : EReal :=
  ∑ l : Fin 1024, x1 m c r l * Rms.rs (fun l => x1 m c r l) * gf m c (ix2 0 l) * wcat m c l k

/-- The two weights as the host puts them side by side. -/
abbrev wcatV : FVec Ideal S1024x6144 .bf16 :=
  concatenate S1024x6144 1 [⟨S1024x3072, wg m c⟩, ⟨S1024x3072, wu m c⟩] concatenates_S1024x3072_S1024x3072_S1024x6144_d1

theorem wcatV_at (l : Fin 1024) (k : Fin 6144) : wcatV m c (ix2 l k) = wcat m c l k := by
  unfold wcatV wcat
  pointwise

theorem v28_eq : (V m c main_v28 : FVec Ideal S16384x6144 .bf16) = truncf .bf16 (Host.dotGeneral (F := Ideal)
    dot_S16384x1024_S1024x6144_S16384x6144_1_0_0_1_n_n none
    (mulf (mulf (V m c main_v12) (V m c main_v21)) (broadcastInDim S16384x1024 ![0, 1] bcast_S1x1024_S16384x1024_0_1 (gf m c)))
    (extf .f32 (wcatV m c) bitsLt_bf16_f32)) bitsLt_bf16_f32 := by
  unfold V
  simp only [hostOps0, List.flatten_cons, List.flatten_nil, List.append_nil, List.cons_append, List.nil_append]
  after_results_simp
  rfl

theorem v21_at (r : Fin 16384) (j : Fin 1024) : (V m c main_v21 : FVec Ideal S16384x1024 .f32) (ix2 r j) = Rms.rs (fun l => x1 m c r l) := by
  unfold V
  simp only [hostOps0, List.flatten_cons, List.flatten_nil, List.append_nil, List.cons_append, List.nil_append]
  after_results_simp
  unfold x1
  pointwise

theorem guV_at (a b : FVec Ideal S16384x1024 .f32) (g : FVec Ideal S1x1024 .f32) (w : FVec Ideal S1024x6144 .bf16) (r : Fin 16384)
    (k : Fin 6144) : truncf .bf16 (Host.dotGeneral (F := Ideal)
    dot_S16384x1024_S1024x6144_S16384x6144_1_0_0_1_n_n none
    (mulf (mulf a b) (broadcastInDim S16384x1024 ![0, 1] bcast_S1x1024_S16384x1024_0_1 g))
    (extf .f32 w bitsLt_bf16_f32)) bitsLt_bf16_f32 (ix2 r k)
      = (show EReal from ∑ l : Fin 1024, a (ix2 r l) * b (ix2 r l) * g (ix2 0 l) * w (ix2 l k)) := by
  pointwise

theorem v28_at (r : Fin 16384) (k : Fin 6144) : (V m c main_v28 : FVec Ideal S16384x6144 .bf16) (ix2 r k) = gu m c r k := by
  rw [v28_eq]
  refine (guV_at _ _ _ _ r k).trans ?_
  unfold gu
  exact Finset.sum_congr rfl fun l _ => by rw [v12_at, v21_at, wcatV_at]

theorem v29_at (k : Fin 6144) (j : Fin 1024) : (V m c main_v29 : FVec Ideal S6144x1024 .bf16) (ix2 k j) = wcat m c j k := by
  have e : (V m c main_v29 : FVec Ideal S6144x1024 .bf16) = transpose S6144x1024 [1, 0] (wcatV m c) transposes_S1024x6144_S6144x1024_1_0 := by
    unfold V
    simp only [hostOps0, List.flatten_cons, List.flatten_nil, List.append_nil, List.cons_append, List.nil_append]
    after_results_simp
    rfl
  rw [e, ← wcatV_at]
  generalize wcatV m c = w
  pointwise

abbrev one : EReal := Ideal.ofBits .f32 0x3F800000#32
/-- The gradient at the gate's entry, and at the up-projection's. -/
def dgS (d g u : EReal) : EReal := d * u * (Ideal.logistic g * (one + g * (one - Ideal.logistic g)))
def duS (d g : EReal) : EReal := d * (g * Ideal.logistic g)

/-- The contribution of one group of 256 columns, on tiles as loaded. -/
def grpv (a b u : FVec Ideal S512x256 .bf16) (w v : FVec Ideal S256x1024 .bf16) (r : Fin 512) (j : Fin 1024) : EReal :=
  (∑ k : Fin 256, dgS (a (ix2 r k)) (b (ix2 r k)) (u (ix2 r k)) * w (ix2 k j)) + ∑ k : Fin 256, duS (a (ix2 r k)) (b (ix2 r k)) * v (ix2 k j)

/-- The eight products of a point, on tiles as loaded. -/
theorem chain_at (a0 a1 a2 a3 b0 b1 b2 b3 u0 u1 u2 u3 : FVec Ideal S512x256 .bf16) (w0 w1 w2 w3 v0 v1 v2 v3 : FVec Ideal S256x1024 .bf16)
    (r : Fin 512) (j : Fin 1024) :
    k0_pay1 (F := Ideal) (k0_pay34 (k0_pay27 (k0_pay25 a1 b1)
      (k0_pay26 (k0_pay19 a0 b0) (k0_pay20 a0 b0 u0 w0) v0 a1 b1 u1 w1) v1)
      (k0_pay31 a2 b2 u2) (k0_pay32 a2 b2) (k0_pay33 w2) (constant S512x1024 FTy.f32 0#32) v2)
      (k0_pay38 a3 b3 u3) (k0_pay39 a3 b3) w3 v3 (ix2 r j)
    = grpv a0 b0 u0 w0 v0 r j + grpv a1 b1 u1 w1 v1 r j + grpv a2 b2 u2 w2 v2 r j + grpv a3 b3 u3 w3 v3 r j := by
  unfold grpv dgS duS
  pointwise [k0_pay1, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39]
  simp only [add_assoc]

theorem off_val : ∀ t : Fin cfg0.N, k0_off1 (grid0.coords t) 0#32 0#32 = ![t.val % 3 * 1024, 0]
    ∧ k0_off1 (grid0.coords t) 3#32 0#32 = ![3072 + t.val % 3 * 1024, 0]
    ∧ k0_off1 (grid0.coords t) 0#32 256#32 = ![t.val % 3 * 1024 + 256, 0]
    ∧ k0_off1 (grid0.coords t) 3#32 256#32 = ![3072 + t.val % 3 * 1024 + 256, 0]
    ∧ k0_off1 (grid0.coords t) 0#32 512#32 = ![t.val % 3 * 1024 + 512, 0]
    ∧ k0_off1 (grid0.coords t) 3#32 512#32 = ![3072 + t.val % 3 * 1024 + 512, 0]
    ∧ k0_off1 (grid0.coords t) 0#32 768#32 = ![t.val % 3 * 1024 + 768, 0]
    ∧ k0_off1 (grid0.coords t) 3#32 768#32 = ![3072 + t.val % 3 * 1024 + 768, 0] :=
  (by decide +kernel : ∀ t : Fin grid0.N, _)

/-- The block indices of the windows at each grid point. -/
theorem idx_val : ∀ t : Fin cfg0.N, win0_0.index t = ![t.val / 3, t.val % 3]
    ∧ win0_1.index t = ![t.val / 3, t.val % 3]
    ∧ win0_2.index t = ![t.val / 3, 3 + t.val % 3]
    ∧ win0_3.index t = ![0, 0]
    ∧ win0_4.index t = ![t.val / 3, 0]
    ∧ win0_5.index t = ![t.val / 3, 0]
    ∧ win0_6.index t = ![t.val / 3, 0]
    ∧ win0_7.index t = ![0, 0]
    ∧ win0_8.index t = ![0, 0]
    ∧ win0_9.index t = ![t.val / 3, t.val % 3]
    ∧ win0_10.index t = ![t.val / 3, t.val % 3]
    ∧ win0_11.index t = ![t.val / 3, 0]
    ∧ win0_12.index t = ![t.val / 3, 0]
    ∧ win0_13.index t = ![0, 0]
    ∧ win0_14.index t = ![0, 0] :=
  (by decide +kernel : ∀ t : Fin grid0.N, _)

/-- The blocks in use at a point. -/
def B0 (t : Fin cfg0.N) : FVec Ideal S512x1024 .bf16 := iblk m c 0 t
def B1 (t : Fin cfg0.N) : FVec Ideal S512x1024 .bf16 := iblk m c 1 t
def B2 (t : Fin cfg0.N) : FVec Ideal S512x1024 .bf16 := iblk m c 2 t
def B3 (t : Fin cfg0.N) : FVec Ideal S6144x1024 .bf16 := iblk m c 3 t
def B4 (t : Fin cfg0.N) : FVec Ideal S512x1024 .f32 := iblk m c 4 t
def B5 (t : Fin cfg0.N) : FVec Ideal S512x1024 .f32 := iblk m c 5 t
def B6 (t : Fin cfg0.N) : FVec Ideal S512x1024 .f32 := iblk m c 6 t
def B7 (t : Fin cfg0.N) : FVec Ideal S1x1024 .f32 := iblk m c 7 t
def B8 (t : Fin cfg0.N) : FVec Ideal S1x1024 .f32 := iblk m c 8 t

/-- The host's arrays. -/
abbrev guV : FVec Ideal S16384x6144 .bf16 := V m c main_v28
abbrev wtV : FVec Ideal S6144x1024 .bf16 := V m c main_v29
abbrev x1V : FVec Ideal S16384x1024 .f32 := V m c main_v12

theorem rowLt (t : Fin cfg0.N) (r : Fin 512) : 512 * (t.val / 3) + r.val < 16384 := by
  have := lt_of_lt_of_eq t.isLt (show cfg0.N = 96 from N_0)
  omega

/-- The array's row of a block's row, and the array's column of a block's column. -/
def row (t : Fin cfg0.N) (r : Fin 512) : Fin 16384 := ⟨512 * (t.val / 3) + r.val, rowLt t r⟩
def col (t : Fin cfg0.N) (k : Fin 1024) : Fin 3072 := ⟨t.val % 3 * 1024 + k.val, by omega⟩

theorem blk0 (t : Fin cfg0.N) (r : Fin 512) (k : Fin 1024) (R : Fin 16384) (K : Fin 3072) (hR : R.val = 512 * (t.val / 3) + r.val)
    (hK : K.val = t.val % 3 * 1024 + k.val) : B0 m c t (ix2 r k) = dhid m c (ix2 R K) := by
  have e : V m c main_arg0 = dhid m c := V_main_arg0 m c
  unfold B0
  rw [← e]
  simp only [iblk]
  generalize V m c = X
  blk_ext [idx_val t]

theorem blk1 (t : Fin cfg0.N) (r : Fin 512) (k : Fin 1024) (R : Fin 16384) (K : Fin 6144) (hR : R.val = 512 * (t.val / 3) + r.val)
    (hK : K.val = t.val % 3 * 1024 + k.val) : B1 m c t (ix2 r k) = gu m c R K := by
  rw [← v28_at]
  unfold B1
  simp only [iblk]
  generalize V m c = X
  blk_ext [idx_val t]

theorem blk2 (t : Fin cfg0.N) (r : Fin 512) (k : Fin 1024) (R : Fin 16384) (K : Fin 6144) (hR : R.val = 512 * (t.val / 3) + r.val)
    (hK : K.val = 3072 + t.val % 3 * 1024 + k.val) : B2 m c t (ix2 r k) = gu m c R K := by
  rw [← v28_at]
  unfold B2
  simp only [iblk]
  generalize V m c = X
  blk_ext [idx_val t]

theorem blk3 (t : Fin cfg0.N) (k : Fin 6144) (j : Fin 1024) : B3 m c t (ix2 k j) = wcat m c j k := by
  rw [← v29_at]
  unfold B3
  simp only [iblk]
  generalize V m c = X
  blk_ext [idx_val t]

theorem blk4 (t : Fin cfg0.N) (r : Fin 512) (j : Fin 1024) (R : Fin 16384) (hR : R.val = 512 * (t.val / 3) + r.val) :
    B4 m c t (ix2 r j) = dx2 m c (ix2 R j) := by
  have e : V m c main_arg3 = dx2 m c := V_main_arg3 m c
  unfold B4
  rw [← e]
  simp only [iblk]
  generalize V m c = X
  blk_ext [idx_val t]

theorem blk5 (t : Fin cfg0.N) (r : Fin 512) (j : Fin 1024) (R : Fin 16384) (hR : R.val = 512 * (t.val / 3) + r.val) :
    B5 m c t (ix2 r j) = x1 m c R j := by
  rw [← v12_at]
  unfold B5
  simp only [iblk]
  generalize V m c = X
  blk_ext [idx_val t]

theorem blk6 (t : Fin cfg0.N) (r : Fin 512) (j : Fin 1024) (R : Fin 16384) (hR : R.val = 512 * (t.val / 3) + r.val) :
    B6 m c t (ix2 r j) = mix m c (ix2 R j) := by
  have e : V m c main_arg5 = mix m c := V_main_arg5 m c
  unfold B6
  rw [← e]
  simp only [iblk]
  generalize V m c = X
  blk_ext [idx_val t]

theorem blk7 (t : Fin cfg0.N) (z : Fin 1) (j : Fin 1024) : B7 m c t (ix2 z j) = gf m c (ix2 z j) := by
  have e : V m c main_arg6 = gf m c := V_main_arg6 m c
  unfold B7
  rw [← e]
  simp only [iblk]
  generalize V m c = X
  blk_ext [idx_val t]

theorem blk8 (t : Fin cfg0.N) (z : Fin 1) (j : Fin 1024) : B8 m c t (ix2 z j) = gp m c (ix2 z j) := by
  have e : V m c main_arg7 = gp m c := V_main_arg7 m c
  unfold B8
  rw [← e]
  simp only [iblk]
  generalize V m c = X
  blk_ext [idx_val t]

/-- The gradients at the gate and at the up-projection, of a block. -/
def dgB (t : Fin cfg0.N) (r : Fin 512) (k : Fin 1024) : EReal := dgS (B0 m c t (ix2 r k)) (B1 m c t (ix2 r k)) (B2 m c t (ix2 r k))
def duB (t : Fin cfg0.N) (r : Fin 512) (k : Fin 1024) : EReal := duS (B0 m c t (ix2 r k)) (B1 m c t (ix2 r k))

end Cert.Kernel2Ideal.Value

end
-- ==== Proof.K2Scr.lean ====
module

public import proofs.«01_k».proof.Proof.K2Arr
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen

variable (m : (ℓ : Loc nD τ sig) → Buf (Elt Ideal) ℓ) (c : Dev nD)

/-- The columns of the first weight and of the second that a point's column block meets. -/
def kg (t : Fin cfg0.N) (k : Fin 1024) : Fin 6144 := ⟨t.val % 3 * 1024 + k.val, by omega⟩
def ku (t : Fin cfg0.N) (k : Fin 1024) : Fin 6144 := ⟨3072 + t.val % 3 * 1024 + k.val, by omega⟩

/-- What the 256 columns from `o` on add to a point's product. -/
def pq (t : Fin cfg0.N) (r : Fin 512) (j : Fin 1024) (o : ℕ) (ho : o + 256 ≤ 1024) : EReal :=
  (∑ k : Fin 256, dgB m c t r ⟨o + k.val, by omega⟩ * B3 m c t (ix2 (kg t ⟨o + k.val, by omega⟩) j))
    + ∑ k : Fin 256, duB m c t r ⟨o + k.val, by omega⟩ * B3 m c t (ix2 (ku t ⟨o + k.val, by omega⟩) j)

/-- The product a point adds to the running block. -/
def part (t : Fin cfg0.N) (r : Fin 512) (j : Fin 1024) : EReal :=
  pq m c t r j 0 (by omega) + pq m c t r j 256 (by omega) + pq m c t r j 512 (by omega) + pq m c t r j 768 (by omega)

theorem grp (t : Fin cfg0.N) (r : Fin 512) (j : Fin 1024) (a b u : FVec Ideal S512x256 .bf16) (w v : FVec Ideal S256x1024 .bf16)
    (o : ℕ) (ho : o + 256 ≤ 1024)
    (ha : ∀ k : Fin 256, a (ix2 r k) = B0 m c t (ix2 r ⟨o + k.val, by omega⟩)) (hb : ∀ k : Fin 256, b (ix2 r k) = B1 m c t (ix2 r ⟨o + k.val, by omega⟩))
    (hu : ∀ k : Fin 256, u (ix2 r k) = B2 m c t (ix2 r ⟨o + k.val, by omega⟩))
    (hw : ∀ k : Fin 256, w (ix2 k j) = B3 m c t (ix2 (kg t ⟨o + k.val, by omega⟩) j))
    (hv : ∀ k : Fin 256, v (ix2 k j) = B3 m c t (ix2 (ku t ⟨o + k.val, by omega⟩) j)) :
    grpv a b u w v r j = pq m c t r j o ho := by
  unfold grpv pq dgB duB
  refine congrArg₂ HAdd.hAdd (Finset.sum_congr rfl fun k _ => ?_) (Finset.sum_congr rfl fun k _ => ?_)
  · rw [ha, hb, hu, hw]
  · rw [ha, hb, hv]

theorem pay2_eq (a : FVec Ideal S512x1024 .f32) (b d : FVec Ideal S512x256 .bf16) (w v : FVec Ideal S256x1024 .bf16) (r : Fin 512) (j : Fin 1024) :
    k0_pay2 (F := Ideal) a b d w v (ix2 r j) = k0_pay1 a b d w v (ix2 r j) := by
  pointwise [k0_pay2]

theorem pay3_eq (a : FVec Ideal S512x1024 .f32) (b d : FVec Ideal S512x256 .bf16) (w v : FVec Ideal S256x1024 .bf16) (x : FVec Ideal S512x1024 .f32) (r : Fin 512) (j : Fin 1024) :
    k0_pay3 (F := Ideal) a b d w v x (ix2 r j) = x (ix2 r j) + k0_pay1 a b d w v (ix2 r j) := by
  pointwise [k0_pay3]

theorem scr_read (h : (Memref.whole cc0_scratch0).IsWhole) (X : Vec Ideal S512x1024 .f32) :
    View.read (Elt Ideal) (View.whole cc0_scratch0) (h.unread X) = X := h.read_unread X

theorem ld_col (X : Vec Ideal S512x1024 .bf16) (o : ℕ) (ho : o + 256 ≤ 1024) (h) (r : Fin 512) (k : Fin 256) :
    View.ld X (Rect.unit ![0, o] ![512, 256] h) (ix2 r k) = X (ix2 r ⟨o + k.val, by omega⟩) := by
  rw [View.ld_apply]
  refine congrArg X (funext fun a => Fin.ext ?_)
  rw [Rect.idx_unit_val]
  match a with
  | ⟨0, _⟩ => exact Nat.zero_add _
  | ⟨1, _⟩ => rfl

theorem ld_row (X : Vec Ideal S6144x1024 .bf16) (f : Fin 2 → ℕ) (p : ℕ) (hp : p + 256 ≤ 6144) (hf : f = ![p, 0]) (h) (k : Fin 256) (j : Fin 1024) :
    View.ld X (Rect.unit f ![256, 1024] h) (ix2 k j) = X (ix2 ⟨p + k.val, by omega⟩ j) := by
  subst hf
  rw [View.ld_apply]
  refine congrArg X (funext fun a => Fin.ext ?_)
  rw [Rect.idx_unit_val]
  match a with
  | ⟨0, _⟩ => rfl
  | ⟨1, _⟩ => exact Nat.zero_add _

theorem ld_g (t : Fin cfg0.N) (o : ℕ) (ho : o + 256 ≤ 1024) (f : Fin 2 → ℕ) (hf : f = ![t.val % 3 * 1024 + o, 0]) (h) (k : Fin 256) (j : Fin 1024) :
    View.ld (iblk m c 3 t : Vec Ideal S6144x1024 .bf16) (Rect.unit f ![256, 1024] h) (ix2 k j) = B3 m c t (ix2 (kg t ⟨o + k.val, by omega⟩) j) := by
  refine (ld_row _ f (t.val % 3 * 1024 + o) (by omega) hf h k j).trans ?_
  exact congrArg (fun z => B3 m c t (ix2 z j)) (Fin.ext (Nat.add_assoc _ _ _))

theorem ld_u (t : Fin cfg0.N) (o : ℕ) (ho : o + 256 ≤ 1024) (f : Fin 2 → ℕ) (hf : f = ![3072 + t.val % 3 * 1024 + o, 0]) (h) (k : Fin 256) (j : Fin 1024) :
    View.ld (iblk m c 3 t : Vec Ideal S6144x1024 .bf16) (Rect.unit f ![256, 1024] h) (ix2 k j) = B3 m c t (ix2 (ku t ⟨o + k.val, by omega⟩) j) := by
  refine (ld_row _ f (3072 + t.val % 3 * 1024 + o) (by omega) hf h k j).trans ?_
  exact congrArg (fun z => B3 m c t (ix2 z j)) (Fin.ext (Nat.add_assoc _ _ _))

/-- At the first column block the scratch is the block's product. -/
theorem scr_first (t : Fin cfg0.N) (h0 : t.val % 3 = 0) (r : Fin 512) (j : Fin 1024) :
    (outsAt0 m c t.val t.isLt).2.2.2.2.2.2 (ix2 r j) = part m c t r j := by
  rw [outsAt0_A m c t h0 (by omega) (by omega)]
  frame_out
  rw [pay2_eq]
  refine (chain_at _ _ _ _ _ _ _ _ _ _ _ _ _ _ _ _ _ _ _ _ r j).trans ?_
  unfold part
  refine congrArg₂ HAdd.hAdd (congrArg₂ HAdd.hAdd (congrArg₂ HAdd.hAdd
    (grp m c t r j _ _ _ _ _ 0 (by omega) ?_ ?_ ?_ ?_ ?_) (grp m c t r j _ _ _ _ _ 256 (by omega) ?_ ?_ ?_ ?_ ?_))
    (grp m c t r j _ _ _ _ _ 512 (by omega) ?_ ?_ ?_ ?_ ?_)) (grp m c t r j _ _ _ _ _ 768 (by omega) ?_ ?_ ?_ ?_ ?_)
  · exact fun k => ld_col _ 0 (by omega) _ r k
  · exact fun k => ld_col _ 0 (by omega) _ r k
  · exact fun k => ld_col _ 0 (by omega) _ r k
  · exact fun k => ld_g m c t 0 (by omega) _ (off_val t).1 _ k j
  · exact fun k => ld_u m c t 0 (by omega) _ (off_val t).2.1 _ k j
  · exact fun k => ld_col _ 256 (by omega) _ r k
  · exact fun k => ld_col _ 256 (by omega) _ r k
  · exact fun k => ld_col _ 256 (by omega) _ r k
  · exact fun k => ld_g m c t 256 (by omega) _ (off_val t).2.2.1 _ k j
  · exact fun k => ld_u m c t 256 (by omega) _ (off_val t).2.2.2.1 _ k j
  · exact fun k => ld_col _ 512 (by omega) _ r k
  · exact fun k => ld_col _ 512 (by omega) _ r k
  · exact fun k => ld_col _ 512 (by omega) _ r k
  · exact fun k => ld_g m c t 512 (by omega) _ (off_val t).2.2.2.2.1 _ k j
  · exact fun k => ld_u m c t 512 (by omega) _ (off_val t).2.2.2.2.2.1 _ k j
  · exact fun k => ld_col _ 768 (by omega) _ r k
  · exact fun k => ld_col _ 768 (by omega) _ r k
  · exact fun k => ld_col _ 768 (by omega) _ r k
  · exact fun k => ld_g m c t 768 (by omega) _ (off_val t).2.2.2.2.2.2.1 _ k j
  · exact fun k => ld_u m c t 768 (by omega) _ (off_val t).2.2.2.2.2.2.2 _ k j

/-- At a later column block the product is added. -/
theorem scr_step (t : Fin cfg0.N) (h0 : ¬t.val % 3 = 0) (r : Fin 512) (j : Fin 1024) :
    (outsAt0 m c t.val t.isLt).2.2.2.2.2.2 (ix2 r j) = (outsAt0 m c (t.val - 1) (Nat.lt_of_le_of_lt (Nat.sub_le _ _) t.isLt)).2.2.2.2.2.2 (ix2 r j) + part m c t r j := by
  by_cases h2 : t.val % 3 = 2
  on_goal 1 => by_cases h3 : t.val < 3
  on_goal 1 => rw [outsAt0_C m c t h0 (by omega) h2 h3 (by omega) h3 (by omega)]
  on_goal 2 => rw [outsAt0_D m c t h0 (by omega) h2 h3 (by omega) h3 (by omega)]
  on_goal 3 => rw [outsAt0_B m c t h0 (by omega) h2]
  all_goals
    frame_out
    rw [scr_read, pay3_eq]
    refine congrArg₂ HAdd.hAdd rfl ?_
    refine (chain_at _ _ _ _ _ _ _ _ _ _ _ _ _ _ _ _ _ _ _ _ r j).trans ?_
    unfold part
    refine congrArg₂ HAdd.hAdd (congrArg₂ HAdd.hAdd (congrArg₂ HAdd.hAdd
      (grp m c t r j _ _ _ _ _ 0 (by omega) ?_ ?_ ?_ ?_ ?_) (grp m c t r j _ _ _ _ _ 256 (by omega) ?_ ?_ ?_ ?_ ?_))
      (grp m c t r j _ _ _ _ _ 512 (by omega) ?_ ?_ ?_ ?_ ?_)) (grp m c t r j _ _ _ _ _ 768 (by omega) ?_ ?_ ?_ ?_ ?_)
    · exact fun k => ld_col _ 0 (by omega) _ r k
    · exact fun k => ld_col _ 0 (by omega) _ r k
    · exact fun k => ld_col _ 0 (by omega) _ r k
    · exact fun k => ld_g m c t 0 (by omega) _ (off_val t).1 _ k j
    · exact fun k => ld_u m c t 0 (by omega) _ (off_val t).2.1 _ k j
    · exact fun k => ld_col _ 256 (by omega) _ r k
    · exact fun k => ld_col _ 256 (by omega) _ r k
    · exact fun k => ld_col _ 256 (by omega) _ r k
    · exact fun k => ld_g m c t 256 (by omega) _ (off_val t).2.2.1 _ k j
    · exact fun k => ld_u m c t 256 (by omega) _ (off_val t).2.2.2.1 _ k j
    · exact fun k => ld_col _ 512 (by omega) _ r k
    · exact fun k => ld_col _ 512 (by omega) _ r k
    · exact fun k => ld_col _ 512 (by omega) _ r k
    · exact fun k => ld_g m c t 512 (by omega) _ (off_val t).2.2.2.2.1 _ k j
    · exact fun k => ld_u m c t 512 (by omega) _ (off_val t).2.2.2.2.2.1 _ k j
    · exact fun k => ld_col _ 768 (by omega) _ r k
    · exact fun k => ld_col _ 768 (by omega) _ r k
    · exact fun k => ld_col _ 768 (by omega) _ r k
    · exact fun k => ld_g m c t 768 (by omega) _ (off_val t).2.2.2.2.2.2.1 _ k j
    · exact fun k => ld_u m c t 768 (by omega) _ (off_val t).2.2.2.2.2.2.2 _ k j

end Cert.Kernel2Ideal.Value

end
-- ==== Proof.K2Val.lean ====
module

public import proofs.«01_k».proof.Proof.K2Scr
public import Idealize.ShloMosaic.Lib.Pointwise
public import Idealize.ShloMosaic.Lib.Pipeline.ValueKit

/-! What the whole run of the second kernel leaves in each of its six results, over the reals: the gradients at the gate and
at the up-projection entry by entry, the two gradients of the rows, and the two gains' gradients as sums over all rows. -/

@[expose] public section

set_option maxRecDepth 16384

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen

variable (m : (ℓ : Loc nD τ sig) → Buf (Elt Ideal) ℓ) (c : Dev nD)

/-- The two gradients of a row, entry by entry. -/
def dgR (r : Fin 16384) (k : Fin 3072) : EReal :=
  dgS (dhid m c (ix2 r k)) (gu m c r ⟨k.val, by omega⟩) (gu m c r ⟨3072 + k.val, by omega⟩)
def duR (r : Fin 16384) (k : Fin 3072) : EReal := duS (dhid m c (ix2 r k)) (gu m c r ⟨k.val, by omega⟩)

theorem dgB_eq (t : Fin cfg0.N) (r : Fin 512) (k : Fin 1024) : dgB m c t r k = dgR m c (row t r) (col t k) := by
  unfold dgB dgR
  rw [blk0 m c t r k (row t r) (col t k) rfl rfl, blk1 m c t r k (row t r) ⟨(col t k).val, by omega⟩ rfl rfl,
    blk2 m c t r k (row t r) ⟨3072 + (col t k).val, by omega⟩ rfl (by show 3072 + (t.val % 3 * 1024 + k.val) = _; omega)]

theorem duB_eq (t : Fin cfg0.N) (r : Fin 512) (k : Fin 1024) : duB m c t r k = duR m c (row t r) (col t k) := by
  unfold duB duR
  rw [blk0 m c t r k (row t r) (col t k) rfl rfl, blk1 m c t r k (row t r) ⟨(col t k).val, by omega⟩ rfl rfl]

/-- The gradient at the normalized row. -/
def dh (r : Fin 16384) (j : Fin 1024) : EReal :=
  (∑ k : Fin 3072, dgR m c r k * wg m c (ix2 j k)) + ∑ k : Fin 3072, duR m c r k * wu m c (ix2 j k)

theorem wcat_lo (j : Fin 1024) (k : Fin 6144) (K : Fin 3072) (h : k.val = K.val) : wcat m c j k = wg m c (ix2 j K) := by
  unfold wcat
  rw [dif_pos (by rw [h]; exact K.isLt)]
  exact congrArg (fun z => wg m c (ix2 j z)) (Fin.ext h)

theorem wcat_hi (j : Fin 1024) (k : Fin 6144) (K : Fin 3072) (h : k.val = 3072 + K.val) : wcat m c j k = wu m c (ix2 j K) := by
  unfold wcat
  rw [dif_neg (by omega)]
  exact congrArg (fun z => wu m c (ix2 j z)) (Fin.ext (by show k.val - 3072 = K.val; omega))

/-- One term of the first product, and one of the second. -/
def tg (r : Fin 16384) (j : Fin 1024) (k : Fin 3072) : EReal := dgR m c r k * wg m c (ix2 j k)
def tu (r : Fin 16384) (j : Fin 1024) (k : Fin 3072) : EReal := duR m c r k * wu m c (ix2 j k)

theorem pq_eq (t : Fin cfg0.N) (r : Fin 512) (j : Fin 1024) (o : ℕ) (ho : o + 256 ≤ 1024) :
    pq m c t r j o ho = (∑ k : Fin 256, tg m c (row t r) j (col t ⟨o + k.val, by omega⟩))
      + ∑ k : Fin 256, tu m c (row t r) j (col t ⟨o + k.val, by omega⟩) := by
  unfold pq
  refine congrArg₂ HAdd.hAdd (Finset.sum_congr rfl fun k _ => ?_) (Finset.sum_congr rfl fun k _ => ?_)
  · rw [dgB_eq, blk3, wcat_lo m c j _ (col t ⟨o + k.val, by omega⟩) rfl, tg]
  · rw [duB_eq, blk3, wcat_hi m c j _ (col t ⟨o + k.val, by omega⟩) (by
      show 3072 + t.val % 3 * 1024 + (o + k.val) = 3072 + (t.val % 3 * 1024 + (o + k.val)); omega), tu]

theorem four (f : Fin 1024 → EReal) : (∑ k : Fin 256, f ⟨0 + k.val, by omega⟩) + (∑ k : Fin 256, f ⟨256 + k.val, by omega⟩)
    + (∑ k : Fin 256, f ⟨512 + k.val, by omega⟩) + (∑ k : Fin 256, f ⟨768 + k.val, by omega⟩) = ∑ k : Fin 1024, f k := by
  have e := @Fin.sum_mul_add_congr EReal inferInstance 1024 4 256
    (fun s k => f ⟨s.val * 256 + k.val, by omega⟩) f (fun _ _ _ => rfl) (by norm_num)
  rw [← e, Fin.sum_univ_four]
  rfl

theorem regroup (a b d e p q r s : EReal) : (a + p) + (b + q) + (d + r) + (e + s) = (a + b + d + e) + (p + q + r + s) := by
  abel

theorem part_eq (t : Fin cfg0.N) (r : Fin 512) (j : Fin 1024) :
    part m c t r j = (∑ k : Fin 1024, tg m c (row t r) j (col t k)) + ∑ k : Fin 1024, tu m c (row t r) j (col t k) := by
  unfold part
  rw [pq_eq, pq_eq, pq_eq, pq_eq, regroup]
  exact congrArg₂ HAdd.hAdd (four fun k => tg m c (row t r) j (col t k)) (four fun k => tu m c (row t r) j (col t k))

/-- At the last column block the scratch holds the whole contraction. -/
theorem scr_last (t : Fin cfg0.N) (h2 : t.val % 3 = 2) (r : Fin 512) (j : Fin 1024) :
    (outsAt0 m c t.val t.isLt).2.2.2.2.2.2 (ix2 r j) = dh m c (row t r) j := by
  rw [Pipeline.eq_sum_fin_of_reset_step_of_flush (fun n h => ((outsAt0 m c n h).2.2.2.2.2.2 (ix2 r j) : EReal)) 3 0
    (fun t => part m c t r j) (fun t h => by rw [zero_add]; exact scr_first m c t h r j) (fun t h => scr_step m c t h r j) t h2, zero_add]
  have hN := lt_of_lt_of_eq t.isLt (show cfg0.N = 96 from N_0)
  simp only [part_eq]
  rw [Finset.sum_add_distrib]
  unfold dh
  refine congrArg₂ HAdd.hAdd (Fin.sum_mul_add_congr (f := tg m c (row t r) j) fun s k hl => ?_)
    (Fin.sum_mul_add_congr (f := tu m c (row t r) j) fun s k hl => ?_)
  all_goals
    have hs : (3 * (t.val / 3) + s.val) / 3 = t.val / 3 := by omega
    have hs' : (3 * (t.val / 3) + s.val) % 3 = s.val := by omega
    congr 1
    · exact Fin.ext (by show 512 * ((3 * (t.val / 3) + s.val) / 3) + r.val = 512 * (t.val / 3) + r.val; rw [hs])
    · exact Fin.ext (by show (3 * (t.val / 3) + s.val) % 3 * 1024 + k.val = s.val * 1024 + k.val; rw [hs'])

/-- What the last column block leaves in the rows' gradients, over the finished contraction. -/
theorem out11_last (t : Fin cfg0.N) (h2 : t.val % 3 = 2) :
    (outsAt0 m c t.val t.isLt).2.2.1 = k0_pay12 (F := Ideal) (outsAt0 m c t.val t.isLt).2.2.2.2.2.2 (B4 m c t) (B5 m c t) (B7 m c t) := by
  by_cases h3 : t.val < 3
  · rw [outsAt0_C m c t (by omega) (by omega) h2 h3 (by omega) h3 (by omega)]
    frame_out
    rfl
  · rw [outsAt0_D m c t (by omega) (by omega) h2 h3 (by omega) h3 (by omega)]
    frame_out
    rfl

theorem out12_last (t : Fin cfg0.N) (h2 : t.val % 3 = 2) :
    (outsAt0 m c t.val t.isLt).2.2.2.1 = k0_pay6 (F := Ideal) (B8 m c t) (k0_pay12 (F := Ideal) (outsAt0 m c t.val t.isLt).2.2.2.2.2.2 (B4 m c t) (B5 m c t) (B7 m c t)) (k0_pay13 (B6 m c t)) (k0_pay14 (B6 m c t)) := by
  by_cases h3 : t.val < 3
  · rw [outsAt0_C m c t (by omega) (by omega) h2 h3 (by omega) h3 (by omega)]
    frame_out
    rfl
  · rw [outsAt0_D m c t (by omega) (by omega) h2 h3 (by omega) h3 (by omega)]
    frame_out
    rfl

/-- The gains' gradients start at the end of the first row block, grow at the end of each later one, and stay between. -/
theorem accf_first (t : Fin cfg0.N) (h2 : t.val % 3 = 2) (h3 : t.val < 3) :
    (outsAt0 m c t.val t.isLt).2.2.2.2.1 = k0_pay4 (F := Ideal) (outsAt0 m c t.val t.isLt).2.2.2.2.2.2 (k0_pay11 (B5 m c t)) := by
  rw [outsAt0_C m c t (by omega) (by omega) h2 h3 (by omega) h3 (by omega)]
  frame_out
  rfl

theorem accf_step (t : Fin cfg0.N) (h2 : t.val % 3 = 2) (h3 : ¬t.val < 3) :
    (outsAt0 m c t.val t.isLt).2.2.2.2.1 = k0_pay7 (F := Ideal) (outsAt0 m c t.val t.isLt).2.2.2.2.2.2 (k0_pay11 (B5 m c t))
      (outsAt0 m c (t.val - 1) (Nat.lt_of_le_of_lt (Nat.sub_le _ _) t.isLt)).2.2.2.2.1 := by
  rw [outsAt0_D m c t (by omega) (by omega) h2 h3 (by omega) h3 (by omega)]
  frame_out
  rfl

theorem accp_first (t : Fin cfg0.N) (h2 : t.val % 3 = 2) (h3 : t.val < 3) :
    (outsAt0 m c t.val t.isLt).2.2.2.2.2.1 = k0_pay5 (F := Ideal) (k0_pay12 (F := Ideal) (outsAt0 m c t.val t.isLt).2.2.2.2.2.2 (B4 m c t) (B5 m c t) (B7 m c t)) (k0_pay14 (B6 m c t)) := by
  rw [outsAt0_C m c t (by omega) (by omega) h2 h3 (by omega) h3 (by omega)]
  frame_out
  rfl

theorem accp_step (t : Fin cfg0.N) (h2 : t.val % 3 = 2) (h3 : ¬t.val < 3) :
    (outsAt0 m c t.val t.isLt).2.2.2.2.2.1 = k0_pay8 (F := Ideal) (k0_pay12 (F := Ideal) (outsAt0 m c t.val t.isLt).2.2.2.2.2.2 (B4 m c t) (B5 m c t) (B7 m c t)) (k0_pay14 (B6 m c t))
      (outsAt0 m c (t.val - 1) (Nat.lt_of_le_of_lt (Nat.sub_le _ _) t.isLt)).2.2.2.2.2.1 := by
  rw [outsAt0_D m c t (by omega) (by omega) h2 h3 (by omega) h3 (by omega)]
  frame_out
  rfl

theorem accf_idle (t : Fin cfg0.N) (h2 : ¬t.val % 3 = 2) :
    (outsAt0 m c t.val t.isLt).2.2.2.2.1 = (outsAt0 m c (t.val - 1) (Nat.lt_of_le_of_lt (Nat.sub_le _ _) t.isLt)).2.2.2.2.1 := by
  by_cases h0 : t.val % 3 = 0
  · rw [outsAt0_A m c t h0 (by omega) h2]
    rfl
  · rw [outsAt0_B m c t h0 (by omega) h2]
    rfl

theorem accf_kept (n : ℕ) (hn : n < cfg0.N) (h7 : n % 3 = 2) : ∀ (k : ℕ) (hk : k ≤ 2) (h : n + k < cfg0.N),
    (outsAt0 m c (n + k) h).2.2.2.2.1 = (outsAt0 m c n hn).2.2.2.2.1
  | 0, _, _ => rfl
  | k + 1, hk, h => by
    have e := accf_idle m c ⟨n + (k + 1), h⟩ (by show ¬(n + (k + 1)) % 3 = 2; omega)
    rw [e]
    exact accf_kept n hn h7 k (by omega) (by omega)

theorem accp_idle (t : Fin cfg0.N) (h2 : ¬t.val % 3 = 2) :
    (outsAt0 m c t.val t.isLt).2.2.2.2.2.1 = (outsAt0 m c (t.val - 1) (Nat.lt_of_le_of_lt (Nat.sub_le _ _) t.isLt)).2.2.2.2.2.1 := by
  by_cases h0 : t.val % 3 = 0
  · rw [outsAt0_A m c t h0 (by omega) h2]
    rfl
  · rw [outsAt0_B m c t h0 (by omega) h2]
    rfl

theorem accp_kept (n : ℕ) (hn : n < cfg0.N) (h7 : n % 3 = 2) : ∀ (k : ℕ) (hk : k ≤ 2) (h : n + k < cfg0.N),
    (outsAt0 m c (n + k) h).2.2.2.2.2.1 = (outsAt0 m c n hn).2.2.2.2.2.1
  | 0, _, _ => rfl
  | k + 1, hk, h => by
    have e := accp_idle m c ⟨n + (k + 1), h⟩ (by show ¬(n + (k + 1)) % 3 = 2; omega)
    rw [e]
    exact accp_kept n hn h7 k (by omega) (by omega)

theorem pay12_at (h d x : FVec Ideal S512x1024 .f32) (g : FVec Ideal S1x1024 .f32) (r : Fin 512) (j : Fin 1024) :
    k0_pay12 (F := Ideal) h d x g (ix2 r j)
      = d (ix2 r j) + Rms.bwd (fun l => h (ix2 r l) * g (ix2 0 l)) (fun l => x (ix2 r l)) j := by
  pointwise [k0_pay12, k0_pay11, k0_pay10, k0_pay9]

theorem pay6_at (d x : FVec Ideal S512x1024 .f32) (g : FVec Ideal S1x1024 .f32) (r : Fin 512) (j : Fin 1024) :
    k0_pay6 (F := Ideal) g d (k0_pay13 x) (k0_pay14 x) (ix2 r j)
      = Rms.bwd (fun l => d (ix2 r l) * g (ix2 0 l)) (fun l => x (ix2 r l)) j := by
  pointwise [k0_pay6, k0_pay13, k0_pay14]

theorem pay4_at (h x : FVec Ideal S512x1024 .f32) (z : Fin 1) (j : Fin 1024) :
    k0_pay4 (F := Ideal) h (k0_pay11 x) (ix2 z j) = ∑ r : Fin 512, h (ix2 r j) * (x (ix2 r j) * Rms.rs fun l => x (ix2 r l)) := by
  pointwise [k0_pay4, k0_pay11, k0_pay10, k0_pay9]

theorem pay5_at (h x : FVec Ideal S512x1024 .f32) (z : Fin 1) (j : Fin 1024) :
    k0_pay5 (F := Ideal) h (k0_pay14 x) (ix2 z j) = ∑ r : Fin 512, h (ix2 r j) * (x (ix2 r j) * Rms.rs fun l => x (ix2 r l)) := by
  pointwise [k0_pay5, k0_pay14, k0_pay13]

theorem pay7_at (h x : FVec Ideal S512x1024 .f32) (p : FVec Ideal S1x1024 .f32) (z : Fin 1) (j : Fin 1024) :
    k0_pay7 (F := Ideal) h x p (ix2 z j) = p (ix2 z j) + k0_pay4 (F := Ideal) h x (ix2 z j) := by
  pointwise [k0_pay7]

theorem pay8_at (h x : FVec Ideal S512x1024 .f32) (p : FVec Ideal S1x1024 .f32) (z : Fin 1) (j : Fin 1024) :
    k0_pay8 (F := Ideal) h x p (ix2 z j) = p (ix2 z j) + k0_pay5 (F := Ideal) h x (ix2 z j) := by
  pointwise [k0_pay8]

/-- The gradient at the stream after the mixer, and the one at the mixer's rows. -/
def dx (r : Fin 16384) (j : Fin 1024) : EReal :=
  dx2 m c (ix2 r j) + Rms.bwd (fun l => dh m c r l * gf m c (ix2 0 l)) (fun l => x1 m c r l) j
def dmix (r : Fin 16384) (j : Fin 1024) : EReal :=
  Rms.bwd (fun l => dx m c r l * gp m c (ix2 0 l)) (fun l => mix m c (ix2 r l)) j
/-- What one row adds to the two gains' gradients. -/
def fterm (j : Fin 1024) (r : Fin 16384) : EReal := dh m c r j * (x1 m c r j * Rms.rs fun l => x1 m c r l)
def pterm (j : Fin 1024) (r : Fin 16384) : EReal := dx m c r j * (mix m c (ix2 r j) * Rms.rs fun l => mix m c (ix2 r l))

theorem dx_at (t : Fin cfg0.N) (h2 : t.val % 3 = 2) (r : Fin 512) (j : Fin 1024) :
    (k0_pay12 (F := Ideal) (outsAt0 m c t.val t.isLt).2.2.2.2.2.2 (B4 m c t) (B5 m c t) (B7 m c t)) (ix2 r j) = dx m c (row t r) j := by
  rw [pay12_at]
  unfold dx
  simp only [scr_last m c t h2]
  rw [blk4 m c t r j (row t r) rfl]
  have b5 := fun l => blk5 m c t r l (row t r) rfl
  have b7 := fun l => blk7 m c t 0 l
  simp only [b5, b7]

theorem dmix_at (t : Fin cfg0.N) (h2 : t.val % 3 = 2) (r : Fin 512) (j : Fin 1024) :
    k0_pay6 (F := Ideal) (B8 m c t) (k0_pay12 (F := Ideal) (outsAt0 m c t.val t.isLt).2.2.2.2.2.2 (B4 m c t) (B5 m c t) (B7 m c t)) (k0_pay13 (B6 m c t)) (k0_pay14 (B6 m c t)) (ix2 r j) = dmix m c (row t r) j := by
  rw [pay6_at]
  unfold dmix
  simp only [dx_at m c t h2]
  have b6 := fun l => blk6 m c t r l (row t r) rfl
  have b8 := fun l => blk8 m c t 0 l
  simp only [b6, b8]

/-- The sum over the rows of one block. -/
def fsum (i : Fin 32) (j : Fin 1024) : EReal := ∑ r : Fin 512, fterm m c j ⟨i.val * 512 + r.val, by omega⟩

theorem fsum_at (t : Fin cfg0.N) (h2 : t.val % 3 = 2) (i : Fin 32) (hi : i.val = t.val / 3) (z : Fin 1) (j : Fin 1024) :
    k0_pay4 (F := Ideal) (outsAt0 m c t.val t.isLt).2.2.2.2.2.2 (k0_pay11 (B5 m c t)) (ix2 z j) = fsum m c i j := by
  refine (pay4_at _ (B5 m c t) z j).trans ?_
  unfold fsum
  refine Finset.sum_congr rfl fun r _ => ?_
  have er : row t r = ⟨i.val * 512 + r.val, by omega⟩ := Fin.ext (by show 512 * (t.val / 3) + r.val = i.val * 512 + r.val; omega)
  unfold fterm
  rw [scr_last m c t h2 r j, ← er]
  have hb := fun l => blk5 m c t r l (row t r) rfl
  simp only [hb]

theorem accf_at (z : Fin 1) (j : Fin 1024) : ∀ (i : ℕ) (hi : i < 32) (n : ℕ) (h : n < cfg0.N), n = 3 * i + 2 →
    (outsAt0 m c n h).2.2.2.2.1 (ix2 z j) = ∑ s : Fin (i + 1), fsum m c ⟨s.val, by omega⟩ j
  | 0, hi, n, h, hn => by
    have e := accf_first m c ⟨n, h⟩ (by show n % 3 = 2; omega) (by show n < 3; omega)
    rw [e, fsum_at m c ⟨n, h⟩ (by show n % 3 = 2; omega) ⟨0, by omega⟩ (by show 0 = n / 3; omega) z j]
    simp
  | i + 1, hi, n, h, hn => by
    have hp : n - 3 < cfg0.N := by omega
    have e := accf_step m c ⟨n, h⟩ (by show n % 3 = 2; omega) (by show ¬n < 3; omega)
    rw [e, pay7_at, fsum_at m c ⟨n, h⟩ (by show n % 3 = 2; omega) ⟨i + 1, hi⟩
      (by show i + 1 = n / 3; omega) z j, Fin.sum_univ_castSucc]
    have k := accf_kept m c (n - 3) hp (by omega) 2 le_rfl (by omega)
    have k' : ∀ q (hq : q < cfg0.N), q = n - 3 + 2 → (outsAt0 m c q hq).2.2.2.2.1 = (outsAt0 m c (n - 3) hp).2.2.2.2.1 := by
      intro q hq e; subst e; exact k
    rw [k' (n - 1) (by omega) (by omega), accf_at z j i (by omega) (n - 3) hp (by omega)]
    rfl

theorem fsum_all (j : Fin 1024) : ∑ s : Fin 32, fsum m c s j = ∑ r : Fin 16384, fterm m c j r :=
  Fin.sum_mul_add_congr (S := 32) (n := 512) (L := 16384) (f := fterm m c j)
    (F := fun s k => fterm m c j ⟨s.val * 512 + k.val, by omega⟩) (fun _ _ _ => rfl) (by norm_num)

/-- The sum over the rows of one block. -/
def psum (i : Fin 32) (j : Fin 1024) : EReal := ∑ r : Fin 512, pterm m c j ⟨i.val * 512 + r.val, by omega⟩

theorem psum_at (t : Fin cfg0.N) (h2 : t.val % 3 = 2) (i : Fin 32) (hi : i.val = t.val / 3) (z : Fin 1) (j : Fin 1024) :
    k0_pay5 (F := Ideal) (k0_pay12 (F := Ideal) (outsAt0 m c t.val t.isLt).2.2.2.2.2.2 (B4 m c t) (B5 m c t) (B7 m c t)) (k0_pay14 (B6 m c t)) (ix2 z j) = psum m c i j := by
  refine (pay5_at _ (B6 m c t) z j).trans ?_
  unfold psum
  refine Finset.sum_congr rfl fun r _ => ?_
  have er : row t r = ⟨i.val * 512 + r.val, by omega⟩ := Fin.ext (by show 512 * (t.val / 3) + r.val = i.val * 512 + r.val; omega)
  unfold pterm
  rw [dx_at m c t h2 r j, ← er]
  have hb := fun l => blk6 m c t r l (row t r) rfl
  simp only [hb]

theorem accp_at (z : Fin 1) (j : Fin 1024) : ∀ (i : ℕ) (hi : i < 32) (n : ℕ) (h : n < cfg0.N), n = 3 * i + 2 →
    (outsAt0 m c n h).2.2.2.2.2.1 (ix2 z j) = ∑ s : Fin (i + 1), psum m c ⟨s.val, by omega⟩ j
  | 0, hi, n, h, hn => by
    have e := accp_first m c ⟨n, h⟩ (by show n % 3 = 2; omega) (by show n < 3; omega)
    rw [e, psum_at m c ⟨n, h⟩ (by show n % 3 = 2; omega) ⟨0, by omega⟩ (by show 0 = n / 3; omega) z j]
    simp
  | i + 1, hi, n, h, hn => by
    have hp : n - 3 < cfg0.N := by omega
    have e := accp_step m c ⟨n, h⟩ (by show n % 3 = 2; omega) (by show ¬n < 3; omega)
    rw [e, pay8_at, psum_at m c ⟨n, h⟩ (by show n % 3 = 2; omega) ⟨i + 1, hi⟩
      (by show i + 1 = n / 3; omega) z j, Fin.sum_univ_castSucc]
    have k := accp_kept m c (n - 3) hp (by omega) 2 le_rfl (by omega)
    have k' : ∀ q (hq : q < cfg0.N), q = n - 3 + 2 → (outsAt0 m c q hq).2.2.2.2.2.1 = (outsAt0 m c (n - 3) hp).2.2.2.2.2.1 := by
      intro q hq e; subst e; exact k
    rw [k' (n - 1) (by omega) (by omega), accp_at z j i (by omega) (n - 3) hp (by omega)]
    rfl

theorem psum_all (j : Fin 1024) : ∑ s : Fin 32, psum m c s j = ∑ r : Fin 16384, pterm m c j r :=
  Fin.sum_mul_add_congr (S := 32) (n := 512) (L := 16384) (f := pterm m c j)
    (F := fun s k => pterm m c j ⟨s.val * 512 + k.val, by omega⟩) (fun _ _ _ => rfl) (by norm_num)

theorem G13_at (z : Fin 1) (j : Fin 1024) : G13 m c (ix2 z j) = ∑ r : Fin 16384, fterm m c j r := by
  rw [G13_last m c, ← outsAt0_sweep m c 95 (lt_of_lt_of_eq (by decide) N_0.symm)]
  exact (accf_at m c z j 31 (by omega) 95 (lt_of_lt_of_eq (by decide) N_0.symm) (by norm_num)).trans (fsum_all m c j)

theorem G14_at (z : Fin 1) (j : Fin 1024) : G14 m c (ix2 z j) = ∑ r : Fin 16384, pterm m c j r := by
  rw [G14_last m c, ← outsAt0_sweep m c 95 (lt_of_lt_of_eq (by decide) N_0.symm)]
  exact (accp_at m c z j 31 (by omega) 95 (lt_of_lt_of_eq (by decide) N_0.symm) (by norm_num)).trans (psum_all m c j)

theorem G11_at (r : Fin 16384) (j : Fin 1024) : G11 m c (ix2 r j) = dx m c r j := by
  have hp : pt11Of (ix2 r j) = 3 * (r.val / 512) + 2 := by
    show 3 * (1 * (r.val / 512 - 0) + 1 * (j.val / 1024 - 0)) + 2 = _
    omega
  have hN : cfg0.N = 96 := N_0
  have ht : pt11Of (ix2 r j) < cfg0.N := by rw [hp, hN]; omega
  unfold G11
  rw [dif_pos ht, ← outsAt0_sweep m c _ ht]
  have hl : loc11Of (ix2 r j) = ix2 (⟨r.val % 512, Nat.mod_lt _ (by decide)⟩ : Fin 512) j := by
    funext a; apply Fin.ext
    match a with
    | ⟨0, _⟩ => rfl
    | ⟨1, _⟩ => show j.val % 1024 = j.val; omega
  have h2 : pt11Of (ix2 r j) % 3 = 2 := by omega
  have er : row ⟨pt11Of (ix2 r j), ht⟩ ⟨r.val % 512, Nat.mod_lt _ (by decide)⟩ = r := Fin.ext (by
    show 512 * (pt11Of (ix2 r j) / 3) + r.val % 512 = r.val
    omega)
  rw [hl, out11_last m c ⟨pt11Of (ix2 r j), ht⟩ h2, dx_at m c ⟨pt11Of (ix2 r j), ht⟩ h2, er]

theorem G12_at (r : Fin 16384) (j : Fin 1024) : G12 m c (ix2 r j) = dmix m c r j := by
  have hp : pt12Of (ix2 r j) = 3 * (r.val / 512) + 2 := by
    show 3 * (1 * (r.val / 512 - 0) + 1 * (j.val / 1024 - 0)) + 2 = _
    omega
  have hN : cfg0.N = 96 := N_0
  have ht : pt12Of (ix2 r j) < cfg0.N := by rw [hp, hN]; omega
  unfold G12
  rw [dif_pos ht, ← outsAt0_sweep m c _ ht]
  have hl : loc12Of (ix2 r j) = ix2 (⟨r.val % 512, Nat.mod_lt _ (by decide)⟩ : Fin 512) j := by
    funext a; apply Fin.ext
    match a with
    | ⟨0, _⟩ => rfl
    | ⟨1, _⟩ => show j.val % 1024 = j.val; omega
  have h2 : pt12Of (ix2 r j) % 3 = 2 := by omega
  have er : row ⟨pt12Of (ix2 r j), ht⟩ ⟨r.val % 512, Nat.mod_lt _ (by decide)⟩ = r := Fin.ext (by
    show 512 * (pt12Of (ix2 r j) / 3) + r.val % 512 = r.val
    omega)
  rw [hl, out12_last m c ⟨pt12Of (ix2 r j), ht⟩ h2, dmix_at m c ⟨pt12Of (ix2 r j), ht⟩ h2, er]

end Cert.Kernel2Ideal.Value

end
-- ==== Proof.K2Out.lean ====
module

public import proofs.«01_k».proof.Proof.K2Arr
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen

variable (m : (ℓ : Loc nD τ sig) → Buf (Elt Ideal) ℓ) (c : Dev nD)

theorem out9 (t : Fin cfg0.N) (r : Fin 512) (j : Fin 1024) :
    (outsAt0 m c t.val t.isLt).1 (ix2 r j) = dgB m c t r j := by
  unfold dgB dgS B0 B1 B2
  by_cases h0 : t.val % 3 = 0
  on_goal 2 => by_cases h2 : t.val % 3 = 2
  on_goal 2 => by_cases h3 : t.val < 3
  on_goal 1 => rw [outsAt0_A m c t h0 (by omega) (by omega)]
  on_goal 2 => rw [outsAt0_C m c t h0 (by omega) h2 h3 (by omega) h3 (by omega)]
  on_goal 3 => rw [outsAt0_D m c t h0 (by omega) h2 h3 (by omega) h3 (by omega)]
  on_goal 4 => rw [outsAt0_B m c t h0 (by omega) h2]
  all_goals
    frame_out
    canon_tiles x hx
    all_goals (open_payloads; pointwise; blk_point [] <;> first | exact hx0.symm | exact hx1.symm)

theorem out10 (t : Fin cfg0.N) (r : Fin 512) (j : Fin 1024) :
    (outsAt0 m c t.val t.isLt).2.1 (ix2 r j) = duB m c t r j := by
  unfold duB duS B0 B1
  by_cases h0 : t.val % 3 = 0
  on_goal 2 => by_cases h2 : t.val % 3 = 2
  on_goal 2 => by_cases h3 : t.val < 3
  on_goal 1 => rw [outsAt0_A m c t h0 (by omega) (by omega)]
  on_goal 2 => rw [outsAt0_C m c t h0 (by omega) h2 h3 (by omega) h3 (by omega)]
  on_goal 3 => rw [outsAt0_D m c t h0 (by omega) h2 h3 (by omega) h3 (by omega)]
  on_goal 4 => rw [outsAt0_B m c t h0 (by omega) h2]
  all_goals
    frame_out
    canon_tiles x hx
    all_goals (open_payloads; pointwise; blk_point [] <;> first | exact hx0.symm | exact hx1.symm)

end Cert.Kernel2Ideal.Value

end
-- ==== Proof.K2Ref.lean ====
/- The reference of the feed-forward entry's backward pass, entry by entry, and its agreement with the closed forms. -/
module

public import proofs.«01_k».proof.Proof.Gen.Reference2Ideal.Run
public import proofs.«01_k».proof.Proof.Rms
public import Idealize.ShloMosaic.Lib.Pointwise

@[expose] public section

set_option maxRecDepth 16384

noncomputable section

open Idealize.ShloMosaic Idealize.ShloMosaic.TcCoe Idealize.SL.Sem Cert.Reals

namespace Cert.Reference2Ideal.Value
open Cert.Reference2Ideal Cert.Reference2Ideal.Gen

variable (d : FVec Ideal S16384x3072 .bf16) (wg wu : FVec Ideal S1024x3072 .bf16) (dx2 x mix : FVec Ideal S16384x1024 .f32)
  (gf gp : FVec Ideal S1x1024 .f32)

/-! The closed forms. -/

/-- The stream after the mixer. -/
def x1F (r : Fin 16384) (j : Fin 1024) : EReal :=
  x (ix2 r j) + mix (ix2 r j) * Rms.rs (fun l => mix (ix2 r l)) * gp (ix2 0 j)
/-- A product of the normalized rows with one of the weights. -/
def prF (w : FVec Ideal S1024x3072 .bf16) (r : Fin 16384) (k : Fin 3072) : EReal :=
  ∑ l : Fin 1024, x1F x mix gp r l * Rms.rs (fun l => x1F x mix gp r l) * gf (ix2 0 l) * w (ix2 l k)
abbrev one : EReal := Ideal.ofBits .f32 0x3F800000#32
theorem one_coe : one = ((1 : ℝ) : EReal) := by
  simp [Ideal.ofBits, Ideal.ieee, ← EReal.coe_mul]
/-- The gradients at the gate and at the up-projection. -/
def dgF (r : Fin 16384) (k : Fin 3072) : EReal :=
  d (ix2 r k) * prF x mix gf gp wu r k * (Ideal.logistic (prF x mix gf gp wg r k)
    * (one + prF x mix gf gp wg r k * (one - Ideal.logistic (prF x mix gf gp wg r k))))
def duF (r : Fin 16384) (k : Fin 3072) : EReal :=
  d (ix2 r k) * (prF x mix gf gp wg r k * Ideal.logistic (prF x mix gf gp wg r k))
/-- The gradient at the normalized rows. -/
def dhF (r : Fin 16384) (j : Fin 1024) : EReal :=
  (∑ k : Fin 3072, dgF d wg wu x mix gf gp r k * wg (ix2 j k)) + ∑ k : Fin 3072, duF d wg x mix gf gp r k * wu (ix2 j k)
def dxF (r : Fin 16384) (j : Fin 1024) : EReal :=
  dx2 (ix2 r j) + Rms.bwd (fun l => dhF d wg wu x mix gf gp r l * gf (ix2 0 l)) (fun l => x1F x mix gp r l) j
def dmixF (r : Fin 16384) (j : Fin 1024) : EReal :=
  Rms.bwd (fun l => dxF d wg wu dx2 x mix gf gp r l * gp (ix2 0 l)) (fun l => mix (ix2 r l)) j
def dgfF (j : Fin 1024) : EReal :=
  ∑ r : Fin 16384, dhF d wg wu x mix gf gp r j * (x1F x mix gp r j * Rms.rs fun l => x1F x mix gp r l)
def dgpF (j : Fin 1024) : EReal :=
  ∑ r : Fin 16384, dxF d wg wu dx2 x mix gf gp r j * (mix (ix2 r j) * Rms.rs fun l => mix (ix2 r l))

/-- The contents at the launch: the eight arguments, their entries real. -/
structure Args (V0 : Valuation τ sig (Elt Ideal)) : Prop where
  a0 : V0 (Proc.devRef .tc main_arg0) = d
  a1 : V0 (Proc.devRef .tc main_arg1) = wg
  a2 : V0 (Proc.devRef .tc main_arg2) = wu
  a3 : V0 (Proc.devRef .tc main_arg3) = dx2
  a4 : V0 (Proc.devRef .tc main_arg4) = x
  a5 : V0 (Proc.devRef .tc main_arg5) = mix
  a6 : V0 (Proc.devRef .tc main_arg6) = gf
  a7 : V0 (Proc.devRef .tc main_arg7) = gp
  k0 : ∀ i, IsReal (d i)
  k1 : ∀ i, IsReal (wg i)
  k2 : ∀ i, IsReal (wu i)
  k3 : ∀ i, IsReal (dx2 i)
  k4 : ∀ i, IsReal (x i)
  k5 : ∀ i, IsReal (mix i)
  k6 : ∀ i, IsReal (gf i)
  k7 : ∀ i, IsReal (gp i)

variable {d wg wu dx2 x mix gf gp} {V0 : Valuation τ sig (Elt Ideal)} (h : Args d wg wu dx2 x mix gf gp V0)
include h

/-! Every intermediate value is a real number. -/

theorem r_x1 (r : Fin 16384) (j : Fin 1024) : IsReal (x1F x mix gp r j) :=
  (h.k4 _).add (((h.k5 _).mul (Rms.isReal_rs fun _ => h.k5 _)).mul (h.k7 _))

theorem r_pr (w : FVec Ideal S1024x3072 .bf16) (hw : ∀ i, IsReal (w i)) (r : Fin 16384) (k : Fin 3072) : IsReal (prF x mix gf gp w r k) :=
  IsReal.sum fun l => (((r_x1 h r l).mul (Rms.isReal_rs fun l => r_x1 h r l)).mul (h.k6 _)).mul (hw _)

omit h in
theorem r_logistic {y : EReal} (hy : IsReal y) : IsReal (Ideal.logistic y) := by
  obtain ⟨y, rfl⟩ := hy
  exact ⟨_, Ideal.logistic_coe y⟩

omit h in
theorem r_one : IsReal one := ⟨1, one_coe⟩

theorem r_dg (r : Fin 16384) (k : Fin 3072) : IsReal (dgF d wg wu x mix gf gp r k) :=
  ((h.k0 _).mul (r_pr h wu h.k2 r k)).mul ((r_logistic (r_pr h wg h.k1 r k)).mul
    (r_one.add ((r_pr h wg h.k1 r k).mul (r_one.sub (r_logistic (r_pr h wg h.k1 r k))))))

theorem r_du (r : Fin 16384) (k : Fin 3072) : IsReal (duF d wg x mix gf gp r k) :=
  (h.k0 _).mul ((r_pr h wg h.k1 r k).mul (r_logistic (r_pr h wg h.k1 r k)))

theorem r_dh (r : Fin 16384) (j : Fin 1024) : IsReal (dhF d wg wu x mix gf gp r j) :=
  (IsReal.sum fun k => (r_dg h r k).mul (h.k1 _)).add (IsReal.sum fun k => (r_du h r k).mul (h.k2 _))

theorem r_dx (r : Fin 16384) (j : Fin 1024) : IsReal (dxF d wg wu dx2 x mix gf gp r j) :=
  (h.k3 _).add (Rms.isReal_bwd (fun l => (r_dh h r l).mul (h.k6 _)) (fun l => r_x1 h r l) j)

/-! The reference's arrays. -/

theorem v6_at (r : Fin 16384) (z : Fin 1) : res_main_v6 V0 (ix2 r z) = Rms.ms (fun l => mix (ix2 r l)) := by
  unfold res_main_v6
  rw [h.a5]
  pointwise

theorem v7_at (r : Fin 16384) (z : Fin 1) : res_main_v7 V0 (ix2 r z) = Rms.rs (fun l => mix (ix2 r l)) := by
  unfold res_main_v7 res_main_v6
  rw [h.a5]
  pointwise

theorem v12_at (r : Fin 16384) (j : Fin 1024) : res_main_v12 V0 (ix2 r j) = (show EReal from mix (ix2 r j) * Rms.rs (fun l => mix (ix2 r l))) := by
  unfold res_main_v12 res_main_v7 res_main_v6
  rw [h.a5]
  pointwise

theorem v15_at (r : Fin 16384) (j : Fin 1024) : res_main_v15 V0 (ix2 r j) = x1F x mix gp r j := by
  unfold res_main_v15 res_main_v12 res_main_v7 res_main_v6
  rw [h.a4, h.a5, h.a7]
  unfold x1F
  pointwise

theorem v22_at (r : Fin 16384) (z : Fin 1) : res_main_v22 V0 (ix2 r z) = Rms.ms (fun l => x1F x mix gp r l) := by
  unfold res_main_v22
  pointwise
  simp only [v15_at h]

theorem v23_at (r : Fin 16384) (z : Fin 1) : res_main_v23 V0 (ix2 r z) = Rms.rs (fun l => x1F x mix gp r l) := by
  unfold res_main_v23
  pointwise
  simp only [v22_at h]

theorem v28_at (r : Fin 16384) (j : Fin 1024) : res_main_v28 V0 (ix2 r j) = (show EReal from x1F x mix gp r j * Rms.rs (fun l => x1F x mix gp r l)) := by
  unfold res_main_v28
  pointwise
  simp only [v15_at h, v23_at h]

theorem v30_at (r : Fin 16384) (j : Fin 1024) :
    res_main_v30 V0 (ix2 r j) = (show EReal from x1F x mix gp r j * Rms.rs (fun l => x1F x mix gp r l) * gf (ix2 0 j)) := by
  unfold res_main_v30
  rw [h.a6]
  pointwise
  simp only [v28_at h]

theorem v32_at (r : Fin 16384) (k : Fin 3072) : res_main_v32 V0 (ix2 r k) = prF x mix gf gp wg r k := by
  unfold res_main_v32 res_main_v31
  rw [h.a1]
  pointwise
  simp only [v30_at h]
  rfl

theorem v34_at (r : Fin 16384) (k : Fin 3072) : res_main_v34 V0 (ix2 r k) = prF x mix gf gp wu r k := by
  unfold res_main_v34 res_main_v33
  rw [h.a2]
  pointwise
  simp only [v30_at h]
  rfl

theorem v35_2_at (r : Fin 16384) (k : Fin 3072) : res_main_v35_2 V0 (ix2 r k) = Ideal.logistic (prF x mix gf gp wg r k) := by
  unfold res_main_v35_2 Ideal.logistic
  pointwise
  simp only [v32_at h]

theorem v38_at (r : Fin 16384) (k : Fin 3072) : res_main_v38 V0 (ix2 r k) = duF d wg x mix gf gp r k := by
  unfold res_main_v38 res_main_v35_0 res_main_v37
  rw [h.a0]
  pointwise
  simp only [v32_at h, v35_2_at h]
  exact @mul_comm EReal _ _ _

theorem v40_raw (r : Fin 16384) (k : Fin 3072) : res_main_v40 V0 (ix2 r k)
    = (show EReal from d (ix2 r k) * prF x mix gf gp wu r k * Ideal.logistic (prF x mix gf gp wg r k)
      + prF x mix gf gp wg r k * (d (ix2 r k) * prF x mix gf gp wu r k) * (Ideal.logistic (prF x mix gf gp wg r k)
        * (one - Ideal.logistic (prF x mix gf gp wg r k)))) := by
  unfold res_main_v40 res_main_v39 res_main_v37
  rw [h.a0]
  pointwise
  simp only [v32_at h, v34_at h, v35_2_at h]

omit h in
theorem silu_alg {a g s o : EReal} (ha : IsReal a) (hg : IsReal g) (hs : IsReal s) (ho : o = ((1 : ℝ) : EReal)) :
    a * s + g * a * (s * (o - s)) = a * (s * (o + g * (o - s))) := by
  obtain ⟨a, rfl⟩ := ha
  obtain ⟨g, rfl⟩ := hg
  obtain ⟨s, rfl⟩ := hs
  subst ho
  simp only [← EReal.coe_mul, ← EReal.coe_add, ← EReal.coe_sub]
  congr 1
  ring

theorem v40_at (r : Fin 16384) (k : Fin 3072) : res_main_v40 V0 (ix2 r k) = dgF d wg wu x mix gf gp r k := by
  rw [v40_raw h]
  exact silu_alg ((h.k0 _).mul (r_pr h wu h.k2 r k)) (r_pr h wg h.k1 r k) (r_logistic (r_pr h wg h.k1 r k)) one_coe

theorem v43_at (r : Fin 16384) (j : Fin 1024) : res_main_v43 V0 (ix2 r j) = dhF d wg wu x mix gf gp r j := by
  unfold res_main_v43 res_main_v31 res_main_v33
  rw [h.a1, h.a2]
  pointwise
  simp only [v38_at h, v40_at h]
  exact @add_comm EReal _ _ _

theorem v48_at (r : Fin 16384) (j : Fin 1024) :
    res_main_v48 V0 (ix2 r j) = (show EReal from dhF d wg wu x mix gf gp r j * gf (ix2 0 j)) := by
  unfold res_main_v48
  rw [h.a6]
  pointwise
  simp only [v43_at h]

theorem v59_at (r : Fin 16384) (j : Fin 1024) :
    res_main_v59 V0 (ix2 r j) = Rms.chain (fun l => dhF d wg wu x mix gf gp r l * gf (ix2 0 l)) (fun l => x1F x mix gp r l) := by
  unfold res_main_v59
  pointwise
  simp only [v48_at h, v15_at h, v22_at h, v23_at h]

theorem res2_at (r : Fin 16384) (j : Fin 1024) :
    (addf (addf (addf (V0 (Proc.devRef .tc main_arg3)) (mulf (res_main_v48 V0) (broadcastInDim S16384x1024 ![0, 1] bcast_S16384x1_S16384x1024_0_1 (res_main_v23 V0)))) (mulf (res_main_v15 V0) (res_main_v59 V0))) (mulf (res_main_v59 V0) (res_main_v15 V0))
      : FVec Ideal S16384x1024 .f32) (ix2 r j) = dxF d wg wu dx2 x mix gf gp r j := by
  rw [h.a3]
  pointwise
  simp only [v48_at h, v15_at h, v23_at h, v59_at h]
  unfold dxF
  rw [Rms.bwd_eq (fun l => (r_dh h r l).mul (h.k6 _)) fun l => r_x1 h r l]
  simp only [add_assoc]

theorem v64_at (r : Fin 16384) (j : Fin 1024) : res_main_v64 V0 (ix2 r j) = dxF d wg wu dx2 x mix gf gp r j := by
  unfold res_main_v64
  refine Eq.trans ?_ (res2_at h r j)
  pointwise

theorem v69_at (r : Fin 16384) (j : Fin 1024) :
    res_main_v69 V0 (ix2 r j) = (show EReal from dxF d wg wu dx2 x mix gf gp r j * gp (ix2 0 j)) := by
  unfold res_main_v69
  rw [h.a7]
  pointwise
  simp only [v64_at h]

theorem v79_at (r : Fin 16384) (j : Fin 1024) :
    res_main_v79 V0 (ix2 r j) = Rms.chain (fun l => dxF d wg wu dx2 x mix gf gp r l * gp (ix2 0 l)) (fun l => mix (ix2 r l)) := by
  unfold res_main_v79
  rw [h.a5]
  pointwise
  simp only [v69_at h, v6_at h, v7_at h]

/-! The results. -/

theorem res0_at (r : Fin 16384) (k : Fin 3072) :
    (truncf .bf16 (res_main_v40 V0) bitsLt_bf16_f32 : FVec Ideal S16384x3072 .bf16) (ix2 r k) = dgF d wg wu x mix gf gp r k :=
  v40_at h r k

theorem res1_at (r : Fin 16384) (k : Fin 3072) :
    (truncf .bf16 (res_main_v38 V0) bitsLt_bf16_f32 : FVec Ideal S16384x3072 .bf16) (ix2 r k) = duF d wg x mix gf gp r k :=
  v38_at h r k

theorem res3_at (r : Fin 16384) (j : Fin 1024) :
    (truncf .bf16 (addf (addf (mulf (res_main_v69 V0) (broadcastInDim S16384x1024 ![0, 1] bcast_S16384x1_S16384x1024_0_1 (res_main_v7 V0))) (mulf (V0 (Proc.devRef .tc main_arg5)) (res_main_v79 V0))) (mulf (res_main_v79 V0) (V0 (Proc.devRef .tc main_arg5)))) bitsLt_bf16_f32
      : FVec Ideal S16384x1024 .bf16) (ix2 r j) = dmixF d wg wu dx2 x mix gf gp r j := by
  rw [h.a5]
  pointwise
  simp only [v69_at h, v7_at h, v79_at h]
  unfold dmixF
  rw [Rms.bwd_eq (fun l => (r_dx h r l).mul (h.k7 _)) fun l => h.k5 _]

theorem res4_at (z : Fin 1) (j : Fin 1024) :
    (shapeCast S1x1024 (Host.reduceAdd (mulf (res_main_v28 V0) (res_main_v43 V0)) (constant S_ .f32 0x00000000#32) reducesTo_S16384x1024_S1024_d0 h_S_) shapeCasts_S1024_S1x1024
      : FVec Ideal S1x1024 .f32) (ix2 z j) = dgfF d wg wu x mix gf gp j := by
  pointwise
  simp only [v28_at h, v43_at h]
  exact Finset.sum_congr rfl fun r _ => mul_comm _ _

theorem res5_at (z : Fin 1) (j : Fin 1024) :
    (shapeCast S1x1024 (Host.reduceAdd (mulf (res_main_v12 V0) (res_main_v64 V0)) (constant S_ .f32 0x00000000#32) reducesTo_S16384x1024_S1024_d0 h_S_) shapeCasts_S1024_S1x1024
      : FVec Ideal S1x1024 .f32) (ix2 z j) = dgpF d wg wu dx2 x mix gf gp j := by
  pointwise
  simp only [v12_at h, v64_at h]
  exact Finset.sum_congr rfl fun r _ => mul_comm _ _

end Cert.Reference2Ideal.Value

end
-- ==== Proof.K2Pre.lean ====
/- What the condition on the arguments of the feed-forward entry's backward pass says: their entries are real numbers. -/
module

public import proofs.«01_k».proof.Defs
public import proofs.«01_k».proof.Proof.Reals

@[expose] public section

set_option maxRecDepth 16384

noncomputable section

open Idealize.ShloMosaic Idealize.ShloMosaic.TcCoe Idealize.SL.Sem Cert.Reals

namespace Cert.Pre_finite2
variable [Facts]

theorem reals (d : FVec Ideal S16384x3072 .bf16) (wg wu : FVec Ideal S1024x3072 .bf16) (dx2 x mix : FVec Ideal S16384x1024 .f32)
    (gf gp : FVec Ideal S1x1024 .f32)
    (h : (fn (F := Ideal) d wg wu dx2 x mix gf gp).1 = (fun _ => 1#1)
      ∧ (fn (F := Ideal) d wg wu dx2 x mix gf gp).2.1 = (fun _ => 1#1)
      ∧ (fn (F := Ideal) d wg wu dx2 x mix gf gp).2.2.1 = (fun _ => 1#1)
      ∧ (fn (F := Ideal) d wg wu dx2 x mix gf gp).2.2.2.1 = (fun _ => 1#1)
      ∧ (fn (F := Ideal) d wg wu dx2 x mix gf gp).2.2.2.2.1 = (fun _ => 1#1)
      ∧ (fn (F := Ideal) d wg wu dx2 x mix gf gp).2.2.2.2.2.1 = (fun _ => 1#1)
      ∧ (fn (F := Ideal) d wg wu dx2 x mix gf gp).2.2.2.2.2.2.1 = (fun _ => 1#1)
      ∧ (fn (F := Ideal) d wg wu dx2 x mix gf gp).2.2.2.2.2.2.2 = (fun _ => 1#1)) :
    (∀ i, IsReal (d i)) ∧ (∀ i, IsReal (wg i)) ∧ (∀ i, IsReal (wu i)) ∧ (∀ i, IsReal (dx2 i)) ∧ (∀ i, IsReal (x i))
      ∧ (∀ i, IsReal (mix i)) ∧ (∀ i, IsReal (gf i)) ∧ ∀ i, IsReal (gp i) :=
  ⟨isReal_of_mask (extf .f32 d Facts.bitsLt_bf16_f32) Facts.bcast_S_S16384x3072 h.1,
    isReal_of_mask (extf .f32 wg Facts.bitsLt_bf16_f32) Facts.bcast_S_S1024x3072 h.2.1,
    isReal_of_mask (extf .f32 wu Facts.bitsLt_bf16_f32) Facts.bcast_S_S1024x3072 h.2.2.1,
    isReal_of_mask dx2 Facts.bcast_S_S16384x1024 h.2.2.2.1,
    isReal_of_mask x Facts.bcast_S_S16384x1024 h.2.2.2.2.1,
    isReal_of_mask mix Facts.bcast_S_S16384x1024 h.2.2.2.2.2.1,
    isReal_of_mask gf Facts.bcast_S_S1x1024 h.2.2.2.2.2.2.1,
    isReal_of_mask gp Facts.bcast_S_S1x1024 h.2.2.2.2.2.2.2⟩

end Cert.Pre_finite2

end
-- ==== Proof.K2Claim.lean ====
/- The backward pass of the feed-forward entry: the claims, from the kernel's and the reference's entries. -/
module

public import proofs.«01_k».proof.Defs
public import proofs.«01_k».proof.Proof.K2Val
public import proofs.«01_k».proof.Proof.K2Out
public import proofs.«01_k».proof.Proof.K2Ref
public import proofs.«01_k».proof.Proof.K2Pre
public import proofs.«01_k».proof.Proof.Gen.Kernel2.Frame
public import proofs.«01_k».proof.Proof.Gen.Pre_finite2
public import Idealize.ShloMosaic.Lib.Quiescent

@[expose] public section

set_option maxRecDepth 16384

noncomputable section

open Idealize.ShloMosaic Idealize.ShloMosaic.TcCoe Idealize.SL.Sem Cert.Reals

namespace Cert.Kernel2Ideal.Value
open Cert.Kernel2Ideal Cert.Kernel2Ideal.Gen

variable (m : (ℓ : Loc nD τ sig) → Buf (Elt Ideal) ℓ) (c : Dev nD)

theorem G9_at (r : Fin 16384) (k : Fin 3072) : G9 m c (ix2 r k) = dgR m c r k := by
  have hp : pt9Of (ix2 r k) = 3 * (r.val / 512) + k.val / 1024 := by
    show 3 * (r.val / 512 - 0) + 1 * (k.val / 1024 - 0) = _
    omega
  have hN : cfg0.N = 96 := N_0
  have ht : pt9Of (ix2 r k) < cfg0.N := by rw [hp, hN]; omega
  unfold G9
  rw [dif_pos ht, ← outsAt0_sweep m c _ ht]
  have hl : loc9Of (ix2 r k) = ix2 (⟨r.val % 512, Nat.mod_lt _ (by decide)⟩ : Fin 512) (⟨k.val % 1024, Nat.mod_lt _ (by decide)⟩ : Fin 1024) := by
    funext a; apply Fin.ext
    match a with
    | ⟨0, _⟩ => rfl
    | ⟨1, _⟩ => rfl
  have er : row ⟨pt9Of (ix2 r k), ht⟩ ⟨r.val % 512, Nat.mod_lt _ (by decide)⟩ = r := Fin.ext (by
    show 512 * (pt9Of (ix2 r k) / 3) + r.val % 512 = r.val
    omega)
  have ek : col ⟨pt9Of (ix2 r k), ht⟩ ⟨k.val % 1024, Nat.mod_lt _ (by decide)⟩ = k := Fin.ext (by
    show pt9Of (ix2 r k) % 3 * 1024 + k.val % 1024 = k.val
    omega)
  rw [hl, out9 m c ⟨pt9Of (ix2 r k), ht⟩, dgB_eq, er, ek]

theorem G10_at (r : Fin 16384) (k : Fin 3072) : G10 m c (ix2 r k) = duR m c r k := by
  have hp : pt10Of (ix2 r k) = 3 * (r.val / 512) + k.val / 1024 := by
    show 3 * (r.val / 512 - 0) + 1 * (k.val / 1024 - 0) = _
    omega
  have hN : cfg0.N = 96 := N_0
  have ht : pt10Of (ix2 r k) < cfg0.N := by rw [hp, hN]; omega
  unfold G10
  rw [dif_pos ht, ← outsAt0_sweep m c _ ht]
  have hl : loc10Of (ix2 r k) = ix2 (⟨r.val % 512, Nat.mod_lt _ (by decide)⟩ : Fin 512) (⟨k.val % 1024, Nat.mod_lt _ (by decide)⟩ : Fin 1024) := by
    funext a; apply Fin.ext
    match a with
    | ⟨0, _⟩ => rfl
    | ⟨1, _⟩ => rfl
  have er : row ⟨pt10Of (ix2 r k), ht⟩ ⟨r.val % 512, Nat.mod_lt _ (by decide)⟩ = r := Fin.ext (by
    show 512 * (pt10Of (ix2 r k) / 3) + r.val % 512 = r.val
    omega)
  have ek : col ⟨pt10Of (ix2 r k), ht⟩ ⟨k.val % 1024, Nat.mod_lt _ (by decide)⟩ = k := Fin.ext (by
    show pt10Of (ix2 r k) % 3 * 1024 + k.val % 1024 = k.val
    omega)
  rw [hl, out10 m c ⟨pt10Of (ix2 r k), ht⟩, duB_eq, er, ek]

/-! The kernel's entries are the closed forms of the arguments. -/

theorem gu_lo (r : Fin 16384) (k : Fin 3072) : gu m c r ⟨k.val, by omega⟩ = Reference2Ideal.Value.prF (xin m c) (mix m c) (gf m c) (gp m c) (wg m c) r k := by
  unfold gu Reference2Ideal.Value.prF
  exact Finset.sum_congr rfl fun l _ => by rw [wcat_lo m c l _ k rfl]; rfl

theorem gu_hi (r : Fin 16384) (k : Fin 3072) : gu m c r ⟨3072 + k.val, by omega⟩ = Reference2Ideal.Value.prF (xin m c) (mix m c) (gf m c) (gp m c) (wu m c) r k := by
  unfold gu Reference2Ideal.Value.prF
  exact Finset.sum_congr rfl fun l _ => by rw [wcat_hi m c l _ k rfl]; rfl

theorem dgR_eq (r : Fin 16384) (k : Fin 3072) : dgR m c r k = Reference2Ideal.Value.dgF (dhid m c) (wg m c) (wu m c) (xin m c) (mix m c) (gf m c) (gp m c) r k := by
  unfold dgR dgS Reference2Ideal.Value.dgF
  rw [gu_lo, gu_hi]

theorem duR_eq (r : Fin 16384) (k : Fin 3072) : duR m c r k = Reference2Ideal.Value.duF (dhid m c) (wg m c) (xin m c) (mix m c) (gf m c) (gp m c) r k := by
  unfold duR duS Reference2Ideal.Value.duF
  rw [gu_lo]

theorem dh_eq (r : Fin 16384) (j : Fin 1024) : dh m c r j = Reference2Ideal.Value.dhF (dhid m c) (wg m c) (wu m c) (xin m c) (mix m c) (gf m c) (gp m c) r j := by
  unfold dh Reference2Ideal.Value.dhF
  simp only [dgR_eq, duR_eq]

theorem x1_eq (r : Fin 16384) (j : Fin 1024) : x1 m c r j = Reference2Ideal.Value.x1F (xin m c) (mix m c) (gp m c) r j := rfl

theorem dx_eq (r : Fin 16384) (j : Fin 1024) : dx m c r j = Reference2Ideal.Value.dxF (dhid m c) (wg m c) (wu m c) (dx2 m c) (xin m c) (mix m c) (gf m c) (gp m c) r j := by
  unfold dx Reference2Ideal.Value.dxF
  simp only [dh_eq, x1_eq]

theorem dmix_eq (r : Fin 16384) (j : Fin 1024) : dmix m c r j = Reference2Ideal.Value.dmixF (dhid m c) (wg m c) (wu m c) (dx2 m c) (xin m c) (mix m c) (gf m c) (gp m c) r j := by
  unfold dmix Reference2Ideal.Value.dmixF
  simp only [dx_eq]

theorem f_eq (j : Fin 1024) : ∑ r : Fin 16384, fterm m c j r = Reference2Ideal.Value.dgfF (dhid m c) (wg m c) (wu m c) (xin m c) (mix m c) (gf m c) (gp m c) j := by
  unfold fterm Reference2Ideal.Value.dgfF
  simp only [dh_eq, x1_eq]

theorem p_eq (j : Fin 1024) : ∑ r : Fin 16384, pterm m c j r = Reference2Ideal.Value.dgpF (dhid m c) (wg m c) (wu m c) (dx2 m c) (xin m c) (mix m c) (gf m c) (gp m c) j := by
  unfold pterm Reference2Ideal.Value.dgpF
  simp only [dx_eq]

end Cert.Kernel2Ideal.Value

namespace Cert.K2

instance : Cert.Kernel2.Facts := Cert.Kernel2.Gen.facts
instance : Cert.Kernel2Ideal.Facts := Cert.Kernel2Ideal.Gen.facts
instance : Cert.Reference2Ideal.Facts := Cert.Reference2Ideal.Gen.facts
instance : Cert.Pre_finite2.Facts := Cert.Pre_finite2.Gen.facts

/-- The reference leaves its arguments and all counters as it found them. -/
theorem ref_quiet : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

theorem ref_quiet_pre : Cert.quiescent_Reference2Ideal_pre_finite2 := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

/-- The results are equal over real arguments. -/
theorem algebraic : Cert.algebraic_Kernel2Ideal_Reference2Ideal_pre_finite2 := by
  intro m ρ m' ρ' hp ha
  refine ⟨fun c => Cert.Kernel2Ideal.Value.G9 m c, fun c => Cert.Kernel2Ideal.Value.G10 m c, fun c => Cert.Kernel2Ideal.Value.G11 m c,
    fun c => Cert.Kernel2Ideal.Value.G12 m c, fun c => Cert.Kernel2Ideal.Value.G13 m c, fun c => Cert.Kernel2Ideal.Value.G14 m c,
    Cert.Kernel2Ideal.Value.run (F := Ideal) m ρ, ?_⟩
  have args : ∀ c, Cert.Reference2Ideal.Value.Args (Cert.Kernel2Ideal.Value.dhid m c) (Cert.Kernel2Ideal.Value.wg m c) (Cert.Kernel2Ideal.Value.wu m c)
      (Cert.Kernel2Ideal.Value.dx2 m c) (Cert.Kernel2Ideal.Value.xin m c) (Cert.Kernel2Ideal.Value.mix m c) (Cert.Kernel2Ideal.Value.gf m c)
      (Cert.Kernel2Ideal.Value.gp m c) (StableHlo.launchContents m' c) := by
    intro c
    obtain ⟨h0, h1, h2, h3, h4, h5, h6, h7⟩ := ha c
    obtain ⟨k0, k1, k2, k3, k4, k5, k6, k7⟩ := Cert.Pre_finite2.reals _ _ _ _ _ _ _ _ (hp c)
    exact ⟨h0, h1, h2, h3, h4, h5, h6, h7, k0, k1, k2, k3, k4, k5, k6, k7⟩
  refine (θ_run Cert.Reference2Ideal.defs _ _).mono (fun _ h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2⟩)
    (Cert.Reference2Ideal.Value.run (F := Ideal) m' ρ')
  · funext i
    idx_vars i
    rw [Cert.Kernel2Ideal.Value.G9_at, Cert.Kernel2Ideal.Value.dgR_eq]
    exact Cert.Reference2Ideal.Value.res0_at (args c) i0 i1
  · funext i
    idx_vars i
    rw [Cert.Kernel2Ideal.Value.G10_at, Cert.Kernel2Ideal.Value.duR_eq]
    exact Cert.Reference2Ideal.Value.res1_at (args c) i0 i1
  · funext i
    idx_vars i
    rw [Cert.Kernel2Ideal.Value.G11_at, Cert.Kernel2Ideal.Value.dx_eq]
    exact Cert.Reference2Ideal.Value.res2_at (args c) i0 i1
  · funext i
    idx_vars i
    rw [Cert.Kernel2Ideal.Value.G12_at, Cert.Kernel2Ideal.Value.dmix_eq]
    exact Cert.Reference2Ideal.Value.res3_at (args c) i0 i1
  · funext i
    idx_vars i
    rw [Cert.Kernel2Ideal.Value.G13_at, Cert.Kernel2Ideal.Value.f_eq]
    exact Cert.Reference2Ideal.Value.res4_at (args c) i0 i1
  · funext i
    idx_vars i
    rw [Cert.Kernel2Ideal.Value.G14_at, Cert.Kernel2Ideal.Value.p_eq]
    exact Cert.Reference2Ideal.Value.res5_at (args c) i0 i1

end Cert.K2

end
-- ==== Proof.K3Value.lean ====
module

public import proofs.«01_k».proof.Proof.Gen.Kernel3Ideal.Value
public import proofs.«01_k».proof.Proof.Rms
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen

variable (m : (ℓ : Loc nD τ sig) → Buf (Elt Ideal) ℓ) (c : Dev nD)

/-- The block indices of the windows at each grid point. -/
theorem idx_val : ∀ t : Fin cfg0.N, win0_0.index t = ![t.val / 8, t.val % 8]
    ∧ win0_1.index t = ![0, t.val % 8]
    ∧ win0_2.index t = ![t.val / 8, 0]
    ∧ win0_3.index t = ![t.val / 8, 0]
    ∧ win0_4.index t = ![0, 0]
    ∧ win0_5.index t = ![t.val / 8, 0]
    ∧ win0_6.index t = ![0, 0] :=
  (by decide +kernel : ∀ t : Fin grid0.N, _)

/-- The blocks in use at a point. -/
def B0 (t : Fin cfg0.N) : FVec Ideal S1024x1024 .bf16 := iblk m c 0 t
def B1 (t : Fin cfg0.N) : FVec Ideal S1024x1024 .bf16 := iblk m c 1 t
def B2 (t : Fin cfg0.N) : FVec Ideal S1024x1024 .f32 := iblk m c 2 t
def B3 (t : Fin cfg0.N) : FVec Ideal S1024x1024 .f32 := iblk m c 3 t
def B4 (t : Fin cfg0.N) : FVec Ideal S1x1024 .f32 := iblk m c 4 t

/-- The arrays of the arguments. -/
abbrev dz : FVec Ideal S16384x8192 .bf16 := m ((c.tc : Thread nD τ).loc main_arg0)
abbrev win : FVec Ideal S1024x8192 .bf16 := m ((c.tc : Thread nD τ).loc main_arg1)
abbrev dx1 : FVec Ideal S16384x1024 .f32 := m ((c.tc : Thread nD τ).loc main_arg2)
abbrev xin : FVec Ideal S16384x1024 .f32 := m ((c.tc : Thread nD τ).loc main_arg3)
abbrev gain : FVec Ideal S1x1024 .f32 := m ((c.tc : Thread nD τ).loc main_arg4)

/-- The product of the blocks in use at a point. -/
def part (t : Fin cfg0.N) (r j : Fin 1024) : EReal :=
  k0_pay1 (F := Ideal) (B0 m c t) (B1 m c t) (ix2 r j)

theorem part_eq (t : Fin cfg0.N) (r j : Fin 1024) :
    part m c t r j = ∑ k : Fin 1024, B0 m c t (ix2 r k)
      * B1 m c t (ix2 j k) := by
  unfold part
  pointwise [k0_pay1]

theorem pay2_at (a b : FVec Ideal S1024x1024 .bf16) (r j : Fin 1024) :
    k0_pay2 (F := Ideal) a b (ix2 r j) = k0_pay1 (F := Ideal) a b (ix2 r j) := by
  pointwise [k0_pay2]

theorem pay3_at (a b : FVec Ideal S1024x1024 .bf16) (v : FVec Ideal S1024x1024 .f32) (r j : Fin 1024) :
    k0_pay3 (F := Ideal) a b v (ix2 r j) = v (ix2 r j) + k0_pay1 (F := Ideal) a b (ix2 r j) := by
  pointwise [k0_pay3]

theorem pay8_at (a b : FVec Ideal S1024x1024 .f32) (v : FVec Ideal S1x1024 .f32) (z : Fin 1) (j : Fin 1024) :
    k0_pay8 (F := Ideal) a b v (ix2 z j) = v (ix2 z j) + k0_pay7 (F := Ideal) a b (ix2 z j) := by
  pointwise [k0_pay8]

theorem scr_read (h : (scM0_0).IsWhole) (X : Vec Ideal S1024x1024 .f32) :
    View.read (Elt Ideal) (View.whole cc0_scratch0) (h.unread X) = X := h.read_unread X

/-- At the first point of a run the scratch holds the product of the blocks in use. -/
theorem scr_first (t : Fin cfg0.N) (h0 : t.val % 8 = 0) (r j : Fin 1024) :
    (outsAt0 m c t.val t.isLt).2.2 (ix2 r j) = part m c t r j := by
  rw [outsAt0_A m c t h0 (by omega) (by omega)]
  frame_out
  exact pay2_at _ _ r j

/-- At a later point the product of the blocks in use is added. -/
theorem scr_step (t : Fin cfg0.N) (h0 : ¬t.val % 8 = 0) (r j : Fin 1024) :
    (outsAt0 m c t.val t.isLt).2.2 (ix2 r j)
      = (outsAt0 m c (t.val - 1) (Nat.lt_of_le_of_lt (Nat.sub_le _ _) t.isLt)).2.2 (ix2 r j) + part m c t r j := by
  by_cases h2 : t.val % 8 = 7
  · by_cases h3 : t.val < 8
    · rw [outsAt0_C m c t h0 (by omega) h2 h3 (by omega)]
      frame_out
      rw [scr_read]
      exact pay3_at _ _ _ r j
    · rw [outsAt0_D m c t h0 (by omega) h2 h3 (by omega)]
      frame_out
      rw [scr_read]
      exact pay3_at _ _ _ r j
  · rw [outsAt0_B m c t h0 (by omega) h2]
    frame_out
    rw [scr_read]
    exact pay3_at _ _ _ r j

/-- At the last point of a run the row block of the result is written from the scratch. -/
theorem out_last (t : Fin cfg0.N) (h2 : t.val % 8 = 7) :
    (outsAt0 m c t.val t.isLt).1 = k0_pay6 (F := Ideal) (outsAt0 m c t.val t.isLt).2.2 (B2 m c t) (B3 m c t) (B4 m c t) := by
  by_cases h3 : t.val < 8
  · rw [outsAt0_C m c t (by omega) (by omega) h2 h3 (by omega)]
    frame_out
    rfl
  · rw [outsAt0_D m c t (by omega) (by omega) h2 h3 (by omega)]
    frame_out
    rfl

/-- The gain's gradient is set at the end of the first run. -/
theorem acc_first (t : Fin cfg0.N) (h2 : t.val % 8 = 7) (h3 : t.val < 8) :
    (outsAt0 m c t.val t.isLt).2.1 = k0_pay7 (F := Ideal) (outsAt0 m c t.val t.isLt).2.2 (B3 m c t) := by
  rw [outsAt0_C m c t (by omega) (by omega) h2 h3 (by omega)]
  frame_out
  rfl

/-- It grows at the end of each later run. -/
theorem acc_step (t : Fin cfg0.N) (h2 : t.val % 8 = 7) (h3 : ¬t.val < 8) :
    (outsAt0 m c t.val t.isLt).2.1 = k0_pay8 (F := Ideal) (outsAt0 m c t.val t.isLt).2.2 (B3 m c t)
      (outsAt0 m c (t.val - 1) (Nat.lt_of_le_of_lt (Nat.sub_le _ _) t.isLt)).2.1 := by
  rw [outsAt0_D m c t (by omega) (by omega) h2 h3 (by omega)]
  frame_out
  rfl

/-- At every other point it stays. -/
theorem acc_idle (t : Fin cfg0.N) (h2 : ¬t.val % 8 = 7) :
    (outsAt0 m c t.val t.isLt).2.1 = (outsAt0 m c (t.val - 1) (Nat.lt_of_le_of_lt (Nat.sub_le _ _) t.isLt)).2.1 := by
  by_cases h0 : t.val % 8 = 0
  · rw [outsAt0_A m c t h0 (by omega) h2]
    rfl
  · rw [outsAt0_B m c t h0 (by omega) h2]
    rfl

theorem blk0 (t : Fin cfg0.N) (r k : Fin 1024) (R : Fin 16384) (K : Fin 8192) (hR : R.val = 1024 * (t.val / 8) + r.val)
    (hK : K.val = t.val % 8 * 1024 + k.val) :
    B0 m c t (ix2 r k) = dz m c (ix2 R K) := by
  unfold B0
  blk_ext [iblk, V, idx_val t]

theorem blk1 (t : Fin cfg0.N) (j k : Fin 1024) (K : Fin 8192) (hK : K.val = t.val % 8 * 1024 + k.val) :
    B1 m c t (ix2 j k) = win m c (ix2 j K) := by
  unfold B1
  blk_ext [iblk, V, idx_val t]

theorem blk2 (t : Fin cfg0.N) (r j : Fin 1024) (R : Fin 16384) (hR : R.val = 1024 * (t.val / 8) + r.val) :
    B2 m c t (ix2 r j) = dx1 m c (ix2 R j) := by
  unfold B2
  blk_ext [iblk, V, idx_val t]

theorem blk3 (t : Fin cfg0.N) (r j : Fin 1024) (R : Fin 16384) (hR : R.val = 1024 * (t.val / 8) + r.val) :
    B3 m c t (ix2 r j) = xin m c (ix2 R j) := by
  unfold B3
  blk_ext [iblk, V, idx_val t]

theorem blk4 (t : Fin cfg0.N) (z : Fin 1) (j : Fin 1024) :
    B4 m c t (ix2 z j) = gain m c (ix2 z j) := by
  unfold B4
  blk_ext [iblk, V, idx_val t]

/-- The gradient at the normalized rows: the product of `dz` with the transposed weight. -/
def dh (r : Fin 16384) (j : Fin 1024) : EReal := ∑ l : Fin 8192, dz m c (ix2 r l) * win m c (ix2 j l)

theorem rowLt (t : Fin cfg0.N) (r : Fin 1024) : 1024 * (t.val / 8) + r.val < 16384 := by
  have := lt_of_lt_of_eq t.isLt (show cfg0.N = 128 from N_0)
  omega

/-- The row of the array that row `r` of the block in use at a point is. -/
abbrev row (t : Fin cfg0.N) (r : Fin 1024) : Fin 16384 := ⟨1024 * (t.val / 8) + r.val, rowLt t r⟩

/-- At the end of a run the scratch holds the whole contraction. -/
theorem scr_last (t : Fin cfg0.N) (h2 : t.val % 8 = 7) (r j : Fin 1024) :
    (outsAt0 m c t.val t.isLt).2.2 (ix2 r j) = dh m c (row t r) j := by
  rw [Pipeline.eq_sum_fin_of_reset_step_of_flush (fun n h => ((outsAt0 m c n h).2.2 (ix2 r j) : EReal)) 8 0
    (fun t => part m c t r j) (fun t h => by rw [zero_add]; exact scr_first m c t h r j) (fun t h => scr_step m c t h r j) t h2, zero_add]
  unfold dh
  have hN := lt_of_lt_of_eq t.isLt (show cfg0.N = 128 from N_0)
  simp only [part_eq]
  refine Fin.sum_mul_add_congr fun s k hl => ?_
  have hs : (8 * (t.val / 8) + s.val) / 8 = t.val / 8 := by omega
  have hs' : (8 * (t.val / 8) + s.val) % 8 = s.val := by omega
  rw [blk0 m c _ r k (row t r) ⟨s.val * 1024 + k.val, hl⟩ (by simp only [hs]) (by simp only [hs']),
    blk1 m c _ j k ⟨s.val * 1024 + k.val, hl⟩ (by simp only [hs'])]

theorem outsAt0_prev (n : ℕ) (h : n + 1 < cfg0.N) (h' : n + 1 - 1 < cfg0.N) :
    outsAt0 m c (n + 1 - 1) h' = outsAt0 m c n (Nat.lt_of_succ_lt h) := rfl

/-- Between the ends of two runs the accumulator is kept. -/
theorem acc_kept (n : ℕ) (hn : n < cfg0.N) (h7 : n % 8 = 7) : ∀ (k : ℕ) (hk : k ≤ 7) (h : n + k < cfg0.N),
    (outsAt0 m c (n + k) h).2.1 = (outsAt0 m c n hn).2.1
  | 0, _, _ => rfl
  | k + 1, hk, h => by
    have e := acc_idle m c ⟨n + (k + 1), h⟩ (by show ¬(n + (k + 1)) % 8 = 7; omega)
    rw [e]
    exact acc_kept n hn h7 k (by omega) (by omega)

/-- What one row adds to the gain's gradient. -/
def gterm (j : Fin 1024) (r : Fin 16384) : EReal := dh m c r j * (xin m c (ix2 r j) * Rms.rs fun l => xin m c (ix2 r l))

/-- The sum over the rows of one block, of the gain's gradient. -/
def colsum (i : Fin 16) (j : Fin 1024) : EReal :=
  ∑ r : Fin 1024, gterm m c j ⟨i.val * 1024 + r.val, by omega⟩

theorem pay7_at (h x : FVec Ideal S1024x1024 .f32) (z : Fin 1) (j : Fin 1024) :
    k0_pay7 (F := Ideal) h x (ix2 z j) = ∑ r : Fin 1024, h (ix2 r j) * (x (ix2 r j) * Rms.rs fun l => x (ix2 r l)) := by
  pointwise [k0_pay7, k0_pay5, k0_pay4]

theorem pay6_at (h d x : FVec Ideal S1024x1024 .f32) (g : FVec Ideal S1x1024 .f32) (r j : Fin 1024) :
    k0_pay6 (F := Ideal) h d x g (ix2 r j)
      = d (ix2 r j) + Rms.bwd (fun l => h (ix2 r l) * g (ix2 0 l)) (fun l => x (ix2 r l)) j := by
  pointwise [k0_pay6, k0_pay5, k0_pay4]

theorem col_at (t : Fin cfg0.N) (h2 : t.val % 8 = 7) (i : Fin 16) (hi : i.val = t.val / 8) (z : Fin 1) (j : Fin 1024) :
    k0_pay7 (F := Ideal) (outsAt0 m c t.val t.isLt).2.2 (B3 m c t) (ix2 z j) = colsum m c i j := by
  refine (pay7_at _ (B3 m c t) z j).trans ?_
  unfold colsum
  refine Finset.sum_congr rfl fun r _ => ?_
  have er : row t r = ⟨i.val * 1024 + r.val, by omega⟩ := Fin.ext (by show 1024 * (t.val / 8) + r.val = i.val * 1024 + r.val; omega)
  unfold gterm
  rw [scr_last m c t h2 r j, ← er]
  have hb : ∀ l, B3 m c t (ix2 r l) = xin m c (ix2 (row t r) l) :=
    fun l => blk3 m c t r l (row t r) rfl
  simp only [hb]

/-- At the end of run `i` the accumulator holds the sums of the runs so far. -/
theorem acc_at (z : Fin 1) (j : Fin 1024) : ∀ (i : ℕ) (hi : i < 16) (n : ℕ) (h : n < cfg0.N), n = 8 * i + 7 →
    (outsAt0 m c n h).2.1 (ix2 z j) = ∑ s : Fin (i + 1), colsum m c ⟨s.val, by omega⟩ j
  | 0, hi, n, h, hn => by
    have e := acc_first m c ⟨n, h⟩ (by show n % 8 = 7; omega) (by show n < 8; omega)
    rw [e, col_at m c ⟨n, h⟩ (by show n % 8 = 7; omega) ⟨0, by omega⟩ (by show 0 = n / 8; omega) z j]
    simp
  | i + 1, hi, n, h, hn => by
    have hp : n - 8 < cfg0.N := by omega
    have e := acc_step m c ⟨n, h⟩ (by show n % 8 = 7; omega) (by show ¬n < 8; omega)
    rw [e, pay8_at, col_at m c ⟨n, h⟩ (by show n % 8 = 7; omega) ⟨i + 1, hi⟩
      (by show i + 1 = n / 8; omega) z j, Fin.sum_univ_castSucc]
    have k := acc_kept m c (n - 8) hp (by omega) 7 le_rfl (by omega)
    have k' : ∀ q (hq : q < cfg0.N), q = n - 8 + 7 → (outsAt0 m c q hq).2.1 = (outsAt0 m c (n - 8) hp).2.1 := by
      intro q hq e; subst e; exact k
    rw [k' (n - 1) (by omega) (by omega), acc_at z j i (by omega) (n - 8) hp (by omega)]
    rfl

/-- The first result: the gradient at the layer's input. -/
def out0 (r : Fin 16384) (j : Fin 1024) : EReal :=
  dx1 m c (ix2 r j) + Rms.bwd (fun l => dh m c r l * gain m c (ix2 0 l)) (fun l => xin m c (ix2 r l)) j

/-- The second result: the gradient at the gain. -/
def out1 (j : Fin 1024) : EReal :=
  ∑ r : Fin 16384, gterm m c j r

theorem G5_at (r : Fin 16384) (j : Fin 1024) : G5 m c (ix2 r j) = out0 m c r j := by
  have hp : pt5Of (ix2 r j) = 8 * (r.val / 1024) + 7 := by
    show 8 * (1 * (r.val / 1024 - 0) + 1 * (j.val / 1024 - 0)) + 7 = _
    omega
  have hN : cfg0.N = 128 := N_0
  have ht : pt5Of (ix2 r j) < cfg0.N := by rw [hp, hN]; omega
  unfold G5
  rw [dif_pos ht, ← outsAt0_sweep m c _ ht]
  have hl : loc5Of (ix2 r j) = ix2 (⟨r.val % 1024, Nat.mod_lt _ (by decide)⟩ : Fin 1024) j := by
    funext a; apply Fin.ext
    match a with
    | ⟨0, _⟩ => rfl
    | ⟨1, _⟩ => show j.val % 1024 = j.val; omega
  have h7 : pt5Of (ix2 r j) % 8 = 7 := by omega
  have er : row ⟨pt5Of (ix2 r j), ht⟩ ⟨r.val % 1024, Nat.mod_lt _ (by decide)⟩ = r := Fin.ext (by
    show 1024 * (pt5Of (ix2 r j) / 8) + r.val % 1024 = r.val
    omega)
  rw [hl, out_last m c ⟨pt5Of (ix2 r j), ht⟩ h7, pay6_at]
  unfold out0
  simp only [scr_last m c ⟨pt5Of (ix2 r j), ht⟩ h7, er]
  have b2 := blk2 m c ⟨pt5Of (ix2 r j), ht⟩ ⟨r.val % 1024, Nat.mod_lt _ (by decide)⟩ j (row ⟨pt5Of (ix2 r j), ht⟩ ⟨r.val % 1024, Nat.mod_lt _ (by decide)⟩) rfl
  have b3 := fun l => blk3 m c ⟨pt5Of (ix2 r j), ht⟩ ⟨r.val % 1024, Nat.mod_lt _ (by decide)⟩ l (row ⟨pt5Of (ix2 r j), ht⟩ ⟨r.val % 1024, Nat.mod_lt _ (by decide)⟩) rfl
  have b4 := fun l => blk4 m c ⟨pt5Of (ix2 r j), ht⟩ 0 l
  simp only [er] at b2 b3
  rw [b2]
  simp only [b3, b4]

/-- The sums over the blocks are the sum over all rows. -/
theorem colsum_all (j : Fin 1024) : ∑ s : Fin 16, colsum m c s j = out1 m c j :=
  Fin.sum_mul_add_congr (S := 16) (n := 1024) (L := 16384) (f := gterm m c j)
    (F := fun s k => gterm m c j ⟨s.val * 1024 + k.val, by omega⟩) (fun _ _ _ => rfl) (by norm_num)

theorem G6_at (z : Fin 1) (j : Fin 1024) : G6 m c (ix2 z j) = out1 m c j := by
  rw [G6_last m c, ← outsAt0_sweep m c 127 (lt_of_lt_of_eq (by decide) N_0.symm)]
  exact (acc_at m c z j 15 (by omega) 127 (lt_of_lt_of_eq (by decide) N_0.symm) (by norm_num)).trans (colsum_all m c j)

end Cert.Kernel3Ideal.Value

end
-- ==== Proof.K3Ref.lean ====
/- The reference of the input projection's backward pass, entry by entry, and the agreement with the kernel. -/
module

public import proofs.«01_k».proof.Proof.Gen.Reference3Ideal.Run
public import proofs.«01_k».proof.Proof.Rms
public import Idealize.ShloMosaic.Lib.Pointwise

@[expose] public section

set_option maxRecDepth 16384

noncomputable section

open Idealize.ShloMosaic Idealize.ShloMosaic.TcCoe Idealize.SL.Sem Cert.Reals

namespace Cert.Reference3Ideal.Value
open Cert.Reference3Ideal Cert.Reference3Ideal.Gen

variable (m : (ℓ : Loc nD τ sig) → Buf (Elt Ideal) ℓ) (c : Dev nD)
variable (dz : FVec Ideal S16384x8192 .bf16) (w : FVec Ideal S1024x8192 .bf16) (dx x : FVec Ideal S16384x1024 .f32)
  (g : FVec Ideal S1x1024 .f32)

/-- The gradient at the normalized rows. -/
abbrev dhOf (r : Fin 16384) (j : Fin 1024) : EReal := ∑ k : Fin 8192, dz (ix2 r k) * w (ix2 j k)

/-- The first result: the chain of the norm's derivatives. -/
theorem res0_at (r : Fin 16384) (j : Fin 1024)
    (h0 : m ((c.tc : Thread nD τ).loc main_arg0) = dz) (h1 : m ((c.tc : Thread nD τ).loc main_arg1) = w)
    (h2 : m ((c.tc : Thread nD τ).loc main_arg2) = dx) (h3 : m ((c.tc : Thread nD τ).loc main_arg3) = x)
    (h4 : m ((c.tc : Thread nD τ).loc main_arg4) = g) :
    res_main_v38 m c (ix2 r j) = (show EReal from dx (ix2 r j)
      + dhOf dz w r j * g (ix2 0 j) * Rms.rs (fun l => x (ix2 r l))
      + x (ix2 r j) * Rms.chain (fun l => dhOf dz w r l * g (ix2 0 l)) (fun l => x (ix2 r l))
      + Rms.chain (fun l => dhOf dz w r l * g (ix2 0 l)) (fun l => x (ix2 r l)) * x (ix2 r j)) := by
  unfold res_main_v38
  rw [h0, h1, h2, h3, h4]
  pointwise

/-- Over real entries it is the closed form. -/
theorem res0_eq (r : Fin 16384) (j : Fin 1024)
    (h0 : m ((c.tc : Thread nD τ).loc main_arg0) = dz) (h1 : m ((c.tc : Thread nD τ).loc main_arg1) = w)
    (h2 : m ((c.tc : Thread nD τ).loc main_arg2) = dx) (h3 : m ((c.tc : Thread nD τ).loc main_arg3) = x)
    (h4 : m ((c.tc : Thread nD τ).loc main_arg4) = g)
    (k0 : ∀ i, IsReal (dz i)) (k1 : ∀ i, IsReal (w i)) (k3 : ∀ i, IsReal (x i)) (k4 : ∀ i, IsReal (g i)) :
    res_main_v38 m c (ix2 r j) = (show EReal from dx (ix2 r j)
      + Rms.bwd (fun l => dhOf dz w r l * g (ix2 0 l)) (fun l => x (ix2 r l)) j) := by
  rw [res0_at m c dz w dx x g r j h0 h1 h2 h3 h4,
    Rms.bwd_eq (fun l => (IsReal.sum fun k => (k0 _).mul (k1 _)).mul (k4 _)) fun l => k3 _]
  simp only [add_assoc]

/-- The second result: the sum over the rows of the gain's gradient. -/
theorem res1_at (z : Fin 1) (j : Fin 1024) :
    (shapeCast S1x1024 (Host.reduceAdd (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (Host.dotGeneral dot_S16384x8192_S1024x8192_S16384x1024_1_1_0_0_n_n none (extf .f32 dz bitsLt_bf16_f32) (extf .f32 w bitsLt_bf16_f32))) (constant S_ .f32 0x00000000#32) reducesTo_S16384x1024_S1024_d0 h_S_) shapeCasts_S1024_S1x1024
      : FVec Ideal S1x1024 .f32) (ix2 z j)
      = (show EReal from ∑ r : Fin 16384, dhOf dz w r j * (x (ix2 r j) * Rms.rs fun l => x (ix2 r l))) := by
  pointwise
  first | done | exact Finset.sum_congr rfl fun r _ => mul_comm _ _

end Cert.Reference3Ideal.Value

end
-- ==== Proof.K3Pre.lean ====
/- What the condition on the arguments of the input projection's backward pass says: their entries are real numbers. -/
module

public import proofs.«01_k».proof.Defs
public import proofs.«01_k».proof.Proof.Reals

@[expose] public section

set_option maxRecDepth 16384

noncomputable section

open Idealize.ShloMosaic Idealize.ShloMosaic.TcCoe Idealize.SL.Sem Cert.Reals

namespace Cert.Pre_finite3
variable [Facts]

theorem reals (a : FVec Ideal S16384x8192 .bf16) (w : FVec Ideal S1024x8192 .bf16) (d x : FVec Ideal S16384x1024 .f32)
    (g : FVec Ideal S1x1024 .f32) (h : (fn (F := Ideal) a w d x g).1 = (fun _ => 1#1) ∧ (fn (F := Ideal) a w d x g).2.1 = (fun _ => 1#1)
      ∧ (fn (F := Ideal) a w d x g).2.2.1 = (fun _ => 1#1) ∧ (fn (F := Ideal) a w d x g).2.2.2 = (fun _ => 1#1)) :
    (∀ i, IsReal (a i)) ∧ (∀ i, IsReal (w i)) ∧ (∀ i, IsReal (x i)) ∧ ∀ i, IsReal (g i) :=
  ⟨isReal_of_mask (extf .f32 a Facts.bitsLt_bf16_f32) Facts.bcast_S_S16384x8192 h.1,
    isReal_of_mask (extf .f32 w Facts.bitsLt_bf16_f32) Facts.bcast_S_S1024x8192 h.2.1,
    isReal_of_mask x Facts.bcast_S_S16384x1024 h.2.2.1,
    isReal_of_mask g Facts.bcast_S_S1x1024 h.2.2.2⟩

end Cert.Pre_finite3

end
-- ==== Proof.K3Claim.lean ====
/- The backward pass of the input projection: the claims, from the kernel's and the reference's entries. -/
module

public import proofs.«01_k».proof.Defs
public import proofs.«01_k».proof.Proof.K3Value
public import proofs.«01_k».proof.Proof.K3Ref
public import proofs.«01_k».proof.Proof.K3Pre
public import proofs.«01_k».proof.Proof.Gen.Kernel3.Frame
public import proofs.«01_k».proof.Proof.Gen.Pre_finite3
public import Idealize.ShloMosaic.Lib.Quiescent

@[expose] public section

set_option maxRecDepth 16384

noncomputable section

open Idealize.ShloMosaic Idealize.ShloMosaic.TcCoe Idealize.SL.Sem Cert.Reals

namespace Cert.K3

instance : Cert.Kernel3.Facts := Cert.Kernel3.Gen.facts
instance : Cert.Kernel3Ideal.Facts := Cert.Kernel3Ideal.Gen.facts
instance : Cert.Reference3Ideal.Facts := Cert.Reference3Ideal.Gen.facts
instance : Cert.Pre_finite3.Facts := Cert.Pre_finite3.Gen.facts

/-- The reference leaves its arguments and all counters as it found them. -/
theorem ref_quiet : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem ref_quiet_pre : Cert.quiescent_Reference3Ideal_pre_finite3 := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The results are equal over real arguments. -/
theorem algebraic : Cert.algebraic_Kernel3Ideal_Reference3Ideal_pre_finite3 := by
  intro m ρ m' ρ' hp ha
  refine ⟨fun c => Cert.Kernel3Ideal.Value.G5 m c, fun c => Cert.Kernel3Ideal.Value.G6 m c,
    Cert.Kernel3Ideal.Value.run (F := Ideal) m ρ, ?_⟩
  refine (θ_run Cert.Reference3Ideal.defs _ _).mono (fun _ h c => ⟨(h c).1.trans ?_, (h c).2.1.trans ?_, (h c).2.2⟩)
    (Cert.Reference3Ideal.Value.run (F := Ideal) m' ρ')
  · obtain ⟨h0, h1, h2, h3, h4⟩ := ha c
    obtain ⟨k0, k1, k3, k4⟩ := Cert.Pre_finite3.reals _ _ _ _ _ (hp c)
    funext i
    idx_vars i
    rw [Cert.Kernel3Ideal.Value.G5_at]
    exact Cert.Reference3Ideal.Value.res0_eq m' c _ _ _ _ _ i0 i1 h0 h1 h2 h3 h4 k0 k1 k3 k4
  · obtain ⟨h0, h1, h2, h3, h4⟩ := ha c
    rw [h0, h1, h3]
    funext i
    idx_vars i
    rw [Cert.Kernel3Ideal.Value.G6_at]
    exact Cert.Reference3Ideal.Value.res1_at _ _ _ i0 i1

end Cert.K3

end
-- ==== Proof.K4Value.lean ====
/- The gradient of the weight of the input projection: what the kernel leaves in its result array. -/
module

public import proofs.«01_k».proof.Proof.Gen.Kernel4Ideal.Value
public import proofs.«01_k».proof.Proof.Rms
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.W4
open Cert.Kernel4Ideal

/-- The left factor of the forward product at a row. -/
def lf (x : FVec Ideal S16384x1024 .f32) (g : FVec Ideal S1x1024 .f32) (r : Fin 16384) (i : Fin 1024) : EReal :=
  x (ix2 r i) * (Rms.rs fun l => x (ix2 r l)) * g (ix2 0 i)

/-- An entry of the weight's gradient: the sum over all rows. -/
def dw (x : FVec Ideal S16384x1024 .f32) (g : FVec Ideal S1x1024 .f32) (d : FVec Ideal S16384x8192 .bf16) (i : Fin 1024) (j : Fin 8192) : EReal :=
  ∑ r : Fin 16384, lf x g r i * d (ix2 r j)

end Cert.W4

open Idealize.ShloMosaic.Pipeline (Dat)

namespace Cert.Kernel4Ideal.Value
open Cert.Kernel4Ideal Cert.Kernel4Ideal.Gen

variable (m : (ℓ : Loc nD τ sig) → Buf (Elt Ideal) ℓ) (c : Dev nD)

/-- The block indices of the windows at each grid point. -/
theorem idx_val : ∀ t : Fin cfg0.N, win0_0.index t = ![t.val % 4, 0]
    ∧ win0_1.index t = ![t.val % 4, t.val / 4]
    ∧ win0_2.index t = ![0, t.val / 4] :=
  (by decide +kernel : ∀ t : Fin grid0.N, _)

/-- The blocks in use at a point. -/
def B0 (t : Fin cfg0.N) : FVec Ideal S4096x1024 .bf16 := iblk m c 0 t
def B1 (t : Fin cfg0.N) : FVec Ideal S4096x1024 .bf16 := iblk m c 1 t

/-- The arrays of the arguments. -/
abbrev xin : FVec Ideal S16384x1024 .f32 := m ((c.tc : Thread nD τ).loc main_arg0)
abbrev gain : FVec Ideal S1x1024 .f32 := m ((c.tc : Thread nD τ).loc main_arg1)
abbrev dy : FVec Ideal S16384x8192 .bf16 := m ((c.tc : Thread nD τ).loc main_arg2)

theorem tlt (t : Fin cfg0.N) : t.val < 32 := lt_of_lt_of_eq t.isLt (show cfg0.N = 32 from N_0)

/-- The product of the blocks in use at a point. -/
def part (t : Fin cfg0.N) (a : Fin 1024) (b : Fin 1024) : EReal :=
  k0_pay1 (F := Ideal) (B0 m c t) (B1 m c t) (ix2 a b)

theorem part_eq (t : Fin cfg0.N) (a : Fin 1024) (b : Fin 1024) :
    part m c t a b = ∑ k : Fin 4096, B0 m c t (ix2 k a) * B1 m c t (ix2 k b) := by
  unfold part
  pointwise [k0_pay1]

theorem pay2_at (x : FVec Ideal S4096x1024 .bf16) (y : FVec Ideal S4096x1024 .bf16) (a : Fin 1024) (b : Fin 1024) :
    k0_pay2 (F := Ideal) x y (ix2 a b) = k0_pay1 (F := Ideal) x y (ix2 a b) := by
  pointwise [k0_pay2]

theorem pay3_at (x : FVec Ideal S4096x1024 .bf16) (y : FVec Ideal S4096x1024 .bf16) (v : FVec Ideal S1024x1024 .f32) (a : Fin 1024) (b : Fin 1024) :
    k0_pay3 (F := Ideal) x y v (ix2 a b) = v (ix2 a b) + k0_pay1 (F := Ideal) x y (ix2 a b) := by
  pointwise [k0_pay3]

theorem pay4_at (v : FVec Ideal S1024x1024 .f32) (a : Fin 1024) (b : Fin 1024) :
    k0_pay4 (F := Ideal) v (ix2 a b) = v (ix2 a b) := by
  pointwise [k0_pay4]

theorem scr_read (h : (scM0_0).IsWhole) (X : Vec Ideal S1024x1024 .f32) :
    View.read (Elt Ideal) (View.whole cc0_scratch0) (h.unread X) = X := h.read_unread X

/-- At the first point of a run the scratch holds the product of the blocks in use. -/
theorem scr_first (t : Fin cfg0.N) (h0 : t.val % 4 = 0) (a : Fin 1024) (b : Fin 1024) :
    (outsAt0 m c t.val t.isLt).2 (ix2 a b) = part m c t a b := by
  have hN := tlt t
  rw [outsAt0_A m c t h0 (by omega) (by omega)]
  frame_out
  exact pay2_at _ _ a b

/-- At a later point the product of the blocks in use is added. -/
theorem scr_step (t : Fin cfg0.N) (h0 : ¬t.val % 4 = 0) (a : Fin 1024) (b : Fin 1024) :
    (outsAt0 m c t.val t.isLt).2 (ix2 a b)
      = (outsAt0 m c (t.val - 1) (Nat.lt_of_le_of_lt (Nat.sub_le _ _) t.isLt)).2 (ix2 a b) + part m c t a b := by
  by_cases h2 : t.val % 4 = 3
  · rw [outsAt0_C m c t h0 (by omega) h2]
    frame_out
    rw [scr_read]
    exact pay3_at _ _ _ a b
  · rw [outsAt0_B m c t h0 (by omega) h2]
    frame_out
    rw [scr_read]
    exact pay3_at _ _ _ a b

/-- At the last point of a run the block of the result is written from the scratch. -/
theorem out_last (t : Fin cfg0.N) (h2 : t.val % 4 = 3) :
    (outsAt0 m c t.val t.isLt).1 = k0_pay4 (F := Ideal) (outsAt0 m c t.val t.isLt).2 := by
  rw [outsAt0_C m c t (by omega) (by omega) h2]
  frame_out
  first | done | rfl

/-- The left factor as the host prepares it. -/
theorem left_at (r : Fin 16384) (i : Fin 1024) : (V m c main_v12 : FVec Ideal S16384x1024 .bf16) (ix2 r i) = W4.lf (xin m c) (gain m c) r i := by
  unfold V
  simp only [hostOps0, List.flatten_cons, List.flatten_nil, List.append_nil, List.cons_append, List.nil_append]
  after_results_simp
  unfold W4.lf
  pointwise

theorem blk0 (t : Fin cfg0.N) (k : Fin 4096) (a : Fin 1024) (r : Fin 16384) (i : Fin 1024) (hr : r.val = t.val % 4 * 4096 + k.val) (hi : i.val = a.val) :
    B0 m c t (ix2 k a) = W4.lf (xin m c) (gain m c) r i := by
  have hN := tlt t
  rw [← left_at]
  unfold B0
  simp only [iblk]
  generalize V m c = X
  blk_ext [idx_val t]

theorem blk1 (t : Fin cfg0.N) (k : Fin 4096) (b : Fin 1024) (r : Fin 16384) (j : Fin 8192) (hr : r.val = t.val % 4 * 4096 + k.val) (hj : j.val = 1024 * (t.val / 4) + b.val) :
    B1 m c t (ix2 k b) = dy m c (ix2 r j) := by
  have hN := tlt t
  unfold B1
  blk_ext [iblk, V, idx_val t]

/-- At the end of a run the scratch holds the whole sum. -/
theorem scr_last (t : Fin cfg0.N) (h2 : t.val % 4 = 3) (a : Fin 1024) (b : Fin 1024) (i : Fin 1024) (j : Fin 8192) (hi : i.val = a.val) (hj : j.val = 1024 * (t.val / 4) + b.val) :
    (outsAt0 m c t.val t.isLt).2 (ix2 a b) = W4.dw (xin m c) (gain m c) (dy m c) i j := by
  rw [Pipeline.eq_sum_fin_of_reset_step_of_flush (fun n h => ((outsAt0 m c n h).2 (ix2 a b) : EReal)) 4 0
    (fun t => part m c t a b) (fun t h => by rw [zero_add]; exact scr_first m c t h a b) (fun t h => scr_step m c t h a b) t h2, zero_add]
  unfold W4.dw
  have hN := tlt t
  simp only [part_eq]
  refine Fin.sum_mul_add_congr fun s k hl => ?_
  have hs : (4 * (t.val / 4) + s.val) / 4 = t.val / 4 := by omega
  have hs' : (4 * (t.val / 4) + s.val) % 4 = s.val := by omega
  rw [blk0 m c _ k a ⟨s.val * 4096 + k.val, hl⟩ i (by simp only [hs']) (by first | exact hi | simp only [hs, hi]),
    blk1 m c _ k b ⟨s.val * 4096 + k.val, hl⟩ j (by simp only [hs']) (by first | exact hj | simp only [hs, hj])]

theorem G2_at (i : Fin 1024) (j : Fin 8192) : G2 m c (ix2 i j) = W4.dw (xin m c) (gain m c) (dy m c) i j := by
  have hp : pt2Of (ix2 i j) = 4 * (8 * (i.val / 1024) + j.val / 1024) + 3 := by
    show 4 * (8 * (i.val / 1024 - 0) + 1 * (j.val / 1024 - 0)) + 3 = _
    omega
  have hN : cfg0.N = 32 := N_0
  have hi := i.isLt
  have hj := j.isLt
  have ht : pt2Of (ix2 i j) < cfg0.N := by rw [hp, hN]; omega
  unfold G2
  rw [dif_pos ht, ← outsAt0_sweep m c _ ht]
  have hl : loc2Of (ix2 i j) = ix2 (⟨i.val % 1024, Nat.mod_lt _ (by decide)⟩ : Fin 1024) (⟨j.val % 1024, Nat.mod_lt _ (by decide)⟩ : Fin 1024) := by
    funext a; apply Fin.ext
    match a with
    | ⟨0, _⟩ => rfl
    | ⟨1, _⟩ => rfl
  have h7 : pt2Of (ix2 i j) % 4 = 3 := by omega
  rw [hl, out_last m c ⟨pt2Of (ix2 i j), ht⟩ h7, pay4_at]
  refine scr_last m c ⟨pt2Of (ix2 i j), ht⟩ h7 _ _ i j ?_ ?_
  · show i.val = i.val % 1024; omega
  · show j.val = 1024 * (pt2Of (ix2 i j) / 4) + j.val % 1024; omega

end Cert.Kernel4Ideal.Value

end
-- ==== Proof.K4Claim.lean ====
/- The gradient of the weight of the input projection: the reference's entries, and the claims. -/
module

public import proofs.«01_k».proof.Defs
public import proofs.«01_k».proof.Proof.K4Value
public import proofs.«01_k».proof.Proof.Gen.Reference4Ideal.Run
public import proofs.«01_k».proof.Proof.Gen.Kernel4.Frame
public import Idealize.ShloMosaic.Lib.Quiescent

@[expose] public section

set_option maxRecDepth 16384

noncomputable section

open Idealize.ShloMosaic Idealize.ShloMosaic.TcCoe Idealize.SL.Sem

namespace Cert.Reference4Ideal.Value
open Cert.Reference4Ideal Cert.Reference4Ideal.Gen

/-- The reference's result, entry by entry. -/
theorem res_at (x : FVec Ideal S16384x1024 .f32) (g : FVec Ideal S1x1024 .f32) (d : FVec Ideal S16384x8192 .bf16) (i : Fin 1024) (j : Fin 8192) :
    (truncf .bf16 (transpose S1024x8192 [1, 0] (Host.dotGeneral dot_S16384x8192_S16384x1024_S8192x1024_0_0_1_1_n_n none (extf .f32 d bitsLt_bf16_f32) (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g))) transposes_S8192x1024_S1024x8192_1_0) bitsLt_bf16_f32
      : FVec Ideal S1024x8192 .bf16) (ix2 i j) = W4.dw x g d i j := by
  unfold W4.dw W4.lf
  pointwise
  first | done | exact Finset.sum_congr rfl fun r _ => mul_comm _ _

end Cert.Reference4Ideal.Value

namespace Cert.K4

instance : Cert.Kernel4.Facts := Cert.Kernel4.Gen.facts
instance : Cert.Kernel4Ideal.Facts := Cert.Kernel4Ideal.Gen.facts
instance : Cert.Reference4Ideal.Facts := Cert.Reference4Ideal.Gen.facts

/-- The reference leaves its arguments and all counters as it found them. -/
theorem ref_quiet : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The results are equal. -/
theorem algebraic : Cert.algebraic_Kernel4Ideal_Reference4Ideal := by
  intro m ρ m' ρ' _ ha
  refine ⟨fun c => Cert.Kernel4Ideal.Value.G2 m c, Cert.Kernel4Ideal.Value.run (F := Ideal) m ρ, ?_⟩
  refine (θ_run Cert.Reference4Ideal.defs _ _).mono (fun _ h c => ⟨(h c).1.trans ?_, (h c).2⟩)
    (Cert.Reference4Ideal.Value.run (F := Ideal) m' ρ')
  obtain ⟨h0, h1, h2⟩ := ha c
  rw [h0, h1, h2]
  funext i
  idx_vars i
  rw [Cert.Kernel4Ideal.Value.G2_at]
  exact Cert.Reference4Ideal.Value.res_at _ _ _ i0 i1

end Cert.K4

end
-- ==== Proof.K5Value.lean ====
/- The gradient of the weight of the gate and up projections of the feed-forward block: what the kernel leaves in its result array. -/
module

public import proofs.«01_k».proof.Proof.Gen.Kernel5Ideal.Value
public import proofs.«01_k».proof.Proof.Rms
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.W5
open Cert.Kernel5Ideal

/-- The left factor of the forward product at a row. -/
def lf (x : FVec Ideal S16384x1024 .f32) (g : FVec Ideal S1x1024 .f32) (r : Fin 16384) (i : Fin 1024) : EReal :=
  x (ix2 r i) * (Rms.rs fun l => x (ix2 r l)) * g (ix2 0 i)

/-- An entry of the weight's gradient: the sum over all rows. -/
def dw (x : FVec Ideal S16384x1024 .f32) (g : FVec Ideal S1x1024 .f32) (d : FVec Ideal S16384x3072 .bf16) (i : Fin 1024) (j : Fin 3072) : EReal :=
  ∑ r : Fin 16384, lf x g r i * d (ix2 r j)

end Cert.W5

open Idealize.ShloMosaic.Pipeline (Dat)

namespace Cert.Kernel5Ideal.Value
open Cert.Kernel5Ideal Cert.Kernel5Ideal.Gen

variable (m : (ℓ : Loc nD τ sig) → Buf (Elt Ideal) ℓ) (c : Dev nD)

/-- The block indices of the windows at each grid point. -/
theorem idx_val : ∀ t : Fin cfg0.N, win0_0.index t = ![t.val % 4, 0]
    ∧ win0_1.index t = ![t.val % 4, t.val / 4]
    ∧ win0_2.index t = ![0, t.val / 4] :=
  (by decide +kernel : ∀ t : Fin grid0.N, _)

/-- The blocks in use at a point. -/
def B0 (t : Fin cfg0.N) : FVec Ideal S4096x1024 .bf16 := iblk m c 0 t
def B1 (t : Fin cfg0.N) : FVec Ideal S4096x1024 .bf16 := iblk m c 1 t

/-- The arrays of the arguments. -/
abbrev xin : FVec Ideal S16384x1024 .f32 := m ((c.tc : Thread nD τ).loc main_arg0)
abbrev gain : FVec Ideal S1x1024 .f32 := m ((c.tc : Thread nD τ).loc main_arg1)
abbrev dy : FVec Ideal S16384x3072 .bf16 := m ((c.tc : Thread nD τ).loc main_arg2)

theorem tlt (t : Fin cfg0.N) : t.val < 12 := lt_of_lt_of_eq t.isLt (show cfg0.N = 12 from N_0)

/-- The product of the blocks in use at a point. -/
def part (t : Fin cfg0.N) (a : Fin 1024) (b : Fin 1024) : EReal :=
  k0_pay1 (F := Ideal) (B0 m c t) (B1 m c t) (ix2 a b)

theorem part_eq (t : Fin cfg0.N) (a : Fin 1024) (b : Fin 1024) :
    part m c t a b = ∑ k : Fin 4096, B0 m c t (ix2 k a) * B1 m c t (ix2 k b) := by
  unfold part
  pointwise [k0_pay1]

theorem pay2_at (x : FVec Ideal S4096x1024 .bf16) (y : FVec Ideal S4096x1024 .bf16) (a : Fin 1024) (b : Fin 1024) :
    k0_pay2 (F := Ideal) x y (ix2 a b) = k0_pay1 (F := Ideal) x y (ix2 a b) := by
  pointwise [k0_pay2]

theorem pay3_at (x : FVec Ideal S4096x1024 .bf16) (y : FVec Ideal S4096x1024 .bf16) (v : FVec Ideal S1024x1024 .f32) (a : Fin 1024) (b : Fin 1024) :
    k0_pay3 (F := Ideal) x y v (ix2 a b) = v (ix2 a b) + k0_pay1 (F := Ideal) x y (ix2 a b) := by
  pointwise [k0_pay3]

theorem pay4_at (v : FVec Ideal S1024x1024 .f32) (a : Fin 1024) (b : Fin 1024) :
    k0_pay4 (F := Ideal) v (ix2 a b) = v (ix2 a b) := by
  pointwise [k0_pay4]

theorem scr_read (h : (scM0_0).IsWhole) (X : Vec Ideal S1024x1024 .f32) :
    View.read (Elt Ideal) (View.whole cc0_scratch0) (h.unread X) = X := h.read_unread X

/-- At the first point of a run the scratch holds the product of the blocks in use. -/
theorem scr_first (t : Fin cfg0.N) (h0 : t.val % 4 = 0) (a : Fin 1024) (b : Fin 1024) :
    (outsAt0 m c t.val t.isLt).2 (ix2 a b) = part m c t a b := by
  have hN := tlt t
  rw [outsAt0_A m c t h0 (by omega) (by omega)]
  frame_out
  exact pay2_at _ _ a b

/-- At a later point the product of the blocks in use is added. -/
theorem scr_step (t : Fin cfg0.N) (h0 : ¬t.val % 4 = 0) (a : Fin 1024) (b : Fin 1024) :
    (outsAt0 m c t.val t.isLt).2 (ix2 a b)
      = (outsAt0 m c (t.val - 1) (Nat.lt_of_le_of_lt (Nat.sub_le _ _) t.isLt)).2 (ix2 a b) + part m c t a b := by
  by_cases h2 : t.val % 4 = 3
  · rw [outsAt0_C m c t h0 (by omega) h2]
    frame_out
    rw [scr_read]
    exact pay3_at _ _ _ a b
  · rw [outsAt0_B m c t h0 (by omega) h2]
    frame_out
    rw [scr_read]
    exact pay3_at _ _ _ a b

/-- At the last point of a run the block of the result is written from the scratch. -/
theorem out_last (t : Fin cfg0.N) (h2 : t.val % 4 = 3) :
    (outsAt0 m c t.val t.isLt).1 = k0_pay4 (F := Ideal) (outsAt0 m c t.val t.isLt).2 := by
  rw [outsAt0_C m c t (by omega) (by omega) h2]
  frame_out
  first | done | rfl

/-- The left factor as the host prepares it. -/
theorem left_at (r : Fin 16384) (i : Fin 1024) : (V m c main_v12 : FVec Ideal S16384x1024 .bf16) (ix2 r i) = W5.lf (xin m c) (gain m c) r i := by
  unfold V
  simp only [hostOps0, List.flatten_cons, List.flatten_nil, List.append_nil, List.cons_append, List.nil_append]
  after_results_simp
  unfold W5.lf
  pointwise

theorem blk0 (t : Fin cfg0.N) (k : Fin 4096) (a : Fin 1024) (r : Fin 16384) (i : Fin 1024) (hr : r.val = t.val % 4 * 4096 + k.val) (hi : i.val = a.val) :
    B0 m c t (ix2 k a) = W5.lf (xin m c) (gain m c) r i := by
  have hN := tlt t
  rw [← left_at]
  unfold B0
  simp only [iblk]
  generalize V m c = X
  blk_ext [idx_val t]

theorem blk1 (t : Fin cfg0.N) (k : Fin 4096) (b : Fin 1024) (r : Fin 16384) (j : Fin 3072) (hr : r.val = t.val % 4 * 4096 + k.val) (hj : j.val = 1024 * (t.val / 4) + b.val) :
    B1 m c t (ix2 k b) = dy m c (ix2 r j) := by
  have hN := tlt t
  unfold B1
  blk_ext [iblk, V, idx_val t]

/-- At the end of a run the scratch holds the whole sum. -/
theorem scr_last (t : Fin cfg0.N) (h2 : t.val % 4 = 3) (a : Fin 1024) (b : Fin 1024) (i : Fin 1024) (j : Fin 3072) (hi : i.val = a.val) (hj : j.val = 1024 * (t.val / 4) + b.val) :
    (outsAt0 m c t.val t.isLt).2 (ix2 a b) = W5.dw (xin m c) (gain m c) (dy m c) i j := by
  rw [Pipeline.eq_sum_fin_of_reset_step_of_flush (fun n h => ((outsAt0 m c n h).2 (ix2 a b) : EReal)) 4 0
    (fun t => part m c t a b) (fun t h => by rw [zero_add]; exact scr_first m c t h a b) (fun t h => scr_step m c t h a b) t h2, zero_add]
  unfold W5.dw
  have hN := tlt t
  simp only [part_eq]
  refine Fin.sum_mul_add_congr fun s k hl => ?_
  have hs : (4 * (t.val / 4) + s.val) / 4 = t.val / 4 := by omega
  have hs' : (4 * (t.val / 4) + s.val) % 4 = s.val := by omega
  rw [blk0 m c _ k a ⟨s.val * 4096 + k.val, hl⟩ i (by simp only [hs']) (by first | exact hi | simp only [hs, hi]),
    blk1 m c _ k b ⟨s.val * 4096 + k.val, hl⟩ j (by simp only [hs']) (by first | exact hj | simp only [hs, hj])]

theorem G2_at (i : Fin 1024) (j : Fin 3072) : G2 m c (ix2 i j) = W5.dw (xin m c) (gain m c) (dy m c) i j := by
  have hp : pt2Of (ix2 i j) = 4 * (3 * (i.val / 1024) + j.val / 1024) + 3 := by
    show 4 * (3 * (i.val / 1024 - 0) + 1 * (j.val / 1024 - 0)) + 3 = _
    omega
  have hN : cfg0.N = 12 := N_0
  have hi := i.isLt
  have hj := j.isLt
  have ht : pt2Of (ix2 i j) < cfg0.N := by rw [hp, hN]; omega
  unfold G2
  rw [dif_pos ht, ← outsAt0_sweep m c _ ht]
  have hl : loc2Of (ix2 i j) = ix2 (⟨i.val % 1024, Nat.mod_lt _ (by decide)⟩ : Fin 1024) (⟨j.val % 1024, Nat.mod_lt _ (by decide)⟩ : Fin 1024) := by
    funext a; apply Fin.ext
    match a with
    | ⟨0, _⟩ => rfl
    | ⟨1, _⟩ => rfl
  have h7 : pt2Of (ix2 i j) % 4 = 3 := by omega
  rw [hl, out_last m c ⟨pt2Of (ix2 i j), ht⟩ h7, pay4_at]
  refine scr_last m c ⟨pt2Of (ix2 i j), ht⟩ h7 _ _ i j ?_ ?_
  · show i.val = i.val % 1024; omega
  · show j.val = 1024 * (pt2Of (ix2 i j) / 4) + j.val % 1024; omega

end Cert.Kernel5Ideal.Value

end
-- ==== Proof.K5Claim.lean ====
/- The gradient of the weight of the gate and up projections of the feed-forward block: the reference's entries, and the claims. -/
module

public import proofs.«01_k».proof.Defs
public import proofs.«01_k».proof.Proof.K5Value
public import proofs.«01_k».proof.Proof.Gen.Reference5Ideal.Run
public import proofs.«01_k».proof.Proof.Gen.Kernel5.Frame
public import Idealize.ShloMosaic.Lib.Quiescent

@[expose] public section

set_option maxRecDepth 16384

noncomputable section

open Idealize.ShloMosaic Idealize.ShloMosaic.TcCoe Idealize.SL.Sem

namespace Cert.Reference5Ideal.Value
open Cert.Reference5Ideal Cert.Reference5Ideal.Gen

/-- The reference's result, entry by entry. -/
theorem res_at (x : FVec Ideal S16384x1024 .f32) (g : FVec Ideal S1x1024 .f32) (d : FVec Ideal S16384x3072 .bf16) (i : Fin 1024) (j : Fin 3072) :
    (truncf .bf16 (transpose S1024x3072 [1, 0] (Host.dotGeneral dot_S16384x3072_S16384x1024_S3072x1024_0_0_1_1_n_n none (extf .f32 d bitsLt_bf16_f32) (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g))) transposes_S3072x1024_S1024x3072_1_0) bitsLt_bf16_f32
      : FVec Ideal S1024x3072 .bf16) (ix2 i j) = W5.dw x g d i j := by
  unfold W5.dw W5.lf
  pointwise
  first | done | exact Finset.sum_congr rfl fun r _ => mul_comm _ _

end Cert.Reference5Ideal.Value

namespace Cert.K5

instance : Cert.Kernel5.Facts := Cert.Kernel5.Gen.facts
instance : Cert.Kernel5Ideal.Facts := Cert.Kernel5Ideal.Gen.facts
instance : Cert.Reference5Ideal.Facts := Cert.Reference5Ideal.Gen.facts

/-- The reference leaves its arguments and all counters as it found them. -/
theorem ref_quiet : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The results are equal. -/
theorem algebraic : Cert.algebraic_Kernel5Ideal_Reference5Ideal := by
  intro m ρ m' ρ' _ ha
  refine ⟨fun c => Cert.Kernel5Ideal.Value.G2 m c, Cert.Kernel5Ideal.Value.run (F := Ideal) m ρ, ?_⟩
  refine (θ_run Cert.Reference5Ideal.defs _ _).mono (fun _ h c => ⟨(h c).1.trans ?_, (h c).2⟩)
    (Cert.Reference5Ideal.Value.run (F := Ideal) m' ρ')
  obtain ⟨h0, h1, h2⟩ := ha c
  rw [h0, h1, h2]
  funext i
  idx_vars i
  rw [Cert.Kernel5Ideal.Value.G2_at]
  exact Cert.Reference5Ideal.Value.res_at _ _ _ i0 i1

end Cert.K5

end
-- ==== Proof.K6Value.lean ====
/- The gradient of the weight of the down projection of the feed-forward block: what the kernel leaves in its result array. -/
module

public import proofs.«01_k».proof.Proof.Gen.Kernel6Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.W6
open Cert.Kernel6Ideal

/-- The left factor of the forward product at a row. -/
def lf (x g : FVec Ideal S16384x3072 .bf16) (r : Fin 16384) (i : Fin 3072) : EReal :=
  x (ix2 r i) * Ideal.div (Ideal.ofBits .f32 0x3F800000#32) (Ideal.ofBits .f32 0x3F800000#32 + Ideal.exp (-x (ix2 r i))) * g (ix2 r i)

/-- An entry of the weight's gradient: the sum over all rows. -/
def dw (x g : FVec Ideal S16384x3072 .bf16) (d : FVec Ideal S16384x1024 .bf16) (i : Fin 3072) (j : Fin 1024) : EReal :=
  ∑ r : Fin 16384, lf x g r i * d (ix2 r j)

end Cert.W6

open Idealize.ShloMosaic.Pipeline (Dat)

namespace Cert.Kernel6Ideal.Value
open Cert.Kernel6Ideal Cert.Kernel6Ideal.Gen

variable (m : (ℓ : Loc nD τ sig) → Buf (Elt Ideal) ℓ) (c : Dev nD)

/-- The block indices of the windows at each grid point. -/
theorem idx_val : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The blocks in use at a point. -/
def B0 (t : Fin cfg0.N) : FVec Ideal S4096x1024 .bf16 := iblk m c 0 t
def B1 (t : Fin cfg0.N) : FVec Ideal S4096x1024 .bf16 := iblk m c 1 t

/-- The arrays of the arguments. -/
abbrev gate : FVec Ideal S16384x3072 .bf16 := m ((c.tc : Thread nD τ).loc main_arg0)
abbrev up : FVec Ideal S16384x3072 .bf16 := m ((c.tc : Thread nD τ).loc main_arg1)
abbrev dy : FVec Ideal S16384x1024 .bf16 := m ((c.tc : Thread nD τ).loc main_arg2)

theorem tlt (t : Fin cfg0.N) : t.val < 12 := lt_of_lt_of_eq t.isLt (show cfg0.N = 12 from N_0)

/-- The product of the blocks in use at a point. -/
def part (t : Fin cfg0.N) (a : Fin 1024) (b : Fin 1024) : EReal :=
  k0_pay1 (F := Ideal) (B0 m c t) (B1 m c t) (ix2 a b)

theorem part_eq (t : Fin cfg0.N) (a : Fin 1024) (b : Fin 1024) :
    part m c t a b = ∑ k : Fin 4096, B0 m c t (ix2 k a) * B1 m c t (ix2 k b) := by
  unfold part
  pointwise [k0_pay1]

theorem pay2_at (x : FVec Ideal S4096x1024 .bf16) (y : FVec Ideal S4096x1024 .bf16) (a : Fin 1024) (b : Fin 1024) :
    k0_pay2 (F := Ideal) x y (ix2 a b) = k0_pay1 (F := Ideal) x y (ix2 a b) := by
  pointwise [k0_pay2]

theorem pay3_at (x : FVec Ideal S4096x1024 .bf16) (y : FVec Ideal S4096x1024 .bf16) (v : FVec Ideal S1024x1024 .f32) (a : Fin 1024) (b : Fin 1024) :
    k0_pay3 (F := Ideal) x y v (ix2 a b) = v (ix2 a b) + k0_pay1 (F := Ideal) x y (ix2 a b) := by
  pointwise [k0_pay3]

theorem pay4_at (v : FVec Ideal S1024x1024 .f32) (a : Fin 1024) (b : Fin 1024) :
    k0_pay4 (F := Ideal) v (ix2 a b) = v (ix2 a b) := by
  pointwise [k0_pay4]

theorem scr_read (h : (scM0_0).IsWhole) (X : Vec Ideal S1024x1024 .f32) :
    View.read (Elt Ideal) (View.whole cc0_scratch0) (h.unread X) = X := h.read_unread X

/-- At the first point of a run the scratch holds the product of the blocks in use. -/
theorem scr_first (t : Fin cfg0.N) (h0 : t.val % 4 = 0) (a : Fin 1024) (b : Fin 1024) :
    (outsAt0 m c t.val t.isLt).2 (ix2 a b) = part m c t a b := by
  have hN := tlt t
  rw [outsAt0_A m c t h0 (by omega) (by omega)]
  frame_out
  exact pay2_at _ _ a b

/-- At a later point the product of the blocks in use is added. -/
theorem scr_step (t : Fin cfg0.N) (h0 : ¬t.val % 4 = 0) (a : Fin 1024) (b : Fin 1024) :
    (outsAt0 m c t.val t.isLt).2 (ix2 a b)
      = (outsAt0 m c (t.val - 1) (Nat.lt_of_le_of_lt (Nat.sub_le _ _) t.isLt)).2 (ix2 a b) + part m c t a b := by
  by_cases h2 : t.val % 4 = 3
  · rw [outsAt0_C m c t h0 (by omega) h2]
    frame_out
    rw [scr_read]
    exact pay3_at _ _ _ a b
  · rw [outsAt0_B m c t h0 (by omega) h2]
    frame_out
    rw [scr_read]
    exact pay3_at _ _ _ a b

/-- At the last point of a run the block of the result is written from the scratch. -/
theorem out_last (t : Fin cfg0.N) (h2 : t.val % 4 = 3) :
    (outsAt0 m c t.val t.isLt).1 = k0_pay4 (F := Ideal) (outsAt0 m c t.val t.isLt).2 := by
  rw [outsAt0_C m c t (by omega) (by omega) h2]
  frame_out
  first | done | rfl

/-- The left factor as the host prepares it. -/
theorem left_at (r : Fin 16384) (i : Fin 3072) : (V m c main_v10 : FVec Ideal S16384x3072 .bf16) (ix2 r i) = W6.lf (gate m c) (up m c) r i := by
  unfold V
  simp only [hostOps0, List.flatten_cons, List.flatten_nil, List.append_nil, List.cons_append, List.nil_append]
  after_results_simp
  unfold W6.lf
  pointwise

theorem blk0 (t : Fin cfg0.N) (k : Fin 4096) (a : Fin 1024) (r : Fin 16384) (i : Fin 3072) (hr : r.val = t.val % 4 * 4096 + k.val) (hi : i.val = 1024 * (t.val / 4) + a.val) :
    B0 m c t (ix2 k a) = W6.lf (gate m c) (up m c) r i := by
  have hN := tlt t
  rw [← left_at]
  unfold B0
  simp only [iblk]
  generalize V m c = X
  blk_ext [idx_val t]

theorem blk1 (t : Fin cfg0.N) (k : Fin 4096) (b : Fin 1024) (r : Fin 16384) (j : Fin 1024) (hr : r.val = t.val % 4 * 4096 + k.val) (hj : j.val = b.val) :
    B1 m c t (ix2 k b) = dy m c (ix2 r j) := by
  have hN := tlt t
  unfold B1
  blk_ext [iblk, V, idx_val t]

/-- At the end of a run the scratch holds the whole sum. -/
theorem scr_last (t : Fin cfg0.N) (h2 : t.val % 4 = 3) (a : Fin 1024) (b : Fin 1024) (i : Fin 3072) (j : Fin 1024) (hi : i.val = 1024 * (t.val / 4) + a.val) (hj : j.val = b.val) :
    (outsAt0 m c t.val t.isLt).2 (ix2 a b) = W6.dw (gate m c) (up m c) (dy m c) i j := by
  rw [Pipeline.eq_sum_fin_of_reset_step_of_flush (fun n h => ((outsAt0 m c n h).2 (ix2 a b) : EReal)) 4 0
    (fun t => part m c t a b) (fun t h => by rw [zero_add]; exact scr_first m c t h a b) (fun t h => scr_step m c t h a b) t h2, zero_add]
  unfold W6.dw
  have hN := tlt t
  simp only [part_eq]
  refine Fin.sum_mul_add_congr fun s k hl => ?_
  have hs : (4 * (t.val / 4) + s.val) / 4 = t.val / 4 := by omega
  have hs' : (4 * (t.val / 4) + s.val) % 4 = s.val := by omega
  rw [blk0 m c _ k a ⟨s.val * 4096 + k.val, hl⟩ i (by simp only [hs']) (by first | exact hi | simp only [hs, hi]),
    blk1 m c _ k b ⟨s.val * 4096 + k.val, hl⟩ j (by simp only [hs']) (by first | exact hj | simp only [hs, hj])]

theorem G2_at (i : Fin 3072) (j : Fin 1024) : G2 m c (ix2 i j) = W6.dw (gate m c) (up m c) (dy m c) i j := by
  have hp : pt2Of (ix2 i j) = 4 * (1 * (i.val / 1024) + j.val / 1024) + 3 := by
    show 4 * (1 * (i.val / 1024 - 0) + 1 * (j.val / 1024 - 0)) + 3 = _
    omega
  have hN : cfg0.N = 12 := N_0
  have hi := i.isLt
  have hj := j.isLt
  have ht : pt2Of (ix2 i j) < cfg0.N := by rw [hp, hN]; omega
  unfold G2
  rw [dif_pos ht, ← outsAt0_sweep m c _ ht]
  have hl : loc2Of (ix2 i j) = ix2 (⟨i.val % 1024, Nat.mod_lt _ (by decide)⟩ : Fin 1024) (⟨j.val % 1024, Nat.mod_lt _ (by decide)⟩ : Fin 1024) := by
    funext a; apply Fin.ext
    match a with
    | ⟨0, _⟩ => rfl
    | ⟨1, _⟩ => rfl
  have h7 : pt2Of (ix2 i j) % 4 = 3 := by omega
  rw [hl, out_last m c ⟨pt2Of (ix2 i j), ht⟩ h7, pay4_at]
  refine scr_last m c ⟨pt2Of (ix2 i j), ht⟩ h7 _ _ i j ?_ ?_
  · show i.val = 1024 * (pt2Of (ix2 i j) / 4) + i.val % 1024; omega
  · show j.val = j.val % 1024; omega

end Cert.Kernel6Ideal.Value

end
-- ==== Proof.K6Claim.lean ====
/- The gradient of the weight of the down projection of the feed-forward block: the reference's entries, and the claims. -/
module

public import proofs.«01_k».proof.Defs
public import proofs.«01_k».proof.Proof.K6Value
public import proofs.«01_k».proof.Proof.Gen.Reference6Ideal.Run
public import proofs.«01_k».proof.Proof.Gen.Kernel6.Frame
public import Idealize.ShloMosaic.Lib.Quiescent

@[expose] public section

set_option maxRecDepth 16384

noncomputable section

open Idealize.ShloMosaic Idealize.ShloMosaic.TcCoe Idealize.SL.Sem

namespace Cert.Reference6Ideal.Value
open Cert.Reference6Ideal Cert.Reference6Ideal.Gen

/-- The reference's result, entry by entry. -/
theorem res_at (x g : FVec Ideal S16384x3072 .bf16) (d : FVec Ideal S16384x1024 .bf16) (i : Fin 3072) (j : Fin 1024) :
    (truncf .bf16 (transpose S3072x1024 [1, 0] (Host.dotGeneral dot_S16384x1024_S16384x3072_S1024x3072_0_0_1_1_n_n none (extf .f32 d bitsLt_bf16_f32) (mulf (mulf (extf .f32 x bitsLt_bf16_f32) (Host.divf (broadcastInDim S16384x3072 ![] bcast_S_S16384x3072 (constant S_ .f32 0x3F800000#32)) (addf (broadcastInDim S16384x3072 ![] bcast_S_S16384x3072 (constant S_ .f32 0x3F800000#32)) (Host.exp (Host.negf (extf .f32 x bitsLt_bf16_f32)))))) (extf .f32 g bitsLt_bf16_f32))) transposes_S1024x3072_S3072x1024_1_0) bitsLt_bf16_f32
      : FVec Ideal S3072x1024 .bf16) (ix2 i j) = W6.dw x g d i j := by
  unfold W6.dw W6.lf
  pointwise
  first | done | exact Finset.sum_congr rfl fun r _ => mul_comm _ _

end Cert.Reference6Ideal.Value

namespace Cert.K6

instance : Cert.Kernel6.Facts := Cert.Kernel6.Gen.facts
instance : Cert.Kernel6Ideal.Facts := Cert.Kernel6Ideal.Gen.facts
instance : Cert.Reference6Ideal.Facts := Cert.Reference6Ideal.Gen.facts

/-- The reference leaves its arguments and all counters as it found them. -/
theorem ref_quiet : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The results are equal. -/
theorem algebraic : Cert.algebraic_Kernel6Ideal_Reference6Ideal := by
  intro m ρ m' ρ' _ ha
  refine ⟨fun c => Cert.Kernel6Ideal.Value.G2 m c, Cert.Kernel6Ideal.Value.run (F := Ideal) m ρ, ?_⟩
  refine (θ_run Cert.Reference6Ideal.defs _ _).mono (fun _ h c => ⟨(h c).1.trans ?_, (h c).2⟩)
    (Cert.Reference6Ideal.Value.run (F := Ideal) m' ρ')
  obtain ⟨h0, h1, h2⟩ := ha c
  rw [h0, h1, h2]
  funext i
  idx_vars i
  rw [Cert.Kernel6Ideal.Value.G2_at]
  exact Cert.Reference6Ideal.Value.res_at _ _ _ i0 i1

end Cert.K6

end
-- ==== Proof.K7Value.lean ====
/- The gradient of the weight of the output projection and first mixer projection: what the kernel leaves in its result array. -/
module

public import proofs.«01_k».proof.Proof.Gen.Kernel7Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.W7
open Cert.Kernel7Ideal

/-- The left factor of the forward product at a row. -/
def lf (x : FVec Ideal S16384x1024 .bf16) (r : Fin 16384) (i : Fin 1024) : EReal :=
  x (ix2 r i)

/-- An entry of the weight's gradient: the sum over all rows. -/
def dw (x : FVec Ideal S16384x1024 .bf16) (d : FVec Ideal S16384x1024 .bf16) (i : Fin 1024) (j : Fin 1024) : EReal :=
  ∑ r : Fin 16384, lf x r i * d (ix2 r j)

end Cert.W7

open Idealize.ShloMosaic.Pipeline (Dat)

namespace Cert.Kernel7Ideal.Value
open Cert.Kernel7Ideal Cert.Kernel7Ideal.Gen

variable (m : (ℓ : Loc nD τ sig) → Buf (Elt Ideal) ℓ) (c : Dev nD)

/-- The block indices of the windows at each grid point. -/
theorem idx_val : ∀ t : Fin cfg0.N, win0_0.index t = ![t.val, 0]
    ∧ win0_1.index t = ![t.val, 0]
    ∧ win0_2.index t = ![0, 0] :=
  (by decide +kernel : ∀ t : Fin grid0.N, _)

/-- The blocks in use at a point. -/
def B0 (t : Fin cfg0.N) : FVec Ideal S4096x1024 .bf16 := iblk m c 0 t
def B1 (t : Fin cfg0.N) : FVec Ideal S4096x1024 .bf16 := iblk m c 1 t

/-- The arrays of the arguments. -/
abbrev ain : FVec Ideal S16384x1024 .bf16 := m ((c.tc : Thread nD τ).loc main_arg0)
abbrev dy : FVec Ideal S16384x1024 .bf16 := m ((c.tc : Thread nD τ).loc main_arg1)

theorem tlt (t : Fin cfg0.N) : t.val < 4 := lt_of_lt_of_eq t.isLt (show cfg0.N = 4 from N_0)

/-- The product of the blocks in use at a point. -/
def part (t : Fin cfg0.N) (a : Fin 1024) (b : Fin 1024) : EReal :=
  k0_pay1 (F := Ideal) (B0 m c t) (B1 m c t) (ix2 a b)

theorem part_eq (t : Fin cfg0.N) (a : Fin 1024) (b : Fin 1024) :
    part m c t a b = ∑ k : Fin 4096, B0 m c t (ix2 k a) * B1 m c t (ix2 k b) := by
  unfold part
  pointwise [k0_pay1]

theorem pay2_at (x : FVec Ideal S4096x1024 .bf16) (y : FVec Ideal S4096x1024 .bf16) (a : Fin 1024) (b : Fin 1024) :
    k0_pay2 (F := Ideal) x y (ix2 a b) = k0_pay1 (F := Ideal) x y (ix2 a b) := by
  pointwise [k0_pay2]

theorem pay3_at (x : FVec Ideal S4096x1024 .bf16) (y : FVec Ideal S4096x1024 .bf16) (v : FVec Ideal S1024x1024 .f32) (a : Fin 1024) (b : Fin 1024) :
    k0_pay3 (F := Ideal) x y v (ix2 a b) = v (ix2 a b) + k0_pay1 (F := Ideal) x y (ix2 a b) := by
  pointwise [k0_pay3]

theorem pay4_at (v : FVec Ideal S1024x1024 .f32) (a : Fin 1024) (b : Fin 1024) :
    k0_pay4 (F := Ideal) v (ix2 a b) = v (ix2 a b) := by
  pointwise [k0_pay4]

theorem scr_read (h : (scM0_0).IsWhole) (X : Vec Ideal S1024x1024 .f32) :
    View.read (Elt Ideal) (View.whole cc0_scratch0) (h.unread X) = X := h.read_unread X

/-- At the first point of a run the scratch holds the product of the blocks in use. -/
theorem scr_first (t : Fin cfg0.N) (h0 : t.val % 4 = 0) (a : Fin 1024) (b : Fin 1024) :
    (outsAt0 m c t.val t.isLt).2 (ix2 a b) = part m c t a b := by
  have hN := tlt t
  rw [outsAt0_A m c t h0 (by omega) (by omega)]
  frame_out
  exact pay2_at _ _ a b

/-- At a later point the product of the blocks in use is added. -/
theorem scr_step (t : Fin cfg0.N) (h0 : ¬t.val % 4 = 0) (a : Fin 1024) (b : Fin 1024) :
    (outsAt0 m c t.val t.isLt).2 (ix2 a b)
      = (outsAt0 m c (t.val - 1) (Nat.lt_of_le_of_lt (Nat.sub_le _ _) t.isLt)).2 (ix2 a b) + part m c t a b := by
  by_cases h2 : t.val % 4 = 3
  · rw [outsAt0_C m c t h0 (by omega) h2]
    frame_out
    rw [scr_read]
    exact pay3_at _ _ _ a b
  · rw [outsAt0_B m c t h0 (by omega) h2]
    frame_out
    rw [scr_read]
    exact pay3_at _ _ _ a b

/-- At the last point of a run the block of the result is written from the scratch. -/
theorem out_last (t : Fin cfg0.N) (h2 : t.val % 4 = 3) :
    (outsAt0 m c t.val t.isLt).1 = k0_pay4 (F := Ideal) (outsAt0 m c t.val t.isLt).2 := by
  rw [outsAt0_C m c t (by omega) (by omega) h2]
  frame_out
  first | done | rfl

theorem blk0 (t : Fin cfg0.N) (k : Fin 4096) (a : Fin 1024) (r : Fin 16384) (i : Fin 1024) (hr : r.val = t.val % 4 * 4096 + k.val) (hi : i.val = a.val) :
    B0 m c t (ix2 k a) = W7.lf (ain m c) r i := by
  have hN := tlt t
  unfold B0 W7.lf
  blk_ext [iblk, V, idx_val t]

theorem blk1 (t : Fin cfg0.N) (k : Fin 4096) (b : Fin 1024) (r : Fin 16384) (j : Fin 1024) (hr : r.val = t.val % 4 * 4096 + k.val) (hj : j.val = b.val) :
    B1 m c t (ix2 k b) = dy m c (ix2 r j) := by
  have hN := tlt t
  unfold B1
  blk_ext [iblk, V, idx_val t]

/-- At the end of a run the scratch holds the whole sum. -/
theorem scr_last (t : Fin cfg0.N) (h2 : t.val % 4 = 3) (a : Fin 1024) (b : Fin 1024) (i : Fin 1024) (j : Fin 1024) (hi : i.val = a.val) (hj : j.val = b.val) :
    (outsAt0 m c t.val t.isLt).2 (ix2 a b) = W7.dw (ain m c) (dy m c) i j := by
  rw [Pipeline.eq_sum_fin_of_reset_step_of_flush (fun n h => ((outsAt0 m c n h).2 (ix2 a b) : EReal)) 4 0
    (fun t => part m c t a b) (fun t h => by rw [zero_add]; exact scr_first m c t h a b) (fun t h => scr_step m c t h a b) t h2, zero_add]
  unfold W7.dw
  have hN := tlt t
  simp only [part_eq]
  refine Fin.sum_mul_add_congr fun s k hl => ?_
  have hs : (4 * (t.val / 4) + s.val) / 4 = t.val / 4 := by omega
  have hs' : (4 * (t.val / 4) + s.val) % 4 = s.val := by omega
  rw [blk0 m c _ k a ⟨s.val * 4096 + k.val, hl⟩ i (by simp only [hs']) (by first | exact hi | simp only [hs, hi]),
    blk1 m c _ k b ⟨s.val * 4096 + k.val, hl⟩ j (by simp only [hs']) (by first | exact hj | simp only [hs, hj])]

theorem G2_at (i : Fin 1024) (j : Fin 1024) : G2 m c (ix2 i j) = W7.dw (ain m c) (dy m c) i j := by
  have hp : pt2Of (ix2 i j) = 4 * (1 * (i.val / 1024) + j.val / 1024) + 3 := by
    show 4 * (1 * (i.val / 1024 - 0) + 1 * (j.val / 1024 - 0)) + 3 = _
    omega
  have hN : cfg0.N = 4 := N_0
  have hi := i.isLt
  have hj := j.isLt
  have ht : pt2Of (ix2 i j) < cfg0.N := by rw [hp, hN]; omega
  unfold G2
  rw [dif_pos ht, ← outsAt0_sweep m c _ ht]
  have hl : loc2Of (ix2 i j) = ix2 (⟨i.val % 1024, Nat.mod_lt _ (by decide)⟩ : Fin 1024) (⟨j.val % 1024, Nat.mod_lt _ (by decide)⟩ : Fin 1024) := by
    funext a; apply Fin.ext
    match a with
    | ⟨0, _⟩ => rfl
    | ⟨1, _⟩ => rfl
  have h7 : pt2Of (ix2 i j) % 4 = 3 := by omega
  rw [hl, out_last m c ⟨pt2Of (ix2 i j), ht⟩ h7, pay4_at]
  refine scr_last m c ⟨pt2Of (ix2 i j), ht⟩ h7 _ _ i j ?_ ?_
  · show i.val = i.val % 1024; omega
  · show j.val = j.val % 1024; omega

end Cert.Kernel7Ideal.Value

end
-- ==== Proof.K7Claim.lean ====
/- The gradient of the weight of the output projection and first mixer projection: the reference's entries, and the claims. -/
module

public import proofs.«01_k».proof.Defs
public import proofs.«01_k».proof.Proof.K7Value
public import proofs.«01_k».proof.Proof.Gen.Reference7Ideal.Run
public import proofs.«01_k».proof.Proof.Gen.Kernel7.Frame
public import Idealize.ShloMosaic.Lib.Quiescent

@[expose] public section

set_option maxRecDepth 16384

noncomputable section

open Idealize.ShloMosaic Idealize.ShloMosaic.TcCoe Idealize.SL.Sem

namespace Cert.Reference7Ideal.Value
open Cert.Reference7Ideal Cert.Reference7Ideal.Gen

/-- The reference's result, entry by entry. -/
theorem res_at (x : FVec Ideal S16384x1024 .bf16) (d : FVec Ideal S16384x1024 .bf16) (i : Fin 1024) (j : Fin 1024) :
    (truncf .bf16 (transpose S1024x1024 [1, 0] (Host.dotGeneral dot_S16384x1024_S16384x1024_S1024x1024_0_0_1_1_n_n none (extf .f32 d bitsLt_bf16_f32) (extf .f32 x bitsLt_bf16_f32)) transposes_S1024x1024_S1024x1024_1_0) bitsLt_bf16_f32
      : FVec Ideal S1024x1024 .bf16) (ix2 i j) = W7.dw x d i j := by
  unfold W7.dw W7.lf
  pointwise
  first | done | exact Finset.sum_congr rfl fun r _ => mul_comm _ _

end Cert.Reference7Ideal.Value

namespace Cert.K7

instance : Cert.Kernel7.Facts := Cert.Kernel7.Gen.facts
instance : Cert.Kernel7Ideal.Facts := Cert.Kernel7Ideal.Gen.facts
instance : Cert.Reference7Ideal.Facts := Cert.Reference7Ideal.Gen.facts

/-- The reference leaves its arguments and all counters as it found them. -/
theorem ref_quiet : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The results are equal. -/
theorem algebraic : Cert.algebraic_Kernel7Ideal_Reference7Ideal := by
  intro m ρ m' ρ' _ ha
  refine ⟨fun c => Cert.Kernel7Ideal.Value.G2 m c, Cert.Kernel7Ideal.Value.run (F := Ideal) m ρ, ?_⟩
  refine (θ_run Cert.Reference7Ideal.defs _ _).mono (fun _ h c => ⟨(h c).1.trans ?_, (h c).2⟩)
    (Cert.Reference7Ideal.Value.run (F := Ideal) m' ρ')
  obtain ⟨h0, h1⟩ := ha c
  rw [h0, h1]
  funext i
  idx_vars i
  rw [Cert.Kernel7Ideal.Value.G2_at]
  exact Cert.Reference7Ideal.Value.res_at _ _ i0 i1

end Cert.K7

end
-- ==== Proof.K8Value.lean ====
/- The gradient of the weight of the gate of the per-layer embedding: what the kernel leaves in its result array. -/
module

public import proofs.«01_k».proof.Proof.Gen.Kernel8Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.W8
open Cert.Kernel8Ideal

/-- The left factor of the forward product at a row. -/
def lf (x : FVec Ideal S16384x1024 .f32) (r : Fin 16384) (i : Fin 1024) : EReal :=
  x (ix2 r i)

/-- An entry of the weight's gradient: the sum over all rows. -/
def dw (x : FVec Ideal S16384x1024 .f32) (d : FVec Ideal S16384x1024 .bf16) (i : Fin 1024) (j : Fin 1024) : EReal :=
  ∑ r : Fin 16384, lf x r i * d (ix2 r j)

end Cert.W8

open Idealize.ShloMosaic.Pipeline (Dat)

namespace Cert.Kernel8Ideal.Value
open Cert.Kernel8Ideal Cert.Kernel8Ideal.Gen

variable (m : (ℓ : Loc nD τ sig) → Buf (Elt Ideal) ℓ) (c : Dev nD)

/-- The block indices of the windows at each grid point. -/
theorem idx_val : ∀ t : Fin cfg0.N, win0_0.index t = ![t.val, 0]
    ∧ win0_1.index t = ![t.val, 0]
    ∧ win0_2.index t = ![0, 0] :=
  (by decide +kernel : ∀ t : Fin grid0.N, _)

/-- The blocks in use at a point. -/
def B0 (t : Fin cfg0.N) : FVec Ideal S2048x1024 .f32 := iblk m c 0 t
def B1 (t : Fin cfg0.N) : FVec Ideal S2048x1024 .bf16 := iblk m c 1 t

/-- The arrays of the arguments. -/
abbrev ain : FVec Ideal S16384x1024 .f32 := m ((c.tc : Thread nD τ).loc main_arg0)
abbrev dy : FVec Ideal S16384x1024 .bf16 := m ((c.tc : Thread nD τ).loc main_arg1)

theorem tlt (t : Fin cfg0.N) : t.val < 8 := lt_of_lt_of_eq t.isLt (show cfg0.N = 8 from N_0)

/-- The product of the blocks in use at a point. -/
def part (t : Fin cfg0.N) (a : Fin 1024) (b : Fin 1024) : EReal :=
  k0_pay1 (F := Ideal) (B0 m c t) (B1 m c t) (ix2 a b)

theorem part_eq (t : Fin cfg0.N) (a : Fin 1024) (b : Fin 1024) :
    part m c t a b = ∑ k : Fin 2048, B0 m c t (ix2 k a) * B1 m c t (ix2 k b) := by
  unfold part
  pointwise [k0_pay1]

theorem pay2_at (x : FVec Ideal S2048x1024 .f32) (y : FVec Ideal S2048x1024 .bf16) (a : Fin 1024) (b : Fin 1024) :
    k0_pay2 (F := Ideal) x y (ix2 a b) = k0_pay1 (F := Ideal) x y (ix2 a b) := by
  pointwise [k0_pay2]

theorem pay3_at (x : FVec Ideal S2048x1024 .f32) (y : FVec Ideal S2048x1024 .bf16) (v : FVec Ideal S1024x1024 .f32) (a : Fin 1024) (b : Fin 1024) :
    k0_pay3 (F := Ideal) x y v (ix2 a b) = v (ix2 a b) + k0_pay1 (F := Ideal) x y (ix2 a b) := by
  pointwise [k0_pay3]

theorem pay4_at (v : FVec Ideal S1024x1024 .f32) (a : Fin 1024) (b : Fin 1024) :
    k0_pay4 (F := Ideal) v (ix2 a b) = v (ix2 a b) := by
  pointwise [k0_pay4]

theorem scr_read (h : (scM0_0).IsWhole) (X : Vec Ideal S1024x1024 .f32) :
    View.read (Elt Ideal) (View.whole cc0_scratch0) (h.unread X) = X := h.read_unread X

/-- At the first point of a run the scratch holds the product of the blocks in use. -/
theorem scr_first (t : Fin cfg0.N) (h0 : t.val % 8 = 0) (a : Fin 1024) (b : Fin 1024) :
    (outsAt0 m c t.val t.isLt).2 (ix2 a b) = part m c t a b := by
  have hN := tlt t
  rw [outsAt0_A m c t h0 (by omega) (by omega)]
  frame_out
  exact pay2_at _ _ a b

/-- At a later point the product of the blocks in use is added. -/
theorem scr_step (t : Fin cfg0.N) (h0 : ¬t.val % 8 = 0) (a : Fin 1024) (b : Fin 1024) :
    (outsAt0 m c t.val t.isLt).2 (ix2 a b)
      = (outsAt0 m c (t.val - 1) (Nat.lt_of_le_of_lt (Nat.sub_le _ _) t.isLt)).2 (ix2 a b) + part m c t a b := by
  by_cases h2 : t.val % 8 = 7
  · rw [outsAt0_C m c t h0 (by omega) h2]
    frame_out
    rw [scr_read]
    exact pay3_at _ _ _ a b
  · rw [outsAt0_B m c t h0 (by omega) h2]
    frame_out
    rw [scr_read]
    exact pay3_at _ _ _ a b

/-- At the last point of a run the block of the result is written from the scratch. -/
theorem out_last (t : Fin cfg0.N) (h2 : t.val % 8 = 7) :
    (outsAt0 m c t.val t.isLt).1 = k0_pay4 (F := Ideal) (outsAt0 m c t.val t.isLt).2 := by
  rw [outsAt0_C m c t (by omega) (by omega) h2]
  frame_out
  first | done | rfl

theorem blk0 (t : Fin cfg0.N) (k : Fin 2048) (a : Fin 1024) (r : Fin 16384) (i : Fin 1024) (hr : r.val = t.val % 8 * 2048 + k.val) (hi : i.val = a.val) :
    B0 m c t (ix2 k a) = W8.lf (ain m c) r i := by
  have hN := tlt t
  unfold B0 W8.lf
  blk_ext [iblk, V, idx_val t]

theorem blk1 (t : Fin cfg0.N) (k : Fin 2048) (b : Fin 1024) (r : Fin 16384) (j : Fin 1024) (hr : r.val = t.val % 8 * 2048 + k.val) (hj : j.val = b.val) :
    B1 m c t (ix2 k b) = dy m c (ix2 r j) := by
  have hN := tlt t
  unfold B1
  blk_ext [iblk, V, idx_val t]

/-- At the end of a run the scratch holds the whole sum. -/
theorem scr_last (t : Fin cfg0.N) (h2 : t.val % 8 = 7) (a : Fin 1024) (b : Fin 1024) (i : Fin 1024) (j : Fin 1024) (hi : i.val = a.val) (hj : j.val = b.val) :
    (outsAt0 m c t.val t.isLt).2 (ix2 a b) = W8.dw (ain m c) (dy m c) i j := by
  rw [Pipeline.eq_sum_fin_of_reset_step_of_flush (fun n h => ((outsAt0 m c n h).2 (ix2 a b) : EReal)) 8 0
    (fun t => part m c t a b) (fun t h => by rw [zero_add]; exact scr_first m c t h a b) (fun t h => scr_step m c t h a b) t h2, zero_add]
  unfold W8.dw
  have hN := tlt t
  simp only [part_eq]
  refine Fin.sum_mul_add_congr fun s k hl => ?_
  have hs : (8 * (t.val / 8) + s.val) / 8 = t.val / 8 := by omega
  have hs' : (8 * (t.val / 8) + s.val) % 8 = s.val := by omega
  rw [blk0 m c _ k a ⟨s.val * 2048 + k.val, hl⟩ i (by simp only [hs']) (by first | exact hi | simp only [hs, hi]),
    blk1 m c _ k b ⟨s.val * 2048 + k.val, hl⟩ j (by simp only [hs']) (by first | exact hj | simp only [hs, hj])]

theorem G2_at (i : Fin 1024) (j : Fin 1024) : G2 m c (ix2 i j) = W8.dw (ain m c) (dy m c) i j := by
  have hp : pt2Of (ix2 i j) = 8 * (1 * (i.val / 1024) + j.val / 1024) + 7 := by
    show 8 * (1 * (i.val / 1024 - 0) + 1 * (j.val / 1024 - 0)) + 7 = _
    omega
  have hN : cfg0.N = 8 := N_0
  have hi := i.isLt
  have hj := j.isLt
  have ht : pt2Of (ix2 i j) < cfg0.N := by rw [hp, hN]; omega
  unfold G2
  rw [dif_pos ht, ← outsAt0_sweep m c _ ht]
  have hl : loc2Of (ix2 i j) = ix2 (⟨i.val % 1024, Nat.mod_lt _ (by decide)⟩ : Fin 1024) (⟨j.val % 1024, Nat.mod_lt _ (by decide)⟩ : Fin 1024) := by
    funext a; apply Fin.ext
    match a with
    | ⟨0, _⟩ => rfl
    | ⟨1, _⟩ => rfl
  have h7 : pt2Of (ix2 i j) % 8 = 7 := by omega
  rw [hl, out_last m c ⟨pt2Of (ix2 i j), ht⟩ h7, pay4_at]
  refine scr_last m c ⟨pt2Of (ix2 i j), ht⟩ h7 _ _ i j ?_ ?_
  · show i.val = i.val % 1024; omega
  · show j.val = j.val % 1024; omega

end Cert.Kernel8Ideal.Value

end
-- ==== Proof.K8Claim.lean ====
/- The gradient of the weight of the gate of the per-layer embedding: the reference's entries, and the claims. -/
module

public import proofs.«01_k».proof.Defs
public import proofs.«01_k».proof.Proof.K8Value
public import proofs.«01_k».proof.Proof.Gen.Reference8Ideal.Run
public import proofs.«01_k».proof.Proof.Gen.Kernel8.Frame
public import Idealize.ShloMosaic.Lib.Quiescent

@[expose] public section

set_option maxRecDepth 16384

noncomputable section

open Idealize.ShloMosaic Idealize.ShloMosaic.TcCoe Idealize.SL.Sem

namespace Cert.Reference8Ideal.Value
open Cert.Reference8Ideal Cert.Reference8Ideal.Gen

/-- The reference's result, entry by entry. -/
theorem res_at (x : FVec Ideal S16384x1024 .f32) (d : FVec Ideal S16384x1024 .bf16) (i : Fin 1024) (j : Fin 1024) :
    (truncf .bf16 (transpose S1024x1024 [1, 0] (Host.dotGeneral dot_S16384x1024_S16384x1024_S1024x1024_0_0_1_1_n_n none (extf .f32 d bitsLt_bf16_f32) x) transposes_S1024x1024_S1024x1024_1_0) bitsLt_bf16_f32
      : FVec Ideal S1024x1024 .bf16) (ix2 i j) = W8.dw x d i j := by
  unfold W8.dw W8.lf
  pointwise
  first | done | exact Finset.sum_congr rfl fun r _ => mul_comm _ _

end Cert.Reference8Ideal.Value

namespace Cert.K8

instance : Cert.Kernel8.Facts := Cert.Kernel8.Gen.facts
instance : Cert.Kernel8Ideal.Facts := Cert.Kernel8Ideal.Gen.facts
instance : Cert.Reference8Ideal.Facts := Cert.Reference8Ideal.Gen.facts

/-- The reference leaves its arguments and all counters as it found them. -/
theorem ref_quiet : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The results are equal. -/
theorem algebraic : Cert.algebraic_Kernel8Ideal_Reference8Ideal := by
  intro m ρ m' ρ' _ ha
  refine ⟨fun c => Cert.Kernel8Ideal.Value.G2 m c, Cert.Kernel8Ideal.Value.run (F := Ideal) m ρ, ?_⟩
  refine (θ_run Cert.Reference8Ideal.defs _ _).mono (fun _ h c => ⟨(h c).1.trans ?_, (h c).2⟩)
    (Cert.Reference8Ideal.Value.run (F := Ideal) m' ρ')
  obtain ⟨h0, h1⟩ := ha c
  rw [h0, h1]
  funext i
  idx_vars i
  rw [Cert.Kernel8Ideal.Value.G2_at]
  exact Cert.Reference8Ideal.Value.res_at _ _ i0 i1

end Cert.K8

end
-- ==== Proof.K9Value.lean ====
/- The gradient of the weight of the per-layer embedding projection: what the kernel leaves in its result array. -/
module

public import proofs.«01_k».proof.Proof.Gen.Kernel9Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.W9
open Cert.Kernel9Ideal

/-- The left factor of the forward product at a row. -/
def lf (x : FVec Ideal S2x16384x256 .f32) (r : Fin 16384) (i : Fin 256) : EReal :=
  x (ix3 0 r i)

/-- An entry of the weight's gradient: the sum over all rows. -/
def dw (x : FVec Ideal S2x16384x256 .f32) (d : FVec Ideal S16384x1024 .bf16) (i : Fin 256) (j : Fin 1024) : EReal :=
  ∑ r : Fin 16384, lf x r i * d (ix2 r j)

end Cert.W9

open Idealize.ShloMosaic.Pipeline (Dat)

namespace Cert.Kernel9Ideal.Value
open Cert.Kernel9Ideal Cert.Kernel9Ideal.Gen

variable (m : (ℓ : Loc nD τ sig) → Buf (Elt Ideal) ℓ) (c : Dev nD)

/-- The block indices of the windows at each grid point. -/
theorem idx_val : ∀ t : Fin cfg0.N, win0_0.index t = ![0, t.val, 0]
    ∧ win0_1.index t = ![t.val, 0]
    ∧ win0_2.index t = ![0, 0] :=
  (by decide +kernel : ∀ t : Fin grid0.N, _)

/-- The blocks in use at a point. -/
def B0 (t : Fin cfg0.N) : FVec Ideal S1x2048x256 .f32 := iblk m c 0 t
def B1 (t : Fin cfg0.N) : FVec Ideal S2048x1024 .bf16 := iblk m c 1 t

/-- The arrays of the arguments. -/
abbrev ain : FVec Ideal S2x16384x256 .f32 := m ((c.tc : Thread nD τ).loc main_arg0)
abbrev dy : FVec Ideal S16384x1024 .bf16 := m ((c.tc : Thread nD τ).loc main_arg1)

theorem tlt (t : Fin cfg0.N) : t.val < 8 := lt_of_lt_of_eq t.isLt (show cfg0.N = 8 from N_0)

/-- The product of the blocks in use at a point. -/
def part (t : Fin cfg0.N) (a : Fin 256) (b : Fin 1024) : EReal :=
  k0_pay1 (F := Ideal) (B0 m c t) (B1 m c t) (ix2 a b)

theorem part_eq (t : Fin cfg0.N) (a : Fin 256) (b : Fin 1024) :
    part m c t a b = ∑ k : Fin 2048, B0 m c t (ix3 0 k a) * B1 m c t (ix2 k b) := by
  unfold part
  pointwise [k0_pay1]

theorem pay2_at (x : FVec Ideal S1x2048x256 .f32) (y : FVec Ideal S2048x1024 .bf16) (a : Fin 256) (b : Fin 1024) :
    k0_pay2 (F := Ideal) x y (ix2 a b) = k0_pay1 (F := Ideal) x y (ix2 a b) := by
  pointwise [k0_pay2]

theorem pay3_at (x : FVec Ideal S1x2048x256 .f32) (y : FVec Ideal S2048x1024 .bf16) (v : FVec Ideal S256x1024 .f32) (a : Fin 256) (b : Fin 1024) :
    k0_pay3 (F := Ideal) x y v (ix2 a b) = v (ix2 a b) + k0_pay1 (F := Ideal) x y (ix2 a b) := by
  pointwise [k0_pay3]

theorem pay4_at (v : FVec Ideal S256x1024 .f32) (a : Fin 256) (b : Fin 1024) :
    k0_pay4 (F := Ideal) v (ix2 a b) = v (ix2 a b) := by
  pointwise [k0_pay4]

theorem scr_read (h : (scM0_0).IsWhole) (X : Vec Ideal S256x1024 .f32) :
    View.read (Elt Ideal) (View.whole cc0_scratch0) (h.unread X) = X := h.read_unread X

/-- At the first point of a run the scratch holds the product of the blocks in use. -/
theorem scr_first (t : Fin cfg0.N) (h0 : t.val % 8 = 0) (a : Fin 256) (b : Fin 1024) :
    (outsAt0 m c t.val t.isLt).2 (ix2 a b) = part m c t a b := by
  have hN := tlt t
  rw [outsAt0_A m c t h0 (by omega) (by omega)]
  frame_out
  exact pay2_at _ _ a b

/-- At a later point the product of the blocks in use is added. -/
theorem scr_step (t : Fin cfg0.N) (h0 : ¬t.val % 8 = 0) (a : Fin 256) (b : Fin 1024) :
    (outsAt0 m c t.val t.isLt).2 (ix2 a b)
      = (outsAt0 m c (t.val - 1) (Nat.lt_of_le_of_lt (Nat.sub_le _ _) t.isLt)).2 (ix2 a b) + part m c t a b := by
  by_cases h2 : t.val % 8 = 7
  · rw [outsAt0_C m c t h0 (by omega) h2]
    frame_out
    rw [scr_read]
    exact pay3_at _ _ _ a b
  · rw [outsAt0_B m c t h0 (by omega) h2]
    frame_out
    rw [scr_read]
    exact pay3_at _ _ _ a b

/-- At the last point of a run the block of the result is written from the scratch. -/
theorem out_last (t : Fin cfg0.N) (h2 : t.val % 8 = 7) :
    (outsAt0 m c t.val t.isLt).1 = k0_pay4 (F := Ideal) (outsAt0 m c t.val t.isLt).2 := by
  rw [outsAt0_C m c t (by omega) (by omega) h2]
  frame_out
  first | done | rfl

theorem blk0 (t : Fin cfg0.N) (k : Fin 2048) (a : Fin 256) (r : Fin 16384) (i : Fin 256) (hr : r.val = t.val % 8 * 2048 + k.val) (hi : i.val = a.val) :
    B0 m c t (ix3 0 k a) = W9.lf (ain m c) r i := by
  have hN := tlt t
  unfold B0 W9.lf
  blk_ext [iblk, V, idx_val t]

theorem blk1 (t : Fin cfg0.N) (k : Fin 2048) (b : Fin 1024) (r : Fin 16384) (j : Fin 1024) (hr : r.val = t.val % 8 * 2048 + k.val) (hj : j.val = b.val) :
    B1 m c t (ix2 k b) = dy m c (ix2 r j) := by
  have hN := tlt t
  unfold B1
  blk_ext [iblk, V, idx_val t]

/-- At the end of a run the scratch holds the whole sum. -/
theorem scr_last (t : Fin cfg0.N) (h2 : t.val % 8 = 7) (a : Fin 256) (b : Fin 1024) (i : Fin 256) (j : Fin 1024) (hi : i.val = a.val) (hj : j.val = b.val) :
    (outsAt0 m c t.val t.isLt).2 (ix2 a b) = W9.dw (ain m c) (dy m c) i j := by
  rw [Pipeline.eq_sum_fin_of_reset_step_of_flush (fun n h => ((outsAt0 m c n h).2 (ix2 a b) : EReal)) 8 0
    (fun t => part m c t a b) (fun t h => by rw [zero_add]; exact scr_first m c t h a b) (fun t h => scr_step m c t h a b) t h2, zero_add]
  unfold W9.dw
  have hN := tlt t
  simp only [part_eq]
  refine Fin.sum_mul_add_congr fun s k hl => ?_
  have hs : (8 * (t.val / 8) + s.val) / 8 = t.val / 8 := by omega
  have hs' : (8 * (t.val / 8) + s.val) % 8 = s.val := by omega
  rw [blk0 m c _ k a ⟨s.val * 2048 + k.val, hl⟩ i (by simp only [hs']) (by first | exact hi | simp only [hs, hi]),
    blk1 m c _ k b ⟨s.val * 2048 + k.val, hl⟩ j (by simp only [hs']) (by first | exact hj | simp only [hs, hj])]

theorem G2_at (i : Fin 256) (j : Fin 1024) : G2 m c (ix2 i j) = W9.dw (ain m c) (dy m c) i j := by
  have hp : pt2Of (ix2 i j) = 8 * (1 * (i.val / 256) + j.val / 1024) + 7 := by
    show 8 * (1 * (i.val / 256 - 0) + 1 * (j.val / 1024 - 0)) + 7 = _
    omega
  have hN : cfg0.N = 8 := N_0
  have hi := i.isLt
  have hj := j.isLt
  have ht : pt2Of (ix2 i j) < cfg0.N := by rw [hp, hN]; omega
  unfold G2
  rw [dif_pos ht, ← outsAt0_sweep m c _ ht]
  have hl : loc2Of (ix2 i j) = ix2 (⟨i.val % 256, Nat.mod_lt _ (by decide)⟩ : Fin 256) (⟨j.val % 1024, Nat.mod_lt _ (by decide)⟩ : Fin 1024) := by
    funext a; apply Fin.ext
    match a with
    | ⟨0, _⟩ => rfl
    | ⟨1, _⟩ => rfl
  have h7 : pt2Of (ix2 i j) % 8 = 7 := by omega
  rw [hl, out_last m c ⟨pt2Of (ix2 i j), ht⟩ h7, pay4_at]
  refine scr_last m c ⟨pt2Of (ix2 i j), ht⟩ h7 _ _ i j ?_ ?_
  · show i.val = i.val % 256; omega
  · show j.val = j.val % 1024; omega

end Cert.Kernel9Ideal.Value

end
-- ==== Proof.K9Claim.lean ====
/- The gradient of the weight of the per-layer embedding projection: the reference's entries, and the claims. -/
module

public import proofs.«01_k».proof.Defs
public import proofs.«01_k».proof.Proof.K9Value
public import proofs.«01_k».proof.Proof.Gen.Reference9Ideal.Run
public import proofs.«01_k».proof.Proof.Gen.Kernel9.Frame
public import Idealize.ShloMosaic.Lib.Quiescent

@[expose] public section

set_option maxRecDepth 16384

noncomputable section

open Idealize.ShloMosaic Idealize.ShloMosaic.TcCoe Idealize.SL.Sem

namespace Cert.Reference9Ideal.Value
open Cert.Reference9Ideal Cert.Reference9Ideal.Gen

/-- The reference's result, entry by entry. -/
theorem res_at (x : FVec Ideal S2x16384x256 .f32) (d : FVec Ideal S16384x1024 .bf16) (i : Fin 256) (j : Fin 1024) :
    (truncf .bf16 (transpose S256x1024 [1, 0] (Host.dotGeneral dot_S16384x1024_S16384x256_S1024x256_0_0_1_1_n_n none (extf .f32 d bitsLt_bf16_f32) (shapeCast S16384x256 (extractStridedSlice S1x16384x256 ![0, 0, 0] x slices_S2x16384x256_S1x16384x256_0_0_0) shapeCasts_S1x16384x256_S16384x256)) transposes_S1024x256_S256x1024_1_0) bitsLt_bf16_f32
      : FVec Ideal S256x1024 .bf16) (ix2 i j) = W9.dw x d i j := by
  unfold W9.dw W9.lf
  pointwise
  first | done | exact Finset.sum_congr rfl fun r _ => mul_comm _ _

end Cert.Reference9Ideal.Value

namespace Cert.K9

instance : Cert.Kernel9.Facts := Cert.Kernel9.Gen.facts
instance : Cert.Kernel9Ideal.Facts := Cert.Kernel9Ideal.Gen.facts
instance : Cert.Reference9Ideal.Facts := Cert.Reference9Ideal.Gen.facts

/-- The reference leaves its arguments and all counters as it found them. -/
theorem ref_quiet : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The results are equal. -/
theorem algebraic : Cert.algebraic_Kernel9Ideal_Reference9Ideal := by
  intro m ρ m' ρ' _ ha
  refine ⟨fun c => Cert.Kernel9Ideal.Value.G2 m c, Cert.Kernel9Ideal.Value.run (F := Ideal) m ρ, ?_⟩
  refine (θ_run Cert.Reference9Ideal.defs _ _).mono (fun _ h c => ⟨(h c).1.trans ?_, (h c).2⟩)
    (Cert.Reference9Ideal.Value.run (F := Ideal) m' ρ')
  obtain ⟨h0, h1⟩ := ha c
  rw [h0, h1]
  funext i
  idx_vars i
  rw [Cert.Kernel9Ideal.Value.G2_at]
  exact Cert.Reference9Ideal.Value.res_at _ _ i0 i1

end Cert.K9

end
-- ==== Proof.K10Value.lean ====
/- The gradient of the weight of the second mixer projection: what the kernel leaves in its result array. -/
module

public import proofs.«01_k».proof.Proof.Gen.Kernel10Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.W10
open Cert.Kernel10Ideal

/-- The left factor of the forward product at a row. -/
def lf (x : FVec Ideal S16384x512 .bf16) (r : Fin 16384) (i : Fin 512) : EReal :=
  x (ix2 r i)

/-- An entry of the weight's gradient: the sum over all rows. -/
def dw (x : FVec Ideal S16384x512 .bf16) (d : FVec Ideal S16384x1024 .bf16) (i : Fin 512) (j : Fin 1024) : EReal :=
  ∑ r : Fin 16384, lf x r i * d (ix2 r j)

end Cert.W10

open Idealize.ShloMosaic.Pipeline (Dat)

namespace Cert.Kernel10Ideal.Value
open Cert.Kernel10Ideal Cert.Kernel10Ideal.Gen

variable (m : (ℓ : Loc nD τ sig) → Buf (Elt Ideal) ℓ) (c : Dev nD)

/-- The block indices of the windows at each grid point. -/
theorem idx_val : ∀ t : Fin cfg0.N, win0_0.index t = ![t.val, 0]
    ∧ win0_1.index t = ![t.val, 0]
    ∧ win0_2.index t = ![0, 0] :=
  (by decide +kernel : ∀ t : Fin grid0.N, _)

/-- The blocks in use at a point. -/
def B0 (t : Fin cfg0.N) : FVec Ideal S4096x512 .bf16 := iblk m c 0 t
def B1 (t : Fin cfg0.N) : FVec Ideal S4096x1024 .bf16 := iblk m c 1 t

/-- The arrays of the arguments. -/
abbrev ain : FVec Ideal S16384x512 .bf16 := m ((c.tc : Thread nD τ).loc main_arg0)
abbrev dy : FVec Ideal S16384x1024 .bf16 := m ((c.tc : Thread nD τ).loc main_arg1)

theorem tlt (t : Fin cfg0.N) : t.val < 4 := lt_of_lt_of_eq t.isLt (show cfg0.N = 4 from N_0)

/-- The product of the blocks in use at a point. -/
def part (t : Fin cfg0.N) (a : Fin 512) (b : Fin 1024) : EReal :=
  k0_pay1 (F := Ideal) (B0 m c t) (B1 m c t) (ix2 a b)

theorem part_eq (t : Fin cfg0.N) (a : Fin 512) (b : Fin 1024) :
    part m c t a b = ∑ k : Fin 4096, B0 m c t (ix2 k a) * B1 m c t (ix2 k b) := by
  unfold part
  pointwise [k0_pay1]

theorem pay2_at (x : FVec Ideal S4096x512 .bf16) (y : FVec Ideal S4096x1024 .bf16) (a : Fin 512) (b : Fin 1024) :
    k0_pay2 (F := Ideal) x y (ix2 a b) = k0_pay1 (F := Ideal) x y (ix2 a b) := by
  pointwise [k0_pay2]

theorem pay3_at (x : FVec Ideal S4096x512 .bf16) (y : FVec Ideal S4096x1024 .bf16) (v : FVec Ideal S512x1024 .f32) (a : Fin 512) (b : Fin 1024) :
    k0_pay3 (F := Ideal) x y v (ix2 a b) = v (ix2 a b) + k0_pay1 (F := Ideal) x y (ix2 a b) := by
  pointwise [k0_pay3]

theorem pay4_at (v : FVec Ideal S512x1024 .f32) (a : Fin 512) (b : Fin 1024) :
    k0_pay4 (F := Ideal) v (ix2 a b) = v (ix2 a b) := by
  pointwise [k0_pay4]

theorem scr_read (h : (scM0_0).IsWhole) (X : Vec Ideal S512x1024 .f32) :
    View.read (Elt Ideal) (View.whole cc0_scratch0) (h.unread X) = X := h.read_unread X

/-- At the first point of a run the scratch holds the product of the blocks in use. -/
theorem scr_first (t : Fin cfg0.N) (h0 : t.val % 4 = 0) (a : Fin 512) (b : Fin 1024) :
    (outsAt0 m c t.val t.isLt).2 (ix2 a b) = part m c t a b := by
  have hN := tlt t
  rw [outsAt0_A m c t h0 (by omega) (by omega)]
  frame_out
  exact pay2_at _ _ a b

/-- At a later point the product of the blocks in use is added. -/
theorem scr_step (t : Fin cfg0.N) (h0 : ¬t.val % 4 = 0) (a : Fin 512) (b : Fin 1024) :
    (outsAt0 m c t.val t.isLt).2 (ix2 a b)
      = (outsAt0 m c (t.val - 1) (Nat.lt_of_le_of_lt (Nat.sub_le _ _) t.isLt)).2 (ix2 a b) + part m c t a b := by
  by_cases h2 : t.val % 4 = 3
  · rw [outsAt0_C m c t h0 (by omega) h2]
    frame_out
    rw [scr_read]
    exact pay3_at _ _ _ a b
  · rw [outsAt0_B m c t h0 (by omega) h2]
    frame_out
    rw [scr_read]
    exact pay3_at _ _ _ a b

/-- At the last point of a run the block of the result is written from the scratch. -/
theorem out_last (t : Fin cfg0.N) (h2 : t.val % 4 = 3) :
    (outsAt0 m c t.val t.isLt).1 = k0_pay4 (F := Ideal) (outsAt0 m c t.val t.isLt).2 := by
  rw [outsAt0_C m c t (by omega) (by omega) h2]
  frame_out
  first | done | rfl

theorem blk0 (t : Fin cfg0.N) (k : Fin 4096) (a : Fin 512) (r : Fin 16384) (i : Fin 512) (hr : r.val = t.val % 4 * 4096 + k.val) (hi : i.val = a.val) :
    B0 m c t (ix2 k a) = W10.lf (ain m c) r i := by
  have hN := tlt t
  unfold B0 W10.lf
  blk_ext [iblk, V, idx_val t]

theorem blk1 (t : Fin cfg0.N) (k : Fin 4096) (b : Fin 1024) (r : Fin 16384) (j : Fin 1024) (hr : r.val = t.val % 4 * 4096 + k.val) (hj : j.val = b.val) :
    B1 m c t (ix2 k b) = dy m c (ix2 r j) := by
  have hN := tlt t
  unfold B1
  blk_ext [iblk, V, idx_val t]

/-- At the end of a run the scratch holds the whole sum. -/
theorem scr_last (t : Fin cfg0.N) (h2 : t.val % 4 = 3) (a : Fin 512) (b : Fin 1024) (i : Fin 512) (j : Fin 1024) (hi : i.val = a.val) (hj : j.val = b.val) :
    (outsAt0 m c t.val t.isLt).2 (ix2 a b) = W10.dw (ain m c) (dy m c) i j := by
  rw [Pipeline.eq_sum_fin_of_reset_step_of_flush (fun n h => ((outsAt0 m c n h).2 (ix2 a b) : EReal)) 4 0
    (fun t => part m c t a b) (fun t h => by rw [zero_add]; exact scr_first m c t h a b) (fun t h => scr_step m c t h a b) t h2, zero_add]
  unfold W10.dw
  have hN := tlt t
  simp only [part_eq]
  refine Fin.sum_mul_add_congr fun s k hl => ?_
  have hs : (4 * (t.val / 4) + s.val) / 4 = t.val / 4 := by omega
  have hs' : (4 * (t.val / 4) + s.val) % 4 = s.val := by omega
  rw [blk0 m c _ k a ⟨s.val * 4096 + k.val, hl⟩ i (by simp only [hs']) (by first | exact hi | simp only [hs, hi]),
    blk1 m c _ k b ⟨s.val * 4096 + k.val, hl⟩ j (by simp only [hs']) (by first | exact hj | simp only [hs, hj])]

theorem G2_at (i : Fin 512) (j : Fin 1024) : G2 m c (ix2 i j) = W10.dw (ain m c) (dy m c) i j := by
  have hp : pt2Of (ix2 i j) = 4 * (1 * (i.val / 512) + j.val / 1024) + 3 := by
    show 4 * (1 * (i.val / 512 - 0) + 1 * (j.val / 1024 - 0)) + 3 = _
    omega
  have hN : cfg0.N = 4 := N_0
  have hi := i.isLt
  have hj := j.isLt
  have ht : pt2Of (ix2 i j) < cfg0.N := by rw [hp, hN]; omega
  unfold G2
  rw [dif_pos ht, ← outsAt0_sweep m c _ ht]
  have hl : loc2Of (ix2 i j) = ix2 (⟨i.val % 512, Nat.mod_lt _ (by decide)⟩ : Fin 512) (⟨j.val % 1024, Nat.mod_lt _ (by decide)⟩ : Fin 1024) := by
    funext a; apply Fin.ext
    match a with
    | ⟨0, _⟩ => rfl
    | ⟨1, _⟩ => rfl
  have h7 : pt2Of (ix2 i j) % 4 = 3 := by omega
  rw [hl, out_last m c ⟨pt2Of (ix2 i j), ht⟩ h7, pay4_at]
  refine scr_last m c ⟨pt2Of (ix2 i j), ht⟩ h7 _ _ i j ?_ ?_
  · show i.val = i.val % 512; omega
  · show j.val = j.val % 1024; omega

end Cert.Kernel10Ideal.Value

end
-- ==== Proof.K10Claim.lean ====
/- The gradient of the weight of the second mixer projection: the reference's entries, and the claims. -/
module

public import proofs.«01_k».proof.Defs
public import proofs.«01_k».proof.Proof.K10Value
public import proofs.«01_k».proof.Proof.Gen.Reference10Ideal.Run
public import proofs.«01_k».proof.Proof.Gen.Kernel10.Frame
public import Idealize.ShloMosaic.Lib.Quiescent

@[expose] public section

set_option maxRecDepth 16384

noncomputable section

open Idealize.ShloMosaic Idealize.ShloMosaic.TcCoe Idealize.SL.Sem

namespace Cert.Reference10Ideal.Value
open Cert.Reference10Ideal Cert.Reference10Ideal.Gen

/-- The reference's result, entry by entry. -/
theorem res_at (x : FVec Ideal S16384x512 .bf16) (d : FVec Ideal S16384x1024 .bf16) (i : Fin 512) (j : Fin 1024) :
    (truncf .bf16 (transpose S512x1024 [1, 0] (Host.dotGeneral dot_S16384x1024_S16384x512_S1024x512_0_0_1_1_n_n none (extf .f32 d bitsLt_bf16_f32) (extf .f32 x bitsLt_bf16_f32)) transposes_S1024x512_S512x1024_1_0) bitsLt_bf16_f32
      : FVec Ideal S512x1024 .bf16) (ix2 i j) = W10.dw x d i j := by
  unfold W10.dw W10.lf
  pointwise
  first | done | exact Finset.sum_congr rfl fun r _ => mul_comm _ _

end Cert.Reference10Ideal.Value

namespace Cert.K10

instance : Cert.Kernel10.Facts := Cert.Kernel10.Gen.facts
instance : Cert.Kernel10Ideal.Facts := Cert.Kernel10Ideal.Gen.facts
instance : Cert.Reference10Ideal.Facts := Cert.Reference10Ideal.Gen.facts

/-- The reference leaves its arguments and all counters as it found them. -/
theorem ref_quiet : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The results are equal. -/
theorem algebraic : Cert.algebraic_Kernel10Ideal_Reference10Ideal := by
  intro m ρ m' ρ' _ ha
  refine ⟨fun c => Cert.Kernel10Ideal.Value.G2 m c, Cert.Kernel10Ideal.Value.run (F := Ideal) m ρ, ?_⟩
  refine (θ_run Cert.Reference10Ideal.defs _ _).mono (fun _ h c => ⟨(h c).1.trans ?_, (h c).2⟩)
    (Cert.Reference10Ideal.Value.run (F := Ideal) m' ρ')
  obtain ⟨h0, h1⟩ := ha c
  rw [h0, h1]
  funext i
  idx_vars i
  rw [Cert.Kernel10Ideal.Value.G2_at]
  exact Cert.Reference10Ideal.Value.res_at _ _ i0 i1

end Cert.K10

end
-- ==== Proof.K11Value.lean ====
/- The product of the input projection: what the kernel leaves in its result array. -/
module

public import proofs.«01_k».proof.Proof.Gen.Kernel11Ideal.Value
public import proofs.«01_k».proof.Proof.Rms
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.P11
open Cert.Kernel11Ideal

/-- The left factor at a row. -/
def lf (x : FVec Ideal S16384x1024 .f32) (g : FVec Ideal S1x1024 .f32) (r : Fin 16384) (k : Fin 1024) : EReal :=
  x (ix2 r k) * (Rms.rs fun l => x (ix2 r l)) * g (ix2 0 k)

/-- An entry of the product. -/
def pr (x : FVec Ideal S16384x1024 .f32) (g : FVec Ideal S1x1024 .f32) (w : FVec Ideal S1024x8192 .bf16) (r : Fin 16384) (j : Fin 8192) : EReal :=
  ∑ k : Fin 1024, lf x g r k * w (ix2 k j)

end Cert.P11

open Idealize.ShloMosaic.Pipeline (Dat)

namespace Cert.Kernel11Ideal.Value
open Cert.Kernel11Ideal Cert.Kernel11Ideal.Gen

variable (m : (ℓ : Loc nD τ sig) → Buf (Elt Ideal) ℓ) (c : Dev nD)

/-- The block indices of the windows at each grid point. -/
theorem idx_val : ∀ t : Fin cfg0.N, win0_0.index t = ![t.val / 4, 0]
    ∧ win0_1.index t = ![0, t.val % 4]
    ∧ win0_2.index t = ![t.val / 4, t.val % 4] :=
  (by decide +kernel : ∀ t : Fin grid0.N, _)

/-- The blocks in use at a point. -/
def B0 (t : Fin cfg0.N) : FVec Ideal S1024x1024 .bf16 := iblk m c 0 t
def B1 (t : Fin cfg0.N) : FVec Ideal S1024x2048 .bf16 := iblk m c 1 t

/-- The arrays of the arguments. -/
abbrev xin : FVec Ideal S16384x1024 .f32 := m ((c.tc : Thread nD τ).loc main_arg0)
abbrev gain : FVec Ideal S1x1024 .f32 := m ((c.tc : Thread nD τ).loc main_arg1)
abbrev wt : FVec Ideal S1024x8192 .bf16 := m ((c.tc : Thread nD τ).loc main_arg2)

theorem tlt (t : Fin cfg0.N) : t.val < 64 := lt_of_lt_of_eq t.isLt (show cfg0.N = 64 from N_0)

/-- An entry of the product of two blocks. -/
theorem pay1_at (x : FVec Ideal S1024x1024 .bf16) (y : FVec Ideal S1024x2048 .bf16) (a : Fin 1024) (b : Fin 2048) :
    k0_pay1 (F := Ideal) x y (ix2 a b) = ∑ k : Fin 1024, x (ix2 a k) * y (ix2 k b) := by
  pointwise [k0_pay1]

/-- The left factor as the host prepares it. -/
theorem left_at (r : Fin 16384) (k : Fin 1024) : (V m c main_v12 : FVec Ideal S16384x1024 .bf16) (ix2 r k) = P11.lf (xin m c) (gain m c) r k := by
  unfold V
  simp only [hostOps0, List.flatten_cons, List.flatten_nil, List.append_nil, List.cons_append, List.nil_append]
  after_results_simp
  unfold P11.lf
  pointwise

theorem blk0 (t : Fin cfg0.N) (a : Fin 1024) (k : Fin 1024) (r : Fin 16384) (hr : r.val = 1024 * (t.val / 4) + a.val) :
    B0 m c t (ix2 a k) = P11.lf (xin m c) (gain m c) r k := by
  have hN := tlt t
  rw [← left_at]
  unfold B0
  simp only [iblk]
  generalize V m c = X
  blk_ext [idx_val t]

theorem blk1 (t : Fin cfg0.N) (k : Fin 1024) (b : Fin 2048) (j : Fin 8192) (hj : j.val = 2048 * (t.val % 4) + b.val) :
    B1 m c t (ix2 k b) = wt m c (ix2 k j) := by
  have hN := tlt t
  unfold B1
  blk_ext [iblk, V, idx_val t]

/-- The result array. -/
def R2 : FVec Ideal S16384x8192 .f32 := fun i => (P11.pr (xin m c) (gain m c) (wt m c) (i 0) (i 1) : EReal)

theorem R2_at (r : Fin 16384) (j : Fin 8192) : R2 m c (ix2 r j) = P11.pr (xin m c) (gain m c) (wt m c) r j := rfl

/-- Each point writes its block of the product. -/
theorem out_at (t : Fin cfg0.N) (a : Fin 1024) (b : Fin 2048) :
    out0_2 (F := Ideal) (B0 m c t) (B1 m c t) (ix2 a b) = k0_pay1 (F := Ideal) (B0 m c t) (B1 m c t) (ix2 a b) := by
  frame_out

theorem final2 : (dats m 0 c).arrAt 2 cfg0.N = R2 m c := by
  refine (dats m 0 c).arrAt_eq_of_covers 2 _ (by decide +kernel) fun t hf y => ?_
  blk_simp
  rw [after0_2]
  idx_vars y
  have hN := tlt t
  have h0 := y0.isLt
  have h1 := y1.isLt
  have e : ((View.whole main_v13).slice (win0_2.rect t)).emb (ix2 y0 y1)
      = ix2 (⟨1024 * (t.val / 4) + y0.val, by omega⟩ : Fin 16384) (⟨2048 * (t.val % 4) + y1.val, by omega⟩ : Fin 8192) := by
    funext a; apply Fin.ext
    match a with
    | ⟨0, _⟩ =>
      blk_simp [idx_val t]
      show _ = 1024 * (t.val / 4) + y0.val
      omega
    | ⟨1, _⟩ =>
      blk_simp [idx_val t]
      show _ = 2048 * (t.val % 4) + y1.val
      omega
  rw [e, R2_at]
  refine (out_at m c t y0 y1).trans ?_
  rw [pay1_at]
  exact Finset.sum_congr rfl fun k _ => congrArg₂ (· * · : EReal → EReal → EReal) (blk0 m c t y0 k _ rfl) (blk1 m c t k y1 _ rfl)

end Cert.Kernel11Ideal.Value

end
-- ==== Proof.K11Claim.lean ====
/- The product of the input projection: the reference's entries, and the claims. -/
module

public import proofs.«01_k».proof.Defs
public import proofs.«01_k».proof.Proof.K11Value
public import proofs.«01_k».proof.Proof.Gen.Reference11Ideal.Run
public import proofs.«01_k».proof.Proof.Gen.Kernel11.Frame
public import Idealize.ShloMosaic.Lib.Quiescent

@[expose] public section

set_option maxRecDepth 16384

noncomputable section

open Idealize.ShloMosaic Idealize.ShloMosaic.TcCoe Idealize.SL.Sem

namespace Cert.Reference11Ideal.Value
open Cert.Reference11Ideal Cert.Reference11Ideal.Gen

/-- The reference's result, entry by entry. -/
theorem res_at (x : FVec Ideal S16384x1024 .f32) (g : FVec Ideal S1x1024 .f32) (w : FVec Ideal S1024x8192 .bf16) (r : Fin 16384) (j : Fin 8192) :
    (Host.dotGeneral dot_S16384x1024_S1024x8192_S16384x8192_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)) (extf .f32 w bitsLt_bf16_f32)
      : FVec Ideal S16384x8192 .f32) (ix2 r j) = P11.pr x g w r j := by
  unfold P11.pr P11.lf
  pointwise
  first | done | exact Finset.sum_congr rfl fun k _ => mul_comm _ _

end Cert.Reference11Ideal.Value

namespace Cert.K11

instance : Cert.Kernel11.Facts := Cert.Kernel11.Gen.facts
instance : Cert.Kernel11Ideal.Facts := Cert.Kernel11Ideal.Gen.facts
instance : Cert.Reference11Ideal.Facts := Cert.Reference11Ideal.Gen.facts

/-- The reference leaves its arguments and all counters as it found them. -/
theorem ref_quiet : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The results are equal. -/
theorem algebraic : Cert.algebraic_Kernel11Ideal_Reference11Ideal := by
  intro m ρ m' ρ' _ ha
  refine ⟨fun c => Cert.Kernel11Ideal.Value.R2 m c, (θ_run Cert.Kernel11Ideal.defs _ _).mono
    (fun _ h c => ⟨(h c).1.trans (Cert.Kernel11Ideal.Value.final2 m c), (h c).2⟩)
    (Cert.Kernel11Ideal.Value.run_blocks (F := Ideal) m ρ), ?_⟩
  refine (θ_run Cert.Reference11Ideal.defs _ _).mono (fun _ h c => ⟨(h c).1.trans ?_, (h c).2⟩)
    (Cert.Reference11Ideal.Value.run (F := Ideal) m' ρ')
  obtain ⟨h0, h1, h2⟩ := ha c
  rw [h0, h1, h2]
  funext i
  idx_vars i
  rw [Cert.Kernel11Ideal.Value.R2_at]
  exact Cert.Reference11Ideal.Value.res_at _ _ _ i0 i1

end Cert.K11

end
-- ==== Proof.K12Value.lean ====
/- The product of the gate and up projections of the feed-forward block: what the kernel leaves in its result array. -/
module

public import proofs.«01_k».proof.Proof.Gen.Kernel12Ideal.Value
public import proofs.«01_k».proof.Proof.Rms
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.P12
open Cert.Kernel12Ideal

/-- The left factor at a row. -/
def lf (x : FVec Ideal S16384x1024 .f32) (g : FVec Ideal S1x1024 .f32) (r : Fin 16384) (k : Fin 1024) : EReal :=
  x (ix2 r k) * (Rms.rs fun l => x (ix2 r l)) * g (ix2 0 k)

/-- An entry of the product. -/
def pr (x : FVec Ideal S16384x1024 .f32) (g : FVec Ideal S1x1024 .f32) (w : FVec Ideal S1024x6144 .bf16) (r : Fin 16384) (j : Fin 6144) : EReal :=
  ∑ k : Fin 1024, lf x g r k * w (ix2 k j)

end Cert.P12

open Idealize.ShloMosaic.Pipeline (Dat)

namespace Cert.Kernel12Ideal.Value
open Cert.Kernel12Ideal Cert.Kernel12Ideal.Gen

variable (m : (ℓ : Loc nD τ sig) → Buf (Elt Ideal) ℓ) (c : Dev nD)

/-- The block indices of the windows at each grid point. -/
theorem idx_val : ∀ t : Fin cfg0.N, win0_0.index t = ![t.val / 3, 0]
    ∧ win0_1.index t = ![0, t.val % 3]
    ∧ win0_2.index t = ![t.val / 3, t.val % 3] :=
  (by decide +kernel : ∀ t : Fin grid0.N, _)

/-- The blocks in use at a point. -/
def B0 (t : Fin cfg0.N) : FVec Ideal S2048x1024 .bf16 := iblk m c 0 t
def B1 (t : Fin cfg0.N) : FVec Ideal S1024x2048 .bf16 := iblk m c 1 t

/-- The arrays of the arguments. -/
abbrev xin : FVec Ideal S16384x1024 .f32 := m ((c.tc : Thread nD τ).loc main_arg0)
abbrev gain : FVec Ideal S1x1024 .f32 := m ((c.tc : Thread nD τ).loc main_arg1)
abbrev wt : FVec Ideal S1024x6144 .bf16 := m ((c.tc : Thread nD τ).loc main_arg2)

theorem tlt (t : Fin cfg0.N) : t.val < 24 := lt_of_lt_of_eq t.isLt (show cfg0.N = 24 from N_0)

/-- An entry of the product of two blocks. -/
theorem pay1_at (x : FVec Ideal S2048x1024 .bf16) (y : FVec Ideal S1024x2048 .bf16) (a : Fin 2048) (b : Fin 2048) :
    k0_pay1 (F := Ideal) x y (ix2 a b) = ∑ k : Fin 1024, x (ix2 a k) * y (ix2 k b) := by
  pointwise [k0_pay1]

/-- The left factor as the host prepares it. -/
theorem left_at (r : Fin 16384) (k : Fin 1024) : (V m c main_v12 : FVec Ideal S16384x1024 .bf16) (ix2 r k) = P12.lf (xin m c) (gain m c) r k := by
  unfold V
  simp only [hostOps0, List.flatten_cons, List.flatten_nil, List.append_nil, List.cons_append, List.nil_append]
  after_results_simp
  unfold P12.lf
  pointwise

theorem blk0 (t : Fin cfg0.N) (a : Fin 2048) (k : Fin 1024) (r : Fin 16384) (hr : r.val = 2048 * (t.val / 3) + a.val) :
    B0 m c t (ix2 a k) = P12.lf (xin m c) (gain m c) r k := by
  have hN := tlt t
  rw [← left_at]
  unfold B0
  simp only [iblk]
  generalize V m c = X
  blk_ext [idx_val t]

theorem blk1 (t : Fin cfg0.N) (k : Fin 1024) (b : Fin 2048) (j : Fin 6144) (hj : j.val = 2048 * (t.val % 3) + b.val) :
    B1 m c t (ix2 k b) = wt m c (ix2 k j) := by
  have hN := tlt t
  unfold B1
  blk_ext [iblk, V, idx_val t]

/-- The result array. -/
def R2 : FVec Ideal S16384x6144 .bf16 := fun i => (P12.pr (xin m c) (gain m c) (wt m c) (i 0) (i 1) : EReal)

theorem R2_at (r : Fin 16384) (j : Fin 6144) : R2 m c (ix2 r j) = P12.pr (xin m c) (gain m c) (wt m c) r j := rfl

/-- Each point writes its block of the product. -/
theorem out_at (t : Fin cfg0.N) (a : Fin 2048) (b : Fin 2048) :
    out0_2 (F := Ideal) (B0 m c t) (B1 m c t) (ix2 a b) = k0_pay1 (F := Ideal) (B0 m c t) (B1 m c t) (ix2 a b) := by
  frame_out

theorem final2 : (dats m 0 c).arrAt 2 cfg0.N = R2 m c := by
  refine (dats m 0 c).arrAt_eq_of_covers 2 _ (by decide +kernel) fun t hf y => ?_
  blk_simp
  rw [after0_2]
  idx_vars y
  have hN := tlt t
  have h0 := y0.isLt
  have h1 := y1.isLt
  have e : ((View.whole main_v13).slice (win0_2.rect t)).emb (ix2 y0 y1)
      = ix2 (⟨2048 * (t.val / 3) + y0.val, by omega⟩ : Fin 16384) (⟨2048 * (t.val % 3) + y1.val, by omega⟩ : Fin 6144) := by
    funext a; apply Fin.ext
    match a with
    | ⟨0, _⟩ =>
      blk_simp [idx_val t]
      show _ = 2048 * (t.val / 3) + y0.val
      omega
    | ⟨1, _⟩ =>
      blk_simp [idx_val t]
      show _ = 2048 * (t.val % 3) + y1.val
      omega
  rw [e, R2_at]
  refine (out_at m c t y0 y1).trans ?_
  rw [pay1_at]
  exact Finset.sum_congr rfl fun k _ => congrArg₂ (· * · : EReal → EReal → EReal) (blk0 m c t y0 k _ rfl) (blk1 m c t k y1 _ rfl)

end Cert.Kernel12Ideal.Value

end
-- ==== Proof.K12Claim.lean ====
/- The product of the gate and up projections of the feed-forward block: the reference's entries, and the claims. -/
module

public import proofs.«01_k».proof.Defs
public import proofs.«01_k».proof.Proof.K12Value
public import proofs.«01_k».proof.Proof.Gen.Reference12Ideal.Run
public import proofs.«01_k».proof.Proof.Gen.Kernel12.Frame
public import Idealize.ShloMosaic.Lib.Quiescent

@[expose] public section

set_option maxRecDepth 16384

noncomputable section

open Idealize.ShloMosaic Idealize.ShloMosaic.TcCoe Idealize.SL.Sem

namespace Cert.Reference12Ideal.Value
open Cert.Reference12Ideal Cert.Reference12Ideal.Gen

/-- The reference's result, entry by entry. -/
theorem res_at (x : FVec Ideal S16384x1024 .f32) (g : FVec Ideal S1x1024 .f32) (w : FVec Ideal S1024x6144 .bf16) (r : Fin 16384) (j : Fin 6144) :
    (truncf .bf16 (Host.dotGeneral dot_S16384x1024_S1024x6144_S16384x6144_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)) (extf .f32 w bitsLt_bf16_f32)) bitsLt_bf16_f32
      : FVec Ideal S16384x6144 .bf16) (ix2 r j) = P12.pr x g w r j := by
  unfold P12.pr P12.lf
  pointwise
  first | done | exact Finset.sum_congr rfl fun k _ => mul_comm _ _

end Cert.Reference12Ideal.Value

namespace Cert.K12

instance : Cert.Kernel12.Facts := Cert.Kernel12.Gen.facts
instance : Cert.Kernel12Ideal.Facts := Cert.Kernel12Ideal.Gen.facts
instance : Cert.Reference12Ideal.Facts := Cert.Reference12Ideal.Gen.facts

/-- The reference leaves its arguments and all counters as it found them. -/
theorem ref_quiet : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The results are equal. -/
theorem algebraic : Cert.algebraic_Kernel12Ideal_Reference12Ideal := by
  intro m ρ m' ρ' _ ha
  refine ⟨fun c => Cert.Kernel12Ideal.Value.R2 m c, (θ_run Cert.Kernel12Ideal.defs _ _).mono
    (fun _ h c => ⟨(h c).1.trans (Cert.Kernel12Ideal.Value.final2 m c), (h c).2⟩)
    (Cert.Kernel12Ideal.Value.run_blocks (F := Ideal) m ρ), ?_⟩
  refine (θ_run Cert.Reference12Ideal.defs _ _).mono (fun _ h c => ⟨(h c).1.trans ?_, (h c).2⟩)
    (Cert.Reference12Ideal.Value.run (F := Ideal) m' ρ')
  obtain ⟨h0, h1, h2⟩ := ha c
  rw [h0, h1, h2]
  funext i
  idx_vars i
  rw [Cert.Kernel12Ideal.Value.R2_at]
  exact Cert.Reference12Ideal.Value.res_at _ _ _ i0 i1

end Cert.K12

end
-- ==== Proof.K13Value.lean ====
/- The product of the down projection of the feed-forward block, backwards: what the kernel leaves in its result array. -/
module

public import proofs.«01_k».proof.Proof.Gen.Kernel13Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.P13
open Cert.Kernel13Ideal

/-- The left factor at a row. -/
def lf (x : FVec Ideal S16384x1024 .bf16) (r : Fin 16384) (k : Fin 1024) : EReal :=
  x (ix2 r k)

/-- An entry of the product. -/
def pr (x : FVec Ideal S16384x1024 .bf16) (w : FVec Ideal S3072x1024 .bf16) (r : Fin 16384) (j : Fin 3072) : EReal :=
  ∑ k : Fin 1024, lf x r k * w (ix2 j k)

end Cert.P13

open Idealize.ShloMosaic.Pipeline (Dat)

namespace Cert.Kernel13Ideal.Value
open Cert.Kernel13Ideal Cert.Kernel13Ideal.Gen

variable (m : (ℓ : Loc nD τ sig) → Buf (Elt Ideal) ℓ) (c : Dev nD)

/-- The block indices of the windows at each grid point. -/
theorem idx_val : ∀ t : Fin cfg0.N, win0_0.index t = ![t.val / 3, 0]
    ∧ win0_1.index t = ![t.val % 3, 0]
    ∧ win0_2.index t = ![t.val / 3, t.val % 3] :=
  (by decide +kernel : ∀ t : Fin grid0.N, _)

/-- The blocks in use at a point. -/
def B0 (t : Fin cfg0.N) : FVec Ideal S2048x1024 .bf16 := iblk m c 0 t
def B1 (t : Fin cfg0.N) : FVec Ideal S1024x1024 .bf16 := iblk m c 1 t

/-- The arrays of the arguments. -/
abbrev ain : FVec Ideal S16384x1024 .bf16 := m ((c.tc : Thread nD τ).loc main_arg0)
abbrev wt : FVec Ideal S3072x1024 .bf16 := m ((c.tc : Thread nD τ).loc main_arg1)

theorem tlt (t : Fin cfg0.N) : t.val < 24 := lt_of_lt_of_eq t.isLt (show cfg0.N = 24 from N_0)

/-- An entry of the product of two blocks. -/
theorem pay1_at (x : FVec Ideal S2048x1024 .bf16) (y : FVec Ideal S1024x1024 .bf16) (a : Fin 2048) (b : Fin 1024) :
    k0_pay1 (F := Ideal) x y (ix2 a b) = ∑ k : Fin 1024, x (ix2 a k) * y (ix2 b k) := by
  pointwise [k0_pay1]

theorem blk0 (t : Fin cfg0.N) (a : Fin 2048) (k : Fin 1024) (r : Fin 16384) (hr : r.val = 2048 * (t.val / 3) + a.val) :
    B0 m c t (ix2 a k) = P13.lf (ain m c) r k := by
  have hN := tlt t
  unfold B0 P13.lf
  blk_ext [iblk, V, idx_val t]

theorem blk1 (t : Fin cfg0.N) (k : Fin 1024) (b : Fin 1024) (j : Fin 3072) (hj : j.val = 1024 * (t.val % 3) + b.val) :
    B1 m c t (ix2 b k) = wt m c (ix2 j k) := by
  have hN := tlt t
  unfold B1
  blk_ext [iblk, V, idx_val t]

/-- The result array. -/
def R2 : FVec Ideal S16384x3072 .bf16 := fun i => (P13.pr (ain m c) (wt m c) (i 0) (i 1) : EReal)

theorem R2_at (r : Fin 16384) (j : Fin 3072) : R2 m c (ix2 r j) = P13.pr (ain m c) (wt m c) r j := rfl

/-- Each point writes its block of the product. -/
theorem out_at (t : Fin cfg0.N) (a : Fin 2048) (b : Fin 1024) :
    out0_2 (F := Ideal) (B0 m c t) (B1 m c t) (ix2 a b) = k0_pay1 (F := Ideal) (B0 m c t) (B1 m c t) (ix2 a b) := by
  frame_out

theorem final2 : (dats m 0 c).arrAt 2 cfg0.N = R2 m c := by
  refine (dats m 0 c).arrAt_eq_of_covers 2 _ (by decide +kernel) fun t hf y => ?_
  blk_simp
  rw [after0_2]
  idx_vars y
  have hN := tlt t
  have h0 := y0.isLt
  have h1 := y1.isLt
  have e : ((View.whole main_v0).slice (win0_2.rect t)).emb (ix2 y0 y1)
      = ix2 (⟨2048 * (t.val / 3) + y0.val, by omega⟩ : Fin 16384) (⟨1024 * (t.val % 3) + y1.val, by omega⟩ : Fin 3072) := by
    funext a; apply Fin.ext
    match a with
    | ⟨0, _⟩ =>
      blk_simp [idx_val t]
      show _ = 2048 * (t.val / 3) + y0.val
      omega
    | ⟨1, _⟩ =>
      blk_simp [idx_val t]
      show _ = 1024 * (t.val % 3) + y1.val
      omega
  rw [e, R2_at]
  refine (out_at m c t y0 y1).trans ?_
  rw [pay1_at]
  exact Finset.sum_congr rfl fun k _ => congrArg₂ (· * · : EReal → EReal → EReal) (blk0 m c t y0 k _ rfl) (blk1 m c t k y1 _ rfl)

end Cert.Kernel13Ideal.Value

end
-- ==== Proof.K13Claim.lean ====
/- The product of the down projection of the feed-forward block, backwards: the reference's entries, and the claims. -/
module

public import proofs.«01_k».proof.Defs
public import proofs.«01_k».proof.Proof.K13Value
public import proofs.«01_k».proof.Proof.Gen.Reference13Ideal.Run
public import proofs.«01_k».proof.Proof.Gen.Kernel13.Frame
public import Idealize.ShloMosaic.Lib.Quiescent

@[expose] public section

set_option maxRecDepth 16384

noncomputable section

open Idealize.ShloMosaic Idealize.ShloMosaic.TcCoe Idealize.SL.Sem

namespace Cert.Reference13Ideal.Value
open Cert.Reference13Ideal Cert.Reference13Ideal.Gen

/-- The reference's result, entry by entry. -/
theorem res_at (x : FVec Ideal S16384x1024 .bf16) (w : FVec Ideal S3072x1024 .bf16) (r : Fin 16384) (j : Fin 3072) :
    (truncf .bf16 (Host.dotGeneral dot_S16384x1024_S3072x1024_S16384x3072_1_1_0_0_n_n none (extf .f32 x bitsLt_bf16_f32) (extf .f32 w bitsLt_bf16_f32)) bitsLt_bf16_f32
      : FVec Ideal S16384x3072 .bf16) (ix2 r j) = P13.pr x w r j := by
  unfold P13.pr P13.lf
  pointwise
  first | done | exact Finset.sum_congr rfl fun k _ => mul_comm _ _

end Cert.Reference13Ideal.Value

namespace Cert.K13

instance : Cert.Kernel13.Facts := Cert.Kernel13.Gen.facts
instance : Cert.Kernel13Ideal.Facts := Cert.Kernel13Ideal.Gen.facts
instance : Cert.Reference13Ideal.Facts := Cert.Reference13Ideal.Gen.facts

/-- The reference leaves its arguments and all counters as it found them. -/
theorem ref_quiet : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The results are equal. -/
theorem algebraic : Cert.algebraic_Kernel13Ideal_Reference13Ideal := by
  intro m ρ m' ρ' _ ha
  refine ⟨fun c => Cert.Kernel13Ideal.Value.R2 m c, (θ_run Cert.Kernel13Ideal.defs _ _).mono
    (fun _ h c => ⟨(h c).1.trans (Cert.Kernel13Ideal.Value.final2 m c), (h c).2⟩)
    (Cert.Kernel13Ideal.Value.run_blocks (F := Ideal) m ρ), ?_⟩
  refine (θ_run Cert.Reference13Ideal.defs _ _).mono (fun _ h c => ⟨(h c).1.trans ?_, (h c).2⟩)
    (Cert.Reference13Ideal.Value.run (F := Ideal) m' ρ')
  obtain ⟨h0, h1⟩ := ha c
  rw [h0, h1]
  funext i
  idx_vars i
  rw [Cert.Kernel13Ideal.Value.R2_at]
  exact Cert.Reference13Ideal.Value.res_at _ _ i0 i1

end Cert.K13

end
-- ==== Proof.K14Value.lean ====
/- The product of the second mixer projection, backwards: what the kernel leaves in its result array. -/
module

public import proofs.«01_k».proof.Proof.Gen.Kernel14Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.P14
open Cert.Kernel14Ideal

/-- The left factor at a row. -/
def lf (x : FVec Ideal S16384x1024 .bf16) (r : Fin 16384) (k : Fin 1024) : EReal :=
  x (ix2 r k)

/-- An entry of the product. -/
def pr (x : FVec Ideal S16384x1024 .bf16) (w : FVec Ideal S512x1024 .bf16) (r : Fin 16384) (j : Fin 512) : EReal :=
  ∑ k : Fin 1024, lf x r k * w (ix2 j k)

end Cert.P14

open Idealize.ShloMosaic.Pipeline (Dat)

namespace Cert.Kernel14Ideal.Value
open Cert.Kernel14Ideal Cert.Kernel14Ideal.Gen

variable (m : (ℓ : Loc nD τ sig) → Buf (Elt Ideal) ℓ) (c : Dev nD)

/-- The block indices of the windows at each grid point. -/
theorem idx_val : ∀ t : Fin cfg0.N, win0_0.index t = ![t.val, 0]
    ∧ win0_1.index t = ![0, 0]
    ∧ win0_2.index t = ![t.val, 0] :=
  (by decide +kernel : ∀ t : Fin grid0.N, _)

/-- The blocks in use at a point. -/
def B0 (t : Fin cfg0.N) : FVec Ideal S1024x1024 .bf16 := iblk m c 0 t
def B1 (t : Fin cfg0.N) : FVec Ideal S512x1024 .bf16 := iblk m c 1 t

/-- The arrays of the arguments. -/
abbrev ain : FVec Ideal S16384x1024 .bf16 := m ((c.tc : Thread nD τ).loc main_arg0)
abbrev wt : FVec Ideal S512x1024 .bf16 := m ((c.tc : Thread nD τ).loc main_arg1)

theorem tlt (t : Fin cfg0.N) : t.val < 16 := lt_of_lt_of_eq t.isLt (show cfg0.N = 16 from N_0)

/-- An entry of the product of two blocks. -/
theorem pay1_at (x : FVec Ideal S1024x1024 .bf16) (y : FVec Ideal S512x1024 .bf16) (a : Fin 1024) (b : Fin 512) :
    k0_pay1 (F := Ideal) x y (ix2 a b) = ∑ k : Fin 1024, x (ix2 a k) * y (ix2 b k) := by
  pointwise [k0_pay1]

theorem blk0 (t : Fin cfg0.N) (a : Fin 1024) (k : Fin 1024) (r : Fin 16384) (hr : r.val = 1024 * (t.val) + a.val) :
    B0 m c t (ix2 a k) = P14.lf (ain m c) r k := by
  have hN := tlt t
  unfold B0 P14.lf
  blk_ext [iblk, V, idx_val t]

theorem blk1 (t : Fin cfg0.N) (k : Fin 1024) (b : Fin 512) (j : Fin 512) (hj : j.val = b.val) :
    B1 m c t (ix2 b k) = wt m c (ix2 j k) := by
  have hN := tlt t
  unfold B1
  blk_ext [iblk, V, idx_val t]

/-- The result array. -/
def R2 : FVec Ideal S16384x512 .f32 := fun i => (P14.pr (ain m c) (wt m c) (i 0) (i 1) : EReal)

theorem R2_at (r : Fin 16384) (j : Fin 512) : R2 m c (ix2 r j) = P14.pr (ain m c) (wt m c) r j := rfl

/-- Each point writes its block of the product. -/
theorem out_at (t : Fin cfg0.N) (a : Fin 1024) (b : Fin 512) :
    out0_2 (F := Ideal) (B0 m c t) (B1 m c t) (ix2 a b) = k0_pay1 (F := Ideal) (B0 m c t) (B1 m c t) (ix2 a b) := by
  frame_out

theorem final2 : (dats m 0 c).arrAt 2 cfg0.N = R2 m c := by
  refine (dats m 0 c).arrAt_eq_of_covers 2 _ (by decide +kernel) fun t hf y => ?_
  blk_simp
  rw [after0_2]
  idx_vars y
  have hN := tlt t
  have h0 := y0.isLt
  have h1 := y1.isLt
  have e : ((View.whole main_v0).slice (win0_2.rect t)).emb (ix2 y0 y1)
      = ix2 (⟨1024 * (t.val) + y0.val, by omega⟩ : Fin 16384) (⟨y1.val, by omega⟩ : Fin 512) := by
    funext a; apply Fin.ext
    match a with
    | ⟨0, _⟩ =>
      blk_simp [idx_val t]
      show _ = 1024 * (t.val) + y0.val
      omega
    | ⟨1, _⟩ =>
      blk_simp [idx_val t]
      first | done | rfl
  rw [e, R2_at]
  refine (out_at m c t y0 y1).trans ?_
  rw [pay1_at]
  exact Finset.sum_congr rfl fun k _ => congrArg₂ (· * · : EReal → EReal → EReal) (blk0 m c t y0 k _ rfl) (blk1 m c t k y1 _ rfl)

end Cert.Kernel14Ideal.Value

end
-- ==== Proof.K14Claim.lean ====
/- The product of the second mixer projection, backwards: the reference's entries, and the claims. -/
module

public import proofs.«01_k».proof.Defs
public import proofs.«01_k».proof.Proof.K14Value
public import proofs.«01_k».proof.Proof.Gen.Reference14Ideal.Run
public import proofs.«01_k».proof.Proof.Gen.Kernel14.Frame
public import Idealize.ShloMosaic.Lib.Quiescent

@[expose] public section

set_option maxRecDepth 16384

noncomputable section

open Idealize.ShloMosaic Idealize.ShloMosaic.TcCoe Idealize.SL.Sem

namespace Cert.Reference14Ideal.Value
open Cert.Reference14Ideal Cert.Reference14Ideal.Gen

/-- The reference's result, entry by entry. -/
theorem res_at (x : FVec Ideal S16384x1024 .bf16) (w : FVec Ideal S512x1024 .bf16) (r : Fin 16384) (j : Fin 512) :
    (Host.dotGeneral dot_S16384x1024_S512x1024_S16384x512_1_1_0_0_n_n none (extf .f32 x bitsLt_bf16_f32) (extf .f32 w bitsLt_bf16_f32)
      : FVec Ideal S16384x512 .f32) (ix2 r j) = P14.pr x w r j := by
  unfold P14.pr P14.lf
  pointwise
  first | done | exact Finset.sum_congr rfl fun k _ => mul_comm _ _

end Cert.Reference14Ideal.Value

namespace Cert.K14

instance : Cert.Kernel14.Facts := Cert.Kernel14.Gen.facts
instance : Cert.Kernel14Ideal.Facts := Cert.Kernel14Ideal.Gen.facts
instance : Cert.Reference14Ideal.Facts := Cert.Reference14Ideal.Gen.facts

/-- The reference leaves its arguments and all counters as it found them. -/
theorem ref_quiet : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The results are equal. -/
theorem algebraic : Cert.algebraic_Kernel14Ideal_Reference14Ideal := by
  intro m ρ m' ρ' _ ha
  refine ⟨fun c => Cert.Kernel14Ideal.Value.R2 m c, (θ_run Cert.Kernel14Ideal.defs _ _).mono
    (fun _ h c => ⟨(h c).1.trans (Cert.Kernel14Ideal.Value.final2 m c), (h c).2⟩)
    (Cert.Kernel14Ideal.Value.run_blocks (F := Ideal) m ρ), ?_⟩
  refine (θ_run Cert.Reference14Ideal.defs _ _).mono (fun _ h c => ⟨(h c).1.trans ?_, (h c).2⟩)
    (Cert.Reference14Ideal.Value.run (F := Ideal) m' ρ')
  obtain ⟨h0, h1⟩ := ha c
  rw [h0, h1]
  funext i
  idx_vars i
  rw [Cert.Kernel14Ideal.Value.R2_at]
  exact Cert.Reference14Ideal.Value.res_at _ _ i0 i1

end Cert.K14

end
-- ==== Proof.K15Value.lean ====
/- The product of the second mixer projection: what the kernel leaves in its result array. -/
module

public import proofs.«01_k».proof.Proof.Gen.Kernel15Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.P15
open Cert.Kernel15Ideal

/-- The left factor at a row. -/
def lf (x : FVec Ideal S16384x512 .bf16) (r : Fin 16384) (k : Fin 512) : EReal :=
  x (ix2 r k)

/-- An entry of the product. -/
def pr (x : FVec Ideal S16384x512 .bf16) (w : FVec Ideal S512x1024 .bf16) (r : Fin 16384) (j : Fin 1024) : EReal :=
  ∑ k : Fin 512, lf x r k * w (ix2 k j)

end Cert.P15

open Idealize.ShloMosaic.Pipeline (Dat)

namespace Cert.Kernel15Ideal.Value
open Cert.Kernel15Ideal Cert.Kernel15Ideal.Gen

variable (m : (ℓ : Loc nD τ sig) → Buf (Elt Ideal) ℓ) (c : Dev nD)

/-- The block indices of the windows at each grid point. -/
theorem idx_val : ∀ t : Fin cfg0.N, win0_0.index t = ![t.val, 0]
    ∧ win0_1.index t = ![0, 0]
    ∧ win0_2.index t = ![t.val, 0] :=
  (by decide +kernel : ∀ t : Fin grid0.N, _)

/-- The blocks in use at a point. -/
def B0 (t : Fin cfg0.N) : FVec Ideal S1024x512 .bf16 := iblk m c 0 t
def B1 (t : Fin cfg0.N) : FVec Ideal S512x1024 .bf16 := iblk m c 1 t

/-- The arrays of the arguments. -/
abbrev ain : FVec Ideal S16384x512 .bf16 := m ((c.tc : Thread nD τ).loc main_arg0)
abbrev wt : FVec Ideal S512x1024 .bf16 := m ((c.tc : Thread nD τ).loc main_arg1)

theorem tlt (t : Fin cfg0.N) : t.val < 16 := lt_of_lt_of_eq t.isLt (show cfg0.N = 16 from N_0)

/-- An entry of the product of two blocks. -/
theorem pay1_at (x : FVec Ideal S1024x512 .bf16) (y : FVec Ideal S512x1024 .bf16) (a : Fin 1024) (b : Fin 1024) :
    k0_pay1 (F := Ideal) x y (ix2 a b) = ∑ k : Fin 512, x (ix2 a k) * y (ix2 k b) := by
  pointwise [k0_pay1]

theorem blk0 (t : Fin cfg0.N) (a : Fin 1024) (k : Fin 512) (r : Fin 16384) (hr : r.val = 1024 * (t.val) + a.val) :
    B0 m c t (ix2 a k) = P15.lf (ain m c) r k := by
  have hN := tlt t
  unfold B0 P15.lf
  blk_ext [iblk, V, idx_val t]

theorem blk1 (t : Fin cfg0.N) (k : Fin 512) (b : Fin 1024) (j : Fin 1024) (hj : j.val = b.val) :
    B1 m c t (ix2 k b) = wt m c (ix2 k j) := by
  have hN := tlt t
  unfold B1
  blk_ext [iblk, V, idx_val t]

/-- The result array. -/
def R2 : FVec Ideal S16384x1024 .bf16 := fun i => (P15.pr (ain m c) (wt m c) (i 0) (i 1) : EReal)

theorem R2_at (r : Fin 16384) (j : Fin 1024) : R2 m c (ix2 r j) = P15.pr (ain m c) (wt m c) r j := rfl

/-- Each point writes its block of the product. -/
theorem out_at (t : Fin cfg0.N) (a : Fin 1024) (b : Fin 1024) :
    out0_2 (F := Ideal) (B0 m c t) (B1 m c t) (ix2 a b) = k0_pay1 (F := Ideal) (B0 m c t) (B1 m c t) (ix2 a b) := by
  frame_out

theorem final2 : (dats m 0 c).arrAt 2 cfg0.N = R2 m c := by
  refine (dats m 0 c).arrAt_eq_of_covers 2 _ (by decide +kernel) fun t hf y => ?_
  blk_simp
  rw [after0_2]
  idx_vars y
  have hN := tlt t
  have h0 := y0.isLt
  have h1 := y1.isLt
  have e : ((View.whole main_v0).slice (win0_2.rect t)).emb (ix2 y0 y1)
      = ix2 (⟨1024 * (t.val) + y0.val, by omega⟩ : Fin 16384) (⟨y1.val, by omega⟩ : Fin 1024) := by
    funext a; apply Fin.ext
    match a with
    | ⟨0, _⟩ =>
      blk_simp [idx_val t]
      show _ = 1024 * (t.val) + y0.val
      omega
    | ⟨1, _⟩ =>
      blk_simp [idx_val t]
      first | done | rfl
  rw [e, R2_at]
  refine (out_at m c t y0 y1).trans ?_
  rw [pay1_at]
  exact Finset.sum_congr rfl fun k _ => congrArg₂ (· * · : EReal → EReal → EReal) (blk0 m c t y0 k _ rfl) (blk1 m c t k y1 _ rfl)

end Cert.Kernel15Ideal.Value

end
-- ==== Proof.K15Claim.lean ====
/- The product of the second mixer projection: the reference's entries, and the claims. -/
module

public import proofs.«01_k».proof.Defs
public import proofs.«01_k».proof.Proof.K15Value
public import proofs.«01_k».proof.Proof.Gen.Reference15Ideal.Run
public import proofs.«01_k».proof.Proof.Gen.Kernel15.Frame
public import Idealize.ShloMosaic.Lib.Quiescent

@[expose] public section

set_option maxRecDepth 16384

noncomputable section

open Idealize.ShloMosaic Idealize.ShloMosaic.TcCoe Idealize.SL.Sem

namespace Cert.Reference15Ideal.Value
open Cert.Reference15Ideal Cert.Reference15Ideal.Gen

/-- The reference's result, entry by entry. -/
theorem res_at (x : FVec Ideal S16384x512 .bf16) (w : FVec Ideal S512x1024 .bf16) (r : Fin 16384) (j : Fin 1024) :
    (truncf .bf16 (Host.dotGeneral dot_S16384x512_S512x1024_S16384x1024_1_0_0_1_n_n none (extf .f32 x bitsLt_bf16_f32) (extf .f32 w bitsLt_bf16_f32)) bitsLt_bf16_f32
      : FVec Ideal S16384x1024 .bf16) (ix2 r j) = P15.pr x w r j := by
  unfold P15.pr P15.lf
  pointwise
  first | done | exact Finset.sum_congr rfl fun k _ => mul_comm _ _

end Cert.Reference15Ideal.Value

namespace Cert.K15

instance : Cert.Kernel15.Facts := Cert.Kernel15.Gen.facts
instance : Cert.Kernel15Ideal.Facts := Cert.Kernel15Ideal.Gen.facts
instance : Cert.Reference15Ideal.Facts := Cert.Reference15Ideal.Gen.facts

/-- The reference leaves its arguments and all counters as it found them. -/
theorem ref_quiet : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The results are equal. -/
theorem algebraic : Cert.algebraic_Kernel15Ideal_Reference15Ideal := by
  intro m ρ m' ρ' _ ha
  refine ⟨fun c => Cert.Kernel15Ideal.Value.R2 m c, (θ_run Cert.Kernel15Ideal.defs _ _).mono
    (fun _ h c => ⟨(h c).1.trans (Cert.Kernel15Ideal.Value.final2 m c), (h c).2⟩)
    (Cert.Kernel15Ideal.Value.run_blocks (F := Ideal) m ρ), ?_⟩
  refine (θ_run Cert.Reference15Ideal.defs _ _).mono (fun _ h c => ⟨(h c).1.trans ?_, (h c).2⟩)
    (Cert.Reference15Ideal.Value.run (F := Ideal) m' ρ')
  obtain ⟨h0, h1⟩ := ha c
  rw [h0, h1]
  funext i
  idx_vars i
  rw [Cert.Kernel15Ideal.Value.R2_at]
  exact Cert.Reference15Ideal.Value.res_at _ _ i0 i1

end Cert.K15

end
-- ==== Proof.K16Value.lean ====
/- The product of the per-layer embedding projection: what the kernel leaves in its result array. -/
module

public import proofs.«01_k».proof.Proof.Gen.Kernel16Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.P16
open Cert.Kernel16Ideal

/-- The left factor at a row. -/
def lf (x : FVec Ideal S2x16384x256 .f32) (r : Fin 16384) (k : Fin 256) : EReal :=
  x (ix3 0 r k)

/-- An entry of the product. -/
def pr (x : FVec Ideal S2x16384x256 .f32) (w : FVec Ideal S256x1024 .bf16) (r : Fin 16384) (j : Fin 1024) : EReal :=
  ∑ k : Fin 256, lf x r k * w (ix2 k j)

end Cert.P16

open Idealize.ShloMosaic.Pipeline (Dat)

namespace Cert.Kernel16Ideal.Value
open Cert.Kernel16Ideal Cert.Kernel16Ideal.Gen

variable (m : (ℓ : Loc nD τ sig) → Buf (Elt Ideal) ℓ) (c : Dev nD)

/-- The block indices of the windows at each grid point. -/
theorem idx_val : ∀ t : Fin cfg0.N, win0_0.index t = ![0, t.val, 0]
    ∧ win0_1.index t = ![0, 0]
    ∧ win0_2.index t = ![t.val, 0] :=
  (by decide +kernel : ∀ t : Fin grid0.N, _)

/-- The blocks in use at a point. -/
def B0 (t : Fin cfg0.N) : FVec Ideal S1x1024x256 .f32 := iblk m c 0 t
def B1 (t : Fin cfg0.N) : FVec Ideal S256x1024 .bf16 := iblk m c 1 t

/-- The arrays of the arguments. -/
abbrev ain : FVec Ideal S2x16384x256 .f32 := m ((c.tc : Thread nD τ).loc main_arg0)
abbrev wt : FVec Ideal S256x1024 .bf16 := m ((c.tc : Thread nD τ).loc main_arg1)

theorem tlt (t : Fin cfg0.N) : t.val < 16 := lt_of_lt_of_eq t.isLt (show cfg0.N = 16 from N_0)

/-- An entry of the product of two blocks. -/
theorem pay1_at (x : FVec Ideal S1x1024x256 .f32) (y : FVec Ideal S256x1024 .bf16) (a : Fin 1024) (b : Fin 1024) :
    k0_pay1 (F := Ideal) x y (ix2 a b) = ∑ k : Fin 256, x (ix3 0 a k) * y (ix2 k b) := by
  pointwise [k0_pay1]

theorem blk0 (t : Fin cfg0.N) (a : Fin 1024) (k : Fin 256) (r : Fin 16384) (hr : r.val = 1024 * (t.val) + a.val) :
    B0 m c t (ix3 0 a k) = P16.lf (ain m c) r k := by
  have hN := tlt t
  unfold B0 P16.lf
  blk_ext [iblk, V, idx_val t]

theorem blk1 (t : Fin cfg0.N) (k : Fin 256) (b : Fin 1024) (j : Fin 1024) (hj : j.val = b.val) :
    B1 m c t (ix2 k b) = wt m c (ix2 k j) := by
  have hN := tlt t
  unfold B1
  blk_ext [iblk, V, idx_val t]

/-- The result array. -/
def R2 : FVec Ideal S16384x1024 .f32 := fun i => (P16.pr (ain m c) (wt m c) (i 0) (i 1) : EReal)

theorem R2_at (r : Fin 16384) (j : Fin 1024) : R2 m c (ix2 r j) = P16.pr (ain m c) (wt m c) r j := rfl

/-- Each point writes its block of the product. -/
theorem out_at (t : Fin cfg0.N) (a : Fin 1024) (b : Fin 1024) :
    out0_2 (F := Ideal) (B0 m c t) (B1 m c t) (ix2 a b) = k0_pay1 (F := Ideal) (B0 m c t) (B1 m c t) (ix2 a b) := by
  frame_out

theorem final2 : (dats m 0 c).arrAt 2 cfg0.N = R2 m c := by
  refine (dats m 0 c).arrAt_eq_of_covers 2 _ (by decide +kernel) fun t hf y => ?_
  blk_simp
  rw [after0_2]
  idx_vars y
  have hN := tlt t
  have h0 := y0.isLt
  have h1 := y1.isLt
  have e : ((View.whole main_v0).slice (win0_2.rect t)).emb (ix2 y0 y1)
      = ix2 (⟨1024 * (t.val) + y0.val, by omega⟩ : Fin 16384) (⟨y1.val, by omega⟩ : Fin 1024) := by
    funext a; apply Fin.ext
    match a with
    | ⟨0, _⟩ =>
      blk_simp [idx_val t]
      show _ = 1024 * (t.val) + y0.val
      omega
    | ⟨1, _⟩ =>
      blk_simp [idx_val t]
      first | done | rfl
  rw [e, R2_at]
  refine (out_at m c t y0 y1).trans ?_
  rw [pay1_at]
  exact Finset.sum_congr rfl fun k _ => congrArg₂ (· * · : EReal → EReal → EReal) (blk0 m c t y0 k _ rfl) (blk1 m c t k y1 _ rfl)

end Cert.Kernel16Ideal.Value

end
-- ==== Proof.K16Claim.lean ====
/- The product of the per-layer embedding projection: the reference's entries, and the claims. -/
module

public import proofs.«01_k».proof.Defs
public import proofs.«01_k».proof.Proof.K16Value
public import proofs.«01_k».proof.Proof.Gen.Reference16Ideal.Run
public import proofs.«01_k».proof.Proof.Gen.Kernel16.Frame
public import Idealize.ShloMosaic.Lib.Quiescent

@[expose] public section

set_option maxRecDepth 16384

noncomputable section

open Idealize.ShloMosaic Idealize.ShloMosaic.TcCoe Idealize.SL.Sem

namespace Cert.Reference16Ideal.Value
open Cert.Reference16Ideal Cert.Reference16Ideal.Gen

/-- The reference's result, entry by entry. -/
theorem res_at (x : FVec Ideal S2x16384x256 .f32) (w : FVec Ideal S256x1024 .bf16) (r : Fin 16384) (j : Fin 1024) :
    (Host.dotGeneral dot_S16384x256_S256x1024_S16384x1024_1_0_0_1_n_n none (shapeCast S16384x256 (extractStridedSlice S1x16384x256 ![0, 0, 0] x slices_S2x16384x256_S1x16384x256_0_0_0) shapeCasts_S1x16384x256_S16384x256) (extf .f32 w bitsLt_bf16_f32)
      : FVec Ideal S16384x1024 .f32) (ix2 r j) = P16.pr x w r j := by
  unfold P16.pr P16.lf
  pointwise
  first | done | exact Finset.sum_congr rfl fun k _ => mul_comm _ _

end Cert.Reference16Ideal.Value

namespace Cert.K16

instance : Cert.Kernel16.Facts := Cert.Kernel16.Gen.facts
instance : Cert.Kernel16Ideal.Facts := Cert.Kernel16Ideal.Gen.facts
instance : Cert.Reference16Ideal.Facts := Cert.Reference16Ideal.Gen.facts

/-- The reference leaves its arguments and all counters as it found them. -/
theorem ref_quiet : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The results are equal. -/
theorem algebraic : Cert.algebraic_Kernel16Ideal_Reference16Ideal := by
  intro m ρ m' ρ' _ ha
  refine ⟨fun c => Cert.Kernel16Ideal.Value.R2 m c, (θ_run Cert.Kernel16Ideal.defs _ _).mono
    (fun _ h c => ⟨(h c).1.trans (Cert.Kernel16Ideal.Value.final2 m c), (h c).2⟩)
    (Cert.Kernel16Ideal.Value.run_blocks (F := Ideal) m ρ), ?_⟩
  refine (θ_run Cert.Reference16Ideal.defs _ _).mono (fun _ h c => ⟨(h c).1.trans ?_, (h c).2⟩)
    (Cert.Reference16Ideal.Value.run (F := Ideal) m' ρ')
  obtain ⟨h0, h1⟩ := ha c
  rw [h0, h1]
  funext i
  idx_vars i
  rw [Cert.Kernel16Ideal.Value.R2_at]
  exact Cert.Reference16Ideal.Value.res_at _ _ i0 i1

end Cert.K16

end
-- ==== Proof.Adam.lean ====
/- The optimiser's update of one entry: the moments after the step, and the step. -/
module

public import Idealize.ShloMosaic.Lib.Pointwise

@[expose] public section

set_option maxRecDepth 16384

noncomputable section

open Idealize.ShloMosaic Idealize.ShloMosaic.TcCoe Idealize.SL.Sem

namespace Cert.Adam

/-- The first moment after the step. -/
def upM (g m : EReal) : EReal := Ideal.ofBits .f32 0x3F666666#32 * m + Ideal.ofBits .f32 0x3DCCCCCD#32 * g

/-- The second moment after the step. -/
def upV (g v : EReal) : EReal := Ideal.ofBits .f32 0x3F7FBE77#32 * v + Ideal.ofBits .f32 0x3A83126F#32 * (g * g)

/-- The step: the corrected first moment over the root of the corrected second one, and the weight's decay. -/
def delta (g w m v : EReal) : EReal :=
  Ideal.ofBits .f32 0xBA83126F#32 *
    (Ideal.div (Ideal.div (upM g m) (Ideal.ofBits .f32 0x3F26BD02#32))
        (Ideal.sqrt (Ideal.div (upV g v) (Ideal.ofBits .f32 0x3C231ACC#32)) + Ideal.ofBits .f32 0x322BCC77#32)
      + Ideal.ofBits .f32 0x3C23D70A#32 * w)

end Cert.Adam

end
-- ==== Proof.K17Value.lean ====
/- The optimiser's update of the input projection weight: what the kernel leaves in its result arrays. -/
module

public import proofs.«01_k».proof.Proof.Gen.Kernel17Ideal.Value
public import proofs.«01_k».proof.Proof.Adam
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Adam17
open Cert.Kernel17Ideal

/-- The gradient: the sum of the devices' parts. -/
def gr (s0 : FVec Ideal S8x1024x1024 .bf16) (s1 : FVec Ideal S8x1024x1024 .bf16) (l : Fin 2) (i : Fin 1024) (j : Fin 1024) : EReal :=
  if l.val = 0 then ∑ d : Fin 8, s0 (ix3 d i j) else ∑ d : Fin 8, s1 (ix3 d i j)

end Cert.Adam17

open Idealize.ShloMosaic.Pipeline (Dat)

namespace Cert.Kernel17Ideal.Value
open Cert.Kernel17Ideal Cert.Kernel17Ideal.Gen

variable (m : (ℓ : Loc nD τ sig) → Buf (Elt Ideal) ℓ) (c : Dev nD)

/-- The block indices of the windows at each grid point. -/
theorem idx_val : ∀ t : Fin cfg0.N,
    win0_2.index t = ![t.val / 8, t.val % 8, 0]
    ∧ win0_3.index t = ![t.val / 8, t.val % 8, 0]
    ∧ win0_4.index t = ![t.val / 8, t.val % 8, 0]
    ∧ win0_5.index t = ![t.val / 8, t.val % 8, 0]
    ∧ win0_6.index t = ![t.val / 8, t.val % 8, 0]
    ∧ win0_7.index t = ![t.val / 8, t.val % 8, 0]
    ∧ win0_8.index t = ![t.val / 8, t.val % 8, 0] :=
  (by decide +kernel : ∀ t : Fin grid0.N, _)

theorem idx_s0 : ∀ t : Fin cfg0.N, t.val < 8 → win0_0.index t = ![0, t.val, 0] :=
  (by decide +kernel : ∀ t : Fin grid0.N, _)

theorem idx_s1 : ∀ t : Fin cfg0.N, 8 ≤ t.val → win0_1.index t = ![0, t.val - 8, 0] :=
  (by decide +kernel : ∀ t : Fin grid0.N, _)

/-- The blocks in use at a point. -/
def B0 (t : Fin cfg0.N) : FVec Ideal S8x128x1024 .bf16 := iblk m c 0 t
def B1 (t : Fin cfg0.N) : FVec Ideal S8x128x1024 .bf16 := iblk m c 1 t
def B2 (t : Fin cfg0.N) : FVec Ideal S1x128x1024 .f32 := iblk m c 2 t
def B3 (t : Fin cfg0.N) : FVec Ideal S1x128x1024 .f32 := iblk m c 3 t
def B4 (t : Fin cfg0.N) : FVec Ideal S1x128x1024 .f32 := iblk m c 4 t

/-- The arrays of the arguments. -/
abbrev s0 : FVec Ideal S8x1024x1024 .bf16 := m ((c.tc : Thread nD τ).loc main_arg0)
abbrev s1 : FVec Ideal S8x1024x1024 .bf16 := m ((c.tc : Thread nD τ).loc main_arg1)
abbrev w : FVec Ideal S2x1024x1024 .f32 := m ((c.tc : Thread nD τ).loc main_arg2)
abbrev mo : FVec Ideal S2x1024x1024 .f32 := m ((c.tc : Thread nD τ).loc main_arg3)
abbrev vo : FVec Ideal S2x1024x1024 .f32 := m ((c.tc : Thread nD τ).loc main_arg4)

theorem tlt (t : Fin cfg0.N) : t.val < 16 := lt_of_lt_of_eq t.isLt (show cfg0.N = 16 from N_0)

/-- The gradient a point writes, of the first matrix. -/
theorem out5_A (t : Fin cfg0.N) (h0 : t.val < 8) (a : Fin 128) (b : Fin 1024) :
    (outsAt0 m c t.val t.isLt).1 (ix3 0 a b) = ((∑ d : Fin 8, B0 m c t (ix3 d a b)) : EReal) := by
  have hN := tlt t
  rw [outsAt0_A m c t (by omega) (by omega)]
  frame_out
  rw [Fin.sum_univ_eight]
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The step a point writes, of the first matrix. -/
theorem out6_A (t : Fin cfg0.N) (h0 : t.val < 8) (a : Fin 128) (b : Fin 1024) :
    (outsAt0 m c t.val t.isLt).2.1 (ix3 0 a b) = (Adam.delta (∑ d : Fin 8, B0 m c t (ix3 d a b)) (B2 m c t (ix3 0 a b)) (B3 m c t (ix3 0 a b)) (B4 m c t (ix3 0 a b)) : EReal) := by
  have hN := tlt t
  rw [outsAt0_A m c t (by omega) (by omega)]
  frame_out
  rw [Fin.sum_univ_eight]
  unfold Adam.delta Adam.upM Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The first moment a point writes, of the first matrix. -/
theorem out7_A (t : Fin cfg0.N) (h0 : t.val < 8) (a : Fin 128) (b : Fin 1024) :
    (outsAt0 m c t.val t.isLt).2.2.1 (ix3 0 a b) = (Adam.upM (∑ d : Fin 8, B0 m c t (ix3 d a b)) (B3 m c t (ix3 0 a b)) : EReal) := by
  have hN := tlt t
  rw [outsAt0_A m c t (by omega) (by omega)]
  frame_out
  rw [Fin.sum_univ_eight]
  unfold Adam.upM
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The second moment a point writes, of the first matrix. -/
theorem out8_A (t : Fin cfg0.N) (h0 : t.val < 8) (a : Fin 128) (b : Fin 1024) :
    (outsAt0 m c t.val t.isLt).2.2.2 (ix3 0 a b) = (Adam.upV (∑ d : Fin 8, B0 m c t (ix3 d a b)) (B4 m c t (ix3 0 a b)) : EReal) := by
  have hN := tlt t
  rw [outsAt0_A m c t (by omega) (by omega)]
  frame_out
  rw [Fin.sum_univ_eight]
  unfold Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The gradient a point writes, of the second matrix. -/
theorem out5_B (t : Fin cfg0.N) (h0 : 8 ≤ t.val) (a : Fin 128) (b : Fin 1024) :
    (outsAt0 m c t.val t.isLt).1 (ix3 0 a b) = ((∑ d : Fin 8, B1 m c t (ix3 d a b)) : EReal) := by
  have hN := tlt t
  rw [outsAt0_B m c t (by omega) (by omega)]
  frame_out
  rw [Fin.sum_univ_eight]
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The step a point writes, of the second matrix. -/
theorem out6_B (t : Fin cfg0.N) (h0 : 8 ≤ t.val) (a : Fin 128) (b : Fin 1024) :
    (outsAt0 m c t.val t.isLt).2.1 (ix3 0 a b) = (Adam.delta (∑ d : Fin 8, B1 m c t (ix3 d a b)) (B2 m c t (ix3 0 a b)) (B3 m c t (ix3 0 a b)) (B4 m c t (ix3 0 a b)) : EReal) := by
  have hN := tlt t
  rw [outsAt0_B m c t (by omega) (by omega)]
  frame_out
  rw [Fin.sum_univ_eight]
  unfold Adam.delta Adam.upM Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The first moment a point writes, of the second matrix. -/
theorem out7_B (t : Fin cfg0.N) (h0 : 8 ≤ t.val) (a : Fin 128) (b : Fin 1024) :
    (outsAt0 m c t.val t.isLt).2.2.1 (ix3 0 a b) = (Adam.upM (∑ d : Fin 8, B1 m c t (ix3 d a b)) (B3 m c t (ix3 0 a b)) : EReal) := by
  have hN := tlt t
  rw [outsAt0_B m c t (by omega) (by omega)]
  frame_out
  rw [Fin.sum_univ_eight]
  unfold Adam.upM
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The second moment a point writes, of the second matrix. -/
theorem out8_B (t : Fin cfg0.N) (h0 : 8 ≤ t.val) (a : Fin 128) (b : Fin 1024) :
    (outsAt0 m c t.val t.isLt).2.2.2 (ix3 0 a b) = (Adam.upV (∑ d : Fin 8, B1 m c t (ix3 d a b)) (B4 m c t (ix3 0 a b)) : EReal) := by
  have hN := tlt t
  rw [outsAt0_B m c t (by omega) (by omega)]
  frame_out
  rw [Fin.sum_univ_eight]
  unfold Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

theorem blks0 (t : Fin cfg0.N) (h0 : t.val < 8) (d : Fin 8) (a : Fin 128) (b : Fin 1024) (l : Fin 2) (i : Fin 1024) (j : Fin 1024) (hl : l.val = t.val / 8) (hi : i.val = 128 * (t.val % 8) + a.val) (hj : j.val = b.val) :
    B0 m c t (ix3 d a b) = s0 m c (ix3 d i j) := by
  have hN := tlt t
  unfold B0
  blk_ext [iblk, V, idx_s0 t h0]

theorem blks1 (t : Fin cfg0.N) (h0 : 8 ≤ t.val) (d : Fin 8) (a : Fin 128) (b : Fin 1024) (l : Fin 2) (i : Fin 1024) (j : Fin 1024) (hl : l.val = t.val / 8) (hi : i.val = 128 * (t.val % 8) + a.val) (hj : j.val = b.val) :
    B1 m c t (ix3 d a b) = s1 m c (ix3 d i j) := by
  have hN := tlt t
  unfold B1
  blk_ext [iblk, V, idx_s1 t h0]

theorem blk2 (t : Fin cfg0.N) (a : Fin 128) (b : Fin 1024) (l : Fin 2) (i : Fin 1024) (j : Fin 1024) (hl : l.val = t.val / 8) (hi : i.val = 128 * (t.val % 8) + a.val) (hj : j.val = b.val) :
    B2 m c t (ix3 0 a b) = w m c (ix3 l i j) := by
  have hN := tlt t
  unfold B2
  blk_ext [iblk, V, idx_val t]

theorem blk3 (t : Fin cfg0.N) (a : Fin 128) (b : Fin 1024) (l : Fin 2) (i : Fin 1024) (j : Fin 1024) (hl : l.val = t.val / 8) (hi : i.val = 128 * (t.val % 8) + a.val) (hj : j.val = b.val) :
    B3 m c t (ix3 0 a b) = mo m c (ix3 l i j) := by
  have hN := tlt t
  unfold B3
  blk_ext [iblk, V, idx_val t]

theorem blk4 (t : Fin cfg0.N) (a : Fin 128) (b : Fin 1024) (l : Fin 2) (i : Fin 1024) (j : Fin 1024) (hl : l.val = t.val / 8) (hi : i.val = 128 * (t.val % 8) + a.val) (hj : j.val = b.val) :
    B4 m c t (ix3 0 a b) = vo m c (ix3 l i j) := by
  have hN := tlt t
  unfold B4
  blk_ext [iblk, V, idx_val t]

theorem out5_at (t : Fin cfg0.N) (a : Fin 128) (b : Fin 1024) (l : Fin 2) (i : Fin 1024) (j : Fin 1024) (hl : l.val = t.val / 8) (hi : i.val = 128 * (t.val % 8) + a.val) (hj : j.val = b.val) :
    (outsAt0 m c t.val t.isLt).1 (ix3 0 a b) = ((Adam17.gr (s0 m c) (s1 m c) l i j) : EReal) := by
  have hN := tlt t
  rcases Nat.lt_or_ge t.val 8 with h0 | h0
  · rw [out5_A m c t h0 a b]
    unfold Adam17.gr
    rw [if_pos (by omega)]
    simp only [blks0 m c t h0 _ a b l i j hl hi hj]
  · rw [out5_B m c t h0 a b]
    unfold Adam17.gr
    rw [if_neg (by omega)]
    simp only [blks1 m c t h0 _ a b l i j hl hi hj]

/-- The array of the gradient. -/
def R5 : FVec Ideal S2x1024x1024 .f32 := fun i =>
  ((Adam17.gr (s0 m c) (s1 m c) (i 0) (i 1) (i 2)) : EReal)

theorem R5_at (l : Fin 2) (i : Fin 1024) (j : Fin 1024) : R5 m c (ix3 l i j) = ((Adam17.gr (s0 m c) (s1 m c) l i j) : EReal) := rfl

theorem final5 : (dats m 0 c).arrAt 5 cfg0.N = R5 m c := by
  refine (dats m 0 c).arrAt_eq_of_covers 5 _ (by decide +kernel) fun t hf y => ?_
  blk_simp
  rw [after0_5]
  idx_vars y
  obtain rfl : y0 = 0 := Subsingleton.elim _ _
  have hN := tlt t
  have h1 := y1.isLt
  have h2 := y2.isLt
  have e : ((View.whole main_v0_0).slice (win0_5.rect t)).emb (ix3 0 y1 y2)
      = ix3 (⟨t.val / 8, by omega⟩ : Fin 2) (⟨128 * (t.val % 8) + y1.val, by omega⟩ : Fin 1024) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = 128 * (t.val % 8) + y1.val; omega)
    | ⟨2, _⟩ =>
      blk_simp [idx_val t]
      first | done | rfl
  rw [e, R5_at]
  exact out5_at m c t y1 y2 _ _ _ rfl rfl rfl

theorem out6_at (t : Fin cfg0.N) (a : Fin 128) (b : Fin 1024) (l : Fin 2) (i : Fin 1024) (j : Fin 1024) (hl : l.val = t.val / 8) (hi : i.val = 128 * (t.val % 8) + a.val) (hj : j.val = b.val) :
    (outsAt0 m c t.val t.isLt).2.1 (ix3 0 a b) = (Adam.delta (Adam17.gr (s0 m c) (s1 m c) l i j) (w m c (ix3 l i j)) (mo m c (ix3 l i j)) (vo m c (ix3 l i j)) : EReal) := by
  have hN := tlt t
  rcases Nat.lt_or_ge t.val 8 with h0 | h0
  · rw [out6_A m c t h0 a b, blk2 m c t a b l i j hl hi hj, blk3 m c t a b l i j hl hi hj, blk4 m c t a b l i j hl hi hj]
    unfold Adam17.gr
    rw [if_pos (by omega)]
    simp only [blks0 m c t h0 _ a b l i j hl hi hj]
  · rw [out6_B m c t h0 a b, blk2 m c t a b l i j hl hi hj, blk3 m c t a b l i j hl hi hj, blk4 m c t a b l i j hl hi hj]
    unfold Adam17.gr
    rw [if_neg (by omega)]
    simp only [blks1 m c t h0 _ a b l i j hl hi hj]

/-- The array of the step. -/
def R6 : FVec Ideal S2x1024x1024 .f32 := fun i =>
  (Adam.delta (Adam17.gr (s0 m c) (s1 m c) (i 0) (i 1) (i 2)) (w m c (ix3 (i 0) (i 1) (i 2))) (mo m c (ix3 (i 0) (i 1) (i 2))) (vo m c (ix3 (i 0) (i 1) (i 2))) : EReal)

theorem R6_at (l : Fin 2) (i : Fin 1024) (j : Fin 1024) : R6 m c (ix3 l i j) = (Adam.delta (Adam17.gr (s0 m c) (s1 m c) l i j) (w m c (ix3 l i j)) (mo m c (ix3 l i j)) (vo m c (ix3 l i j)) : EReal) := rfl

theorem final6 : (dats m 0 c).arrAt 6 cfg0.N = R6 m c := by
  refine (dats m 0 c).arrAt_eq_of_covers 6 _ (by decide +kernel) fun t hf y => ?_
  blk_simp
  rw [after0_6]
  idx_vars y
  obtain rfl : y0 = 0 := Subsingleton.elim _ _
  have hN := tlt t
  have h1 := y1.isLt
  have h2 := y2.isLt
  have e : ((View.whole main_v0_1).slice (win0_6.rect t)).emb (ix3 0 y1 y2)
      = ix3 (⟨t.val / 8, by omega⟩ : Fin 2) (⟨128 * (t.val % 8) + y1.val, by omega⟩ : Fin 1024) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = 128 * (t.val % 8) + y1.val; omega)
    | ⟨2, _⟩ =>
      blk_simp [idx_val t]
      first | done | rfl
  rw [e, R6_at]
  exact out6_at m c t y1 y2 _ _ _ rfl rfl rfl

theorem out7_at (t : Fin cfg0.N) (a : Fin 128) (b : Fin 1024) (l : Fin 2) (i : Fin 1024) (j : Fin 1024) (hl : l.val = t.val / 8) (hi : i.val = 128 * (t.val % 8) + a.val) (hj : j.val = b.val) :
    (outsAt0 m c t.val t.isLt).2.2.1 (ix3 0 a b) = (Adam.upM (Adam17.gr (s0 m c) (s1 m c) l i j) (mo m c (ix3 l i j)) : EReal) := by
  have hN := tlt t
  rcases Nat.lt_or_ge t.val 8 with h0 | h0
  · rw [out7_A m c t h0 a b, blk3 m c t a b l i j hl hi hj]
    unfold Adam17.gr
    rw [if_pos (by omega)]
    simp only [blks0 m c t h0 _ a b l i j hl hi hj]
  · rw [out7_B m c t h0 a b, blk3 m c t a b l i j hl hi hj]
    unfold Adam17.gr
    rw [if_neg (by omega)]
    simp only [blks1 m c t h0 _ a b l i j hl hi hj]

/-- The array of the first moment. -/
def R7 : FVec Ideal S2x1024x1024 .f32 := fun i =>
  (Adam.upM (Adam17.gr (s0 m c) (s1 m c) (i 0) (i 1) (i 2)) (mo m c (ix3 (i 0) (i 1) (i 2))) : EReal)

theorem R7_at (l : Fin 2) (i : Fin 1024) (j : Fin 1024) : R7 m c (ix3 l i j) = (Adam.upM (Adam17.gr (s0 m c) (s1 m c) l i j) (mo m c (ix3 l i j)) : EReal) := rfl

theorem final7 : (dats m 0 c).arrAt 7 cfg0.N = R7 m c := by
  refine (dats m 0 c).arrAt_eq_of_covers 7 _ (by decide +kernel) fun t hf y => ?_
  blk_simp
  rw [after0_7]
  idx_vars y
  obtain rfl : y0 = 0 := Subsingleton.elim _ _
  have hN := tlt t
  have h1 := y1.isLt
  have h2 := y2.isLt
  have e : ((View.whole main_v0_2).slice (win0_7.rect t)).emb (ix3 0 y1 y2)
      = ix3 (⟨t.val / 8, by omega⟩ : Fin 2) (⟨128 * (t.val % 8) + y1.val, by omega⟩ : Fin 1024) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = 128 * (t.val % 8) + y1.val; omega)
    | ⟨2, _⟩ =>
      blk_simp [idx_val t]
      first | done | rfl
  rw [e, R7_at]
  exact out7_at m c t y1 y2 _ _ _ rfl rfl rfl

theorem out8_at (t : Fin cfg0.N) (a : Fin 128) (b : Fin 1024) (l : Fin 2) (i : Fin 1024) (j : Fin 1024) (hl : l.val = t.val / 8) (hi : i.val = 128 * (t.val % 8) + a.val) (hj : j.val = b.val) :
    (outsAt0 m c t.val t.isLt).2.2.2 (ix3 0 a b) = (Adam.upV (Adam17.gr (s0 m c) (s1 m c) l i j) (vo m c (ix3 l i j)) : EReal) := by
  have hN := tlt t
  rcases Nat.lt_or_ge t.val 8 with h0 | h0
  · rw [out8_A m c t h0 a b, blk4 m c t a b l i j hl hi hj]
    unfold Adam17.gr
    rw [if_pos (by omega)]
    simp only [blks0 m c t h0 _ a b l i j hl hi hj]
  · rw [out8_B m c t h0 a b, blk4 m c t a b l i j hl hi hj]
    unfold Adam17.gr
    rw [if_neg (by omega)]
    simp only [blks1 m c t h0 _ a b l i j hl hi hj]

/-- The array of the second moment. -/
def R8 : FVec Ideal S2x1024x1024 .f32 := fun i =>
  (Adam.upV (Adam17.gr (s0 m c) (s1 m c) (i 0) (i 1) (i 2)) (vo m c (ix3 (i 0) (i 1) (i 2))) : EReal)

theorem R8_at (l : Fin 2) (i : Fin 1024) (j : Fin 1024) : R8 m c (ix3 l i j) = (Adam.upV (Adam17.gr (s0 m c) (s1 m c) l i j) (vo m c (ix3 l i j)) : EReal) := rfl

theorem final8 : (dats m 0 c).arrAt 8 cfg0.N = R8 m c := by
  refine (dats m 0 c).arrAt_eq_of_covers 8 _ (by decide +kernel) fun t hf y => ?_
  blk_simp
  rw [after0_8]
  idx_vars y
  obtain rfl : y0 = 0 := Subsingleton.elim _ _
  have hN := tlt t
  have h1 := y1.isLt
  have h2 := y2.isLt
  have e : ((View.whole main_v0_3).slice (win0_8.rect t)).emb (ix3 0 y1 y2)
      = ix3 (⟨t.val / 8, by omega⟩ : Fin 2) (⟨128 * (t.val % 8) + y1.val, by omega⟩ : Fin 1024) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = 128 * (t.val % 8) + y1.val; omega)
    | ⟨2, _⟩ =>
      blk_simp [idx_val t]
      first | done | rfl
  rw [e, R8_at]
  exact out8_at m c t y1 y2 _ _ _ rfl rfl rfl

end Cert.Kernel17Ideal.Value

end
-- ==== Proof.K17Claim.lean ====
/- The optimiser's update of the input projection weight: the reference's entries, and the claims. -/
module

public import proofs.«01_k».proof.Defs
public import proofs.«01_k».proof.Proof.K17Value
public import proofs.«01_k».proof.Proof.Gen.Reference17Ideal.Run
public import proofs.«01_k».proof.Proof.Gen.Kernel17.Frame
public import Idealize.ShloMosaic.Lib.Quiescent

@[expose] public section

set_option maxRecDepth 16384

noncomputable section

open Idealize.ShloMosaic Idealize.ShloMosaic.TcCoe Idealize.SL.Sem

namespace Cert.Reference17Ideal.Value
open Cert.Reference17Ideal Cert.Reference17Ideal.Gen

/-- The reference's gradient, entry by entry. -/
theorem res0_at (s0 : FVec Ideal S8x1024x1024 .bf16) (s1 : FVec Ideal S8x1024x1024 .bf16) (l : Fin 2) (i : Fin 1024) (j : Fin 1024) :
    (concatenate S2x1024x1024 0 [⟨S1x1024x1024, (broadcastInDim S1x1024x1024 ![1, 2] bcast_S1024x1024_S1x1024x1024_1_2 (Host.reduceAdd (extf .f32 s0 bitsLt_bf16_f32) (constant S_ .f32 0x00000000#32) reducesTo_S8x1024x1024_S1024x1024_d0 h_S_))⟩, ⟨S1x1024x1024, (broadcastInDim S1x1024x1024 ![1, 2] bcast_S1024x1024_S1x1024x1024_1_2 (Host.reduceAdd (extf .f32 s1 bitsLt_bf16_f32) (constant S_ .f32 0x00000000#32) reducesTo_S8x1024x1024_S1024x1024_d0 h_S_))⟩] concatenates_S1x1024x1024_S1x1024x1024_S2x1024x1024_d0
      : FVec Ideal S2x1024x1024 .f32) (ix3 l i j) = (Adam17.gr s0 s1 l i j : EReal) := by
  unfold Adam17.gr
  match l with
  | ⟨0, _⟩ =>
    rw [if_pos rfl]
    pointwise
    first | done | rfl
  | ⟨1, _⟩ =>
    rw [if_neg (by simp only [Nat.one_ne_zero, not_false_eq_true])]
    pointwise
    first | done | rfl

/-- The reference's step from its gradient. -/
theorem res1_at (g w mo vo : FVec Ideal S2x1024x1024 .f32) (l : Fin 2) (i : Fin 1024) (j : Fin 1024) :
    (mulf (broadcastInDim S2x1024x1024 ![] bcast_S_S2x1024x1024 (constant S_ .f32 0xBA83126F#32)) (addf (Host.divf (Host.divf (addf (mulf (broadcastInDim S2x1024x1024 ![] bcast_S_S2x1024x1024 (constant S_ .f32 0x3F666666#32)) mo) (mulf (broadcastInDim S2x1024x1024 ![] bcast_S_S2x1024x1024 (constant S_ .f32 0x3DCCCCCD#32)) g)) (broadcastInDim S2x1024x1024 ![] bcast_S_S2x1024x1024 (constant S_ .f32 0x3F26BD02#32))) (addf (Host.sqrt (Host.divf (addf (mulf (broadcastInDim S2x1024x1024 ![] bcast_S_S2x1024x1024 (constant S_ .f32 0x3F7FBE77#32)) vo) (mulf (broadcastInDim S2x1024x1024 ![] bcast_S_S2x1024x1024 (constant S_ .f32 0x3A83126F#32)) (mulf g g))) (broadcastInDim S2x1024x1024 ![] bcast_S_S2x1024x1024 (constant S_ .f32 0x3C231ACC#32)))) (broadcastInDim S2x1024x1024 ![] bcast_S_S2x1024x1024 (constant S_ .f32 0x322BCC77#32)))) (mulf (broadcastInDim S2x1024x1024 ![] bcast_S_S2x1024x1024 (constant S_ .f32 0x3C23D70A#32)) w))
      : FVec Ideal S2x1024x1024 .f32) (ix3 l i j) = (Adam.delta (g (ix3 l i j)) (w (ix3 l i j)) (mo (ix3 l i j)) (vo (ix3 l i j)) : EReal) := by
  unfold Adam.delta Adam.upM Adam.upV
  pointwise

/-- The reference's first moment from its gradient. -/
theorem res2_at (g mo : FVec Ideal S2x1024x1024 .f32) (l : Fin 2) (i : Fin 1024) (j : Fin 1024) :
    (addf (mulf (broadcastInDim S2x1024x1024 ![] bcast_S_S2x1024x1024 (constant S_ .f32 0x3F666666#32)) mo) (mulf (broadcastInDim S2x1024x1024 ![] bcast_S_S2x1024x1024 (constant S_ .f32 0x3DCCCCCD#32)) g)
      : FVec Ideal S2x1024x1024 .f32) (ix3 l i j) = (Adam.upM (g (ix3 l i j)) (mo (ix3 l i j)) : EReal) := by
  unfold Adam.upM
  pointwise

/-- The reference's second moment from its gradient. -/
theorem res3_at (g vo : FVec Ideal S2x1024x1024 .f32) (l : Fin 2) (i : Fin 1024) (j : Fin 1024) :
    (addf (mulf (broadcastInDim S2x1024x1024 ![] bcast_S_S2x1024x1024 (constant S_ .f32 0x3F7FBE77#32)) vo) (mulf (broadcastInDim S2x1024x1024 ![] bcast_S_S2x1024x1024 (constant S_ .f32 0x3A83126F#32)) (mulf g g))
      : FVec Ideal S2x1024x1024 .f32) (ix3 l i j) = (Adam.upV (g (ix3 l i j)) (vo (ix3 l i j)) : EReal) := by
  unfold Adam.upV
  pointwise

end Cert.Reference17Ideal.Value

namespace Cert.K17

instance : Cert.Kernel17.Facts := Cert.Kernel17.Gen.facts
instance : Cert.Kernel17Ideal.Facts := Cert.Kernel17Ideal.Gen.facts
instance : Cert.Reference17Ideal.Facts := Cert.Reference17Ideal.Gen.facts

/-- The reference leaves its arguments and all counters as it found them. -/
theorem ref_quiet : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

/-- The results are equal. -/
theorem algebraic : Cert.algebraic_Kernel17Ideal_Reference17Ideal := by
  intro m ρ m' ρ' _ ha
  refine ⟨fun c => Cert.Kernel17Ideal.Value.R5 m c, fun c => Cert.Kernel17Ideal.Value.R6 m c, fun c => Cert.Kernel17Ideal.Value.R7 m c,
    fun c => Cert.Kernel17Ideal.Value.R8 m c, (θ_run Cert.Kernel17Ideal.defs _ _).mono
    (fun _ h c => ⟨(h c).1.trans (Cert.Kernel17Ideal.Value.final5 m c), (h c).2.1.trans (Cert.Kernel17Ideal.Value.final6 m c),
      (h c).2.2.1.trans (Cert.Kernel17Ideal.Value.final7 m c), (h c).2.2.2.1.trans (Cert.Kernel17Ideal.Value.final8 m c), (h c).2.2.2.2⟩)
    (Cert.Kernel17Ideal.Value.run_blocks (F := Ideal) m ρ), ?_⟩
  refine (θ_run Cert.Reference17Ideal.defs _ _).mono (fun _ h c => ⟨(h c).1.trans ?_, (h c).2.1.trans ?_, (h c).2.2.1.trans ?_,
    (h c).2.2.2.1.trans ?_, (h c).2.2.2.2⟩)
    (Cert.Reference17Ideal.Value.run (F := Ideal) m' ρ')
  · obtain ⟨h0, h1, h2, h3, h4⟩ := ha c
    rw [h0, h1]
    funext i
    idx_vars i
    rw [Cert.Kernel17Ideal.Value.R5_at]
    exact Cert.Reference17Ideal.Value.res0_at _ _ i0 i1 i2
  · obtain ⟨h0, h1, h2, h3, h4⟩ := ha c
    rw [h0, h1, h2, h3, h4]
    funext i
    idx_vars i
    rw [Cert.Kernel17Ideal.Value.R6_at]
    refine (Cert.Reference17Ideal.Value.res1_at _ _ _ _ i0 i1 i2).trans ?_
    rw [Cert.Reference17Ideal.Value.res0_at]
  · obtain ⟨h0, h1, h2, h3, h4⟩ := ha c
    rw [h0, h1, h3]
    funext i
    idx_vars i
    rw [Cert.Kernel17Ideal.Value.R7_at]
    refine (Cert.Reference17Ideal.Value.res2_at _ _ i0 i1 i2).trans ?_
    rw [Cert.Reference17Ideal.Value.res0_at]
  · obtain ⟨h0, h1, h2, h3, h4⟩ := ha c
    rw [h0, h1, h4]
    funext i
    idx_vars i
    rw [Cert.Kernel17Ideal.Value.R8_at]
    refine (Cert.Reference17Ideal.Value.res3_at _ _ i0 i1 i2).trans ?_
    rw [Cert.Reference17Ideal.Value.res0_at]

end Cert.K17

end
-- ==== Proof.K18Value.lean ====
/- The optimiser's update of the first mixer projection weight, as of the output projection and of the embedding gate: what the kernel leaves in its result arrays. -/
module

public import proofs.«01_k».proof.Proof.Gen.Kernel18Ideal.Value
public import proofs.«01_k».proof.Proof.Adam
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Adam18
open Cert.Kernel18Ideal

/-- The gradient: the sum of the devices' parts. -/
def gr (s0 : FVec Ideal S8x128x1024 .bf16) (s1 : FVec Ideal S8x128x1024 .bf16) (l : Fin 2) (i : Fin 128) (j : Fin 1024) : EReal :=
  if l.val = 0 then ∑ d : Fin 8, s0 (ix3 d i j) else ∑ d : Fin 8, s1 (ix3 d i j)

end Cert.Adam18

open Idealize.ShloMosaic.Pipeline (Dat)

namespace Cert.Kernel18Ideal.Value
open Cert.Kernel18Ideal Cert.Kernel18Ideal.Gen

variable (m : (ℓ : Loc nD τ sig) → Buf (Elt Ideal) ℓ) (c : Dev nD)

/-- The block indices of the windows at each grid point. -/
theorem idx_val : ∀ t : Fin cfg0.N,
    win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] :=
  (by decide +kernel : ∀ t : Fin grid0.N, _)

theorem idx_s0 : ∀ t : Fin cfg0.N, t.val < 1 → win0_0.index t = ![0, 0, 0] :=
  (by decide +kernel : ∀ t : Fin grid0.N, _)

theorem idx_s1 : ∀ t : Fin cfg0.N, 1 ≤ t.val → win0_1.index t = ![0, 0, 0] :=
  (by decide +kernel : ∀ t : Fin grid0.N, _)

/-- The blocks in use at a point. -/
def B0 (t : Fin cfg0.N) : FVec Ideal S8x128x1024 .bf16 := iblk m c 0 t
def B1 (t : Fin cfg0.N) : FVec Ideal S8x128x1024 .bf16 := iblk m c 1 t
def B2 (t : Fin cfg0.N) : FVec Ideal S1x128x1024 .f32 := iblk m c 2 t
def B3 (t : Fin cfg0.N) : FVec Ideal S1x128x1024 .f32 := iblk m c 3 t
def B4 (t : Fin cfg0.N) : FVec Ideal S1x128x1024 .f32 := iblk m c 4 t

/-- The arrays of the arguments. -/
abbrev s0 : FVec Ideal S8x128x1024 .bf16 := m ((c.tc : Thread nD τ).loc main_arg0)
abbrev s1 : FVec Ideal S8x128x1024 .bf16 := m ((c.tc : Thread nD τ).loc main_arg1)
abbrev w : FVec Ideal S2x128x1024 .f32 := m ((c.tc : Thread nD τ).loc main_arg2)
abbrev mo : FVec Ideal S2x128x1024 .f32 := m ((c.tc : Thread nD τ).loc main_arg3)
abbrev vo : FVec Ideal S2x128x1024 .f32 := m ((c.tc : Thread nD τ).loc main_arg4)

theorem tlt (t : Fin cfg0.N) : t.val < 2 := lt_of_lt_of_eq t.isLt (show cfg0.N = 2 from N_0)

/-- The gradient a point writes, of the first matrix. -/
theorem out5_A (t : Fin cfg0.N) (h0 : t.val < 1) (a : Fin 128) (b : Fin 1024) :
    (outsAt0 m c t.val t.isLt).1 (ix3 0 a b) = ((∑ d : Fin 8, B0 m c t (ix3 d a b)) : EReal) := by
  have hN := tlt t
  rw [outsAt0_A m c t (by omega) (by omega)]
  frame_out
  rw [Fin.sum_univ_eight]
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The step a point writes, of the first matrix. -/
theorem out6_A (t : Fin cfg0.N) (h0 : t.val < 1) (a : Fin 128) (b : Fin 1024) :
    (outsAt0 m c t.val t.isLt).2.1 (ix3 0 a b) = (Adam.delta (∑ d : Fin 8, B0 m c t (ix3 d a b)) (B2 m c t (ix3 0 a b)) (B3 m c t (ix3 0 a b)) (B4 m c t (ix3 0 a b)) : EReal) := by
  have hN := tlt t
  rw [outsAt0_A m c t (by omega) (by omega)]
  frame_out
  rw [Fin.sum_univ_eight]
  unfold Adam.delta Adam.upM Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The first moment a point writes, of the first matrix. -/
theorem out7_A (t : Fin cfg0.N) (h0 : t.val < 1) (a : Fin 128) (b : Fin 1024) :
    (outsAt0 m c t.val t.isLt).2.2.1 (ix3 0 a b) = (Adam.upM (∑ d : Fin 8, B0 m c t (ix3 d a b)) (B3 m c t (ix3 0 a b)) : EReal) := by
  have hN := tlt t
  rw [outsAt0_A m c t (by omega) (by omega)]
  frame_out
  rw [Fin.sum_univ_eight]
  unfold Adam.upM
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The second moment a point writes, of the first matrix. -/
theorem out8_A (t : Fin cfg0.N) (h0 : t.val < 1) (a : Fin 128) (b : Fin 1024) :
    (outsAt0 m c t.val t.isLt).2.2.2 (ix3 0 a b) = (Adam.upV (∑ d : Fin 8, B0 m c t (ix3 d a b)) (B4 m c t (ix3 0 a b)) : EReal) := by
  have hN := tlt t
  rw [outsAt0_A m c t (by omega) (by omega)]
  frame_out
  rw [Fin.sum_univ_eight]
  unfold Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The gradient a point writes, of the second matrix. -/
theorem out5_B (t : Fin cfg0.N) (h0 : 1 ≤ t.val) (a : Fin 128) (b : Fin 1024) :
    (outsAt0 m c t.val t.isLt).1 (ix3 0 a b) = ((∑ d : Fin 8, B1 m c t (ix3 d a b)) : EReal) := by
  have hN := tlt t
  rw [outsAt0_B m c t (by omega) (by omega)]
  frame_out
  rw [Fin.sum_univ_eight]
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The step a point writes, of the second matrix. -/
theorem out6_B (t : Fin cfg0.N) (h0 : 1 ≤ t.val) (a : Fin 128) (b : Fin 1024) :
    (outsAt0 m c t.val t.isLt).2.1 (ix3 0 a b) = (Adam.delta (∑ d : Fin 8, B1 m c t (ix3 d a b)) (B2 m c t (ix3 0 a b)) (B3 m c t (ix3 0 a b)) (B4 m c t (ix3 0 a b)) : EReal) := by
  have hN := tlt t
  rw [outsAt0_B m c t (by omega) (by omega)]
  frame_out
  rw [Fin.sum_univ_eight]
  unfold Adam.delta Adam.upM Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The first moment a point writes, of the second matrix. -/
theorem out7_B (t : Fin cfg0.N) (h0 : 1 ≤ t.val) (a : Fin 128) (b : Fin 1024) :
    (outsAt0 m c t.val t.isLt).2.2.1 (ix3 0 a b) = (Adam.upM (∑ d : Fin 8, B1 m c t (ix3 d a b)) (B3 m c t (ix3 0 a b)) : EReal) := by
  have hN := tlt t
  rw [outsAt0_B m c t (by omega) (by omega)]
  frame_out
  rw [Fin.sum_univ_eight]
  unfold Adam.upM
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The second moment a point writes, of the second matrix. -/
theorem out8_B (t : Fin cfg0.N) (h0 : 1 ≤ t.val) (a : Fin 128) (b : Fin 1024) :
    (outsAt0 m c t.val t.isLt).2.2.2 (ix3 0 a b) = (Adam.upV (∑ d : Fin 8, B1 m c t (ix3 d a b)) (B4 m c t (ix3 0 a b)) : EReal) := by
  have hN := tlt t
  rw [outsAt0_B m c t (by omega) (by omega)]
  frame_out
  rw [Fin.sum_univ_eight]
  unfold Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

theorem blks0 (t : Fin cfg0.N) (h0 : t.val < 1) (d : Fin 8) (a : Fin 128) (b : Fin 1024) (l : Fin 2) (i : Fin 128) (j : Fin 1024) (hl : l.val = t.val) (hi : i.val = a.val) (hj : j.val = b.val) :
    B0 m c t (ix3 d a b) = s0 m c (ix3 d i j) := by
  have hN := tlt t
  unfold B0
  blk_ext [iblk, V, idx_s0 t h0]

theorem blks1 (t : Fin cfg0.N) (h0 : 1 ≤ t.val) (d : Fin 8) (a : Fin 128) (b : Fin 1024) (l : Fin 2) (i : Fin 128) (j : Fin 1024) (hl : l.val = t.val) (hi : i.val = a.val) (hj : j.val = b.val) :
    B1 m c t (ix3 d a b) = s1 m c (ix3 d i j) := by
  have hN := tlt t
  unfold B1
  blk_ext [iblk, V, idx_s1 t h0]

theorem blk2 (t : Fin cfg0.N) (a : Fin 128) (b : Fin 1024) (l : Fin 2) (i : Fin 128) (j : Fin 1024) (hl : l.val = t.val) (hi : i.val = a.val) (hj : j.val = b.val) :
    B2 m c t (ix3 0 a b) = w m c (ix3 l i j) := by
  have hN := tlt t
  unfold B2
  blk_ext [iblk, V, idx_val t]

theorem blk3 (t : Fin cfg0.N) (a : Fin 128) (b : Fin 1024) (l : Fin 2) (i : Fin 128) (j : Fin 1024) (hl : l.val = t.val) (hi : i.val = a.val) (hj : j.val = b.val) :
    B3 m c t (ix3 0 a b) = mo m c (ix3 l i j) := by
  have hN := tlt t
  unfold B3
  blk_ext [iblk, V, idx_val t]

theorem blk4 (t : Fin cfg0.N) (a : Fin 128) (b : Fin 1024) (l : Fin 2) (i : Fin 128) (j : Fin 1024) (hl : l.val = t.val) (hi : i.val = a.val) (hj : j.val = b.val) :
    B4 m c t (ix3 0 a b) = vo m c (ix3 l i j) := by
  have hN := tlt t
  unfold B4
  blk_ext [iblk, V, idx_val t]

theorem out5_at (t : Fin cfg0.N) (a : Fin 128) (b : Fin 1024) (l : Fin 2) (i : Fin 128) (j : Fin 1024) (hl : l.val = t.val) (hi : i.val = a.val) (hj : j.val = b.val) :
    (outsAt0 m c t.val t.isLt).1 (ix3 0 a b) = ((Adam18.gr (s0 m c) (s1 m c) l i j) : EReal) := by
  have hN := tlt t
  rcases Nat.lt_or_ge t.val 1 with h0 | h0
  · rw [out5_A m c t h0 a b]
    unfold Adam18.gr
    rw [if_pos (by omega)]
    simp only [blks0 m c t h0 _ a b l i j hl hi hj]
  · rw [out5_B m c t h0 a b]
    unfold Adam18.gr
    rw [if_neg (by omega)]
    simp only [blks1 m c t h0 _ a b l i j hl hi hj]

/-- The array of the gradient. -/
def R5 : FVec Ideal S2x128x1024 .f32 := fun i =>
  ((Adam18.gr (s0 m c) (s1 m c) (i 0) (i 1) (i 2)) : EReal)

theorem R5_at (l : Fin 2) (i : Fin 128) (j : Fin 1024) : R5 m c (ix3 l i j) = ((Adam18.gr (s0 m c) (s1 m c) l i j) : EReal) := rfl

theorem final5 : (dats m 0 c).arrAt 5 cfg0.N = R5 m c := by
  refine (dats m 0 c).arrAt_eq_of_covers 5 _ (by decide +kernel) fun t hf y => ?_
  blk_simp
  rw [after0_5]
  idx_vars y
  obtain rfl : y0 = 0 := Subsingleton.elim _ _
  have hN := tlt t
  have h1 := y1.isLt
  have h2 := y2.isLt
  have e : ((View.whole main_v0_0).slice (win0_5.rect t)).emb (ix3 0 y1 y2)
      = ix3 (⟨t.val, by omega⟩ : Fin 2) (⟨y1.val, by omega⟩ : Fin 128) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = y1.val; omega)
    | ⟨2, _⟩ =>
      blk_simp [idx_val t]
      first | done | rfl
  rw [e, R5_at]
  exact out5_at m c t y1 y2 _ _ _ rfl rfl rfl

theorem out6_at (t : Fin cfg0.N) (a : Fin 128) (b : Fin 1024) (l : Fin 2) (i : Fin 128) (j : Fin 1024) (hl : l.val = t.val) (hi : i.val = a.val) (hj : j.val = b.val) :
    (outsAt0 m c t.val t.isLt).2.1 (ix3 0 a b) = (Adam.delta (Adam18.gr (s0 m c) (s1 m c) l i j) (w m c (ix3 l i j)) (mo m c (ix3 l i j)) (vo m c (ix3 l i j)) : EReal) := by
  have hN := tlt t
  rcases Nat.lt_or_ge t.val 1 with h0 | h0
  · rw [out6_A m c t h0 a b, blk2 m c t a b l i j hl hi hj, blk3 m c t a b l i j hl hi hj, blk4 m c t a b l i j hl hi hj]
    unfold Adam18.gr
    rw [if_pos (by omega)]
    simp only [blks0 m c t h0 _ a b l i j hl hi hj]
  · rw [out6_B m c t h0 a b, blk2 m c t a b l i j hl hi hj, blk3 m c t a b l i j hl hi hj, blk4 m c t a b l i j hl hi hj]
    unfold Adam18.gr
    rw [if_neg (by omega)]
    simp only [blks1 m c t h0 _ a b l i j hl hi hj]

/-- The array of the step. -/
def R6 : FVec Ideal S2x128x1024 .f32 := fun i =>
  (Adam.delta (Adam18.gr (s0 m c) (s1 m c) (i 0) (i 1) (i 2)) (w m c (ix3 (i 0) (i 1) (i 2))) (mo m c (ix3 (i 0) (i 1) (i 2))) (vo m c (ix3 (i 0) (i 1) (i 2))) : EReal)

theorem R6_at (l : Fin 2) (i : Fin 128) (j : Fin 1024) : R6 m c (ix3 l i j) = (Adam.delta (Adam18.gr (s0 m c) (s1 m c) l i j) (w m c (ix3 l i j)) (mo m c (ix3 l i j)) (vo m c (ix3 l i j)) : EReal) := rfl

theorem final6 : (dats m 0 c).arrAt 6 cfg0.N = R6 m c := by
  refine (dats m 0 c).arrAt_eq_of_covers 6 _ (by decide +kernel) fun t hf y => ?_
  blk_simp
  rw [after0_6]
  idx_vars y
  obtain rfl : y0 = 0 := Subsingleton.elim _ _
  have hN := tlt t
  have h1 := y1.isLt
  have h2 := y2.isLt
  have e : ((View.whole main_v0_1).slice (win0_6.rect t)).emb (ix3 0 y1 y2)
      = ix3 (⟨t.val, by omega⟩ : Fin 2) (⟨y1.val, by omega⟩ : Fin 128) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = y1.val; omega)
    | ⟨2, _⟩ =>
      blk_simp [idx_val t]
      first | done | rfl
  rw [e, R6_at]
  exact out6_at m c t y1 y2 _ _ _ rfl rfl rfl

theorem out7_at (t : Fin cfg0.N) (a : Fin 128) (b : Fin 1024) (l : Fin 2) (i : Fin 128) (j : Fin 1024) (hl : l.val = t.val) (hi : i.val = a.val) (hj : j.val = b.val) :
    (outsAt0 m c t.val t.isLt).2.2.1 (ix3 0 a b) = (Adam.upM (Adam18.gr (s0 m c) (s1 m c) l i j) (mo m c (ix3 l i j)) : EReal) := by
  have hN := tlt t
  rcases Nat.lt_or_ge t.val 1 with h0 | h0
  · rw [out7_A m c t h0 a b, blk3 m c t a b l i j hl hi hj]
    unfold Adam18.gr
    rw [if_pos (by omega)]
    simp only [blks0 m c t h0 _ a b l i j hl hi hj]
  · rw [out7_B m c t h0 a b, blk3 m c t a b l i j hl hi hj]
    unfold Adam18.gr
    rw [if_neg (by omega)]
    simp only [blks1 m c t h0 _ a b l i j hl hi hj]

/-- The array of the first moment. -/
def R7 : FVec Ideal S2x128x1024 .f32 := fun i =>
  (Adam.upM (Adam18.gr (s0 m c) (s1 m c) (i 0) (i 1) (i 2)) (mo m c (ix3 (i 0) (i 1) (i 2))) : EReal)

theorem R7_at (l : Fin 2) (i : Fin 128) (j : Fin 1024) : R7 m c (ix3 l i j) = (Adam.upM (Adam18.gr (s0 m c) (s1 m c) l i j) (mo m c (ix3 l i j)) : EReal) := rfl

theorem final7 : (dats m 0 c).arrAt 7 cfg0.N = R7 m c := by
  refine (dats m 0 c).arrAt_eq_of_covers 7 _ (by decide +kernel) fun t hf y => ?_
  blk_simp
  rw [after0_7]
  idx_vars y
  obtain rfl : y0 = 0 := Subsingleton.elim _ _
  have hN := tlt t
  have h1 := y1.isLt
  have h2 := y2.isLt
  have e : ((View.whole main_v0_2).slice (win0_7.rect t)).emb (ix3 0 y1 y2)
      = ix3 (⟨t.val, by omega⟩ : Fin 2) (⟨y1.val, by omega⟩ : Fin 128) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = y1.val; omega)
    | ⟨2, _⟩ =>
      blk_simp [idx_val t]
      first | done | rfl
  rw [e, R7_at]
  exact out7_at m c t y1 y2 _ _ _ rfl rfl rfl

theorem out8_at (t : Fin cfg0.N) (a : Fin 128) (b : Fin 1024) (l : Fin 2) (i : Fin 128) (j : Fin 1024) (hl : l.val = t.val) (hi : i.val = a.val) (hj : j.val = b.val) :
    (outsAt0 m c t.val t.isLt).2.2.2 (ix3 0 a b) = (Adam.upV (Adam18.gr (s0 m c) (s1 m c) l i j) (vo m c (ix3 l i j)) : EReal) := by
  have hN := tlt t
  rcases Nat.lt_or_ge t.val 1 with h0 | h0
  · rw [out8_A m c t h0 a b, blk4 m c t a b l i j hl hi hj]
    unfold Adam18.gr
    rw [if_pos (by omega)]
    simp only [blks0 m c t h0 _ a b l i j hl hi hj]
  · rw [out8_B m c t h0 a b, blk4 m c t a b l i j hl hi hj]
    unfold Adam18.gr
    rw [if_neg (by omega)]
    simp only [blks1 m c t h0 _ a b l i j hl hi hj]

/-- The array of the second moment. -/
def R8 : FVec Ideal S2x128x1024 .f32 := fun i =>
  (Adam.upV (Adam18.gr (s0 m c) (s1 m c) (i 0) (i 1) (i 2)) (vo m c (ix3 (i 0) (i 1) (i 2))) : EReal)

theorem R8_at (l : Fin 2) (i : Fin 128) (j : Fin 1024) : R8 m c (ix3 l i j) = (Adam.upV (Adam18.gr (s0 m c) (s1 m c) l i j) (vo m c (ix3 l i j)) : EReal) := rfl

theorem final8 : (dats m 0 c).arrAt 8 cfg0.N = R8 m c := by
  refine (dats m 0 c).arrAt_eq_of_covers 8 _ (by decide +kernel) fun t hf y => ?_
  blk_simp
  rw [after0_8]
  idx_vars y
  obtain rfl : y0 = 0 := Subsingleton.elim _ _
  have hN := tlt t
  have h1 := y1.isLt
  have h2 := y2.isLt
  have e : ((View.whole main_v0_3).slice (win0_8.rect t)).emb (ix3 0 y1 y2)
      = ix3 (⟨t.val, by omega⟩ : Fin 2) (⟨y1.val, by omega⟩ : Fin 128) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = y1.val; omega)
    | ⟨2, _⟩ =>
      blk_simp [idx_val t]
      first | done | rfl
  rw [e, R8_at]
  exact out8_at m c t y1 y2 _ _ _ rfl rfl rfl

end Cert.Kernel18Ideal.Value

end
-- ==== Proof.K18Claim.lean ====
/- The optimiser's update of the first mixer projection weight, as of the output projection and of the embedding gate: the reference's entries, and the claims. -/
module

public import proofs.«01_k».proof.Defs
public import proofs.«01_k».proof.Proof.K18Value
public import proofs.«01_k».proof.Proof.Gen.Reference18Ideal.Run
public import proofs.«01_k».proof.Proof.Gen.Kernel18.Frame
public import Idealize.ShloMosaic.Lib.Quiescent

@[expose] public section

set_option maxRecDepth 16384

noncomputable section

open Idealize.ShloMosaic Idealize.ShloMosaic.TcCoe Idealize.SL.Sem

namespace Cert.Reference18Ideal.Value
open Cert.Reference18Ideal Cert.Reference18Ideal.Gen

/-- The reference's gradient, entry by entry. -/
theorem res0_at (s0 : FVec Ideal S8x128x1024 .bf16) (s1 : FVec Ideal S8x128x1024 .bf16) (l : Fin 2) (i : Fin 128) (j : Fin 1024) :
    (concatenate S2x128x1024 0 [⟨S1x128x1024, (broadcastInDim S1x128x1024 ![1, 2] bcast_S128x1024_S1x128x1024_1_2 (Host.reduceAdd (extf .f32 s0 bitsLt_bf16_f32) (constant S_ .f32 0x00000000#32) reducesTo_S8x128x1024_S128x1024_d0 h_S_))⟩, ⟨S1x128x1024, (broadcastInDim S1x128x1024 ![1, 2] bcast_S128x1024_S1x128x1024_1_2 (Host.reduceAdd (extf .f32 s1 bitsLt_bf16_f32) (constant S_ .f32 0x00000000#32) reducesTo_S8x128x1024_S128x1024_d0 h_S_))⟩] concatenates_S1x128x1024_S1x128x1024_S2x128x1024_d0
      : FVec Ideal S2x128x1024 .f32) (ix3 l i j) = (Adam18.gr s0 s1 l i j : EReal) := by
  unfold Adam18.gr
  match l with
  | ⟨0, _⟩ =>
    rw [if_pos rfl]
    pointwise
    first | done | rfl
  | ⟨1, _⟩ =>
    rw [if_neg (by simp only [Nat.one_ne_zero, not_false_eq_true])]
    pointwise
    first | done | rfl

/-- The reference's step from its gradient. -/
theorem res1_at (g w mo vo : FVec Ideal S2x128x1024 .f32) (l : Fin 2) (i : Fin 128) (j : Fin 1024) :
    (mulf (broadcastInDim S2x128x1024 ![] bcast_S_S2x128x1024 (constant S_ .f32 0xBA83126F#32)) (addf (Host.divf (Host.divf (addf (mulf (broadcastInDim S2x128x1024 ![] bcast_S_S2x128x1024 (constant S_ .f32 0x3F666666#32)) mo) (mulf (broadcastInDim S2x128x1024 ![] bcast_S_S2x128x1024 (constant S_ .f32 0x3DCCCCCD#32)) g)) (broadcastInDim S2x128x1024 ![] bcast_S_S2x128x1024 (constant S_ .f32 0x3F26BD02#32))) (addf (Host.sqrt (Host.divf (addf (mulf (broadcastInDim S2x128x1024 ![] bcast_S_S2x128x1024 (constant S_ .f32 0x3F7FBE77#32)) vo) (mulf (broadcastInDim S2x128x1024 ![] bcast_S_S2x128x1024 (constant S_ .f32 0x3A83126F#32)) (mulf g g))) (broadcastInDim S2x128x1024 ![] bcast_S_S2x128x1024 (constant S_ .f32 0x3C231ACC#32)))) (broadcastInDim S2x128x1024 ![] bcast_S_S2x128x1024 (constant S_ .f32 0x322BCC77#32)))) (mulf (broadcastInDim S2x128x1024 ![] bcast_S_S2x128x1024 (constant S_ .f32 0x3C23D70A#32)) w))
      : FVec Ideal S2x128x1024 .f32) (ix3 l i j) = (Adam.delta (g (ix3 l i j)) (w (ix3 l i j)) (mo (ix3 l i j)) (vo (ix3 l i j)) : EReal) := by
  unfold Adam.delta Adam.upM Adam.upV
  pointwise

/-- The reference's first moment from its gradient. -/
theorem res2_at (g mo : FVec Ideal S2x128x1024 .f32) (l : Fin 2) (i : Fin 128) (j : Fin 1024) :
    (addf (mulf (broadcastInDim S2x128x1024 ![] bcast_S_S2x128x1024 (constant S_ .f32 0x3F666666#32)) mo) (mulf (broadcastInDim S2x128x1024 ![] bcast_S_S2x128x1024 (constant S_ .f32 0x3DCCCCCD#32)) g)
      : FVec Ideal S2x128x1024 .f32) (ix3 l i j) = (Adam.upM (g (ix3 l i j)) (mo (ix3 l i j)) : EReal) := by
  unfold Adam.upM
  pointwise

/-- The reference's second moment from its gradient. -/
theorem res3_at (g vo : FVec Ideal S2x128x1024 .f32) (l : Fin 2) (i : Fin 128) (j : Fin 1024) :
    (addf (mulf (broadcastInDim S2x128x1024 ![] bcast_S_S2x128x1024 (constant S_ .f32 0x3F7FBE77#32)) vo) (mulf (broadcastInDim S2x128x1024 ![] bcast_S_S2x128x1024 (constant S_ .f32 0x3A83126F#32)) (mulf g g))
      : FVec Ideal S2x128x1024 .f32) (ix3 l i j) = (Adam.upV (g (ix3 l i j)) (vo (ix3 l i j)) : EReal) := by
  unfold Adam.upV
  pointwise

end Cert.Reference18Ideal.Value

namespace Cert.K18

instance : Cert.Kernel18.Facts := Cert.Kernel18.Gen.facts
instance : Cert.Kernel18Ideal.Facts := Cert.Kernel18Ideal.Gen.facts
instance : Cert.Reference18Ideal.Facts := Cert.Reference18Ideal.Gen.facts

/-- The reference leaves its arguments and all counters as it found them. -/
theorem ref_quiet : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

/-- The results are equal. -/
theorem algebraic : Cert.algebraic_Kernel18Ideal_Reference18Ideal := by
  intro m ρ m' ρ' _ ha
  refine ⟨fun c => Cert.Kernel18Ideal.Value.R5 m c, fun c => Cert.Kernel18Ideal.Value.R6 m c, fun c => Cert.Kernel18Ideal.Value.R7 m c,
    fun c => Cert.Kernel18Ideal.Value.R8 m c, (θ_run Cert.Kernel18Ideal.defs _ _).mono
    (fun _ h c => ⟨(h c).1.trans (Cert.Kernel18Ideal.Value.final5 m c), (h c).2.1.trans (Cert.Kernel18Ideal.Value.final6 m c),
      (h c).2.2.1.trans (Cert.Kernel18Ideal.Value.final7 m c), (h c).2.2.2.1.trans (Cert.Kernel18Ideal.Value.final8 m c), (h c).2.2.2.2⟩)
    (Cert.Kernel18Ideal.Value.run_blocks (F := Ideal) m ρ), ?_⟩
  refine (θ_run Cert.Reference18Ideal.defs _ _).mono (fun _ h c => ⟨(h c).1.trans ?_, (h c).2.1.trans ?_, (h c).2.2.1.trans ?_,
    (h c).2.2.2.1.trans ?_, (h c).2.2.2.2⟩)
    (Cert.Reference18Ideal.Value.run (F := Ideal) m' ρ')
  · obtain ⟨h0, h1, h2, h3, h4⟩ := ha c
    rw [h0, h1]
    funext i
    idx_vars i
    rw [Cert.Kernel18Ideal.Value.R5_at]
    exact Cert.Reference18Ideal.Value.res0_at _ _ i0 i1 i2
  · obtain ⟨h0, h1, h2, h3, h4⟩ := ha c
    rw [h0, h1, h2, h3, h4]
    funext i
    idx_vars i
    rw [Cert.Kernel18Ideal.Value.R6_at]
    refine (Cert.Reference18Ideal.Value.res1_at _ _ _ _ i0 i1 i2).trans ?_
    rw [Cert.Reference18Ideal.Value.res0_at]
  · obtain ⟨h0, h1, h2, h3, h4⟩ := ha c
    rw [h0, h1, h3]
    funext i
    idx_vars i
    rw [Cert.Kernel18Ideal.Value.R7_at]
    refine (Cert.Reference18Ideal.Value.res2_at _ _ i0 i1 i2).trans ?_
    rw [Cert.Reference18Ideal.Value.res0_at]
  · obtain ⟨h0, h1, h2, h3, h4⟩ := ha c
    rw [h0, h1, h4]
    funext i
    idx_vars i
    rw [Cert.Kernel18Ideal.Value.R8_at]
    refine (Cert.Reference18Ideal.Value.res3_at _ _ i0 i1 i2).trans ?_
    rw [Cert.Reference18Ideal.Value.res0_at]

end Cert.K18

end
-- ==== Proof.K19Value.lean ====
/- The optimiser's update of the second mixer projection weight: what the kernel leaves in its result arrays. -/
module

public import proofs.«01_k».proof.Proof.Gen.Kernel19Ideal.Value
public import proofs.«01_k».proof.Proof.Adam
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Adam19
open Cert.Kernel19Ideal

/-- The gradient: the sum of the devices' parts. -/
def gr (s0 : FVec Ideal S8x512x128 .bf16) (s1 : FVec Ideal S8x512x128 .bf16) (l : Fin 2) (i : Fin 512) (j : Fin 128) : EReal :=
  if l.val = 0 then ∑ d : Fin 8, s0 (ix3 d i j) else ∑ d : Fin 8, s1 (ix3 d i j)

end Cert.Adam19

open Idealize.ShloMosaic.Pipeline (Dat)

namespace Cert.Kernel19Ideal.Value
open Cert.Kernel19Ideal Cert.Kernel19Ideal.Gen

variable (m : (ℓ : Loc nD τ sig) → Buf (Elt Ideal) ℓ) (c : Dev nD)

/-- The block indices of the windows at each grid point. -/
theorem idx_val : ∀ t : Fin cfg0.N,
    win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] :=
  (by decide +kernel : ∀ t : Fin grid0.N, _)

theorem idx_s0 : ∀ t : Fin cfg0.N, t.val < 1 → win0_0.index t = ![0, 0, 0] :=
  (by decide +kernel : ∀ t : Fin grid0.N, _)

theorem idx_s1 : ∀ t : Fin cfg0.N, 1 ≤ t.val → win0_1.index t = ![0, 0, 0] :=
  (by decide +kernel : ∀ t : Fin grid0.N, _)

/-- The blocks in use at a point. -/
def B0 (t : Fin cfg0.N) : FVec Ideal S8x512x128 .bf16 := iblk m c 0 t
def B1 (t : Fin cfg0.N) : FVec Ideal S8x512x128 .bf16 := iblk m c 1 t
def B2 (t : Fin cfg0.N) : FVec Ideal S1x512x128 .f32 := iblk m c 2 t
def B3 (t : Fin cfg0.N) : FVec Ideal S1x512x128 .f32 := iblk m c 3 t
def B4 (t : Fin cfg0.N) : FVec Ideal S1x512x128 .f32 := iblk m c 4 t

/-- The arrays of the arguments. -/
abbrev s0 : FVec Ideal S8x512x128 .bf16 := m ((c.tc : Thread nD τ).loc main_arg0)
abbrev s1 : FVec Ideal S8x512x128 .bf16 := m ((c.tc : Thread nD τ).loc main_arg1)
abbrev w : FVec Ideal S2x512x128 .f32 := m ((c.tc : Thread nD τ).loc main_arg2)
abbrev mo : FVec Ideal S2x512x128 .f32 := m ((c.tc : Thread nD τ).loc main_arg3)
abbrev vo : FVec Ideal S2x512x128 .f32 := m ((c.tc : Thread nD τ).loc main_arg4)

theorem tlt (t : Fin cfg0.N) : t.val < 2 := lt_of_lt_of_eq t.isLt (show cfg0.N = 2 from N_0)

/-- The gradient a point writes, of the first matrix. -/
theorem out5_A (t : Fin cfg0.N) (h0 : t.val < 1) (a : Fin 512) (b : Fin 128) :
    (outsAt0 m c t.val t.isLt).1 (ix3 0 a b) = ((∑ d : Fin 8, B0 m c t (ix3 d a b)) : EReal) := by
  have hN := tlt t
  rw [outsAt0_A m c t (by omega) (by omega)]
  frame_out
  rw [Fin.sum_univ_eight]
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The step a point writes, of the first matrix. -/
theorem out6_A (t : Fin cfg0.N) (h0 : t.val < 1) (a : Fin 512) (b : Fin 128) :
    (outsAt0 m c t.val t.isLt).2.1 (ix3 0 a b) = (Adam.delta (∑ d : Fin 8, B0 m c t (ix3 d a b)) (B2 m c t (ix3 0 a b)) (B3 m c t (ix3 0 a b)) (B4 m c t (ix3 0 a b)) : EReal) := by
  have hN := tlt t
  rw [outsAt0_A m c t (by omega) (by omega)]
  frame_out
  rw [Fin.sum_univ_eight]
  unfold Adam.delta Adam.upM Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The first moment a point writes, of the first matrix. -/
theorem out7_A (t : Fin cfg0.N) (h0 : t.val < 1) (a : Fin 512) (b : Fin 128) :
    (outsAt0 m c t.val t.isLt).2.2.1 (ix3 0 a b) = (Adam.upM (∑ d : Fin 8, B0 m c t (ix3 d a b)) (B3 m c t (ix3 0 a b)) : EReal) := by
  have hN := tlt t
  rw [outsAt0_A m c t (by omega) (by omega)]
  frame_out
  rw [Fin.sum_univ_eight]
  unfold Adam.upM
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The second moment a point writes, of the first matrix. -/
theorem out8_A (t : Fin cfg0.N) (h0 : t.val < 1) (a : Fin 512) (b : Fin 128) :
    (outsAt0 m c t.val t.isLt).2.2.2 (ix3 0 a b) = (Adam.upV (∑ d : Fin 8, B0 m c t (ix3 d a b)) (B4 m c t (ix3 0 a b)) : EReal) := by
  have hN := tlt t
  rw [outsAt0_A m c t (by omega) (by omega)]
  frame_out
  rw [Fin.sum_univ_eight]
  unfold Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The gradient a point writes, of the second matrix. -/
theorem out5_B (t : Fin cfg0.N) (h0 : 1 ≤ t.val) (a : Fin 512) (b : Fin 128) :
    (outsAt0 m c t.val t.isLt).1 (ix3 0 a b) = ((∑ d : Fin 8, B1 m c t (ix3 d a b)) : EReal) := by
  have hN := tlt t
  rw [outsAt0_B m c t (by omega) (by omega)]
  frame_out
  rw [Fin.sum_univ_eight]
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The step a point writes, of the second matrix. -/
theorem out6_B (t : Fin cfg0.N) (h0 : 1 ≤ t.val) (a : Fin 512) (b : Fin 128) :
    (outsAt0 m c t.val t.isLt).2.1 (ix3 0 a b) = (Adam.delta (∑ d : Fin 8, B1 m c t (ix3 d a b)) (B2 m c t (ix3 0 a b)) (B3 m c t (ix3 0 a b)) (B4 m c t (ix3 0 a b)) : EReal) := by
  have hN := tlt t
  rw [outsAt0_B m c t (by omega) (by omega)]
  frame_out
  rw [Fin.sum_univ_eight]
  unfold Adam.delta Adam.upM Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The first moment a point writes, of the second matrix. -/
theorem out7_B (t : Fin cfg0.N) (h0 : 1 ≤ t.val) (a : Fin 512) (b : Fin 128) :
    (outsAt0 m c t.val t.isLt).2.2.1 (ix3 0 a b) = (Adam.upM (∑ d : Fin 8, B1 m c t (ix3 d a b)) (B3 m c t (ix3 0 a b)) : EReal) := by
  have hN := tlt t
  rw [outsAt0_B m c t (by omega) (by omega)]
  frame_out
  rw [Fin.sum_univ_eight]
  unfold Adam.upM
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The second moment a point writes, of the second matrix. -/
theorem out8_B (t : Fin cfg0.N) (h0 : 1 ≤ t.val) (a : Fin 512) (b : Fin 128) :
    (outsAt0 m c t.val t.isLt).2.2.2 (ix3 0 a b) = (Adam.upV (∑ d : Fin 8, B1 m c t (ix3 d a b)) (B4 m c t (ix3 0 a b)) : EReal) := by
  have hN := tlt t
  rw [outsAt0_B m c t (by omega) (by omega)]
  frame_out
  rw [Fin.sum_univ_eight]
  unfold Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

theorem blks0 (t : Fin cfg0.N) (h0 : t.val < 1) (d : Fin 8) (a : Fin 512) (b : Fin 128) (l : Fin 2) (i : Fin 512) (j : Fin 128) (hl : l.val = t.val) (hi : i.val = a.val) (hj : j.val = b.val) :
    B0 m c t (ix3 d a b) = s0 m c (ix3 d i j) := by
  have hN := tlt t
  unfold B0
  blk_ext [iblk, V, idx_s0 t h0]

theorem blks1 (t : Fin cfg0.N) (h0 : 1 ≤ t.val) (d : Fin 8) (a : Fin 512) (b : Fin 128) (l : Fin 2) (i : Fin 512) (j : Fin 128) (hl : l.val = t.val) (hi : i.val = a.val) (hj : j.val = b.val) :
    B1 m c t (ix3 d a b) = s1 m c (ix3 d i j) := by
  have hN := tlt t
  unfold B1
  blk_ext [iblk, V, idx_s1 t h0]

theorem blk2 (t : Fin cfg0.N) (a : Fin 512) (b : Fin 128) (l : Fin 2) (i : Fin 512) (j : Fin 128) (hl : l.val = t.val) (hi : i.val = a.val) (hj : j.val = b.val) :
    B2 m c t (ix3 0 a b) = w m c (ix3 l i j) := by
  have hN := tlt t
  unfold B2
  blk_ext [iblk, V, idx_val t]

theorem blk3 (t : Fin cfg0.N) (a : Fin 512) (b : Fin 128) (l : Fin 2) (i : Fin 512) (j : Fin 128) (hl : l.val = t.val) (hi : i.val = a.val) (hj : j.val = b.val) :
    B3 m c t (ix3 0 a b) = mo m c (ix3 l i j) := by
  have hN := tlt t
  unfold B3
  blk_ext [iblk, V, idx_val t]

theorem blk4 (t : Fin cfg0.N) (a : Fin 512) (b : Fin 128) (l : Fin 2) (i : Fin 512) (j : Fin 128) (hl : l.val = t.val) (hi : i.val = a.val) (hj : j.val = b.val) :
    B4 m c t (ix3 0 a b) = vo m c (ix3 l i j) := by
  have hN := tlt t
  unfold B4
  blk_ext [iblk, V, idx_val t]

theorem out5_at (t : Fin cfg0.N) (a : Fin 512) (b : Fin 128) (l : Fin 2) (i : Fin 512) (j : Fin 128) (hl : l.val = t.val) (hi : i.val = a.val) (hj : j.val = b.val) :
    (outsAt0 m c t.val t.isLt).1 (ix3 0 a b) = ((Adam19.gr (s0 m c) (s1 m c) l i j) : EReal) := by
  have hN := tlt t
  rcases Nat.lt_or_ge t.val 1 with h0 | h0
  · rw [out5_A m c t h0 a b]
    unfold Adam19.gr
    rw [if_pos (by omega)]
    simp only [blks0 m c t h0 _ a b l i j hl hi hj]
  · rw [out5_B m c t h0 a b]
    unfold Adam19.gr
    rw [if_neg (by omega)]
    simp only [blks1 m c t h0 _ a b l i j hl hi hj]

/-- The array of the gradient. -/
def R5 : FVec Ideal S2x512x128 .f32 := fun i =>
  ((Adam19.gr (s0 m c) (s1 m c) (i 0) (i 1) (i 2)) : EReal)

theorem R5_at (l : Fin 2) (i : Fin 512) (j : Fin 128) : R5 m c (ix3 l i j) = ((Adam19.gr (s0 m c) (s1 m c) l i j) : EReal) := rfl

theorem final5 : (dats m 0 c).arrAt 5 cfg0.N = R5 m c := by
  refine (dats m 0 c).arrAt_eq_of_covers 5 _ (by decide +kernel) fun t hf y => ?_
  blk_simp
  rw [after0_5]
  idx_vars y
  obtain rfl : y0 = 0 := Subsingleton.elim _ _
  have hN := tlt t
  have h1 := y1.isLt
  have h2 := y2.isLt
  have e : ((View.whole main_v0_0).slice (win0_5.rect t)).emb (ix3 0 y1 y2)
      = ix3 (⟨t.val, by omega⟩ : Fin 2) (⟨y1.val, by omega⟩ : Fin 512) (⟨y2.val, by omega⟩ : Fin 128) := by
    funext a; apply Fin.ext
    match a with
    | ⟨0, _⟩ =>
      blk_simp [idx_val t]
      first | done | rfl
    | ⟨1, _⟩ =>
      blk_simp [idx_val t]
      first | done | (show _ = y1.val; omega)
    | ⟨2, _⟩ =>
      blk_simp [idx_val t]
      first | done | rfl
  rw [e, R5_at]
  exact out5_at m c t y1 y2 _ _ _ rfl rfl rfl

theorem out6_at (t : Fin cfg0.N) (a : Fin 512) (b : Fin 128) (l : Fin 2) (i : Fin 512) (j : Fin 128) (hl : l.val = t.val) (hi : i.val = a.val) (hj : j.val = b.val) :
    (outsAt0 m c t.val t.isLt).2.1 (ix3 0 a b) = (Adam.delta (Adam19.gr (s0 m c) (s1 m c) l i j) (w m c (ix3 l i j)) (mo m c (ix3 l i j)) (vo m c (ix3 l i j)) : EReal) := by
  have hN := tlt t
  rcases Nat.lt_or_ge t.val 1 with h0 | h0
  · rw [out6_A m c t h0 a b, blk2 m c t a b l i j hl hi hj, blk3 m c t a b l i j hl hi hj, blk4 m c t a b l i j hl hi hj]
    unfold Adam19.gr
    rw [if_pos (by omega)]
    simp only [blks0 m c t h0 _ a b l i j hl hi hj]
  · rw [out6_B m c t h0 a b, blk2 m c t a b l i j hl hi hj, blk3 m c t a b l i j hl hi hj, blk4 m c t a b l i j hl hi hj]
    unfold Adam19.gr
    rw [if_neg (by omega)]
    simp only [blks1 m c t h0 _ a b l i j hl hi hj]

/-- The array of the step. -/
def R6 : FVec Ideal S2x512x128 .f32 := fun i =>
  (Adam.delta (Adam19.gr (s0 m c) (s1 m c) (i 0) (i 1) (i 2)) (w m c (ix3 (i 0) (i 1) (i 2))) (mo m c (ix3 (i 0) (i 1) (i 2))) (vo m c (ix3 (i 0) (i 1) (i 2))) : EReal)

theorem R6_at (l : Fin 2) (i : Fin 512) (j : Fin 128) : R6 m c (ix3 l i j) = (Adam.delta (Adam19.gr (s0 m c) (s1 m c) l i j) (w m c (ix3 l i j)) (mo m c (ix3 l i j)) (vo m c (ix3 l i j)) : EReal) := rfl

theorem final6 : (dats m 0 c).arrAt 6 cfg0.N = R6 m c := by
  refine (dats m 0 c).arrAt_eq_of_covers 6 _ (by decide +kernel) fun t hf y => ?_
  blk_simp
  rw [after0_6]
  idx_vars y
  obtain rfl : y0 = 0 := Subsingleton.elim _ _
  have hN := tlt t
  have h1 := y1.isLt
  have h2 := y2.isLt
  have e : ((View.whole main_v0_1).slice (win0_6.rect t)).emb (ix3 0 y1 y2)
      = ix3 (⟨t.val, by omega⟩ : Fin 2) (⟨y1.val, by omega⟩ : Fin 512) (⟨y2.val, by omega⟩ : Fin 128) := by
    funext a; apply Fin.ext
    match a with
    | ⟨0, _⟩ =>
      blk_simp [idx_val t]
      first | done | rfl
    | ⟨1, _⟩ =>
      blk_simp [idx_val t]
      first | done | (show _ = y1.val; omega)
    | ⟨2, _⟩ =>
      blk_simp [idx_val t]
      first | done | rfl
  rw [e, R6_at]
  exact out6_at m c t y1 y2 _ _ _ rfl rfl rfl

theorem out7_at (t : Fin cfg0.N) (a : Fin 512) (b : Fin 128) (l : Fin 2) (i : Fin 512) (j : Fin 128) (hl : l.val = t.val) (hi : i.val = a.val) (hj : j.val = b.val) :
    (outsAt0 m c t.val t.isLt).2.2.1 (ix3 0 a b) = (Adam.upM (Adam19.gr (s0 m c) (s1 m c) l i j) (mo m c (ix3 l i j)) : EReal) := by
  have hN := tlt t
  rcases Nat.lt_or_ge t.val 1 with h0 | h0
  · rw [out7_A m c t h0 a b, blk3 m c t a b l i j hl hi hj]
    unfold Adam19.gr
    rw [if_pos (by omega)]
    simp only [blks0 m c t h0 _ a b l i j hl hi hj]
  · rw [out7_B m c t h0 a b, blk3 m c t a b l i j hl hi hj]
    unfold Adam19.gr
    rw [if_neg (by omega)]
    simp only [blks1 m c t h0 _ a b l i j hl hi hj]

/-- The array of the first moment. -/
def R7 : FVec Ideal S2x512x128 .f32 := fun i =>
  (Adam.upM (Adam19.gr (s0 m c) (s1 m c) (i 0) (i 1) (i 2)) (mo m c (ix3 (i 0) (i 1) (i 2))) : EReal)

theorem R7_at (l : Fin 2) (i : Fin 512) (j : Fin 128) : R7 m c (ix3 l i j) = (Adam.upM (Adam19.gr (s0 m c) (s1 m c) l i j) (mo m c (ix3 l i j)) : EReal) := rfl

theorem final7 : (dats m 0 c).arrAt 7 cfg0.N = R7 m c := by
  refine (dats m 0 c).arrAt_eq_of_covers 7 _ (by decide +kernel) fun t hf y => ?_
  blk_simp
  rw [after0_7]
  idx_vars y
  obtain rfl : y0 = 0 := Subsingleton.elim _ _
  have hN := tlt t
  have h1 := y1.isLt
  have h2 := y2.isLt
  have e : ((View.whole main_v0_2).slice (win0_7.rect t)).emb (ix3 0 y1 y2)
      = ix3 (⟨t.val, by omega⟩ : Fin 2) (⟨y1.val, by omega⟩ : Fin 512) (⟨y2.val, by omega⟩ : Fin 128) := by
    funext a; apply Fin.ext
    match a with
    | ⟨0, _⟩ =>
      blk_simp [idx_val t]
      first | done | rfl
    | ⟨1, _⟩ =>
      blk_simp [idx_val t]
      first | done | (show _ = y1.val; omega)
    | ⟨2, _⟩ =>
      blk_simp [idx_val t]
      first | done | rfl
  rw [e, R7_at]
  exact out7_at m c t y1 y2 _ _ _ rfl rfl rfl

theorem out8_at (t : Fin cfg0.N) (a : Fin 512) (b : Fin 128) (l : Fin 2) (i : Fin 512) (j : Fin 128) (hl : l.val = t.val) (hi : i.val = a.val) (hj : j.val = b.val) :
    (outsAt0 m c t.val t.isLt).2.2.2 (ix3 0 a b) = (Adam.upV (Adam19.gr (s0 m c) (s1 m c) l i j) (vo m c (ix3 l i j)) : EReal) := by
  have hN := tlt t
  rcases Nat.lt_or_ge t.val 1 with h0 | h0
  · rw [out8_A m c t h0 a b, blk4 m c t a b l i j hl hi hj]
    unfold Adam19.gr
    rw [if_pos (by omega)]
    simp only [blks0 m c t h0 _ a b l i j hl hi hj]
  · rw [out8_B m c t h0 a b, blk4 m c t a b l i j hl hi hj]
    unfold Adam19.gr
    rw [if_neg (by omega)]
    simp only [blks1 m c t h0 _ a b l i j hl hi hj]

/-- The array of the second moment. -/
def R8 : FVec Ideal S2x512x128 .f32 := fun i =>
  (Adam.upV (Adam19.gr (s0 m c) (s1 m c) (i 0) (i 1) (i 2)) (vo m c (ix3 (i 0) (i 1) (i 2))) : EReal)

theorem R8_at (l : Fin 2) (i : Fin 512) (j : Fin 128) : R8 m c (ix3 l i j) = (Adam.upV (Adam19.gr (s0 m c) (s1 m c) l i j) (vo m c (ix3 l i j)) : EReal) := rfl

theorem final8 : (dats m 0 c).arrAt 8 cfg0.N = R8 m c := by
  refine (dats m 0 c).arrAt_eq_of_covers 8 _ (by decide +kernel) fun t hf y => ?_
  blk_simp
  rw [after0_8]
  idx_vars y
  obtain rfl : y0 = 0 := Subsingleton.elim _ _
  have hN := tlt t
  have h1 := y1.isLt
  have h2 := y2.isLt
  have e : ((View.whole main_v0_3).slice (win0_8.rect t)).emb (ix3 0 y1 y2)
      = ix3 (⟨t.val, by omega⟩ : Fin 2) (⟨y1.val, by omega⟩ : Fin 512) (⟨y2.val, by omega⟩ : Fin 128) := by
    funext a; apply Fin.ext
    match a with
    | ⟨0, _⟩ =>
      blk_simp [idx_val t]
      first | done | rfl
    | ⟨1, _⟩ =>
      blk_simp [idx_val t]
      first | done | (show _ = y1.val; omega)
    | ⟨2, _⟩ =>
      blk_simp [idx_val t]
      first | done | rfl
  rw [e, R8_at]
  exact out8_at m c t y1 y2 _ _ _ rfl rfl rfl

end Cert.Kernel19Ideal.Value

end
-- ==== Proof.K19Claim.lean ====
/- The optimiser's update of the second mixer projection weight: the reference's entries, and the claims. -/
module

public import proofs.«01_k».proof.Defs
public import proofs.«01_k».proof.Proof.K19Value
public import proofs.«01_k».proof.Proof.Gen.Reference19Ideal.Run
public import proofs.«01_k».proof.Proof.Gen.Kernel19.Frame
public import Idealize.ShloMosaic.Lib.Quiescent

@[expose] public section

set_option maxRecDepth 16384

noncomputable section

open Idealize.ShloMosaic Idealize.ShloMosaic.TcCoe Idealize.SL.Sem

namespace Cert.Reference19Ideal.Value
open Cert.Reference19Ideal Cert.Reference19Ideal.Gen

/-- The reference's gradient, entry by entry. -/
theorem res0_at (s0 : FVec Ideal S8x512x128 .bf16) (s1 : FVec Ideal S8x512x128 .bf16) (l : Fin 2) (i : Fin 512) (j : Fin 128) :
    (concatenate S2x512x128 0 [⟨S1x512x128, (broadcastInDim S1x512x128 ![1, 2] bcast_S512x128_S1x512x128_1_2 (Host.reduceAdd (extf .f32 s0 bitsLt_bf16_f32) (constant S_ .f32 0x00000000#32) reducesTo_S8x512x128_S512x128_d0 h_S_))⟩, ⟨S1x512x128, (broadcastInDim S1x512x128 ![1, 2] bcast_S512x128_S1x512x128_1_2 (Host.reduceAdd (extf .f32 s1 bitsLt_bf16_f32) (constant S_ .f32 0x00000000#32) reducesTo_S8x512x128_S512x128_d0 h_S_))⟩] concatenates_S1x512x128_S1x512x128_S2x512x128_d0
      : FVec Ideal S2x512x128 .f32) (ix3 l i j) = (Adam19.gr s0 s1 l i j : EReal) := by
  unfold Adam19.gr
  match l with
  | ⟨0, _⟩ =>
    rw [if_pos rfl]
    pointwise
    first | done | rfl
  | ⟨1, _⟩ =>
    rw [if_neg (by simp only [Nat.one_ne_zero, not_false_eq_true])]
    pointwise
    first | done | rfl

/-- The reference's step from its gradient. -/
theorem res1_at (g w mo vo : FVec Ideal S2x512x128 .f32) (l : Fin 2) (i : Fin 512) (j : Fin 128) :
    (mulf (broadcastInDim S2x512x128 ![] bcast_S_S2x512x128 (constant S_ .f32 0xBA83126F#32)) (addf (Host.divf (Host.divf (addf (mulf (broadcastInDim S2x512x128 ![] bcast_S_S2x512x128 (constant S_ .f32 0x3F666666#32)) mo) (mulf (broadcastInDim S2x512x128 ![] bcast_S_S2x512x128 (constant S_ .f32 0x3DCCCCCD#32)) g)) (broadcastInDim S2x512x128 ![] bcast_S_S2x512x128 (constant S_ .f32 0x3F26BD02#32))) (addf (Host.sqrt (Host.divf (addf (mulf (broadcastInDim S2x512x128 ![] bcast_S_S2x512x128 (constant S_ .f32 0x3F7FBE77#32)) vo) (mulf (broadcastInDim S2x512x128 ![] bcast_S_S2x512x128 (constant S_ .f32 0x3A83126F#32)) (mulf g g))) (broadcastInDim S2x512x128 ![] bcast_S_S2x512x128 (constant S_ .f32 0x3C231ACC#32)))) (broadcastInDim S2x512x128 ![] bcast_S_S2x512x128 (constant S_ .f32 0x322BCC77#32)))) (mulf (broadcastInDim S2x512x128 ![] bcast_S_S2x512x128 (constant S_ .f32 0x3C23D70A#32)) w))
      : FVec Ideal S2x512x128 .f32) (ix3 l i j) = (Adam.delta (g (ix3 l i j)) (w (ix3 l i j)) (mo (ix3 l i j)) (vo (ix3 l i j)) : EReal) := by
  unfold Adam.delta Adam.upM Adam.upV
  pointwise

/-- The reference's first moment from its gradient. -/
theorem res2_at (g mo : FVec Ideal S2x512x128 .f32) (l : Fin 2) (i : Fin 512) (j : Fin 128) :
    (addf (mulf (broadcastInDim S2x512x128 ![] bcast_S_S2x512x128 (constant S_ .f32 0x3F666666#32)) mo) (mulf (broadcastInDim S2x512x128 ![] bcast_S_S2x512x128 (constant S_ .f32 0x3DCCCCCD#32)) g)
      : FVec Ideal S2x512x128 .f32) (ix3 l i j) = (Adam.upM (g (ix3 l i j)) (mo (ix3 l i j)) : EReal) := by
  unfold Adam.upM
  pointwise

/-- The reference's second moment from its gradient. -/
theorem res3_at (g vo : FVec Ideal S2x512x128 .f32) (l : Fin 2) (i : Fin 512) (j : Fin 128) :
    (addf (mulf (broadcastInDim S2x512x128 ![] bcast_S_S2x512x128 (constant S_ .f32 0x3F7FBE77#32)) vo) (mulf (broadcastInDim S2x512x128 ![] bcast_S_S2x512x128 (constant S_ .f32 0x3A83126F#32)) (mulf g g))
      : FVec Ideal S2x512x128 .f32) (ix3 l i j) = (Adam.upV (g (ix3 l i j)) (vo (ix3 l i j)) : EReal) := by
  unfold Adam.upV
  pointwise

end Cert.Reference19Ideal.Value

namespace Cert.K19

instance : Cert.Kernel19.Facts := Cert.Kernel19.Gen.facts
instance : Cert.Kernel19Ideal.Facts := Cert.Kernel19Ideal.Gen.facts
instance : Cert.Reference19Ideal.Facts := Cert.Reference19Ideal.Gen.facts

/-- The reference leaves its arguments and all counters as it found them. -/
theorem ref_quiet : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

/-- The results are equal. -/
theorem algebraic : Cert.algebraic_Kernel19Ideal_Reference19Ideal := by
  intro m ρ m' ρ' _ ha
  refine ⟨fun c => Cert.Kernel19Ideal.Value.R5 m c, fun c => Cert.Kernel19Ideal.Value.R6 m c, fun c => Cert.Kernel19Ideal.Value.R7 m c,
    fun c => Cert.Kernel19Ideal.Value.R8 m c, (θ_run Cert.Kernel19Ideal.defs _ _).mono
    (fun _ h c => ⟨(h c).1.trans (Cert.Kernel19Ideal.Value.final5 m c), (h c).2.1.trans (Cert.Kernel19Ideal.Value.final6 m c),
      (h c).2.2.1.trans (Cert.Kernel19Ideal.Value.final7 m c), (h c).2.2.2.1.trans (Cert.Kernel19Ideal.Value.final8 m c), (h c).2.2.2.2⟩)
    (Cert.Kernel19Ideal.Value.run_blocks (F := Ideal) m ρ), ?_⟩
  refine (θ_run Cert.Reference19Ideal.defs _ _).mono (fun _ h c => ⟨(h c).1.trans ?_, (h c).2.1.trans ?_, (h c).2.2.1.trans ?_,
    (h c).2.2.2.1.trans ?_, (h c).2.2.2.2⟩)
    (Cert.Reference19Ideal.Value.run (F := Ideal) m' ρ')
  · obtain ⟨h0, h1, h2, h3, h4⟩ := ha c
    rw [h0, h1]
    funext i
    idx_vars i
    rw [Cert.Kernel19Ideal.Value.R5_at]
    exact Cert.Reference19Ideal.Value.res0_at _ _ i0 i1 i2
  · obtain ⟨h0, h1, h2, h3, h4⟩ := ha c
    rw [h0, h1, h2, h3, h4]
    funext i
    idx_vars i
    rw [Cert.Kernel19Ideal.Value.R6_at]
    refine (Cert.Reference19Ideal.Value.res1_at _ _ _ _ i0 i1 i2).trans ?_
    rw [Cert.Reference19Ideal.Value.res0_at]
  · obtain ⟨h0, h1, h2, h3, h4⟩ := ha c
    rw [h0, h1, h3]
    funext i
    idx_vars i
    rw [Cert.Kernel19Ideal.Value.R7_at]
    refine (Cert.Reference19Ideal.Value.res2_at _ _ i0 i1 i2).trans ?_
    rw [Cert.Reference19Ideal.Value.res0_at]
  · obtain ⟨h0, h1, h2, h3, h4⟩ := ha c
    rw [h0, h1, h4]
    funext i
    idx_vars i
    rw [Cert.Kernel19Ideal.Value.R8_at]
    refine (Cert.Reference19Ideal.Value.res3_at _ _ i0 i1 i2).trans ?_
    rw [Cert.Reference19Ideal.Value.res0_at]

end Cert.K19

end
-- ==== Proof.K20Value.lean ====
/- The optimiser's update of the gate weight and of the up weight: what the kernel leaves in its result arrays. -/
module

public import proofs.«01_k».proof.Proof.Gen.Kernel20Ideal.Value
public import proofs.«01_k».proof.Proof.Adam
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Adam20
open Cert.Kernel20Ideal

/-- The gradient: the sum of the devices' parts. -/
def gr (s0 : FVec Ideal S8x1024x384 .bf16) (s1 : FVec Ideal S8x1024x384 .bf16) (l : Fin 2) (i : Fin 1024) (j : Fin 352) : EReal :=
  if l.val = 0 then ∑ d : Fin 8, s0 (ix3 d i ⟨j.val, by omega⟩) else ∑ d : Fin 8, s1 (ix3 d i ⟨j.val, by omega⟩)

end Cert.Adam20

open Idealize.ShloMosaic.Pipeline (Dat)

namespace Cert.Kernel20Ideal.Value
open Cert.Kernel20Ideal Cert.Kernel20Ideal.Gen

variable (m : (ℓ : Loc nD τ sig) → Buf (Elt Ideal) ℓ) (c : Dev nD)

/-- The block indices of the windows at each grid point. -/
theorem idx_val : ∀ t : Fin cfg0.N,
    win0_2.index t = ![t.val / 8, t.val % 8, 0]
    ∧ win0_3.index t = ![t.val / 8, t.val % 8, 0]
    ∧ win0_4.index t = ![t.val / 8, t.val % 8, 0]
    ∧ win0_5.index t = ![t.val / 8, t.val % 8, 0]
    ∧ win0_6.index t = ![t.val / 8, t.val % 8, 0]
    ∧ win0_7.index t = ![t.val / 8, t.val % 8, 0]
    ∧ win0_8.index t = ![t.val / 8, t.val % 8, 0] :=
  (by decide +kernel : ∀ t : Fin grid0.N, _)

theorem idx_s0 : ∀ t : Fin cfg0.N, t.val < 8 → win0_0.index t = ![0, t.val, 0] :=
  (by decide +kernel : ∀ t : Fin grid0.N, _)

theorem idx_s1 : ∀ t : Fin cfg0.N, 8 ≤ t.val → win0_1.index t = ![0, t.val - 8, 0] :=
  (by decide +kernel : ∀ t : Fin grid0.N, _)

/-- The blocks in use at a point. -/
def B0 (t : Fin cfg0.N) : FVec Ideal S8x128x384 .bf16 := iblk m c 0 t
def B1 (t : Fin cfg0.N) : FVec Ideal S8x128x384 .bf16 := iblk m c 1 t
def B2 (t : Fin cfg0.N) : FVec Ideal S1x128x352 .f32 := iblk m c 2 t
def B3 (t : Fin cfg0.N) : FVec Ideal S1x128x352 .f32 := iblk m c 3 t
def B4 (t : Fin cfg0.N) : FVec Ideal S1x128x352 .f32 := iblk m c 4 t

/-- The arrays of the arguments. -/
abbrev s0 : FVec Ideal S8x1024x384 .bf16 := m ((c.tc : Thread nD τ).loc main_arg0)
abbrev s1 : FVec Ideal S8x1024x384 .bf16 := m ((c.tc : Thread nD τ).loc main_arg1)
abbrev w : FVec Ideal S2x1024x352 .f32 := m ((c.tc : Thread nD τ).loc main_arg2)
abbrev mo : FVec Ideal S2x1024x352 .f32 := m ((c.tc : Thread nD τ).loc main_arg3)
abbrev vo : FVec Ideal S2x1024x352 .f32 := m ((c.tc : Thread nD τ).loc main_arg4)

theorem tlt (t : Fin cfg0.N) : t.val < 16 := lt_of_lt_of_eq t.isLt (show cfg0.N = 16 from N_0)

/-- The gradient a point writes, of the first matrix. -/
theorem out5_A (t : Fin cfg0.N) (h0 : t.val < 8) (a : Fin 128) (b : Fin 352) :
    (outsAt0 m c t.val t.isLt).1 (ix3 0 a b) = ((∑ d : Fin 8, B0 m c t (ix3 d a ⟨b.val, by omega⟩)) : EReal) := by
  have hN := tlt t
  rw [outsAt0_A m c t (by omega) (by omega)]
  frame_out
  rw [Fin.sum_univ_eight]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  first | done | rfl

/-- The step a point writes, of the first matrix. -/
theorem out6_A (t : Fin cfg0.N) (h0 : t.val < 8) (a : Fin 128) (b : Fin 352) :
    (outsAt0 m c t.val t.isLt).2.1 (ix3 0 a b) = (Adam.delta (∑ d : Fin 8, B0 m c t (ix3 d a ⟨b.val, by omega⟩)) (B2 m c t (ix3 0 a b)) (B3 m c t (ix3 0 a b)) (B4 m c t (ix3 0 a b)) : EReal) := by
  have hN := tlt t
  rw [outsAt0_A m c t (by omega) (by omega)]
  frame_out
  rw [Fin.sum_univ_eight]
  unfold Adam.delta Adam.upM Adam.upV
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  first | done | rfl

/-- The first moment a point writes, of the first matrix. -/
theorem out7_A (t : Fin cfg0.N) (h0 : t.val < 8) (a : Fin 128) (b : Fin 352) :
    (outsAt0 m c t.val t.isLt).2.2.1 (ix3 0 a b) = (Adam.upM (∑ d : Fin 8, B0 m c t (ix3 d a ⟨b.val, by omega⟩)) (B3 m c t (ix3 0 a b)) : EReal) := by
  have hN := tlt t
  rw [outsAt0_A m c t (by omega) (by omega)]
  frame_out
  rw [Fin.sum_univ_eight]
  unfold Adam.upM
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  first | done | rfl

/-- The second moment a point writes, of the first matrix. -/
theorem out8_A (t : Fin cfg0.N) (h0 : t.val < 8) (a : Fin 128) (b : Fin 352) :
    (outsAt0 m c t.val t.isLt).2.2.2 (ix3 0 a b) = (Adam.upV (∑ d : Fin 8, B0 m c t (ix3 d a ⟨b.val, by omega⟩)) (B4 m c t (ix3 0 a b)) : EReal) := by
  have hN := tlt t
  rw [outsAt0_A m c t (by omega) (by omega)]
  frame_out
  rw [Fin.sum_univ_eight]
  unfold Adam.upV
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  first | done | rfl

/-- The gradient a point writes, of the second matrix. -/
theorem out5_B (t : Fin cfg0.N) (h0 : 8 ≤ t.val) (a : Fin 128) (b : Fin 352) :
    (outsAt0 m c t.val t.isLt).1 (ix3 0 a b) = ((∑ d : Fin 8, B1 m c t (ix3 d a ⟨b.val, by omega⟩)) : EReal) := by
  have hN := tlt t
  rw [outsAt0_B m c t (by omega) (by omega)]
  frame_out
  rw [Fin.sum_univ_eight]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  first | done | rfl

/-- The step a point writes, of the second matrix. -/
theorem out6_B (t : Fin cfg0.N) (h0 : 8 ≤ t.val) (a : Fin 128) (b : Fin 352) :
    (outsAt0 m c t.val t.isLt).2.1 (ix3 0 a b) = (Adam.delta (∑ d : Fin 8, B1 m c t (ix3 d a ⟨b.val, by omega⟩)) (B2 m c t (ix3 0 a b)) (B3 m c t (ix3 0 a b)) (B4 m c t (ix3 0 a b)) : EReal) := by
  have hN := tlt t
  rw [outsAt0_B m c t (by omega) (by omega)]
  frame_out
  rw [Fin.sum_univ_eight]
  unfold Adam.delta Adam.upM Adam.upV
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  first | done | rfl

/-- The first moment a point writes, of the second matrix. -/
theorem out7_B (t : Fin cfg0.N) (h0 : 8 ≤ t.val) (a : Fin 128) (b : Fin 352) :
    (outsAt0 m c t.val t.isLt).2.2.1 (ix3 0 a b) = (Adam.upM (∑ d : Fin 8, B1 m c t (ix3 d a ⟨b.val, by omega⟩)) (B3 m c t (ix3 0 a b)) : EReal) := by
  have hN := tlt t
  rw [outsAt0_B m c t (by omega) (by omega)]
  frame_out
  rw [Fin.sum_univ_eight]
  unfold Adam.upM
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  first | done | rfl

/-- The second moment a point writes, of the second matrix. -/
theorem out8_B (t : Fin cfg0.N) (h0 : 8 ≤ t.val) (a : Fin 128) (b : Fin 352) :
    (outsAt0 m c t.val t.isLt).2.2.2 (ix3 0 a b) = (Adam.upV (∑ d : Fin 8, B1 m c t (ix3 d a ⟨b.val, by omega⟩)) (B4 m c t (ix3 0 a b)) : EReal) := by
  have hN := tlt t
  rw [outsAt0_B m c t (by omega) (by omega)]
  frame_out
  rw [Fin.sum_univ_eight]
  unfold Adam.upV
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  first | done | rfl

theorem blks0 (t : Fin cfg0.N) (h0 : t.val < 8) (d : Fin 8) (a : Fin 128) (b : Fin 352) (l : Fin 2) (i : Fin 1024) (j : Fin 352) (hl : l.val = t.val / 8) (hi : i.val = 128 * (t.val % 8) + a.val) (hj : j.val = b.val) :
    B0 m c t (ix3 d a ⟨b.val, by omega⟩) = s0 m c (ix3 d i ⟨j.val, by omega⟩) := by
  have hN := tlt t
  unfold B0
  blk_ext [iblk, V, idx_s0 t h0]

theorem blks1 (t : Fin cfg0.N) (h0 : 8 ≤ t.val) (d : Fin 8) (a : Fin 128) (b : Fin 352) (l : Fin 2) (i : Fin 1024) (j : Fin 352) (hl : l.val = t.val / 8) (hi : i.val = 128 * (t.val % 8) + a.val) (hj : j.val = b.val) :
    B1 m c t (ix3 d a ⟨b.val, by omega⟩) = s1 m c (ix3 d i ⟨j.val, by omega⟩) := by
  have hN := tlt t
  unfold B1
  blk_ext [iblk, V, idx_s1 t h0]

theorem blk2 (t : Fin cfg0.N) (a : Fin 128) (b : Fin 352) (l : Fin 2) (i : Fin 1024) (j : Fin 352) (hl : l.val = t.val / 8) (hi : i.val = 128 * (t.val % 8) + a.val) (hj : j.val = b.val) :
    B2 m c t (ix3 0 a b) = w m c (ix3 l i j) := by
  have hN := tlt t
  unfold B2
  blk_ext [iblk, V, idx_val t]

theorem blk3 (t : Fin cfg0.N) (a : Fin 128) (b : Fin 352) (l : Fin 2) (i : Fin 1024) (j : Fin 352) (hl : l.val = t.val / 8) (hi : i.val = 128 * (t.val % 8) + a.val) (hj : j.val = b.val) :
    B3 m c t (ix3 0 a b) = mo m c (ix3 l i j) := by
  have hN := tlt t
  unfold B3
  blk_ext [iblk, V, idx_val t]

theorem blk4 (t : Fin cfg0.N) (a : Fin 128) (b : Fin 352) (l : Fin 2) (i : Fin 1024) (j : Fin 352) (hl : l.val = t.val / 8) (hi : i.val = 128 * (t.val % 8) + a.val) (hj : j.val = b.val) :
    B4 m c t (ix3 0 a b) = vo m c (ix3 l i j) := by
  have hN := tlt t
  unfold B4
  blk_ext [iblk, V, idx_val t]

theorem out5_at (t : Fin cfg0.N) (a : Fin 128) (b : Fin 352) (l : Fin 2) (i : Fin 1024) (j : Fin 352) (hl : l.val = t.val / 8) (hi : i.val = 128 * (t.val % 8) + a.val) (hj : j.val = b.val) :
    (outsAt0 m c t.val t.isLt).1 (ix3 0 a b) = ((Adam20.gr (s0 m c) (s1 m c) l i j) : EReal) := by
  have hN := tlt t
  rcases Nat.lt_or_ge t.val 8 with h0 | h0
  · rw [out5_A m c t h0 a b]
    unfold Adam20.gr
    rw [if_pos (by omega)]
    simp only [blks0 m c t h0 _ a b l i j hl hi hj]
  · rw [out5_B m c t h0 a b]
    unfold Adam20.gr
    rw [if_neg (by omega)]
    simp only [blks1 m c t h0 _ a b l i j hl hi hj]

/-- The array of the gradient. -/
def R5 : FVec Ideal S2x1024x352 .f32 := fun i =>
  ((Adam20.gr (s0 m c) (s1 m c) (i 0) (i 1) (i 2)) : EReal)

theorem R5_at (l : Fin 2) (i : Fin 1024) (j : Fin 352) : R5 m c (ix3 l i j) = ((Adam20.gr (s0 m c) (s1 m c) l i j) : EReal) := rfl

theorem final5 : (dats m 0 c).arrAt 5 cfg0.N = R5 m c := by
  refine (dats m 0 c).arrAt_eq_of_covers 5 _ (by decide +kernel) fun t hf y => ?_
  blk_simp
  rw [after0_5]
  idx_vars y
  obtain rfl : y0 = 0 := Subsingleton.elim _ _
  have hN := tlt t
  have h1 := y1.isLt
  have h2 := y2.isLt
  have e : ((View.whole main_v0_0).slice (win0_5.rect t)).emb (ix3 0 y1 y2)
      = ix3 (⟨t.val / 8, by omega⟩ : Fin 2) (⟨128 * (t.val % 8) + y1.val, by omega⟩ : Fin 1024) (⟨y2.val, by omega⟩ : Fin 352) := by
    funext a; apply Fin.ext
    match a with
    | ⟨0, _⟩ =>
      blk_simp [idx_val t]
      first | done | rfl
    | ⟨1, _⟩ =>
      blk_simp [idx_val t]
      first | done | (show _ = 128 * (t.val % 8) + y1.val; omega)
    | ⟨2, _⟩ =>
      blk_simp [idx_val t]
      first | done | rfl
  rw [e, R5_at]
  exact out5_at m c t y1 y2 _ _ _ rfl rfl rfl

theorem out6_at (t : Fin cfg0.N) (a : Fin 128) (b : Fin 352) (l : Fin 2) (i : Fin 1024) (j : Fin 352) (hl : l.val = t.val / 8) (hi : i.val = 128 * (t.val % 8) + a.val) (hj : j.val = b.val) :
    (outsAt0 m c t.val t.isLt).2.1 (ix3 0 a b) = (Adam.delta (Adam20.gr (s0 m c) (s1 m c) l i j) (w m c (ix3 l i j)) (mo m c (ix3 l i j)) (vo m c (ix3 l i j)) : EReal) := by
  have hN := tlt t
  rcases Nat.lt_or_ge t.val 8 with h0 | h0
  · rw [out6_A m c t h0 a b, blk2 m c t a b l i j hl hi hj, blk3 m c t a b l i j hl hi hj, blk4 m c t a b l i j hl hi hj]
    unfold Adam20.gr
    rw [if_pos (by omega)]
    simp only [blks0 m c t h0 _ a b l i j hl hi hj]
  · rw [out6_B m c t h0 a b, blk2 m c t a b l i j hl hi hj, blk3 m c t a b l i j hl hi hj, blk4 m c t a b l i j hl hi hj]
    unfold Adam20.gr
    rw [if_neg (by omega)]
    simp only [blks1 m c t h0 _ a b l i j hl hi hj]

/-- The array of the step. -/
def R6 : FVec Ideal S2x1024x352 .f32 := fun i =>
  (Adam.delta (Adam20.gr (s0 m c) (s1 m c) (i 0) (i 1) (i 2)) (w m c (ix3 (i 0) (i 1) (i 2))) (mo m c (ix3 (i 0) (i 1) (i 2))) (vo m c (ix3 (i 0) (i 1) (i 2))) : EReal)

theorem R6_at (l : Fin 2) (i : Fin 1024) (j : Fin 352) : R6 m c (ix3 l i j) = (Adam.delta (Adam20.gr (s0 m c) (s1 m c) l i j) (w m c (ix3 l i j)) (mo m c (ix3 l i j)) (vo m c (ix3 l i j)) : EReal) := rfl

theorem final6 : (dats m 0 c).arrAt 6 cfg0.N = R6 m c := by
  refine (dats m 0 c).arrAt_eq_of_covers 6 _ (by decide +kernel) fun t hf y => ?_
  blk_simp
  rw [after0_6]
  idx_vars y
  obtain rfl : y0 = 0 := Subsingleton.elim _ _
  have hN := tlt t
  have h1 := y1.isLt
  have h2 := y2.isLt
  have e : ((View.whole main_v0_1).slice (win0_6.rect t)).emb (ix3 0 y1 y2)
      = ix3 (⟨t.val / 8, by omega⟩ : Fin 2) (⟨128 * (t.val % 8) + y1.val, by omega⟩ : Fin 1024) (⟨y2.val, by omega⟩ : Fin 352) := by
    funext a; apply Fin.ext
    match a with
    | ⟨0, _⟩ =>
      blk_simp [idx_val t]
      first | done | rfl
    | ⟨1, _⟩ =>
      blk_simp [idx_val t]
      first | done | (show _ = 128 * (t.val % 8) + y1.val; omega)
    | ⟨2, _⟩ =>
      blk_simp [idx_val t]
      first | done | rfl
  rw [e, R6_at]
  exact out6_at m c t y1 y2 _ _ _ rfl rfl rfl

theorem out7_at (t : Fin cfg0.N) (a : Fin 128) (b : Fin 352) (l : Fin 2) (i : Fin 1024) (j : Fin 352) (hl : l.val = t.val / 8) (hi : i.val = 128 * (t.val % 8) + a.val) (hj : j.val = b.val) :
    (outsAt0 m c t.val t.isLt).2.2.1 (ix3 0 a b) = (Adam.upM (Adam20.gr (s0 m c) (s1 m c) l i j) (mo m c (ix3 l i j)) : EReal) := by
  have hN := tlt t
  rcases Nat.lt_or_ge t.val 8 with h0 | h0
  · rw [out7_A m c t h0 a b, blk3 m c t a b l i j hl hi hj]
    unfold Adam20.gr
    rw [if_pos (by omega)]
    simp only [blks0 m c t h0 _ a b l i j hl hi hj]
  · rw [out7_B m c t h0 a b, blk3 m c t a b l i j hl hi hj]
    unfold Adam20.gr
    rw [if_neg (by omega)]
    simp only [blks1 m c t h0 _ a b l i j hl hi hj]

/-- The array of the first moment. -/
def R7 : FVec Ideal S2x1024x352 .f32 := fun i =>
  (Adam.upM (Adam20.gr (s0 m c) (s1 m c) (i 0) (i 1) (i 2)) (mo m c (ix3 (i 0) (i 1) (i 2))) : EReal)

theorem R7_at (l : Fin 2) (i : Fin 1024) (j : Fin 352) : R7 m c (ix3 l i j) = (Adam.upM (Adam20.gr (s0 m c) (s1 m c) l i j) (mo m c (ix3 l i j)) : EReal) := rfl

theorem final7 : (dats m 0 c).arrAt 7 cfg0.N = R7 m c := by
  refine (dats m 0 c).arrAt_eq_of_covers 7 _ (by decide +kernel) fun t hf y => ?_
  blk_simp
  rw [after0_7]
  idx_vars y
  obtain rfl : y0 = 0 := Subsingleton.elim _ _
  have hN := tlt t
  have h1 := y1.isLt
  have h2 := y2.isLt
  have e : ((View.whole main_v0_2).slice (win0_7.rect t)).emb (ix3 0 y1 y2)
      = ix3 (⟨t.val / 8, by omega⟩ : Fin 2) (⟨128 * (t.val % 8) + y1.val, by omega⟩ : Fin 1024) (⟨y2.val, by omega⟩ : Fin 352) := by
    funext a; apply Fin.ext
    match a with
    | ⟨0, _⟩ =>
      blk_simp [idx_val t]
      first | done | rfl
    | ⟨1, _⟩ =>
      blk_simp [idx_val t]
      first | done | (show _ = 128 * (t.val % 8) + y1.val; omega)
    | ⟨2, _⟩ =>
      blk_simp [idx_val t]
      first | done | rfl
  rw [e, R7_at]
  exact out7_at m c t y1 y2 _ _ _ rfl rfl rfl

theorem out8_at (t : Fin cfg0.N) (a : Fin 128) (b : Fin 352) (l : Fin 2) (i : Fin 1024) (j : Fin 352) (hl : l.val = t.val / 8) (hi : i.val = 128 * (t.val % 8) + a.val) (hj : j.val = b.val) :
    (outsAt0 m c t.val t.isLt).2.2.2 (ix3 0 a b) = (Adam.upV (Adam20.gr (s0 m c) (s1 m c) l i j) (vo m c (ix3 l i j)) : EReal) := by
  have hN := tlt t
  rcases Nat.lt_or_ge t.val 8 with h0 | h0
  · rw [out8_A m c t h0 a b, blk4 m c t a b l i j hl hi hj]
    unfold Adam20.gr
    rw [if_pos (by omega)]
    simp only [blks0 m c t h0 _ a b l i j hl hi hj]
  · rw [out8_B m c t h0 a b, blk4 m c t a b l i j hl hi hj]
    unfold Adam20.gr
    rw [if_neg (by omega)]
    simp only [blks1 m c t h0 _ a b l i j hl hi hj]

/-- The array of the second moment. -/
def R8 : FVec Ideal S2x1024x352 .f32 := fun i =>
  (Adam.upV (Adam20.gr (s0 m c) (s1 m c) (i 0) (i 1) (i 2)) (vo m c (ix3 (i 0) (i 1) (i 2))) : EReal)

theorem R8_at (l : Fin 2) (i : Fin 1024) (j : Fin 352) : R8 m c (ix3 l i j) = (Adam.upV (Adam20.gr (s0 m c) (s1 m c) l i j) (vo m c (ix3 l i j)) : EReal) := rfl

theorem final8 : (dats m 0 c).arrAt 8 cfg0.N = R8 m c := by
  refine (dats m 0 c).arrAt_eq_of_covers 8 _ (by decide +kernel) fun t hf y => ?_
  blk_simp
  rw [after0_8]
  idx_vars y
  obtain rfl : y0 = 0 := Subsingleton.elim _ _
  have hN := tlt t
  have h1 := y1.isLt
  have h2 := y2.isLt
  have e : ((View.whole main_v0_3).slice (win0_8.rect t)).emb (ix3 0 y1 y2)
      = ix3 (⟨t.val / 8, by omega⟩ : Fin 2) (⟨128 * (t.val % 8) + y1.val, by omega⟩ : Fin 1024) (⟨y2.val, by omega⟩ : Fin 352) := by
    funext a; apply Fin.ext
    match a with
    | ⟨0, _⟩ =>
      blk_simp [idx_val t]
      first | done | rfl
    | ⟨1, _⟩ =>
      blk_simp [idx_val t]
      first | done | (show _ = 128 * (t.val % 8) + y1.val; omega)
    | ⟨2, _⟩ =>
      blk_simp [idx_val t]
      first | done | rfl
  rw [e, R8_at]
  exact out8_at m c t y1 y2 _ _ _ rfl rfl rfl

end Cert.Kernel20Ideal.Value

end
-- ==== Proof.K20Claim.lean ====
/- The optimiser's update of the gate weight and of the up weight: the reference's entries, and the claims. -/
module

public import proofs.«01_k».proof.Defs
public import proofs.«01_k».proof.Proof.K20Value
public import proofs.«01_k».proof.Proof.Gen.Reference20Ideal.Run
public import proofs.«01_k».proof.Proof.Gen.Kernel20.Frame
public import Idealize.ShloMosaic.Lib.Quiescent

@[expose] public section

set_option maxRecDepth 16384

noncomputable section

open Idealize.ShloMosaic Idealize.ShloMosaic.TcCoe Idealize.SL.Sem

namespace Cert.Reference20Ideal.Value
open Cert.Reference20Ideal Cert.Reference20Ideal.Gen

/-- The reference's gradient, entry by entry. -/
theorem res0_at (s0 : FVec Ideal S8x1024x384 .bf16) (s1 : FVec Ideal S8x1024x384 .bf16) (l : Fin 2) (i : Fin 1024) (j : Fin 352) :
    (concatenate S2x1024x352 0 [⟨S1x1024x352, (broadcastInDim S1x1024x352 ![1, 2] bcast_S1024x352_S1x1024x352_1_2 (extractStridedSlice S1024x352 ![0, 0] (Host.reduceAdd (extf .f32 s0 bitsLt_bf16_f32) (constant S_ .f32 0x00000000#32) reducesTo_S8x1024x384_S1024x384_d0 h_S_) slices_S1024x384_S1024x352_0_0))⟩, ⟨S1x1024x352, (broadcastInDim S1x1024x352 ![1, 2] bcast_S1024x352_S1x1024x352_1_2 (extractStridedSlice S1024x352 ![0, 0] (Host.reduceAdd (extf .f32 s1 bitsLt_bf16_f32) (constant S_ .f32 0x00000000#32) reducesTo_S8x1024x384_S1024x384_d0 h_S_) slices_S1024x384_S1024x352_0_0))⟩] concatenates_S1x1024x352_S1x1024x352_S2x1024x352_d0
      : FVec Ideal S2x1024x352 .f32) (ix3 l i j) = (Adam20.gr s0 s1 l i j : EReal) := by
  unfold Adam20.gr
  match l with
  | ⟨0, _⟩ =>
    rw [if_pos rfl]
    pointwise
    first | done | rfl
  | ⟨1, _⟩ =>
    rw [if_neg (by simp only [Nat.one_ne_zero, not_false_eq_true])]
    pointwise
    first | done | rfl

/-- The reference's step from its gradient. -/
theorem res1_at (g w mo vo : FVec Ideal S2x1024x352 .f32) (l : Fin 2) (i : Fin 1024) (j : Fin 352) :
    (mulf (broadcastInDim S2x1024x352 ![] bcast_S_S2x1024x352 (constant S_ .f32 0xBA83126F#32)) (addf (Host.divf (Host.divf (addf (mulf (broadcastInDim S2x1024x352 ![] bcast_S_S2x1024x352 (constant S_ .f32 0x3F666666#32)) mo) (mulf (broadcastInDim S2x1024x352 ![] bcast_S_S2x1024x352 (constant S_ .f32 0x3DCCCCCD#32)) g)) (broadcastInDim S2x1024x352 ![] bcast_S_S2x1024x352 (constant S_ .f32 0x3F26BD02#32))) (addf (Host.sqrt (Host.divf (addf (mulf (broadcastInDim S2x1024x352 ![] bcast_S_S2x1024x352 (constant S_ .f32 0x3F7FBE77#32)) vo) (mulf (broadcastInDim S2x1024x352 ![] bcast_S_S2x1024x352 (constant S_ .f32 0x3A83126F#32)) (mulf g g))) (broadcastInDim S2x1024x352 ![] bcast_S_S2x1024x352 (constant S_ .f32 0x3C231ACC#32)))) (broadcastInDim S2x1024x352 ![] bcast_S_S2x1024x352 (constant S_ .f32 0x322BCC77#32)))) (mulf (broadcastInDim S2x1024x352 ![] bcast_S_S2x1024x352 (constant S_ .f32 0x3C23D70A#32)) w))
      : FVec Ideal S2x1024x352 .f32) (ix3 l i j) = (Adam.delta (g (ix3 l i j)) (w (ix3 l i j)) (mo (ix3 l i j)) (vo (ix3 l i j)) : EReal) := by
  unfold Adam.delta Adam.upM Adam.upV
  pointwise

/-- The reference's first moment from its gradient. -/
theorem res2_at (g mo : FVec Ideal S2x1024x352 .f32) (l : Fin 2) (i : Fin 1024) (j : Fin 352) :
    (addf (mulf (broadcastInDim S2x1024x352 ![] bcast_S_S2x1024x352 (constant S_ .f32 0x3F666666#32)) mo) (mulf (broadcastInDim S2x1024x352 ![] bcast_S_S2x1024x352 (constant S_ .f32 0x3DCCCCCD#32)) g)
      : FVec Ideal S2x1024x352 .f32) (ix3 l i j) = (Adam.upM (g (ix3 l i j)) (mo (ix3 l i j)) : EReal) := by
  unfold Adam.upM
  pointwise

/-- The reference's second moment from its gradient. -/
theorem res3_at (g vo : FVec Ideal S2x1024x352 .f32) (l : Fin 2) (i : Fin 1024) (j : Fin 352) :
    (addf (mulf (broadcastInDim S2x1024x352 ![] bcast_S_S2x1024x352 (constant S_ .f32 0x3F7FBE77#32)) vo) (mulf (broadcastInDim S2x1024x352 ![] bcast_S_S2x1024x352 (constant S_ .f32 0x3A83126F#32)) (mulf g g))
      : FVec Ideal S2x1024x352 .f32) (ix3 l i j) = (Adam.upV (g (ix3 l i j)) (vo (ix3 l i j)) : EReal) := by
  unfold Adam.upV
  pointwise

end Cert.Reference20Ideal.Value

namespace Cert.K20

instance : Cert.Kernel20.Facts := Cert.Kernel20.Gen.facts
instance : Cert.Kernel20Ideal.Facts := Cert.Kernel20Ideal.Gen.facts
instance : Cert.Reference20Ideal.Facts := Cert.Reference20Ideal.Gen.facts

/-- The reference leaves its arguments and all counters as it found them. -/
theorem ref_quiet : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

/-- The results are equal. -/
theorem algebraic : Cert.algebraic_Kernel20Ideal_Reference20Ideal := by
  intro m ρ m' ρ' _ ha
  refine ⟨fun c => Cert.Kernel20Ideal.Value.R5 m c, fun c => Cert.Kernel20Ideal.Value.R6 m c, fun c => Cert.Kernel20Ideal.Value.R7 m c,
    fun c => Cert.Kernel20Ideal.Value.R8 m c, (θ_run Cert.Kernel20Ideal.defs _ _).mono
    (fun _ h c => ⟨(h c).1.trans (Cert.Kernel20Ideal.Value.final5 m c), (h c).2.1.trans (Cert.Kernel20Ideal.Value.final6 m c),
      (h c).2.2.1.trans (Cert.Kernel20Ideal.Value.final7 m c), (h c).2.2.2.1.trans (Cert.Kernel20Ideal.Value.final8 m c), (h c).2.2.2.2⟩)
    (Cert.Kernel20Ideal.Value.run_blocks (F := Ideal) m ρ), ?_⟩
  refine (θ_run Cert.Reference20Ideal.defs _ _).mono (fun _ h c => ⟨(h c).1.trans ?_, (h c).2.1.trans ?_, (h c).2.2.1.trans ?_,
    (h c).2.2.2.1.trans ?_, (h c).2.2.2.2⟩)
    (Cert.Reference20Ideal.Value.run (F := Ideal) m' ρ')
  · obtain ⟨h0, h1, h2, h3, h4⟩ := ha c
    rw [h0, h1]
    funext i
    idx_vars i
    rw [Cert.Kernel20Ideal.Value.R5_at]
    exact Cert.Reference20Ideal.Value.res0_at _ _ i0 i1 i2
  · obtain ⟨h0, h1, h2, h3, h4⟩ := ha c
    rw [h0, h1, h2, h3, h4]
    funext i
    idx_vars i
    rw [Cert.Kernel20Ideal.Value.R6_at]
    refine (Cert.Reference20Ideal.Value.res1_at _ _ _ _ i0 i1 i2).trans ?_
    rw [Cert.Reference20Ideal.Value.res0_at]
  · obtain ⟨h0, h1, h2, h3, h4⟩ := ha c
    rw [h0, h1, h3]
    funext i
    idx_vars i
    rw [Cert.Kernel20Ideal.Value.R7_at]
    refine (Cert.Reference20Ideal.Value.res2_at _ _ i0 i1 i2).trans ?_
    rw [Cert.Reference20Ideal.Value.res0_at]
  · obtain ⟨h0, h1, h2, h3, h4⟩ := ha c
    rw [h0, h1, h4]
    funext i
    idx_vars i
    rw [Cert.Kernel20Ideal.Value.R8_at]
    refine (Cert.Reference20Ideal.Value.res3_at _ _ i0 i1 i2).trans ?_
    rw [Cert.Reference20Ideal.Value.res0_at]

end Cert.K20

end
-- ==== Proof.K21Value.lean ====
/- The optimiser's update of the down projection weight: what the kernel leaves in its result arrays. -/
module

public import proofs.«01_k».proof.Proof.Gen.Kernel21Ideal.Value
public import proofs.«01_k».proof.Proof.Adam
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Adam21
open Cert.Kernel21Ideal

/-- The gradient: the sum of the devices' parts. -/
def gr (s0 : FVec Ideal S8x384x1024 .bf16) (s1 : FVec Ideal S8x384x1024 .bf16) (l : Fin 2) (i : Fin 352) (j : Fin 1024) : EReal :=
  if l.val = 0 then ∑ d : Fin 8, s0 (ix3 d ⟨i.val, by omega⟩ j) else ∑ d : Fin 8, s1 (ix3 d ⟨i.val, by omega⟩ j)

end Cert.Adam21

open Idealize.ShloMosaic.Pipeline (Dat)

namespace Cert.Kernel21Ideal.Value
open Cert.Kernel21Ideal Cert.Kernel21Ideal.Gen

variable (m : (ℓ : Loc nD τ sig) → Buf (Elt Ideal) ℓ) (c : Dev nD)

/-- The block indices of the windows at each grid point. -/
theorem idx_val : ∀ t : Fin cfg0.N,
    win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] :=
  (by decide +kernel : ∀ t : Fin grid0.N, _)

theorem idx_s0 : ∀ t : Fin cfg0.N, t.val < 4 → win0_0.index t = ![0, t.val, 0] :=
  (by decide +kernel : ∀ t : Fin grid0.N, _)

theorem idx_s1 : ∀ t : Fin cfg0.N, 4 ≤ t.val → win0_1.index t = ![0, t.val - 4, 0] :=
  (by decide +kernel : ∀ t : Fin grid0.N, _)

/-- The blocks in use at a point. -/
def B0 (t : Fin cfg0.N) : FVec Ideal S8x88x1024 .bf16 := X0_0 m c t
def B1 (t : Fin cfg0.N) : FVec Ideal S8x88x1024 .bf16 := X0_1 m c t
def B2 (t : Fin cfg0.N) : FVec Ideal S1x88x1024 .f32 := iblk m c 2 t
def B3 (t : Fin cfg0.N) : FVec Ideal S1x88x1024 .f32 := iblk m c 3 t
def B4 (t : Fin cfg0.N) : FVec Ideal S1x88x1024 .f32 := iblk m c 4 t

/-- The arrays of the arguments. -/
abbrev s0 : FVec Ideal S8x384x1024 .bf16 := m ((c.tc : Thread nD τ).loc main_arg0)
abbrev s1 : FVec Ideal S8x384x1024 .bf16 := m ((c.tc : Thread nD τ).loc main_arg1)
abbrev w : FVec Ideal S2x352x1024 .f32 := m ((c.tc : Thread nD τ).loc main_arg2)
abbrev mo : FVec Ideal S2x352x1024 .f32 := m ((c.tc : Thread nD τ).loc main_arg3)
abbrev vo : FVec Ideal S2x352x1024 .f32 := m ((c.tc : Thread nD τ).loc main_arg4)

theorem tlt (t : Fin cfg0.N) : t.val < 8 := lt_of_lt_of_eq t.isLt (show cfg0.N = 8 from N_0)

/-- The gradient a point writes, of the first matrix. -/
theorem out5_A (t : Fin cfg0.N) (h0 : t.val < 4) (a : Fin 88) (b : Fin 1024) :
    (outsAt0 m c t.val t.isLt).1 (ix3 0 a b) = ((∑ d : Fin 8, B0 m c t (ix3 d a b)) : EReal) := by
  have hN := tlt t
  rw [outsAt0_A m c t (by omega) (by omega)]
  frame_out
  rw [Fin.sum_univ_eight]
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The step a point writes, of the first matrix. -/
theorem out6_A (t : Fin cfg0.N) (h0 : t.val < 4) (a : Fin 88) (b : Fin 1024) :
    (outsAt0 m c t.val t.isLt).2.1 (ix3 0 a b) = (Adam.delta (∑ d : Fin 8, B0 m c t (ix3 d a b)) (B2 m c t (ix3 0 a b)) (B3 m c t (ix3 0 a b)) (B4 m c t (ix3 0 a b)) : EReal) := by
  have hN := tlt t
  rw [outsAt0_A m c t (by omega) (by omega)]
  frame_out
  rw [Fin.sum_univ_eight]
  unfold Adam.delta Adam.upM Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The first moment a point writes, of the first matrix. -/
theorem out7_A (t : Fin cfg0.N) (h0 : t.val < 4) (a : Fin 88) (b : Fin 1024) :
    (outsAt0 m c t.val t.isLt).2.2.1 (ix3 0 a b) = (Adam.upM (∑ d : Fin 8, B0 m c t (ix3 d a b)) (B3 m c t (ix3 0 a b)) : EReal) := by
  have hN := tlt t
  rw [outsAt0_A m c t (by omega) (by omega)]
  frame_out
  rw [Fin.sum_univ_eight]
  unfold Adam.upM
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The second moment a point writes, of the first matrix. -/
theorem out8_A (t : Fin cfg0.N) (h0 : t.val < 4) (a : Fin 88) (b : Fin 1024) :
    (outsAt0 m c t.val t.isLt).2.2.2 (ix3 0 a b) = (Adam.upV (∑ d : Fin 8, B0 m c t (ix3 d a b)) (B4 m c t (ix3 0 a b)) : EReal) := by
  have hN := tlt t
  rw [outsAt0_A m c t (by omega) (by omega)]
  frame_out
  rw [Fin.sum_univ_eight]
  unfold Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The gradient a point writes, of the second matrix. -/
theorem out5_B (t : Fin cfg0.N) (h0 : 4 ≤ t.val) (a : Fin 88) (b : Fin 1024) :
    (outsAt0 m c t.val t.isLt).1 (ix3 0 a b) = ((∑ d : Fin 8, B1 m c t (ix3 d a b)) : EReal) := by
  have hN := tlt t
  rw [outsAt0_B m c t (by omega) (by omega)]
  frame_out
  rw [Fin.sum_univ_eight]
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The step a point writes, of the second matrix. -/
theorem out6_B (t : Fin cfg0.N) (h0 : 4 ≤ t.val) (a : Fin 88) (b : Fin 1024) :
    (outsAt0 m c t.val t.isLt).2.1 (ix3 0 a b) = (Adam.delta (∑ d : Fin 8, B1 m c t (ix3 d a b)) (B2 m c t (ix3 0 a b)) (B3 m c t (ix3 0 a b)) (B4 m c t (ix3 0 a b)) : EReal) := by
  have hN := tlt t
  rw [outsAt0_B m c t (by omega) (by omega)]
  frame_out
  rw [Fin.sum_univ_eight]
  unfold Adam.delta Adam.upM Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The first moment a point writes, of the second matrix. -/
theorem out7_B (t : Fin cfg0.N) (h0 : 4 ≤ t.val) (a : Fin 88) (b : Fin 1024) :
    (outsAt0 m c t.val t.isLt).2.2.1 (ix3 0 a b) = (Adam.upM (∑ d : Fin 8, B1 m c t (ix3 d a b)) (B3 m c t (ix3 0 a b)) : EReal) := by
  have hN := tlt t
  rw [outsAt0_B m c t (by omega) (by omega)]
  frame_out
  rw [Fin.sum_univ_eight]
  unfold Adam.upM
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The second moment a point writes, of the second matrix. -/
theorem out8_B (t : Fin cfg0.N) (h0 : 4 ≤ t.val) (a : Fin 88) (b : Fin 1024) :
    (outsAt0 m c t.val t.isLt).2.2.2 (ix3 0 a b) = (Adam.upV (∑ d : Fin 8, B1 m c t (ix3 d a b)) (B4 m c t (ix3 0 a b)) : EReal) := by
  have hN := tlt t
  rw [outsAt0_B m c t (by omega) (by omega)]
  frame_out
  rw [Fin.sum_univ_eight]
  unfold Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

theorem blks0 (t : Fin cfg0.N) (h0 : t.val < 4) (d : Fin 8) (a : Fin 88) (b : Fin 1024) (l : Fin 2) (i : Fin 352) (j : Fin 1024) (hl : l.val = t.val / 4) (hi : i.val = 88 * (t.val % 4) + a.val) (hj : j.val = b.val) :
    B0 m c t (ix3 d a b) = s0 m c (ix3 d ⟨i.val, by omega⟩ j) := by
  have hN := tlt t
  unfold B0 X0_0 Pipeline.Window.fill
  rw [dif_pos (moved0_0 t _)]
  blk_ext [iblk, V, idx_s0 t h0]

theorem blks1 (t : Fin cfg0.N) (h0 : 4 ≤ t.val) (d : Fin 8) (a : Fin 88) (b : Fin 1024) (l : Fin 2) (i : Fin 352) (j : Fin 1024) (hl : l.val = t.val / 4) (hi : i.val = 88 * (t.val % 4) + a.val) (hj : j.val = b.val) :
    B1 m c t (ix3 d a b) = s1 m c (ix3 d ⟨i.val, by omega⟩ j) := by
  have hN := tlt t
  unfold B1 X0_1 Pipeline.Window.fill
  rw [dif_pos (moved0_1 t _)]
  blk_ext [iblk, V, idx_s1 t h0]

theorem blk2 (t : Fin cfg0.N) (a : Fin 88) (b : Fin 1024) (l : Fin 2) (i : Fin 352) (j : Fin 1024) (hl : l.val = t.val / 4) (hi : i.val = 88 * (t.val % 4) + a.val) (hj : j.val = b.val) :
    B2 m c t (ix3 0 a b) = w m c (ix3 l i j) := by
  have hN := tlt t
  unfold B2
  blk_ext [iblk, V, idx_val t]

theorem blk3 (t : Fin cfg0.N) (a : Fin 88) (b : Fin 1024) (l : Fin 2) (i : Fin 352) (j : Fin 1024) (hl : l.val = t.val / 4) (hi : i.val = 88 * (t.val % 4) + a.val) (hj : j.val = b.val) :
    B3 m c t (ix3 0 a b) = mo m c (ix3 l i j) := by
  have hN := tlt t
  unfold B3
  blk_ext [iblk, V, idx_val t]

theorem blk4 (t : Fin cfg0.N) (a : Fin 88) (b : Fin 1024) (l : Fin 2) (i : Fin 352) (j : Fin 1024) (hl : l.val = t.val / 4) (hi : i.val = 88 * (t.val % 4) + a.val) (hj : j.val = b.val) :
    B4 m c t (ix3 0 a b) = vo m c (ix3 l i j) := by
  have hN := tlt t
  unfold B4
  blk_ext [iblk, V, idx_val t]

theorem out5_at (t : Fin cfg0.N) (a : Fin 88) (b : Fin 1024) (l : Fin 2) (i : Fin 352) (j : Fin 1024) (hl : l.val = t.val / 4) (hi : i.val = 88 * (t.val % 4) + a.val) (hj : j.val = b.val) :
    (outsAt0 m c t.val t.isLt).1 (ix3 0 a b) = ((Adam21.gr (s0 m c) (s1 m c) l i j) : EReal) := by
  have hN := tlt t
  rcases Nat.lt_or_ge t.val 4 with h0 | h0
  · rw [out5_A m c t h0 a b]
    unfold Adam21.gr
    rw [if_pos (by omega)]
    simp only [blks0 m c t h0 _ a b l i j hl hi hj]
  · rw [out5_B m c t h0 a b]
    unfold Adam21.gr
    rw [if_neg (by omega)]
    simp only [blks1 m c t h0 _ a b l i j hl hi hj]

/-- The array of the gradient. -/
def R5 : FVec Ideal S2x352x1024 .f32 := fun i =>
  ((Adam21.gr (s0 m c) (s1 m c) (i 0) (i 1) (i 2)) : EReal)

theorem R5_at (l : Fin 2) (i : Fin 352) (j : Fin 1024) : R5 m c (ix3 l i j) = ((Adam21.gr (s0 m c) (s1 m c) l i j) : EReal) := rfl

theorem final5 : (dats m 0 c).arrAt 5 cfg0.N = R5 m c := by
  refine (dats m 0 c).arrAt_eq_of_covers 5 _ (by decide +kernel) fun t hf y => ?_
  blk_simp
  rw [after0_5]
  idx_vars y
  obtain rfl : y0 = 0 := Subsingleton.elim _ _
  have hN := tlt t
  have h1 := y1.isLt
  have h2 := y2.isLt
  have e : ((View.whole main_v0_0).slice (win0_5.rect t)).emb (ix3 0 y1 y2)
      = ix3 (⟨t.val / 4, by omega⟩ : Fin 2) (⟨88 * (t.val % 4) + y1.val, by omega⟩ : Fin 352) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = 88 * (t.val % 4) + y1.val; omega)
    | ⟨2, _⟩ =>
      blk_simp [idx_val t]
      first | done | rfl
  rw [e, R5_at]
  exact out5_at m c t y1 y2 _ _ _ rfl rfl rfl

theorem out6_at (t : Fin cfg0.N) (a : Fin 88) (b : Fin 1024) (l : Fin 2) (i : Fin 352) (j : Fin 1024) (hl : l.val = t.val / 4) (hi : i.val = 88 * (t.val % 4) + a.val) (hj : j.val = b.val) :
    (outsAt0 m c t.val t.isLt).2.1 (ix3 0 a b) = (Adam.delta (Adam21.gr (s0 m c) (s1 m c) l i j) (w m c (ix3 l i j)) (mo m c (ix3 l i j)) (vo m c (ix3 l i j)) : EReal) := by
  have hN := tlt t
  rcases Nat.lt_or_ge t.val 4 with h0 | h0
  · rw [out6_A m c t h0 a b, blk2 m c t a b l i j hl hi hj, blk3 m c t a b l i j hl hi hj, blk4 m c t a b l i j hl hi hj]
    unfold Adam21.gr
    rw [if_pos (by omega)]
    simp only [blks0 m c t h0 _ a b l i j hl hi hj]
  · rw [out6_B m c t h0 a b, blk2 m c t a b l i j hl hi hj, blk3 m c t a b l i j hl hi hj, blk4 m c t a b l i j hl hi hj]
    unfold Adam21.gr
    rw [if_neg (by omega)]
    simp only [blks1 m c t h0 _ a b l i j hl hi hj]

/-- The array of the step. -/
def R6 : FVec Ideal S2x352x1024 .f32 := fun i =>
  (Adam.delta (Adam21.gr (s0 m c) (s1 m c) (i 0) (i 1) (i 2)) (w m c (ix3 (i 0) (i 1) (i 2))) (mo m c (ix3 (i 0) (i 1) (i 2))) (vo m c (ix3 (i 0) (i 1) (i 2))) : EReal)

theorem R6_at (l : Fin 2) (i : Fin 352) (j : Fin 1024) : R6 m c (ix3 l i j) = (Adam.delta (Adam21.gr (s0 m c) (s1 m c) l i j) (w m c (ix3 l i j)) (mo m c (ix3 l i j)) (vo m c (ix3 l i j)) : EReal) := rfl

theorem final6 : (dats m 0 c).arrAt 6 cfg0.N = R6 m c := by
  refine (dats m 0 c).arrAt_eq_of_covers 6 _ (by decide +kernel) fun t hf y => ?_
  blk_simp
  rw [after0_6]
  idx_vars y
  obtain rfl : y0 = 0 := Subsingleton.elim _ _
  have hN := tlt t
  have h1 := y1.isLt
  have h2 := y2.isLt
  have e : ((View.whole main_v0_1).slice (win0_6.rect t)).emb (ix3 0 y1 y2)
      = ix3 (⟨t.val / 4, by omega⟩ : Fin 2) (⟨88 * (t.val % 4) + y1.val, by omega⟩ : Fin 352) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = 88 * (t.val % 4) + y1.val; omega)
    | ⟨2, _⟩ =>
      blk_simp [idx_val t]
      first | done | rfl
  rw [e, R6_at]
  exact out6_at m c t y1 y2 _ _ _ rfl rfl rfl

theorem out7_at (t : Fin cfg0.N) (a : Fin 88) (b : Fin 1024) (l : Fin 2) (i : Fin 352) (j : Fin 1024) (hl : l.val = t.val / 4) (hi : i.val = 88 * (t.val % 4) + a.val) (hj : j.val = b.val) :
    (outsAt0 m c t.val t.isLt).2.2.1 (ix3 0 a b) = (Adam.upM (Adam21.gr (s0 m c) (s1 m c) l i j) (mo m c (ix3 l i j)) : EReal) := by
  have hN := tlt t
  rcases Nat.lt_or_ge t.val 4 with h0 | h0
  · rw [out7_A m c t h0 a b, blk3 m c t a b l i j hl hi hj]
    unfold Adam21.gr
    rw [if_pos (by omega)]
    simp only [blks0 m c t h0 _ a b l i j hl hi hj]
  · rw [out7_B m c t h0 a b, blk3 m c t a b l i j hl hi hj]
    unfold Adam21.gr
    rw [if_neg (by omega)]
    simp only [blks1 m c t h0 _ a b l i j hl hi hj]

/-- The array of the first moment. -/
def R7 : FVec Ideal S2x352x1024 .f32 := fun i =>
  (Adam.upM (Adam21.gr (s0 m c) (s1 m c) (i 0) (i 1) (i 2)) (mo m c (ix3 (i 0) (i 1) (i 2))) : EReal)

theorem R7_at (l : Fin 2) (i : Fin 352) (j : Fin 1024) : R7 m c (ix3 l i j) = (Adam.upM (Adam21.gr (s0 m c) (s1 m c) l i j) (mo m c (ix3 l i j)) : EReal) := rfl

theorem final7 : (dats m 0 c).arrAt 7 cfg0.N = R7 m c := by
  refine (dats m 0 c).arrAt_eq_of_covers 7 _ (by decide +kernel) fun t hf y => ?_
  blk_simp
  rw [after0_7]
  idx_vars y
  obtain rfl : y0 = 0 := Subsingleton.elim _ _
  have hN := tlt t
  have h1 := y1.isLt
  have h2 := y2.isLt
  have e : ((View.whole main_v0_2).slice (win0_7.rect t)).emb (ix3 0 y1 y2)
      = ix3 (⟨t.val / 4, by omega⟩ : Fin 2) (⟨88 * (t.val % 4) + y1.val, by omega⟩ : Fin 352) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = 88 * (t.val % 4) + y1.val; omega)
    | ⟨2, _⟩ =>
      blk_simp [idx_val t]
      first | done | rfl
  rw [e, R7_at]
  exact out7_at m c t y1 y2 _ _ _ rfl rfl rfl

theorem out8_at (t : Fin cfg0.N) (a : Fin 88) (b : Fin 1024) (l : Fin 2) (i : Fin 352) (j : Fin 1024) (hl : l.val = t.val / 4) (hi : i.val = 88 * (t.val % 4) + a.val) (hj : j.val = b.val) :
    (outsAt0 m c t.val t.isLt).2.2.2 (ix3 0 a b) = (Adam.upV (Adam21.gr (s0 m c) (s1 m c) l i j) (vo m c (ix3 l i j)) : EReal) := by
  have hN := tlt t
  rcases Nat.lt_or_ge t.val 4 with h0 | h0
  · rw [out8_A m c t h0 a b, blk4 m c t a b l i j hl hi hj]
    unfold Adam21.gr
    rw [if_pos (by omega)]
    simp only [blks0 m c t h0 _ a b l i j hl hi hj]
  · rw [out8_B m c t h0 a b, blk4 m c t a b l i j hl hi hj]
    unfold Adam21.gr
    rw [if_neg (by omega)]
    simp only [blks1 m c t h0 _ a b l i j hl hi hj]

/-- The array of the second moment. -/
def R8 : FVec Ideal S2x352x1024 .f32 := fun i =>
  (Adam.upV (Adam21.gr (s0 m c) (s1 m c) (i 0) (i 1) (i 2)) (vo m c (ix3 (i 0) (i 1) (i 2))) : EReal)

theorem R8_at (l : Fin 2) (i : Fin 352) (j : Fin 1024) : R8 m c (ix3 l i j) = (Adam.upV (Adam21.gr (s0 m c) (s1 m c) l i j) (vo m c (ix3 l i j)) : EReal) := rfl

theorem final8 : (dats m 0 c).arrAt 8 cfg0.N = R8 m c := by
  refine (dats m 0 c).arrAt_eq_of_covers 8 _ (by decide +kernel) fun t hf y => ?_
  blk_simp
  rw [after0_8]
  idx_vars y
  obtain rfl : y0 = 0 := Subsingleton.elim _ _
  have hN := tlt t
  have h1 := y1.isLt
  have h2 := y2.isLt
  have e : ((View.whole main_v0_3).slice (win0_8.rect t)).emb (ix3 0 y1 y2)
      = ix3 (⟨t.val / 4, by omega⟩ : Fin 2) (⟨88 * (t.val % 4) + y1.val, by omega⟩ : Fin 352) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = 88 * (t.val % 4) + y1.val; omega)
    | ⟨2, _⟩ =>
      blk_simp [idx_val t]
      first | done | rfl
  rw [e, R8_at]
  exact out8_at m c t y1 y2 _ _ _ rfl rfl rfl

end Cert.Kernel21Ideal.Value

end
-- ==== Proof.K21Claim.lean ====
/- The optimiser's update of the down projection weight: the reference's entries, and the claims. -/
module

public import proofs.«01_k».proof.Defs
public import proofs.«01_k».proof.Proof.K21Value
public import proofs.«01_k».proof.Proof.Gen.Reference21Ideal.Run
public import proofs.«01_k».proof.Proof.Gen.Kernel21.Frame
public import Idealize.ShloMosaic.Lib.Quiescent

@[expose] public section

set_option maxRecDepth 16384

noncomputable section

open Idealize.ShloMosaic Idealize.ShloMosaic.TcCoe Idealize.SL.Sem

namespace Cert.Reference21Ideal.Value
open Cert.Reference21Ideal Cert.Reference21Ideal.Gen

/-- The reference's gradient, entry by entry. -/
theorem res0_at (s0 : FVec Ideal S8x384x1024 .bf16) (s1 : FVec Ideal S8x384x1024 .bf16) (l : Fin 2) (i : Fin 352) (j : Fin 1024) :
    (concatenate S2x352x1024 0 [⟨S1x352x1024, (broadcastInDim S1x352x1024 ![1, 2] bcast_S352x1024_S1x352x1024_1_2 (extractStridedSlice S352x1024 ![0, 0] (Host.reduceAdd (extf .f32 s0 bitsLt_bf16_f32) (constant S_ .f32 0x00000000#32) reducesTo_S8x384x1024_S384x1024_d0 h_S_) slices_S384x1024_S352x1024_0_0))⟩, ⟨S1x352x1024, (broadcastInDim S1x352x1024 ![1, 2] bcast_S352x1024_S1x352x1024_1_2 (extractStridedSlice S352x1024 ![0, 0] (Host.reduceAdd (extf .f32 s1 bitsLt_bf16_f32) (constant S_ .f32 0x00000000#32) reducesTo_S8x384x1024_S384x1024_d0 h_S_) slices_S384x1024_S352x1024_0_0))⟩] concatenates_S1x352x1024_S1x352x1024_S2x352x1024_d0
      : FVec Ideal S2x352x1024 .f32) (ix3 l i j) = (Adam21.gr s0 s1 l i j : EReal) := by
  unfold Adam21.gr
  match l with
  | ⟨0, _⟩ =>
    rw [if_pos rfl]
    pointwise
    first | done | rfl
  | ⟨1, _⟩ =>
    rw [if_neg (by simp only [Nat.one_ne_zero, not_false_eq_true])]
    pointwise
    first | done | rfl

/-- The reference's step from its gradient. -/
theorem res1_at (g w mo vo : FVec Ideal S2x352x1024 .f32) (l : Fin 2) (i : Fin 352) (j : Fin 1024) :
    (mulf (broadcastInDim S2x352x1024 ![] bcast_S_S2x352x1024 (constant S_ .f32 0xBA83126F#32)) (addf (Host.divf (Host.divf (addf (mulf (broadcastInDim S2x352x1024 ![] bcast_S_S2x352x1024 (constant S_ .f32 0x3F666666#32)) mo) (mulf (broadcastInDim S2x352x1024 ![] bcast_S_S2x352x1024 (constant S_ .f32 0x3DCCCCCD#32)) g)) (broadcastInDim S2x352x1024 ![] bcast_S_S2x352x1024 (constant S_ .f32 0x3F26BD02#32))) (addf (Host.sqrt (Host.divf (addf (mulf (broadcastInDim S2x352x1024 ![] bcast_S_S2x352x1024 (constant S_ .f32 0x3F7FBE77#32)) vo) (mulf (broadcastInDim S2x352x1024 ![] bcast_S_S2x352x1024 (constant S_ .f32 0x3A83126F#32)) (mulf g g))) (broadcastInDim S2x352x1024 ![] bcast_S_S2x352x1024 (constant S_ .f32 0x3C231ACC#32)))) (broadcastInDim S2x352x1024 ![] bcast_S_S2x352x1024 (constant S_ .f32 0x322BCC77#32)))) (mulf (broadcastInDim S2x352x1024 ![] bcast_S_S2x352x1024 (constant S_ .f32 0x3C23D70A#32)) w))
      : FVec Ideal S2x352x1024 .f32) (ix3 l i j) = (Adam.delta (g (ix3 l i j)) (w (ix3 l i j)) (mo (ix3 l i j)) (vo (ix3 l i j)) : EReal) := by
  unfold Adam.delta Adam.upM Adam.upV
  pointwise

/-- The reference's first moment from its gradient. -/
theorem res2_at (g mo : FVec Ideal S2x352x1024 .f32) (l : Fin 2) (i : Fin 352) (j : Fin 1024) :
    (addf (mulf (broadcastInDim S2x352x1024 ![] bcast_S_S2x352x1024 (constant S_ .f32 0x3F666666#32)) mo) (mulf (broadcastInDim S2x352x1024 ![] bcast_S_S2x352x1024 (constant S_ .f32 0x3DCCCCCD#32)) g)
      : FVec Ideal S2x352x1024 .f32) (ix3 l i j) = (Adam.upM (g (ix3 l i j)) (mo (ix3 l i j)) : EReal) := by
  unfold Adam.upM
  pointwise

/-- The reference's second moment from its gradient. -/
theorem res3_at (g vo : FVec Ideal S2x352x1024 .f32) (l : Fin 2) (i : Fin 352) (j : Fin 1024) :
    (addf (mulf (broadcastInDim S2x352x1024 ![] bcast_S_S2x352x1024 (constant S_ .f32 0x3F7FBE77#32)) vo) (mulf (broadcastInDim S2x352x1024 ![] bcast_S_S2x352x1024 (constant S_ .f32 0x3A83126F#32)) (mulf g g))
      : FVec Ideal S2x352x1024 .f32) (ix3 l i j) = (Adam.upV (g (ix3 l i j)) (vo (ix3 l i j)) : EReal) := by
  unfold Adam.upV
  pointwise

end Cert.Reference21Ideal.Value

namespace Cert.K21

instance : Cert.Kernel21.Facts := Cert.Kernel21.Gen.facts
instance : Cert.Kernel21Ideal.Facts := Cert.Kernel21Ideal.Gen.facts
instance : Cert.Reference21Ideal.Facts := Cert.Reference21Ideal.Gen.facts

/-- The reference leaves its arguments and all counters as it found them. -/
theorem ref_quiet : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

/-- The results are equal. -/
theorem algebraic : Cert.algebraic_Kernel21Ideal_Reference21Ideal := by
  intro m ρ m' ρ' _ ha
  refine ⟨fun c => Cert.Kernel21Ideal.Value.R5 m c, fun c => Cert.Kernel21Ideal.Value.R6 m c, fun c => Cert.Kernel21Ideal.Value.R7 m c,
    fun c => Cert.Kernel21Ideal.Value.R8 m c, (θ_run Cert.Kernel21Ideal.defs _ _).mono
    (fun _ h c => ⟨(h c).1.trans (Cert.Kernel21Ideal.Value.final5 m c), (h c).2.1.trans (Cert.Kernel21Ideal.Value.final6 m c),
      (h c).2.2.1.trans (Cert.Kernel21Ideal.Value.final7 m c), (h c).2.2.2.1.trans (Cert.Kernel21Ideal.Value.final8 m c), (h c).2.2.2.2⟩)
    (Cert.Kernel21Ideal.Value.run_blocks (F := Ideal) m ρ), ?_⟩
  refine (θ_run Cert.Reference21Ideal.defs _ _).mono (fun _ h c => ⟨(h c).1.trans ?_, (h c).2.1.trans ?_, (h c).2.2.1.trans ?_,
    (h c).2.2.2.1.trans ?_, (h c).2.2.2.2⟩)
    (Cert.Reference21Ideal.Value.run (F := Ideal) m' ρ')
  · obtain ⟨h0, h1, h2, h3, h4⟩ := ha c
    rw [h0, h1]
    funext i
    idx_vars i
    rw [Cert.Kernel21Ideal.Value.R5_at]
    exact Cert.Reference21Ideal.Value.res0_at _ _ i0 i1 i2
  · obtain ⟨h0, h1, h2, h3, h4⟩ := ha c
    rw [h0, h1, h2, h3, h4]
    funext i
    idx_vars i
    rw [Cert.Kernel21Ideal.Value.R6_at]
    refine (Cert.Reference21Ideal.Value.res1_at _ _ _ _ i0 i1 i2).trans ?_
    rw [Cert.Reference21Ideal.Value.res0_at]
  · obtain ⟨h0, h1, h2, h3, h4⟩ := ha c
    rw [h0, h1, h3]
    funext i
    idx_vars i
    rw [Cert.Kernel21Ideal.Value.R7_at]
    refine (Cert.Reference21Ideal.Value.res2_at _ _ i0 i1 i2).trans ?_
    rw [Cert.Reference21Ideal.Value.res0_at]
  · obtain ⟨h0, h1, h2, h3, h4⟩ := ha c
    rw [h0, h1, h4]
    funext i
    idx_vars i
    rw [Cert.Kernel21Ideal.Value.R8_at]
    refine (Cert.Reference21Ideal.Value.res3_at _ _ i0 i1 i2).trans ?_
    rw [Cert.Reference21Ideal.Value.res0_at]

end Cert.K21

end
-- ==== Proof.K22Value.lean ====
/- The optimiser's update of the embedding projection weight: what the kernel leaves in its result arrays. -/
module

public import proofs.«01_k».proof.Proof.Gen.Kernel22Ideal.Value
public import proofs.«01_k».proof.Proof.Adam
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Adam22
open Cert.Kernel22Ideal

/-- The gradient: the sum of the devices' parts. -/
def gr (s0 : FVec Ideal S8x256x128 .bf16) (s1 : FVec Ideal S8x256x128 .bf16) (l : Fin 2) (i : Fin 256) (j : Fin 128) : EReal :=
  if l.val = 0 then ∑ d : Fin 8, s0 (ix3 d i j) else ∑ d : Fin 8, s1 (ix3 d i j)

end Cert.Adam22

open Idealize.ShloMosaic.Pipeline (Dat)

namespace Cert.Kernel22Ideal.Value
open Cert.Kernel22Ideal Cert.Kernel22Ideal.Gen

variable (m : (ℓ : Loc nD τ sig) → Buf (Elt Ideal) ℓ) (c : Dev nD)

/-- The block indices of the windows at each grid point. -/
theorem idx_val : ∀ t : Fin cfg0.N,
    win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] :=
  (by decide +kernel : ∀ t : Fin grid0.N, _)

theorem idx_s0 : ∀ t : Fin cfg0.N, t.val < 1 → win0_0.index t = ![0, 0, 0] :=
  (by decide +kernel : ∀ t : Fin grid0.N, _)

theorem idx_s1 : ∀ t : Fin cfg0.N, 1 ≤ t.val → win0_1.index t = ![0, 0, 0] :=
  (by decide +kernel : ∀ t : Fin grid0.N, _)

/-- The blocks in use at a point. -/
def B0 (t : Fin cfg0.N) : FVec Ideal S8x256x128 .bf16 := iblk m c 0 t
def B1 (t : Fin cfg0.N) : FVec Ideal S8x256x128 .bf16 := iblk m c 1 t
def B2 (t : Fin cfg0.N) : FVec Ideal S1x256x128 .f32 := iblk m c 2 t
def B3 (t : Fin cfg0.N) : FVec Ideal S1x256x128 .f32 := iblk m c 3 t
def B4 (t : Fin cfg0.N) : FVec Ideal S1x256x128 .f32 := iblk m c 4 t

/-- The arrays of the arguments. -/
abbrev s0 : FVec Ideal S8x256x128 .bf16 := m ((c.tc : Thread nD τ).loc main_arg0)
abbrev s1 : FVec Ideal S8x256x128 .bf16 := m ((c.tc : Thread nD τ).loc main_arg1)
abbrev w : FVec Ideal S2x256x128 .f32 := m ((c.tc : Thread nD τ).loc main_arg2)
abbrev mo : FVec Ideal S2x256x128 .f32 := m ((c.tc : Thread nD τ).loc main_arg3)
abbrev vo : FVec Ideal S2x256x128 .f32 := m ((c.tc : Thread nD τ).loc main_arg4)

theorem tlt (t : Fin cfg0.N) : t.val < 2 := lt_of_lt_of_eq t.isLt (show cfg0.N = 2 from N_0)

/-- The gradient a point writes, of the first matrix. -/
theorem out5_A (t : Fin cfg0.N) (h0 : t.val < 1) (a : Fin 256) (b : Fin 128) :
    (outsAt0 m c t.val t.isLt).1 (ix3 0 a b) = ((∑ d : Fin 8, B0 m c t (ix3 d a b)) : EReal) := by
  have hN := tlt t
  rw [outsAt0_A m c t (by omega) (by omega)]
  frame_out
  rw [Fin.sum_univ_eight]
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The step a point writes, of the first matrix. -/
theorem out6_A (t : Fin cfg0.N) (h0 : t.val < 1) (a : Fin 256) (b : Fin 128) :
    (outsAt0 m c t.val t.isLt).2.1 (ix3 0 a b) = (Adam.delta (∑ d : Fin 8, B0 m c t (ix3 d a b)) (B2 m c t (ix3 0 a b)) (B3 m c t (ix3 0 a b)) (B4 m c t (ix3 0 a b)) : EReal) := by
  have hN := tlt t
  rw [outsAt0_A m c t (by omega) (by omega)]
  frame_out
  rw [Fin.sum_univ_eight]
  unfold Adam.delta Adam.upM Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The first moment a point writes, of the first matrix. -/
theorem out7_A (t : Fin cfg0.N) (h0 : t.val < 1) (a : Fin 256) (b : Fin 128) :
    (outsAt0 m c t.val t.isLt).2.2.1 (ix3 0 a b) = (Adam.upM (∑ d : Fin 8, B0 m c t (ix3 d a b)) (B3 m c t (ix3 0 a b)) : EReal) := by
  have hN := tlt t
  rw [outsAt0_A m c t (by omega) (by omega)]
  frame_out
  rw [Fin.sum_univ_eight]
  unfold Adam.upM
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The second moment a point writes, of the first matrix. -/
theorem out8_A (t : Fin cfg0.N) (h0 : t.val < 1) (a : Fin 256) (b : Fin 128) :
    (outsAt0 m c t.val t.isLt).2.2.2 (ix3 0 a b) = (Adam.upV (∑ d : Fin 8, B0 m c t (ix3 d a b)) (B4 m c t (ix3 0 a b)) : EReal) := by
  have hN := tlt t
  rw [outsAt0_A m c t (by omega) (by omega)]
  frame_out
  rw [Fin.sum_univ_eight]
  unfold Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The gradient a point writes, of the second matrix. -/
theorem out5_B (t : Fin cfg0.N) (h0 : 1 ≤ t.val) (a : Fin 256) (b : Fin 128) :
    (outsAt0 m c t.val t.isLt).1 (ix3 0 a b) = ((∑ d : Fin 8, B1 m c t (ix3 d a b)) : EReal) := by
  have hN := tlt t
  rw [outsAt0_B m c t (by omega) (by omega)]
  frame_out
  rw [Fin.sum_univ_eight]
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The step a point writes, of the second matrix. -/
theorem out6_B (t : Fin cfg0.N) (h0 : 1 ≤ t.val) (a : Fin 256) (b : Fin 128) :
    (outsAt0 m c t.val t.isLt).2.1 (ix3 0 a b) = (Adam.delta (∑ d : Fin 8, B1 m c t (ix3 d a b)) (B2 m c t (ix3 0 a b)) (B3 m c t (ix3 0 a b)) (B4 m c t (ix3 0 a b)) : EReal) := by
  have hN := tlt t
  rw [outsAt0_B m c t (by omega) (by omega)]
  frame_out
  rw [Fin.sum_univ_eight]
  unfold Adam.delta Adam.upM Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The first moment a point writes, of the second matrix. -/
theorem out7_B (t : Fin cfg0.N) (h0 : 1 ≤ t.val) (a : Fin 256) (b : Fin 128) :
    (outsAt0 m c t.val t.isLt).2.2.1 (ix3 0 a b) = (Adam.upM (∑ d : Fin 8, B1 m c t (ix3 d a b)) (B3 m c t (ix3 0 a b)) : EReal) := by
  have hN := tlt t
  rw [outsAt0_B m c t (by omega) (by omega)]
  frame_out
  rw [Fin.sum_univ_eight]
  unfold Adam.upM
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

/-- The second moment a point writes, of the second matrix. -/
theorem out8_B (t : Fin cfg0.N) (h0 : 1 ≤ t.val) (a : Fin 256) (b : Fin 128) :
    (outsAt0 m c t.val t.isLt).2.2.2 (ix3 0 a b) = (Adam.upV (∑ d : Fin 8, B1 m c t (ix3 d a b)) (B4 m c t (ix3 0 a b)) : EReal) := by
  have hN := tlt t
  rw [outsAt0_B m c t (by omega) (by omega)]
  frame_out
  rw [Fin.sum_univ_eight]
  unfold Adam.upV
  pointwise [k0_pay1, k0_pay2, k0_pay3, k0_pay4, k0_pay5, k0_pay6, k0_pay7, k0_pay8, k0_pay9, k0_pay10, k0_pay11, k0_pay12, k0_pay13, k0_pay14, k0_pay15, k0_pay16]
  first | done | rfl

theorem blks0 (t : Fin cfg0.N) (h0 : t.val < 1) (d : Fin 8) (a : Fin 256) (b : Fin 128) (l : Fin 2) (i : Fin 256) (j : Fin 128) (hl : l.val = t.val) (hi : i.val = a.val) (hj : j.val = b.val) :
    B0 m c t (ix3 d a b) = s0 m c (ix3 d i j) := by
  have hN := tlt t
  unfold B0
  blk_ext [iblk, V, idx_s0 t h0]

theorem blks1 (t : Fin cfg0.N) (h0 : 1 ≤ t.val) (d : Fin 8) (a : Fin 256) (b : Fin 128) (l : Fin 2) (i : Fin 256) (j : Fin 128) (hl : l.val = t.val) (hi : i.val = a.val) (hj : j.val = b.val) :
    B1 m c t (ix3 d a b) = s1 m c (ix3 d i j) := by
  have hN := tlt t
  unfold B1
  blk_ext [iblk, V, idx_s1 t h0]

theorem blk2 (t : Fin cfg0.N) (a : Fin 256) (b : Fin 128) (l : Fin 2) (i : Fin 256) (j : Fin 128) (hl : l.val = t.val) (hi : i.val = a.val) (hj : j.val = b.val) :
    B2 m c t (ix3 0 a b) = w m c (ix3 l i j) := by
  have hN := tlt t
  unfold B2
  blk_ext [iblk, V, idx_val t]

theorem blk3 (t : Fin cfg0.N) (a : Fin 256) (b : Fin 128) (l : Fin 2) (i : Fin 256) (j : Fin 128) (hl : l.val = t.val) (hi : i.val = a.val) (hj : j.val = b.val) :
    B3 m c t (ix3 0 a b) = mo m c (ix3 l i j) := by
  have hN := tlt t
  unfold B3
  blk_ext [iblk, V, idx_val t]

theorem blk4 (t : Fin cfg0.N) (a : Fin 256) (b : Fin 128) (l : Fin 2) (i : Fin 256) (j : Fin 128) (hl : l.val = t.val) (hi : i.val = a.val) (hj : j.val = b.val) :
    B4 m c t (ix3 0 a b) = vo m c (ix3 l i j) := by
  have hN := tlt t
  unfold B4
  blk_ext [iblk, V, idx_val t]

theorem out5_at (t : Fin cfg0.N) (a : Fin 256) (b : Fin 128) (l : Fin 2) (i : Fin 256) (j : Fin 128) (hl : l.val = t.val) (hi : i.val = a.val) (hj : j.val = b.val) :
    (outsAt0 m c t.val t.isLt).1 (ix3 0 a b) = ((Adam22.gr (s0 m c) (s1 m c) l i j) : EReal) := by
  have hN := tlt t
  rcases Nat.lt_or_ge t.val 1 with h0 | h0
  · rw [out5_A m c t h0 a b]
    unfold Adam22.gr
    rw [if_pos (by omega)]
    simp only [blks0 m c t h0 _ a b l i j hl hi hj]
  · rw [out5_B m c t h0 a b]
    unfold Adam22.gr
    rw [if_neg (by omega)]
    simp only [blks1 m c t h0 _ a b l i j hl hi hj]

/-- The array of the gradient. -/
def R5 : FVec Ideal S2x256x128 .f32 := fun i =>
  ((Adam22.gr (s0 m c) (s1 m c) (i 0) (i 1) (i 2)) : EReal)

theorem R5_at (l : Fin 2) (i : Fin 256) (j : Fin 128) : R5 m c (ix3 l i j) = ((Adam22.gr (s0 m c) (s1 m c) l i j) : EReal) := rfl

theorem final5 : (dats m 0 c).arrAt 5 cfg0.N = R5 m c := by
  refine (dats m 0 c).arrAt_eq_of_covers 5 _ (by decide +kernel) fun t hf y => ?_
  blk_simp
  rw [after0_5]
  idx_vars y
  obtain rfl : y0 = 0 := Subsingleton.elim _ _
  have hN := tlt t
  have h1 := y1.isLt
  have h2 := y2.isLt
  have e : ((View.whole main_v0_0).slice (win0_5.rect t)).emb (ix3 0 y1 y2)
      = ix3 (⟨t.val, by omega⟩ : Fin 2) (⟨y1.val, by omega⟩ : Fin 256) (⟨y2.val, by omega⟩ : Fin 128) := by
    funext a; apply Fin.ext
    match a with
    | ⟨0, _⟩ =>
      blk_simp [idx_val t]
      first | done | rfl
    | ⟨1, _⟩ =>
      blk_simp [idx_val t]
      first | done | (show _ = y1.val; omega)
    | ⟨2, _⟩ =>
      blk_simp [idx_val t]
      first | done | rfl
  rw [e, R5_at]
  exact out5_at m c t y1 y2 _ _ _ rfl rfl rfl

theorem out6_at (t : Fin cfg0.N) (a : Fin 256) (b : Fin 128) (l : Fin 2) (i : Fin 256) (j : Fin 128) (hl : l.val = t.val) (hi : i.val = a.val) (hj : j.val = b.val) :
    (outsAt0 m c t.val t.isLt).2.1 (ix3 0 a b) = (Adam.delta (Adam22.gr (s0 m c) (s1 m c) l i j) (w m c (ix3 l i j)) (mo m c (ix3 l i j)) (vo m c (ix3 l i j)) : EReal) := by
  have hN := tlt t
  rcases Nat.lt_or_ge t.val 1 with h0 | h0
  · rw [out6_A m c t h0 a b, blk2 m c t a b l i j hl hi hj, blk3 m c t a b l i j hl hi hj, blk4 m c t a b l i j hl hi hj]
    unfold Adam22.gr
    rw [if_pos (by omega)]
    simp only [blks0 m c t h0 _ a b l i j hl hi hj]
  · rw [out6_B m c t h0 a b, blk2 m c t a b l i j hl hi hj, blk3 m c t a b l i j hl hi hj, blk4 m c t a b l i j hl hi hj]
    unfold Adam22.gr
    rw [if_neg (by omega)]
    simp only [blks1 m c t h0 _ a b l i j hl hi hj]

/-- The array of the step. -/
def R6 : FVec Ideal S2x256x128 .f32 := fun i =>
  (Adam.delta (Adam22.gr (s0 m c) (s1 m c) (i 0) (i 1) (i 2)) (w m c (ix3 (i 0) (i 1) (i 2))) (mo m c (ix3 (i 0) (i 1) (i 2))) (vo m c (ix3 (i 0) (i 1) (i 2))) : EReal)

theorem R6_at (l : Fin 2) (i : Fin 256) (j : Fin 128) : R6 m c (ix3 l i j) = (Adam.delta (Adam22.gr (s0 m c) (s1 m c) l i j) (w m c (ix3 l i j)) (mo m c (ix3 l i j)) (vo m c (ix3 l i j)) : EReal) := rfl

theorem final6 : (dats m 0 c).arrAt 6 cfg0.N = R6 m c := by
  refine (dats m 0 c).arrAt_eq_of_covers 6 _ (by decide +kernel) fun t hf y => ?_
  blk_simp
  rw [after0_6]
  idx_vars y
  obtain rfl : y0 = 0 := Subsingleton.elim _ _
  have hN := tlt t
  have h1 := y1.isLt
  have h2 := y2.isLt
  have e : ((View.whole main_v0_1).slice (win0_6.rect t)).emb (ix3 0 y1 y2)
      = ix3 (⟨t.val, by omega⟩ : Fin 2) (⟨y1.val, by omega⟩ : Fin 256) (⟨y2.val, by omega⟩ : Fin 128) := by
    funext a; apply Fin.ext
    match a with
    | ⟨0, _⟩ =>
      blk_simp [idx_val t]
      first | done | rfl
    | ⟨1, _⟩ =>
      blk_simp [idx_val t]
      first | done | (show _ = y1.val; omega)
    | ⟨2, _⟩ =>
      blk_simp [idx_val t]
      first | done | rfl
  rw [e, R6_at]
  exact out6_at m c t y1 y2 _ _ _ rfl rfl rfl

theorem out7_at (t : Fin cfg0.N) (a : Fin 256) (b : Fin 128) (l : Fin 2) (i : Fin 256) (j : Fin 128) (hl : l.val = t.val) (hi : i.val = a.val) (hj : j.val = b.val) :
    (outsAt0 m c t.val t.isLt).2.2.1 (ix3 0 a b) = (Adam.upM (Adam22.gr (s0 m c) (s1 m c) l i j) (mo m c (ix3 l i j)) : EReal) := by
  have hN := tlt t
  rcases Nat.lt_or_ge t.val 1 with h0 | h0
  · rw [out7_A m c t h0 a b, blk3 m c t a b l i j hl hi hj]
    unfold Adam22.gr
    rw [if_pos (by omega)]
    simp only [blks0 m c t h0 _ a b l i j hl hi hj]
  · rw [out7_B m c t h0 a b, blk3 m c t a b l i j hl hi hj]
    unfold Adam22.gr
    rw [if_neg (by omega)]
    simp only [blks1 m c t h0 _ a b l i j hl hi hj]

/-- The array of the first moment. -/
def R7 : FVec Ideal S2x256x128 .f32 := fun i =>
  (Adam.upM (Adam22.gr (s0 m c) (s1 m c) (i 0) (i 1) (i 2)) (mo m c (ix3 (i 0) (i 1) (i 2))) : EReal)

theorem R7_at (l : Fin 2) (i : Fin 256) (j : Fin 128) : R7 m c (ix3 l i j) = (Adam.upM (Adam22.gr (s0 m c) (s1 m c) l i j) (mo m c (ix3 l i j)) : EReal) := rfl

theorem final7 : (dats m 0 c).arrAt 7 cfg0.N = R7 m c := by
  refine (dats m 0 c).arrAt_eq_of_covers 7 _ (by decide +kernel) fun t hf y => ?_
  blk_simp
  rw [after0_7]
  idx_vars y
  obtain rfl : y0 = 0 := Subsingleton.elim _ _
  have hN := tlt t
  have h1 := y1.isLt
  have h2 := y2.isLt
  have e : ((View.whole main_v0_2).slice (win0_7.rect t)).emb (ix3 0 y1 y2)
      = ix3 (⟨t.val, by omega⟩ : Fin 2) (⟨y1.val, by omega⟩ : Fin 256) (⟨y2.val, by omega⟩ : Fin 128) := by
    funext a; apply Fin.ext
    match a with
    | ⟨0, _⟩ =>
      blk_simp [idx_val t]
      first | done | rfl
    | ⟨1, _⟩ =>
      blk_simp [idx_val t]
      first | done | (show _ = y1.val; omega)
    | ⟨2, _⟩ =>
      blk_simp [idx_val t]
      first | done | rfl
  rw [e, R7_at]
  exact out7_at m c t y1 y2 _ _ _ rfl rfl rfl

theorem out8_at (t : Fin cfg0.N) (a : Fin 256) (b : Fin 128) (l : Fin 2) (i : Fin 256) (j : Fin 128) (hl : l.val = t.val) (hi : i.val = a.val) (hj : j.val = b.val) :
    (outsAt0 m c t.val t.isLt).2.2.2 (ix3 0 a b) = (Adam.upV (Adam22.gr (s0 m c) (s1 m c) l i j) (vo m c (ix3 l i j)) : EReal) := by
  have hN := tlt t
  rcases Nat.lt_or_ge t.val 1 with h0 | h0
  · rw [out8_A m c t h0 a b, blk4 m c t a b l i j hl hi hj]
    unfold Adam22.gr
    rw [if_pos (by omega)]
    simp only [blks0 m c t h0 _ a b l i j hl hi hj]
  · rw [out8_B m c t h0 a b, blk4 m c t a b l i j hl hi hj]
    unfold Adam22.gr
    rw [if_neg (by omega)]
    simp only [blks1 m c t h0 _ a b l i j hl hi hj]

/-- The array of the second moment. -/
def R8 : FVec Ideal S2x256x128 .f32 := fun i =>
  (Adam.upV (Adam22.gr (s0 m c) (s1 m c) (i 0) (i 1) (i 2)) (vo m c (ix3 (i 0) (i 1) (i 2))) : EReal)

theorem R8_at (l : Fin 2) (i : Fin 256) (j : Fin 128) : R8 m c (ix3 l i j) = (Adam.upV (Adam22.gr (s0 m c) (s1 m c) l i j) (vo m c (ix3 l i j)) : EReal) := rfl

theorem final8 : (dats m 0 c).arrAt 8 cfg0.N = R8 m c := by
  refine (dats m 0 c).arrAt_eq_of_covers 8 _ (by decide +kernel) fun t hf y => ?_
  blk_simp
  rw [after0_8]
  idx_vars y
  obtain rfl : y0 = 0 := Subsingleton.elim _ _
  have hN := tlt t
  have h1 := y1.isLt
  have h2 := y2.isLt
  have e : ((View.whole main_v0_3).slice (win0_8.rect t)).emb (ix3 0 y1 y2)
      = ix3 (⟨t.val, by omega⟩ : Fin 2) (⟨y1.val, by omega⟩ : Fin 256) (⟨y2.val, by omega⟩ : Fin 128) := by
    funext a; apply Fin.ext
    match a with
    | ⟨0, _⟩ =>
      blk_simp [idx_val t]
      first | done | rfl
    | ⟨1, _⟩ =>
      blk_simp [idx_val t]
      first | done | (show _ = y1.val; omega)
    | ⟨2, _⟩ =>
      blk_simp [idx_val t]
      first | done | rfl
  rw [e, R8_at]
  exact out8_at m c t y1 y2 _ _ _ rfl rfl rfl

end Cert.Kernel22Ideal.Value

end
-- ==== Proof.K22Claim.lean ====
/- The optimiser's update of the embedding projection weight: the reference's entries, and the claims. -/
module

public import proofs.«01_k».proof.Defs
public import proofs.«01_k».proof.Proof.K22Value
public import proofs.«01_k».proof.Proof.Gen.Reference22Ideal.Run
public import proofs.«01_k».proof.Proof.Gen.Kernel22.Frame
public import Idealize.ShloMosaic.Lib.Quiescent

@[expose] public section

set_option maxRecDepth 16384

noncomputable section

open Idealize.ShloMosaic Idealize.ShloMosaic.TcCoe Idealize.SL.Sem

namespace Cert.Reference22Ideal.Value
open Cert.Reference22Ideal Cert.Reference22Ideal.Gen

/-- The reference's gradient, entry by entry. -/
theorem res0_at (s0 : FVec Ideal S8x256x128 .bf16) (s1 : FVec Ideal S8x256x128 .bf16) (l : Fin 2) (i : Fin 256) (j : Fin 128) :
    (concatenate S2x256x128 0 [⟨S1x256x128, (broadcastInDim S1x256x128 ![1, 2] bcast_S256x128_S1x256x128_1_2 (Host.reduceAdd (extf .f32 s0 bitsLt_bf16_f32) (constant S_ .f32 0x00000000#32) reducesTo_S8x256x128_S256x128_d0 h_S_))⟩, ⟨S1x256x128, (broadcastInDim S1x256x128 ![1, 2] bcast_S256x128_S1x256x128_1_2 (Host.reduceAdd (extf .f32 s1 bitsLt_bf16_f32) (constant S_ .f32 0x00000000#32) reducesTo_S8x256x128_S256x128_d0 h_S_))⟩] concatenates_S1x256x128_S1x256x128_S2x256x128_d0
      : FVec Ideal S2x256x128 .f32) (ix3 l i j) = (Adam22.gr s0 s1 l i j : EReal) := by
  unfold Adam22.gr
  match l with
  | ⟨0, _⟩ =>
    rw [if_pos rfl]
    pointwise
    first | done | rfl
  | ⟨1, _⟩ =>
    rw [if_neg (by simp only [Nat.one_ne_zero, not_false_eq_true])]
    pointwise
    first | done | rfl

/-- The reference's step from its gradient. -/
theorem res1_at (g w mo vo : FVec Ideal S2x256x128 .f32) (l : Fin 2) (i : Fin 256) (j : Fin 128) :
    (mulf (broadcastInDim S2x256x128 ![] bcast_S_S2x256x128 (constant S_ .f32 0xBA83126F#32)) (addf (Host.divf (Host.divf (addf (mulf (broadcastInDim S2x256x128 ![] bcast_S_S2x256x128 (constant S_ .f32 0x3F666666#32)) mo) (mulf (broadcastInDim S2x256x128 ![] bcast_S_S2x256x128 (constant S_ .f32 0x3DCCCCCD#32)) g)) (broadcastInDim S2x256x128 ![] bcast_S_S2x256x128 (constant S_ .f32 0x3F26BD02#32))) (addf (Host.sqrt (Host.divf (addf (mulf (broadcastInDim S2x256x128 ![] bcast_S_S2x256x128 (constant S_ .f32 0x3F7FBE77#32)) vo) (mulf (broadcastInDim S2x256x128 ![] bcast_S_S2x256x128 (constant S_ .f32 0x3A83126F#32)) (mulf g g))) (broadcastInDim S2x256x128 ![] bcast_S_S2x256x128 (constant S_ .f32 0x3C231ACC#32)))) (broadcastInDim S2x256x128 ![] bcast_S_S2x256x128 (constant S_ .f32 0x322BCC77#32)))) (mulf (broadcastInDim S2x256x128 ![] bcast_S_S2x256x128 (constant S_ .f32 0x3C23D70A#32)) w))
      : FVec Ideal S2x256x128 .f32) (ix3 l i j) = (Adam.delta (g (ix3 l i j)) (w (ix3 l i j)) (mo (ix3 l i j)) (vo (ix3 l i j)) : EReal) := by
  unfold Adam.delta Adam.upM Adam.upV
  pointwise

/-- The reference's first moment from its gradient. -/
theorem res2_at (g mo : FVec Ideal S2x256x128 .f32) (l : Fin 2) (i : Fin 256) (j : Fin 128) :
    (addf (mulf (broadcastInDim S2x256x128 ![] bcast_S_S2x256x128 (constant S_ .f32 0x3F666666#32)) mo) (mulf (broadcastInDim S2x256x128 ![] bcast_S_S2x256x128 (constant S_ .f32 0x3DCCCCCD#32)) g)
      : FVec Ideal S2x256x128 .f32) (ix3 l i j) = (Adam.upM (g (ix3 l i j)) (mo (ix3 l i j)) : EReal) := by
  unfold Adam.upM
  pointwise

/-- The reference's second moment from its gradient. -/
theorem res3_at (g vo : FVec Ideal S2x256x128 .f32) (l : Fin 2) (i : Fin 256) (j : Fin 128) :
    (addf (mulf (broadcastInDim S2x256x128 ![] bcast_S_S2x256x128 (constant S_ .f32 0x3F7FBE77#32)) vo) (mulf (broadcastInDim S2x256x128 ![] bcast_S_S2x256x128 (constant S_ .f32 0x3A83126F#32)) (mulf g g))
      : FVec Ideal S2x256x128 .f32) (ix3 l i j) = (Adam.upV (g (ix3 l i j)) (vo (ix3 l i j)) : EReal) := by
  unfold Adam.upV
  pointwise

end Cert.Reference22Ideal.Value

namespace Cert.K22

instance : Cert.Kernel22.Facts := Cert.Kernel22.Gen.facts
instance : Cert.Kernel22Ideal.Facts := Cert.Kernel22Ideal.Gen.facts
instance : Cert.Reference22Ideal.Facts := Cert.Reference22Ideal.Gen.facts

/-- The reference leaves its arguments and all counters as it found them. -/
theorem ref_quiet : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

/-- The results are equal. -/
theorem algebraic : Cert.algebraic_Kernel22Ideal_Reference22Ideal := by
  intro m ρ m' ρ' _ ha
  refine ⟨fun c => Cert.Kernel22Ideal.Value.R5 m c, fun c => Cert.Kernel22Ideal.Value.R6 m c, fun c => Cert.Kernel22Ideal.Value.R7 m c,
    fun c => Cert.Kernel22Ideal.Value.R8 m c, (θ_run Cert.Kernel22Ideal.defs _ _).mono
    (fun _ h c => ⟨(h c).1.trans (Cert.Kernel22Ideal.Value.final5 m c), (h c).2.1.trans (Cert.Kernel22Ideal.Value.final6 m c),
      (h c).2.2.1.trans (Cert.Kernel22Ideal.Value.final7 m c), (h c).2.2.2.1.trans (Cert.Kernel22Ideal.Value.final8 m c), (h c).2.2.2.2⟩)
    (Cert.Kernel22Ideal.Value.run_blocks (F := Ideal) m ρ), ?_⟩
  refine (θ_run Cert.Reference22Ideal.defs _ _).mono (fun _ h c => ⟨(h c).1.trans ?_, (h c).2.1.trans ?_, (h c).2.2.1.trans ?_,
    (h c).2.2.2.1.trans ?_, (h c).2.2.2.2⟩)
    (Cert.Reference22Ideal.Value.run (F := Ideal) m' ρ')
  · obtain ⟨h0, h1, h2, h3, h4⟩ := ha c
    rw [h0, h1]
    funext i
    idx_vars i
    rw [Cert.Kernel22Ideal.Value.R5_at]
    exact Cert.Reference22Ideal.Value.res0_at _ _ i0 i1 i2
  · obtain ⟨h0, h1, h2, h3, h4⟩ := ha c
    rw [h0, h1, h2, h3, h4]
    funext i
    idx_vars i
    rw [Cert.Kernel22Ideal.Value.R6_at]
    refine (Cert.Reference22Ideal.Value.res1_at _ _ _ _ i0 i1 i2).trans ?_
    rw [Cert.Reference22Ideal.Value.res0_at]
  · obtain ⟨h0, h1, h2, h3, h4⟩ := ha c
    rw [h0, h1, h3]
    funext i
    idx_vars i
    rw [Cert.Kernel22Ideal.Value.R7_at]
    refine (Cert.Reference22Ideal.Value.res2_at _ _ i0 i1 i2).trans ?_
    rw [Cert.Reference22Ideal.Value.res0_at]
  · obtain ⟨h0, h1, h2, h3, h4⟩ := ha c
    rw [h0, h1, h4]
    funext i
    idx_vars i
    rw [Cert.Kernel22Ideal.Value.R8_at]
    refine (Cert.Reference22Ideal.Value.res3_at _ _ i0 i1 i2).trans ?_
    rw [Cert.Reference22Ideal.Value.res0_at]

end Cert.K22

end
-- ==== Proof.K23Value.lean ====
/- The optimiser's update of the packed small parameters: what the kernel leaves in its result arrays. -/
module

public import proofs.«01_k».proof.Proof.Gen.Kernel23Ideal.Value
public import proofs.«01_k».proof.Proof.Adam
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Adam23
open Cert.Kernel23Ideal

/-- The gradient: the sum of the devices' parts, and the part added later. -/
def gr (s0 : FVec Ideal S8x336x1024 .f32) (late : FVec Ideal S1x336x1024 .f32) (l : Fin 1) (i : Fin 336) (j : Fin 1024) : EReal :=
  (∑ d : Fin 8, s0 (ix3 d i j)) + late (ix3 l i j)

end Cert.Adam23

open Idealize.ShloMosaic.Pipeline (Dat)

namespace Cert.Kernel23Ideal.Value
open Cert.Kernel23Ideal Cert.Kernel23Ideal.Gen

variable (m : (ℓ : Loc nD τ sig) → Buf (Elt Ideal) ℓ) (c : Dev nD)

/-- The block indices of the windows at each grid point. -/
theorem idx_val : ∀ t : Fin cfg0.N, win0_0.index t = ![0, t.val, 0] ∧ win0_1.index t = ![0, t.val, 0] ∧
    win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0]
    ∧ win0_8.index t = ![0, t.val, 0] :=
  (by decide +kernel : ∀ t : Fin grid0.N, _)

/-- The blocks in use at a point. -/
def B0 (t : Fin cfg0.N) : FVec Ideal S8x168x1024 .f32 := iblk m c 0 t
def B1 (t : Fin cfg0.N) : FVec Ideal S1x168x1024 .f32 := iblk m c 1 t
def B2 (t : Fin cfg0.N) : FVec Ideal S1x168x1024 .f32 := iblk m c 2 t
def B3 (t : Fin cfg0.N) : FVec Ideal S1x168x1024 .f32 := iblk m c 3 t
def B4 (t : Fin cfg0.N) : FVec Ideal S1x168x1024 .f32 := iblk m c 4 t

/-- The arrays of the arguments. -/
abbrev s0 : FVec Ideal S8x336x1024 .f32 := m ((c.tc : Thread nD τ).loc main_arg0)
abbrev late : FVec Ideal S1x336x1024 .f32 := m ((c.tc : Thread nD τ).loc main_arg1)
abbrev w : FVec Ideal S1x336x1024 .f32 := m ((c.tc : Thread nD τ).loc main_arg2)
abbrev mo : FVec Ideal S1x336x1024 .f32 := m ((c.tc : Thread nD τ).loc main_arg3)
abbrev vo : FVec Ideal S1x336x1024 .f32 := m ((c.tc : Thread nD τ).loc main_arg4)

theorem tlt (t : Fin cfg0.N) : t.val < 2 := lt_of_lt_of_eq t.isLt (show cfg0.N = 2 from N_0)

/-- The gradient a point writes. -/
theorem out5_A (t : Fin cfg0.N) (a : Fin 168) (b : Fin 1024) :
    (outsAt0 m c t).1 (ix3 0 a b) = (((∑ d : Fin 8, B0 m c t (ix3 d a b)) + B1 m c t (ix3 0 a b)) : EReal) := by
  unfold outsAt0
  frame_out
  rw [Fin.sum_univ_eight]
  pointwise [k0_pay1, k0_pay2, k0_pay3, k0_pay4, k0_pay5, k0_pay6, k0_pay7, k0_pay8, k0_pay9]
  first | done | rfl

/-- The step a point writes. -/
theorem out6_A (t : Fin cfg0.N) (a : Fin 168) (b : Fin 1024) :
    (outsAt0 m c t).2.1 (ix3 0 a b) = (Adam.delta ((∑ d : Fin 8, B0 m c t (ix3 d a b)) + B1 m c t (ix3 0 a b)) (B2 m c t (ix3 0 a b)) (B3 m c t (ix3 0 a b)) (B4 m c t (ix3 0 a b)) : EReal) := by
  unfold outsAt0
  frame_out
  rw [Fin.sum_univ_eight]
  unfold Adam.delta Adam.upM Adam.upV
  pointwise [k0_pay1, k0_pay2, k0_pay3, k0_pay4, k0_pay5, k0_pay6, k0_pay7, k0_pay8, k0_pay9]
  first | done | rfl

/-- The first moment a point writes. -/
theorem out7_A (t : Fin cfg0.N) (a : Fin 168) (b : Fin 1024) :
    (outsAt0 m c t).2.2.1 (ix3 0 a b) = (Adam.upM ((∑ d : Fin 8, B0 m c t (ix3 d a b)) + B1 m c t (ix3 0 a b)) (B3 m c t (ix3 0 a b)) : EReal) := by
  unfold outsAt0
  frame_out
  rw [Fin.sum_univ_eight]
  unfold Adam.upM
  pointwise [k0_pay1, k0_pay2, k0_pay3, k0_pay4, k0_pay5, k0_pay6, k0_pay7, k0_pay8, k0_pay9]
  first | done | rfl

/-- The second moment a point writes. -/
theorem out8_A (t : Fin cfg0.N) (a : Fin 168) (b : Fin 1024) :
    (outsAt0 m c t).2.2.2 (ix3 0 a b) = (Adam.upV ((∑ d : Fin 8, B0 m c t (ix3 d a b)) + B1 m c t (ix3 0 a b)) (B4 m c t (ix3 0 a b)) : EReal) := by
  unfold outsAt0
  frame_out
  rw [Fin.sum_univ_eight]
  unfold Adam.upV
  pointwise [k0_pay1, k0_pay2, k0_pay3, k0_pay4, k0_pay5, k0_pay6, k0_pay7, k0_pay8, k0_pay9]
  first | done | rfl

theorem blks0 (t : Fin cfg0.N) (d : Fin 8) (a : Fin 168) (b : Fin 1024) (i : Fin 336) (j : Fin 1024) (hi : i.val = 168 * (t.val) + a.val) (hj : j.val = b.val) :
    B0 m c t (ix3 d a b) = s0 m c (ix3 d i j) := by
  have hN := tlt t
  unfold B0
  blk_ext [iblk, V, idx_val t]

theorem blk1 (t : Fin cfg0.N) (a : Fin 168) (b : Fin 1024) (l : Fin 1) (i : Fin 336) (j : Fin 1024) (hl : l.val = 0) (hi : i.val = 168 * (t.val) + a.val) (hj : j.val = b.val) :
    B1 m c t (ix3 0 a b) = late m c (ix3 l i j) := by
  have hN := tlt t
  unfold B1
  blk_ext [iblk, V, idx_val t]

theorem blk2 (t : Fin cfg0.N) (a : Fin 168) (b : Fin 1024) (l : Fin 1) (i : Fin 336) (j : Fin 1024) (hl : l.val = 0) (hi : i.val = 168 * (t.val) + a.val) (hj : j.val = b.val) :
    B2 m c t (ix3 0 a b) = w m c (ix3 l i j) := by
  have hN := tlt t
  unfold B2
  blk_ext [iblk, V, idx_val t]

theorem blk3 (t : Fin cfg0.N) (a : Fin 168) (b : Fin 1024) (l : Fin 1) (i : Fin 336) (j : Fin 1024) (hl : l.val = 0) (hi : i.val = 168 * (t.val) + a.val) (hj : j.val = b.val) :
    B3 m c t (ix3 0 a b) = mo m c (ix3 l i j) := by
  have hN := tlt t
  unfold B3
  blk_ext [iblk, V, idx_val t]

theorem blk4 (t : Fin cfg0.N) (a : Fin 168) (b : Fin 1024) (l : Fin 1) (i : Fin 336) (j : Fin 1024) (hl : l.val = 0) (hi : i.val = 168 * (t.val) + a.val) (hj : j.val = b.val) :
    B4 m c t (ix3 0 a b) = vo m c (ix3 l i j) := by
  have hN := tlt t
  unfold B4
  blk_ext [iblk, V, idx_val t]

theorem out5_at (t : Fin cfg0.N) (a : Fin 168) (b : Fin 1024) (l : Fin 1) (i : Fin 336) (j : Fin 1024) (hl : l.val = 0) (hi : i.val = 168 * (t.val) + a.val) (hj : j.val = b.val) :
    (outsAt0 m c t).1 (ix3 0 a b) = ((Adam23.gr (s0 m c) (late m c) l i j) : EReal) := by
  rw [out5_A m c t a b, blk1 m c t a b l i j hl hi hj]
  unfold Adam23.gr
  simp only [blks0 m c t _ a b i j hi hj]

/-- The array of the gradient. -/
def R5 : FVec Ideal S1x336x1024 .f32 := fun i =>
  ((Adam23.gr (s0 m c) (late m c) (i 0) (i 1) (i 2)) : EReal)

theorem R5_at (l : Fin 1) (i : Fin 336) (j : Fin 1024) : R5 m c (ix3 l i j) = ((Adam23.gr (s0 m c) (late m c) l i j) : EReal) := rfl

theorem final5 : (dats m 0 c).arrAt 5 cfg0.N = R5 m c := by
  refine (dats m 0 c).arrAt_eq_of_covers 5 _ (by decide +kernel) fun t hf y => ?_
  blk_simp
  rw [after0_5]
  idx_vars y
  obtain rfl : y0 = 0 := Subsingleton.elim _ _
  have hN := tlt t
  have h1 := y1.isLt
  have h2 := y2.isLt
  have e : ((View.whole main_v0_0).slice (win0_5.rect t)).emb (ix3 0 y1 y2)
      = ix3 (⟨0, by omega⟩ : Fin 1) (⟨168 * (t.val) + y1.val, by omega⟩ : Fin 336) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = 168 * (t.val) + y1.val; omega)
    | ⟨2, _⟩ =>
      blk_simp [idx_val t]
      first | done | rfl
  rw [e, R5_at]
  exact out5_at m c t y1 y2 _ _ _ rfl rfl rfl

theorem out6_at (t : Fin cfg0.N) (a : Fin 168) (b : Fin 1024) (l : Fin 1) (i : Fin 336) (j : Fin 1024) (hl : l.val = 0) (hi : i.val = 168 * (t.val) + a.val) (hj : j.val = b.val) :
    (outsAt0 m c t).2.1 (ix3 0 a b) = (Adam.delta (Adam23.gr (s0 m c) (late m c) l i j) (w m c (ix3 l i j)) (mo m c (ix3 l i j)) (vo m c (ix3 l i j)) : EReal) := by
  rw [out6_A m c t a b, blk1 m c t a b l i j hl hi hj, blk2 m c t a b l i j hl hi hj, blk3 m c t a b l i j hl hi hj, blk4 m c t a b l i j hl hi hj]
  unfold Adam23.gr
  simp only [blks0 m c t _ a b i j hi hj]

/-- The array of the step. -/
def R6 : FVec Ideal S1x336x1024 .f32 := fun i =>
  (Adam.delta (Adam23.gr (s0 m c) (late m c) (i 0) (i 1) (i 2)) (w m c (ix3 (i 0) (i 1) (i 2))) (mo m c (ix3 (i 0) (i 1) (i 2))) (vo m c (ix3 (i 0) (i 1) (i 2))) : EReal)

theorem R6_at (l : Fin 1) (i : Fin 336) (j : Fin 1024) : R6 m c (ix3 l i j) = (Adam.delta (Adam23.gr (s0 m c) (late m c) l i j) (w m c (ix3 l i j)) (mo m c (ix3 l i j)) (vo m c (ix3 l i j)) : EReal) := rfl

theorem final6 : (dats m 0 c).arrAt 6 cfg0.N = R6 m c := by
  refine (dats m 0 c).arrAt_eq_of_covers 6 _ (by decide +kernel) fun t hf y => ?_
  blk_simp
  rw [after0_6]
  idx_vars y
  obtain rfl : y0 = 0 := Subsingleton.elim _ _
  have hN := tlt t
  have h1 := y1.isLt
  have h2 := y2.isLt
  have e : ((View.whole main_v0_1).slice (win0_6.rect t)).emb (ix3 0 y1 y2)
      = ix3 (⟨0, by omega⟩ : Fin 1) (⟨168 * (t.val) + y1.val, by omega⟩ : Fin 336) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = 168 * (t.val) + y1.val; omega)
    | ⟨2, _⟩ =>
      blk_simp [idx_val t]
      first | done | rfl
  rw [e, R6_at]
  exact out6_at m c t y1 y2 _ _ _ rfl rfl rfl

theorem out7_at (t : Fin cfg0.N) (a : Fin 168) (b : Fin 1024) (l : Fin 1) (i : Fin 336) (j : Fin 1024) (hl : l.val = 0) (hi : i.val = 168 * (t.val) + a.val) (hj : j.val = b.val) :
    (outsAt0 m c t).2.2.1 (ix3 0 a b) = (Adam.upM (Adam23.gr (s0 m c) (late m c) l i j) (mo m c (ix3 l i j)) : EReal) := by
  rw [out7_A m c t a b, blk1 m c t a b l i j hl hi hj, blk3 m c t a b l i j hl hi hj]
  unfold Adam23.gr
  simp only [blks0 m c t _ a b i j hi hj]

/-- The array of the first moment. -/
def R7 : FVec Ideal S1x336x1024 .f32 := fun i =>
  (Adam.upM (Adam23.gr (s0 m c) (late m c) (i 0) (i 1) (i 2)) (mo m c (ix3 (i 0) (i 1) (i 2))) : EReal)

theorem R7_at (l : Fin 1) (i : Fin 336) (j : Fin 1024) : R7 m c (ix3 l i j) = (Adam.upM (Adam23.gr (s0 m c) (late m c) l i j) (mo m c (ix3 l i j)) : EReal) := rfl

theorem final7 : (dats m 0 c).arrAt 7 cfg0.N = R7 m c := by
  refine (dats m 0 c).arrAt_eq_of_covers 7 _ (by decide +kernel) fun t hf y => ?_
  blk_simp
  rw [after0_7]
  idx_vars y
  obtain rfl : y0 = 0 := Subsingleton.elim _ _
  have hN := tlt t
  have h1 := y1.isLt
  have h2 := y2.isLt
  have e : ((View.whole main_v0_2).slice (win0_7.rect t)).emb (ix3 0 y1 y2)
      = ix3 (⟨0, by omega⟩ : Fin 1) (⟨168 * (t.val) + y1.val, by omega⟩ : Fin 336) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = 168 * (t.val) + y1.val; omega)
    | ⟨2, _⟩ =>
      blk_simp [idx_val t]
      first | done | rfl
  rw [e, R7_at]
  exact out7_at m c t y1 y2 _ _ _ rfl rfl rfl

theorem out8_at (t : Fin cfg0.N) (a : Fin 168) (b : Fin 1024) (l : Fin 1) (i : Fin 336) (j : Fin 1024) (hl : l.val = 0) (hi : i.val = 168 * (t.val) + a.val) (hj : j.val = b.val) :
    (outsAt0 m c t).2.2.2 (ix3 0 a b) = (Adam.upV (Adam23.gr (s0 m c) (late m c) l i j) (vo m c (ix3 l i j)) : EReal) := by
  rw [out8_A m c t a b, blk1 m c t a b l i j hl hi hj, blk4 m c t a b l i j hl hi hj]
  unfold Adam23.gr
  simp only [blks0 m c t _ a b i j hi hj]

/-- The array of the second moment. -/
def R8 : FVec Ideal S1x336x1024 .f32 := fun i =>
  (Adam.upV (Adam23.gr (s0 m c) (late m c) (i 0) (i 1) (i 2)) (vo m c (ix3 (i 0) (i 1) (i 2))) : EReal)

theorem R8_at (l : Fin 1) (i : Fin 336) (j : Fin 1024) : R8 m c (ix3 l i j) = (Adam.upV (Adam23.gr (s0 m c) (late m c) l i j) (vo m c (ix3 l i j)) : EReal) := rfl

theorem final8 : (dats m 0 c).arrAt 8 cfg0.N = R8 m c := by
  refine (dats m 0 c).arrAt_eq_of_covers 8 _ (by decide +kernel) fun t hf y => ?_
  blk_simp
  rw [after0_8]
  idx_vars y
  obtain rfl : y0 = 0 := Subsingleton.elim _ _
  have hN := tlt t
  have h1 := y1.isLt
  have h2 := y2.isLt
  have e : ((View.whole main_v0_3).slice (win0_8.rect t)).emb (ix3 0 y1 y2)
      = ix3 (⟨0, by omega⟩ : Fin 1) (⟨168 * (t.val) + y1.val, by omega⟩ : Fin 336) (⟨y2.val, by omega⟩ : Fin 1024) := by
    funext a; apply Fin.ext
    match a with
    | ⟨0, _⟩ =>
      blk_simp [idx_val t]
      first | done | rfl
    | ⟨1, _⟩ =>
      blk_simp [idx_val t]
      first | done | (show _ = 168 * (t.val) + y1.val; omega)
    | ⟨2, _⟩ =>
      blk_simp [idx_val t]
      first | done | rfl
  rw [e, R8_at]
  exact out8_at m c t y1 y2 _ _ _ rfl rfl rfl

end Cert.Kernel23Ideal.Value

end
-- ==== Proof.K23Claim.lean ====
/- The optimiser's update of the packed small parameters: the reference's entries, and the claims. -/
module

public import proofs.«01_k».proof.Defs
public import proofs.«01_k».proof.Proof.K23Value
public import proofs.«01_k».proof.Proof.Gen.Reference23Ideal.Run
public import proofs.«01_k».proof.Proof.Gen.Kernel23.Frame
public import Idealize.ShloMosaic.Lib.Quiescent

@[expose] public section

set_option maxRecDepth 16384

noncomputable section

open Idealize.ShloMosaic Idealize.ShloMosaic.TcCoe Idealize.SL.Sem

namespace Cert.Reference23Ideal.Value
open Cert.Reference23Ideal Cert.Reference23Ideal.Gen

/-- The reference's gradient, entry by entry. -/
theorem res0_at (s0 : FVec Ideal S8x336x1024 .f32) (late : FVec Ideal S1x336x1024 .f32) (l : Fin 1) (i : Fin 336) (j : Fin 1024) :
    (addf (broadcastInDim S1x336x1024 ![1, 2] bcast_S336x1024_S1x336x1024_1_2 (Host.reduceAdd s0 (constant S_ .f32 0x00000000#32) reducesTo_S8x336x1024_S336x1024_d0 h_S_)) late
      : FVec Ideal S1x336x1024 .f32) (ix3 l i j) = (Adam23.gr s0 late l i j : EReal) := by
  unfold Adam23.gr
  pointwise

/-- The reference's step from its gradient. -/
theorem res1_at (g w mo vo : FVec Ideal S1x336x1024 .f32) (l : Fin 1) (i : Fin 336) (j : Fin 1024) :
    (mulf (broadcastInDim S1x336x1024 ![] bcast_S_S1x336x1024 (constant S_ .f32 0xBA83126F#32)) (addf (Host.divf (Host.divf (addf (mulf (broadcastInDim S1x336x1024 ![] bcast_S_S1x336x1024 (constant S_ .f32 0x3F666666#32)) mo) (mulf (broadcastInDim S1x336x1024 ![] bcast_S_S1x336x1024 (constant S_ .f32 0x3DCCCCCD#32)) g)) (broadcastInDim S1x336x1024 ![] bcast_S_S1x336x1024 (constant S_ .f32 0x3F26BD02#32))) (addf (Host.sqrt (Host.divf (addf (mulf (broadcastInDim S1x336x1024 ![] bcast_S_S1x336x1024 (constant S_ .f32 0x3F7FBE77#32)) vo) (mulf (broadcastInDim S1x336x1024 ![] bcast_S_S1x336x1024 (constant S_ .f32 0x3A83126F#32)) (mulf g g))) (broadcastInDim S1x336x1024 ![] bcast_S_S1x336x1024 (constant S_ .f32 0x3C231ACC#32)))) (broadcastInDim S1x336x1024 ![] bcast_S_S1x336x1024 (constant S_ .f32 0x322BCC77#32)))) (mulf (broadcastInDim S1x336x1024 ![] bcast_S_S1x336x1024 (constant S_ .f32 0x3C23D70A#32)) w))
      : FVec Ideal S1x336x1024 .f32) (ix3 l i j) = (Adam.delta (g (ix3 l i j)) (w (ix3 l i j)) (mo (ix3 l i j)) (vo (ix3 l i j)) : EReal) := by
  unfold Adam.delta Adam.upM Adam.upV
  pointwise

/-- The reference's first moment from its gradient. -/
theorem res2_at (g mo : FVec Ideal S1x336x1024 .f32) (l : Fin 1) (i : Fin 336) (j : Fin 1024) :
    (addf (mulf (broadcastInDim S1x336x1024 ![] bcast_S_S1x336x1024 (constant S_ .f32 0x3F666666#32)) mo) (mulf (broadcastInDim S1x336x1024 ![] bcast_S_S1x336x1024 (constant S_ .f32 0x3DCCCCCD#32)) g)
      : FVec Ideal S1x336x1024 .f32) (ix3 l i j) = (Adam.upM (g (ix3 l i j)) (mo (ix3 l i j)) : EReal) := by
  unfold Adam.upM
  pointwise

/-- The reference's second moment from its gradient. -/
theorem res3_at (g vo : FVec Ideal S1x336x1024 .f32) (l : Fin 1) (i : Fin 336) (j : Fin 1024) :
    (addf (mulf (broadcastInDim S1x336x1024 ![] bcast_S_S1x336x1024 (constant S_ .f32 0x3F7FBE77#32)) vo) (mulf (broadcastInDim S1x336x1024 ![] bcast_S_S1x336x1024 (constant S_ .f32 0x3A83126F#32)) (mulf g g))
      : FVec Ideal S1x336x1024 .f32) (ix3 l i j) = (Adam.upV (g (ix3 l i j)) (vo (ix3 l i j)) : EReal) := by
  unfold Adam.upV
  pointwise

end Cert.Reference23Ideal.Value

namespace Cert.K23

instance : Cert.Kernel23.Facts := Cert.Kernel23.Gen.facts
instance : Cert.Kernel23Ideal.Facts := Cert.Kernel23Ideal.Gen.facts
instance : Cert.Reference23Ideal.Facts := Cert.Reference23Ideal.Gen.facts

/-- The reference leaves its arguments and all counters as it found them. -/
theorem ref_quiet : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

/-- The results are equal. -/
theorem algebraic : Cert.algebraic_Kernel23Ideal_Reference23Ideal := by
  intro m ρ m' ρ' _ ha
  refine ⟨fun c => Cert.Kernel23Ideal.Value.R5 m c, fun c => Cert.Kernel23Ideal.Value.R6 m c, fun c => Cert.Kernel23Ideal.Value.R7 m c,
    fun c => Cert.Kernel23Ideal.Value.R8 m c, (θ_run Cert.Kernel23Ideal.defs _ _).mono
    (fun _ h c => ⟨(h c).1.trans (Cert.Kernel23Ideal.Value.final5 m c), (h c).2.1.trans (Cert.Kernel23Ideal.Value.final6 m c),
      (h c).2.2.1.trans (Cert.Kernel23Ideal.Value.final7 m c), (h c).2.2.2.1.trans (Cert.Kernel23Ideal.Value.final8 m c), (h c).2.2.2.2⟩)
    (Cert.Kernel23Ideal.Value.run_blocks (F := Ideal) m ρ), ?_⟩
  refine (θ_run Cert.Reference23Ideal.defs _ _).mono (fun _ h c => ⟨(h c).1.trans ?_, (h c).2.1.trans ?_, (h c).2.2.1.trans ?_,
    (h c).2.2.2.1.trans ?_, (h c).2.2.2.2⟩)
    (Cert.Reference23Ideal.Value.run (F := Ideal) m' ρ')
  · obtain ⟨h0, h1, h2, h3, h4⟩ := ha c
    rw [h0, h1]
    funext i
    idx_vars i
    rw [Cert.Kernel23Ideal.Value.R5_at]
    exact Cert.Reference23Ideal.Value.res0_at _ _ i0 i1 i2
  · obtain ⟨h0, h1, h2, h3, h4⟩ := ha c
    rw [h0, h1, h2, h3, h4]
    funext i
    idx_vars i
    rw [Cert.Kernel23Ideal.Value.R6_at]
    refine (Cert.Reference23Ideal.Value.res1_at _ _ _ _ i0 i1 i2).trans ?_
    rw [Cert.Reference23Ideal.Value.res0_at]
  · obtain ⟨h0, h1, h2, h3, h4⟩ := ha c
    rw [h0, h1, h3]
    funext i
    idx_vars i
    rw [Cert.Kernel23Ideal.Value.R7_at]
    refine (Cert.Reference23Ideal.Value.res2_at _ _ i0 i1 i2).trans ?_
    rw [Cert.Reference23Ideal.Value.res0_at]
  · obtain ⟨h0, h1, h2, h3, h4⟩ := ha c
    rw [h0, h1, h4]
    funext i
    idx_vars i
    rw [Cert.Kernel23Ideal.Value.R8_at]
    refine (Cert.Reference23Ideal.Value.res3_at _ _ i0 i1 i2).trans ?_
    rw [Cert.Reference23Ideal.Value.res0_at]

end Cert.K23

end
-- ==== Proof.K24Def.lean ====
/- The lower bounds' gradient: the kernel's arithmetic, one column at a time. -/
module

public import Idealize.ShloMosaic.Lib.Pointwise

@[expose] public section

noncomputable section

open Idealize.ShloMosaic

namespace Cert.P24

/-- The gradient at the second of two logits `a`, `b` of a softmax, of which `d` is the gradient at the first probability's
    complement: `d` times the two probabilities. -/
abbrev d1 (d a b : EReal) : EReal :=
  d * Ideal.div (Ideal.exp (a - max a b)) (Ideal.exp (a - max a b) + Ideal.exp (b - max a b))
    * Ideal.div (Ideal.exp (b - max a b)) (Ideal.exp (a - max a b) + Ideal.exp (b - max a b))

/-- The two entries of the gradient. -/
def lb (d a b : EReal) (i : Fin 2) : EReal := if i.val = 1 then d1 d a b else 0 - d1 d a b

theorem lb_one (d a b : EReal) : lb d a b 1 = d1 d a b := rfl
theorem lb_zero (d a b : EReal) : lb d a b 0 = 0 - d1 d a b := rfl

end Cert.P24

end
-- ==== Proof.K24Value.lean ====
/- The lower bounds' gradient: the kernel's result arrays, entry by entry. -/
module

public import proofs.«01_k».proof.Proof.Gen.Kernel24Ideal.Value
public import proofs.«01_k».proof.Proof.K24Def
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel24Ideal.Value
open Cert.Kernel24Ideal Cert.Kernel24Ideal.Gen

variable (m : (ℓ : Loc nD τ sig) → Buf (Elt Ideal) ℓ) (c : Dev nD)

/-- The block indices of the windows at the one grid point. -/
theorem idx_val : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0] :=
  (by decide +kernel : ∀ t : Fin grid0.N, _)

def B0 (t : Fin cfg0.N) : FVec Ideal S2x1024 .f32 := iblk m c 0 t
def B1 (t : Fin cfg0.N) : FVec Ideal S2x1024 .f32 := iblk m c 1 t
def B2 (t : Fin cfg0.N) : FVec Ideal S2x1024 .f32 := iblk m c 2 t
def B3 (t : Fin cfg0.N) : FVec Ideal S2x1024 .f32 := iblk m c 3 t

/-- The arrays of the arguments. -/
abbrev gfA : FVec Ideal S2x1024 .f32 := m ((c.tc : Thread nD τ).loc main_arg0)
abbrev gbA : FVec Ideal S2x1024 .f32 := m ((c.tc : Thread nD τ).loc main_arg1)
abbrev dfA : FVec Ideal S2x1024 .f32 := m ((c.tc : Thread nD τ).loc main_arg2)
abbrev dbA : FVec Ideal S2x1024 .f32 := m ((c.tc : Thread nD τ).loc main_arg3)

theorem blk0 (t : Fin cfg0.N) (a : Fin 2) (k : Fin 1024) : B0 m c t (ix2 a k) = gfA m c (ix2 a k) := by
  unfold B0
  refine Eq.trans ?_ (congrFun (V_main_arg0 m c) (ix2 a k))
  blk_ext [iblk, idx_val t]

theorem blk1 (t : Fin cfg0.N) (a : Fin 2) (k : Fin 1024) : B1 m c t (ix2 a k) = gbA m c (ix2 a k) := by
  unfold B1
  refine Eq.trans ?_ (congrFun (V_main_arg1 m c) (ix2 a k))
  blk_ext [iblk, idx_val t]

/-- The arrays the host prepares: the second row is the argument's. -/
theorem v2_at (k : Fin 1024) : (V m c main_v2 : FVec Ideal S2x1024 .f32) (ix2 1 k) = dfA m c (ix2 1 k) := by
  unfold V
  after_results_simp
  pointwise

theorem v4_at (k : Fin 1024) : (V m c main_v4 : FVec Ideal S2x1024 .f32) (ix2 1 k) = dbA m c (ix2 1 k) := by
  unfold V
  after_results_simp
  pointwise

theorem blk2 (t : Fin cfg0.N) (k : Fin 1024) : B2 m c t (ix2 1 k) = dfA m c (ix2 1 k) := by
  unfold B2
  refine Eq.trans ?_ (v2_at m c k)
  blk_ext [iblk, idx_val t]

theorem blk3 (t : Fin cfg0.N) (k : Fin 1024) : B3 m c t (ix2 1 k) = dbA m c (ix2 1 k) := by
  unfold B3
  refine Eq.trans ?_ (v4_at m c k)
  blk_ext [iblk, idx_val t]

theorem out4 (x0 x1 x2 x3 : FVec Ideal S2x1024 .f32) (i : Fin 2) (j : Fin 1024) :
    out0_4 (F := Ideal) x0 x1 x2 x3 (ix2 i j) = P24.lb (x2 (ix2 1 j)) (x0 (ix2 0 j)) (x0 (ix2 1 j)) i := by
  unfold out0_4
  canon_tiles x hx
  · have hi : i = 1 := Fin.ext (by change i.val = 1 + (x 0).val at hx0; show i.val = 1; omega)
    subst hi
    rw [P24.lb_one]
    idx_vars x
    open_payloads
    pointwise
    rw [show j = x1 from Fin.ext hx1]
  · have hi : i = 0 := Fin.ext (by change i.val = (x 0).val at hx0; show i.val = 0; omega)
    subst hi
    rw [P24.lb_zero]
    idx_vars x
    open_payloads
    pointwise
    rw [show j = x1 from Fin.ext hx1]

theorem out5 (x0 x1 x2 x3 : FVec Ideal S2x1024 .f32) (i : Fin 2) (j : Fin 1024) :
    out0_5 (F := Ideal) x0 x1 x2 x3 (ix2 i j) = P24.lb (x3 (ix2 1 j)) (x1 (ix2 0 j)) (x1 (ix2 1 j)) i := by
  unfold out0_5
  canon_tiles x hx
  · have hi : i = 1 := Fin.ext (by change i.val = 1 + (x 0).val at hx0; show i.val = 1; omega)
    subst hi
    rw [P24.lb_one]
    idx_vars x
    open_payloads
    pointwise
    rw [show j = x1 from Fin.ext hx1]
  · have hi : i = 0 := Fin.ext (by change i.val = (x 0).val at hx0; show i.val = 0; omega)
    subst hi
    rw [P24.lb_zero]
    idx_vars x
    open_payloads
    pointwise
    rw [show j = x1 from Fin.ext hx1]

/-- The array of the result. -/
def R4 : FVec Ideal S2x1024 .f32 := fun i => (P24.lb (dfA m c (ix2 1 (i 1))) (gfA m c (ix2 0 (i 1))) (gfA m c (ix2 1 (i 1))) (i 0) : EReal)

theorem R4_at (i : Fin 2) (j : Fin 1024) : R4 m c (ix2 i j) = P24.lb (dfA m c (ix2 1 j)) (gfA m c (ix2 0 j)) (gfA m c (ix2 1 j)) i := rfl

theorem final4 : (dats m 0 c).arrAt 4 cfg0.N = R4 m c := by
  refine (dats m 0 c).arrAt_eq_of_covers 4 _ (by decide +kernel) fun t hf y => ?_
  blk_simp
  rw [after0_4]
  idx_vars y
  have e : ((View.whole main_v5_0).slice (win0_4.rect t)).emb (ix2 y0 y1) = ix2 y0 y1 := by
    funext a; apply Fin.ext
    match a with
    | ⟨0, _⟩ =>
      blk_simp [idx_val t]
      first | done | rfl
    | ⟨1, _⟩ =>
      blk_simp [idx_val t]
      first | done | rfl
  rw [e, R4_at]
  refine (out4 (B0 m c t) (B1 m c t) (B2 m c t) (B3 m c t) y0 y1).trans ?_
  rw [blk2, blk0, blk0]

/-- The array of the result. -/
def R5 : FVec Ideal S2x1024 .f32 := fun i => (P24.lb (dbA m c (ix2 1 (i 1))) (gbA m c (ix2 0 (i 1))) (gbA m c (ix2 1 (i 1))) (i 0) : EReal)

theorem R5_at (i : Fin 2) (j : Fin 1024) : R5 m c (ix2 i j) = P24.lb (dbA m c (ix2 1 j)) (gbA m c (ix2 0 j)) (gbA m c (ix2 1 j)) i := rfl

theorem final5 : (dats m 0 c).arrAt 5 cfg0.N = R5 m c := by
  refine (dats m 0 c).arrAt_eq_of_covers 5 _ (by decide +kernel) fun t hf y => ?_
  blk_simp
  rw [after0_5]
  idx_vars y
  have e : ((View.whole main_v5_1).slice (win0_5.rect t)).emb (ix2 y0 y1) = ix2 y0 y1 := by
    funext a; apply Fin.ext
    match a with
    | ⟨0, _⟩ =>
      blk_simp [idx_val t]
      first | done | rfl
    | ⟨1, _⟩ =>
      blk_simp [idx_val t]
      first | done | rfl
  rw [e, R5_at]
  refine (out5 (B0 m c t) (B1 m c t) (B2 m c t) (B3 m c t) y0 y1).trans ?_
  rw [blk3, blk1, blk1]

end Cert.Kernel24Ideal.Value

end
-- ==== Proof.K24Ref.lean ====
/- The reference of the lower bounds' gradient, entry by entry. -/
module

public import proofs.«01_k».proof.Proof.Gen.Reference24Ideal.Run
public import proofs.«01_k».proof.Proof.K24Def
public import proofs.«01_k».proof.Proof.Reals
public import Idealize.ShloMosaic.Lib.Pointwise

@[expose] public section

set_option maxRecDepth 16384

noncomputable section

open Idealize.ShloMosaic Idealize.ShloMosaic.TcCoe Idealize.SL.Sem Cert.Reals

namespace Cert.Reference24Ideal.Value
open Cert.Reference24Ideal Cert.Reference24Ideal.Gen

/-- The window of a running sum from the end. -/
abbrev W : Shape := ⟨2, ![2, 1]⟩

theorem finRange_W : List.finRange W.numel = [⟨0, by decide⟩, ⟨1, by decide⟩] := by decide

theorem W_0 : ∀ a, (W.rowMajor.symm ⟨0, by decide⟩ a).val = 0 := by decide
theorem W_1 : (W.rowMajor.symm ⟨1, by decide⟩ 0).val = 1 ∧ (W.rowMajor.symm ⟨1, by decide⟩ 1).val = 0 := by decide

/-- The sum of the two rows, and the second row alone. -/
theorem win_0 (x : FVec Ideal S2x1024 .f32) (v : FVec Ideal S_ .f32) (h) (j : Fin 1024) :
    Host.reduceWindowAdd (F := Ideal) (s := S2x1024) (t := S2x1024) ![2, 1] ![1, 1] ![0, 0] ![1, 0] x v h h_S_ (ix2 0 j)
      = (show EReal from v (Shape.Idx.first h_S_) + x (ix2 0 j) + x (ix2 1 j)) := by
  show Host.reduceWindow (· + ·) ![2, 1] ![1, 1] ![0, 0] ![1, 0] x (fun _ : (⟨0, ![]⟩ : Shape).Idx => v (Shape.Idx.first h_S_)) h (by decide) (ix2 0 j) = _
  unfold Host.reduceWindow
  have hL : List.finRange (Shape.numel ⟨S2x1024.rank, ![2, 1]⟩) = [⟨0, by decide⟩, ⟨1, by decide⟩] := finRange_W
  have hj := j.isLt
  simp only [hL, List.foldl_cons, List.foldl_nil]
  have w1 := W_1
  rw [dif_pos (fun a => ?_), dif_pos (fun a => ?_)]
  · refine congrArg₂ HAdd.hAdd (congrArg₂ HAdd.hAdd rfl (congrArg x (funext fun a => Fin.ext ?_))) (congrArg x (funext fun a => Fin.ext ?_))
    · match a with
      | ⟨0, _⟩ => rfl
      | ⟨1, _⟩ =>
        show j.val * 1 + (W.rowMajor.symm ⟨0, by decide⟩ 1).val - 0 = j.val
        rw [W_0]; omega
    · match a with
      | ⟨0, _⟩ => rfl
      | ⟨1, _⟩ =>
        show j.val * 1 + (W.rowMajor.symm ⟨1, by decide⟩ 1).val - 0 = j.val
        rw [w1.2]; omega
  · match a with
    | ⟨0, _⟩ => exact ⟨Nat.zero_le _, show 0 * 1 + (W.rowMajor.symm ⟨1, by decide⟩ 0).val - 0 < 2 by rw [w1.1]; decide⟩
    | ⟨1, _⟩ =>
      refine ⟨Nat.zero_le _, ?_⟩
      show j.val * 1 + (W.rowMajor.symm ⟨1, by decide⟩ 1).val - 0 < 1024
      rw [w1.2]; omega
  · match a with
    | ⟨0, _⟩ => exact ⟨Nat.zero_le _, show 0 * 1 + (W.rowMajor.symm ⟨0, by decide⟩ 0).val - 0 < 2 by rw [W_0]; decide⟩
    | ⟨1, _⟩ =>
      refine ⟨Nat.zero_le _, ?_⟩
      show j.val * 1 + (W.rowMajor.symm ⟨0, by decide⟩ 1).val - 0 < 1024
      rw [W_0]; omega

theorem win_1 (x : FVec Ideal S2x1024 .f32) (v : FVec Ideal S_ .f32) (h) (j : Fin 1024) :
    Host.reduceWindowAdd (F := Ideal) (s := S2x1024) (t := S2x1024) ![2, 1] ![1, 1] ![0, 0] ![1, 0] x v h h_S_ (ix2 1 j)
      = (show EReal from v (Shape.Idx.first h_S_) + x (ix2 1 j) + v (Shape.Idx.first h_S_)) := by
  show Host.reduceWindow (· + ·) ![2, 1] ![1, 1] ![0, 0] ![1, 0] x (fun _ : (⟨0, ![]⟩ : Shape).Idx => v (Shape.Idx.first h_S_)) h (by decide) (ix2 1 j) = _
  unfold Host.reduceWindow
  have hL : List.finRange (Shape.numel ⟨S2x1024.rank, ![2, 1]⟩) = [⟨0, by decide⟩, ⟨1, by decide⟩] := finRange_W
  have hj := j.isLt
  simp only [hL, List.foldl_cons, List.foldl_nil]
  rw [dif_pos (fun a => ?_), dif_neg (fun hn => ?_)]
  · refine congrArg₂ HAdd.hAdd (congrArg₂ HAdd.hAdd rfl (congrArg x (funext fun a => Fin.ext ?_))) rfl
    match a with
    | ⟨0, _⟩ => rfl
    | ⟨1, _⟩ =>
      show j.val * 1 + (W.rowMajor.symm ⟨0, by decide⟩ 1).val - 0 = j.val
      rw [W_0]; omega
  · have h0 := (hn 0).2
    revert h0
    show ¬ 1 * 1 + (W.rowMajor.symm ⟨1, by decide⟩ 0).val - 0 < 2
    rw [W_1.1]; omega
  · match a with
    | ⟨0, _⟩ => exact ⟨Nat.zero_le _, show 1 * 1 + (W.rowMajor.symm ⟨0, by decide⟩ 0).val - 0 < 2 by rw [W_0]; decide⟩
    | ⟨1, _⟩ =>
      refine ⟨Nat.zero_le _, ?_⟩
      show j.val * 1 + (W.rowMajor.symm ⟨0, by decide⟩ 1).val - 0 < 1024
      rw [W_0]; omega

variable (γ δ : FVec Ideal S2x1024 .f32)

/-- The gradient at the softmax, as an array. -/
abbrev cotV : FVec Ideal S2x1024 .f32 := (addf (pad S2x1024 ![0, 0] ![1, 0] ![0, 0] (shapeCast S1x1024 (Host.reduceAdd (Host.negf δ) (constant S_ .f32 0x00000000#32) reducesTo_S2x1024_S1024_d0 h_S_) shapeCasts_S1024_S1x1024) (constant S_ .f32 0x00000000#32) pads_S1x1024_S2x1024_010_000 h_S_) (Host.reduceWindowAdd ![2, 1] ![1, 1] ![0, 0] ![1, 0] (shapeCast S2x1024 δ shapeCasts_S2x1024_S2x1024) (broadcastInDim S_ ![] bcast_S_S_ (constant S_ .f32 0x00000000#32)) reduceWindows_S2x1024_S2x1024_w2s1p0_1_w1s1p0_0 h_S_))

/-- The larger of the two logits, as an array. -/
abbrev mxV : FVec Ideal S1024 .f32 := (maximumf (broadcastInDim S1024 ![] bcast_S_S1024 (constant S_ .f32 0xFF800000#32)) (Host.reduce FloatOps.maximumf γ (constant S_ .f32 0xFF800000#32) reducesTo_S2x1024_S1024_d0 h_S_))

/-- The exponentials. -/
abbrev exV : FVec Ideal S2x1024 .f32 := Host.exp (subf γ (broadcastInDim S2x1024 ![0, 1] bcast_S1x1024_S2x1024_0_1 (broadcastInDim S1x1024 ![1] bcast_S1024_S1x1024_1 (mxV γ))))

theorem cot_1 (j : Fin 1024) : cotV δ (ix2 1 j) = (show EReal from δ (ix2 1 j)) := by
  unfold cotV
  rw [show ∀ a b : FVec Ideal S2x1024 .f32, addf a b (ix2 1 j) = (show EReal from a (ix2 1 j) + b (ix2 1 j)) from fun _ _ => rfl, win_1]
  pointwise

theorem cot_0 (hd : ∀ i, IsReal (δ i)) (j : Fin 1024) : cotV δ (ix2 0 j) = (0 : EReal) := by
  unfold cotV
  rw [show ∀ a b : FVec Ideal S2x1024 .f32, addf a b (ix2 0 j) = (show EReal from a (ix2 0 j) + b (ix2 0 j)) from fun _ _ => rfl, win_0]
  pointwise
  rw [Fin.sum_univ_two]
  obtain ⟨p, hp⟩ := hd (ix2 0 j)
  obtain ⟨q, hq⟩ := hd (ix2 1 j)
  rw [hp, hq, ← EReal.coe_neg, ← EReal.coe_neg, ← EReal.coe_add, ← EReal.coe_add, ← EReal.coe_add, ← EReal.coe_zero]
  exact congrArg _ (by ring)

theorem ofBits_bot : Ideal.ofBits .f32 0xFF800000#32 = (⊥ : EReal) := by
  simp [Ideal.ofBits, Ideal.ieee]

/-- The fold of the larger over two entries. -/
theorem fold_two (f : Fin 2 → EReal) : (Finset.univ : Finset (Fin 2)).fold max (⊥ : EReal) f = max (f 0) (f 1) := by
  have h : (Finset.univ : Finset (Fin 2)) = insert 0 {1} := by decide
  rw [h, Finset.fold_insert (by decide), Finset.fold_singleton, max_eq_left (bot_le : ⊥ ≤ f 1)]

theorem mx_at (j : Fin 1024) : mxV γ (ix1 j) = (show EReal from max (γ (ix2 0 j)) (γ (ix2 1 j))) := by
  unfold mxV
  rw [show ∀ a b : FVec Ideal S1024 .f32, maximumf a b (ix1 j) = (show EReal from max (a (ix1 j)) (b (ix1 j))) from fun _ _ => rfl,
    Host.reduce_eq_fold_single _ _ _ _ (by decide) _ _]
  pointwise
  rw [ofBits_bot]
  refine (max_eq_right bot_le).trans ((fold_two _).trans (congrArg₂ max ?_ ?_))
  all_goals
    refine congrArg γ (funext fun a => ?_)
    match a with
    | ⟨0, _⟩ => rfl
    | ⟨1, _⟩ => rfl

theorem ex_at (i : Fin 2) (j : Fin 1024) : exV γ (ix2 i j) = (show EReal from Ideal.exp (γ (ix2 i j) - max (γ (ix2 0 j)) (γ (ix2 1 j)))) := by
  unfold exV
  pointwise
  rw [ofBits_bot, max_eq_right bot_le, fold_two]

/-- The result, from these arrays. -/
theorem res_of (C X : FVec Ideal S2x1024 .f32) (i : Fin 2) (j : Fin 1024) :
    (mulf (addf (Host.divf C (broadcastInDim S2x1024 ![0, 1] bcast_S1x1024_S2x1024_0_1 (broadcastInDim S1x1024 ![1] bcast_S1024_S1x1024_1 (Host.reduceAdd X (constant S_ .f32 0x00000000#32) reducesTo_S2x1024_S1024_d0 h_S_)))) (broadcastInDim S2x1024 ![1] bcast_S1024_S2x1024_1 (Host.reduceAdd (Host.negf (shapeCast S1x1024 (Host.reduceAdd (mulf (mulf C (broadcastInDim S2x1024 ![0, 1] bcast_S1x1024_S2x1024_0_1 (Host.divf (broadcastInDim S1x1024 ![] bcast_S_S1x1024 (constant S_ .f32 0x3F800000#32)) (mulf (broadcastInDim S1x1024 ![1] bcast_S1024_S1x1024_1 (Host.reduceAdd X (constant S_ .f32 0x00000000#32) reducesTo_S2x1024_S1024_d0 h_S_)) (broadcastInDim S1x1024 ![1] bcast_S1024_S1x1024_1 (Host.reduceAdd X (constant S_ .f32 0x00000000#32) reducesTo_S2x1024_S1024_d0 h_S_)))))) X) (constant S_ .f32 0x00000000#32) reducesTo_S2x1024_S1024_d0 h_S_) shapeCasts_S1024_S1x1024)) (constant S_ .f32 0x00000000#32) reducesTo_S1x1024_S1024_d0 h_S_))) X : FVec Ideal S2x1024 .f32) (ix2 i j)
      = (show EReal from (Ideal.div (C (ix2 i j)) (∑ x : Fin 2, X (ix2 x j))
        + ∑ _z : Fin 1, -∑ x : Fin 2, C (ix2 x j) * Ideal.div 1 ((∑ x : Fin 2, X (ix2 x j)) * ∑ x : Fin 2, X (ix2 x j)) * X (ix2 x j)) * X (ix2 i j)) := by
  pointwise

/-- The derivative of the softmax at the gradient `(0, d)`, over the reals. -/
theorem soft_alg (d a b : EReal) (hd : IsReal d) (ha : IsReal a) (hb : IsReal b) (i : Fin 2) (C X : Fin 2 → EReal)
    (c0 : C 0 = 0) (c1 : C 1 = d) (x0 : X 0 = Ideal.exp (a - max a b)) (x1 : X 1 = Ideal.exp (b - max a b)) :
    (Ideal.div (C i) (∑ x : Fin 2, X x) + ∑ _z : Fin 1, -∑ x : Fin 2, C x * Ideal.div 1 ((∑ x : Fin 2, X x) * ∑ x : Fin 2, X x) * X x) * X i
      = P24.lb d a b i := by
  obtain ⟨d, rfl⟩ := hd
  obtain ⟨a, rfl⟩ := ha
  obtain ⟨b, rfl⟩ := hb
  obtain ⟨e0, p0, h0⟩ : ∃ e : ℝ, 0 < e ∧ Ideal.exp ((a : EReal) - max (a : EReal) b) = e :=
    ⟨Real.exp (a - max a b), Real.exp_pos _, by rw [← EReal.coe_strictMono.monotone.map_max, ← EReal.coe_sub]; rfl⟩
  obtain ⟨e1, p1, h1⟩ : ∃ e : ℝ, 0 < e ∧ Ideal.exp ((b : EReal) - max (a : EReal) b) = e :=
    ⟨Real.exp (b - max a b), Real.exp_pos _, by rw [← EReal.coe_strictMono.monotone.map_max, ← EReal.coe_sub]; rfl⟩
  have hS : e0 + e1 ≠ 0 := (add_pos p0 p1).ne'
  have hSS : (e0 + e1) * (e0 + e1) ≠ 0 := mul_ne_zero hS hS
  have hk : P24.d1 (d : EReal) a b = ((d * (e0 / (e0 + e1)) * (e1 / (e0 + e1)) : ℝ) : EReal) := by
    unfold P24.d1
    rw [h0, h1, ← EReal.coe_add, div_coe_coe _ _ hS, div_coe_coe _ _ hS, ← EReal.coe_mul, ← EReal.coe_mul]
  have hl : (∑ x : Fin 2, C x * Ideal.div 1 ((∑ x : Fin 2, X x) * ∑ x : Fin 2, X x) * X x)
      = ((d * (1 / ((e0 + e1) * (e0 + e1))) * e1 : ℝ) : EReal) := by
    rw [Fin.sum_univ_two, Fin.sum_univ_two, c0, c1, x0, x1, h0, h1, ← EReal.coe_one, ← EReal.coe_add, ← EReal.coe_mul, div_coe_coe _ _ hSS,
      zero_mul, zero_mul, zero_add, ← EReal.coe_mul, ← EReal.coe_mul]
  rw [hl, Fin.sum_univ_one, Fin.sum_univ_two X, x0, x1, h0, h1, ← EReal.coe_add, ← EReal.coe_neg]
  match i with
  | ⟨0, _⟩ =>
    change (Ideal.div (C 0) _ + _) * X 0 = P24.lb _ _ _ 0
    rw [P24.lb_zero, hk, c0, x0, h0, ← EReal.coe_zero, div_coe_coe _ _ hS, ← EReal.coe_add, ← EReal.coe_mul, ← EReal.coe_sub]
    refine congrArg _ ?_
    field_simp
    try ring
  | ⟨1, _⟩ =>
    change (Ideal.div (C 1) _ + _) * X 1 = P24.lb _ _ _ 1
    rw [P24.lb_one, hk, c1, x1, h1, div_coe_coe _ _ hS, ← EReal.coe_add, ← EReal.coe_mul]
    refine congrArg _ ?_
    field_simp
    try ring

/-- The reference's result, entry by entry, over real arguments. -/
theorem res_at (hg : ∀ i, IsReal (γ i)) (hd : ∀ i, IsReal (δ i)) (i : Fin 2) (j : Fin 1024) :
    (mulf (addf (Host.divf (cotV δ) (broadcastInDim S2x1024 ![0, 1] bcast_S1x1024_S2x1024_0_1 (broadcastInDim S1x1024 ![1] bcast_S1024_S1x1024_1 (Host.reduceAdd (exV γ) (constant S_ .f32 0x00000000#32) reducesTo_S2x1024_S1024_d0 h_S_)))) (broadcastInDim S2x1024 ![1] bcast_S1024_S2x1024_1 (Host.reduceAdd (Host.negf (shapeCast S1x1024 (Host.reduceAdd (mulf (mulf (cotV δ) (broadcastInDim S2x1024 ![0, 1] bcast_S1x1024_S2x1024_0_1 (Host.divf (broadcastInDim S1x1024 ![] bcast_S_S1x1024 (constant S_ .f32 0x3F800000#32)) (mulf (broadcastInDim S1x1024 ![1] bcast_S1024_S1x1024_1 (Host.reduceAdd (exV γ) (constant S_ .f32 0x00000000#32) reducesTo_S2x1024_S1024_d0 h_S_)) (broadcastInDim S1x1024 ![1] bcast_S1024_S1x1024_1 (Host.reduceAdd (exV γ) (constant S_ .f32 0x00000000#32) reducesTo_S2x1024_S1024_d0 h_S_)))))) (exV γ)) (constant S_ .f32 0x00000000#32) reducesTo_S2x1024_S1024_d0 h_S_) shapeCasts_S1024_S1x1024)) (constant S_ .f32 0x00000000#32) reducesTo_S1x1024_S1024_d0 h_S_))) (exV γ) : FVec Ideal S2x1024 .f32) (ix2 i j)
      = P24.lb (δ (ix2 1 j)) (γ (ix2 0 j)) (γ (ix2 1 j)) i :=
  (res_of (cotV δ) (exV γ) i j).trans (soft_alg _ _ _ (hd _) (hg _) (hg _) i (fun x => cotV δ (ix2 x j)) (fun x => exV γ (ix2 x j))
    (cot_0 δ hd j) (cot_1 δ j) (ex_at γ 0 j) (ex_at γ 1 j))

end Cert.Reference24Ideal.Value

end
-- ==== Proof.K24Pre.lean ====
/- What the condition on the arguments of the lower bounds' gradient says: their entries are real numbers. -/
module

public import proofs.«01_k».proof.Defs
public import proofs.«01_k».proof.Proof.Reals

@[expose] public section

set_option maxRecDepth 16384

noncomputable section

open Idealize.ShloMosaic Idealize.ShloMosaic.TcCoe Idealize.SL.Sem Cert.Reals

namespace Cert.Pre_finite24
variable [Facts]

theorem reals (a0 a1 a2 a3 : FVec Ideal S2x1024 .f32) (h : (fn (F := Ideal) a0 a1 a2 a3).1 = (fun _ => 1#1) ∧ (fn (F := Ideal) a0 a1 a2 a3).2.1 = (fun _ => 1#1) ∧ (fn (F := Ideal) a0 a1 a2 a3).2.2.1 = (fun _ => 1#1) ∧ (fn (F := Ideal) a0 a1 a2 a3).2.2.2 = (fun _ => 1#1)) :
    (∀ i, IsReal (a0 i)) ∧ (∀ i, IsReal (a1 i)) ∧ (∀ i, IsReal (a2 i)) ∧ (∀ i, IsReal (a3 i)) :=
  ⟨isReal_of_mask a0 Facts.bcast_S_S2x1024 h.1, isReal_of_mask a1 Facts.bcast_S_S2x1024 h.2.1, isReal_of_mask a2 Facts.bcast_S_S2x1024 h.2.2.1, isReal_of_mask a3 Facts.bcast_S_S2x1024 h.2.2.2⟩

end Cert.Pre_finite24

end
-- ==== Proof.K24Claim.lean ====
/- The lower bounds' gradient: the claims, from the kernel's and the reference's entries. -/
module

public import proofs.«01_k».proof.Defs
public import proofs.«01_k».proof.Proof.K24Value
public import proofs.«01_k».proof.Proof.K24Ref
public import proofs.«01_k».proof.Proof.K24Pre
public import proofs.«01_k».proof.Proof.Gen.Kernel24.Frame
public import proofs.«01_k».proof.Proof.Gen.Pre_finite24
public import Idealize.ShloMosaic.Lib.Quiescent

@[expose] public section

set_option maxRecDepth 16384

noncomputable section

open Idealize.ShloMosaic Idealize.ShloMosaic.TcCoe Idealize.SL.Sem Cert.Reals

namespace Cert.K24

instance : Cert.Kernel24.Facts := Cert.Kernel24.Gen.facts
instance : Cert.Kernel24Ideal.Facts := Cert.Kernel24Ideal.Gen.facts
instance : Cert.Reference24Ideal.Facts := Cert.Reference24Ideal.Gen.facts
instance : Cert.Pre_finite24.Facts := Cert.Pre_finite24.Gen.facts

/-- The reference leaves its arguments and all counters as it found them. -/
theorem ref_quiet : Cert.quiescent_Reference24Ideal := fun m ρ _ =>
  (θ_run Cert.Reference24Ideal.defs _ _).mono (fun r h => ⟨fun c => (h c).2.2, sem_eq_zero_of_no_sems (by decide) r.2⟩)
    (Cert.Reference24Ideal.Value.run (F := Ideal) m ρ)

theorem ref_quiet_pre : Cert.quiescent_Reference24Ideal_pre_finite24 := fun m ρ _ =>
  (θ_run Cert.Reference24Ideal.defs _ _).mono (fun r h => ⟨fun c => (h c).2.2, sem_eq_zero_of_no_sems (by decide) r.2⟩)
    (Cert.Reference24Ideal.Value.run (F := Ideal) m ρ)

/-- The results are equal over real arguments. -/
theorem algebraic : Cert.algebraic_Kernel24Ideal_Reference24Ideal_pre_finite24 := by
  intro m ρ m' ρ' hp ha
  refine ⟨fun c => Cert.Kernel24Ideal.Value.R4 m c, fun c => Cert.Kernel24Ideal.Value.R5 m c,
    (θ_run Cert.Kernel24Ideal.defs _ _).mono (fun _ h c => ⟨(h c).1.trans (Cert.Kernel24Ideal.Value.final4 m c), (h c).2.1.trans (Cert.Kernel24Ideal.Value.final5 m c), (h c).2.2⟩)
      (Cert.Kernel24Ideal.Value.run_blocks (F := Ideal) m ρ), ?_⟩
  refine (θ_run Cert.Reference24Ideal.defs _ _).mono (fun _ h c => ⟨(h c).1.trans ?_, (h c).2.1.trans ?_, (h c).2.2⟩)
    (Cert.Reference24Ideal.Value.run (F := Ideal) m' ρ')
  · obtain ⟨h0, h1, h2, h3⟩ := ha c
    obtain ⟨k0, k1, k2, k3⟩ := Cert.Pre_finite24.reals _ _ _ _ (hp c)
    rw [h0, h2]
    funext i
    idx_vars i
    rw [Cert.Kernel24Ideal.Value.R4_at]
    exact Cert.Reference24Ideal.Value.res_at _ _ k0 k2 i0 i1
  · obtain ⟨h0, h1, h2, h3⟩ := ha c
    obtain ⟨k0, k1, k2, k3⟩ := Cert.Pre_finite24.reals _ _ _ _ (hp c)
    rw [h1, h3]
    funext i
    idx_vars i
    rw [Cert.Kernel24Ideal.Value.R5_at]
    exact Cert.Reference24Ideal.Value.res_at _ _ k1 k3 i0 i1

end Cert.K24

end
-- ==== Proof.K25Def.lean ====
/- The backward pass of the per-layer embedding's gate: its results, entry by entry. -/
module

public import proofs.«01_k».proof.Proof.Gen.Kernel25Ideal
public import proofs.«01_k».proof.Proof.Rms
public import Idealize.ShloMosaic.Lib.Pointwise

@[expose] public section

set_option maxRecDepth 16384

noncomputable section

open Idealize.ShloMosaic Idealize.ShloMosaic.TcCoe Idealize.SL.Sem

namespace Cert.P25
open Cert.Kernel25Ideal

variable (dx e tg : FVec Ideal S16384x1024 .f32) (w : FVec Ideal S1024x1024 .bf16) (ff : FVec Ideal S16384x1024 .f32)
  (g : FVec Ideal S1x1024 .f32)

/-- The gradient at the gate's product, from an entry of the incoming gradient, of the embedding and of that product. -/
abbrev dtS (d e t : EReal) : EReal := d * e * Ideal.logistic t * (1 - Ideal.logistic t)
/-- The gradient at the embedding. -/
abbrev deS (d t : EReal) : EReal := d * Ideal.logistic t

/-- The gradient at the gate's input: the incoming one and what comes through the gate. -/
def dx2 (r : Fin 16384) (j : Fin 1024) : EReal :=
  dx (ix2 r j) + ∑ l : Fin 1024, dtS (dx (ix2 r l)) (e (ix2 r l)) (tg (ix2 r l)) * w (ix2 j l)

/-- The gradient at the rows before the norm. -/
def dff (r : Fin 16384) (j : Fin 1024) : EReal :=
  Rms.bwd (fun l => dx2 dx e tg w r l * g (ix2 0 l)) (fun l => ff (ix2 r l)) j

/-- What one row adds to the gain's gradient. -/
def gterm (j : Fin 1024) (r : Fin 16384) : EReal := dx2 dx e tg w r j * (ff (ix2 r j) * Rms.rs fun l => ff (ix2 r l))

/-- The gradient at the gain. -/
def dg (j : Fin 1024) : EReal := ∑ r : Fin 16384, gterm dx e tg w ff j r

end Cert.P25

end
-- ==== Proof.K25Value.lean ====
/- The backward pass of the per-layer embedding's gate: what the kernel leaves in its result arrays. -/
module

public import proofs.«01_k».proof.Proof.Gen.Kernel25Ideal.Value
public import proofs.«01_k».proof.Proof.K25Def
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

open Idealize.ShloMosaic.Pipeline (Dat)

namespace Cert.Kernel25Ideal.Value
open Cert.Kernel25Ideal Cert.Kernel25Ideal.Gen

variable (m : (ℓ : Loc nD τ sig) → Buf (Elt Ideal) ℓ) (c : Dev nD)

/-- The block indices of the windows at each grid point. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![0, 0] :=
  (by decide +kernel : ∀ t : Fin grid0.N, _)

/-- The blocks in use at a point. -/
def B0 (t : Fin cfg0.N) : FVec Ideal S512x1024 .f32 := iblk m c 0 t
def B1 (t : Fin cfg0.N) : FVec Ideal S512x1024 .f32 := iblk m c 1 t
def B2 (t : Fin cfg0.N) : FVec Ideal S512x1024 .f32 := iblk m c 2 t
def B3 (t : Fin cfg0.N) : FVec Ideal S1024x1024 .bf16 := iblk m c 3 t
def B4 (t : Fin cfg0.N) : FVec Ideal S512x1024 .f32 := iblk m c 4 t
def B5 (t : Fin cfg0.N) : FVec Ideal S1x1024 .f32 := iblk m c 5 t

/-- The arrays of the arguments. -/
abbrev dxA : FVec Ideal S16384x1024 .f32 := m ((c.tc : Thread nD τ).loc main_arg0)
abbrev eA : FVec Ideal S16384x1024 .f32 := m ((c.tc : Thread nD τ).loc main_arg1)
abbrev tgA : FVec Ideal S16384x1024 .f32 := m ((c.tc : Thread nD τ).loc main_arg2)
abbrev wA : FVec Ideal S1024x1024 .bf16 := m ((c.tc : Thread nD τ).loc main_arg3)
abbrev ffA : FVec Ideal S16384x1024 .f32 := m ((c.tc : Thread nD τ).loc main_arg4)
abbrev gA : FVec Ideal S1x1024 .f32 := m ((c.tc : Thread nD τ).loc main_arg5)

theorem tlt (t : Fin cfg0.N) : t.val < 32 := lt_of_lt_of_eq t.isLt (show cfg0.N = 32 from N_0)

theorem blk0 (t : Fin cfg0.N) (a : Fin 512) (k : Fin 1024) (r : Fin 16384) (hr : r.val = 512 * t.val + a.val) :
    B0 m c t (ix2 a k) = dxA m c (ix2 r k) := by
  unfold B0
  blk_ext [iblk, V, idx_val t]

theorem blk1 (t : Fin cfg0.N) (a : Fin 512) (k : Fin 1024) (r : Fin 16384) (hr : r.val = 512 * t.val + a.val) :
    B1 m c t (ix2 a k) = eA m c (ix2 r k) := by
  unfold B1
  blk_ext [iblk, V, idx_val t]

theorem blk2 (t : Fin cfg0.N) (a : Fin 512) (k : Fin 1024) (r : Fin 16384) (hr : r.val = 512 * t.val + a.val) :
    B2 m c t (ix2 a k) = tgA m c (ix2 r k) := by
  unfold B2
  blk_ext [iblk, V, idx_val t]

theorem blk3 (t : Fin cfg0.N) (a k : Fin 1024) : B3 m c t (ix2 a k) = wA m c (ix2 a k) := by
  unfold B3
  blk_ext [iblk, V, idx_val t]

theorem blk4 (t : Fin cfg0.N) (a : Fin 512) (k : Fin 1024) (r : Fin 16384) (hr : r.val = 512 * t.val + a.val) :
    B4 m c t (ix2 a k) = ffA m c (ix2 r k) := by
  unfold B4
  blk_ext [iblk, V, idx_val t]

theorem blk5 (t : Fin cfg0.N) (z : Fin 1) (k : Fin 1024) : B5 m c t (ix2 z k) = gA m c (ix2 z k) := by
  unfold B5
  blk_ext [iblk, V, idx_val t]

/-- The gradient at the gate's product, on the blocks of a point. -/
def dtB (t : Fin cfg0.N) (r : Fin 512) (j : Fin 1024) : EReal :=
  P25.dtS (B0 m c t (ix2 r j)) (B1 m c t (ix2 r j)) (B2 m c t (ix2 r j))
/-- The gradient at the embedding. -/
def deB (t : Fin cfg0.N) (r : Fin 512) (j : Fin 1024) : EReal :=
  P25.deS (B0 m c t (ix2 r j)) (B2 m c t (ix2 r j))

theorem out6 (t : Fin cfg0.N) (r : Fin 512) (j : Fin 1024) : (outsAt0 m c t.val t.isLt).1 (ix2 r j) = dtB m c t r j := by
  unfold dtB P25.dtS B0 B1 B2
  by_cases h0 : t.val % 32 = 0
  · rw [outsAt0_A m c t h0 (by have := tlt t; omega)]
    frame_out
    canon_tiles x hx
    all_goals (open_payloads; pointwise; blk_point [] <;> first | exact hx0.symm | exact hx1.symm)
  · rw [outsAt0_B m c t h0 (by omega)]
    frame_out
    canon_tiles x hx
    all_goals (open_payloads; pointwise; blk_point [] <;> first | exact hx0.symm | exact hx1.symm)

theorem out7 (t : Fin cfg0.N) (r : Fin 512) (j : Fin 1024) : (outsAt0 m c t.val t.isLt).2.1 (ix2 r j) = deB m c t r j := by
  unfold deB P25.deS B0 B2
  by_cases h0 : t.val % 32 = 0
  · rw [outsAt0_A m c t h0 (by have := tlt t; omega)]
    frame_out
    canon_tiles x hx
    all_goals (open_payloads; pointwise; blk_point [] <;> first | exact hx0.symm | exact hx1.symm)
  · rw [outsAt0_B m c t h0 (by omega)]
    frame_out
    canon_tiles x hx
    all_goals (open_payloads; pointwise; blk_point [] <;> first | exact hx0.symm | exact hx1.symm)

/-- A product of 256 columns, on tiles as loaded. -/
def grpv (a b u : FVec Ideal S512x256 .f32) (w : FVec Ideal S1024x256 .bf16) (r : Fin 512) (j : Fin 1024) : EReal :=
  ∑ k : Fin 256, P25.dtS (a (ix2 r k)) (b (ix2 r k)) (u (ix2 r k)) * w (ix2 j k)

/-- The four products of a point, on tiles as loaded, and the incoming gradient. -/
abbrev chainV (a0 b0 u0 a1 b1 u1 a2 b2 u2 a3 b3 u3 : FVec Ideal S512x256 .f32) (w0 w1 w2 w3 : FVec Ideal S1024x256 .bf16)
    (x : FVec Ideal S512x1024 .f32) : FVec Ideal S512x1024 .f32 :=
  k0_pay16 (F := Ideal) (k0_pay12 (k0_pay5 a0 b0 u0 w0) (k0_pay8 a1 b1 u1) w1 a2 b2 u2 w2) (k0_pay15 a3 b3 u3) w3 x

theorem chain_at (a0 b0 u0 a1 b1 u1 a2 b2 u2 a3 b3 u3 : FVec Ideal S512x256 .f32) (w0 w1 w2 w3 : FVec Ideal S1024x256 .bf16)
    (x : FVec Ideal S512x1024 .f32) (r : Fin 512) (j : Fin 1024) :
    chainV a0 b0 u0 a1 b1 u1 a2 b2 u2 a3 b3 u3 w0 w1 w2 w3 x (ix2 r j)
    = x (ix2 r j) + (grpv a0 b0 u0 w0 r j + grpv a1 b1 u1 w1 r j + grpv a2 b2 u2 w2 r j + grpv a3 b3 u3 w3 r j) := by
  unfold grpv
  pointwise [k0_pay2, k0_pay4, k0_pay5, k0_pay6, k0_pay8, k0_pay9, k0_pay11, k0_pay12, k0_pay13, k0_pay15, k0_pay16]

end Cert.Kernel25Ideal.Value

end
-- ==== Proof.K25Out.lean ====
/- The backward pass of the per-layer embedding's gate: the kernel's result arrays, entry by entry. -/
module

public import proofs.«01_k».proof.Proof.K25Value

@[expose] public section

set_option maxRecDepth 16384

noncomputable section

open Idealize.ShloMosaic Idealize.ShloMosaic.TcCoe Idealize.SL.Sem
open Idealize.ShloMosaic.Pipeline (Dat)

namespace Cert.Kernel25Ideal.Value
open Cert.Kernel25Ideal Cert.Kernel25Ideal.Gen

variable (m : (ℓ : Loc nD τ sig) → Buf (Elt Ideal) ℓ) (c : Dev nD)

/-- The gradient at the gate's input, on the blocks of a point. -/
def dx2B (t : Fin cfg0.N) (r : Fin 512) (j : Fin 1024) : EReal :=
  B0 m c t (ix2 r j) + ∑ l : Fin 1024, dtB m c t r l * B3 m c t (ix2 j l)

theorem ld_col (X : Vec Ideal S512x1024 .f32) (o : ℕ) (ho : o + 256 ≤ 1024) (h) (r : Fin 512) (k : Fin 256) :
    View.ld X (Rect.unit ![0, o] ![512, 256] h) (ix2 r k) = X (ix2 r ⟨o + k.val, by omega⟩) := by
  rw [View.ld_apply]
  refine congrArg X (funext fun a => Fin.ext ?_)
  rw [Rect.idx_unit_val]
  match a with
  | ⟨0, _⟩ => exact Nat.zero_add _
  | ⟨1, _⟩ => rfl

theorem ld_w (X : Vec Ideal S1024x1024 .bf16) (o : ℕ) (ho : o + 256 ≤ 1024) (h) (r : Fin 1024) (k : Fin 256) :
    View.ld X (Rect.unit ![0, o] ![1024, 256] h) (ix2 r k) = X (ix2 r ⟨o + k.val, by omega⟩) := by
  rw [View.ld_apply]
  refine congrArg X (funext fun a => Fin.ext ?_)
  rw [Rect.idx_unit_val]
  match a with
  | ⟨0, _⟩ => exact Nat.zero_add _
  | ⟨1, _⟩ => rfl

/-- Four sums of 256 terms are the sum of 1024. -/
theorem sum_four (f : Fin 1024 → EReal) :
    (∑ k : Fin 256, f ⟨0 + k.val, by omega⟩) + (∑ k : Fin 256, f ⟨256 + k.val, by omega⟩)
      + (∑ k : Fin 256, f ⟨512 + k.val, by omega⟩) + (∑ k : Fin 256, f ⟨768 + k.val, by omega⟩) = ∑ l : Fin 1024, f l := by
  have e : (∑ s : Fin 4, ∑ k : Fin 256, f ⟨s.val * 256 + k.val, by omega⟩) = ∑ l : Fin 1024, f l :=
    Fin.sum_mul_add_congr (S := 4) (n := 256) (L := 1024) (f := f) (F := fun s k => f ⟨s.val * 256 + k.val, by omega⟩) (fun _ _ _ => rfl) (by norm_num)
  rw [← e, Fin.sum_univ_four]
  rfl

/-- The vector a point's body evaluates, of the blocks of that point. -/
def dx2V (t : Fin cfg0.N) : FVec Ideal S512x1024 .f32 := fun i => (dx2B m c t (i 0) (i 1) : EReal)

theorem grp (t : Fin cfg0.N) (r : Fin 512) (j : Fin 1024) (a b u : FVec Ideal S512x256 .f32) (w : FVec Ideal S1024x256 .bf16)
    (o : ℕ) (ho : o + 256 ≤ 1024)
    (ha : ∀ k : Fin 256, a (ix2 r k) = B0 m c t (ix2 r ⟨o + k.val, by omega⟩)) (hb : ∀ k : Fin 256, b (ix2 r k) = B1 m c t (ix2 r ⟨o + k.val, by omega⟩))
    (hu : ∀ k : Fin 256, u (ix2 r k) = B2 m c t (ix2 r ⟨o + k.val, by omega⟩))
    (hw : ∀ k : Fin 256, w (ix2 j k) = B3 m c t (ix2 j ⟨o + k.val, by omega⟩)) :
    grpv a b u w r j = ∑ k : Fin 256, (fun l => dtB m c t r l * B3 m c t (ix2 j l)) ⟨o + k.val, by omega⟩ := by
  unfold grpv dtB
  exact Finset.sum_congr rfl fun k _ => by rw [ha, hb, hu, hw]

/-- The 256 columns from `o` on of a block. -/
abbrev lc (X : Vec Ideal S512x1024 .f32) (o : ℕ) (h : ∀ a, (![0, o] : Fin 2 → Nat) a + S512x256.size a ≤ S512x1024.size a := by decide) : FVec Ideal S512x256 .f32 :=
  View.ld X (Rect.unit (s := S512x1024) ![0, o] S512x256.size h)
abbrev lw (X : Vec Ideal S1024x1024 .bf16) (o : ℕ) (h : ∀ a, (![0, o] : Fin 2 → Nat) a + S1024x256.size a ≤ S1024x1024.size a := by decide) : FVec Ideal S1024x256 .bf16 :=
  View.ld X (Rect.unit (s := S1024x1024) ![0, o] S1024x256.size h)

theorem chain_eq (t : Fin cfg0.N) :
    chainV (lc (B0 m c t) 0) (lc (B1 m c t) 0)
      (lc (B2 m c t) 0)
      (lc (B0 m c t) 256) (lc (B1 m c t) 256)
      (lc (B2 m c t) 256)
      (lc (B0 m c t) 512) (lc (B1 m c t) 512)
      (lc (B2 m c t) 512)
      (lc (B0 m c t) 768) (lc (B1 m c t) 768)
      (lc (B2 m c t) 768)
      (lw (B3 m c t) 0) (lw (B3 m c t) 256)
      (lw (B3 m c t) 512) (lw (B3 m c t) 768)
      (B0 m c t) = dx2V m c t := by
  funext i
  idx_vars i
  refine (chain_at _ _ _ _ _ _ _ _ _ _ _ _ _ _ _ _ _ i0 i1).trans ?_
  have e0 := grp m c t i0 i1 (lc (B0 m c t) 0) (lc (B1 m c t) 0) (lc (B2 m c t) 0) (lw (B3 m c t) 0) 0 (by decide)
    (fun k => ld_col (B0 m c t) 0 (by decide) _ i0 k) (fun k => ld_col (B1 m c t) 0 (by decide) _ i0 k)
    (fun k => ld_col (B2 m c t) 0 (by decide) _ i0 k) (fun k => ld_w (B3 m c t) 0 (by decide) _ i1 k)
  have e1 := grp m c t i0 i1 (lc (B0 m c t) 256) (lc (B1 m c t) 256) (lc (B2 m c t) 256) (lw (B3 m c t) 256) 256 (by decide)
    (fun k => ld_col (B0 m c t) 256 (by decide) _ i0 k) (fun k => ld_col (B1 m c t) 256 (by decide) _ i0 k)
    (fun k => ld_col (B2 m c t) 256 (by decide) _ i0 k) (fun k => ld_w (B3 m c t) 256 (by decide) _ i1 k)
  have e2 := grp m c t i0 i1 (lc (B0 m c t) 512) (lc (B1 m c t) 512) (lc (B2 m c t) 512) (lw (B3 m c t) 512) 512 (by decide)
    (fun k => ld_col (B0 m c t) 512 (by decide) _ i0 k) (fun k => ld_col (B1 m c t) 512 (by decide) _ i0 k)
    (fun k => ld_col (B2 m c t) 512 (by decide) _ i0 k) (fun k => ld_w (B3 m c t) 512 (by decide) _ i1 k)
  have e3 := grp m c t i0 i1 (lc (B0 m c t) 768) (lc (B1 m c t) 768) (lc (B2 m c t) 768) (lw (B3 m c t) 768) 768 (by decide)
    (fun k => ld_col (B0 m c t) 768 (by decide) _ i0 k) (fun k => ld_col (B1 m c t) 768 (by decide) _ i0 k)
    (fun k => ld_col (B2 m c t) 768 (by decide) _ i0 k) (fun k => ld_w (B3 m c t) 768 (by decide) _ i1 k)
  rw [e0, e1, e2, e3]
  show _ = dx2B m c t i0 i1
  unfold dx2B
  rw [← sum_four]

theorem out8 (t : Fin cfg0.N) : (outsAt0 m c t.val t.isLt).2.2.1 = dx2V m c t := by
  refine Eq.trans ?_ (chain_eq m c t)
  by_cases h0 : t.val % 32 = 0
  · rw [outsAt0_A m c t h0 (by have := tlt t; omega)]
    frame_out
    rfl
  · rw [outsAt0_B m c t h0 (by omega)]
    frame_out
    rfl

theorem pay1_at (v a : FVec Ideal S1x1024 .f32) (z : Fin 1) (j : Fin 1024) :
    k0_pay1 (F := Ideal) v a (ix2 z j) = a (ix2 z j) + v (ix2 z j) := by
  pointwise [k0_pay1]

/-- The column sums of a point, from the gradient at the gate's input that its body evaluates. -/
theorem pay19_at (p : FVec Ideal S512x1024 .f32) (q : FVec Ideal S512x256 .bf16) (u : FVec Ideal S1024x256 .bf16) (d x : FVec Ideal S512x1024 .f32)
    (D : FVec Ideal S512x1024 .f32) (hD : k0_pay16 (F := Ideal) p q u d = D) (z : Fin 1) (j : Fin 1024) :
    k0_pay19 (F := Ideal) p q u d x (ix2 z j) = ∑ r : Fin 512, D (ix2 r j) * (x (ix2 r j) * Rms.rs fun l => x (ix2 r l)) := by
  unfold k0_pay19
  rw [hD]
  pointwise [k0_pay18, k0_pay17]

/-- The gradient at the rows before the norm. -/
theorem pay20_at (p : FVec Ideal S512x1024 .f32) (q : FVec Ideal S512x256 .bf16) (u : FVec Ideal S1024x256 .bf16) (d x : FVec Ideal S512x1024 .f32)
    (g : FVec Ideal S1x1024 .f32) (D : FVec Ideal S512x1024 .f32) (hD : k0_pay16 (F := Ideal) p q u d = D) (r : Fin 512) (j : Fin 1024) :
    k0_pay20 (F := Ideal) p q u d x g (ix2 r j)
      = Rms.bwd (fun l => D (ix2 r l) * g (ix2 0 l)) (fun l => x (ix2 r l)) j := by
  unfold k0_pay20
  rw [hD]
  pointwise [k0_pay18, k0_pay17]

theorem out9 (t : Fin cfg0.N) (r : Fin 512) (j : Fin 1024) :
    (outsAt0 m c t.val t.isLt).2.2.2.1 (ix2 r j)
      = Rms.bwd (fun l => dx2B m c t r l * B5 m c t (ix2 0 l)) (fun l => B4 m c t (ix2 r l)) j := by
  by_cases h0 : t.val % 32 = 0
  · rw [outsAt0_A m c t h0 (by have := tlt t; omega)]
    frame_out
    exact pay20_at _ _ _ _ (B4 m c t) (B5 m c t) (dx2V m c t) (chain_eq m c t) r j
  · rw [outsAt0_B m c t h0 (by omega)]
    frame_out
    exact pay20_at _ _ _ _ (B4 m c t) (B5 m c t) (dx2V m c t) (chain_eq m c t) r j

/-- The column sums of a point. -/
def colB (t : Fin cfg0.N) (j : Fin 1024) : EReal :=
  ∑ r : Fin 512, dx2B m c t r j * (B4 m c t (ix2 r j) * Rms.rs fun l => B4 m c t (ix2 r l))

/-- The first point sets the gain's gradient. -/
theorem acc_first (t : Fin cfg0.N) (h0 : t.val % 32 = 0) (z : Fin 1) (j : Fin 1024) :
    (outsAt0 m c t.val t.isLt).2.2.2.2 (ix2 z j) = colB m c t j := by
  rw [outsAt0_A m c t h0 (by have := tlt t; omega)]
  frame_out
  exact pay19_at _ _ _ _ (B4 m c t) (dx2V m c t) (chain_eq m c t) z j

/-- Each later point adds to it. -/
theorem acc_step (t : Fin cfg0.N) (h0 : ¬t.val % 32 = 0) (z : Fin 1) (j : Fin 1024) :
    (outsAt0 m c t.val t.isLt).2.2.2.2 (ix2 z j)
      = (outsAt0 m c (t.val - 1) (Nat.lt_of_le_of_lt (Nat.sub_le _ _) t.isLt)).2.2.2.2 (ix2 z j) + colB m c t j := by
  rw [outsAt0_B m c t h0 (by omega)]
  frame_out
  refine (pay1_at _ _ z j).trans ?_
  exact congrArg₂ HAdd.hAdd rfl (pay19_at _ _ _ _ (B4 m c t) (dx2V m c t) (chain_eq m c t) z j)

/-! The entries, on the rows of the arrays. -/

theorem rowLt (t : Fin cfg0.N) (r : Fin 512) : 512 * t.val + r.val < 16384 := by
  have := tlt t
  omega

/-- The row of the array that row `r` of the block in use at a point is. -/
abbrev row (t : Fin cfg0.N) (r : Fin 512) : Fin 16384 := ⟨512 * t.val + r.val, rowLt t r⟩

theorem dx2B_eq (t : Fin cfg0.N) (r : Fin 512) (j : Fin 1024) :
    dx2B m c t r j = P25.dx2 (dxA m c) (eA m c) (tgA m c) (wA m c) (row t r) j := by
  unfold dx2B dtB P25.dx2
  rw [blk0 m c t r j (row t r) rfl]
  simp only [fun k => blk0 m c t r k (row t r) rfl, fun k => blk1 m c t r k (row t r) rfl, fun k => blk2 m c t r k (row t r) rfl, blk3]

theorem colB_eq (t : Fin cfg0.N) (j : Fin 1024) :
    colB m c t j = ∑ r : Fin 512, P25.gterm (dxA m c) (eA m c) (tgA m c) (wA m c) (ffA m c) j (row t r) := by
  unfold colB P25.gterm
  refine Finset.sum_congr rfl fun r _ => ?_
  rw [dx2B_eq]
  simp only [fun k => blk4 m c t r k (row t r) rfl]

theorem acc_last (t : Fin cfg0.N) (h : t.val % 32 = 31) (z : Fin 1) (j : Fin 1024) :
    (outsAt0 m c t.val t.isLt).2.2.2.2 (ix2 z j) = P25.dg (dxA m c) (eA m c) (tgA m c) (wA m c) (ffA m c) j := by
  rw [Pipeline.eq_sum_fin_of_reset_step_of_flush (fun n h => ((outsAt0 m c n h).2.2.2.2 (ix2 z j) : EReal)) 32 0
    (fun t => colB m c t j) (fun t h => by rw [zero_add]; exact acc_first m c t h z j) (fun t h => acc_step m c t h z j) t h, zero_add]
  unfold P25.dg
  have hN := tlt t
  simp only [colB_eq]
  refine Fin.sum_mul_add_congr fun s k hl => ?_
  congr 1
  apply Fin.ext
  show 512 * (32 * (t.val / 32) + s.val) + k.val = s.val * 512 + k.val
  omega

/-! The arrays. -/

def R6 : FVec Ideal S16384x1024 .bf16 := fun i => (P25.dtS (dxA m c (ix2 (i 0) (i 1))) (eA m c (ix2 (i 0) (i 1))) (tgA m c (ix2 (i 0) (i 1))) : EReal)
def R7 : FVec Ideal S16384x1024 .bf16 := fun i => (P25.deS (dxA m c (ix2 (i 0) (i 1))) (tgA m c (ix2 (i 0) (i 1))) : EReal)
def R8 : FVec Ideal S16384x1024 .f32 := fun i => (P25.dx2 (dxA m c) (eA m c) (tgA m c) (wA m c) (i 0) (i 1) : EReal)
def R9 : FVec Ideal S16384x1024 .bf16 := fun i => (P25.dff (dxA m c) (eA m c) (tgA m c) (wA m c) (ffA m c) (gA m c) (i 0) (i 1) : EReal)
def R10 : FVec Ideal S1x1024 .f32 := fun i => (P25.dg (dxA m c) (eA m c) (tgA m c) (wA m c) (ffA m c) (i 1) : EReal)

theorem R6_at (r : Fin 16384) (j : Fin 1024) : R6 m c (ix2 r j) = P25.dtS (dxA m c (ix2 r j)) (eA m c (ix2 r j)) (tgA m c (ix2 r j)) := rfl
theorem R7_at (r : Fin 16384) (j : Fin 1024) : R7 m c (ix2 r j) = P25.deS (dxA m c (ix2 r j)) (tgA m c (ix2 r j)) := rfl
theorem R8_at (r : Fin 16384) (j : Fin 1024) : R8 m c (ix2 r j) = P25.dx2 (dxA m c) (eA m c) (tgA m c) (wA m c) r j := rfl
theorem R9_at (r : Fin 16384) (j : Fin 1024) : R9 m c (ix2 r j) = P25.dff (dxA m c) (eA m c) (tgA m c) (wA m c) (ffA m c) (gA m c) r j := rfl
theorem R10_at (z : Fin 1) (j : Fin 1024) : R10 m c (ix2 z j) = P25.dg (dxA m c) (eA m c) (tgA m c) (wA m c) (ffA m c) j := rfl

theorem final6 : (dats m 0 c).arrAt 6 cfg0.N = R6 m c := by
  refine (dats m 0 c).arrAt_eq_of_covers 6 _ (by decide +kernel) fun t hf y => ?_
  blk_simp
  rw [after0_6]
  idx_vars y
  have e : ((View.whole main_v0_0).slice (win0_6.rect t)).emb (ix2 y0 y1) = ix2 (row t y0) y1 := by
    funext a; apply Fin.ext
    match a with
    | ⟨0, _⟩ =>
      blk_simp [idx_val t]
      show _ = 512 * t.val + y0.val
      omega
    | ⟨1, _⟩ =>
      blk_simp [idx_val t]
      first | done | rfl
  rw [e, R6_at]
  refine (out6 m c t y0 y1).trans ?_
  unfold dtB
  rw [blk0 m c t y0 y1 (row t y0) rfl, blk1 m c t y0 y1 (row t y0) rfl, blk2 m c t y0 y1 (row t y0) rfl]

theorem final7 : (dats m 0 c).arrAt 7 cfg0.N = R7 m c := by
  refine (dats m 0 c).arrAt_eq_of_covers 7 _ (by decide +kernel) fun t hf y => ?_
  blk_simp
  rw [after0_7]
  idx_vars y
  have e : ((View.whole main_v0_1).slice (win0_7.rect t)).emb (ix2 y0 y1) = ix2 (row t y0) y1 := by
    funext a; apply Fin.ext
    match a with
    | ⟨0, _⟩ =>
      blk_simp [idx_val t]
      show _ = 512 * t.val + y0.val
      omega
    | ⟨1, _⟩ =>
      blk_simp [idx_val t]
      first | done | rfl
  rw [e, R7_at]
  refine (out7 m c t y0 y1).trans ?_
  unfold deB
  rw [blk0 m c t y0 y1 (row t y0) rfl, blk2 m c t y0 y1 (row t y0) rfl]

theorem final8 : (dats m 0 c).arrAt 8 cfg0.N = R8 m c := by
  refine (dats m 0 c).arrAt_eq_of_covers 8 _ (by decide +kernel) fun t hf y => ?_
  blk_simp
  rw [after0_8]
  idx_vars y
  have e : ((View.whole main_v0_2).slice (win0_8.rect t)).emb (ix2 y0 y1) = ix2 (row t y0) y1 := by
    funext a; apply Fin.ext
    match a with
    | ⟨0, _⟩ =>
      blk_simp [idx_val t]
      show _ = 512 * t.val + y0.val
      omega
    | ⟨1, _⟩ =>
      blk_simp [idx_val t]
      first | done | rfl
  rw [e, R8_at]
  rw [out8]
  exact dx2B_eq m c t y0 y1

theorem final9 : (dats m 0 c).arrAt 9 cfg0.N = R9 m c := by
  refine (dats m 0 c).arrAt_eq_of_covers 9 _ (by decide +kernel) fun t hf y => ?_
  blk_simp
  rw [after0_9]
  idx_vars y
  have e : ((View.whole main_v0_3).slice (win0_9.rect t)).emb (ix2 y0 y1) = ix2 (row t y0) y1 := by
    funext a; apply Fin.ext
    match a with
    | ⟨0, _⟩ =>
      blk_simp [idx_val t]
      show _ = 512 * t.val + y0.val
      omega
    | ⟨1, _⟩ =>
      blk_simp [idx_val t]
      first | done | rfl
  rw [e, R9_at]
  refine (out9 m c t y0 y1).trans ?_
  unfold P25.dff
  simp only [dx2B_eq, fun k => blk4 m c t y0 k (row t y0) rfl, blk5]

theorem flush10 : ∀ t : Fin cfg0.N, (cfg0.win 10).flush t = true → t.val = 31 :=
  (by decide +kernel : ∀ t : Fin grid0.N, _)

theorem final10 : (dats m 0 c).arrAt 10 cfg0.N = R10 m c := by
  refine (dats m 0 c).arrAt_eq_of_covers 10 _ (by decide +kernel) fun t hf y => ?_
  have ht := flush10 t hf
  blk_simp
  rw [after0_10]
  idx_vars y
  have e : ((View.whole main_v0_4).slice (win0_10.rect t)).emb (ix2 y0 y1) = ix2 y0 y1 := by
    funext a; apply Fin.ext
    match a with
    | ⟨0, _⟩ =>
      blk_simp [idx_val t]
      first | done | rfl
    | ⟨1, _⟩ =>
      blk_simp [idx_val t]
      first | done | rfl
  rw [e, R10_at]
  exact acc_last m c t (by omega) y0 y1

end Cert.Kernel25Ideal.Value

end
-- ==== Proof.K25Ref.lean ====
/- The reference of the per-layer embedding's gate, backwards, entry by entry. -/
module

public import proofs.«01_k».proof.Proof.Gen.Reference25Ideal.Run
public import proofs.«01_k».proof.Proof.K25Def
public import Idealize.ShloMosaic.Lib.Pointwise

@[expose] public section

set_option maxRecDepth 16384

noncomputable section

open Idealize.ShloMosaic Idealize.ShloMosaic.TcCoe Idealize.SL.Sem Cert.Reals

namespace Cert.Reference25Ideal.Value
open Cert.Reference25Ideal Cert.Reference25Ideal.Gen

variable (dx e tg : FVec Ideal S16384x1024 .f32) (w : FVec Ideal S1024x1024 .bf16) (ff : FVec Ideal S16384x1024 .f32)
  (g : FVec Ideal S1x1024 .f32)

/-- The gradient at the gate's product, the factors in the order of the chain rule. -/
theorem dt_alg (d e s : EReal) : e * d * (s * (1 - s)) = d * e * s * (1 - s) := by
  rw [← mul_assoc, mul_comm e d]

theorem log_eq (t : EReal) : Ideal.div 1 (1 + Ideal.exp (-t)) = Ideal.logistic t := rfl

theorem res0_at (r : Fin 16384) (j : Fin 1024) :
    (truncf .bf16 (mulf (mulf e (shapeCast S16384x1024 dx shapeCasts_S16384x1024_S16384x1024)) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf tg)))) (subf (broadcastInDim S16384x1024 ![] bcast_S_S16384x1024 (constant S_ .f32 0x3F800000#32)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf tg))))))) bitsLt_bf16_f32
      : FVec Ideal S16384x1024 .bf16) (ix2 r j) = (P25.dtS (dx (ix2 r j)) (e (ix2 r j)) (tg (ix2 r j)) : EReal) := by
  pointwise
  simp only [log_eq]
  exact dt_alg _ _ _

theorem res1_at (r : Fin 16384) (j : Fin 1024) :
    (truncf .bf16 (mulf (shapeCast S16384x1024 dx shapeCasts_S16384x1024_S16384x1024) (Host.divf (broadcastInDim S16384x1024 ![] bcast_S_S16384x1024 (constant S_ .f32 0x3F800000#32)) (addf (broadcastInDim S16384x1024 ![] bcast_S_S16384x1024 (constant S_ .f32 0x3F800000#32)) (Host.exp (Host.negf tg))))) bitsLt_bf16_f32
      : FVec Ideal S16384x1024 .bf16) (ix2 r j) = (P25.deS (dx (ix2 r j)) (tg (ix2 r j)) : EReal) := by
  pointwise
  first | done | simp only [log_eq]

/-- The reference's gradient at the gate's input, as an array. -/
abbrev dx2V : FVec Ideal S16384x1024 .f32 :=
  addf (shapeCast S16384x1024 dx shapeCasts_S16384x1024_S16384x1024) (Host.dotGeneral dot_S16384x1024_S1024x1024_S16384x1024_1_1_0_0_n_n none (mulf (mulf e (shapeCast S16384x1024 dx shapeCasts_S16384x1024_S16384x1024)) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf tg)))) (subf (broadcastInDim S16384x1024 ![] bcast_S_S16384x1024 (constant S_ .f32 0x3F800000#32)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf tg))))))) (extf .f32 w bitsLt_bf16_f32))

theorem res2_at (r : Fin 16384) (j : Fin 1024) : dx2V dx e tg w (ix2 r j) = P25.dx2 dx e tg w r j := by
  unfold dx2V P25.dx2
  pointwise
  simp only [log_eq, dt_alg]

/-- The gradient at the rows before the norm, from that array: the chain of the norm's derivatives. -/
theorem chain_at (D : FVec Ideal S16384x1024 .f32) (r : Fin 16384) (j : Fin 1024) :
    (truncf .bf16 (addf (addf (mulf (mulf D (broadcastInDim S16384x1024 ![0, 1] bcast_S1x1024_S16384x1024_0_1 g)) (broadcastInDim S16384x1024 ![0, 1] bcast_S16384x1_S16384x1024_0_1 (Host.rsqrt (addf (Host.divf (broadcastInDim S16384x1 ![0] bcast_S16384_S16384x1_0 (Host.reduceAdd (mulf ff ff) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (mulf ff (broadcastInDim S16384x1024 ![0] bcast_S16384_S16384x1024_0 (Host.reduceAdd (Host.divf (mulf (shapeCast S16384x1 (Host.reduceAdd (mulf ff (mulf D (broadcastInDim S16384x1024 ![0, 1] bcast_S1x1024_S16384x1024_0_1 g))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf ff ff) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf ff ff) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)))) (mulf (broadcastInDim S16384x1024 ![0] bcast_S16384_S16384x1024_0 (Host.reduceAdd (Host.divf (mulf (shapeCast S16384x1 (Host.reduceAdd (mulf ff (mulf D (broadcastInDim S16384x1024 ![0, 1] bcast_S1x1024_S16384x1024_0_1 g))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf ff ff) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf ff ff) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)) ff)) bitsLt_bf16_f32
      : FVec Ideal S16384x1024 .bf16) (ix2 r j) = (show EReal from D (ix2 r j) * g (ix2 0 j) * Rms.rs (fun l => ff (ix2 r l))
      + ff (ix2 r j) * Rms.chain (fun l => D (ix2 r l) * g (ix2 0 l)) (fun l => ff (ix2 r l))
      + Rms.chain (fun l => D (ix2 r l) * g (ix2 0 l)) (fun l => ff (ix2 r l)) * ff (ix2 r j)) := by
  pointwise

theorem r_dx2 (h0 : ∀ i, IsReal (dx i)) (h1 : ∀ i, IsReal (e i)) (h2 : ∀ i, IsReal (tg i)) (h3 : ∀ i, IsReal (w i))
    (r : Fin 16384) (j : Fin 1024) : IsReal (P25.dx2 dx e tg w r j) := by
  have hl : ∀ i, IsReal (Ideal.logistic (tg i)) := fun i => by
    obtain ⟨y, hy⟩ := h2 i
    rw [hy]
    exact ⟨_, Ideal.logistic_coe y⟩
  have h1' : IsReal (1 : EReal) := ⟨1, rfl⟩
  exact (h0 _).add (IsReal.sum fun l => ((((h0 _).mul (h1 _)).mul (hl _)).mul (h1'.sub (hl _))).mul (h3 _))

theorem res3_at (r : Fin 16384) (j : Fin 1024) (h0 : ∀ i, IsReal (dx i)) (h1 : ∀ i, IsReal (e i)) (h2 : ∀ i, IsReal (tg i))
    (h3 : ∀ i, IsReal (w i)) (h4 : ∀ i, IsReal (ff i)) (h5 : ∀ i, IsReal (g i)) :
    (truncf .bf16 (addf (addf (mulf (mulf (dx2V dx e tg w) (broadcastInDim S16384x1024 ![0, 1] bcast_S1x1024_S16384x1024_0_1 g)) (broadcastInDim S16384x1024 ![0, 1] bcast_S16384x1_S16384x1024_0_1 (Host.rsqrt (addf (Host.divf (broadcastInDim S16384x1 ![0] bcast_S16384_S16384x1_0 (Host.reduceAdd (mulf ff ff) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (mulf ff (broadcastInDim S16384x1024 ![0] bcast_S16384_S16384x1024_0 (Host.reduceAdd (Host.divf (mulf (shapeCast S16384x1 (Host.reduceAdd (mulf ff (mulf (dx2V dx e tg w) (broadcastInDim S16384x1024 ![0, 1] bcast_S1x1024_S16384x1024_0_1 g))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf ff ff) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf ff ff) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)))) (mulf (broadcastInDim S16384x1024 ![0] bcast_S16384_S16384x1024_0 (Host.reduceAdd (Host.divf (mulf (shapeCast S16384x1 (Host.reduceAdd (mulf ff (mulf (dx2V dx e tg w) (broadcastInDim S16384x1024 ![0, 1] bcast_S1x1024_S16384x1024_0_1 g))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (addf (Host.divf (broadcastInDim S16384x1 ![0] bcast_S16384_S16384x1_0 (Host.reduceAdd (mulf ff ff) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))) (addf (Host.divf (broadcastInDim S16384x1 ![0] bcast_S16384_S16384x1_0 (Host.reduceAdd (mulf ff ff) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1 ![] bcast_S_S16384x1 (constant S_ .f32 0x44800000#32))) (constant S_ .f32 0x00000000#32) reducesTo_S16384x1_S16384_d1 h_S_)) ff)) bitsLt_bf16_f32
      : FVec Ideal S16384x1024 .bf16) (ix2 r j) = P25.dff dx e tg w ff g r j := by
  refine (chain_at ff g (dx2V dx e tg w) r j).trans ?_
  unfold P25.dff
  rw [Rms.bwd_eq (fun l => (r_dx2 dx e tg w h0 h1 h2 h3 r l).mul (h5 _)) fun l => h4 _]
  simp only [res2_at]

theorem col_at (D : FVec Ideal S16384x1024 .f32) (z : Fin 1) (j : Fin 1024) :
    (shapeCast S1x1024 (Host.reduceAdd (mulf (mulf ff (broadcastInDim S16384x1024 ![0, 1] bcast_S16384x1_S16384x1024_0_1 (Host.rsqrt (addf (Host.divf (broadcastInDim S16384x1 ![0] bcast_S16384_S16384x1_0 (Host.reduceAdd (mulf ff ff) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) D) (constant S_ .f32 0x00000000#32) reducesTo_S16384x1024_S1024_d0 h_S_) shapeCasts_S1024_S1x1024
      : FVec Ideal S1x1024 .f32) (ix2 z j)
      = (show EReal from ∑ r : Fin 16384, D (ix2 r j) * (ff (ix2 r j) * Rms.rs fun l => ff (ix2 r l))) := by
  pointwise
  first | done | exact Finset.sum_congr rfl fun r _ => mul_comm _ _

theorem res4_at (z : Fin 1) (j : Fin 1024) :
    (shapeCast S1x1024 (Host.reduceAdd (mulf (mulf ff (broadcastInDim S16384x1024 ![0, 1] bcast_S16384x1_S16384x1024_0_1 (Host.rsqrt (addf (Host.divf (broadcastInDim S16384x1 ![0] bcast_S16384_S16384x1_0 (Host.reduceAdd (mulf ff ff) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (dx2V dx e tg w)) (constant S_ .f32 0x00000000#32) reducesTo_S16384x1024_S1024_d0 h_S_) shapeCasts_S1024_S1x1024
      : FVec Ideal S1x1024 .f32) (ix2 z j) = P25.dg dx e tg w ff j := by
  refine (col_at ff (dx2V dx e tg w) z j).trans ?_
  unfold P25.dg P25.gterm
  simp only [res2_at]

end Cert.Reference25Ideal.Value

end
-- ==== Proof.K25Pre.lean ====
/- What the condition on the arguments of the backward pass of the per-layer embedding's gate says: their entries are real numbers. -/
module

public import proofs.«01_k».proof.Defs
public import proofs.«01_k».proof.Proof.Reals

@[expose] public section

set_option maxRecDepth 16384

noncomputable section

open Idealize.ShloMosaic Idealize.ShloMosaic.TcCoe Idealize.SL.Sem Cert.Reals

namespace Cert.Pre_finite25
variable [Facts]

theorem reals (a0 a1 a2 : FVec Ideal S16384x1024 .f32) (a3 : FVec Ideal S1024x1024 .bf16) (a4 : FVec Ideal S16384x1024 .f32)
    (a5 : FVec Ideal S1x1024 .f32) (h : (fn (F := Ideal) a0 a1 a2 a3 a4 a5).1 = (fun _ => 1#1) ∧ (fn (F := Ideal) a0 a1 a2 a3 a4 a5).2.1 = (fun _ => 1#1) ∧ (fn (F := Ideal) a0 a1 a2 a3 a4 a5).2.2.1 = (fun _ => 1#1) ∧ (fn (F := Ideal) a0 a1 a2 a3 a4 a5).2.2.2.1 = (fun _ => 1#1) ∧ (fn (F := Ideal) a0 a1 a2 a3 a4 a5).2.2.2.2.1 = (fun _ => 1#1) ∧ (fn (F := Ideal) a0 a1 a2 a3 a4 a5).2.2.2.2.2 = (fun _ => 1#1)) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) :=
  ⟨isReal_of_mask a0 Facts.bcast_S_S16384x1024 h.1,
    isReal_of_mask a1 Facts.bcast_S_S16384x1024 h.2.1,
    isReal_of_mask a2 Facts.bcast_S_S16384x1024 h.2.2.1,
    isReal_of_mask (extf .f32 a3 Facts.bitsLt_bf16_f32) Facts.bcast_S_S1024x1024 h.2.2.2.1,
    isReal_of_mask a4 Facts.bcast_S_S16384x1024 h.2.2.2.2.1,
    isReal_of_mask a5 Facts.bcast_S_S1x1024 h.2.2.2.2.2⟩

end Cert.Pre_finite25

end
-- ==== Proof.K25Claim.lean ====
/- The backward pass of the per-layer embedding's gate: the claims, from the kernel's and the reference's entries. -/
module

public import proofs.«01_k».proof.Defs
public import proofs.«01_k».proof.Proof.K25Out
public import proofs.«01_k».proof.Proof.K25Ref
public import proofs.«01_k».proof.Proof.K25Pre
public import proofs.«01_k».proof.Proof.Gen.Kernel25.Frame
public import proofs.«01_k».proof.Proof.Gen.Pre_finite25
public import Idealize.ShloMosaic.Lib.Quiescent

@[expose] public section

set_option maxRecDepth 16384

noncomputable section

open Idealize.ShloMosaic Idealize.ShloMosaic.TcCoe Idealize.SL.Sem Cert.Reals

namespace Cert.K25

instance : Cert.Kernel25.Facts := Cert.Kernel25.Gen.facts
instance : Cert.Kernel25Ideal.Facts := Cert.Kernel25Ideal.Gen.facts
instance : Cert.Reference25Ideal.Facts := Cert.Reference25Ideal.Gen.facts
instance : Cert.Pre_finite25.Facts := Cert.Pre_finite25.Gen.facts

/-- The reference leaves its arguments and all counters as it found them. -/
theorem ref_quiet : Cert.quiescent_Reference25Ideal := fun m ρ _ =>
  (θ_run Cert.Reference25Ideal.defs _ _).mono (fun r h => ⟨fun c => (h c).2.2.2.2.2, sem_eq_zero_of_no_sems (by decide) r.2⟩)
    (Cert.Reference25Ideal.Value.run (F := Ideal) m ρ)

theorem ref_quiet_pre : Cert.quiescent_Reference25Ideal_pre_finite25 := fun m ρ _ =>
  (θ_run Cert.Reference25Ideal.defs _ _).mono (fun r h => ⟨fun c => (h c).2.2.2.2.2, sem_eq_zero_of_no_sems (by decide) r.2⟩)
    (Cert.Reference25Ideal.Value.run (F := Ideal) m ρ)

/-- The results are equal over real arguments. -/
theorem algebraic : Cert.algebraic_Kernel25Ideal_Reference25Ideal_pre_finite25 := by
  intro m ρ m' ρ' hp ha
  refine ⟨fun c => Cert.Kernel25Ideal.Value.R6 m c, fun c => Cert.Kernel25Ideal.Value.R7 m c, fun c => Cert.Kernel25Ideal.Value.R8 m c, fun c => Cert.Kernel25Ideal.Value.R9 m c, fun c => Cert.Kernel25Ideal.Value.R10 m c,
    (θ_run Cert.Kernel25Ideal.defs _ _).mono (fun _ h c => ⟨(h c).1.trans (Cert.Kernel25Ideal.Value.final6 m c), (h c).2.1.trans (Cert.Kernel25Ideal.Value.final7 m c), (h c).2.2.1.trans (Cert.Kernel25Ideal.Value.final8 m c), (h c).2.2.2.1.trans (Cert.Kernel25Ideal.Value.final9 m c), (h c).2.2.2.2.1.trans (Cert.Kernel25Ideal.Value.final10 m c), (h c).2.2.2.2.2⟩)
      (Cert.Kernel25Ideal.Value.run_blocks (F := Ideal) m ρ), ?_⟩
  refine (θ_run Cert.Reference25Ideal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.Reference25Ideal.Value.run (F := Ideal) m' ρ')
  · obtain ⟨h0, h1, h2, h3, h4, h5⟩ := ha c
    rw [h0, h1, h2]
    funext i
    idx_vars i
    rw [Cert.Kernel25Ideal.Value.R6_at]
    exact Cert.Reference25Ideal.Value.res0_at _ _ _ i0 i1
  · obtain ⟨h0, h1, h2, h3, h4, h5⟩ := ha c
    rw [h0, h2]
    funext i
    idx_vars i
    rw [Cert.Kernel25Ideal.Value.R7_at]
    exact Cert.Reference25Ideal.Value.res1_at _ _ i0 i1
  · obtain ⟨h0, h1, h2, h3, h4, h5⟩ := ha c
    rw [h0, h1, h2, h3]
    funext i
    idx_vars i
    rw [Cert.Kernel25Ideal.Value.R8_at]
    exact Cert.Reference25Ideal.Value.res2_at _ _ _ _ i0 i1
  · obtain ⟨h0, h1, h2, h3, h4, h5⟩ := ha c
    obtain ⟨k0, k1, k2, k3, k4, k5⟩ := Cert.Pre_finite25.reals _ _ _ _ _ _ (hp c)
    unfold Cert.Reference25Ideal.Value.res_main_v57
    rw [h0, h1, h2, h3, h4, h5]
    funext i
    idx_vars i
    rw [Cert.Kernel25Ideal.Value.R9_at]
    exact Cert.Reference25Ideal.Value.res3_at _ _ _ _ _ _ i0 i1 k0 k1 k2 k3 k4 k5
  · obtain ⟨h0, h1, h2, h3, h4, h5⟩ := ha c
    rw [h0, h1, h2, h3, h4]
    funext i
    idx_vars i
    rw [Cert.Kernel25Ideal.Value.R10_at]
    exact Cert.Reference25Ideal.Value.res4_at _ _ _ _ _ i0 i1

end Cert.K25

end
-- ==== Proof.K26Def.lean ====
/- The per-layer embedding's gate of the last layer, with the loss: the kernel's arithmetic, entry by entry. -/
module

public import proofs.«01_k».proof.Proof.Gen.Kernel26Ideal
public import Idealize.ShloMosaic.Lib.Pointwise

@[expose] public section

set_option maxRecDepth 16384

noncomputable section

open Idealize.ShloMosaic

namespace Cert.P26
open Cert.Kernel26Ideal

/-- The gate's product. -/
def tg (x : FVec Ideal S16384x1024 .f32) (w : FVec Ideal S1024x1024 .bf16) (r : Fin 16384) (j : Fin 1024) : EReal :=
  ∑ l : Fin 1024, x (ix2 r l) * w (ix2 l j)

/-- The difference from the target. -/
def err (x : FVec Ideal S16384x1024 .f32) (w : FVec Ideal S1024x1024 .bf16) (e y : FVec Ideal S16384x1024 .f32) (r : Fin 16384)
    (j : Fin 1024) : EReal :=
  x (ix2 r j) + e (ix2 r j) * Ideal.logistic (tg x w r j) - y (ix2 r j)

/-- Its square. -/
def sq (x : FVec Ideal S16384x1024 .f32) (w : FVec Ideal S1024x1024 .bf16) (e y : FVec Ideal S16384x1024 .f32) (j : Fin 1024)
    (r : Fin 16384) : EReal :=
  err x w e y r j * err x w e y r j

/-- The sum of the squares of a column. -/
def cols (x : FVec Ideal S16384x1024 .f32) (w : FVec Ideal S1024x1024 .bf16) (e y : FVec Ideal S16384x1024 .f32) (j : Fin 1024) : EReal :=
  ∑ r : Fin 16384, sq x w e y j r

end Cert.P26

end
-- ==== Proof.K26Value.lean ====
/- The per-layer embedding's gate of the last layer, with the loss: the kernel's result arrays, entry by entry. -/
module

public import proofs.«01_k».proof.Proof.Gen.Kernel26Ideal.Value
public import proofs.«01_k».proof.Proof.K26Def
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel26Ideal.Value
open Cert.Kernel26Ideal Cert.Kernel26Ideal.Gen

variable (m : (ℓ : Loc nD τ sig) → Buf (Elt Ideal) ℓ) (c : Dev nD)

/-- The block indices of the windows at each grid point. -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![0, 0] :=
  (by decide +kernel : ∀ t : Fin grid0.N, _)

/-- The blocks in use at a point. -/
def B0 (t : Fin cfg0.N) : FVec Ideal S1024x1024 .f32 := iblk m c 0 t
def B1 (t : Fin cfg0.N) : FVec Ideal S1024x1024 .bf16 := iblk m c 1 t
def B2 (t : Fin cfg0.N) : FVec Ideal S1024x1024 .f32 := iblk m c 2 t
def B3 (t : Fin cfg0.N) : FVec Ideal S1024x1024 .f32 := iblk m c 3 t

/-- The arrays of the arguments. -/
abbrev xA : FVec Ideal S16384x1024 .f32 := m ((c.tc : Thread nD τ).loc main_arg0)
abbrev wA : FVec Ideal S1024x1024 .bf16 := m ((c.tc : Thread nD τ).loc main_arg1)
abbrev eA : FVec Ideal S16384x1024 .f32 := m ((c.tc : Thread nD τ).loc main_arg2)
abbrev yA : FVec Ideal S16384x1024 .f32 := m ((c.tc : Thread nD τ).loc main_arg3)

theorem tlt (t : Fin cfg0.N) : t.val < 16 := lt_of_lt_of_eq t.isLt (show cfg0.N = 16 from N_0)

theorem blk0 (t : Fin cfg0.N) (a : Fin 1024) (k : Fin 1024) (r : Fin 16384) (hr : r.val = 1024 * t.val + a.val) :
    B0 m c t (ix2 a k) = xA m c (ix2 r k) := by
  unfold B0
  blk_ext [iblk, V, idx_val t]

theorem blk2 (t : Fin cfg0.N) (a : Fin 1024) (k : Fin 1024) (r : Fin 16384) (hr : r.val = 1024 * t.val + a.val) :
    B2 m c t (ix2 a k) = eA m c (ix2 r k) := by
  unfold B2
  blk_ext [iblk, V, idx_val t]

theorem blk3 (t : Fin cfg0.N) (a : Fin 1024) (k : Fin 1024) (r : Fin 16384) (hr : r.val = 1024 * t.val + a.val) :
    B3 m c t (ix2 a k) = yA m c (ix2 r k) := by
  unfold B3
  blk_ext [iblk, V, idx_val t]

theorem blk1 (t : Fin cfg0.N) (a k : Fin 1024) : B1 m c t (ix2 a k) = wA m c (ix2 a k) := by
  unfold B1
  blk_ext [iblk, V, idx_val t]

/-- The gate's product, on blocks. -/
def tgv (x : FVec Ideal S1024x1024 .f32) (w : FVec Ideal S1024x1024 .bf16) (r j : Fin 1024) : EReal :=
  ∑ l : Fin 1024, x (ix2 r l) * w (ix2 l j)

/-- The difference from the target, on blocks. -/
def errv (x : FVec Ideal S1024x1024 .f32) (w : FVec Ideal S1024x1024 .bf16) (e y : FVec Ideal S1024x1024 .f32) (r j : Fin 1024) : EReal :=
  x (ix2 r j) + e (ix2 r j) * Ideal.logistic (tgv x w r j) - y (ix2 r j)

theorem pay1_at (x : FVec Ideal S1024x1024 .f32) (w : FVec Ideal S1024x1024 .bf16) (r j : Fin 1024) :
    k0_pay1 (F := Ideal) x w (ix2 r j) = tgv x w r j := by
  unfold tgv
  pointwise [k0_pay1]

theorem pay2_at (x : FVec Ideal S1024x1024 .f32) (w : FVec Ideal S1024x1024 .bf16) (e y : FVec Ideal S1024x1024 .f32) (r j : Fin 1024) :
    k0_pay2 (F := Ideal) x w x e y (ix2 r j) = errv x w e y r j := by
  unfold errv
  rw [← pay1_at]
  pointwise [k0_pay2, k0_pay1]

theorem pay3_at (x : FVec Ideal S1024x1024 .f32) (w : FVec Ideal S1024x1024 .bf16) (e y : FVec Ideal S1024x1024 .f32) (r j : Fin 1024) :
    k0_pay3 (F := Ideal) x w x e y (ix2 r j) = errv x w e y r j * Ideal.ofBits .f32 0x3A800000#32 := by
  rw [← pay2_at]
  unfold k0_pay3
  generalize k0_pay2 (F := Ideal) x w x e y = E
  pointwise

theorem pay4_at (x : FVec Ideal S1024x1024 .f32) (w : FVec Ideal S1024x1024 .bf16) (e y : FVec Ideal S1024x1024 .f32) (z : Fin 1) (j : Fin 1024) :
    k0_pay4 (F := Ideal) x w x e y (ix2 z j) = ∑ r : Fin 1024, errv x w e y r j * errv x w e y r j := by
  simp only [← pay2_at]
  unfold k0_pay4
  generalize k0_pay2 (F := Ideal) x w x e y = E
  pointwise

theorem pay5_at (x : FVec Ideal S1024x1024 .f32) (w : FVec Ideal S1024x1024 .bf16) (e y : FVec Ideal S1024x1024 .f32) (v : FVec Ideal S1x1024 .f32)
    (z : Fin 1) (j : Fin 1024) :
    k0_pay5 (F := Ideal) x w x e y v (ix2 z j) = v (ix2 z j) + ∑ r : Fin 1024, errv x w e y r j * errv x w e y r j := by
  rw [← pay4_at x w e y z j]
  unfold k0_pay5
  generalize k0_pay4 (F := Ideal) x w x e y = E
  pointwise

theorem out4 (t : Fin cfg0.N) (r j : Fin 1024) : (outsAt0 m c t.val t.isLt).1 (ix2 r j) = tgv (B0 m c t) (B1 m c t) r j := by
  by_cases h0 : t.val % 16 = 0
  · rw [outsAt0_A m c t h0 (by have := tlt t; omega)]
    frame_out
    exact pay1_at (B0 m c t) (B1 m c t) r j
  · rw [outsAt0_B m c t h0 (by omega)]
    frame_out
    exact pay1_at (B0 m c t) (B1 m c t) r j

theorem out5 (t : Fin cfg0.N) (r j : Fin 1024) : (outsAt0 m c t.val t.isLt).2.1 (ix2 r j)
    = errv (B0 m c t) (B1 m c t) (B2 m c t) (B3 m c t) r j * Ideal.ofBits .f32 0x3A800000#32 := by
  by_cases h0 : t.val % 16 = 0
  · rw [outsAt0_A m c t h0 (by have := tlt t; omega)]
    frame_out
    exact pay3_at (B0 m c t) (B1 m c t) (B2 m c t) (B3 m c t) r j
  · rw [outsAt0_B m c t h0 (by omega)]
    frame_out
    exact pay3_at (B0 m c t) (B1 m c t) (B2 m c t) (B3 m c t) r j

/-- The column sums of a point. -/
def colB (t : Fin cfg0.N) (j : Fin 1024) : EReal :=
  ∑ r : Fin 1024, errv (B0 m c t) (B1 m c t) (B2 m c t) (B3 m c t) r j * errv (B0 m c t) (B1 m c t) (B2 m c t) (B3 m c t) r j

/-- The first point sets the sums. -/
theorem acc_first (t : Fin cfg0.N) (h0 : t.val % 16 = 0) (z : Fin 1) (j : Fin 1024) :
    (outsAt0 m c t.val t.isLt).2.2 (ix2 z j) = colB m c t j := by
  rw [outsAt0_A m c t h0 (by have := tlt t; omega)]
  frame_out
  exact pay4_at (B0 m c t) (B1 m c t) (B2 m c t) (B3 m c t) z j

/-- Each later point adds to them. -/
theorem acc_step (t : Fin cfg0.N) (h0 : ¬t.val % 16 = 0) (z : Fin 1) (j : Fin 1024) :
    (outsAt0 m c t.val t.isLt).2.2 (ix2 z j)
      = (outsAt0 m c (t.val - 1) (Nat.lt_of_le_of_lt (Nat.sub_le _ _) t.isLt)).2.2 (ix2 z j) + colB m c t j := by
  rw [outsAt0_B m c t h0 (by omega)]
  frame_out
  exact pay5_at (B0 m c t) (B1 m c t) (B2 m c t) (B3 m c t) _ z j

/-! The entries, on the rows of the arrays. -/

theorem rowLt (t : Fin cfg0.N) (r : Fin 1024) : 1024 * t.val + r.val < 16384 := by
  have := tlt t
  omega

/-- The row of the array that row `r` of the block in use at a point is. -/
abbrev row (t : Fin cfg0.N) (r : Fin 1024) : Fin 16384 := ⟨1024 * t.val + r.val, rowLt t r⟩

theorem tg_eq (t : Fin cfg0.N) (r j : Fin 1024) : tgv (B0 m c t) (B1 m c t) r j = P26.tg (xA m c) (wA m c) (row t r) j := by
  unfold tgv P26.tg
  simp only [fun k => blk0 m c t r k (row t r) rfl, blk1]

theorem err_eq (t : Fin cfg0.N) (r j : Fin 1024) :
    errv (B0 m c t) (B1 m c t) (B2 m c t) (B3 m c t) r j = P26.err (xA m c) (wA m c) (eA m c) (yA m c) (row t r) j := by
  unfold errv P26.err
  rw [tg_eq, blk0 m c t r j (row t r) rfl, blk2 m c t r j (row t r) rfl, blk3 m c t r j (row t r) rfl]

theorem colB_eq (t : Fin cfg0.N) (j : Fin 1024) :
    colB m c t j = ∑ r : Fin 1024, P26.sq (xA m c) (wA m c) (eA m c) (yA m c) j (row t r) := by
  unfold colB P26.sq
  exact Finset.sum_congr rfl fun r _ => by rw [err_eq]

theorem acc_last (t : Fin cfg0.N) (h : t.val % 16 = 15) (z : Fin 1) (j : Fin 1024) :
    (outsAt0 m c t.val t.isLt).2.2 (ix2 z j) = P26.cols (xA m c) (wA m c) (eA m c) (yA m c) j := by
  rw [Pipeline.eq_sum_fin_of_reset_step_of_flush (fun n h => ((outsAt0 m c n h).2.2 (ix2 z j) : EReal)) 16 0
    (fun t => colB m c t j) (fun t h => by rw [zero_add]; exact acc_first m c t h z j) (fun t h => acc_step m c t h z j) t h, zero_add]
  unfold P26.cols
  have hN := tlt t
  simp only [colB_eq]
  refine Fin.sum_mul_add_congr fun s k hl => ?_
  congr 1
  apply Fin.ext
  show 1024 * (16 * (t.val / 16) + s.val) + k.val = s.val * 1024 + k.val
  omega

/-! The arrays. -/

def R4 : FVec Ideal S16384x1024 .f32 := fun i => (P26.tg (xA m c) (wA m c) (i 0) (i 1) : EReal)
def R5 : FVec Ideal S16384x1024 .f32 := fun i =>
  (P26.err (xA m c) (wA m c) (eA m c) (yA m c) (i 0) (i 1) * Ideal.ofBits .f32 0x3A800000#32 : EReal)
def R6 : FVec Ideal S1x1024 .f32 := fun i => (P26.cols (xA m c) (wA m c) (eA m c) (yA m c) (i 1) : EReal)

theorem R4_at (r : Fin 16384) (j : Fin 1024) : R4 m c (ix2 r j) = P26.tg (xA m c) (wA m c) r j := rfl
theorem R5_at (r : Fin 16384) (j : Fin 1024) :
    R5 m c (ix2 r j) = (show EReal from P26.err (xA m c) (wA m c) (eA m c) (yA m c) r j * Ideal.ofBits .f32 0x3A800000#32) := rfl
theorem R6_at (z : Fin 1) (j : Fin 1024) : R6 m c (ix2 z j) = P26.cols (xA m c) (wA m c) (eA m c) (yA m c) j := rfl

theorem final4 : (dats m 0 c).arrAt 4 cfg0.N = R4 m c := by
  refine (dats m 0 c).arrAt_eq_of_covers 4 _ (by decide +kernel) fun t hf y => ?_
  blk_simp
  rw [after0_4]
  idx_vars y
  have e : ((View.whole main_v0_0).slice (win0_4.rect t)).emb (ix2 y0 y1) = ix2 (row t y0) y1 := by
    funext a; apply Fin.ext
    match a with
    | ⟨0, _⟩ =>
      blk_simp [idx_val t]
      show _ = 1024 * t.val + y0.val
      omega
    | ⟨1, _⟩ =>
      blk_simp [idx_val t]
      first | done | rfl
  rw [e, R4_at]
  exact (out4 m c t y0 y1).trans (tg_eq m c t y0 y1)

theorem final5 : (dats m 0 c).arrAt 5 cfg0.N = R5 m c := by
  refine (dats m 0 c).arrAt_eq_of_covers 5 _ (by decide +kernel) fun t hf y => ?_
  blk_simp
  rw [after0_5]
  idx_vars y
  have e : ((View.whole main_v0_1).slice (win0_5.rect t)).emb (ix2 y0 y1) = ix2 (row t y0) y1 := by
    funext a; apply Fin.ext
    match a with
    | ⟨0, _⟩ =>
      blk_simp [idx_val t]
      show _ = 1024 * t.val + y0.val
      omega
    | ⟨1, _⟩ =>
      blk_simp [idx_val t]
      first | done | rfl
  rw [e, R5_at]
  refine (out5 m c t y0 y1).trans ?_
  rw [err_eq]

theorem flush6 : ∀ t : Fin cfg0.N, (cfg0.win 6).flush t = true → t.val = 15 :=
  (by decide +kernel : ∀ t : Fin grid0.N, _)

theorem final6 : (dats m 0 c).arrAt 6 cfg0.N = R6 m c := by
  refine (dats m 0 c).arrAt_eq_of_covers 6 _ (by decide +kernel) fun t hf y => ?_
  have ht := flush6 t hf
  blk_simp
  rw [after0_6]
  idx_vars y
  have e : ((View.whole main_v0_2).slice (win0_6.rect t)).emb (ix2 y0 y1) = ix2 y0 y1 := by
    funext a; apply Fin.ext
    match a with
    | ⟨0, _⟩ =>
      blk_simp [idx_val t]
      first | done | rfl
    | ⟨1, _⟩ =>
      blk_simp [idx_val t]
      first | done | rfl
  rw [e, R6_at]
  exact acc_last m c t (by omega) y0 y1

end Cert.Kernel26Ideal.Value

end
-- ==== Proof.K26Ref.lean ====
/- The reference of the per-layer embedding's gate of the last layer, with the loss, entry by entry. -/
module

public import proofs.«01_k».proof.Proof.Gen.Reference26Ideal.Run
public import proofs.«01_k».proof.Proof.K26Def
public import proofs.«01_k».proof.Proof.Reals
public import Idealize.ShloMosaic.Lib.Pointwise

@[expose] public section

set_option maxRecDepth 16384

noncomputable section

open Idealize.ShloMosaic Idealize.ShloMosaic.TcCoe Idealize.SL.Sem Cert.Reals

namespace Cert.Reference26Ideal.Value
open Cert.Reference26Ideal Cert.Reference26Ideal.Gen

variable (x : FVec Ideal S16384x1024 .f32) (w : FVec Ideal S1024x1024 .bf16) (e y : FVec Ideal S16384x1024 .f32)

theorem log_eq (t : EReal) : Ideal.div 1 (1 + Ideal.exp (-t)) = Ideal.logistic t := rfl

/-- The reference's product, as an array. -/
abbrev tgV : FVec Ideal S16384x1024 .f32 := (Host.dotGeneral dot_S16384x1024_S1024x1024_S16384x1024_1_0_0_1_n_n none x (extf .f32 w bitsLt_bf16_f32))

theorem res0_at (r : Fin 16384) (j : Fin 1024) : tgV x w (ix2 r j) = P26.tg x w r j := by
  unfold tgV P26.tg
  pointwise

/-- The reference's difference from the target, as an array. -/
abbrev errV : FVec Ideal S16384x1024 .f32 := (subf (addf x (mulf e (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none x (extf .f32 w bitsLt_bf16_f32)))))))) y)

theorem err_of (T : FVec Ideal S16384x1024 .f32) (r : Fin 16384) (j : Fin 1024) :
    ((subf (addf x (mulf e (Host.divf (broadcastInDim S16384x1024 ![] bcast_S_S16384x1024 (constant S_ .f32 0x3F800000#32)) (addf (broadcastInDim S16384x1024 ![] bcast_S_S16384x1024 (constant S_ .f32 0x3F800000#32)) (Host.exp (Host.negf T)))))) y) : FVec Ideal S16384x1024 .f32) (ix2 r j)
      = (show EReal from x (ix2 r j) + e (ix2 r j) * Ideal.logistic (T (ix2 r j)) - y (ix2 r j)) := by
  unfold Ideal.logistic
  pointwise

theorem err_at (r : Fin 16384) (j : Fin 1024) : errV x w e y (ix2 r j) = P26.err x w e y r j := by
  refine (err_of x e y (tgV x w) r j).trans ?_
  unfold P26.err
  rw [← res0_at]

theorem ofBits_two : Ideal.ofBits .f32 0x40000000#32 = ((2 : ℝ) : EReal) := by
  simp [Ideal.ofBits, Ideal.ieee, -EReal.coe_mul]; norm_num

theorem ofBits_inv : Ideal.ofBits .f32 0x3A800000#32 = ((1 / 1024 : ℝ) : EReal) := by
  simp [Ideal.ofBits, Ideal.ieee, -EReal.coe_mul]; norm_num

/-- The factor of the mean square's derivative. -/
theorem scale_alg (v : EReal) :
    Ideal.div (Ideal.ofBits .f32 0x3F000000#32) (Ideal.ofBits .f32 0x44800000#32) * (Ideal.ofBits .f32 0x40000000#32 * v)
      = v * Ideal.ofBits .f32 0x3A800000#32 := by
  rw [← mul_assoc, ofBits_half, ofBits_1024, ofBits_two, ofBits_inv, div_coe_coe _ _ (by norm_num), ← EReal.coe_mul, mul_comm]
  refine congrArg (fun q : ℝ => v * (q : EReal)) ?_
  norm_num

theorem scale_of (E : FVec Ideal S16384x1024 .f32) (r : Fin 16384) (j : Fin 1024) :
    (mulf (broadcastInDim S16384x1024 ![0] bcast_S16384_S16384x1024_0 (Host.divf (broadcastInDim S16384 ![] bcast_S_S16384 (mulf (constant S_ .f32 0x3F000000#32) (constant S_ .f32 0x3F800000#32))) (broadcastInDim S16384 ![] bcast_S_S16384 (constant S_ .f32 0x44800000#32)))) (mulf (broadcastInDim S16384x1024 ![] bcast_S_S16384x1024 (constant S_ .f32 0x40000000#32)) E) : FVec Ideal S16384x1024 .f32) (ix2 r j) = (show EReal from E (ix2 r j) * Ideal.ofBits .f32 0x3A800000#32) := by
  pointwise
  exact scale_alg _

theorem res1_at (r : Fin 16384) (j : Fin 1024) :
    (mulf (broadcastInDim S16384x1024 ![0] bcast_S16384_S16384x1024_0 (Host.divf (broadcastInDim S16384 ![] bcast_S_S16384 (mulf (constant S_ .f32 0x3F000000#32) (constant S_ .f32 0x3F800000#32))) (broadcastInDim S16384 ![] bcast_S_S16384 (constant S_ .f32 0x44800000#32)))) (mulf (broadcastInDim S16384x1024 ![] bcast_S_S16384x1024 (constant S_ .f32 0x40000000#32)) (errV x w e y)) : FVec Ideal S16384x1024 .f32) (ix2 r j) = (show EReal from P26.err x w e y r j * Ideal.ofBits .f32 0x3A800000#32) :=
  (scale_of (errV x w e y) r j).trans (by rw [err_at])

theorem cols_of (E : FVec Ideal S16384x1024 .f32) (z : Fin 1) (j : Fin 1024) :
    (broadcastInDim S1x1024 ![1] bcast_S1024_S1x1024_1 (Host.reduceAdd (mulf E E) (constant S_ .f32 0x00000000#32) reducesTo_S16384x1024_S1024_d0 h_S_) : FVec Ideal S1x1024 .f32) (ix2 z j) = (show EReal from ∑ r : Fin 16384, E (ix2 r j) * E (ix2 r j)) := by
  pointwise

theorem res2_at (z : Fin 1) (j : Fin 1024) :
    (broadcastInDim S1x1024 ![1] bcast_S1024_S1x1024_1 (Host.reduceAdd (mulf (errV x w e y) (errV x w e y)) (constant S_ .f32 0x00000000#32) reducesTo_S16384x1024_S1024_d0 h_S_) : FVec Ideal S1x1024 .f32) (ix2 z j) = P26.cols x w e y j := by
  refine (cols_of (errV x w e y) z j).trans ?_
  unfold P26.cols P26.sq
  simp only [err_at]

end Cert.Reference26Ideal.Value

end
-- ==== Proof.K26Claim.lean ====
/- The per-layer embedding's gate of the last layer, with the loss: the claims, from the kernel's and the reference's entries. -/
module

public import proofs.«01_k».proof.Defs
public import proofs.«01_k».proof.Proof.K26Value
public import proofs.«01_k».proof.Proof.K26Ref
public import proofs.«01_k».proof.Proof.Gen.Kernel26.Frame
public import Idealize.ShloMosaic.Lib.Quiescent

@[expose] public section

set_option maxRecDepth 16384

noncomputable section

open Idealize.ShloMosaic Idealize.ShloMosaic.TcCoe Idealize.SL.Sem Cert.Reals

namespace Cert.K26

instance : Cert.Kernel26.Facts := Cert.Kernel26.Gen.facts
instance : Cert.Kernel26Ideal.Facts := Cert.Kernel26Ideal.Gen.facts
instance : Cert.Reference26Ideal.Facts := Cert.Reference26Ideal.Gen.facts

/-- The reference leaves its arguments and all counters as it found them. -/
theorem ref_quiet : Cert.quiescent_Reference26Ideal := fun m ρ _ =>
  (θ_run Cert.Reference26Ideal.defs _ _).mono (fun r h => ⟨fun c => (h c).2.2.2, sem_eq_zero_of_no_sems (by decide) r.2⟩)
    (Cert.Reference26Ideal.Value.run (F := Ideal) m ρ)

/-- The results are equal. -/
theorem algebraic : Cert.algebraic_Kernel26Ideal_Reference26Ideal := by
  intro m ρ m' ρ' _ ha
  refine ⟨fun c => Cert.Kernel26Ideal.Value.R4 m c, fun c => Cert.Kernel26Ideal.Value.R5 m c, fun c => Cert.Kernel26Ideal.Value.R6 m c,
    (θ_run Cert.Kernel26Ideal.defs _ _).mono (fun _ h c => ⟨(h c).1.trans (Cert.Kernel26Ideal.Value.final4 m c), (h c).2.1.trans (Cert.Kernel26Ideal.Value.final5 m c), (h c).2.2.1.trans (Cert.Kernel26Ideal.Value.final6 m c), (h c).2.2.2⟩)
      (Cert.Kernel26Ideal.Value.run_blocks (F := Ideal) m ρ), ?_⟩
  refine (θ_run Cert.Reference26Ideal.defs _ _).mono (fun _ h c => ⟨(h c).1.trans ?_, (h c).2.1.trans ?_, (h c).2.2.1.trans ?_, (h c).2.2.2⟩)
    (Cert.Reference26Ideal.Value.run (F := Ideal) m' ρ')
  · obtain ⟨h0, h1, h2, h3⟩ := ha c
    rw [h0, h1]
    funext i
    idx_vars i
    rw [Cert.Kernel26Ideal.Value.R4_at]
    exact Cert.Reference26Ideal.Value.res0_at _ _ i0 i1
  · obtain ⟨h0, h1, h2, h3⟩ := ha c
    rw [h0, h1, h2, h3]
    funext i
    idx_vars i
    rw [Cert.Kernel26Ideal.Value.R5_at]
    exact Cert.Reference26Ideal.Value.res1_at _ _ _ _ i0 i1
  · obtain ⟨h0, h1, h2, h3⟩ := ha c
    rw [h0, h1, h2, h3]
    funext i
    idx_vars i
    rw [Cert.Kernel26Ideal.Value.R6_at]
    exact Cert.Reference26Ideal.Value.res2_at _ _ _ _ i0 i1

end Cert.K26

end
-- ==== Proof.K27Def.lean ====
/- The per-layer embedding's gate of the first layer, with the next layer's norm: the kernel's arithmetic, entry by entry. -/
module

public import proofs.«01_k».proof.Proof.Gen.Kernel27Ideal
public import proofs.«01_k».proof.Proof.Rms
public import Idealize.ShloMosaic.Lib.Pointwise

@[expose] public section

set_option maxRecDepth 16384

noncomputable section

open Idealize.ShloMosaic

namespace Cert.P27
open Cert.Kernel27Ideal

/-- The gate's product. -/
def tg (x : FVec Ideal S16384x1024 .f32) (w : FVec Ideal S1024x1024 .bf16) (r : Fin 16384) (j : Fin 1024) : EReal :=
  ∑ l : Fin 1024, x (ix2 r l) * w (ix2 l j)

/-- The stream behind the layer. -/
def x3 (x : FVec Ideal S16384x1024 .f32) (w : FVec Ideal S1024x1024 .bf16) (e : FVec Ideal S16384x1024 .f32) (r : Fin 16384)
    (j : Fin 1024) : EReal :=
  x (ix2 r j) + e (ix2 r j) * Ideal.logistic (tg x w r j)

/-- Its rows, normalized. -/
def h (x : FVec Ideal S16384x1024 .f32) (w : FVec Ideal S1024x1024 .bf16) (e : FVec Ideal S16384x1024 .f32) (g : FVec Ideal S1x1024 .f32)
    (r : Fin 16384) (j : Fin 1024) : EReal :=
  x3 x w e r j * Rms.rs (fun l => x3 x w e r l) * g (ix2 0 j)

end Cert.P27

end
-- ==== Proof.K27Value.lean ====
/- The per-layer embedding's gate of the first layer, with the next layer's norm: the kernel's result arrays, entry by entry. -/
module

public import proofs.«01_k».proof.Proof.Gen.Kernel27Ideal.Value
public import proofs.«01_k».proof.Proof.K27Def
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel27Ideal.Value
open Cert.Kernel27Ideal Cert.Kernel27Ideal.Gen

variable (m : (ℓ : Loc nD τ sig) → Buf (Elt Ideal) ℓ) (c : Dev nD)

/-- The block indices of the windows at each grid point. -/
theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![t.val, 0] :=
  (by decide +kernel : ∀ t : Fin grid0.N, _)

/-- The blocks in use at a point. -/
def B0 (t : Fin cfg0.N) : FVec Ideal S1024x1024 .f32 := iblk m c 0 t
def B1 (t : Fin cfg0.N) : FVec Ideal S1024x1024 .bf16 := iblk m c 1 t
def B2 (t : Fin cfg0.N) : FVec Ideal S1024x1024 .f32 := iblk m c 2 t
def B3 (t : Fin cfg0.N) : FVec Ideal S1x1024 .f32 := iblk m c 3 t

/-- The arrays of the arguments. -/
abbrev xA : FVec Ideal S16384x1024 .f32 := m ((c.tc : Thread nD τ).loc main_arg0)
abbrev wA : FVec Ideal S1024x1024 .bf16 := m ((c.tc : Thread nD τ).loc main_arg1)
abbrev eA : FVec Ideal S16384x1024 .f32 := m ((c.tc : Thread nD τ).loc main_arg2)
abbrev gA : FVec Ideal S1x1024 .f32 := m ((c.tc : Thread nD τ).loc main_arg3)

theorem tlt (t : Fin cfg0.N) : t.val < 16 := lt_of_lt_of_eq t.isLt (show cfg0.N = 16 from N_0)

theorem blk0 (t : Fin cfg0.N) (a : Fin 1024) (k : Fin 1024) (r : Fin 16384) (hr : r.val = 1024 * t.val + a.val) :
    B0 m c t (ix2 a k) = xA m c (ix2 r k) := by
  unfold B0
  blk_ext [iblk, V, idx_val t]

theorem blk2 (t : Fin cfg0.N) (a : Fin 1024) (k : Fin 1024) (r : Fin 16384) (hr : r.val = 1024 * t.val + a.val) :
    B2 m c t (ix2 a k) = eA m c (ix2 r k) := by
  unfold B2
  blk_ext [iblk, V, idx_val t]

theorem blk1 (t : Fin cfg0.N) (a k : Fin 1024) : B1 m c t (ix2 a k) = wA m c (ix2 a k) := by
  unfold B1
  blk_ext [iblk, V, idx_val t]

theorem blk3 (t : Fin cfg0.N) (z : Fin 1) (k : Fin 1024) : B3 m c t (ix2 z k) = gA m c (ix2 z k) := by
  unfold B3
  blk_ext [iblk, V, idx_val t]

/-- The gate's product, on blocks. -/
def tgv (x : FVec Ideal S1024x1024 .f32) (w : FVec Ideal S1024x1024 .bf16) (r j : Fin 1024) : EReal :=
  ∑ l : Fin 1024, x (ix2 r l) * w (ix2 l j)

/-- The stream behind the layer, on blocks. -/
def x3v (x : FVec Ideal S1024x1024 .f32) (w : FVec Ideal S1024x1024 .bf16) (e : FVec Ideal S1024x1024 .f32) (r j : Fin 1024) : EReal :=
  x (ix2 r j) + e (ix2 r j) * Ideal.logistic (tgv x w r j)

theorem pay1_at (x : FVec Ideal S1024x1024 .f32) (w : FVec Ideal S1024x1024 .bf16) (r j : Fin 1024) :
    k0_pay1 (F := Ideal) x w (ix2 r j) = tgv x w r j := by
  unfold tgv
  pointwise [k0_pay1]

theorem pay2_at (x : FVec Ideal S1024x1024 .f32) (w : FVec Ideal S1024x1024 .bf16) (e : FVec Ideal S1024x1024 .f32) (r j : Fin 1024) :
    k0_pay2 (F := Ideal) x w x e (ix2 r j) = x3v x w e r j := by
  unfold x3v
  rw [← pay1_at]
  pointwise [k0_pay2, k0_pay1]

theorem pay3_at (x : FVec Ideal S1024x1024 .f32) (w : FVec Ideal S1024x1024 .bf16) (e : FVec Ideal S1024x1024 .f32) (g : FVec Ideal S1x1024 .f32)
    (r j : Fin 1024) :
    k0_pay3 (F := Ideal) x w x e g (ix2 r j) = x3v x w e r j * Rms.rs (fun l => x3v x w e r l) * g (ix2 0 j) := by
  simp only [← pay2_at]
  unfold k0_pay3
  generalize k0_pay2 (F := Ideal) x w x e = E
  pointwise

/-! The entries, on the rows of the arrays. -/

theorem rowLt (t : Fin cfg0.N) (r : Fin 1024) : 1024 * t.val + r.val < 16384 := by
  have := tlt t
  omega

/-- The row of the array that row `r` of the block in use at a point is. -/
abbrev row (t : Fin cfg0.N) (r : Fin 1024) : Fin 16384 := ⟨1024 * t.val + r.val, rowLt t r⟩

theorem tg_eq (t : Fin cfg0.N) (r j : Fin 1024) : tgv (B0 m c t) (B1 m c t) r j = P27.tg (xA m c) (wA m c) (row t r) j := by
  unfold tgv P27.tg
  simp only [fun k => blk0 m c t r k (row t r) rfl, blk1]

theorem x3_eq (t : Fin cfg0.N) (r j : Fin 1024) :
    x3v (B0 m c t) (B1 m c t) (B2 m c t) r j = P27.x3 (xA m c) (wA m c) (eA m c) (row t r) j := by
  unfold x3v P27.x3
  rw [tg_eq, blk0 m c t r j (row t r) rfl, blk2 m c t r j (row t r) rfl]

/-! The arrays. -/

def R4 : FVec Ideal S16384x1024 .f32 := fun i => (P27.tg (xA m c) (wA m c) (i 0) (i 1) : EReal)
def R5 : FVec Ideal S16384x1024 .f32 := fun i => (P27.x3 (xA m c) (wA m c) (eA m c) (i 0) (i 1) : EReal)
def R6 : FVec Ideal S16384x1024 .bf16 := fun i => (P27.h (xA m c) (wA m c) (eA m c) (gA m c) (i 0) (i 1) : EReal)

theorem R4_at (r : Fin 16384) (j : Fin 1024) : R4 m c (ix2 r j) = P27.tg (xA m c) (wA m c) r j := rfl
theorem R5_at (r : Fin 16384) (j : Fin 1024) : R5 m c (ix2 r j) = P27.x3 (xA m c) (wA m c) (eA m c) r j := rfl
theorem R6_at (r : Fin 16384) (j : Fin 1024) : R6 m c (ix2 r j) = P27.h (xA m c) (wA m c) (eA m c) (gA m c) r j := rfl

theorem final4 : (dats m 0 c).arrAt 4 cfg0.N = R4 m c := by
  refine (dats m 0 c).arrAt_eq_of_covers 4 _ (by decide +kernel) fun t hf y => ?_
  blk_simp
  rw [after0_4]
  idx_vars y
  have e : ((View.whole main_v0_0).slice (win0_4.rect t)).emb (ix2 y0 y1) = ix2 (row t y0) y1 := by
    funext a; apply Fin.ext
    match a with
    | ⟨0, _⟩ =>
      blk_simp [idx_val t]
      show _ = 1024 * t.val + y0.val
      omega
    | ⟨1, _⟩ =>
      blk_simp [idx_val t]
      first | done | rfl
  rw [e, R4_at]
  frame_out
  exact (pay1_at (B0 m c t) (B1 m c t) y0 y1).trans (tg_eq m c t y0 y1)

theorem final5 : (dats m 0 c).arrAt 5 cfg0.N = R5 m c := by
  refine (dats m 0 c).arrAt_eq_of_covers 5 _ (by decide +kernel) fun t hf y => ?_
  blk_simp
  rw [after0_5]
  idx_vars y
  have e : ((View.whole main_v0_1).slice (win0_5.rect t)).emb (ix2 y0 y1) = ix2 (row t y0) y1 := by
    funext a; apply Fin.ext
    match a with
    | ⟨0, _⟩ =>
      blk_simp [idx_val t]
      show _ = 1024 * t.val + y0.val
      omega
    | ⟨1, _⟩ =>
      blk_simp [idx_val t]
      first | done | rfl
  rw [e, R5_at]
  frame_out
  exact (pay2_at (B0 m c t) (B1 m c t) (B2 m c t) y0 y1).trans (x3_eq m c t y0 y1)

theorem final6 : (dats m 0 c).arrAt 6 cfg0.N = R6 m c := by
  refine (dats m 0 c).arrAt_eq_of_covers 6 _ (by decide +kernel) fun t hf y => ?_
  blk_simp
  rw [after0_6]
  idx_vars y
  have e : ((View.whole main_v0_2).slice (win0_6.rect t)).emb (ix2 y0 y1) = ix2 (row t y0) y1 := by
    funext a; apply Fin.ext
    match a with
    | ⟨0, _⟩ =>
      blk_simp [idx_val t]
      show _ = 1024 * t.val + y0.val
      omega
    | ⟨1, _⟩ =>
      blk_simp [idx_val t]
      first | done | rfl
  rw [e, R6_at]
  frame_out
  refine (pay3_at (B0 m c t) (B1 m c t) (B2 m c t) (B3 m c t) y0 y1).trans ?_
  simp only [x3_eq, blk3]
  rfl

end Cert.Kernel27Ideal.Value

end
-- ==== Proof.K27Ref.lean ====
/- The reference of the per-layer embedding's gate of the first layer, with the next layer's norm, entry by entry. -/
module

public import proofs.«01_k».proof.Proof.Gen.Reference27Ideal.Run
public import proofs.«01_k».proof.Proof.K27Def
public import proofs.«01_k».proof.Proof.Reals
public import Idealize.ShloMosaic.Lib.Pointwise

@[expose] public section

set_option maxRecDepth 16384

noncomputable section

open Idealize.ShloMosaic Idealize.ShloMosaic.TcCoe Idealize.SL.Sem Cert.Reals

namespace Cert.Reference27Ideal.Value
open Cert.Reference27Ideal Cert.Reference27Ideal.Gen

variable (x : FVec Ideal S16384x1024 .f32) (w : FVec Ideal S1024x1024 .bf16) (e : FVec Ideal S16384x1024 .f32) (g : FVec Ideal S1x1024 .f32)

/-- The reference's product, as an array. -/
abbrev tgV : FVec Ideal S16384x1024 .f32 := (Host.dotGeneral dot_S16384x1024_S1024x1024_S16384x1024_1_0_0_1_n_n none x (extf .f32 w bitsLt_bf16_f32))

theorem res0_at (r : Fin 16384) (j : Fin 1024) : tgV x w (ix2 r j) = P27.tg x w r j := by
  unfold tgV P27.tg
  pointwise

/-- The stream behind the layer, as an array. -/
abbrev x3V : FVec Ideal S16384x1024 .f32 := (addf x (mulf e (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none x (extf .f32 w bitsLt_bf16_f32))))))))

theorem x3_of (T : FVec Ideal S16384x1024 .f32) (r : Fin 16384) (j : Fin 1024) :
    ((addf x (mulf e (Host.divf (broadcastInDim S16384x1024 ![] bcast_S_S16384x1024 (constant S_ .f32 0x3F800000#32)) (addf (broadcastInDim S16384x1024 ![] bcast_S_S16384x1024 (constant S_ .f32 0x3F800000#32)) (Host.exp (Host.negf T)))))) : FVec Ideal S16384x1024 .f32) (ix2 r j)
      = (show EReal from x (ix2 r j) + e (ix2 r j) * Ideal.logistic (T (ix2 r j))) := by
  unfold Ideal.logistic
  pointwise

theorem res1_at (r : Fin 16384) (j : Fin 1024) : x3V x w e (ix2 r j) = P27.x3 x w e r j := by
  refine (x3_of x e (tgV x w) r j).trans ?_
  unfold P27.x3
  rw [← res0_at]

theorem nrm_of (E : FVec Ideal S16384x1024 .f32) (r : Fin 16384) (j : Fin 1024) :
    (truncf .bf16 (mulf (mulf E (broadcastInDim S16384x1024 ![0, 1] bcast_S16384x1_S16384x1024_0_1 (Host.rsqrt (addf (Host.divf (broadcastInDim S16384x1 ![0] bcast_S16384_S16384x1_0 (Host.reduceAdd (mulf E E) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)) bitsLt_bf16_f32 : FVec Ideal S16384x1024 .bf16) (ix2 r j)
      = (show EReal from E (ix2 r j) * Rms.rs (fun l => E (ix2 r l)) * g (ix2 0 j)) := by
  pointwise

theorem res2_at (r : Fin 16384) (j : Fin 1024) :
    (truncf .bf16 (mulf (mulf (x3V x w e) (broadcastInDim S16384x1024 ![0, 1] bcast_S16384x1_S16384x1024_0_1 (Host.rsqrt (addf (Host.divf (broadcastInDim S16384x1 ![0] bcast_S16384_S16384x1_0 (Host.reduceAdd (mulf (x3V x w e) (x3V x w e)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)) bitsLt_bf16_f32 : FVec Ideal S16384x1024 .bf16) (ix2 r j) = P27.h x w e g r j := by
  refine (nrm_of g (x3V x w e) r j).trans ?_
  unfold P27.h
  simp only [res1_at]

end Cert.Reference27Ideal.Value

end
-- ==== Proof.K27Claim.lean ====
/- The per-layer embedding's gate of the first layer, with the next layer's norm: the claims, from the kernel's and the reference's entries. -/
module

public import proofs.«01_k».proof.Defs
public import proofs.«01_k».proof.Proof.K27Value
public import proofs.«01_k».proof.Proof.K27Ref
public import proofs.«01_k».proof.Proof.Gen.Kernel27.Frame
public import Idealize.ShloMosaic.Lib.Quiescent

@[expose] public section

set_option maxRecDepth 16384

noncomputable section

open Idealize.ShloMosaic Idealize.ShloMosaic.TcCoe Idealize.SL.Sem Cert.Reals

namespace Cert.K27

instance : Cert.Kernel27.Facts := Cert.Kernel27.Gen.facts
instance : Cert.Kernel27Ideal.Facts := Cert.Kernel27Ideal.Gen.facts
instance : Cert.Reference27Ideal.Facts := Cert.Reference27Ideal.Gen.facts

/-- The reference leaves its arguments and all counters as it found them. -/
theorem ref_quiet : Cert.quiescent_Reference27Ideal := fun m ρ _ =>
  (θ_run Cert.Reference27Ideal.defs _ _).mono (fun r h => ⟨fun c => (h c).2.2.2, sem_eq_zero_of_no_sems (by decide) r.2⟩)
    (Cert.Reference27Ideal.Value.run (F := Ideal) m ρ)

/-- The results are equal. -/
theorem algebraic : Cert.algebraic_Kernel27Ideal_Reference27Ideal := by
  intro m ρ m' ρ' _ ha
  refine ⟨fun c => Cert.Kernel27Ideal.Value.R4 m c, fun c => Cert.Kernel27Ideal.Value.R5 m c, fun c => Cert.Kernel27Ideal.Value.R6 m c,
    (θ_run Cert.Kernel27Ideal.defs _ _).mono (fun _ h c => ⟨(h c).1.trans (Cert.Kernel27Ideal.Value.final4 m c), (h c).2.1.trans (Cert.Kernel27Ideal.Value.final5 m c), (h c).2.2.1.trans (Cert.Kernel27Ideal.Value.final6 m c), (h c).2.2.2⟩)
      (Cert.Kernel27Ideal.Value.run_blocks (F := Ideal) m ρ), ?_⟩
  refine (θ_run Cert.Reference27Ideal.defs _ _).mono (fun _ h c => ⟨(h c).1.trans ?_, (h c).2.1.trans ?_, (h c).2.2.1.trans ?_, (h c).2.2.2⟩)
    (Cert.Reference27Ideal.Value.run (F := Ideal) m' ρ')
  · obtain ⟨h0, h1, h2, h3⟩ := ha c
    rw [h0, h1]
    funext i
    idx_vars i
    rw [Cert.Kernel27Ideal.Value.R4_at]
    exact Cert.Reference27Ideal.Value.res0_at _ _ i0 i1
  · obtain ⟨h0, h1, h2, h3⟩ := ha c
    rw [h0, h1, h2]
    funext i
    idx_vars i
    rw [Cert.Kernel27Ideal.Value.R5_at]
    exact Cert.Reference27Ideal.Value.res1_at _ _ _ i0 i1
  · obtain ⟨h0, h1, h2, h3⟩ := ha c
    rw [h0, h1, h2, h3]
    funext i
    idx_vars i
    rw [Cert.Kernel27Ideal.Value.R6_at]
    exact Cert.Reference27Ideal.Value.res2_at _ _ _ _ i0 i1

end Cert.K27

end
-- ==== Proof.K28Def.lean ====
/- The first layer's merge of the two mixers, with the output projection and the norms behind it: the kernel's arithmetic, entry by entry. -/
module

public import proofs.«01_k».proof.Proof.Gen.Kernel28Ideal
public import proofs.«01_k».proof.Proof.Rms
public import Idealize.ShloMosaic.Lib.Pointwise

@[expose] public section

set_option maxRecDepth 16384

noncomputable section

open Idealize.ShloMosaic

namespace Cert.P28
open Cert.Kernel28Ideal

/-- The merge of one entry of each mixer, with its two gates. -/
def mgS (a b s t : EReal) : EReal := Ideal.logistic s * a + Ideal.logistic t * b

/-- The merge. -/
def mg (pa pb : FVec Ideal S16384x1024 .bf16) (z : FVec Ideal S16384x8192 .f32) (r : Fin 16384) (k : Fin 1024) : EReal :=
  mgS (pa (ix2 r k)) (pb (ix2 r k)) (z (ix2 r ⟨6144 + k.val, by omega⟩)) (z (ix2 r ⟨7168 + k.val, by omega⟩))

/-- Its product with the weight. -/
def mix (pa pb : FVec Ideal S16384x1024 .bf16) (z : FVec Ideal S16384x8192 .f32) (w : FVec Ideal S1024x1024 .bf16) (r : Fin 16384) (j : Fin 1024) : EReal :=
  ∑ k : Fin 1024, mg pa pb z r k * w (ix2 k j)

/-- The stream behind the mixers. -/
def x1 (pa pb : FVec Ideal S16384x1024 .bf16) (z : FVec Ideal S16384x8192 .f32) (w : FVec Ideal S1024x1024 .bf16) (x : FVec Ideal S16384x1024 .f32)
    (g : FVec Ideal S1x1024 .f32) (r : Fin 16384) (j : Fin 1024) : EReal :=
  x (ix2 r j) + mix pa pb z w r j * Rms.rs (fun l => mix pa pb z w r l) * g (ix2 0 j)

/-- Its rows, normalized. -/
def h (pa pb : FVec Ideal S16384x1024 .bf16) (z : FVec Ideal S16384x8192 .f32) (w : FVec Ideal S1024x1024 .bf16) (x : FVec Ideal S16384x1024 .f32)
    (g f : FVec Ideal S1x1024 .f32) (r : Fin 16384) (j : Fin 1024) : EReal :=
  x1 pa pb z w x g r j * Rms.rs (fun l => x1 pa pb z w x g r l) * f (ix2 0 j)

end Cert.P28

end
-- ==== Proof.K28Value.lean ====
/- The first layer's merge of the two mixers, with the output projection and the norms behind it: the kernel's result arrays, entry by entry. -/
module

public import proofs.«01_k».proof.Proof.Gen.Kernel28Ideal.Value
public import proofs.«01_k».proof.Proof.K28Def
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel28Ideal.Value
open Cert.Kernel28Ideal Cert.Kernel28Ideal.Gen

variable (m : (ℓ : Loc nD τ sig) → Buf (Elt Ideal) ℓ) (c : Dev nD)

/-- The block indices of the windows at each grid point. -/
theorem idx_val : ∀ t : Fin cfg0.N, win0_0.index t = ![t.val, 0]
    ∧ win0_1.index t = ![t.val, 0]
    ∧ win0_2.index t = ![t.val, 6]
    ∧ win0_3.index t = ![t.val, 7]
    ∧ win0_4.index t = ![0, 0]
    ∧ win0_5.index t = ![t.val, 0]
    ∧ win0_6.index t = ![0, 0]
    ∧ win0_7.index t = ![0, 0]
    ∧ win0_8.index t = ![t.val, 0]
    ∧ win0_9.index t = ![t.val, 0]
    ∧ win0_10.index t = ![t.val, 0]
    ∧ win0_11.index t = ![t.val, 0] :=
  (by decide +kernel : ∀ t : Fin grid0.N, _)

/-- The blocks in use at a point. -/
def B0 (t : Fin cfg0.N) : FVec Ideal S512x1024 .bf16 := iblk m c 0 t
def B1 (t : Fin cfg0.N) : FVec Ideal S512x1024 .bf16 := iblk m c 1 t
def B2 (t : Fin cfg0.N) : FVec Ideal S512x1024 .f32 := iblk m c 2 t
def B3 (t : Fin cfg0.N) : FVec Ideal S512x1024 .f32 := iblk m c 3 t
def B4 (t : Fin cfg0.N) : FVec Ideal S1024x1024 .bf16 := iblk m c 4 t
def B5 (t : Fin cfg0.N) : FVec Ideal S512x1024 .f32 := iblk m c 5 t
def B6 (t : Fin cfg0.N) : FVec Ideal S1x1024 .f32 := iblk m c 6 t
def B7 (t : Fin cfg0.N) : FVec Ideal S1x1024 .f32 := iblk m c 7 t

/-- The arrays of the arguments. -/
abbrev paA : FVec Ideal S16384x1024 .bf16 := m ((c.tc : Thread nD τ).loc main_arg0)
abbrev pbA : FVec Ideal S16384x1024 .bf16 := m ((c.tc : Thread nD τ).loc main_arg1)
abbrev zA : FVec Ideal S16384x8192 .f32 := m ((c.tc : Thread nD τ).loc main_arg2)
abbrev wA : FVec Ideal S1024x1024 .bf16 := m ((c.tc : Thread nD τ).loc main_arg3)
abbrev xA : FVec Ideal S16384x1024 .f32 := m ((c.tc : Thread nD τ).loc main_arg4)
abbrev gA : FVec Ideal S1x1024 .f32 := m ((c.tc : Thread nD τ).loc main_arg5)
abbrev fA : FVec Ideal S1x1024 .f32 := m ((c.tc : Thread nD τ).loc main_arg6)

theorem tlt (t : Fin cfg0.N) : t.val < 32 := lt_of_lt_of_eq t.isLt (show cfg0.N = 32 from N_0)

theorem rowLt (t : Fin cfg0.N) (r : Fin 512) : 512 * t.val + r.val < 16384 := by
  have := tlt t
  omega

/-- The row of the array that row `r` of the block in use at a point is. -/
abbrev row (t : Fin cfg0.N) (r : Fin 512) : Fin 16384 := ⟨512 * t.val + r.val, rowLt t r⟩

theorem blk0 (t : Fin cfg0.N) (a : Fin 512) (k : Fin 1024) (r : Fin 16384) (hr : r.val = 512 * t.val + a.val) :
    B0 m c t (ix2 a k) = paA m c (ix2 r k) := by
  unfold B0
  blk_ext [iblk, V, idx_val t]

theorem blk1 (t : Fin cfg0.N) (a : Fin 512) (k : Fin 1024) (r : Fin 16384) (hr : r.val = 512 * t.val + a.val) :
    B1 m c t (ix2 a k) = pbA m c (ix2 r k) := by
  unfold B1
  blk_ext [iblk, V, idx_val t]

theorem blk5 (t : Fin cfg0.N) (a : Fin 512) (k : Fin 1024) (r : Fin 16384) (hr : r.val = 512 * t.val + a.val) :
    B5 m c t (ix2 a k) = xA m c (ix2 r k) := by
  unfold B5
  blk_ext [iblk, V, idx_val t]

theorem blk2 (t : Fin cfg0.N) (a : Fin 512) (k : Fin 1024) (r : Fin 16384) (j : Fin 8192) (hr : r.val = 512 * t.val + a.val) (hj : j.val = 6 * 1024 + k.val) :
    B2 m c t (ix2 a k) = zA m c (ix2 r j) := by
  unfold B2
  blk_ext [iblk, V, idx_val t]

theorem blk3 (t : Fin cfg0.N) (a : Fin 512) (k : Fin 1024) (r : Fin 16384) (j : Fin 8192) (hr : r.val = 512 * t.val + a.val) (hj : j.val = 7 * 1024 + k.val) :
    B3 m c t (ix2 a k) = zA m c (ix2 r j) := by
  unfold B3
  blk_ext [iblk, V, idx_val t]

theorem blk4 (t : Fin cfg0.N) (a k : Fin 1024) : B4 m c t (ix2 a k) = wA m c (ix2 a k) := by
  unfold B4
  blk_ext [iblk, V, idx_val t]

theorem blk6 (t : Fin cfg0.N) (z : Fin 1) (k : Fin 1024) : B6 m c t (ix2 z k) = gA m c (ix2 z k) := by
  unfold B6
  blk_ext [iblk, V, idx_val t]

theorem blk7 (t : Fin cfg0.N) (z : Fin 1) (k : Fin 1024) : B7 m c t (ix2 z k) = fA m c (ix2 z k) := by
  unfold B7
  blk_ext [iblk, V, idx_val t]

/-- The merge, on the blocks of a point. -/
def mgB (t : Fin cfg0.N) (r : Fin 512) (k : Fin 1024) : EReal :=
  P28.mgS (B0 m c t (ix2 r k)) (B1 m c t (ix2 r k)) (B2 m c t (ix2 r k)) (B3 m c t (ix2 r k))

theorem mgB_eq (t : Fin cfg0.N) (r : Fin 512) (k : Fin 1024) : mgB m c t r k = P28.mg (paA m c) (pbA m c) (zA m c) (row t r) k := by
  unfold mgB P28.mg
  rw [blk0 m c t r k (row t r) rfl, blk1 m c t r k (row t r) rfl, blk2 m c t r k (row t r) ⟨6144 + k.val, by omega⟩ rfl rfl,
    blk3 m c t r k (row t r) ⟨7168 + k.val, by omega⟩ rfl rfl]

/-- A product of 256 columns, on tiles as loaded. -/
def grpv (a b : FVec Ideal S512x256 .bf16) (s u : FVec Ideal S512x256 .f32) (w : FVec Ideal S256x1024 .bf16) (r : Fin 512) (j : Fin 1024) : EReal :=
  ∑ k : Fin 256, P28.mgS (a (ix2 r k)) (b (ix2 r k)) (s (ix2 r k)) (u (ix2 r k)) * w (ix2 k j)

theorem ld_col (X : Vec Ideal S512x1024 .bf16) (o : ℕ) (ho : o + 256 ≤ 1024) (h) (r : Fin 512) (k : Fin 256) :
    View.ld X (Rect.unit ![0, o] ![512, 256] h) (ix2 r k) = X (ix2 r ⟨o + k.val, by omega⟩) := by
  rw [View.ld_apply]
  refine congrArg X (funext fun a => Fin.ext ?_)
  rw [Rect.idx_unit_val]
  match a with
  | ⟨0, _⟩ => exact Nat.zero_add _
  | ⟨1, _⟩ => rfl

theorem ld_colF (X : Vec Ideal S512x1024 .f32) (o : ℕ) (ho : o + 256 ≤ 1024) (h) (r : Fin 512) (k : Fin 256) :
    View.ld X (Rect.unit ![0, o] ![512, 256] h) (ix2 r k) = X (ix2 r ⟨o + k.val, by omega⟩) := by
  rw [View.ld_apply]
  refine congrArg X (funext fun a => Fin.ext ?_)
  rw [Rect.idx_unit_val]
  match a with
  | ⟨0, _⟩ => exact Nat.zero_add _
  | ⟨1, _⟩ => rfl

theorem ld_w (X : Vec Ideal S1024x1024 .bf16) (o : ℕ) (ho : o + 256 ≤ 1024) (h) (k : Fin 256) (j : Fin 1024) :
    View.ld X (Rect.unit ![o, 0] ![256, 1024] h) (ix2 k j) = X (ix2 ⟨o + k.val, by omega⟩ j) := by
  rw [View.ld_apply]
  refine congrArg X (funext fun a => Fin.ext ?_)
  rw [Rect.idx_unit_val]
  match a with
  | ⟨0, _⟩ => rfl
  | ⟨1, _⟩ => exact Nat.zero_add _

/-- Four sums of 256 terms are the sum of 1024. -/
theorem sum_four (f : Fin 1024 → EReal) :
    (∑ k : Fin 256, f ⟨0 + k.val, by omega⟩) + (∑ k : Fin 256, f ⟨256 + k.val, by omega⟩)
      + (∑ k : Fin 256, f ⟨512 + k.val, by omega⟩) + (∑ k : Fin 256, f ⟨768 + k.val, by omega⟩) = ∑ l : Fin 1024, f l := by
  have e : (∑ s : Fin 4, ∑ k : Fin 256, f ⟨s.val * 256 + k.val, by omega⟩) = ∑ l : Fin 1024, f l :=
    Fin.sum_mul_add_congr (S := 4) (n := 256) (L := 1024) (f := f) (F := fun s k => f ⟨s.val * 256 + k.val, by omega⟩) (fun _ _ _ => rfl) (by norm_num)
  rw [← e, Fin.sum_univ_four]
  rfl

/-- One term of the product. -/
def trm (r : Fin 16384) (j k : Fin 1024) : EReal := P28.mg (paA m c) (pbA m c) (zA m c) r k * wA m c (ix2 k j)

theorem grp (t : Fin cfg0.N) (r : Fin 512) (j : Fin 1024) (a b : FVec Ideal S512x256 .bf16) (s u : FVec Ideal S512x256 .f32) (w : FVec Ideal S256x1024 .bf16)
    (o : ℕ) (ho : o + 256 ≤ 1024)
    (ha : ∀ k : Fin 256, a (ix2 r k) = B0 m c t (ix2 r ⟨o + k.val, by omega⟩)) (hb : ∀ k : Fin 256, b (ix2 r k) = B1 m c t (ix2 r ⟨o + k.val, by omega⟩))
    (hs : ∀ k : Fin 256, s (ix2 r k) = B2 m c t (ix2 r ⟨o + k.val, by omega⟩)) (hu : ∀ k : Fin 256, u (ix2 r k) = B3 m c t (ix2 r ⟨o + k.val, by omega⟩))
    (hw : ∀ k : Fin 256, w (ix2 k j) = B4 m c t (ix2 ⟨o + k.val, by omega⟩ j)) :
    grpv a b s u w r j = ∑ k : Fin 256, (fun l => trm m c (row t r) j l) ⟨o + k.val, by omega⟩ := by
  unfold grpv
  refine Finset.sum_congr rfl fun k _ => ?_
  rw [ha, hb, hs, hu, hw, blk4]
  exact congrArg (· * _) (mgB_eq m c t r ⟨o + k.val, by omega⟩)

/-- The tiles of a point's blocks. -/
abbrev lc (X : Vec Ideal S512x1024 .bf16) (o : ℕ) (h : ∀ a, (![0, o] : Fin 2 → Nat) a + S512x256.size a ≤ S512x1024.size a := by decide) : FVec Ideal S512x256 .bf16 :=
  View.ld X (Rect.unit (s := S512x1024) ![0, o] S512x256.size h)
abbrev lf (X : Vec Ideal S512x1024 .f32) (o : ℕ) (h : ∀ a, (![0, o] : Fin 2 → Nat) a + S512x256.size a ≤ S512x1024.size a := by decide) : FVec Ideal S512x256 .f32 :=
  View.ld X (Rect.unit (s := S512x1024) ![0, o] S512x256.size h)
abbrev lw (X : Vec Ideal S1024x1024 .bf16) (o : ℕ) (h : ∀ a, (![o, 0] : Fin 2 → Nat) a + S256x1024.size a ≤ S1024x1024.size a := by decide) : FVec Ideal S256x1024 .bf16 :=
  View.ld X (Rect.unit (s := S1024x1024) ![o, 0] S256x1024.size h)

theorem chain_at (a0 b0 a1 b1 a2 b2 a3 b3 : FVec Ideal S512x256 .bf16) (s0 u0 s1 u1 s2 u2 s3 u3 : FVec Ideal S512x256 .f32) (w0 w1 w2 w3 : FVec Ideal S256x1024 .bf16)
    (r : Fin 512) (j : Fin 1024) :
    k0_pay1 (F := Ideal) (k0_pay9 (F := Ideal) (k0_pay5 (F := Ideal) a0 b0 s0 u0 w0) (k0_pay7 (F := Ideal) a1 b1 s1 u1 w1) a2 b2 s2 u2 w2) (k0_pay11 (F := Ideal) a3 b3 s3 u3 w3) (ix2 r j)
      = grpv a0 b0 s0 u0 w0 r j + grpv a1 b1 s1 u1 w1 r j + grpv a2 b2 s2 u2 w2 r j + grpv a3 b3 s3 u3 w3 r j := by
  unfold grpv P28.mgS
  pointwise [k0_pay1, k0_pay4, k0_pay5, k0_pay6, k0_pay7, k0_pay8, k0_pay9, k0_pay10, k0_pay11]

/-- The two parts of the product that a point's body evaluates. -/
abbrev loV (t : Fin cfg0.N) : FVec Ideal S512x1024 .f32 :=
  k0_pay9 (F := Ideal) (k0_pay5 (F := Ideal) (lc (B0 m c t) 0) (lc (B1 m c t) 0) (lf (B2 m c t) 0) (lf (B3 m c t) 0) (lw (B4 m c t) 0)) (k0_pay7 (F := Ideal) (lc (B0 m c t) 256) (lc (B1 m c t) 256) (lf (B2 m c t) 256) (lf (B3 m c t) 256) (lw (B4 m c t) 256))
    (lc (B0 m c t) 512) (lc (B1 m c t) 512) (lf (B2 m c t) 512) (lf (B3 m c t) 512) (lw (B4 m c t) 512)
abbrev hiV (t : Fin cfg0.N) : FVec Ideal S512x1024 .f32 :=
  k0_pay11 (F := Ideal) (lc (B0 m c t) 768) (lc (B1 m c t) 768) (lf (B2 m c t) 768) (lf (B3 m c t) 768) (lw (B4 m c t) 768)

theorem mix_at (t : Fin cfg0.N) (r : Fin 512) (j : Fin 1024) :
    k0_pay1 (F := Ideal) (loV m c t) (hiV m c t) (ix2 r j) = P28.mix (paA m c) (pbA m c) (zA m c) (wA m c) (row t r) j := by
  refine (chain_at _ _ _ _ _ _ _ _ _ _ _ _ _ _ _ _ _ _ _ _ r j).trans ?_
  have e0 := grp m c t r j (lc (B0 m c t) 0) (lc (B1 m c t) 0) (lf (B2 m c t) 0) (lf (B3 m c t) 0) (lw (B4 m c t) 0) 0 (by decide)
    (fun k => ld_col (B0 m c t) 0 (by decide) _ r k) (fun k => ld_col (B1 m c t) 0 (by decide) _ r k)
    (fun k => ld_colF (B2 m c t) 0 (by decide) _ r k) (fun k => ld_colF (B3 m c t) 0 (by decide) _ r k)
    (fun k => ld_w (B4 m c t) 0 (by decide) _ k j)
  have e1 := grp m c t r j (lc (B0 m c t) 256) (lc (B1 m c t) 256) (lf (B2 m c t) 256) (lf (B3 m c t) 256) (lw (B4 m c t) 256) 256 (by decide)
    (fun k => ld_col (B0 m c t) 256 (by decide) _ r k) (fun k => ld_col (B1 m c t) 256 (by decide) _ r k)
    (fun k => ld_colF (B2 m c t) 256 (by decide) _ r k) (fun k => ld_colF (B3 m c t) 256 (by decide) _ r k)
    (fun k => ld_w (B4 m c t) 256 (by decide) _ k j)
  have e2 := grp m c t r j (lc (B0 m c t) 512) (lc (B1 m c t) 512) (lf (B2 m c t) 512) (lf (B3 m c t) 512) (lw (B4 m c t) 512) 512 (by decide)
    (fun k => ld_col (B0 m c t) 512 (by decide) _ r k) (fun k => ld_col (B1 m c t) 512 (by decide) _ r k)
    (fun k => ld_colF (B2 m c t) 512 (by decide) _ r k) (fun k => ld_colF (B3 m c t) 512 (by decide) _ r k)
    (fun k => ld_w (B4 m c t) 512 (by decide) _ k j)
  have e3 := grp m c t r j (lc (B0 m c t) 768) (lc (B1 m c t) 768) (lf (B2 m c t) 768) (lf (B3 m c t) 768) (lw (B4 m c t) 768) 768 (by decide)
    (fun k => ld_col (B0 m c t) 768 (by decide) _ r k) (fun k => ld_col (B1 m c t) 768 (by decide) _ r k)
    (fun k => ld_colF (B2 m c t) 768 (by decide) _ r k) (fun k => ld_colF (B3 m c t) 768 (by decide) _ r k)
    (fun k => ld_w (B4 m c t) 768 (by decide) _ k j)
  rw [e0, e1, e2, e3]
  exact sum_four fun l => trm m c (row t r) j l

theorem pay2_at (a b x : FVec Ideal S512x1024 .f32) (g : FVec Ideal S1x1024 .f32) (M : FVec Ideal S512x1024 .f32) (hM : k0_pay1 (F := Ideal) a b = M)
    (r : Fin 512) (j : Fin 1024) :
    k0_pay2 (F := Ideal) a b x g (ix2 r j) = x (ix2 r j) + M (ix2 r j) * Rms.rs (fun l => M (ix2 r l)) * g (ix2 0 j) := by
  unfold k0_pay2
  rw [hM]
  pointwise

theorem pay3_at (a b x : FVec Ideal S512x1024 .f32) (g f : FVec Ideal S1x1024 .f32) (r : Fin 512) (j : Fin 1024) :
    k0_pay3 (F := Ideal) a b x g f (ix2 r j)
      = k0_pay2 (F := Ideal) a b x g (ix2 r j) * Rms.rs (fun l => k0_pay2 (F := Ideal) a b x g (ix2 r l)) * f (ix2 0 j) := by
  unfold k0_pay3
  generalize k0_pay2 (F := Ideal) a b x g = E
  pointwise

theorem x1_at (t : Fin cfg0.N) (r : Fin 512) (j : Fin 1024) :
    k0_pay2 (F := Ideal) (loV m c t) (hiV m c t) (B5 m c t) (B6 m c t) (ix2 r j) = P28.x1 (paA m c) (pbA m c) (zA m c) (wA m c) (xA m c) (gA m c) (row t r) j := by
  refine (pay2_at _ _ _ _ _ rfl r j).trans ?_
  unfold P28.x1
  simp only [mix_at, blk5 m c t r j (row t r) rfl, blk6]

theorem h_at (t : Fin cfg0.N) (r : Fin 512) (j : Fin 1024) :
    k0_pay3 (F := Ideal) (loV m c t) (hiV m c t) (B5 m c t) (B6 m c t) (B7 m c t) (ix2 r j) = P28.h (paA m c) (pbA m c) (zA m c) (wA m c) (xA m c) (gA m c) (fA m c) (row t r) j := by
  refine (pay3_at _ _ _ _ _ r j).trans ?_
  unfold P28.h
  simp only [x1_at, blk7]

/-! The arrays. -/

def R8 : FVec Ideal S16384x1024 .bf16 := fun i => (P28.mg (paA m c) (pbA m c) (zA m c) (i 0) (i 1) : EReal)
def R9 : FVec Ideal S16384x1024 .f32 := fun i => (P28.mix (paA m c) (pbA m c) (zA m c) (wA m c) (i 0) (i 1) : EReal)
def R10 : FVec Ideal S16384x1024 .f32 := fun i => (P28.x1 (paA m c) (pbA m c) (zA m c) (wA m c) (xA m c) (gA m c) (i 0) (i 1) : EReal)
def R11 : FVec Ideal S16384x1024 .bf16 := fun i => (P28.h (paA m c) (pbA m c) (zA m c) (wA m c) (xA m c) (gA m c) (fA m c) (i 0) (i 1) : EReal)

theorem R8_at (r : Fin 16384) (j : Fin 1024) : R8 m c (ix2 r j) = P28.mg (paA m c) (pbA m c) (zA m c) r j := rfl
theorem R9_at (r : Fin 16384) (j : Fin 1024) : R9 m c (ix2 r j) = P28.mix (paA m c) (pbA m c) (zA m c) (wA m c) r j := rfl
theorem R10_at (r : Fin 16384) (j : Fin 1024) : R10 m c (ix2 r j) = P28.x1 (paA m c) (pbA m c) (zA m c) (wA m c) (xA m c) (gA m c) r j := rfl
theorem R11_at (r : Fin 16384) (j : Fin 1024) : R11 m c (ix2 r j) = P28.h (paA m c) (pbA m c) (zA m c) (wA m c) (xA m c) (gA m c) (fA m c) r j := rfl

theorem final8 : (dats m 0 c).arrAt 8 cfg0.N = R8 m c := by
  refine (dats m 0 c).arrAt_eq_of_covers 8 _ (by decide +kernel) fun t hf y => ?_
  blk_simp
  rw [after0_8]
  idx_vars y
  have e : ((View.whole main_v0_0).slice (win0_8.rect t)).emb (ix2 y0 y1) = ix2 (row t y0) y1 := by
    funext a; apply Fin.ext
    match a with
    | ⟨0, _⟩ =>
      blk_simp [idx_val t]
      show _ = 512 * t.val + y0.val
      omega
    | ⟨1, _⟩ =>
      blk_simp [idx_val t]
      first | done | rfl
  rw [e, R8_at]
  rw [← mgB_eq]
  unfold mgB P28.mgS B0 B1 B2 B3
  frame_out
  canon_tiles x hx
  all_goals (open_payloads; pointwise; blk_point [] <;> first | exact hx0.symm | exact hx1.symm)

theorem final9 : (dats m 0 c).arrAt 9 cfg0.N = R9 m c := by
  refine (dats m 0 c).arrAt_eq_of_covers 9 _ (by decide +kernel) fun t hf y => ?_
  blk_simp
  rw [after0_9]
  idx_vars y
  have e : ((View.whole main_v0_1).slice (win0_9.rect t)).emb (ix2 y0 y1) = ix2 (row t y0) y1 := by
    funext a; apply Fin.ext
    match a with
    | ⟨0, _⟩ =>
      blk_simp [idx_val t]
      show _ = 512 * t.val + y0.val
      omega
    | ⟨1, _⟩ =>
      blk_simp [idx_val t]
      first | done | rfl
  rw [e, R9_at]
  frame_out
  exact mix_at m c t y0 y1

theorem final10 : (dats m 0 c).arrAt 10 cfg0.N = R10 m c := by
  refine (dats m 0 c).arrAt_eq_of_covers 10 _ (by decide +kernel) fun t hf y => ?_
  blk_simp
  rw [after0_10]
  idx_vars y
  have e : ((View.whole main_v0_2).slice (win0_10.rect t)).emb (ix2 y0 y1) = ix2 (row t y0) y1 := by
    funext a; apply Fin.ext
    match a with
    | ⟨0, _⟩ =>
      blk_simp [idx_val t]
      show _ = 512 * t.val + y0.val
      omega
    | ⟨1, _⟩ =>
      blk_simp [idx_val t]
      first | done | rfl
  rw [e, R10_at]
  frame_out
  exact x1_at m c t y0 y1

theorem final11 : (dats m 0 c).arrAt 11 cfg0.N = R11 m c := by
  refine (dats m 0 c).arrAt_eq_of_covers 11 _ (by decide +kernel) fun t hf y => ?_
  blk_simp
  rw [after0_11]
  idx_vars y
  have e : ((View.whole main_v0_3).slice (win0_11.rect t)).emb (ix2 y0 y1) = ix2 (row t y0) y1 := by
    funext a; apply Fin.ext
    match a with
    | ⟨0, _⟩ =>
      blk_simp [idx_val t]
      show _ = 512 * t.val + y0.val
      omega
    | ⟨1, _⟩ =>
      blk_simp [idx_val t]
      first | done | rfl
  rw [e, R11_at]
  frame_out
  exact h_at m c t y0 y1

end Cert.Kernel28Ideal.Value

end
-- ==== Proof.K28Ref.lean ====
/- The reference of the first layer's merge of the two mixers, with the output projection and the norms behind it, entry by entry. -/
module

public import proofs.«01_k».proof.Proof.Gen.Reference28Ideal.Run
public import proofs.«01_k».proof.Proof.K28Def
public import proofs.«01_k».proof.Proof.Reals
public import Idealize.ShloMosaic.Lib.Pointwise

@[expose] public section

set_option maxRecDepth 16384

noncomputable section

open Idealize.ShloMosaic Idealize.ShloMosaic.TcCoe Idealize.SL.Sem Cert.Reals

namespace Cert.Reference28Ideal.Value
open Cert.Reference28Ideal Cert.Reference28Ideal.Gen

variable (pa pb : FVec Ideal S16384x1024 .bf16) (z : FVec Ideal S16384x8192 .f32) (w : FVec Ideal S1024x1024 .bf16) (x : FVec Ideal S16384x1024 .f32) (g f : FVec Ideal S1x1024 .f32)

/-- The reference's merge, as an array. -/
abbrev mgV : FVec Ideal S16384x1024 .f32 := (addf (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 6144] z slices_S16384x8192_S16384x1024_0_6144))))) (extf .f32 pa bitsLt_bf16_f32)) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 7168] z slices_S16384x8192_S16384x1024_0_7168))))) (extf .f32 pb bitsLt_bf16_f32)))

theorem mg_at (r : Fin 16384) (k : Fin 1024) : mgV pa pb z (ix2 r k) = P28.mg pa pb z r k := by
  unfold mgV P28.mg P28.mgS Ideal.logistic
  pointwise

theorem res0_at (r : Fin 16384) (k : Fin 1024) :
    (truncf .bf16 (mgV pa pb z) bitsLt_bf16_f32 : FVec Ideal S16384x1024 .bf16) (ix2 r k) = P28.mg pa pb z r k := by
  rw [← mg_at]
  rfl

/-- The reference's product, as an array. -/
abbrev mixV : FVec Ideal S16384x1024 .f32 := (Host.dotGeneral dot_S16384x1024_S1024x1024_S16384x1024_1_0_0_1_n_n none (mgV pa pb z) (extf .f32 w bitsLt_bf16_f32))

theorem mix_of (H : FVec Ideal S16384x1024 .f32) (r : Fin 16384) (j : Fin 1024) :
    ((Host.dotGeneral dot_S16384x1024_S1024x1024_S16384x1024_1_0_0_1_n_n none H (extf .f32 w bitsLt_bf16_f32)) : FVec Ideal S16384x1024 .f32) (ix2 r j) = (∑ k : Fin 1024, H (ix2 r k) * w (ix2 k j) : EReal) := by
  pointwise

theorem res1_at (r : Fin 16384) (j : Fin 1024) : mixV pa pb z w (ix2 r j) = P28.mix pa pb z w r j := by
  refine (mix_of w (mgV pa pb z) r j).trans ?_
  unfold P28.mix
  simp only [mg_at]

/-- The reference's stream behind the mixers, as an array. -/
abbrev x1V : FVec Ideal S16384x1024 .f32 := (addf x (mulf (mulf (mixV pa pb z w) (broadcastInDim S16384x1024 ![0, 1] bcast_S16384x1_S16384x1024_0_1 (Host.rsqrt (addf (Host.divf (broadcastInDim S16384x1 ![0] bcast_S16384_S16384x1_0 (Host.reduceAdd (mulf (mixV pa pb z w) (mixV pa pb z w)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)))

theorem x1_of (M : FVec Ideal S16384x1024 .f32) (r : Fin 16384) (j : Fin 1024) :
    ((addf x (mulf (mulf M (broadcastInDim S16384x1024 ![0, 1] bcast_S16384x1_S16384x1024_0_1 (Host.rsqrt (addf (Host.divf (broadcastInDim S16384x1 ![0] bcast_S16384_S16384x1_0 (Host.reduceAdd (mulf M M) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g))) : FVec Ideal S16384x1024 .f32) (ix2 r j)
      = (show EReal from x (ix2 r j) + M (ix2 r j) * Rms.rs (fun l => M (ix2 r l)) * g (ix2 0 j)) := by
  pointwise

theorem res2_at (r : Fin 16384) (j : Fin 1024) : x1V pa pb z w x g (ix2 r j) = P28.x1 pa pb z w x g r j := by
  refine (x1_of x g (mixV pa pb z w) r j).trans ?_
  unfold P28.x1
  simp only [res1_at]

theorem h_of (E : FVec Ideal S16384x1024 .f32) (r : Fin 16384) (j : Fin 1024) :
    (truncf .bf16 (mulf (mulf E (broadcastInDim S16384x1024 ![0, 1] bcast_S16384x1_S16384x1024_0_1 (Host.rsqrt (addf (Host.divf (broadcastInDim S16384x1 ![0] bcast_S16384_S16384x1_0 (Host.reduceAdd (mulf E E) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 f)) bitsLt_bf16_f32 : FVec Ideal S16384x1024 .bf16) (ix2 r j)
      = (show EReal from E (ix2 r j) * Rms.rs (fun l => E (ix2 r l)) * f (ix2 0 j)) := by
  pointwise

theorem res3_at (r : Fin 16384) (j : Fin 1024) :
    (truncf .bf16 (mulf (mulf (x1V pa pb z w x g) (broadcastInDim S16384x1024 ![0, 1] bcast_S16384x1_S16384x1024_0_1 (Host.rsqrt (addf (Host.divf (broadcastInDim S16384x1 ![0] bcast_S16384_S16384x1_0 (Host.reduceAdd (mulf (x1V pa pb z w x g) (x1V pa pb z w x g)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 f)) bitsLt_bf16_f32 : FVec Ideal S16384x1024 .bf16) (ix2 r j) = P28.h pa pb z w x g f r j := by
  refine (h_of f (x1V pa pb z w x g) r j).trans ?_
  unfold P28.h
  simp only [res2_at]

end Cert.Reference28Ideal.Value

end
-- ==== Proof.K28Claim.lean ====
/- The first layer's merge of the two mixers, with the output projection and the norms behind it: the claims, from the kernel's and the reference's entries. -/
module

public import proofs.«01_k».proof.Defs
public import proofs.«01_k».proof.Proof.K28Value
public import proofs.«01_k».proof.Proof.K28Ref
public import proofs.«01_k».proof.Proof.Gen.Kernel28.Frame
public import Idealize.ShloMosaic.Lib.Quiescent

@[expose] public section

set_option maxRecDepth 16384

noncomputable section

open Idealize.ShloMosaic Idealize.ShloMosaic.TcCoe Idealize.SL.Sem Cert.Reals

namespace Cert.K28

instance : Cert.Kernel28.Facts := Cert.Kernel28.Gen.facts
instance : Cert.Kernel28Ideal.Facts := Cert.Kernel28Ideal.Gen.facts
instance : Cert.Reference28Ideal.Facts := Cert.Reference28Ideal.Gen.facts

/-- The reference leaves its arguments and all counters as it found them. -/
theorem ref_quiet : Cert.quiescent_Reference28Ideal := fun m ρ _ =>
  (θ_run Cert.Reference28Ideal.defs _ _).mono (fun r h => ⟨fun c => (h c).2.2.2.2, sem_eq_zero_of_no_sems (by decide) r.2⟩)
    (Cert.Reference28Ideal.Value.run (F := Ideal) m ρ)

/-- The results are equal. -/
theorem algebraic : Cert.algebraic_Kernel28Ideal_Reference28Ideal := by
  intro m ρ m' ρ' _ ha
  refine ⟨fun c => Cert.Kernel28Ideal.Value.R8 m c, fun c => Cert.Kernel28Ideal.Value.R9 m c, fun c => Cert.Kernel28Ideal.Value.R10 m c, fun c => Cert.Kernel28Ideal.Value.R11 m c,
    (θ_run Cert.Kernel28Ideal.defs _ _).mono (fun _ h c => ⟨(h c).1.trans (Cert.Kernel28Ideal.Value.final8 m c), (h c).2.1.trans (Cert.Kernel28Ideal.Value.final9 m c),
        (h c).2.2.1.trans (Cert.Kernel28Ideal.Value.final10 m c), (h c).2.2.2.1.trans (Cert.Kernel28Ideal.Value.final11 m c), (h c).2.2.2.2⟩)
      (Cert.Kernel28Ideal.Value.run_blocks (F := Ideal) m ρ), ?_⟩
  refine (θ_run Cert.Reference28Ideal.defs _ _).mono (fun _ h c => ⟨(h c).1.trans ?_, (h c).2.1.trans ?_, (h c).2.2.1.trans ?_, (h c).2.2.2.1.trans ?_, (h c).2.2.2.2⟩)
    (Cert.Reference28Ideal.Value.run (F := Ideal) m' ρ')
  · obtain ⟨h0, h1, h2, h3, h4, h5, h6⟩ := ha c
    rw [h0, h1, h2]
    funext i
    idx_vars i
    rw [Cert.Kernel28Ideal.Value.R8_at]
    exact Cert.Reference28Ideal.Value.res0_at _ _ _ i0 i1
  · obtain ⟨h0, h1, h2, h3, h4, h5, h6⟩ := ha c
    rw [h0, h1, h2, h3]
    funext i
    idx_vars i
    rw [Cert.Kernel28Ideal.Value.R9_at]
    exact Cert.Reference28Ideal.Value.res1_at _ _ _ _ i0 i1
  · obtain ⟨h0, h1, h2, h3, h4, h5, h6⟩ := ha c
    rw [h0, h1, h2, h3, h4, h5]
    funext i
    idx_vars i
    rw [Cert.Kernel28Ideal.Value.R10_at]
    exact Cert.Reference28Ideal.Value.res2_at _ _ _ _ _ _ i0 i1
  · obtain ⟨h0, h1, h2, h3, h4, h5, h6⟩ := ha c
    unfold Cert.Reference28Ideal.Value.res_main_v47
    rw [h0, h1, h2, h3, h4, h5, h6]
    funext i
    idx_vars i
    rw [Cert.Kernel28Ideal.Value.R11_at]
    exact Cert.Reference28Ideal.Value.res3_at _ _ _ _ _ _ _ i0 i1

end Cert.K28

end
-- ==== Proof.K29Def.lean ====
/- The second product of the first layer's feed-forward block: the kernel's arithmetic, entry by entry. -/
module

public import proofs.«01_k».proof.Proof.Gen.Kernel29Ideal
public import proofs.«01_k».proof.Proof.Rms
public import Idealize.ShloMosaic.Lib.Pointwise

@[expose] public section

set_option maxRecDepth 16384

noncomputable section

open Idealize.ShloMosaic

namespace Cert.P29
open Cert.Kernel29Ideal

/-- The gated activation, of one entry of each half. -/
def hidS (a b : EReal) : EReal := a * Ideal.logistic a * b

/-- The activations of a row. -/
def hid (gu : FVec Ideal S16384x6144 .bf16) (r : Fin 16384) (k : Fin 3072) : EReal :=
  hidS (gu (ix2 r ⟨k.val, by omega⟩)) (gu (ix2 r ⟨3072 + k.val, by omega⟩))

/-- Their product with the weight. -/
def ff (gu : FVec Ideal S16384x6144 .bf16) (w : FVec Ideal S3072x1024 .bf16) (r : Fin 16384) (j : Fin 1024) : EReal :=
  ∑ k : Fin 3072, hid gu r k * w (ix2 k j)

/-- The stream behind the block. -/
def x2 (gu : FVec Ideal S16384x6144 .bf16) (w : FVec Ideal S3072x1024 .bf16) (x1 : FVec Ideal S16384x1024 .f32) (g : FVec Ideal S1x1024 .f32)
    (r : Fin 16384) (j : Fin 1024) : EReal :=
  x1 (ix2 r j) + ff gu w r j * Rms.rs (fun l => ff gu w r l) * g (ix2 0 j)

end Cert.P29

end
-- ==== Proof.K29Value.lean ====
/- The second product of the first layer's feed-forward block: the kernel's result arrays, entry by entry. -/
module

public import proofs.«01_k».proof.Proof.Gen.Kernel29Ideal.Value
public import proofs.«01_k».proof.Proof.K29Def
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel29Ideal.Value
open Cert.Kernel29Ideal Cert.Kernel29Ideal.Gen

variable (m : (ℓ : Loc nD τ sig) → Buf (Elt Ideal) ℓ) (c : Dev nD)

/-- The block indices of the windows at each grid point. -/
theorem idx_val : ∀ t : Fin cfg0.N, win0_0.index t = ![t.val / 3, t.val % 3]
    ∧ win0_1.index t = ![t.val / 3, 3 + t.val % 3]
    ∧ win0_2.index t = ![0, 0]
    ∧ win0_3.index t = ![t.val / 3, 0]
    ∧ win0_4.index t = ![0, 0]
    ∧ win0_5.index t = ![t.val / 3, t.val % 3]
    ∧ win0_6.index t = ![t.val / 3, 0]
    ∧ win0_7.index t = ![t.val / 3, 0] :=
  (by decide +kernel : ∀ t : Fin grid0.N, _)

/-- The weight's rows that a point reads, in four pieces. -/
theorem off_val : ∀ t : Fin cfg0.N, k0_off1 (grid0.coords t) 0#32 = ![t.val % 3 * 1024 + 0, 0]
    ∧ k0_off1 (grid0.coords t) 256#32 = ![t.val % 3 * 1024 + 256, 0]
    ∧ k0_off1 (grid0.coords t) 512#32 = ![t.val % 3 * 1024 + 512, 0]
    ∧ k0_off1 (grid0.coords t) 768#32 = ![t.val % 3 * 1024 + 768, 0] :=
  (by decide +kernel : ∀ t : Fin grid0.N, _)

/-- The blocks in use at a point. -/
def B0 (t : Fin cfg0.N) : FVec Ideal S1024x1024 .bf16 := iblk m c 0 t
def B1 (t : Fin cfg0.N) : FVec Ideal S1024x1024 .bf16 := iblk m c 1 t
def B2 (t : Fin cfg0.N) : FVec Ideal S3072x1024 .bf16 := iblk m c 2 t
def B3 (t : Fin cfg0.N) : FVec Ideal S1024x1024 .f32 := iblk m c 3 t
def B4 (t : Fin cfg0.N) : FVec Ideal S1x1024 .f32 := iblk m c 4 t

/-- The arrays of the arguments. -/
abbrev guA : FVec Ideal S16384x6144 .bf16 := m ((c.tc : Thread nD τ).loc main_arg0)
abbrev wA : FVec Ideal S3072x1024 .bf16 := m ((c.tc : Thread nD τ).loc main_arg1)
abbrev xA : FVec Ideal S16384x1024 .f32 := m ((c.tc : Thread nD τ).loc main_arg2)
abbrev gA : FVec Ideal S1x1024 .f32 := m ((c.tc : Thread nD τ).loc main_arg3)

theorem tlt (t : Fin cfg0.N) : t.val < 48 := lt_of_lt_of_eq t.isLt (show cfg0.N = 48 from N_0)

theorem rowLt (t : Fin cfg0.N) (r : Fin 1024) : 1024 * (t.val / 3) + r.val < 16384 := by
  have := tlt t
  omega

/-- The row and the column of the activations that an entry of a point's block is. -/
abbrev row (t : Fin cfg0.N) (r : Fin 1024) : Fin 16384 := ⟨1024 * (t.val / 3) + r.val, rowLt t r⟩
abbrev col (t : Fin cfg0.N) (k : Fin 1024) : Fin 3072 := ⟨t.val % 3 * 1024 + k.val, by omega⟩

theorem blk0 (t : Fin cfg0.N) (a k : Fin 1024) (r : Fin 16384) (j : Fin 6144) (hr : r.val = 1024 * (t.val / 3) + a.val) (hj : j.val = t.val % 3 * 1024 + k.val) :
    B0 m c t (ix2 a k) = guA m c (ix2 r j) := by
  unfold B0
  blk_ext [iblk, V, idx_val t]

theorem blk1 (t : Fin cfg0.N) (a k : Fin 1024) (r : Fin 16384) (j : Fin 6144) (hr : r.val = 1024 * (t.val / 3) + a.val) (hj : j.val = (3 + t.val % 3) * 1024 + k.val) :
    B1 m c t (ix2 a k) = guA m c (ix2 r j) := by
  unfold B1
  blk_ext [iblk, V, idx_val t]

theorem blk2 (t : Fin cfg0.N) (a : Fin 3072) (k : Fin 1024) : B2 m c t (ix2 a k) = wA m c (ix2 a k) := by
  unfold B2
  blk_ext [iblk, V, idx_val t]

theorem blk3 (t : Fin cfg0.N) (a k : Fin 1024) (r : Fin 16384) (hr : r.val = 1024 * (t.val / 3) + a.val) :
    B3 m c t (ix2 a k) = xA m c (ix2 r k) := by
  unfold B3
  blk_ext [iblk, V, idx_val t]

theorem blk4 (t : Fin cfg0.N) (z : Fin 1) (k : Fin 1024) : B4 m c t (ix2 z k) = gA m c (ix2 z k) := by
  unfold B4
  blk_ext [iblk, V, idx_val t]

/-- The activations, on the blocks of a point. -/
def hidB (t : Fin cfg0.N) (r k : Fin 1024) : EReal := P29.hidS (B0 m c t (ix2 r k)) (B1 m c t (ix2 r k))

theorem hidB_eq (t : Fin cfg0.N) (r k : Fin 1024) : hidB m c t r k = P29.hid (guA m c) (row t r) (col t k) := by
  unfold hidB P29.hid
  rw [blk0 m c t r k (row t r) ⟨(col t k).val, by omega⟩ rfl rfl,
    blk1 m c t r k (row t r) ⟨3072 + (col t k).val, by omega⟩ rfl (by show 3072 + (t.val % 3 * 1024 + k.val) = _; omega)]

theorem out5 (t : Fin cfg0.N) (r k : Fin 1024) : (outsAt0 m c t.val t.isLt).1 (ix2 r k) = hidB m c t r k := by
  unfold hidB P29.hidS B0 B1
  by_cases h0 : t.val % 3 = 0
  · rw [outsAt0_A m c t h0 (by omega) (by omega)]
    frame_out
    canon_tiles x hx
    all_goals (open_payloads; pointwise; blk_point [] <;> first | exact hx0.symm | exact hx1.symm)
  · by_cases h2 : t.val % 3 = 2
    · rw [outsAt0_C m c t h0 (by omega) h2]
      frame_out
      canon_tiles x hx
      all_goals (open_payloads; pointwise; blk_point [] <;> first | exact hx0.symm | exact hx1.symm)
    · rw [outsAt0_B m c t h0 (by omega) h2]
      frame_out
      canon_tiles x hx
      all_goals (open_payloads; pointwise; blk_point [] <;> first | exact hx0.symm | exact hx1.symm)

end Cert.Kernel29Ideal.Value

end
-- ==== Proof.K29Out.lean ====
/- The second product of the first layer's feed-forward block: the kernel's result arrays, entry by entry. -/
module

public import proofs.«01_k».proof.Proof.K29Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel29Ideal.Value
open Cert.Kernel29Ideal Cert.Kernel29Ideal.Gen

variable (m : (ℓ : Loc nD τ sig) → Buf (Elt Ideal) ℓ) (c : Dev nD)

/-- A product of 256 columns, on tiles as loaded. -/
def grpv (a b : FVec Ideal S1024x256 .bf16) (w : FVec Ideal S256x1024 .bf16) (r j : Fin 1024) : EReal :=
  ∑ k : Fin 256, P29.hidS (a (ix2 r k)) (b (ix2 r k)) * w (ix2 k j)

/-- The product a point evaluates, from its tiles. -/
abbrev chainV (a0 b0 : FVec Ideal S1024x256 .bf16) (w0 : FVec Ideal S256x1024 .bf16) (a1 b1 : FVec Ideal S1024x256 .bf16) (w1 : FVec Ideal S256x1024 .bf16)
    (a2 b2 : FVec Ideal S1024x256 .bf16) (w2 : FVec Ideal S256x1024 .bf16) (a3 b3 : FVec Ideal S1024x256 .bf16) (w3 : FVec Ideal S256x1024 .bf16) :
    FVec Ideal S1024x1024 .f32 :=
  k0_pay9 (F := Ideal) (k0_pay6 (F := Ideal) a0 b0 w0 a1 b1 w1) a2 b2 w2 a3 b3 w3

theorem chain_at (a0 b0 : FVec Ideal S1024x256 .bf16) (w0 : FVec Ideal S256x1024 .bf16) (a1 b1 : FVec Ideal S1024x256 .bf16) (w1 : FVec Ideal S256x1024 .bf16)
    (a2 b2 : FVec Ideal S1024x256 .bf16) (w2 : FVec Ideal S256x1024 .bf16) (a3 b3 : FVec Ideal S1024x256 .bf16) (w3 : FVec Ideal S256x1024 .bf16)
    (r j : Fin 1024) :
    chainV a0 b0 w0 a1 b1 w1 a2 b2 w2 a3 b3 w3 (ix2 r j) = grpv a0 b0 w0 r j + grpv a1 b1 w1 r j + grpv a2 b2 w2 r j + grpv a3 b3 w3 r j := by
  unfold grpv P29.hidS
  pointwise [k0_pay4, k0_pay5, k0_pay6, k0_pay7, k0_pay8, k0_pay9]

theorem pay1_at (v : FVec Ideal S1024x1024 .f32) (r j : Fin 1024) : k0_pay1 (F := Ideal) v (ix2 r j) = v (ix2 r j) := by
  pointwise [k0_pay1]

theorem pay2_at (v a : FVec Ideal S1024x1024 .f32) (r j : Fin 1024) : k0_pay2 (F := Ideal) v a (ix2 r j) = a (ix2 r j) + v (ix2 r j) := by
  pointwise [k0_pay2]

theorem pay3_at (f x : FVec Ideal S1024x1024 .f32) (g : FVec Ideal S1x1024 .f32) (r j : Fin 1024) :
    k0_pay3 (F := Ideal) f x g (ix2 r j) = x (ix2 r j) + f (ix2 r j) * Rms.rs (fun l => f (ix2 r l)) * g (ix2 0 j) := by
  pointwise [k0_pay3]

theorem scr_read (h : (Memref.whole cc0_scratch0).IsWhole) (X : Vec Ideal S1024x1024 .f32) :
    View.read (Elt Ideal) (View.whole cc0_scratch0) (h.unread X) = X := h.read_unread X

theorem ld_col (X : Vec Ideal S1024x1024 .bf16) (o : ℕ) (ho : o + 256 ≤ 1024) (h) (r : Fin 1024) (k : Fin 256) :
    View.ld X (Rect.unit ![0, o] ![1024, 256] h) (ix2 r k) = X (ix2 r ⟨o + k.val, by omega⟩) := by
  rw [View.ld_apply]
  refine congrArg X (funext fun a => Fin.ext ?_)
  rw [Rect.idx_unit_val]
  match a with
  | ⟨0, _⟩ => exact Nat.zero_add _
  | ⟨1, _⟩ => rfl

theorem ld_row (X : Vec Ideal S3072x1024 .bf16) (f : Fin 2 → ℕ) (p : ℕ) (hp : p + 256 ≤ 3072) (hf : f = ![p, 0]) (h) (k : Fin 256) (j : Fin 1024) :
    View.ld X (Rect.unit f ![256, 1024] h) (ix2 k j) = X (ix2 ⟨p + k.val, by omega⟩ j) := by
  subst hf
  rw [View.ld_apply]
  refine congrArg X (funext fun a => Fin.ext ?_)
  rw [Rect.idx_unit_val]
  match a with
  | ⟨0, _⟩ => rfl
  | ⟨1, _⟩ => exact Nat.zero_add _

theorem ld_w (t : Fin cfg0.N) (o : ℕ) (ho : o + 256 ≤ 1024) (f : Fin 2 → ℕ) (hf : f = ![t.val % 3 * 1024 + o, 0]) (h) (k : Fin 256) (j : Fin 1024) :
    View.ld (iblk m c 2 t : Vec Ideal S3072x1024 .bf16) (Rect.unit f ![256, 1024] h) (ix2 k j) = B2 m c t (ix2 (col t ⟨o + k.val, by omega⟩) j) := by
  refine (ld_row _ f (t.val % 3 * 1024 + o) (by omega) hf h k j).trans ?_
  exact congrArg (fun z => B2 m c t (ix2 z j)) (Fin.ext (Nat.add_assoc _ _ _))

/-- One term of the product, and what the 256 columns from `o` on add to it. -/
def trm (r : Fin 16384) (j : Fin 1024) (k : Fin 3072) : EReal := P29.hid (guA m c) r k * wA m c (ix2 k j)

theorem grp (t : Fin cfg0.N) (r j : Fin 1024) (a b : FVec Ideal S1024x256 .bf16) (w : FVec Ideal S256x1024 .bf16)
    (o : ℕ) (ho : o + 256 ≤ 1024)
    (ha : ∀ k : Fin 256, a (ix2 r k) = B0 m c t (ix2 r ⟨o + k.val, by omega⟩)) (hb : ∀ k : Fin 256, b (ix2 r k) = B1 m c t (ix2 r ⟨o + k.val, by omega⟩))
    (hw : ∀ k : Fin 256, w (ix2 k j) = B2 m c t (ix2 (col t ⟨o + k.val, by omega⟩) j)) :
    grpv a b w r j = ∑ k : Fin 256, (fun l => trm m c (row t r) j (col t l)) ⟨o + k.val, by omega⟩ := by
  unfold grpv
  refine Finset.sum_congr rfl fun k _ => ?_
  rw [ha, hb, hw, blk2]
  exact congrArg (· * _) (hidB_eq m c t r ⟨o + k.val, by omega⟩)

/-- Four sums of 256 terms are the sum of 1024. -/
theorem sum_four (f : Fin 1024 → EReal) :
    (∑ k : Fin 256, f ⟨0 + k.val, by omega⟩) + (∑ k : Fin 256, f ⟨256 + k.val, by omega⟩)
      + (∑ k : Fin 256, f ⟨512 + k.val, by omega⟩) + (∑ k : Fin 256, f ⟨768 + k.val, by omega⟩) = ∑ l : Fin 1024, f l := by
  have e : (∑ s : Fin 4, ∑ k : Fin 256, f ⟨s.val * 256 + k.val, by omega⟩) = ∑ l : Fin 1024, f l :=
    Fin.sum_mul_add_congr (S := 4) (n := 256) (L := 1024) (f := f) (F := fun s k => f ⟨s.val * 256 + k.val, by omega⟩) (fun _ _ _ => rfl) (by norm_num)
  rw [← e, Fin.sum_univ_four]
  rfl

/-- The product a point adds to the running block. -/
def part (t : Fin cfg0.N) (r j : Fin 1024) : EReal := ∑ k : Fin 1024, trm m c (row t r) j (col t k)

/-- The tiles of a point's blocks. -/
abbrev lc (X : Vec Ideal S1024x1024 .bf16) (o : ℕ) (h : ∀ a, (![0, o] : Fin 2 → Nat) a + S1024x256.size a ≤ S1024x1024.size a := by decide) : FVec Ideal S1024x256 .bf16 :=
  View.ld X (Rect.unit (s := S1024x1024) ![0, o] S1024x256.size h)
abbrev lw (X : Vec Ideal S3072x1024 .bf16) (f : Fin 2 → ℕ) (h : ∀ a, f a + S256x1024.size a ≤ S3072x1024.size a) : FVec Ideal S256x1024 .bf16 :=
  View.ld X (Rect.unit (s := S3072x1024) f S256x1024.size h)

/-- The product a point's body evaluates. -/
abbrev prodV (t : Fin cfg0.N) : FVec Ideal S1024x1024 .f32 :=
  chainV (lc (B0 m c t) 0) (lc (B1 m c t) 0) (lw (B2 m c t) (k0_off1 (grid0.coords t) 0#32) (k0_off1_inb _ 0))
    (lc (B0 m c t) 256) (lc (B1 m c t) 256) (lw (B2 m c t) (k0_off1 (grid0.coords t) 256#32) (k0_off1_inb _ 1))
    (lc (B0 m c t) 512) (lc (B1 m c t) 512) (lw (B2 m c t) (k0_off1 (grid0.coords t) 512#32) (k0_off1_inb _ 2))
    (lc (B0 m c t) 768) (lc (B1 m c t) 768) (lw (B2 m c t) (k0_off1 (grid0.coords t) 768#32) (k0_off1_inb _ 3))

theorem prod_at (t : Fin cfg0.N) (r j : Fin 1024) : prodV m c t (ix2 r j) = part m c t r j := by
  refine (chain_at _ _ _ _ _ _ _ _ _ _ _ _ r j).trans ?_
  have e0 := grp m c t r j (lc (B0 m c t) 0) (lc (B1 m c t) 0) (lw (B2 m c t) (k0_off1 (grid0.coords t) 0#32) (k0_off1_inb _ 0)) 0 (by decide)
    (fun k => ld_col (B0 m c t) 0 (by decide) _ r k) (fun k => ld_col (B1 m c t) 0 (by decide) _ r k)
    (fun k => ld_w m c t 0 (by decide) _ (off_val t).1 _ k j)
  have e1 := grp m c t r j (lc (B0 m c t) 256) (lc (B1 m c t) 256) (lw (B2 m c t) (k0_off1 (grid0.coords t) 256#32) (k0_off1_inb _ 1)) 256 (by decide)
    (fun k => ld_col (B0 m c t) 256 (by decide) _ r k) (fun k => ld_col (B1 m c t) 256 (by decide) _ r k)
    (fun k => ld_w m c t 256 (by decide) _ (off_val t).2.1 _ k j)
  have e2 := grp m c t r j (lc (B0 m c t) 512) (lc (B1 m c t) 512) (lw (B2 m c t) (k0_off1 (grid0.coords t) 512#32) (k0_off1_inb _ 2)) 512 (by decide)
    (fun k => ld_col (B0 m c t) 512 (by decide) _ r k) (fun k => ld_col (B1 m c t) 512 (by decide) _ r k)
    (fun k => ld_w m c t 512 (by decide) _ (off_val t).2.2.1 _ k j)
  have e3 := grp m c t r j (lc (B0 m c t) 768) (lc (B1 m c t) 768) (lw (B2 m c t) (k0_off1 (grid0.coords t) 768#32) (k0_off1_inb _ 3)) 768 (by decide)
    (fun k => ld_col (B0 m c t) 768 (by decide) _ r k) (fun k => ld_col (B1 m c t) 768 (by decide) _ r k)
    (fun k => ld_w m c t 768 (by decide) _ (off_val t).2.2.2 _ k j)
  rw [e0, e1, e2, e3]
  exact sum_four fun l => trm m c (row t r) j (col t l)

/-- At the first column block the scratch is the block's product. -/
theorem scr_first (t : Fin cfg0.N) (h0 : t.val % 3 = 0) (r j : Fin 1024) :
    (outsAt0 m c t.val t.isLt).2.2.2 (ix2 r j) = part m c t r j := by
  have e : (outsAt0 m c t.val t.isLt).2.2.2 = k0_pay1 (F := Ideal) (prodV m c t) := by
    rw [outsAt0_A m c t h0 (by omega) (by omega)]
    frame_out
    rfl
  rw [e, pay1_at, prod_at]

/-- At a later column block the product is added. -/
theorem scr_step (t : Fin cfg0.N) (h0 : ¬t.val % 3 = 0) (r j : Fin 1024) :
    (outsAt0 m c t.val t.isLt).2.2.2 (ix2 r j)
      = (outsAt0 m c (t.val - 1) (Nat.lt_of_le_of_lt (Nat.sub_le _ _) t.isLt)).2.2.2 (ix2 r j) + part m c t r j := by
  have e : (outsAt0 m c t.val t.isLt).2.2.2
      = k0_pay2 (F := Ideal) (prodV m c t) (outsAt0 m c (t.val - 1) (Nat.lt_of_le_of_lt (Nat.sub_le _ _) t.isLt)).2.2.2 := by
    by_cases h2 : t.val % 3 = 2
    · rw [outsAt0_C m c t h0 (by omega) h2]
      frame_out
      rw [scr_read]
      rfl
    · rw [outsAt0_B m c t h0 (by omega) h2]
      frame_out
      rw [scr_read]
      rfl
  rw [e, pay2_at, prod_at]

/-- At the last column block the scratch holds the whole product. -/
theorem scr_last (t : Fin cfg0.N) (h2 : t.val % 3 = 2) (r j : Fin 1024) :
    (outsAt0 m c t.val t.isLt).2.2.2 (ix2 r j) = P29.ff (guA m c) (wA m c) (row t r) j := by
  rw [Pipeline.eq_sum_fin_of_reset_step_of_flush (fun n h => ((outsAt0 m c n h).2.2.2 (ix2 r j) : EReal)) 3 0
    (fun t => part m c t r j) (fun t h => by rw [zero_add]; exact scr_first m c t h r j) (fun t h => scr_step m c t h r j) t h2, zero_add]
  have hN := tlt t
  unfold part P29.ff
  refine Fin.sum_mul_add_congr (f := trm m c (row t r) j) fun s k hl => ?_
  have hs : (3 * (t.val / 3) + s.val) / 3 = t.val / 3 := by omega
  have hs' : (3 * (t.val / 3) + s.val) % 3 = s.val := by omega
  congr 1
  · exact Fin.ext (by show 1024 * ((3 * (t.val / 3) + s.val) / 3) + r.val = 1024 * (t.val / 3) + r.val; rw [hs])
  · exact Fin.ext (by show (3 * (t.val / 3) + s.val) % 3 * 1024 + k.val = s.val * 1024 + k.val; rw [hs'])

theorem out6_last (t : Fin cfg0.N) (h2 : t.val % 3 = 2) : (outsAt0 m c t.val t.isLt).2.1 = (outsAt0 m c t.val t.isLt).2.2.2 := by
  rw [outsAt0_C m c t (by omega) (by omega) h2]
  frame_out

theorem out7_last (t : Fin cfg0.N) (h2 : t.val % 3 = 2) :
    (outsAt0 m c t.val t.isLt).2.2.1 = k0_pay3 (F := Ideal) (outsAt0 m c t.val t.isLt).2.2.2 (B3 m c t) (B4 m c t) := by
  rw [outsAt0_C m c t (by omega) (by omega) h2]
  frame_out
  rfl

/-! The arrays. -/

def R5 : FVec Ideal S16384x3072 .bf16 := fun i => (P29.hid (guA m c) (i 0) (i 1) : EReal)
def R6 : FVec Ideal S16384x1024 .f32 := fun i => (P29.ff (guA m c) (wA m c) (i 0) (i 1) : EReal)
def R7 : FVec Ideal S16384x1024 .f32 := fun i => (P29.x2 (guA m c) (wA m c) (xA m c) (gA m c) (i 0) (i 1) : EReal)

theorem R5_at (r : Fin 16384) (j : Fin 3072) : R5 m c (ix2 r j) = P29.hid (guA m c) r j := rfl
theorem R6_at (r : Fin 16384) (j : Fin 1024) : R6 m c (ix2 r j) = P29.ff (guA m c) (wA m c) r j := rfl
theorem R7_at (r : Fin 16384) (j : Fin 1024) : R7 m c (ix2 r j) = P29.x2 (guA m c) (wA m c) (xA m c) (gA m c) r j := rfl

theorem flush6 : ∀ t : Fin cfg0.N, (cfg0.win 6).flush t = true → t.val % 3 = 2 :=
  (by decide +kernel : ∀ t : Fin grid0.N, _)
theorem flush7 : ∀ t : Fin cfg0.N, (cfg0.win 7).flush t = true → t.val % 3 = 2 :=
  (by decide +kernel : ∀ t : Fin grid0.N, _)

theorem arr5 : (dats m 0 c).arrAt 5 cfg0.N = R5 m c := by
  refine (dats m 0 c).arrAt_eq_of_covers 5 _ (by decide +kernel) fun t hf y => ?_
  blk_simp
  rw [after0_5]
  idx_vars y
  have e : ((View.whole main_v0_0).slice (win0_5.rect t)).emb (ix2 y0 y1) = ix2 (row t y0) (col t y1) := by
    funext a; apply Fin.ext
    match a with
    | ⟨0, _⟩ =>
      blk_simp [idx_val t]
      first | done | rfl | (show _ = 1024 * (t.val / 3) + y0.val; omega)
    | ⟨1, _⟩ =>
      blk_simp [idx_val t]
      first | done | rfl | (show _ = t.val % 3 * 1024 + y1.val; omega)
  rw [e, R5_at]
  exact (out5 m c t y0 y1).trans (hidB_eq m c t y0 y1)

theorem arr6 : (dats m 0 c).arrAt 6 cfg0.N = R6 m c := by
  refine (dats m 0 c).arrAt_eq_of_covers 6 _ (by decide +kernel) fun t hf y => ?_
  blk_simp
  rw [after0_6]
  idx_vars y
  have e : ((View.whole main_v0_1).slice (win0_6.rect t)).emb (ix2 y0 y1) = ix2 (row t y0) y1 := by
    funext a; apply Fin.ext
    match a with
    | ⟨0, _⟩ =>
      blk_simp [idx_val t]
      first | done | rfl | (show _ = 1024 * (t.val / 3) + y0.val; omega)
    | ⟨1, _⟩ =>
      blk_simp [idx_val t]
      first | done | rfl
  rw [e, R6_at]
  rw [out6_last m c t (flush6 t hf)]
  exact scr_last m c t (flush6 t hf) y0 y1

theorem arr7 : (dats m 0 c).arrAt 7 cfg0.N = R7 m c := by
  refine (dats m 0 c).arrAt_eq_of_covers 7 _ (by decide +kernel) fun t hf y => ?_
  blk_simp
  rw [after0_7]
  idx_vars y
  have e : ((View.whole main_v0_2).slice (win0_7.rect t)).emb (ix2 y0 y1) = ix2 (row t y0) y1 := by
    funext a; apply Fin.ext
    match a with
    | ⟨0, _⟩ =>
      blk_simp [idx_val t]
      first | done | rfl | (show _ = 1024 * (t.val / 3) + y0.val; omega)
    | ⟨1, _⟩ =>
      blk_simp [idx_val t]
      first | done | rfl
  rw [e, R7_at]
  rw [out7_last m c t (flush7 t hf)]
  refine (pay3_at _ _ _ y0 y1).trans ?_
  unfold P29.x2
  simp only [scr_last m c t (flush7 t hf), blk3 m c t y0 y1 (row t y0) rfl, blk4]

end Cert.Kernel29Ideal.Value

end
-- ==== Proof.K29Ref.lean ====
/- The reference of the second product of the first layer's feed-forward block, entry by entry. -/
module

public import proofs.«01_k».proof.Proof.Gen.Reference29Ideal.Run
public import proofs.«01_k».proof.Proof.K29Def
public import proofs.«01_k».proof.Proof.Reals
public import Idealize.ShloMosaic.Lib.Pointwise

@[expose] public section

set_option maxRecDepth 16384

noncomputable section

open Idealize.ShloMosaic Idealize.ShloMosaic.TcCoe Idealize.SL.Sem Cert.Reals

namespace Cert.Reference29Ideal.Value
open Cert.Reference29Ideal Cert.Reference29Ideal.Gen

variable (gu : FVec Ideal S16384x6144 .bf16) (w : FVec Ideal S3072x1024 .bf16) (x : FVec Ideal S16384x1024 .f32) (g : FVec Ideal S1x1024 .f32)

/-- The reference's activations, as an array. -/
abbrev hidV : FVec Ideal S16384x3072 .f32 := (mulf (mulf (extf .f32 (extractStridedSlice S16384x3072 ![0, 0] gu slices_S16384x6144_S16384x3072_0_0) bitsLt_bf16_f32) (Host.divf (broadcastInDim S16384x3072 ![] bcast_S_S16384x3072 (constant S_ .f32 0x3F800000#32)) (addf (broadcastInDim S16384x3072 ![] bcast_S_S16384x3072 (constant S_ .f32 0x3F800000#32)) (Host.exp (Host.negf (extf .f32 (extractStridedSlice S16384x3072 ![0, 0] gu slices_S16384x6144_S16384x3072_0_0) bitsLt_bf16_f32)))))) (extf .f32 (extractStridedSlice S16384x3072 ![0, 3072] gu slices_S16384x6144_S16384x3072_0_3072) bitsLt_bf16_f32))

theorem hid_at (r : Fin 16384) (k : Fin 3072) : hidV gu (ix2 r k) = P29.hid gu r k := by
  unfold hidV P29.hid P29.hidS Ideal.logistic
  pointwise

theorem res0_at (r : Fin 16384) (k : Fin 3072) :
    (truncf .bf16 (hidV gu) bitsLt_bf16_f32 : FVec Ideal S16384x3072 .bf16) (ix2 r k) = P29.hid gu r k := by
  rw [← hid_at]
  rfl

/-- The reference's product, as an array. -/
abbrev ffV : FVec Ideal S16384x1024 .f32 := (Host.dotGeneral dot_S16384x3072_S3072x1024_S16384x1024_1_0_0_1_n_n none (hidV gu) (extf .f32 w bitsLt_bf16_f32))

theorem ff_of (H : FVec Ideal S16384x3072 .f32) (r : Fin 16384) (j : Fin 1024) :
    ((Host.dotGeneral dot_S16384x3072_S3072x1024_S16384x1024_1_0_0_1_n_n none H (extf .f32 w bitsLt_bf16_f32)) : FVec Ideal S16384x1024 .f32) (ix2 r j) = (∑ k : Fin 3072, H (ix2 r k) * w (ix2 k j) : EReal) := by
  pointwise

theorem res1_at (r : Fin 16384) (j : Fin 1024) : ffV gu w (ix2 r j) = P29.ff gu w r j := by
  refine (ff_of w (hidV gu) r j).trans ?_
  unfold P29.ff
  simp only [hid_at]

theorem x2_of (E : FVec Ideal S16384x1024 .f32) (r : Fin 16384) (j : Fin 1024) :
    (addf x (mulf (mulf E (broadcastInDim S16384x1024 ![0, 1] bcast_S16384x1_S16384x1024_0_1 (Host.rsqrt (addf (Host.divf (broadcastInDim S16384x1 ![0] bcast_S16384_S16384x1_0 (Host.reduceAdd (mulf E E) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)) : FVec Ideal S16384x1024 .f32) (ix2 r j)
      = (show EReal from x (ix2 r j) + E (ix2 r j) * Rms.rs (fun l => E (ix2 r l)) * g (ix2 0 j)) := by
  pointwise

theorem res2_at (r : Fin 16384) (j : Fin 1024) :
    (addf x (mulf (mulf (ffV gu w) (broadcastInDim S16384x1024 ![0, 1] bcast_S16384x1_S16384x1024_0_1 (Host.rsqrt (addf (Host.divf (broadcastInDim S16384x1 ![0] bcast_S16384_S16384x1_0 (Host.reduceAdd (mulf (ffV gu w) (ffV gu w)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)) : FVec Ideal S16384x1024 .f32) (ix2 r j) = P29.x2 gu w x g r j := by
  refine (x2_of x g (ffV gu w) r j).trans ?_
  unfold P29.x2
  simp only [res1_at]

end Cert.Reference29Ideal.Value

end
-- ==== Proof.K29Claim.lean ====
/- The second product of the first layer's feed-forward block: the claims, from the kernel's and the reference's entries. -/
module

public import proofs.«01_k».proof.Defs
public import proofs.«01_k».proof.Proof.K29Out
public import proofs.«01_k».proof.Proof.K29Ref
public import proofs.«01_k».proof.Proof.Gen.Kernel29.Frame
public import Idealize.ShloMosaic.Lib.Quiescent

@[expose] public section

set_option maxRecDepth 16384

noncomputable section

open Idealize.ShloMosaic Idealize.ShloMosaic.TcCoe Idealize.SL.Sem Cert.Reals

namespace Cert.K29

instance : Cert.Kernel29.Facts := Cert.Kernel29.Gen.facts
instance : Cert.Kernel29Ideal.Facts := Cert.Kernel29Ideal.Gen.facts
instance : Cert.Reference29Ideal.Facts := Cert.Reference29Ideal.Gen.facts

/-- The reference leaves its arguments and all counters as it found them. -/
theorem ref_quiet : Cert.quiescent_Reference29Ideal := fun m ρ _ =>
  (θ_run Cert.Reference29Ideal.defs _ _).mono (fun r h => ⟨fun c => (h c).2.2.2, sem_eq_zero_of_no_sems (by decide) r.2⟩)
    (Cert.Reference29Ideal.Value.run (F := Ideal) m ρ)

/-- The results are equal. -/
theorem algebraic : Cert.algebraic_Kernel29Ideal_Reference29Ideal := by
  intro m ρ m' ρ' _ ha
  refine ⟨fun c => Cert.Kernel29Ideal.Value.R5 m c, fun c => Cert.Kernel29Ideal.Value.R6 m c, fun c => Cert.Kernel29Ideal.Value.R7 m c,
    (θ_run Cert.Kernel29Ideal.defs _ _).mono (fun _ h c => ⟨(h c).1.trans (Cert.Kernel29Ideal.Value.arr5 m c), (h c).2.1.trans (Cert.Kernel29Ideal.Value.arr6 m c), (h c).2.2.1.trans (Cert.Kernel29Ideal.Value.arr7 m c), (h c).2.2.2⟩)
      (Cert.Kernel29Ideal.Value.run_blocks (F := Ideal) m ρ), ?_⟩
  refine (θ_run Cert.Reference29Ideal.defs _ _).mono (fun _ h c => ⟨(h c).1.trans ?_, (h c).2.1.trans ?_, (h c).2.2.1.trans ?_, (h c).2.2.2⟩)
    (Cert.Reference29Ideal.Value.run (F := Ideal) m' ρ')
  · obtain ⟨h0, h1, h2, h3⟩ := ha c
    rw [h0]
    funext i
    idx_vars i
    rw [Cert.Kernel29Ideal.Value.R5_at]
    exact Cert.Reference29Ideal.Value.res0_at _ i0 i1
  · obtain ⟨h0, h1, h2, h3⟩ := ha c
    rw [h0, h1]
    funext i
    idx_vars i
    rw [Cert.Kernel29Ideal.Value.R6_at]
    exact Cert.Reference29Ideal.Value.res1_at _ _ i0 i1
  · obtain ⟨h0, h1, h2, h3⟩ := ha c
    rw [h0, h1, h2, h3]
    funext i
    idx_vars i
    rw [Cert.Kernel29Ideal.Value.R7_at]
    exact Cert.Reference29Ideal.Value.res2_at _ _ _ _ i0 i1

end Cert.K29

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel25Ideal.Value
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Reference27Ideal
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Reference28Ideal
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Reference29Ideal
public import proofs.«01_k».proof.Proof.Gen.Kernel29Ideal.Value
public import proofs.«01_k».proof.Proof.Gen.Reference29Ideal.Run
public import proofs.«01_k».proof.Proof.Gen.Pre_finite
public import proofs.«01_k».proof.Proof.Gen.Pre_finite2
public import proofs.«01_k».proof.Proof.Gen.Pre_finite3
public import proofs.«01_k».proof.Proof.Gen.Pre_finite24
public import proofs.«01_k».proof.Proof.Gen.Pre_finite25
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.SgClaim
public import proofs.«01_k».proof.Proof.K2Claim
public import proofs.«01_k».proof.Proof.K3Claim
public import proofs.«01_k».proof.Proof.K4Claim
public import proofs.«01_k».proof.Proof.K5Claim
public import proofs.«01_k».proof.Proof.K6Claim
public import proofs.«01_k».proof.Proof.K7Claim
public import proofs.«01_k».proof.Proof.K8Claim
public import proofs.«01_k».proof.Proof.K9Claim
public import proofs.«01_k».proof.Proof.K10Claim
public import proofs.«01_k».proof.Proof.K11Claim
public import proofs.«01_k».proof.Proof.K12Claim
public import proofs.«01_k».proof.Proof.K13Claim
public import proofs.«01_k».proof.Proof.K14Claim
public import proofs.«01_k».proof.Proof.K15Claim
public import proofs.«01_k».proof.Proof.K16Claim
public import proofs.«01_k».proof.Proof.K17Claim
public import proofs.«01_k».proof.Proof.K18Claim
public import proofs.«01_k».proof.Proof.K19Claim
public import proofs.«01_k».proof.Proof.K20Claim
public import proofs.«01_k».proof.Proof.K21Claim
public import proofs.«01_k».proof.Proof.K22Claim
public import proofs.«01_k».proof.Proof.K23Claim
public import proofs.«01_k».proof.Proof.K24Claim
public import proofs.«01_k».proof.Proof.K25Claim
public import proofs.«01_k».proof.Proof.K26Claim
public import proofs.«01_k».proof.Proof.K27Claim
public import proofs.«01_k».proof.Proof.K28Claim
public import proofs.«01_k».proof.Proof.K29Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Pre_finite.Gen.facts, Cert.Pre_finite2.Gen.facts, Cert.Pre_finite3.Gen.facts, Cert.Pre_finite24.Gen.facts, Cert.Pre_finite25.Gen.facts,
  fun m ρ _ => Cert.Kernel.Gen.frame m ρ,
  fun m ρ _ => Cert.KernelIdeal.Gen.frame m ρ,
  fun m ρ _ => Cert.KernelIdeal.Gen.frame m ρ,
  Cert.Sgu.ref_quiet, Cert.Sgu.ref_quiet_pre,
  fun m ρ _ => Cert.Kernel2.Gen.frame m ρ,
  fun m ρ _ => Cert.Kernel2Ideal.Gen.frame m ρ,
  fun m ρ _ => Cert.Kernel2Ideal.Gen.frame m ρ,
  Cert.K2.ref_quiet, Cert.K2.ref_quiet_pre,
  fun m ρ _ => Cert.Kernel3.Gen.frame m ρ,
  fun m ρ _ => Cert.Kernel3Ideal.Gen.frame m ρ,
  fun m ρ _ => Cert.Kernel3Ideal.Gen.frame m ρ,
  Cert.K3.ref_quiet, Cert.K3.ref_quiet_pre,
  fun m ρ _ => Cert.Kernel4.Gen.frame m ρ, fun m ρ _ => Cert.Kernel4Ideal.Gen.frame m ρ, Cert.K4.ref_quiet,
  fun m ρ _ => Cert.Kernel5.Gen.frame m ρ, fun m ρ _ => Cert.Kernel5Ideal.Gen.frame m ρ, Cert.K5.ref_quiet,
  fun m ρ _ => Cert.Kernel6.Gen.frame m ρ, fun m ρ _ => Cert.Kernel6Ideal.Gen.frame m ρ, Cert.K6.ref_quiet,
  fun m ρ _ => Cert.Kernel7.Gen.frame m ρ, fun m ρ _ => Cert.Kernel7Ideal.Gen.frame m ρ, Cert.K7.ref_quiet,
  fun m ρ _ => Cert.Kernel8.Gen.frame m ρ, fun m ρ _ => Cert.Kernel8Ideal.Gen.frame m ρ, Cert.K8.ref_quiet,
  fun m ρ _ => Cert.Kernel9.Gen.frame m ρ, fun m ρ _ => Cert.Kernel9Ideal.Gen.frame m ρ, Cert.K9.ref_quiet,
  fun m ρ _ => Cert.Kernel10.Gen.frame m ρ, fun m ρ _ => Cert.Kernel10Ideal.Gen.frame m ρ, Cert.K10.ref_quiet,
  fun m ρ _ => Cert.Kernel11.Gen.frame m ρ, fun m ρ _ => Cert.Kernel11Ideal.Gen.frame m ρ, Cert.K11.ref_quiet,
  fun m ρ _ => Cert.Kernel12.Gen.frame m ρ, fun m ρ _ => Cert.Kernel12Ideal.Gen.frame m ρ, Cert.K12.ref_quiet,
  fun m ρ _ => Cert.Kernel13.Gen.frame m ρ, fun m ρ _ => Cert.Kernel13Ideal.Gen.frame m ρ, Cert.K13.ref_quiet,
  fun m ρ _ => Cert.Kernel14.Gen.frame m ρ, fun m ρ _ => Cert.Kernel14Ideal.Gen.frame m ρ, Cert.K14.ref_quiet,
  fun m ρ _ => Cert.Kernel15.Gen.frame m ρ, fun m ρ _ => Cert.Kernel15Ideal.Gen.frame m ρ, Cert.K15.ref_quiet,
  fun m ρ _ => Cert.Kernel16.Gen.frame m ρ, fun m ρ _ => Cert.Kernel16Ideal.Gen.frame m ρ, Cert.K16.ref_quiet,
  fun m ρ _ => Cert.Kernel17.Gen.frame m ρ, fun m ρ _ => Cert.Kernel17Ideal.Gen.frame m ρ, Cert.K17.ref_quiet,
  fun m ρ _ => Cert.Kernel18.Gen.frame m ρ, fun m ρ _ => Cert.Kernel18Ideal.Gen.frame m ρ, Cert.K18.ref_quiet,
  fun m ρ _ => Cert.Kernel19.Gen.frame m ρ, fun m ρ _ => Cert.Kernel19Ideal.Gen.frame m ρ, Cert.K19.ref_quiet,
  fun m ρ _ => Cert.Kernel20.Gen.frame m ρ, fun m ρ _ => Cert.Kernel20Ideal.Gen.frame m ρ, Cert.K20.ref_quiet,
  fun m ρ _ => Cert.Kernel21.Gen.frame m ρ, fun m ρ _ => Cert.Kernel21Ideal.Gen.frame m ρ, Cert.K21.ref_quiet,
  fun m ρ _ => Cert.Kernel22.Gen.frame m ρ, fun m ρ _ => Cert.Kernel22Ideal.Gen.frame m ρ, Cert.K22.ref_quiet,
  fun m ρ _ => Cert.Kernel23.Gen.frame m ρ, fun m ρ _ => Cert.Kernel23Ideal.Gen.frame m ρ, Cert.K23.ref_quiet,
  fun m ρ _ => Cert.Kernel24.Gen.frame m ρ, fun m ρ _ => Cert.Kernel24Ideal.Gen.frame m ρ,
  fun m ρ _ => Cert.Kernel24Ideal.Gen.frame m ρ, Cert.K24.ref_quiet, Cert.K24.ref_quiet_pre,
  fun m ρ _ => Cert.Kernel25.Gen.frame m ρ, fun m ρ _ => Cert.Kernel25Ideal.Gen.frame m ρ,
  fun m ρ _ => Cert.Kernel25Ideal.Gen.frame m ρ, Cert.K25.ref_quiet, Cert.K25.ref_quiet_pre,
  fun m ρ _ => Cert.Kernel26.Gen.frame m ρ, fun m ρ _ => Cert.Kernel26Ideal.Gen.frame m ρ, Cert.K26.ref_quiet,
  fun m ρ _ => Cert.Kernel27.Gen.frame m ρ, fun m ρ _ => Cert.Kernel27Ideal.Gen.frame m ρ, Cert.K27.ref_quiet,
  fun m ρ _ => Cert.Kernel28.Gen.frame m ρ, fun m ρ _ => Cert.Kernel28Ideal.Gen.frame m ρ, Cert.K28.ref_quiet,
  fun m ρ _ => Cert.Kernel29.Gen.frame m ρ, fun m ρ _ => Cert.Kernel29Ideal.Gen.frame m ρ, Cert.K29.ref_quiet,
  ⟨IdealRules.named_const.statement Cert.KernelIdeal.κ "rsqrt2" .f32 0x3F3504F3#32 (((Real.sqrt 2)⁻¹ : ℝ) : EReal) rfl,
    IdealRules.named_const.statement Cert.KernelIdeal.κ "gauss" .f32 0x3ECC422A#32 (((Real.sqrt (2 * Real.pi))⁻¹ : ℝ) : EReal) rfl⟩,
  Cert.Sgu.algebraic, trivial, Cert.K2.algebraic, trivial, Cert.K3.algebraic,
  trivial, Cert.K4.algebraic,
  trivial, Cert.K5.algebraic,
  trivial, Cert.K6.algebraic,
  trivial, Cert.K7.algebraic,
  trivial, Cert.K8.algebraic,
  trivial, Cert.K9.algebraic,
  trivial, Cert.K10.algebraic,
  trivial, Cert.K11.algebraic,
  trivial, Cert.K12.algebraic,
  trivial, Cert.K13.algebraic,
  trivial, Cert.K14.algebraic,
  trivial, Cert.K15.algebraic,
  trivial, Cert.K16.algebraic,
  trivial, Cert.K17.algebraic,
  trivial, Cert.K18.algebraic,
  trivial, Cert.K19.algebraic,
  trivial, Cert.K20.algebraic,
  trivial, Cert.K21.algebraic,
  trivial, Cert.K22.algebraic,
  trivial, Cert.K23.algebraic,
  trivial, Cert.K24.algebraic,
  trivial, Cert.K25.algebraic,
  trivial, Cert.K26.algebraic,
  trivial, Cert.K27.algebraic,
  trivial, Cert.K28.algebraic,
  trivial, Cert.K29.algebraic⟩

end Cert.Proof

end
